-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_balanced_ReferenceIdeal : Cert.Pre_balanced_ReferenceIdeal.Facts] (m : (ℓ : Loc Cert.Reference.nD Cert.Reference.τ Cert.Reference.sig) → Buf (Elt Bits) ℓ) : Prop :=
  ∀ c : Dev Cert.Reference.nD,
    (Cert.Pre_balanced_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_balanced_ReferenceIdeal : Cert.Pre_balanced_ReferenceIdeal.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![4096]⟩ ⟨1, ![8192]⟩ (Layout.meshBlock [2, 2] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = Layout.blockN ⟨2, ![4096, 1024]⟩ ⟨2, ![8192, 1024]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![4096, 1024]⟩ ⟨2, ![8192, 1024]⟩ (Layout.meshBlock [2, 2] ![[1], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.blockN ⟨1, ![4096]⟩ ⟨1, ![8192]⟩ (Layout.meshBlock [2, 2] ![[1]] c) (m' (((0 : Dev Cert.Reference.nD).tc : Thread Cert.Reference.nD Cert.Reference.τ).loc Cert.Reference.main_arg1))) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v22) = Layout.blockN ⟨2, ![4096, 1024]⟩ ⟨2, ![8192, 1024]⟩ (Layout.meshBlock [2, 2] ![[1], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ quiescent_Reference (hReference := hReference) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
    ∧ bitexact_Kernel_Reference (hKernel := hKernel) (hReference := hReference) (hPre_balanced_Kernel := hPre_balanced_Kernel)
-- ==== Pre_balanced_Kernel.lean ====
abbrev S4096x1024 : Shape := ⟨2, ![4096, 1024]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  natLt_1_32 : 1 < 32

variable [Facts]

def fn {F : FTy → Type} [FloatOps F] (main_arg0 : FVec F S4096x1024 .bf16) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .eq main_arg1 main_v0
  let main_c_0 : IVec S_ 32 := constantI S_ 32 1#32
  let main_v2 : IVec S4096 32 := broadcastInDim S4096 ![] bcast_S_S4096 main_c_0
  let main_v3 : IVec S4096 1 := cmpi .eq main_arg1 main_v2
  let main_v4 : IVec S4096 1 := ori main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .eq main_arg1 main_v6
  let main_v8 : IVec S4096 32 := (extui 32 · natLt_1_32) main_v7
  let main_c_3 : IVec S_ 32 := constantI S_ 32 0#32
  let main_v9 : IVec S_ 32 := (fun x v => Host.reduce IntOp.addi x v reducesTo_S4096_S_d0 h_S_) main_v8 main_c_3
  let main_c_4 : IVec S_ 32 := constantI S_ 32 2#32
  let main_v10 : IVec S_ 32 := muli main_c_4 main_v9
  let main_c_5 : IVec S_ 32 := constantI S_ 32 4096#32
  let main_v11 : IVec S_ 1 := cmpi .eq main_v10 main_c_5
  let main_v12 : IVec S_ 1 := andi main_v5 main_v11
  main_v12
-- ==== Pre_balanced_ReferenceIdeal.lean ====
abbrev S8192x1024 : Shape := ⟨2, ![8192, 1024]⟩
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  natLt_1_32 : 1 < 32

variable [Facts]

def fn {F : FTy → Type} [FloatOps F] (main_arg0 : FVec F S8192x1024 .bf16) (main_arg1 : IVec S8192 32) : IVec S_ 1 :=
  let main_c : IVec S_ 32 := constantI S_ 32 0#32
  let main_v0 : IVec S8192 32 := broadcastInDim S8192 ![] bcast_S_S8192 main_c
  let main_v1 : IVec S8192 1 := cmpi .eq main_arg1 main_v0
  let main_c_0 : IVec S_ 32 := constantI S_ 32 1#32
  let main_v2 : IVec S8192 32 := broadcastInDim S8192 ![] bcast_S_S8192 main_c_0
  let main_v3 : IVec S8192 1 := cmpi .eq main_arg1 main_v2
  let main_v4 : IVec S8192 1 := ori main_v1 main_v3
  let main_c_1 : IVec S_ 1 := constantI S_ 1 1#1
  let main_v5 : IVec S_ 1 := (fun x v => Host.reduce IntOp.andi x v reducesTo_S8192_S_d0 h_S_) main_v4 main_c_1
  let main_c_2 : IVec S_ 32 := constantI S_ 32 0#32
  let main_v6 : IVec S8192 32 := broadcastInDim S8192 ![] bcast_S_S8192 main_c_2
  let main_v7 : IVec S8192 1 := cmpi .eq main_arg1 main_v6
  let main_v8 : IVec S8192 32 := (extui 32 · natLt_1_32) main_v7
  let main_c_3 : IVec S_ 32 := constantI S_ 32 0#32
  let main_v9 : IVec S_ 32 := (fun x v => Host.reduce IntOp.addi x v reducesTo_S8192_S_d0 h_S_) main_v8 main_c_3
  let main_c_4 : IVec S_ 32 := constantI S_ 32 2#32
  let main_v10 : IVec S_ 32 := muli main_c_4 main_v9
  let main_c_5 : IVec S_ 32 := constantI S_ 32 8192#32
  let main_v11 : IVec S_ 1 := cmpi .eq main_v10 main_c_5
  let main_v12 : IVec S_ 1 := andi main_v5 main_v11
  main_v12
-- ==== Kernel.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S32768x128 : Shape := ⟨2, ![32768, 128]⟩
abbrev S1 : Shape := ⟨1, ![1]⟩
abbrev S16 : Shape := ⟨1, ![16]⟩
abbrev S8 : Shape := ⟨1, ![8]⟩
abbrev S1024x128 : Shape := ⟨2, ![1024, 128]⟩
abbrev S4096x128 : Shape := ⟨2, ![4096, 128]⟩

abbrev nBuf : Space → Nat
  | .hbm => 30
  | .vmem => 2
  | .smem => 1
  | _ => 0

abbrev bufTy : (tb : Table) → Fin (tcTables nBuf tb) → BufTy
  | .hbm, ⟨0, _⟩ => ⟨S4096x1024, .bf16⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096x1024, .bf16⟩
  | .hbm, ⟨20, _⟩ => ⟨S32768x128, .bf16⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i32⟩
  | .hbm, ⟨25, _⟩ => ⟨S_, .i32⟩
  | .hbm, ⟨26, _⟩ => ⟨S_, .i32⟩
  | .hbm, ⟨27, _⟩ => ⟨S1, .i32⟩
  | .hbm, ⟨28, _⟩ => ⟨S32768x128, .bf16⟩
  | .hbm, ⟨29, _⟩ => ⟨S4096x1024, .bf16⟩
  | .local _ .vmem, ⟨0, _⟩ => ⟨S32768x128, .bf16⟩
  | .local _ .vmem, ⟨1, _⟩ => ⟨S32768x128, .bf16⟩
  | .local _ .smem, ⟨0, _⟩ => ⟨S1, .i32⟩
  | _, _ => ⟨S4096x1024, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_mult1 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  v353
def k0_cond1 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c0_i32_54 : BitVec 32 := 0#32
  let v108 : BitVec 1 := Scalar.cmpi .sgt v69 c0_i32_54
  let v109 : BitVec 32 := Scalar.extui v108
  let c0_i32_55 : BitVec 32 := 0#32
  let v110 : BitVec 1 := Scalar.cmpi .ne v109 c0_i32_55
  v110

def k0_mult2 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  v356
def k0_off1 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  let v357 : BitVec 32 := v356
  let c0_i32_211 : BitVec 32 := 0#32
  ![v357.toNat, 0]
def k0_off2 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  let v354 : BitVec 32 := v353
  let c0_i32_212 : BitVec 32 := 0#32
  ![v354.toNat, 0]
def k0_dev3 (d0 : Dev nD) : Nat :=
  let c0_i32_209 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_208 : BitVec 32 := 2#32
  let v358 : BitVec 32 := Scalar.muli v2 c2_i32_208
  let v359 : BitVec 32 := Scalar.addi c0_i32_209 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_210 : BitVec 32 := 1#32
  let v360 : BitVec 32 := Scalar.muli v6 c1_i32_210
  let v361 : BitVec 32 := Scalar.addi v359 v360
  v361.toNat
def k0_mult3 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  v353
def k0_cond2 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c1_i32_56 : BitVec 32 := 1#32
  let v111 : BitVec 1 := Scalar.cmpi .sgt v69 c1_i32_56
  let v112 : BitVec 32 := Scalar.extui v111
  let c0_i32_57 : BitVec 32 := 0#32
  let v113 : BitVec 1 := Scalar.cmpi .ne v112 c0_i32_57
  v113

def k0_mult4 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  v356
def k0_off3 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  let v357 : BitVec 32 := v356
  let c0_i32_211 : BitVec 32 := 0#32
  ![v357.toNat, 0]
def k0_off4 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  let v354 : BitVec 32 := v353
  let c0_i32_212 : BitVec 32 := 0#32
  ![v354.toNat, 0]
def k0_dev4 (d0 : Dev nD) : Nat :=
  let c0_i32_209 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_208 : BitVec 32 := 2#32
  let v358 : BitVec 32 := Scalar.muli v2 c2_i32_208
  let v359 : BitVec 32 := Scalar.addi c0_i32_209 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_210 : BitVec 32 := 1#32
  let v360 : BitVec 32 := Scalar.muli v6 c1_i32_210
  let v361 : BitVec 32 := Scalar.addi v359 v360
  v361.toNat
def k0_mult5 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond3 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c2_i32_58 : BitVec 32 := 2#32
  let v114 : BitVec 1 := Scalar.cmpi .sgt v69 c2_i32_58
  let v115 : BitVec 32 := Scalar.extui v114
  let c0_i32_59 : BitVec 32 := 0#32
  let v116 : BitVec 1 := Scalar.cmpi .ne v115 c0_i32_59
  v116

def k0_mult6 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off5 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off6 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev5 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult7 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond4 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c3_i32 : BitVec 32 := 3#32
  let v117 : BitVec 1 := Scalar.cmpi .sgt v69 c3_i32
  let v118 : BitVec 32 := Scalar.extui v117
  let c0_i32_60 : BitVec 32 := 0#32
  let v119 : BitVec 1 := Scalar.cmpi .ne v118 c0_i32_60
  v119

def k0_mult8 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off7 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off8 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev6 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult9 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  v353
def k0_cond5 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c4_i32 : BitVec 32 := 4#32
  let v120 : BitVec 1 := Scalar.cmpi .sgt v69 c4_i32
  let v121 : BitVec 32 := Scalar.extui v120
  let c0_i32_61 : BitVec 32 := 0#32
  let v122 : BitVec 1 := Scalar.cmpi .ne v121 c0_i32_61
  v122

def k0_mult10 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  v356
def k0_off9 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  let v357 : BitVec 32 := v356
  let c0_i32_211 : BitVec 32 := 0#32
  ![v357.toNat, 0]
def k0_off10 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  let v354 : BitVec 32 := v353
  let c0_i32_212 : BitVec 32 := 0#32
  ![v354.toNat, 0]
def k0_dev7 (d0 : Dev nD) : Nat :=
  let c0_i32_209 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_208 : BitVec 32 := 2#32
  let v358 : BitVec 32 := Scalar.muli v2 c2_i32_208
  let v359 : BitVec 32 := Scalar.addi c0_i32_209 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_210 : BitVec 32 := 1#32
  let v360 : BitVec 32 := Scalar.muli v6 c1_i32_210
  let v361 : BitVec 32 := Scalar.addi v359 v360
  v361.toNat
def k0_mult11 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond6 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c5_i32 : BitVec 32 := 5#32
  let v123 : BitVec 1 := Scalar.cmpi .sgt v69 c5_i32
  let v124 : BitVec 32 := Scalar.extui v123
  let c0_i32_62 : BitVec 32 := 0#32
  let v125 : BitVec 1 := Scalar.cmpi .ne v124 c0_i32_62
  v125

def k0_mult12 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off11 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off12 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev8 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult13 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond7 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c6_i32 : BitVec 32 := 6#32
  let v126 : BitVec 1 := Scalar.cmpi .sgt v69 c6_i32
  let v127 : BitVec 32 := Scalar.extui v126
  let c0_i32_63 : BitVec 32 := 0#32
  let v128 : BitVec 1 := Scalar.cmpi .ne v127 c0_i32_63
  v128

def k0_mult14 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off13 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off14 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev9 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult15 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond8 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c7_i32 : BitVec 32 := 7#32
  let v129 : BitVec 1 := Scalar.cmpi .sgt v69 c7_i32
  let v130 : BitVec 32 := Scalar.extui v129
  let c0_i32_64 : BitVec 32 := 0#32
  let v131 : BitVec 1 := Scalar.cmpi .ne v130 c0_i32_64
  v131

def k0_mult16 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off15 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off16 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev10 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult17 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond9 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c8_i32 : BitVec 32 := 8#32
  let v132 : BitVec 1 := Scalar.cmpi .sgt v69 c8_i32
  let v133 : BitVec 32 := Scalar.extui v132
  let c0_i32_65 : BitVec 32 := 0#32
  let v134 : BitVec 1 := Scalar.cmpi .ne v133 c0_i32_65
  v134

def k0_mult18 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off17 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off18 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev11 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult19 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond10 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c9_i32 : BitVec 32 := 9#32
  let v135 : BitVec 1 := Scalar.cmpi .sgt v69 c9_i32
  let v136 : BitVec 32 := Scalar.extui v135
  let c0_i32_66 : BitVec 32 := 0#32
  let v137 : BitVec 1 := Scalar.cmpi .ne v136 c0_i32_66
  v137

def k0_mult20 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off19 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off20 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev12 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult21 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond11 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c10_i32 : BitVec 32 := 10#32
  let v138 : BitVec 1 := Scalar.cmpi .sgt v69 c10_i32
  let v139 : BitVec 32 := Scalar.extui v138
  let c0_i32_67 : BitVec 32 := 0#32
  let v140 : BitVec 1 := Scalar.cmpi .ne v139 c0_i32_67
  v140

def k0_mult22 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off21 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off22 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev13 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult23 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond12 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c11_i32 : BitVec 32 := 11#32
  let v141 : BitVec 1 := Scalar.cmpi .sgt v69 c11_i32
  let v142 : BitVec 32 := Scalar.extui v141
  let c0_i32_68 : BitVec 32 := 0#32
  let v143 : BitVec 1 := Scalar.cmpi .ne v142 c0_i32_68
  v143

def k0_mult24 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off23 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off24 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev14 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult25 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond13 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c12_i32 : BitVec 32 := 12#32
  let v144 : BitVec 1 := Scalar.cmpi .sgt v69 c12_i32
  let v145 : BitVec 32 := Scalar.extui v144
  let c0_i32_69 : BitVec 32 := 0#32
  let v146 : BitVec 1 := Scalar.cmpi .ne v145 c0_i32_69
  v146

def k0_mult26 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off25 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off26 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev15 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult27 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond14 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c13_i32 : BitVec 32 := 13#32
  let v147 : BitVec 1 := Scalar.cmpi .sgt v69 c13_i32
  let v148 : BitVec 32 := Scalar.extui v147
  let c0_i32_70 : BitVec 32 := 0#32
  let v149 : BitVec 1 := Scalar.cmpi .ne v148 c0_i32_70
  v149

def k0_mult28 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off27 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off28 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev16 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult29 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond15 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c14_i32 : BitVec 32 := 14#32
  let v150 : BitVec 1 := Scalar.cmpi .sgt v69 c14_i32
  let v151 : BitVec 32 := Scalar.extui v150
  let c0_i32_71 : BitVec 32 := 0#32
  let v152 : BitVec 1 := Scalar.cmpi .ne v151 c0_i32_71
  v152

def k0_mult30 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off29 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off30 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev17 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult31 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond16 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c15_i32 : BitVec 32 := 15#32
  let v153 : BitVec 1 := Scalar.cmpi .sgt v69 c15_i32
  let v154 : BitVec 32 := Scalar.extui v153
  let c0_i32_72 : BitVec 32 := 0#32
  let v155 : BitVec 1 := Scalar.cmpi .ne v154 c0_i32_72
  v155

def k0_mult32 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off31 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off32 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_dev18 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v358 : BitVec 32 := Scalar.muli v2 c2_i32_207
  let v359 : BitVec 32 := Scalar.addi c0_i32_208 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_209 : BitVec 32 := 1#32
  let v360 : BitVec 32 := Scalar.muli v6 c1_i32_209
  let v361 : BitVec 32 := Scalar.addi v359 v360
  v361.toNat
def k0_mult33 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_203 : BitVec 32 := 0#32
  let c0_i32_202 : BitVec 32 := 0#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c0_i32_202 v348
  let v350 : BitVec 32 := Scalar.maxsi c0_i32_203 v349
  let v351 : BitVec 32 := Scalar.addi v22 v350
  let c8_i32_204 : BitVec 32 := 8#32
  let v352 : BitVec 32 := Scalar.muli v351 c8_i32_204
  v352
def k0_cond17 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c0_i32_73 : BitVec 32 := 0#32
  let v156 : BitVec 1 := Scalar.cmpi .sgt v107 c0_i32_73
  let v157 : BitVec 32 := Scalar.extui v156
  let c0_i32_74 : BitVec 32 := 0#32
  let v158 : BitVec 1 := Scalar.cmpi .ne v157 c0_i32_74
  v158

def k0_mult34 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_203 : BitVec 32 := 0#32
  let c0_i32_202 : BitVec 32 := 0#32
  let c512_i32_201 : BitVec 32 := 512#32
  let v348 : BitVec 32 := Scalar.subi v20 c512_i32_201
  let v349 : BitVec 32 := Scalar.minsi c0_i32_202 v348
  let v350 : BitVec 32 := Scalar.maxsi c0_i32_203 v349
  let v354 : BitVec 32 := Scalar.addi v24 v350
  let c8_i32_205 : BitVec 32 := 8#32
  let v355 : BitVec 32 := Scalar.muli v354 c8_i32_205
  v355
def k0_off33 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_203 : BitVec 32 := 0#32
  let c0_i32_202 : BitVec 32 := 0#32
  let c512_i32_201 : BitVec 32 := 512#32
  let v348 : BitVec 32 := Scalar.subi v20 c512_i32_201
  let v349 : BitVec 32 := Scalar.minsi c0_i32_202 v348
  let v350 : BitVec 32 := Scalar.maxsi c0_i32_203 v349
  let v354 : BitVec 32 := Scalar.addi v24 v350
  let c8_i32_205 : BitVec 32 := 8#32
  let v355 : BitVec 32 := Scalar.muli v354 c8_i32_205
  let v356 : BitVec 32 := v355
  let c0_i32_207 : BitVec 32 := 0#32
  ![v356.toNat, 0]
def k0_off34 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_203 : BitVec 32 := 0#32
  let c0_i32_202 : BitVec 32 := 0#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c0_i32_202 v348
  let v350 : BitVec 32 := Scalar.maxsi c0_i32_203 v349
  let v351 : BitVec 32 := Scalar.addi v22 v350
  let c8_i32_204 : BitVec 32 := 8#32
  let v352 : BitVec 32 := Scalar.muli v351 c8_i32_204
  let v353 : BitVec 32 := v352
  let c0_i32_208 : BitVec 32 := 0#32
  ![v353.toNat, 0]
def k0_mult35 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_203 : BitVec 32 := 0#32
  let c512_i32_202 : BitVec 32 := 512#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c512_i32_202 v348
  let v350 : BitVec 32 := Scalar.maxsi c0_i32_203 v349
  let v351 : BitVec 32 := Scalar.addi v22 v350
  let c8_i32_204 : BitVec 32 := 8#32
  let v352 : BitVec 32 := Scalar.muli v351 c8_i32_204
  v352
def k0_cond18 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c1_i32_75 : BitVec 32 := 1#32
  let v159 : BitVec 1 := Scalar.cmpi .sgt v107 c1_i32_75
  let v160 : BitVec 32 := Scalar.extui v159
  let c0_i32_76 : BitVec 32 := 0#32
  let v161 : BitVec 1 := Scalar.cmpi .ne v160 c0_i32_76
  v161

def k0_mult36 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_203 : BitVec 32 := 0#32
  let c512_i32_202 : BitVec 32 := 512#32
  let c512_i32_201 : BitVec 32 := 512#32
  let v348 : BitVec 32 := Scalar.subi v20 c512_i32_201
  let v349 : BitVec 32 := Scalar.minsi c512_i32_202 v348
  let v350 : BitVec 32 := Scalar.maxsi c0_i32_203 v349
  let v354 : BitVec 32 := Scalar.addi v24 v350
  let c8_i32_205 : BitVec 32 := 8#32
  let v355 : BitVec 32 := Scalar.muli v354 c8_i32_205
  v355
def k0_off35 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_203 : BitVec 32 := 0#32
  let c512_i32_202 : BitVec 32 := 512#32
  let c512_i32_201 : BitVec 32 := 512#32
  let v348 : BitVec 32 := Scalar.subi v20 c512_i32_201
  let v349 : BitVec 32 := Scalar.minsi c512_i32_202 v348
  let v350 : BitVec 32 := Scalar.maxsi c0_i32_203 v349
  let v354 : BitVec 32 := Scalar.addi v24 v350
  let c8_i32_205 : BitVec 32 := 8#32
  let v355 : BitVec 32 := Scalar.muli v354 c8_i32_205
  let v356 : BitVec 32 := v355
  let c0_i32_207 : BitVec 32 := 0#32
  ![v356.toNat, 0]
def k0_off36 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_203 : BitVec 32 := 0#32
  let c512_i32_202 : BitVec 32 := 512#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c512_i32_202 v348
  let v350 : BitVec 32 := Scalar.maxsi c0_i32_203 v349
  let v351 : BitVec 32 := Scalar.addi v22 v350
  let c8_i32_204 : BitVec 32 := 8#32
  let v352 : BitVec 32 := Scalar.muli v351 c8_i32_204
  let v353 : BitVec 32 := v352
  let c0_i32_208 : BitVec 32 := 0#32
  ![v353.toNat, 0]
def k0_mult37 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c1024_i32 : BitVec 32 := 1024#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c1024_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond19 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c2_i32_77 : BitVec 32 := 2#32
  let v162 : BitVec 1 := Scalar.cmpi .sgt v107 c2_i32_77
  let v163 : BitVec 32 := Scalar.extui v162
  let c0_i32_78 : BitVec 32 := 0#32
  let v164 : BitVec 1 := Scalar.cmpi .ne v163 c0_i32_78
  v164

def k0_mult38 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c1024_i32 : BitVec 32 := 1024#32
  let c512_i32_201 : BitVec 32 := 512#32
  let v348 : BitVec 32 := Scalar.subi v20 c512_i32_201
  let v349 : BitVec 32 := Scalar.minsi c1024_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off37 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c1024_i32 : BitVec 32 := 1024#32
  let c512_i32_201 : BitVec 32 := 512#32
  let v348 : BitVec 32 := Scalar.subi v20 c512_i32_201
  let v349 : BitVec 32 := Scalar.minsi c1024_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off38 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c1024_i32 : BitVec 32 := 1024#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c1024_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult39 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c1536_i32 : BitVec 32 := 1536#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c1536_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond20 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c3_i32_79 : BitVec 32 := 3#32
  let v165 : BitVec 1 := Scalar.cmpi .sgt v107 c3_i32_79
  let v166 : BitVec 32 := Scalar.extui v165
  let c0_i32_80 : BitVec 32 := 0#32
  let v167 : BitVec 1 := Scalar.cmpi .ne v166 c0_i32_80
  v167

def k0_mult40 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c1536_i32 : BitVec 32 := 1536#32
  let c512_i32_201 : BitVec 32 := 512#32
  let v348 : BitVec 32 := Scalar.subi v20 c512_i32_201
  let v349 : BitVec 32 := Scalar.minsi c1536_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off39 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c1536_i32 : BitVec 32 := 1536#32
  let c512_i32_201 : BitVec 32 := 512#32
  let v348 : BitVec 32 := Scalar.subi v20 c512_i32_201
  let v349 : BitVec 32 := Scalar.minsi c1536_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off40 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c1536_i32 : BitVec 32 := 1536#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c1536_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult41 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c2048_i32 : BitVec 32 := 2048#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c2048_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond21 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c4_i32_81 : BitVec 32 := 4#32
  let v168 : BitVec 1 := Scalar.cmpi .sgt v107 c4_i32_81
  let v169 : BitVec 32 := Scalar.extui v168
  let c0_i32_82 : BitVec 32 := 0#32
  let v170 : BitVec 1 := Scalar.cmpi .ne v169 c0_i32_82
  v170

def k0_mult42 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c2048_i32 : BitVec 32 := 2048#32
  let c512_i32_201 : BitVec 32 := 512#32
  let v348 : BitVec 32 := Scalar.subi v20 c512_i32_201
  let v349 : BitVec 32 := Scalar.minsi c2048_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off41 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c2048_i32 : BitVec 32 := 2048#32
  let c512_i32_201 : BitVec 32 := 512#32
  let v348 : BitVec 32 := Scalar.subi v20 c512_i32_201
  let v349 : BitVec 32 := Scalar.minsi c2048_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off42 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c2048_i32 : BitVec 32 := 2048#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c2048_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult43 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c2560_i32 : BitVec 32 := 2560#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c2560_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond22 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c5_i32_83 : BitVec 32 := 5#32
  let v171 : BitVec 1 := Scalar.cmpi .sgt v107 c5_i32_83
  let v172 : BitVec 32 := Scalar.extui v171
  let c0_i32_84 : BitVec 32 := 0#32
  let v173 : BitVec 1 := Scalar.cmpi .ne v172 c0_i32_84
  v173

def k0_mult44 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c2560_i32 : BitVec 32 := 2560#32
  let c512_i32_201 : BitVec 32 := 512#32
  let v348 : BitVec 32 := Scalar.subi v20 c512_i32_201
  let v349 : BitVec 32 := Scalar.minsi c2560_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off43 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c2560_i32 : BitVec 32 := 2560#32
  let c512_i32_201 : BitVec 32 := 512#32
  let v348 : BitVec 32 := Scalar.subi v20 c512_i32_201
  let v349 : BitVec 32 := Scalar.minsi c2560_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off44 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c2560_i32 : BitVec 32 := 2560#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c2560_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult45 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c3072_i32 : BitVec 32 := 3072#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c3072_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond23 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c6_i32_85 : BitVec 32 := 6#32
  let v174 : BitVec 1 := Scalar.cmpi .sgt v107 c6_i32_85
  let v175 : BitVec 32 := Scalar.extui v174
  let c0_i32_86 : BitVec 32 := 0#32
  let v176 : BitVec 1 := Scalar.cmpi .ne v175 c0_i32_86
  v176

def k0_mult46 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c3072_i32 : BitVec 32 := 3072#32
  let c512_i32_201 : BitVec 32 := 512#32
  let v348 : BitVec 32 := Scalar.subi v20 c512_i32_201
  let v349 : BitVec 32 := Scalar.minsi c3072_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off45 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c3072_i32 : BitVec 32 := 3072#32
  let c512_i32_201 : BitVec 32 := 512#32
  let v348 : BitVec 32 := Scalar.subi v20 c512_i32_201
  let v349 : BitVec 32 := Scalar.minsi c3072_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off46 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c3072_i32 : BitVec 32 := 3072#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c3072_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult47 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c3584_i32 : BitVec 32 := 3584#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c3584_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond24 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c7_i32_87 : BitVec 32 := 7#32
  let v177 : BitVec 1 := Scalar.cmpi .sgt v107 c7_i32_87
  let v178 : BitVec 32 := Scalar.extui v177
  let c0_i32_88 : BitVec 32 := 0#32
  let v179 : BitVec 1 := Scalar.cmpi .ne v178 c0_i32_88
  v179

def k0_mult48 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c3584_i32 : BitVec 32 := 3584#32
  let c512_i32_201 : BitVec 32 := 512#32
  let v348 : BitVec 32 := Scalar.subi v20 c512_i32_201
  let v349 : BitVec 32 := Scalar.minsi c3584_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off47 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c3584_i32 : BitVec 32 := 3584#32
  let c512_i32_201 : BitVec 32 := 512#32
  let v348 : BitVec 32 := Scalar.subi v20 c512_i32_201
  let v349 : BitVec 32 := Scalar.minsi c3584_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off48 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c3584_i32 : BitVec 32 := 3584#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c3584_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult49 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  v353
def k0_cond25 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c0_i32_89 : BitVec 32 := 0#32
  let v180 : BitVec 1 := Scalar.cmpi .sgt v69 c0_i32_89
  let v181 : BitVec 32 := Scalar.extui v180
  let c0_i32_90 : BitVec 32 := 0#32
  let v182 : BitVec 1 := Scalar.cmpi .ne v181 c0_i32_90
  v182

def k0_mult50 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  v356
def k0_off49 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  let v357 : BitVec 32 := v356
  let c0_i32_211 : BitVec 32 := 0#32
  ![v357.toNat, 0]
def k0_off50 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  let v354 : BitVec 32 := v353
  let c0_i32_212 : BitVec 32 := 0#32
  ![v354.toNat, 0]
def k0_mult51 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_215 : BitVec 32 := 0#32
  let c0_i32_214 : BitVec 32 := 0#32
  let v46 : BitVec 32 := Scalar.subi v21 v43
  let v47 : BitVec 32 := Scalar.select v44 v43 v46
  let c128_i32_213 : BitVec 32 := 128#32
  let v367 : BitVec 32 := Scalar.subi v47 c128_i32_213
  let v368 : BitVec 32 := Scalar.minsi c0_i32_214 v367
  let v369 : BitVec 32 := Scalar.maxsi c0_i32_215 v368
  let v370 : BitVec 32 := Scalar.addi v366 v369
  let c8_i32_216 : BitVec 32 := 8#32
  let v371 : BitVec 32 := Scalar.muli v370 c8_i32_216
  v371
def k0_mult52 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_215 : BitVec 32 := 0#32
  let c0_i32_214 : BitVec 32 := 0#32
  let v46 : BitVec 32 := Scalar.subi v21 v43
  let v47 : BitVec 32 := Scalar.select v44 v43 v46
  let c128_i32_213 : BitVec 32 := 128#32
  let v367 : BitVec 32 := Scalar.subi v47 c128_i32_213
  let v368 : BitVec 32 := Scalar.minsi c0_i32_214 v367
  let v369 : BitVec 32 := Scalar.maxsi c0_i32_215 v368
  let v370 : BitVec 32 := Scalar.addi v366 v369
  let c8_i32_217 : BitVec 32 := 8#32
  let v373 : BitVec 32 := Scalar.muli v370 c8_i32_217
  v373
def k0_off51 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_215 : BitVec 32 := 0#32
  let c0_i32_214 : BitVec 32 := 0#32
  let v46 : BitVec 32 := Scalar.subi v21 v43
  let v47 : BitVec 32 := Scalar.select v44 v43 v46
  let c128_i32_213 : BitVec 32 := 128#32
  let v367 : BitVec 32 := Scalar.subi v47 c128_i32_213
  let v368 : BitVec 32 := Scalar.minsi c0_i32_214 v367
  let v369 : BitVec 32 := Scalar.maxsi c0_i32_215 v368
  let v370 : BitVec 32 := Scalar.addi v366 v369
  let c8_i32_217 : BitVec 32 := 8#32
  let v373 : BitVec 32 := Scalar.muli v370 c8_i32_217
  let v374 : BitVec 32 := v373
  let c0_i32_223 : BitVec 32 := 0#32
  ![v374.toNat, 0]
def k0_dev19 (d0 : Dev nD) : Nat :=
  let c0_i32_221 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_220 : BitVec 32 := 2#32
  let v375 : BitVec 32 := Scalar.muli v7 c2_i32_220
  let v376 : BitVec 32 := Scalar.addi c0_i32_221 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v377 : BitVec 32 := Scalar.muli v5 c1_i32_222
  let v378 : BitVec 32 := Scalar.addi v376 v377
  v378.toNat
def k0_mult53 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  v353
def k0_cond26 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c1_i32_91 : BitVec 32 := 1#32
  let v183 : BitVec 1 := Scalar.cmpi .sgt v69 c1_i32_91
  let v184 : BitVec 32 := Scalar.extui v183
  let c0_i32_92 : BitVec 32 := 0#32
  let v185 : BitVec 1 := Scalar.cmpi .ne v184 c0_i32_92
  v185

def k0_mult54 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  v356
def k0_off52 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  let v357 : BitVec 32 := v356
  let c0_i32_211 : BitVec 32 := 0#32
  ![v357.toNat, 0]
def k0_off53 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  let v354 : BitVec 32 := v353
  let c0_i32_212 : BitVec 32 := 0#32
  ![v354.toNat, 0]
def k0_mult55 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_215 : BitVec 32 := 0#32
  let c128_i32_214 : BitVec 32 := 128#32
  let v46 : BitVec 32 := Scalar.subi v21 v43
  let v47 : BitVec 32 := Scalar.select v44 v43 v46
  let c128_i32_213 : BitVec 32 := 128#32
  let v367 : BitVec 32 := Scalar.subi v47 c128_i32_213
  let v368 : BitVec 32 := Scalar.minsi c128_i32_214 v367
  let v369 : BitVec 32 := Scalar.maxsi c0_i32_215 v368
  let v370 : BitVec 32 := Scalar.addi v366 v369
  let c8_i32_216 : BitVec 32 := 8#32
  let v371 : BitVec 32 := Scalar.muli v370 c8_i32_216
  v371
def k0_mult56 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_215 : BitVec 32 := 0#32
  let c128_i32_214 : BitVec 32 := 128#32
  let v46 : BitVec 32 := Scalar.subi v21 v43
  let v47 : BitVec 32 := Scalar.select v44 v43 v46
  let c128_i32_213 : BitVec 32 := 128#32
  let v367 : BitVec 32 := Scalar.subi v47 c128_i32_213
  let v368 : BitVec 32 := Scalar.minsi c128_i32_214 v367
  let v369 : BitVec 32 := Scalar.maxsi c0_i32_215 v368
  let v370 : BitVec 32 := Scalar.addi v366 v369
  let c8_i32_217 : BitVec 32 := 8#32
  let v373 : BitVec 32 := Scalar.muli v370 c8_i32_217
  v373
def k0_off54 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_215 : BitVec 32 := 0#32
  let c128_i32_214 : BitVec 32 := 128#32
  let v46 : BitVec 32 := Scalar.subi v21 v43
  let v47 : BitVec 32 := Scalar.select v44 v43 v46
  let c128_i32_213 : BitVec 32 := 128#32
  let v367 : BitVec 32 := Scalar.subi v47 c128_i32_213
  let v368 : BitVec 32 := Scalar.minsi c128_i32_214 v367
  let v369 : BitVec 32 := Scalar.maxsi c0_i32_215 v368
  let v370 : BitVec 32 := Scalar.addi v366 v369
  let c8_i32_217 : BitVec 32 := 8#32
  let v373 : BitVec 32 := Scalar.muli v370 c8_i32_217
  let v374 : BitVec 32 := v373
  let c0_i32_223 : BitVec 32 := 0#32
  ![v374.toNat, 0]
def k0_dev20 (d0 : Dev nD) : Nat :=
  let c0_i32_221 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_220 : BitVec 32 := 2#32
  let v375 : BitVec 32 := Scalar.muli v7 c2_i32_220
  let v376 : BitVec 32 := Scalar.addi c0_i32_221 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v377 : BitVec 32 := Scalar.muli v5 c1_i32_222
  let v378 : BitVec 32 := Scalar.addi v376 v377
  v378.toNat
def k0_mult57 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond27 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c2_i32_93 : BitVec 32 := 2#32
  let v186 : BitVec 1 := Scalar.cmpi .sgt v69 c2_i32_93
  let v187 : BitVec 32 := Scalar.extui v186
  let c0_i32_94 : BitVec 32 := 0#32
  let v188 : BitVec 1 := Scalar.cmpi .ne v187 c0_i32_94
  v188

def k0_mult58 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off55 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off56 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult59 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c256_i32_213 : BitVec 32 := 256#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c256_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult60 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c256_i32_213 : BitVec 32 := 256#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c256_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off57 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c256_i32_213 : BitVec 32 := 256#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c256_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev21 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult61 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond28 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c3_i32_95 : BitVec 32 := 3#32
  let v189 : BitVec 1 := Scalar.cmpi .sgt v69 c3_i32_95
  let v190 : BitVec 32 := Scalar.extui v189
  let c0_i32_96 : BitVec 32 := 0#32
  let v191 : BitVec 1 := Scalar.cmpi .ne v190 c0_i32_96
  v191

def k0_mult62 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off58 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off59 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult63 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c384_i32_213 : BitVec 32 := 384#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c384_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult64 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c384_i32_213 : BitVec 32 := 384#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c384_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off60 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c384_i32_213 : BitVec 32 := 384#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c384_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev22 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult65 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  v353
def k0_cond29 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c4_i32_97 : BitVec 32 := 4#32
  let v192 : BitVec 1 := Scalar.cmpi .sgt v69 c4_i32_97
  let v193 : BitVec 32 := Scalar.extui v192
  let c0_i32_98 : BitVec 32 := 0#32
  let v194 : BitVec 1 := Scalar.cmpi .ne v193 c0_i32_98
  v194

def k0_mult66 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  v356
def k0_off61 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  let v357 : BitVec 32 := v356
  let c0_i32_211 : BitVec 32 := 0#32
  ![v357.toNat, 0]
def k0_off62 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  let v354 : BitVec 32 := v353
  let c0_i32_212 : BitVec 32 := 0#32
  ![v354.toNat, 0]
def k0_mult67 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_215 : BitVec 32 := 0#32
  let c512_i32_214 : BitVec 32 := 512#32
  let v46 : BitVec 32 := Scalar.subi v21 v43
  let v47 : BitVec 32 := Scalar.select v44 v43 v46
  let c128_i32_213 : BitVec 32 := 128#32
  let v367 : BitVec 32 := Scalar.subi v47 c128_i32_213
  let v368 : BitVec 32 := Scalar.minsi c512_i32_214 v367
  let v369 : BitVec 32 := Scalar.maxsi c0_i32_215 v368
  let v370 : BitVec 32 := Scalar.addi v366 v369
  let c8_i32_216 : BitVec 32 := 8#32
  let v371 : BitVec 32 := Scalar.muli v370 c8_i32_216
  v371
def k0_mult68 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_215 : BitVec 32 := 0#32
  let c512_i32_214 : BitVec 32 := 512#32
  let v46 : BitVec 32 := Scalar.subi v21 v43
  let v47 : BitVec 32 := Scalar.select v44 v43 v46
  let c128_i32_213 : BitVec 32 := 128#32
  let v367 : BitVec 32 := Scalar.subi v47 c128_i32_213
  let v368 : BitVec 32 := Scalar.minsi c512_i32_214 v367
  let v369 : BitVec 32 := Scalar.maxsi c0_i32_215 v368
  let v370 : BitVec 32 := Scalar.addi v366 v369
  let c8_i32_217 : BitVec 32 := 8#32
  let v373 : BitVec 32 := Scalar.muli v370 c8_i32_217
  v373
def k0_off63 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_215 : BitVec 32 := 0#32
  let c512_i32_214 : BitVec 32 := 512#32
  let v46 : BitVec 32 := Scalar.subi v21 v43
  let v47 : BitVec 32 := Scalar.select v44 v43 v46
  let c128_i32_213 : BitVec 32 := 128#32
  let v367 : BitVec 32 := Scalar.subi v47 c128_i32_213
  let v368 : BitVec 32 := Scalar.minsi c512_i32_214 v367
  let v369 : BitVec 32 := Scalar.maxsi c0_i32_215 v368
  let v370 : BitVec 32 := Scalar.addi v366 v369
  let c8_i32_217 : BitVec 32 := 8#32
  let v373 : BitVec 32 := Scalar.muli v370 c8_i32_217
  let v374 : BitVec 32 := v373
  let c0_i32_223 : BitVec 32 := 0#32
  ![v374.toNat, 0]
def k0_dev23 (d0 : Dev nD) : Nat :=
  let c0_i32_221 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_220 : BitVec 32 := 2#32
  let v375 : BitVec 32 := Scalar.muli v7 c2_i32_220
  let v376 : BitVec 32 := Scalar.addi c0_i32_221 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v377 : BitVec 32 := Scalar.muli v5 c1_i32_222
  let v378 : BitVec 32 := Scalar.addi v376 v377
  v378.toNat
def k0_mult69 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond30 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c5_i32_99 : BitVec 32 := 5#32
  let v195 : BitVec 1 := Scalar.cmpi .sgt v69 c5_i32_99
  let v196 : BitVec 32 := Scalar.extui v195
  let c0_i32_100 : BitVec 32 := 0#32
  let v197 : BitVec 1 := Scalar.cmpi .ne v196 c0_i32_100
  v197

def k0_mult70 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off64 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off65 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult71 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c640_i32_213 : BitVec 32 := 640#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c640_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult72 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c640_i32_213 : BitVec 32 := 640#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c640_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off66 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c640_i32_213 : BitVec 32 := 640#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c640_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev24 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult73 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond31 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c6_i32_101 : BitVec 32 := 6#32
  let v198 : BitVec 1 := Scalar.cmpi .sgt v69 c6_i32_101
  let v199 : BitVec 32 := Scalar.extui v198
  let c0_i32_102 : BitVec 32 := 0#32
  let v200 : BitVec 1 := Scalar.cmpi .ne v199 c0_i32_102
  v200

def k0_mult74 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off67 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off68 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult75 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c768_i32_213 : BitVec 32 := 768#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c768_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult76 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c768_i32_213 : BitVec 32 := 768#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c768_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off69 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c768_i32_213 : BitVec 32 := 768#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c768_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev25 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult77 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond32 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c7_i32_103 : BitVec 32 := 7#32
  let v201 : BitVec 1 := Scalar.cmpi .sgt v69 c7_i32_103
  let v202 : BitVec 32 := Scalar.extui v201
  let c0_i32_104 : BitVec 32 := 0#32
  let v203 : BitVec 1 := Scalar.cmpi .ne v202 c0_i32_104
  v203

def k0_mult78 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off70 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off71 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult79 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c896_i32_213 : BitVec 32 := 896#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c896_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult80 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c896_i32_213 : BitVec 32 := 896#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c896_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off72 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c896_i32_213 : BitVec 32 := 896#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c896_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev26 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult81 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond33 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c8_i32_105 : BitVec 32 := 8#32
  let v204 : BitVec 1 := Scalar.cmpi .sgt v69 c8_i32_105
  let v205 : BitVec 32 := Scalar.extui v204
  let c0_i32_106 : BitVec 32 := 0#32
  let v206 : BitVec 1 := Scalar.cmpi .ne v205 c0_i32_106
  v206

def k0_mult82 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off73 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off74 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult83 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1024_i32_213 : BitVec 32 := 1024#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1024_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult84 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1024_i32_213 : BitVec 32 := 1024#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1024_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off75 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1024_i32_213 : BitVec 32 := 1024#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1024_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev27 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult85 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond34 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c9_i32_107 : BitVec 32 := 9#32
  let v207 : BitVec 1 := Scalar.cmpi .sgt v69 c9_i32_107
  let v208 : BitVec 32 := Scalar.extui v207
  let c0_i32_108 : BitVec 32 := 0#32
  let v209 : BitVec 1 := Scalar.cmpi .ne v208 c0_i32_108
  v209

def k0_mult86 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off76 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off77 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult87 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1152_i32_213 : BitVec 32 := 1152#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1152_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult88 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1152_i32_213 : BitVec 32 := 1152#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1152_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off78 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1152_i32_213 : BitVec 32 := 1152#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1152_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev28 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult89 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond35 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c10_i32_109 : BitVec 32 := 10#32
  let v210 : BitVec 1 := Scalar.cmpi .sgt v69 c10_i32_109
  let v211 : BitVec 32 := Scalar.extui v210
  let c0_i32_110 : BitVec 32 := 0#32
  let v212 : BitVec 1 := Scalar.cmpi .ne v211 c0_i32_110
  v212

def k0_mult90 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off79 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off80 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult91 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1280_i32_213 : BitVec 32 := 1280#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1280_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult92 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1280_i32_213 : BitVec 32 := 1280#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1280_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off81 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1280_i32_213 : BitVec 32 := 1280#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1280_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev29 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult93 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond36 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c11_i32_111 : BitVec 32 := 11#32
  let v213 : BitVec 1 := Scalar.cmpi .sgt v69 c11_i32_111
  let v214 : BitVec 32 := Scalar.extui v213
  let c0_i32_112 : BitVec 32 := 0#32
  let v215 : BitVec 1 := Scalar.cmpi .ne v214 c0_i32_112
  v215

def k0_mult94 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off82 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off83 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult95 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1408_i32_213 : BitVec 32 := 1408#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1408_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult96 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1408_i32_213 : BitVec 32 := 1408#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1408_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off84 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1408_i32_213 : BitVec 32 := 1408#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1408_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev30 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult97 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond37 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c12_i32_113 : BitVec 32 := 12#32
  let v216 : BitVec 1 := Scalar.cmpi .sgt v69 c12_i32_113
  let v217 : BitVec 32 := Scalar.extui v216
  let c0_i32_114 : BitVec 32 := 0#32
  let v218 : BitVec 1 := Scalar.cmpi .ne v217 c0_i32_114
  v218

def k0_mult98 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off85 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off86 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult99 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1536_i32_213 : BitVec 32 := 1536#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1536_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult100 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1536_i32_213 : BitVec 32 := 1536#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1536_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off87 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1536_i32_213 : BitVec 32 := 1536#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1536_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev31 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult101 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond38 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c13_i32_115 : BitVec 32 := 13#32
  let v219 : BitVec 1 := Scalar.cmpi .sgt v69 c13_i32_115
  let v220 : BitVec 32 := Scalar.extui v219
  let c0_i32_116 : BitVec 32 := 0#32
  let v221 : BitVec 1 := Scalar.cmpi .ne v220 c0_i32_116
  v221

def k0_mult102 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off88 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off89 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult103 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1664_i32_213 : BitVec 32 := 1664#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1664_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult104 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1664_i32_213 : BitVec 32 := 1664#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1664_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off90 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1664_i32_213 : BitVec 32 := 1664#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1664_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev32 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult105 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond39 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c14_i32_117 : BitVec 32 := 14#32
  let v222 : BitVec 1 := Scalar.cmpi .sgt v69 c14_i32_117
  let v223 : BitVec 32 := Scalar.extui v222
  let c0_i32_118 : BitVec 32 := 0#32
  let v224 : BitVec 1 := Scalar.cmpi .ne v223 c0_i32_118
  v224

def k0_mult106 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off91 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off92 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult107 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1792_i32_213 : BitVec 32 := 1792#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1792_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult108 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1792_i32_213 : BitVec 32 := 1792#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1792_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off93 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1792_i32_213 : BitVec 32 := 1792#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1792_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev33 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult109 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond40 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c15_i32_119 : BitVec 32 := 15#32
  let v225 : BitVec 1 := Scalar.cmpi .sgt v69 c15_i32_119
  let v226 : BitVec 32 := Scalar.extui v225
  let c0_i32_120 : BitVec 32 := 0#32
  let v227 : BitVec 1 := Scalar.cmpi .ne v226 c0_i32_120
  v227

def k0_mult110 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off94 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_210 : BitVec 32 := 0#32
  ![v357.toNat, 0]
def k0_off95 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_211 : BitVec 32 := 0#32
  ![v354.toNat, 0]
def k0_mult111 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1920_i32_213 : BitVec 32 := 1920#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1920_i32_213 v367
  let v369 : BitVec 32 := Scalar.maxsi c0_i32_214 v368
  let v370 : BitVec 32 := Scalar.addi v366 v369
  let c8_i32_215 : BitVec 32 := 8#32
  let v371 : BitVec 32 := Scalar.muli v370 c8_i32_215
  v371
def k0_mult112 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1920_i32_213 : BitVec 32 := 1920#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1920_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  v373
def k0_off96 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v366 : BitVec 32 := Scalar.addi v25 v45
  let c0_i32_214 : BitVec 32 := 0#32
  let c1920_i32_213 : BitVec 32 := 1920#32
  let v46 : BitVec 32 := Scalar.subi v21 v43
  let v47 : BitVec 32 := Scalar.select v44 v43 v46
  let c128_i32_212 : BitVec 32 := 128#32
  let v367 : BitVec 32 := Scalar.subi v47 c128_i32_212
  let v368 : BitVec 32 := Scalar.minsi c1920_i32_213 v367
  let v369 : BitVec 32 := Scalar.maxsi c0_i32_214 v368
  let v370 : BitVec 32 := Scalar.addi v366 v369
  let c8_i32_216 : BitVec 32 := 8#32
  let v373 : BitVec 32 := Scalar.muli v370 c8_i32_216
  let v374 : BitVec 32 := v373
  let c0_i32_222 : BitVec 32 := 0#32
  ![v374.toNat, 0]
def k0_dev34 (d0 : Dev nD) : Nat :=
  let c0_i32_220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_219 : BitVec 32 := 2#32
  let v375 : BitVec 32 := Scalar.muli v7 c2_i32_219
  let v376 : BitVec 32 := Scalar.addi c0_i32_220 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v377 : BitVec 32 := Scalar.muli v5 c1_i32_221
  let v378 : BitVec 32 := Scalar.addi v376 v377
  v378.toNat
def k0_mult113 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_203 : BitVec 32 := 0#32
  let c0_i32_202 : BitVec 32 := 0#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c0_i32_202 v348
  let v350 : BitVec 32 := Scalar.maxsi c0_i32_203 v349
  let v351 : BitVec 32 := Scalar.addi v22 v350
  let c8_i32_204 : BitVec 32 := 8#32
  let v352 : BitVec 32 := Scalar.muli v351 c8_i32_204
  v352
def k0_cond41 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c0_i32_121 : BitVec 32 := 0#32
  let v228 : BitVec 1 := Scalar.cmpi .sgt v107 c0_i32_121
  let v229 : BitVec 32 := Scalar.extui v228
  let c0_i32_122 : BitVec 32 := 0#32
  let v230 : BitVec 1 := Scalar.cmpi .ne v229 c0_i32_122
  v230

def k0_mult114 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_203 : BitVec 32 := 0#32
  let c0_i32_202 : BitVec 32 := 0#32
  let c512_i32_201 : BitVec 32 := 512#32
  let v348 : BitVec 32 := Scalar.subi v20 c512_i32_201
  let v349 : BitVec 32 := Scalar.minsi c0_i32_202 v348
  let v350 : BitVec 32 := Scalar.maxsi c0_i32_203 v349
  let v354 : BitVec 32 := Scalar.addi v24 v350
  let c8_i32_205 : BitVec 32 := 8#32
  let v355 : BitVec 32 := Scalar.muli v354 c8_i32_205
  v355
def k0_off97 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_203 : BitVec 32 := 0#32
  let c0_i32_202 : BitVec 32 := 0#32
  let c512_i32_201 : BitVec 32 := 512#32
  let v348 : BitVec 32 := Scalar.subi v20 c512_i32_201
  let v349 : BitVec 32 := Scalar.minsi c0_i32_202 v348
  let v350 : BitVec 32 := Scalar.maxsi c0_i32_203 v349
  let v354 : BitVec 32 := Scalar.addi v24 v350
  let c8_i32_205 : BitVec 32 := 8#32
  let v355 : BitVec 32 := Scalar.muli v354 c8_i32_205
  let v356 : BitVec 32 := v355
  let c0_i32_207 : BitVec 32 := 0#32
  ![v356.toNat, 0]
def k0_off98 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_203 : BitVec 32 := 0#32
  let c0_i32_202 : BitVec 32 := 0#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c0_i32_202 v348
  let v350 : BitVec 32 := Scalar.maxsi c0_i32_203 v349
  let v351 : BitVec 32 := Scalar.addi v22 v350
  let c8_i32_204 : BitVec 32 := 8#32
  let v352 : BitVec 32 := Scalar.muli v351 c8_i32_204
  let v353 : BitVec 32 := v352
  let c0_i32_208 : BitVec 32 := 0#32
  ![v353.toNat, 0]
def k0_mult115 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_203 : BitVec 32 := 0#32
  let c512_i32_202 : BitVec 32 := 512#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c512_i32_202 v348
  let v350 : BitVec 32 := Scalar.maxsi c0_i32_203 v349
  let v351 : BitVec 32 := Scalar.addi v22 v350
  let c8_i32_204 : BitVec 32 := 8#32
  let v352 : BitVec 32 := Scalar.muli v351 c8_i32_204
  v352
def k0_cond42 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c1_i32_123 : BitVec 32 := 1#32
  let v231 : BitVec 1 := Scalar.cmpi .sgt v107 c1_i32_123
  let v232 : BitVec 32 := Scalar.extui v231
  let c0_i32_124 : BitVec 32 := 0#32
  let v233 : BitVec 1 := Scalar.cmpi .ne v232 c0_i32_124
  v233

def k0_mult116 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_203 : BitVec 32 := 0#32
  let c512_i32_202 : BitVec 32 := 512#32
  let c512_i32_201 : BitVec 32 := 512#32
  let v348 : BitVec 32 := Scalar.subi v20 c512_i32_201
  let v349 : BitVec 32 := Scalar.minsi c512_i32_202 v348
  let v350 : BitVec 32 := Scalar.maxsi c0_i32_203 v349
  let v354 : BitVec 32 := Scalar.addi v24 v350
  let c8_i32_205 : BitVec 32 := 8#32
  let v355 : BitVec 32 := Scalar.muli v354 c8_i32_205
  v355
def k0_off99 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_203 : BitVec 32 := 0#32
  let c512_i32_202 : BitVec 32 := 512#32
  let c512_i32_201 : BitVec 32 := 512#32
  let v348 : BitVec 32 := Scalar.subi v20 c512_i32_201
  let v349 : BitVec 32 := Scalar.minsi c512_i32_202 v348
  let v350 : BitVec 32 := Scalar.maxsi c0_i32_203 v349
  let v354 : BitVec 32 := Scalar.addi v24 v350
  let c8_i32_205 : BitVec 32 := 8#32
  let v355 : BitVec 32 := Scalar.muli v354 c8_i32_205
  let v356 : BitVec 32 := v355
  let c0_i32_207 : BitVec 32 := 0#32
  ![v356.toNat, 0]
def k0_off100 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_203 : BitVec 32 := 0#32
  let c512_i32_202 : BitVec 32 := 512#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c512_i32_202 v348
  let v350 : BitVec 32 := Scalar.maxsi c0_i32_203 v349
  let v351 : BitVec 32 := Scalar.addi v22 v350
  let c8_i32_204 : BitVec 32 := 8#32
  let v352 : BitVec 32 := Scalar.muli v351 c8_i32_204
  let v353 : BitVec 32 := v352
  let c0_i32_208 : BitVec 32 := 0#32
  ![v353.toNat, 0]
def k0_mult117 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c1024_i32 : BitVec 32 := 1024#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c1024_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond43 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c2_i32_125 : BitVec 32 := 2#32
  let v234 : BitVec 1 := Scalar.cmpi .sgt v107 c2_i32_125
  let v235 : BitVec 32 := Scalar.extui v234
  let c0_i32_126 : BitVec 32 := 0#32
  let v236 : BitVec 1 := Scalar.cmpi .ne v235 c0_i32_126
  v236

def k0_mult118 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c1024_i32 : BitVec 32 := 1024#32
  let c512_i32_201 : BitVec 32 := 512#32
  let v348 : BitVec 32 := Scalar.subi v20 c512_i32_201
  let v349 : BitVec 32 := Scalar.minsi c1024_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off101 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c1024_i32 : BitVec 32 := 1024#32
  let c512_i32_201 : BitVec 32 := 512#32
  let v348 : BitVec 32 := Scalar.subi v20 c512_i32_201
  let v349 : BitVec 32 := Scalar.minsi c1024_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off102 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c1024_i32 : BitVec 32 := 1024#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c1024_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult119 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c1536_i32 : BitVec 32 := 1536#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c1536_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond44 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c3_i32_127 : BitVec 32 := 3#32
  let v237 : BitVec 1 := Scalar.cmpi .sgt v107 c3_i32_127
  let v238 : BitVec 32 := Scalar.extui v237
  let c0_i32_128 : BitVec 32 := 0#32
  let v239 : BitVec 1 := Scalar.cmpi .ne v238 c0_i32_128
  v239

def k0_mult120 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c1536_i32 : BitVec 32 := 1536#32
  let c512_i32_201 : BitVec 32 := 512#32
  let v348 : BitVec 32 := Scalar.subi v20 c512_i32_201
  let v349 : BitVec 32 := Scalar.minsi c1536_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off103 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c1536_i32 : BitVec 32 := 1536#32
  let c512_i32_201 : BitVec 32 := 512#32
  let v348 : BitVec 32 := Scalar.subi v20 c512_i32_201
  let v349 : BitVec 32 := Scalar.minsi c1536_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off104 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c1536_i32 : BitVec 32 := 1536#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c1536_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult121 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c2048_i32 : BitVec 32 := 2048#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c2048_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond45 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c4_i32_129 : BitVec 32 := 4#32
  let v240 : BitVec 1 := Scalar.cmpi .sgt v107 c4_i32_129
  let v241 : BitVec 32 := Scalar.extui v240
  let c0_i32_130 : BitVec 32 := 0#32
  let v242 : BitVec 1 := Scalar.cmpi .ne v241 c0_i32_130
  v242

def k0_mult122 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c2048_i32 : BitVec 32 := 2048#32
  let c512_i32_201 : BitVec 32 := 512#32
  let v348 : BitVec 32 := Scalar.subi v20 c512_i32_201
  let v349 : BitVec 32 := Scalar.minsi c2048_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off105 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c2048_i32 : BitVec 32 := 2048#32
  let c512_i32_201 : BitVec 32 := 512#32
  let v348 : BitVec 32 := Scalar.subi v20 c512_i32_201
  let v349 : BitVec 32 := Scalar.minsi c2048_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off106 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c2048_i32 : BitVec 32 := 2048#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c2048_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult123 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c2560_i32 : BitVec 32 := 2560#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c2560_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond46 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c5_i32_131 : BitVec 32 := 5#32
  let v243 : BitVec 1 := Scalar.cmpi .sgt v107 c5_i32_131
  let v244 : BitVec 32 := Scalar.extui v243
  let c0_i32_132 : BitVec 32 := 0#32
  let v245 : BitVec 1 := Scalar.cmpi .ne v244 c0_i32_132
  v245

def k0_mult124 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c2560_i32 : BitVec 32 := 2560#32
  let c512_i32_201 : BitVec 32 := 512#32
  let v348 : BitVec 32 := Scalar.subi v20 c512_i32_201
  let v349 : BitVec 32 := Scalar.minsi c2560_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off107 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c2560_i32 : BitVec 32 := 2560#32
  let c512_i32_201 : BitVec 32 := 512#32
  let v348 : BitVec 32 := Scalar.subi v20 c512_i32_201
  let v349 : BitVec 32 := Scalar.minsi c2560_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off108 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c2560_i32 : BitVec 32 := 2560#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c2560_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult125 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c3072_i32 : BitVec 32 := 3072#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c3072_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond47 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c6_i32_133 : BitVec 32 := 6#32
  let v246 : BitVec 1 := Scalar.cmpi .sgt v107 c6_i32_133
  let v247 : BitVec 32 := Scalar.extui v246
  let c0_i32_134 : BitVec 32 := 0#32
  let v248 : BitVec 1 := Scalar.cmpi .ne v247 c0_i32_134
  v248

def k0_mult126 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c3072_i32 : BitVec 32 := 3072#32
  let c512_i32_201 : BitVec 32 := 512#32
  let v348 : BitVec 32 := Scalar.subi v20 c512_i32_201
  let v349 : BitVec 32 := Scalar.minsi c3072_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off109 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c3072_i32 : BitVec 32 := 3072#32
  let c512_i32_201 : BitVec 32 := 512#32
  let v348 : BitVec 32 := Scalar.subi v20 c512_i32_201
  let v349 : BitVec 32 := Scalar.minsi c3072_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off110 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c3072_i32 : BitVec 32 := 3072#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c3072_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult127 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c3584_i32 : BitVec 32 := 3584#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c3584_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  v352
def k0_cond48 (d0 : Dev nD) (v17 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c512_i32 : BitVec 32 := 512#32
  let v89 : BitVec 32 := Scalar.addi v20 c512_i32
  let c1_i32_46 : BitVec 32 := 1#32
  let v90 : BitVec 32 := Scalar.subi v89 c1_i32_46
  let c0_i32_48 : BitVec 32 := 0#32
  let v92 : BitVec 1 := Scalar.cmpi .sgt v90 c0_i32_48
  let v93 : BitVec 32 := Scalar.extui v92
  let c0_i32_49 : BitVec 32 := 0#32
  let v94 : BitVec 1 := Scalar.cmpi .slt v90 c0_i32_49
  let v95 : BitVec 32 := Scalar.extui v94
  let v96 : BitVec 32 := Scalar.subi v93 v95
  let c512_i32_47 : BitVec 32 := 512#32
  let c0_i32_50 : BitVec 32 := 0#32
  let v97 : BitVec 1 := Scalar.cmpi .sgt c512_i32_47 c0_i32_50
  let v98 : BitVec 32 := Scalar.extui v97
  let c0_i32_51 : BitVec 32 := 0#32
  let v99 : BitVec 1 := Scalar.cmpi .slt c512_i32_47 c0_i32_51
  let v100 : BitVec 32 := Scalar.extui v99
  let v101 : BitVec 32 := Scalar.subi v98 v100
  let v102 : BitVec 1 := Scalar.cmpi .ne v96 v101
  let v103 : BitVec 32 := Scalar.remsi v90 c512_i32_47
  let c0_i32_52 : BitVec 32 := 0#32
  let v104 : BitVec 1 := Scalar.cmpi .ne v103 c0_i32_52
  let v105 : BitVec 1 := Scalar.andi v102 v104
  let v91 : BitVec 32 := Scalar.divsi v90 c512_i32_47
  let c1_i32_53 : BitVec 32 := 1#32
  let v106 : BitVec 32 := Scalar.subi v91 c1_i32_53
  let v107 : BitVec 32 := Scalar.select v105 v106 v91
  let c7_i32_135 : BitVec 32 := 7#32
  let v249 : BitVec 1 := Scalar.cmpi .sgt v107 c7_i32_135
  let v250 : BitVec 32 := Scalar.extui v249
  let c0_i32_136 : BitVec 32 := 0#32
  let v251 : BitVec 1 := Scalar.cmpi .ne v250 c0_i32_136
  v251

def k0_mult128 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c3584_i32 : BitVec 32 := 3584#32
  let c512_i32_201 : BitVec 32 := 512#32
  let v348 : BitVec 32 := Scalar.subi v20 c512_i32_201
  let v349 : BitVec 32 := Scalar.minsi c3584_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  v355
def k0_off111 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_16 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let v24 : BitVec 32 := Scalar.select v18 c0_i32_16 v21
  let c0_i32_202 : BitVec 32 := 0#32
  let c3584_i32 : BitVec 32 := 3584#32
  let c512_i32_201 : BitVec 32 := 512#32
  let v348 : BitVec 32 := Scalar.subi v20 c512_i32_201
  let v349 : BitVec 32 := Scalar.minsi c3584_i32 v348
  let v350 : BitVec 32 := Scalar.maxsi c0_i32_202 v349
  let v354 : BitVec 32 := Scalar.addi v24 v350
  let c8_i32_204 : BitVec 32 := 8#32
  let v355 : BitVec 32 := Scalar.muli v354 c8_i32_204
  let v356 : BitVec 32 := v355
  let c0_i32_206 : BitVec 32 := 0#32
  ![v356.toNat, 0]
def k0_off112 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_14 : BitVec 32 := 0#32
  let v22 : BitVec 32 := Scalar.select v18 c0_i32_14 v17
  let c0_i32_202 : BitVec 32 := 0#32
  let c3584_i32 : BitVec 32 := 3584#32
  let c4096_i32 : BitVec 32 := 4096#32
  let v19 : BitVec 32 := Scalar.subi c4096_i32 v17
  let v20 : BitVec 32 := Scalar.select v18 v17 v19
  let c512_i32_201 : BitVec 32 := 512#32
  let v348 : BitVec 32 := Scalar.subi v20 c512_i32_201
  let v349 : BitVec 32 := Scalar.minsi c3584_i32 v348
  let v350 : BitVec 32 := Scalar.maxsi c0_i32_202 v349
  let v351 : BitVec 32 := Scalar.addi v22 v350
  let c8_i32_203 : BitVec 32 := 8#32
  let v352 : BitVec 32 := Scalar.muli v351 c8_i32_203
  let v353 : BitVec 32 := v352
  let c0_i32_207 : BitVec 32 := 0#32
  ![v353.toNat, 0]
def k0_mult129 : BitVec 32 :=
  let c0_i32_204 : BitVec 32 := 0#32
  c0_i32_204
def k0_mult130 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_203 : BitVec 32 := 0#32
  let c0_i32_202 : BitVec 32 := 0#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c0_i32_202 v349
  let v351 : BitVec 32 := Scalar.maxsi c0_i32_203 v350
  let v352 : BitVec 32 := Scalar.addi v348 v351
  let c8_i32_205 : BitVec 32 := 8#32
  let v354 : BitVec 32 := Scalar.muli v352 c8_i32_205
  v354
def k0_cond49 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c0_i32_137 : BitVec 32 := 0#32
  let v252 : BitVec 1 := Scalar.cmpi .sgt v88 c0_i32_137
  let v253 : BitVec 32 := Scalar.extui v252
  let c0_i32_138 : BitVec 32 := 0#32
  let v254 : BitVec 1 := Scalar.cmpi .ne v253 c0_i32_138
  v254

def k0_off113 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_203 : BitVec 32 := 0#32
  let c0_i32_202 : BitVec 32 := 0#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c0_i32_202 v349
  let v351 : BitVec 32 := Scalar.maxsi c0_i32_203 v350
  let v352 : BitVec 32 := Scalar.addi v348 v351
  let c8_i32_205 : BitVec 32 := 8#32
  let v354 : BitVec 32 := Scalar.muli v352 c8_i32_205
  let v355 : BitVec 32 := v354
  let c0_i32_211 : BitVec 32 := 0#32
  ![v355.toNat, 0]
def k0_mult131 : BitVec 32 :=
  let c0_i32_204 : BitVec 32 := 0#32
  c0_i32_204
def k0_mult132 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_203 : BitVec 32 := 0#32
  let c128_i32_202 : BitVec 32 := 128#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c128_i32_202 v349
  let v351 : BitVec 32 := Scalar.maxsi c0_i32_203 v350
  let v352 : BitVec 32 := Scalar.addi v348 v351
  let c8_i32_205 : BitVec 32 := 8#32
  let v354 : BitVec 32 := Scalar.muli v352 c8_i32_205
  v354
def k0_cond50 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c1_i32_139 : BitVec 32 := 1#32
  let v255 : BitVec 1 := Scalar.cmpi .sgt v88 c1_i32_139
  let v256 : BitVec 32 := Scalar.extui v255
  let c0_i32_140 : BitVec 32 := 0#32
  let v257 : BitVec 1 := Scalar.cmpi .ne v256 c0_i32_140
  v257

def k0_off114 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_203 : BitVec 32 := 0#32
  let c128_i32_202 : BitVec 32 := 128#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c128_i32_202 v349
  let v351 : BitVec 32 := Scalar.maxsi c0_i32_203 v350
  let v352 : BitVec 32 := Scalar.addi v348 v351
  let c8_i32_205 : BitVec 32 := 8#32
  let v354 : BitVec 32 := Scalar.muli v352 c8_i32_205
  let v355 : BitVec 32 := v354
  let c0_i32_211 : BitVec 32 := 0#32
  ![v355.toNat, 0]
def k0_mult133 : BitVec 32 :=
  let c0_i32_203 : BitVec 32 := 0#32
  c0_i32_203
def k0_mult134 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c256_i32 : BitVec 32 := 256#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c256_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond51 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c2_i32_141 : BitVec 32 := 2#32
  let v258 : BitVec 1 := Scalar.cmpi .sgt v88 c2_i32_141
  let v259 : BitVec 32 := Scalar.extui v258
  let c0_i32_142 : BitVec 32 := 0#32
  let v260 : BitVec 1 := Scalar.cmpi .ne v259 c0_i32_142
  v260

def k0_off115 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c256_i32 : BitVec 32 := 256#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c256_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult135 : BitVec 32 :=
  let c0_i32_203 : BitVec 32 := 0#32
  c0_i32_203
def k0_mult136 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c384_i32 : BitVec 32 := 384#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c384_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond52 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c3_i32_143 : BitVec 32 := 3#32
  let v261 : BitVec 1 := Scalar.cmpi .sgt v88 c3_i32_143
  let v262 : BitVec 32 := Scalar.extui v261
  let c0_i32_144 : BitVec 32 := 0#32
  let v263 : BitVec 1 := Scalar.cmpi .ne v262 c0_i32_144
  v263

def k0_off116 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c384_i32 : BitVec 32 := 384#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c384_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult137 : BitVec 32 :=
  let c0_i32_204 : BitVec 32 := 0#32
  c0_i32_204
def k0_mult138 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_203 : BitVec 32 := 0#32
  let c512_i32_202 : BitVec 32 := 512#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c512_i32_202 v349
  let v351 : BitVec 32 := Scalar.maxsi c0_i32_203 v350
  let v352 : BitVec 32 := Scalar.addi v348 v351
  let c8_i32_205 : BitVec 32 := 8#32
  let v354 : BitVec 32 := Scalar.muli v352 c8_i32_205
  v354
def k0_cond53 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c4_i32_145 : BitVec 32 := 4#32
  let v264 : BitVec 1 := Scalar.cmpi .sgt v88 c4_i32_145
  let v265 : BitVec 32 := Scalar.extui v264
  let c0_i32_146 : BitVec 32 := 0#32
  let v266 : BitVec 1 := Scalar.cmpi .ne v265 c0_i32_146
  v266

def k0_off117 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_203 : BitVec 32 := 0#32
  let c512_i32_202 : BitVec 32 := 512#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c512_i32_202 v349
  let v351 : BitVec 32 := Scalar.maxsi c0_i32_203 v350
  let v352 : BitVec 32 := Scalar.addi v348 v351
  let c8_i32_205 : BitVec 32 := 8#32
  let v354 : BitVec 32 := Scalar.muli v352 c8_i32_205
  let v355 : BitVec 32 := v354
  let c0_i32_211 : BitVec 32 := 0#32
  ![v355.toNat, 0]
def k0_mult139 : BitVec 32 :=
  let c0_i32_203 : BitVec 32 := 0#32
  c0_i32_203
def k0_mult140 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c640_i32 : BitVec 32 := 640#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c640_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond54 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c5_i32_147 : BitVec 32 := 5#32
  let v267 : BitVec 1 := Scalar.cmpi .sgt v88 c5_i32_147
  let v268 : BitVec 32 := Scalar.extui v267
  let c0_i32_148 : BitVec 32 := 0#32
  let v269 : BitVec 1 := Scalar.cmpi .ne v268 c0_i32_148
  v269

def k0_off118 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c640_i32 : BitVec 32 := 640#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c640_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult141 : BitVec 32 :=
  let c0_i32_203 : BitVec 32 := 0#32
  c0_i32_203
def k0_mult142 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c768_i32 : BitVec 32 := 768#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c768_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond55 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c6_i32_149 : BitVec 32 := 6#32
  let v270 : BitVec 1 := Scalar.cmpi .sgt v88 c6_i32_149
  let v271 : BitVec 32 := Scalar.extui v270
  let c0_i32_150 : BitVec 32 := 0#32
  let v272 : BitVec 1 := Scalar.cmpi .ne v271 c0_i32_150
  v272

def k0_off119 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c768_i32 : BitVec 32 := 768#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c768_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult143 : BitVec 32 :=
  let c0_i32_203 : BitVec 32 := 0#32
  c0_i32_203
def k0_mult144 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c896_i32 : BitVec 32 := 896#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c896_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond56 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c7_i32_151 : BitVec 32 := 7#32
  let v273 : BitVec 1 := Scalar.cmpi .sgt v88 c7_i32_151
  let v274 : BitVec 32 := Scalar.extui v273
  let c0_i32_152 : BitVec 32 := 0#32
  let v275 : BitVec 1 := Scalar.cmpi .ne v274 c0_i32_152
  v275

def k0_off120 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c896_i32 : BitVec 32 := 896#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c896_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult145 : BitVec 32 :=
  let c0_i32_203 : BitVec 32 := 0#32
  c0_i32_203
def k0_mult146 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1024_i32 : BitVec 32 := 1024#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1024_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond57 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c8_i32_153 : BitVec 32 := 8#32
  let v276 : BitVec 1 := Scalar.cmpi .sgt v88 c8_i32_153
  let v277 : BitVec 32 := Scalar.extui v276
  let c0_i32_154 : BitVec 32 := 0#32
  let v278 : BitVec 1 := Scalar.cmpi .ne v277 c0_i32_154
  v278

def k0_off121 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1024_i32 : BitVec 32 := 1024#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1024_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult147 : BitVec 32 :=
  let c0_i32_203 : BitVec 32 := 0#32
  c0_i32_203
def k0_mult148 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1152_i32 : BitVec 32 := 1152#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1152_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond58 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c9_i32_155 : BitVec 32 := 9#32
  let v279 : BitVec 1 := Scalar.cmpi .sgt v88 c9_i32_155
  let v280 : BitVec 32 := Scalar.extui v279
  let c0_i32_156 : BitVec 32 := 0#32
  let v281 : BitVec 1 := Scalar.cmpi .ne v280 c0_i32_156
  v281

def k0_off122 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1152_i32 : BitVec 32 := 1152#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1152_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult149 : BitVec 32 :=
  let c0_i32_203 : BitVec 32 := 0#32
  c0_i32_203
def k0_mult150 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1280_i32 : BitVec 32 := 1280#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1280_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond59 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c10_i32_157 : BitVec 32 := 10#32
  let v282 : BitVec 1 := Scalar.cmpi .sgt v88 c10_i32_157
  let v283 : BitVec 32 := Scalar.extui v282
  let c0_i32_158 : BitVec 32 := 0#32
  let v284 : BitVec 1 := Scalar.cmpi .ne v283 c0_i32_158
  v284

def k0_off123 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1280_i32 : BitVec 32 := 1280#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1280_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult151 : BitVec 32 :=
  let c0_i32_203 : BitVec 32 := 0#32
  c0_i32_203
def k0_mult152 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1408_i32 : BitVec 32 := 1408#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1408_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond60 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c11_i32_159 : BitVec 32 := 11#32
  let v285 : BitVec 1 := Scalar.cmpi .sgt v88 c11_i32_159
  let v286 : BitVec 32 := Scalar.extui v285
  let c0_i32_160 : BitVec 32 := 0#32
  let v287 : BitVec 1 := Scalar.cmpi .ne v286 c0_i32_160
  v287

def k0_off124 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1408_i32 : BitVec 32 := 1408#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1408_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult153 : BitVec 32 :=
  let c0_i32_203 : BitVec 32 := 0#32
  c0_i32_203
def k0_mult154 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1536_i32 : BitVec 32 := 1536#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1536_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond61 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c12_i32_161 : BitVec 32 := 12#32
  let v288 : BitVec 1 := Scalar.cmpi .sgt v88 c12_i32_161
  let v289 : BitVec 32 := Scalar.extui v288
  let c0_i32_162 : BitVec 32 := 0#32
  let v290 : BitVec 1 := Scalar.cmpi .ne v289 c0_i32_162
  v290

def k0_off125 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1536_i32 : BitVec 32 := 1536#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1536_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult155 : BitVec 32 :=
  let c0_i32_203 : BitVec 32 := 0#32
  c0_i32_203
def k0_mult156 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1664_i32 : BitVec 32 := 1664#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1664_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond62 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c13_i32_163 : BitVec 32 := 13#32
  let v291 : BitVec 1 := Scalar.cmpi .sgt v88 c13_i32_163
  let v292 : BitVec 32 := Scalar.extui v291
  let c0_i32_164 : BitVec 32 := 0#32
  let v293 : BitVec 1 := Scalar.cmpi .ne v292 c0_i32_164
  v293

def k0_off126 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1664_i32 : BitVec 32 := 1664#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1664_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult157 : BitVec 32 :=
  let c0_i32_203 : BitVec 32 := 0#32
  c0_i32_203
def k0_mult158 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1792_i32 : BitVec 32 := 1792#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1792_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond63 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c14_i32_165 : BitVec 32 := 14#32
  let v294 : BitVec 1 := Scalar.cmpi .sgt v88 c14_i32_165
  let v295 : BitVec 32 := Scalar.extui v294
  let c0_i32_166 : BitVec 32 := 0#32
  let v296 : BitVec 1 := Scalar.cmpi .ne v295 c0_i32_166
  v296

def k0_off127 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1792_i32 : BitVec 32 := 1792#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1792_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult159 : BitVec 32 :=
  let c0_i32_203 : BitVec 32 := 0#32
  c0_i32_203
def k0_mult160 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1920_i32 : BitVec 32 := 1920#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1920_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  v354
def k0_cond64 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v49 : BitVec 32 := Scalar.subi v21 v43
  let v50 : BitVec 32 := Scalar.select v44 v49 v43
  let c128_i32_37 : BitVec 32 := 128#32
  let v70 : BitVec 32 := Scalar.addi v50 c128_i32_37
  let c1_i32_38 : BitVec 32 := 1#32
  let v71 : BitVec 32 := Scalar.subi v70 c1_i32_38
  let c0_i32_40 : BitVec 32 := 0#32
  let v73 : BitVec 1 := Scalar.cmpi .sgt v71 c0_i32_40
  let v74 : BitVec 32 := Scalar.extui v73
  let c0_i32_41 : BitVec 32 := 0#32
  let v75 : BitVec 1 := Scalar.cmpi .slt v71 c0_i32_41
  let v76 : BitVec 32 := Scalar.extui v75
  let v77 : BitVec 32 := Scalar.subi v74 v76
  let c128_i32_39 : BitVec 32 := 128#32
  let c0_i32_42 : BitVec 32 := 0#32
  let v78 : BitVec 1 := Scalar.cmpi .sgt c128_i32_39 c0_i32_42
  let v79 : BitVec 32 := Scalar.extui v78
  let c0_i32_43 : BitVec 32 := 0#32
  let v80 : BitVec 1 := Scalar.cmpi .slt c128_i32_39 c0_i32_43
  let v81 : BitVec 32 := Scalar.extui v80
  let v82 : BitVec 32 := Scalar.subi v79 v81
  let v83 : BitVec 1 := Scalar.cmpi .ne v77 v82
  let v84 : BitVec 32 := Scalar.remsi v71 c128_i32_39
  let c0_i32_44 : BitVec 32 := 0#32
  let v85 : BitVec 1 := Scalar.cmpi .ne v84 c0_i32_44
  let v86 : BitVec 1 := Scalar.andi v83 v85
  let v72 : BitVec 32 := Scalar.divsi v71 c128_i32_39
  let c1_i32_45 : BitVec 32 := 1#32
  let v87 : BitVec 32 := Scalar.subi v72 c1_i32_45
  let v88 : BitVec 32 := Scalar.select v86 v87 v72
  let c15_i32_167 : BitVec 32 := 15#32
  let v297 : BitVec 1 := Scalar.cmpi .sgt v88 c15_i32_167
  let v298 : BitVec 32 := Scalar.extui v297
  let c0_i32_168 : BitVec 32 := 0#32
  let v299 : BitVec 1 := Scalar.cmpi .ne v298 c0_i32_168
  v299

def k0_off128 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let c0_i32_28 : BitVec 32 := 0#32
  let v48 : BitVec 32 := Scalar.select v44 v43 c0_i32_28
  let v348 : BitVec 32 := Scalar.addi v25 v48
  let c0_i32_202 : BitVec 32 := 0#32
  let c1920_i32 : BitVec 32 := 1920#32
  let v49 : BitVec 32 := Scalar.subi v21 v43
  let v50 : BitVec 32 := Scalar.select v44 v49 v43
  let c128_i32_201 : BitVec 32 := 128#32
  let v349 : BitVec 32 := Scalar.subi v50 c128_i32_201
  let v350 : BitVec 32 := Scalar.minsi c1920_i32 v349
  let v351 : BitVec 32 := Scalar.maxsi c0_i32_202 v350
  let v352 : BitVec 32 := Scalar.addi v348 v351
  let c8_i32_204 : BitVec 32 := 8#32
  let v354 : BitVec 32 := Scalar.muli v352 c8_i32_204
  let v355 : BitVec 32 := v354
  let c0_i32_210 : BitVec 32 := 0#32
  ![v355.toNat, 0]
def k0_mult161 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  v353
def k0_cond65 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c0_i32_169 : BitVec 32 := 0#32
  let v300 : BitVec 1 := Scalar.cmpi .sgt v69 c0_i32_169
  let v301 : BitVec 32 := Scalar.extui v300
  let c0_i32_170 : BitVec 32 := 0#32
  let v302 : BitVec 1 := Scalar.cmpi .ne v301 c0_i32_170
  v302

def k0_mult162 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  v356
def k0_off129 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  let v354 : BitVec 32 := v353
  let c0_i32_209 : BitVec 32 := 0#32
  ![v354.toNat, 0]
def k0_off130 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c0_i32_202 : BitVec 32 := 0#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c0_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  let v357 : BitVec 32 := v356
  let c0_i32_210 : BitVec 32 := 0#32
  ![v357.toNat, 0]
def k0_mult163 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_213 : BitVec 32 := 0#32
  let c0_i32_212 : BitVec 32 := 0#32
  let v46 : BitVec 32 := Scalar.subi v21 v43
  let v47 : BitVec 32 := Scalar.select v44 v43 v46
  let c128_i32_211 : BitVec 32 := 128#32
  let v363 : BitVec 32 := Scalar.subi v47 c128_i32_211
  let v364 : BitVec 32 := Scalar.minsi c0_i32_212 v363
  let v365 : BitVec 32 := Scalar.maxsi c0_i32_213 v364
  let v366 : BitVec 32 := Scalar.addi v362 v365
  let c8_i32_214 : BitVec 32 := 8#32
  let v367 : BitVec 32 := Scalar.muli v366 c8_i32_214
  v367
def k0_mult164 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_213 : BitVec 32 := 0#32
  let c0_i32_212 : BitVec 32 := 0#32
  let v46 : BitVec 32 := Scalar.subi v21 v43
  let v47 : BitVec 32 := Scalar.select v44 v43 v46
  let c128_i32_211 : BitVec 32 := 128#32
  let v363 : BitVec 32 := Scalar.subi v47 c128_i32_211
  let v364 : BitVec 32 := Scalar.minsi c0_i32_212 v363
  let v365 : BitVec 32 := Scalar.maxsi c0_i32_213 v364
  let v366 : BitVec 32 := Scalar.addi v362 v365
  let c8_i32_215 : BitVec 32 := 8#32
  let v369 : BitVec 32 := Scalar.muli v366 c8_i32_215
  v369
def k0_off131 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_213 : BitVec 32 := 0#32
  let c0_i32_212 : BitVec 32 := 0#32
  let v46 : BitVec 32 := Scalar.subi v21 v43
  let v47 : BitVec 32 := Scalar.select v44 v43 v46
  let c128_i32_211 : BitVec 32 := 128#32
  let v363 : BitVec 32 := Scalar.subi v47 c128_i32_211
  let v364 : BitVec 32 := Scalar.minsi c0_i32_212 v363
  let v365 : BitVec 32 := Scalar.maxsi c0_i32_213 v364
  let v366 : BitVec 32 := Scalar.addi v362 v365
  let c8_i32_214 : BitVec 32 := 8#32
  let v367 : BitVec 32 := Scalar.muli v366 c8_i32_214
  let v368 : BitVec 32 := v367
  let c0_i32_219 : BitVec 32 := 0#32
  ![v368.toNat, 0]
def k0_mult165 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  v353
def k0_cond66 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c1_i32_171 : BitVec 32 := 1#32
  let v303 : BitVec 1 := Scalar.cmpi .sgt v69 c1_i32_171
  let v304 : BitVec 32 := Scalar.extui v303
  let c0_i32_172 : BitVec 32 := 0#32
  let v305 : BitVec 1 := Scalar.cmpi .ne v304 c0_i32_172
  v305

def k0_mult166 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  v356
def k0_off132 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  let v354 : BitVec 32 := v353
  let c0_i32_209 : BitVec 32 := 0#32
  ![v354.toNat, 0]
def k0_off133 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c128_i32_202 : BitVec 32 := 128#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c128_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  let v357 : BitVec 32 := v356
  let c0_i32_210 : BitVec 32 := 0#32
  ![v357.toNat, 0]
def k0_mult167 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_213 : BitVec 32 := 0#32
  let c128_i32_212 : BitVec 32 := 128#32
  let v46 : BitVec 32 := Scalar.subi v21 v43
  let v47 : BitVec 32 := Scalar.select v44 v43 v46
  let c128_i32_211 : BitVec 32 := 128#32
  let v363 : BitVec 32 := Scalar.subi v47 c128_i32_211
  let v364 : BitVec 32 := Scalar.minsi c128_i32_212 v363
  let v365 : BitVec 32 := Scalar.maxsi c0_i32_213 v364
  let v366 : BitVec 32 := Scalar.addi v362 v365
  let c8_i32_214 : BitVec 32 := 8#32
  let v367 : BitVec 32 := Scalar.muli v366 c8_i32_214
  v367
def k0_mult168 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_213 : BitVec 32 := 0#32
  let c128_i32_212 : BitVec 32 := 128#32
  let v46 : BitVec 32 := Scalar.subi v21 v43
  let v47 : BitVec 32 := Scalar.select v44 v43 v46
  let c128_i32_211 : BitVec 32 := 128#32
  let v363 : BitVec 32 := Scalar.subi v47 c128_i32_211
  let v364 : BitVec 32 := Scalar.minsi c128_i32_212 v363
  let v365 : BitVec 32 := Scalar.maxsi c0_i32_213 v364
  let v366 : BitVec 32 := Scalar.addi v362 v365
  let c8_i32_215 : BitVec 32 := 8#32
  let v369 : BitVec 32 := Scalar.muli v366 c8_i32_215
  v369
def k0_off134 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_213 : BitVec 32 := 0#32
  let c128_i32_212 : BitVec 32 := 128#32
  let v46 : BitVec 32 := Scalar.subi v21 v43
  let v47 : BitVec 32 := Scalar.select v44 v43 v46
  let c128_i32_211 : BitVec 32 := 128#32
  let v363 : BitVec 32 := Scalar.subi v47 c128_i32_211
  let v364 : BitVec 32 := Scalar.minsi c128_i32_212 v363
  let v365 : BitVec 32 := Scalar.maxsi c0_i32_213 v364
  let v366 : BitVec 32 := Scalar.addi v362 v365
  let c8_i32_214 : BitVec 32 := 8#32
  let v367 : BitVec 32 := Scalar.muli v366 c8_i32_214
  let v368 : BitVec 32 := v367
  let c0_i32_219 : BitVec 32 := 0#32
  ![v368.toNat, 0]
def k0_mult169 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond67 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c2_i32_173 : BitVec 32 := 2#32
  let v306 : BitVec 1 := Scalar.cmpi .sgt v69 c2_i32_173
  let v307 : BitVec 32 := Scalar.extui v306
  let c0_i32_174 : BitVec 32 := 0#32
  let v308 : BitVec 1 := Scalar.cmpi .ne v307 c0_i32_174
  v308

def k0_mult170 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off135 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off136 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c256_i32 : BitVec 32 := 256#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c256_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult171 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c256_i32_211 : BitVec 32 := 256#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c256_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult172 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c256_i32_211 : BitVec 32 := 256#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c256_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off137 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c256_i32_211 : BitVec 32 := 256#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c256_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult173 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond68 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c3_i32_175 : BitVec 32 := 3#32
  let v309 : BitVec 1 := Scalar.cmpi .sgt v69 c3_i32_175
  let v310 : BitVec 32 := Scalar.extui v309
  let c0_i32_176 : BitVec 32 := 0#32
  let v311 : BitVec 1 := Scalar.cmpi .ne v310 c0_i32_176
  v311

def k0_mult174 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off138 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off139 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c384_i32 : BitVec 32 := 384#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c384_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult175 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c384_i32_211 : BitVec 32 := 384#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c384_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult176 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c384_i32_211 : BitVec 32 := 384#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c384_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off140 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c384_i32_211 : BitVec 32 := 384#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c384_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult177 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  v353
def k0_cond69 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c4_i32_177 : BitVec 32 := 4#32
  let v312 : BitVec 1 := Scalar.cmpi .sgt v69 c4_i32_177
  let v313 : BitVec 32 := Scalar.extui v312
  let c0_i32_178 : BitVec 32 := 0#32
  let v314 : BitVec 1 := Scalar.cmpi .ne v313 c0_i32_178
  v314

def k0_mult178 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  v356
def k0_off141 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v352 : BitVec 32 := Scalar.addi v23 v351
  let c8_i32_204 : BitVec 32 := 8#32
  let v353 : BitVec 32 := Scalar.muli v352 c8_i32_204
  let v354 : BitVec 32 := v353
  let c0_i32_209 : BitVec 32 := 0#32
  ![v354.toNat, 0]
def k0_off142 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_203 : BitVec 32 := 0#32
  let c512_i32_202 : BitVec 32 := 512#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c512_i32_202 v348
  let v350 : BitVec 32 := Scalar.maxsi c0_i32_203 v349
  let v351 : BitVec 32 := Scalar.addi v45 v350
  let v355 : BitVec 32 := Scalar.addi v26 v351
  let c8_i32_205 : BitVec 32 := 8#32
  let v356 : BitVec 32 := Scalar.muli v355 c8_i32_205
  let v357 : BitVec 32 := v356
  let c0_i32_210 : BitVec 32 := 0#32
  ![v357.toNat, 0]
def k0_mult179 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_213 : BitVec 32 := 0#32
  let c512_i32_212 : BitVec 32 := 512#32
  let v46 : BitVec 32 := Scalar.subi v21 v43
  let v47 : BitVec 32 := Scalar.select v44 v43 v46
  let c128_i32_211 : BitVec 32 := 128#32
  let v363 : BitVec 32 := Scalar.subi v47 c128_i32_211
  let v364 : BitVec 32 := Scalar.minsi c512_i32_212 v363
  let v365 : BitVec 32 := Scalar.maxsi c0_i32_213 v364
  let v366 : BitVec 32 := Scalar.addi v362 v365
  let c8_i32_214 : BitVec 32 := 8#32
  let v367 : BitVec 32 := Scalar.muli v366 c8_i32_214
  v367
def k0_mult180 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_213 : BitVec 32 := 0#32
  let c512_i32_212 : BitVec 32 := 512#32
  let v46 : BitVec 32 := Scalar.subi v21 v43
  let v47 : BitVec 32 := Scalar.select v44 v43 v46
  let c128_i32_211 : BitVec 32 := 128#32
  let v363 : BitVec 32 := Scalar.subi v47 c128_i32_211
  let v364 : BitVec 32 := Scalar.minsi c512_i32_212 v363
  let v365 : BitVec 32 := Scalar.maxsi c0_i32_213 v364
  let v366 : BitVec 32 := Scalar.addi v362 v365
  let c8_i32_215 : BitVec 32 := 8#32
  let v369 : BitVec 32 := Scalar.muli v366 c8_i32_215
  v369
def k0_off143 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_213 : BitVec 32 := 0#32
  let c512_i32_212 : BitVec 32 := 512#32
  let v46 : BitVec 32 := Scalar.subi v21 v43
  let v47 : BitVec 32 := Scalar.select v44 v43 v46
  let c128_i32_211 : BitVec 32 := 128#32
  let v363 : BitVec 32 := Scalar.subi v47 c128_i32_211
  let v364 : BitVec 32 := Scalar.minsi c512_i32_212 v363
  let v365 : BitVec 32 := Scalar.maxsi c0_i32_213 v364
  let v366 : BitVec 32 := Scalar.addi v362 v365
  let c8_i32_214 : BitVec 32 := 8#32
  let v367 : BitVec 32 := Scalar.muli v366 c8_i32_214
  let v368 : BitVec 32 := v367
  let c0_i32_219 : BitVec 32 := 0#32
  ![v368.toNat, 0]
def k0_mult181 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond70 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c5_i32_179 : BitVec 32 := 5#32
  let v315 : BitVec 1 := Scalar.cmpi .sgt v69 c5_i32_179
  let v316 : BitVec 32 := Scalar.extui v315
  let c0_i32_180 : BitVec 32 := 0#32
  let v317 : BitVec 1 := Scalar.cmpi .ne v316 c0_i32_180
  v317

def k0_mult182 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off144 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off145 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c640_i32 : BitVec 32 := 640#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c640_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult183 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c640_i32_211 : BitVec 32 := 640#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c640_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult184 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c640_i32_211 : BitVec 32 := 640#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c640_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off146 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c640_i32_211 : BitVec 32 := 640#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c640_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult185 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond71 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c6_i32_181 : BitVec 32 := 6#32
  let v318 : BitVec 1 := Scalar.cmpi .sgt v69 c6_i32_181
  let v319 : BitVec 32 := Scalar.extui v318
  let c0_i32_182 : BitVec 32 := 0#32
  let v320 : BitVec 1 := Scalar.cmpi .ne v319 c0_i32_182
  v320

def k0_mult186 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off147 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off148 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c768_i32 : BitVec 32 := 768#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c768_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult187 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c768_i32_211 : BitVec 32 := 768#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c768_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult188 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c768_i32_211 : BitVec 32 := 768#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c768_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off149 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c768_i32_211 : BitVec 32 := 768#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c768_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult189 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond72 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c7_i32_183 : BitVec 32 := 7#32
  let v321 : BitVec 1 := Scalar.cmpi .sgt v69 c7_i32_183
  let v322 : BitVec 32 := Scalar.extui v321
  let c0_i32_184 : BitVec 32 := 0#32
  let v323 : BitVec 1 := Scalar.cmpi .ne v322 c0_i32_184
  v323

def k0_mult190 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off150 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off151 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c896_i32 : BitVec 32 := 896#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c896_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult191 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c896_i32_211 : BitVec 32 := 896#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c896_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult192 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c896_i32_211 : BitVec 32 := 896#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c896_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off152 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c896_i32_211 : BitVec 32 := 896#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c896_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult193 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond73 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c8_i32_185 : BitVec 32 := 8#32
  let v324 : BitVec 1 := Scalar.cmpi .sgt v69 c8_i32_185
  let v325 : BitVec 32 := Scalar.extui v324
  let c0_i32_186 : BitVec 32 := 0#32
  let v326 : BitVec 1 := Scalar.cmpi .ne v325 c0_i32_186
  v326

def k0_mult194 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off153 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off154 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1024_i32 : BitVec 32 := 1024#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1024_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult195 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1024_i32_211 : BitVec 32 := 1024#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1024_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult196 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1024_i32_211 : BitVec 32 := 1024#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1024_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off155 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1024_i32_211 : BitVec 32 := 1024#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1024_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult197 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond74 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c9_i32_187 : BitVec 32 := 9#32
  let v327 : BitVec 1 := Scalar.cmpi .sgt v69 c9_i32_187
  let v328 : BitVec 32 := Scalar.extui v327
  let c0_i32_188 : BitVec 32 := 0#32
  let v329 : BitVec 1 := Scalar.cmpi .ne v328 c0_i32_188
  v329

def k0_mult198 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off156 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off157 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1152_i32 : BitVec 32 := 1152#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1152_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult199 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1152_i32_211 : BitVec 32 := 1152#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1152_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult200 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1152_i32_211 : BitVec 32 := 1152#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1152_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off158 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1152_i32_211 : BitVec 32 := 1152#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1152_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult201 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond75 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c10_i32_189 : BitVec 32 := 10#32
  let v330 : BitVec 1 := Scalar.cmpi .sgt v69 c10_i32_189
  let v331 : BitVec 32 := Scalar.extui v330
  let c0_i32_190 : BitVec 32 := 0#32
  let v332 : BitVec 1 := Scalar.cmpi .ne v331 c0_i32_190
  v332

def k0_mult202 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off159 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off160 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1280_i32 : BitVec 32 := 1280#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1280_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult203 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1280_i32_211 : BitVec 32 := 1280#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1280_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult204 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1280_i32_211 : BitVec 32 := 1280#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1280_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off161 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1280_i32_211 : BitVec 32 := 1280#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1280_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult205 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond76 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c11_i32_191 : BitVec 32 := 11#32
  let v333 : BitVec 1 := Scalar.cmpi .sgt v69 c11_i32_191
  let v334 : BitVec 32 := Scalar.extui v333
  let c0_i32_192 : BitVec 32 := 0#32
  let v335 : BitVec 1 := Scalar.cmpi .ne v334 c0_i32_192
  v335

def k0_mult206 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off162 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off163 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1408_i32 : BitVec 32 := 1408#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1408_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult207 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1408_i32_211 : BitVec 32 := 1408#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1408_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult208 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1408_i32_211 : BitVec 32 := 1408#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1408_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off164 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1408_i32_211 : BitVec 32 := 1408#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1408_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult209 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond77 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c12_i32_193 : BitVec 32 := 12#32
  let v336 : BitVec 1 := Scalar.cmpi .sgt v69 c12_i32_193
  let v337 : BitVec 32 := Scalar.extui v336
  let c0_i32_194 : BitVec 32 := 0#32
  let v338 : BitVec 1 := Scalar.cmpi .ne v337 c0_i32_194
  v338

def k0_mult210 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off165 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off166 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1536_i32 : BitVec 32 := 1536#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1536_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult211 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1536_i32_211 : BitVec 32 := 1536#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1536_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult212 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1536_i32_211 : BitVec 32 := 1536#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1536_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off167 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1536_i32_211 : BitVec 32 := 1536#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1536_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult213 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond78 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c13_i32_195 : BitVec 32 := 13#32
  let v339 : BitVec 1 := Scalar.cmpi .sgt v69 c13_i32_195
  let v340 : BitVec 32 := Scalar.extui v339
  let c0_i32_196 : BitVec 32 := 0#32
  let v341 : BitVec 1 := Scalar.cmpi .ne v340 c0_i32_196
  v341

def k0_mult214 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off168 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off169 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1664_i32 : BitVec 32 := 1664#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1664_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult215 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1664_i32_211 : BitVec 32 := 1664#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1664_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult216 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1664_i32_211 : BitVec 32 := 1664#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1664_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off170 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1664_i32_211 : BitVec 32 := 1664#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1664_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult217 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond79 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c14_i32_197 : BitVec 32 := 14#32
  let v342 : BitVec 1 := Scalar.cmpi .sgt v69 c14_i32_197
  let v343 : BitVec 32 := Scalar.extui v342
  let c0_i32_198 : BitVec 32 := 0#32
  let v344 : BitVec 1 := Scalar.cmpi .ne v343 c0_i32_198
  v344

def k0_mult218 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off171 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off172 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1792_i32 : BitVec 32 := 1792#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1792_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult219 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1792_i32_211 : BitVec 32 := 1792#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1792_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult220 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1792_i32_211 : BitVec 32 := 1792#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1792_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off173 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1792_i32_211 : BitVec 32 := 1792#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1792_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]
def k0_mult221 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  v353
def k0_cond80 (d0 : Dev nD) (v17 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c4096_i32_13 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v46 : BitVec 32 := Scalar.subi v21 v43
  let v47 : BitVec 32 := Scalar.select v44 v43 v46
  let c128_i32 : BitVec 32 := 128#32
  let v51 : BitVec 32 := Scalar.addi v47 c128_i32
  let c1_i32_29 : BitVec 32 := 1#32
  let v52 : BitVec 32 := Scalar.subi v51 c1_i32_29
  let c0_i32_31 : BitVec 32 := 0#32
  let v54 : BitVec 1 := Scalar.cmpi .sgt v52 c0_i32_31
  let v55 : BitVec 32 := Scalar.extui v54
  let c0_i32_32 : BitVec 32 := 0#32
  let v56 : BitVec 1 := Scalar.cmpi .slt v52 c0_i32_32
  let v57 : BitVec 32 := Scalar.extui v56
  let v58 : BitVec 32 := Scalar.subi v55 v57
  let c128_i32_30 : BitVec 32 := 128#32
  let c0_i32_33 : BitVec 32 := 0#32
  let v59 : BitVec 1 := Scalar.cmpi .sgt c128_i32_30 c0_i32_33
  let v60 : BitVec 32 := Scalar.extui v59
  let c0_i32_34 : BitVec 32 := 0#32
  let v61 : BitVec 1 := Scalar.cmpi .slt c128_i32_30 c0_i32_34
  let v62 : BitVec 32 := Scalar.extui v61
  let v63 : BitVec 32 := Scalar.subi v60 v62
  let v64 : BitVec 1 := Scalar.cmpi .ne v58 v63
  let v65 : BitVec 32 := Scalar.remsi v52 c128_i32_30
  let c0_i32_35 : BitVec 32 := 0#32
  let v66 : BitVec 1 := Scalar.cmpi .ne v65 c0_i32_35
  let v67 : BitVec 1 := Scalar.andi v64 v66
  let v53 : BitVec 32 := Scalar.divsi v52 c128_i32_30
  let c1_i32_36 : BitVec 32 := 1#32
  let v68 : BitVec 32 := Scalar.subi v53 c1_i32_36
  let v69 : BitVec 32 := Scalar.select v67 v68 v53
  let c15_i32_199 : BitVec 32 := 15#32
  let v345 : BitVec 1 := Scalar.cmpi .sgt v69 c15_i32_199
  let v346 : BitVec 32 := Scalar.extui v345
  let c0_i32_200 : BitVec 32 := 0#32
  let v347 : BitVec 1 := Scalar.cmpi .ne v346 c0_i32_200
  v347

def k0_mult222 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  v356
def k0_off174 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_15 : BitVec 32 := 0#32
  let v23 : BitVec 32 := Scalar.select v18 v17 c0_i32_15
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let c4096_i32 : BitVec 32 := 4096#32
  let v19 : BitVec 32 := Scalar.subi c4096_i32 v17
  let v20 : BitVec 32 := Scalar.select v18 v17 v19
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v352 : BitVec 32 := Scalar.addi v23 v351
  let c8_i32_203 : BitVec 32 := 8#32
  let v353 : BitVec 32 := Scalar.muli v352 c8_i32_203
  let v354 : BitVec 32 := v353
  let c0_i32_208 : BitVec 32 := 0#32
  ![v354.toNat, 0]
def k0_off175 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c0_i32_18 : BitVec 32 := 0#32
  let c4096_i32 : BitVec 32 := 4096#32
  let v19 : BitVec 32 := Scalar.subi c4096_i32 v17
  let v20 : BitVec 32 := Scalar.select v18 v17 v19
  let v26 : BitVec 32 := Scalar.select v18 c0_i32_18 v20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let c0_i32_202 : BitVec 32 := 0#32
  let c1920_i32 : BitVec 32 := 1920#32
  let v46 : BitVec 32 := Scalar.subi v21 v43
  let v47 : BitVec 32 := Scalar.select v44 v43 v46
  let c128_i32_201 : BitVec 32 := 128#32
  let v348 : BitVec 32 := Scalar.subi v47 c128_i32_201
  let v349 : BitVec 32 := Scalar.minsi c1920_i32 v348
  let v350 : BitVec 32 := Scalar.maxsi c0_i32_202 v349
  let v351 : BitVec 32 := Scalar.addi v45 v350
  let v355 : BitVec 32 := Scalar.addi v26 v351
  let c8_i32_204 : BitVec 32 := 8#32
  let v356 : BitVec 32 := Scalar.muli v355 c8_i32_204
  let v357 : BitVec 32 := v356
  let c0_i32_209 : BitVec 32 := 0#32
  ![v357.toNat, 0]
def k0_mult223 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1920_i32_211 : BitVec 32 := 1920#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1920_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  v367
def k0_mult224 (d0 : Dev nD) (v17 : BitVec 32) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1920_i32_211 : BitVec 32 := 1920#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1920_i32_211 v363
  let v365 : BitVec 32 := Scalar.maxsi c0_i32_212 v364
  let v366 : BitVec 32 := Scalar.addi v362 v365
  let c8_i32_214 : BitVec 32 := 8#32
  let v369 : BitVec 32 := Scalar.muli v366 c8_i32_214
  v369
def k0_off176 (d0 : Dev nD) (v17 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v18 : BitVec 1 := Scalar.cmpi .eq v5 c0_i32_12
  let c4096_i32 : BitVec 32 := 4096#32
  let v19 : BitVec 32 := Scalar.subi c4096_i32 v17
  let v20 : BitVec 32 := Scalar.select v18 v17 v19
  let c0_i32_17 : BitVec 32 := 0#32
  let v25 : BitVec 32 := Scalar.select v18 v20 c0_i32_17
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_26 : BitVec 32 := 0#32
  let v44 : BitVec 1 := Scalar.cmpi .eq v2 c0_i32_26
  let c0_i32_27 : BitVec 32 := 0#32
  let c4096_i32_13 : BitVec 32 := 4096#32
  let v21 : BitVec 32 := Scalar.subi c4096_i32_13 v20
  let c0_i32_20 : BitVec 32 := 0#32
  let v28 : BitVec 1 := Scalar.cmpi .sgt v21 c0_i32_20
  let v29 : BitVec 32 := Scalar.extui v28
  let c0_i32_21 : BitVec 32 := 0#32
  let v30 : BitVec 1 := Scalar.cmpi .slt v21 c0_i32_21
  let v31 : BitVec 32 := Scalar.extui v30
  let v32 : BitVec 32 := Scalar.subi v29 v31
  let c2_i32_19 : BitVec 32 := 2#32
  let c0_i32_22 : BitVec 32 := 0#32
  let v33 : BitVec 1 := Scalar.cmpi .sgt c2_i32_19 c0_i32_22
  let v34 : BitVec 32 := Scalar.extui v33
  let c0_i32_23 : BitVec 32 := 0#32
  let v35 : BitVec 1 := Scalar.cmpi .slt c2_i32_19 c0_i32_23
  let v36 : BitVec 32 := Scalar.extui v35
  let v37 : BitVec 32 := Scalar.subi v34 v36
  let v38 : BitVec 1 := Scalar.cmpi .ne v32 v37
  let v39 : BitVec 32 := Scalar.remsi v21 c2_i32_19
  let c0_i32_24 : BitVec 32 := 0#32
  let v40 : BitVec 1 := Scalar.cmpi .ne v39 c0_i32_24
  let v41 : BitVec 1 := Scalar.andi v38 v40
  let v27 : BitVec 32 := Scalar.divsi v21 c2_i32_19
  let c1_i32_25 : BitVec 32 := 1#32
  let v42 : BitVec 32 := Scalar.subi v27 c1_i32_25
  let v43 : BitVec 32 := Scalar.select v41 v42 v27
  let v45 : BitVec 32 := Scalar.select v44 c0_i32_27 v43
  let v362 : BitVec 32 := Scalar.addi v25 v45
  let c0_i32_212 : BitVec 32 := 0#32
  let c1920_i32_211 : BitVec 32 := 1920#32
  let v46 : BitVec 32 := Scalar.subi v21 v43
  let v47 : BitVec 32 := Scalar.select v44 v43 v46
  let c128_i32_210 : BitVec 32 := 128#32
  let v363 : BitVec 32 := Scalar.subi v47 c128_i32_210
  let v364 : BitVec 32 := Scalar.minsi c1920_i32_211 v363
  let v365 : BitVec 32 := Scalar.maxsi c0_i32_212 v364
  let v366 : BitVec 32 := Scalar.addi v362 v365
  let c8_i32_213 : BitVec 32 := 8#32
  let v367 : BitVec 32 := Scalar.muli v366 c8_i32_213
  let v368 : BitVec 32 := v367
  let c0_i32_218 : BitVec 32 := 0#32
  ![v368.toNat, 0]

def k0_chk1_0 (d0 : Dev nD) (v17 : BitVec 32) : Prop :=
  (∀ (k0_h1 : k0_cond1 d0 v17 = 1#1), 8 ∣ (k0_mult1 d0 v17).toNat) ∧
  (∀ (k0_h1 : k0_cond1 d0 v17 = 1#1), 8 ∣ (k0_mult2 d0 v17).toNat) ∧
  (∀ (k0_h1 : k0_cond1 d0 v17 = 1#1), ∀ a, (k0_off1 d0 v17) a + S1024x128.size a ≤ S32768x128.size a) ∧
  (∀ (k0_h1 : k0_cond1 d0 v17 = 1#1), ∀ a, (k0_off2 d0 v17) a + S1024x128.size a ≤ S32768x128.size a) ∧
  (∀ (k0_h1 : k0_cond1 d0 v17 = 1#1), ∀ (hinb : ∀ a, (k0_off2 d0 v17) a + S1024x128.size a ≤ S32768x128.size a), (Rect.unit (s := S32768x128) (k0_off2 d0 v17) S1024x128.size hinb).WholeWords (EltTy.packing .bf16)) ∧
  (∀ (k0_h1 : k0_cond1 d0 v17 = 1#1), ∀ (hinb : ∀ a, (k0_off1 d0 v17) a + S1024x128.size a ≤ S32768x128.size a), (Rect.unit (s := S32768x128) (k0_off1 d0 v17) S1024x128.size hinb).WholeWords (EltTy.packing .bf16)) ∧
  (∀ (k0_h2 : k0_cond2 d0 v17 = 1#1), 8 ∣ (k0_mult3 d0 v17).toNat) ∧
  (∀ (k0_h2 : k0_cond2 d0 v17 = 1#1), 8 ∣ (k0_mult4 d0 v17).toNat) ∧
  (∀ (k0_h2 : k0_cond2 d0 v17 = 1#1), ∀ a, (k0_off3 d0 v17) a + S1024x128.size a ≤ S32768x128.size a) ∧
  (∀ (k0_h2 : k0_cond2 d0 v17 = 1#1), ∀ a, (k0_off4 d0 v17) a + S1024x128.size a ≤ S32768x128.size a) ∧
  (∀ (k0_h2 : k0_cond2 d0 v17 = 1#1), ∀ (hinb : ∀ a, (k0_off4 d0 v17) a + S1024x128.size a ≤ S32768x128.size a), (Rect.unit (s := S32768x128) (k0_off4 d0 v17) S1024x128.size hinb).WholeWords (EltTy.packing .bf16)) ∧
  (∀ (k0_h2 : k0_cond2 d0 v17 = 1#1), ∀ (hinb : ∀ a, (k0_off3 d0 v17) a + S1024x128.size a ≤ S32768x128.size a), (Rect.unit (s := S32768x128) (k0_off3 d0 v17) S1024x128.size hinb).WholeWords (EltTy.packing .bf16)) ∧
  (∀ (k0_h3 : k0_cond3 d0 v17 = 1#1), 8 ∣ (k0_mult5 d0 v17).toNat) ∧
  (∀ (k0_h3 : k0_cond3 d0 v17 = 1#1), 8 ∣ (k0_mult6 d0 v17).toNat) ∧
  (∀ (k0_h3 : k0_cond3 d0 v17 = 1#1), ∀ a, (k0_off5 d0 v17) a + S1024x128.size a ≤ S32768x128.size a) ∧
  (∀ (k0_h3 : k0_cond3 d0 v17 = 1#1), ∀ a, (k0_off6 d0 v17) a + S1024x128.size a ≤ S32768x128.size a) ∧
  (∀ (k0_h3 : k0_cond3 d0 v17 = 1#1), ∀ (hinb : ∀ a, (k0_off6 d0 v17) a + S1024x128.size a ≤ S32768x128.size a), (Rect.unit (s := S32768x128) (k0_off6 d0 v17) S1024x128.size hinb).WholeWords (EltTy.packing .bf16)) ∧
  (∀ (k0_h3 : k0_cond3 d0 v17 = 1#1), ∀ (hinb : ∀ a, (k0_off5 d0 v17) a + S1024x128.size a ≤ S32768x128.size a), (Rect.unit (s := S32768x128) (k0_off5 d0 v17) S1024x128.size hinb).WholeWords (EltTy.packing .bf16)) ∧
  (∀ (k0_h4 : k0_cond4 d0 v17 = 1#1), 8 ∣ (k0_mult7 d0 v17).toNat) ∧
  (∀ (k0_h4 : k0_cond4 d0 v17 = 1#1), 8 ∣ (k0_mult8 d0 v17).toNat) ∧
  (∀ (k0_h4 : k0_cond4 d0 v17 = 1#1), ∀ a, (k0_off7 d0 v17) a + S1024x128.size a ≤ S32768x128.size a) ∧
  (∀ (k0_h4 : k0_cond4 d0 v17 = 1#1), ∀ a, (k0_off8 d0 v17) a + S1024x128.size a ≤ S32768x128.size a) ∧
  (∀ (k0_h4 : k0_cond4 d0 v17 = 1#1), ∀ (hinb : ∀ a, (k0_off8 d0 v17) a + S1024x128.size a ≤ S32768x128.size a), (Rect.unit (s := S32768x128) (k0_off8 d0 v17) S1024x128.size hinb).WholeWords (EltTy.packing .bf16)) ∧
  (∀ (k0_h4 : k0_cond4 d0 v17 = 1#1), ∀ (hinb : ∀ a, (k0_off7 d0 v17) a + S1024x128.size a ≤ S32768x128.size a), (Rect.unit (s := S32768x128) (k0_off7 d0 v17) S1024x128.size hinb).WholeWords (EltTy.packing .bf16)) ∧
  (∀ (k0_h5 : k0_cond5 d0 v17 = 1#1), 8 ∣ (k0_mult9 d0 v17).toNat) ∧
  (∀ (k0_h5 : k0_cond5 d0 v17 = 1#1), 8 ∣ (k0_mult10 d0 v17).toNat) ∧
  (∀ (k0_h5 : k0_cond5 d0 v17 = 1#1), ∀ a, (k0_off9 d0 v17) a + S1024x128.size a ≤ S32768x128.size a) ∧
  (∀ (k0_h5 : k0_cond5 d0 v17 = 1#1), ∀ a, (k0_off10 d0 v17) a + S1024x128.size a ≤ S32768x128.size a) ∧
  (∀ (k0_h5 : k0_cond5 d0 v17 = 1#1), ∀ (hinb : ∀ a, (k0_off10 d0 v17) a + S1024x128.size a ≤ S32768x128.size a), (Rect.unit (s := S32768x128) (k0_off10 d0 v17) S1024x128.size hinb).WholeWords (EltTy.packing .bf16)) ∧
  (∀ (k0_h5 : k0_cond5 d0 v17 = 1#1), ∀ (hinb : ∀ a, (k0_off9 d0 v17) a + S1024x128.size a ≤ S32768x128.size a), (Rect.unit (s := S32768x128) (k0_off9 d0 v17) S1024x128.size hinb).WholeWords (EltTy.packing .bf16)) ∧
  (∀ (k0_h6 : k0_cond6 d0 v17 = 1#1), 8 ∣ (k0_mult11 d0 v17).toNat) ∧
  (∀ (k0_h6 : k0_cond6 d0 v17 = 1#1), 8 ∣ (k0_mult12 d0 v17).toNat)
def k0_chk1_1 (d0 : Dev nD) (v17 : BitVec 32) : Prop :=
  (∀ (k0_h6 : k0_cond6 d0 v17 = 1#1), ∀ a, (k0_off11 d0 v17) a + S1024x128.size a ≤ S32768x128.size a) ∧
  (∀ (k0_h6 : k0_cond6 d0 v17 = 1#1), ∀ a, (k0_off12 d0 v17) a + S1024x128.size a ≤ S32768x128.size a) ∧
  (∀ (k0_h6 : k0_cond6 d0 v17 = 1#1), ∀ (hinb : ∀ a, (k0_off12 d0 v17) a + S1024x128.size a ≤ S32768x128.size a), (Rect.unit (s := S32768x128) (k0_off12 d0 v17) S1024x128.size hinb).WholeWords (EltTy.packing .bf16)) ∧
  (∀ (k0_h6 : k0_cond6 d0 v17 = 1#1), ∀ (hinb : ∀ a, (k0_off11 d0 v17) a + S1024x128.size a ≤ S32768x128.size a), (Rect.unit (s := S32768x128) (k0_off11 d0 v17) S1024x128.size hinb).WholeWords (EltTy.packing .bf16)) ∧
  (∀ (k0_h7 : k0_cond7 d0 v17 = 1#1), 8 ∣ (k0_mult13 d0 v17).toNat) ∧
  (∀ (k0_h7 : k0_cond7 d0 v17 = 1#1), 8 ∣ (k0_mult14 d0 v17).toNat) ∧
  (∀ (k0_h7 : k0_cond7 d0 v17 = 1#1), ∀ a, (k0_off13 d0 v17) a + S1024x128.size a ≤ S32768x128.size a) ∧
  (∀ (k0_h7 : k0_cond7 d0 v17 = 1#1), ∀ a, (k0_off14 d0 v17) a + S1024x128.size a ≤ S32768x128.size a) ∧
  (∀ (k0_h7 : k0_cond7 d0 v17 = 1#1), ∀ (hinb : ∀ a, (k0_off14 d0 v17) a + S1024x128.size a ≤ S32768x128.size a), (Rect.unit (s := S32768x128) (k0_off14 d0 v17) S1024x128.size hinb).WholeWords (EltTy.packing .bf16)) ∧
  (∀ (k0_h7 : k0_cond7 d0 v17 = 1#1), ∀ (hinb : ∀ a, (k0_off13 d0 v17) a + S1024x128.size a ≤ S32768x128.size a), (Rect.unit (s := S32768x128) (k0_off13 d0 v17) S1024x128.size hinb).WholeWords (EltTy.packing .bf16)) ∧
  (∀ (k0_h8 : k0_cond8 d0 v17 = 1#1), 8 ∣ (k0_mult15 d0 v17).toNat) ∧
  (∀ (k0_h8 : k0_cond8 d0 v17 = 1#1), 8 ∣ (k0_mult16 d0 v17).toNat) ∧
  (∀ (k0_h8 : k0_cond8 d0 v17 = 1#1), ∀ a, (k0_off15 d0 v17) a + S1024x128.size a ≤ S32768x128.size a) ∧
  (∀ (k0_h8 : k0_cond8 d0 v17 = 1#1), ∀ a, (k0_off16 d0 v17) a + S1024x128.size a ≤ S32768x128.size a) ∧
  (∀ (k0_h8 : k0_cond8 d0 v17 = 1#1), ∀ (hinb : ∀ a, (k0_off16 d0 v17) a + S1024x128.size a ≤ S32768x128.size a), (Rect.unit (s := S32768x128) (k0_off16 d0 v17) S1024x128.size hinb).WholeWords (EltTy.packing .bf16)) ∧
  (∀ (k0_h8 : k0_cond8 d0 v17 = 1#1), ∀ (hinb : ∀ a, (k0_off15 d0 v17) a + S1024x128.size a ≤ S32768x128.size a), (Rect.unit (s := S32768x128) (k0_off15 d0 v17) S1024x128.size hinb).WholeWords (EltTy.packing .bf16)) ∧
  (∀ (k0_h9 : k0_cond9 d0 v17 = 1#1), 8 ∣ (k0_mult17 d0 v17).toNat) ∧
  (∀ (k0_h9 : k0_cond9 d0 v17 = 1#1), 8 ∣ (k0_mult18 d0 v17).toNat) ∧
  (∀ (k0_h9 : k0_cond9 d0 v17 = 1#1), ∀ a, (k0_off17 d0 v17) a + S1024x128.size a ≤ S32768x128.size a) ∧
  (∀ (k0_h9 : k0_cond9 d0 v17 = 1#1), ∀ a, (k0_off18 d0 v17) a + S1024x128.size a ≤ S32768x128.size a) ∧
  (∀ (k0_h9 : k0_cond9 d0 v17 = 1#1), ∀ (hinb : ∀ a, (k0_off18 d0 v17) a + S1024x128.size a ≤ S32768x128.size a), (Rect.unit (s := S32768x128) (k0_off18 d0 v17) S1024x128.size hinb).WholeWords (EltTy.packing .bf16)) ∧
  (∀ (k0_h9 : k0_cond9 d0 v17 = 1#1), ∀ (hinb : ∀ a, (k0_off17 d0 v17) a + S1024x128.size a ≤ S32768x128.size a), (Rect.unit (s := S32768x128) (k0_off17 d0 v17) S1024x128.size hinb).WholeWords (EltTy.packing .bf16)) ∧
  (∀ (k0_h10 : k0_cond10 d0 v17 = 1#1), 8 ∣ (k0_mult19 d0 v17).toNat) ∧
  (∀ (k0_h10 : k0_cond10 d0 v17 = 1#1), 8 ∣ (k0_mult20 d0 v17).toNat) ∧
  (∀ (k0_h10 : k0_cond10 d0 v17 = 1#1), ∀ a, (k0_off19 d0 v17) a + S1024x128.size a ≤ S32768x128.size a) ∧
  (∀ (k0_h10 : k0_cond10 d0 v17 = 1#1), ∀ a, (k0_off20 d0 v17) a + S1024x128.size a ≤ S32768x128.size a) ∧
  (∀ (k0_h10 : k0_cond10 d0 v17 = 1#1), ∀ (hinb : ∀ a, (k0_off20 d0 v17) a + S1024x128.size a ≤ S32768x128.size a), (Rect.unit (s := S32768x128) (k0_off20 d0 v17) S1024x128.size hinb).WholeWords (EltTy.packing .bf16)) ∧
  (∀ (k0_h10 : k0_cond10 d0 v17 = 1#1), ∀ (hinb : ∀ a, (k0_off19 d0 v17) a + S1024x128.size a ≤ S32768x128.size a), (Rect.unit (s := S32768x128) (k0_off19 d0 v17) S1024x128.size hinb).WholeWords (EltTy.packing .bf16)) ∧
  (∀ (k0_h11 : k0_cond11 d0 v17 = 1#1), 8 ∣ (k0_mult21 d0 v17).toNat) ∧
  (∀ (k0_h11 : k0_cond11 d0 v17 = 1#1), 8 ∣ (k0_mult22 d0 v17).toNat) ∧
  (∀ (k0_h11 : k0_cond11 d0 v17 = 1#1), ∀ a, (k0_off21 d0 v17) a + S1024x128.size a ≤ S32768x128.size a) ∧
  (∀ (k0_h11 : k0_cond11 d0 v17 = 1#1), ∀ a, (k0_off22 d0 v17) a + S1024x128.size a ≤ S32768x128.size a)
def k0_chk1_2 (d0 : Dev nD) (v17 : BitVec 32) : Prop :=
  (∀ (k0_h11 : k0_cond11 d0 v17 = 1#1), ∀ (hinb : ∀ a, (k0_off22 d0 v17) a + S1024x128.size a ≤ S32768x128.size a), (Rect.unit (s := S32768x128) (k0_off22 d0 v17) S1024x128.size hinb).WholeWords (EltTy.packing .bf16)) ∧
  (∀ (k0_h11 : k0_cond11 d0 v17 = 1#1), ∀ (hinb : ∀ a, (k0_off21 d0 v17) a + S1024x128.size a ≤ S32768x128.size a), (Rect.unit (s := S32768x128) (k0_off21 d0 v17) S1024x128.size hinb).WholeWords (EltTy.packing .bf16)) ∧
  (∀ (k0_h12 : k0_cond12 d0 v17 = 1#1), 8 ∣ (k0_mult23 d0 v17).toNat) ∧
  (∀ (k0_h12 : k0_cond12 d0 v17 = 1#1), 8 ∣ (k0_mult24 d0 v17).toNat) ∧
  (∀ (k0_h12 : k0_cond12 d0 v17 = 1#1), ∀ a, (k0_off23 d0 v17) a + S1024x128.size a ≤ S32768x128.size a) ∧
  (∀ (k0_h12 : k0_cond12 d0 v17 = 1#1), ∀ a, (k0_off24 d0 v17) a + S1024x128.size a ≤ S32768x128.size a) ∧
  (∀ (k0_h12 : k0_cond12 d0 v17 = 1#1), ∀ (hinb : ∀ a, (k0_off24 d0 v17) a + S1024x128.size a ≤ S32768x128.size a), (Rect.unit (s := S32768x128) (k0_off24 d0 v17) S1024x128.size hinb).WholeWords (EltTy.packing .bf16)) ∧
  (∀ (k0_h12 : k0_cond12 d0 v17 = 1#1), ∀ (hinb : ∀ a, (k0_off23 d0 v17) a + S1024x128.size a ≤ S32768x128.size a), (Rect.unit (s := S32768x128) (k0_off23 d0 v17) S1024x128.size hinb).WholeWords (EltTy.packing .bf16)) ∧
  (∀ (k0_h13 : k0_cond13 d0 v17 = 1#1), 8 ∣ (k0_mult25 d0 v17).toNat) ∧
  (∀ (k0_h13 : k0_cond13 d0 v17 = 1#1), 8 ∣ (k0_mult26 d0 v17).toNat) ∧
  (∀ (k0_h13 : k0_cond13 d0 v17 = 1#1), ∀ a, (k0_off25 d0 v17) a + S1024x128.size a ≤ S32768x128.size a) ∧
  (∀ (k0_h13 : k0_cond13 d0 v17 = 1#1), ∀ a, (k0_off26 d0 v17) a + S1024x128.size a ≤ S32768x128.size a) ∧
  (∀ (k0_h13 : k0_cond13 d0 v17 = 1#1), ∀ (hinb : ∀ a, (k0_off26 d0 v17) a + S1024x128.size a ≤ S32768x128.size a), (Rect.unit (s := S32768x128) (k0_off26 d0 v17) S1024x128.size hinb).WholeWords (EltTy.packing .bf16)) ∧
  (∀ (k0_h13 : k0_cond13 d0 v17 = 1#1), ∀ (hinb : ∀ a, (k0_off25 d0 v17) a + S1024x128.size a ≤ S32768x128.size a), (Rect.unit (s := S32768x128) (k0_off25 d0 v17) S1024x128.size hinb).WholeWords (EltTy.packing .bf16)) ∧
  (∀ (k0_h14 : k0_cond14 d0 v17 = 1#1), 8 ∣ (k0_mult27 d0 v17).toNat) ∧
  (∀ (k0_h14 : k0_cond14 d0 v17 = 1#1), 8 ∣ (k0_mult28 d0 v17).toNat) ∧
  (∀ (k0_h14 : k0_cond14 d0 v17 = 1#1), ∀ a, (k0_off27 d0 v17) a + S1024x128.size a ≤ S32768x128.size a) ∧
  (∀ (k0_h14 : k0_cond14 d0 v17 = 1#1), ∀ a, (k0_off28 d0 v17) a + S1024x128.size a ≤ S32768x128.size a) ∧
  (∀ (k0_h14 : k0_cond14 d0 v17 = 1#1), ∀ (hinb : ∀ a, (k0_off28 d0 v17) a + S1024x128.size a ≤ S32768x128.size a), (Rect.unit (s := S32768x128) (k0_off28 d0 v17) S1024x128.size hinb).WholeWords (EltTy.packing .bf16)) ∧
  (∀ (k0_h14 : k0_cond14 d0 v17 = 1#1), ∀ (hinb : ∀ a, (k0_off27 d0 v17) a + S1024x128.size a ≤ S32768x128.size a), (Rect.unit (s := S32768x128) (k0_off27 d0 v17) S1024x128.size hinb).WholeWords (EltTy.packing .bf16)) ∧
  (∀ (k0_h15 : k0_cond15 d0 v17 = 1#1), 8 ∣ (k0_mult29 d0 v17).toNat) ∧
  (∀ (k0_h15 : k0_cond15 d0 v17 = 1#1), 8 ∣ (k0_mult30 d0 v17).toNat) ∧
  (∀ (k0_h15 : k0_cond15 d0 v17 = 1#1), ∀ a, (k0_off29 d0 v17) a + S1024x128.size a ≤ S32768x128.size a) ∧
  (∀ (k0_h15 : k0_cond15 d0 v17 = 1#1), ∀ a, (k0_off30 d0 v17) a + S1024x128.size a ≤ S32768x128.size a) ∧
  (∀ (k0_h15 : k0_cond15 d0 v17 = 1#1), ∀ (hinb : ∀ a, (k0_off30 d0 v17) a + S1024x128.size a ≤ S32768x128.size a), (Rect.unit (s := S32768x128) (k0_off30 d0 v17) S1024x128.size hinb).WholeWords (EltTy.packing .bf16)) ∧
  (∀ (k0_h15 : k0_cond15 d0 v17 = 1#1), ∀ (hinb : ∀ a, (k0_off29 d0 v17) a + S1024x128.size a ≤ S32768x128.size a), (Rect.unit (s := S32768x128) (k0_off29 d0 v17) S1024x128.size hinb).WholeWords (EltTy.packing .bf16)) ∧
  (∀ (k0_h16 : k0_cond16 d0 v17 = 1#1), 8 ∣ (k0_mult31 d0 v17).toNat) ∧
  (∀ (k0_h16 : k0_cond16 d0 v17 = 1#1), 8 ∣ (k0_mult32 d0 v17).toNat) ∧
  (∀ (k0_h16 : k0_cond16 d0 v17 = 1#1), ∀ a, (k0_off31 d0 v17) a + S1024x128.size a ≤ S32768x128.size a) ∧
  (∀ (k0_h16 : k0_cond16 d0 v17 = 1#1), ∀ a, (k0_off32 d0 v17) a + S1024x128.size a ≤ S32768x128.size a) ∧
  (∀ (k0_h16 : k0_cond16 d0 v17 = 1#1), ∀ (hinb : ∀ a, (k0_off32 d0 v17) a + S1024x128.size a ≤ S32768x128.size a), (Rect.unit (s := S32768x128) (k0_off32 d0 v17) S1024x128.size hinb).WholeWords (EltTy.packing .bf16)) ∧
  (∀ (k0_h16 : k0_cond16 d0 v17 = 1#1), ∀ (hinb : ∀ a, (k0_off31 d0 v17) a + S1024x128.size a ≤ S32768x128.size a), (Rect.unit (s := S32768x128) (k0_off31 d0 v17) S1024x128.size hinb).WholeWords (EltTy.packing .bf16))
def k0_chk1_3 (d0 : Dev nD) (v17 : BitVec 32) : Prop :=
  (∀ (k0_h17 : k0_cond17 d0 v17 = 1#1), 8 ∣ (k0_mult33 d0 v17).toNat) ∧
  (∀ (k0_h17 : k0_cond17 d0 v17 = 1#1), 8 ∣ (k0_mult34 d0 v17).toNat) ∧
  (∀ (k0_h17 : k0_cond17 d0 v17 = 1#1), ∀ a, (k0_off33 d0 v17) a + S4096x128.size a ≤ S32768x128.size a) ∧
  (∀ (k0_h17 : k0_cond17 d0 v17 = 1#1), ∀ a, (k0_off34 d0 v17) a + S4096x128.size a ≤ S32768x128.size a) ∧
  (∀ (k0_h17 : k0_cond17 d0 v17 = 1#1), ∀ (hinb : ∀ a, (k0_off34 d0 v17) a + S4096x128.size a ≤ S32768x128.size a), (Rect.unit (s := S32768x128) (k0_off34 d0 v17) S4096x128.size hinb).WholeWords (EltTy.packing .bf16)) ∧
  (∀ (k0_h17 : k0_cond17 d0 v17 = 1#1), ∀ (hinb : ∀ a, (k0_off33 d0 v17) a + S4096x128.size a ≤ S32768x128.size a), (Rect.unit (s := S32768x128) (k0_off33 d0 v17) S4096x128.size hinb).WholeWords (EltTy.packing .bf16)) ∧
  (∀ (k0_h18 : k0_cond18 d0 v17 = 1#1), 8 ∣ (k0_mult35 d0 v17).toNat) ∧
  (∀ (k0_h18 : k0_cond18 d0 v17 = 1#1), 8 ∣ (k0_mult36 d0 v17).toNat) ∧
  (∀ (k0_h18 : k0_cond18 d0 v17 = 1#1), ∀ a, (k0_off35 d0 v17) a + S4096x128.size a ≤ S32768x128.size a) ∧
  (∀ (k0_h18 : k0_cond18 d0 v17 = 1#1), ∀ a, (k0_off36 d0 v17) a + S4096x128.size a ≤ S32768x128.size a) ∧
  (∀ (k0_h18 : k0_cond18 d0 v17 = 1#1), ∀ (hinb : ∀ a, (k0_off36 d0 v17) a + S4096x128.size a ≤ S32768x128.size a), (Rect.unit (s := S32768x128) (k0_off36 d0 v17) S4096x128.size hinb).WholeWords (EltTy.packing .bf16)) ∧
  (∀ (k0_h18 : k0_cond18 d0 v17 = 1#1), ∀ (hinb : ∀ a, (k0_off35 d0 v17) a + S4096x128.size a ≤ S32768x128.size a), (Rect.unit (s := S32768x128) (k0_off35 d0 v17) S4096x128.size hinb).WholeWords (EltTy.packing .bf16)) ∧
  (∀ (k0_h19 : k0_cond19 d0 v17 = 1#1), 8 ∣ (k0_mult37 d0 v17).toNat) ∧
  (∀ (k0_h19 : k0_cond19 d0 v17 = 1#1), 8 ∣ (k0_mult38 d0 v17).toNat) ∧
  (∀ (k0_h19 : k0_cond19 d0 v17 = 1#1), ∀ a, (k0_off37 d0 v17) a + S4096x128.size a ≤ S32768x128.size a) ∧
  (∀ (k0_h19 : k0_cond19 d0 v17 = 1#1), ∀ a, (k0_off38 d0 v17) a + S4096x128.size a ≤ S32768x128.size a) ∧
  (∀ (k0_h19 : k0_cond19 d0 v17 = 1#1), ∀ (hinb : ∀ a, (k0_off38 d0 v17) a + S4096x128.size a ≤ S32768x128.size a), (Rect.unit (s := S32768x128) (k0_off38 d0 v17) S4096x128.size hinb).WholeWords (EltTy.packing .bf16)) ∧
  (∀ (k0_h19 : k0_cond19 d0 v17 = 1#1), ∀ (hinb : ∀ a, (k0_off37 d0 v17) a + S4096x128.size a ≤ S32768x128.size a), (Rect.unit (s := S32768x128) (k0_off37 d0 v17) S4096x128.size hinb).WholeWords (EltTy.packing .bf16)) ∧
  (∀ (k0_h20 : k0_cond20 d0 v17 = 1#1), 8 ∣ (k0_mult39 d0 v17).toNat) ∧
  (∀ (k0_h20 : k0_cond20 d0 v17 = 1#1), 8 ∣ (k0_mult40 d0 v17).toNat) ∧
  (∀ (k0_h20 : k0_cond20 d0 v17 = 1#1), ∀ a, (k0_off39 d0 v17) a + S4096x128.size a ≤ S32768x128.size a) ∧
  (∀ (k0_h20 : k0_cond20 d0 v17 = 1#1), ∀ a, (k0_off40 d0 v17) a + S4096x128.size a ≤ S32768x128.size a) ∧
  (∀ (k0_h20 : k0_cond20 d0 v17 = 1#1), ∀ (hinb : ∀ a, (k0_off40 d0 v17) a + S4096x128.size a ≤ S32768x128.size a), (Rect.unit (s := S32768x128) (k0_off40 d0 v17) S4096x128.size hinb).WholeWords (EltTy.packing .bf16)) ∧
  (∀ (k0_h20 : k0_cond20 d0 v17 = 1#1), ∀ (hinb : ∀ a, (k0_off39 d0 v17) a + S4096x128.size a ≤ S32768x128.size a), (Rect.unit (s := S32768x128) (k0_off39 d0 v17) S4096x128.size hinb).WholeWords (EltTy.packing .bf16)) ∧
  (∀ (k0_h21 : k0_cond21 d0 v17 = 1#1), 8 ∣ (k0_mult41 d0 v17).toNat) ∧
  (∀ (k0_h21 : k0_cond21 d0 v17 = 1#1), 8 ∣ (k0_mult42 d0 v17).toNat) ∧
  (∀ (k0_h21 : k0_cond21 d0 v17 = 1#1), ∀ a, (k0_off41 d0 v17) a + S4096x128.size a ≤ S32768x128.size a) ∧
  (∀ (k0_h21 : k0_cond21 d0 v17 = 1#1), ∀ a, (k0_off42 d0 v17) a + S4096x128.size a ≤ S32768x128.size a) ∧
  (∀ (k0_h21 : k0_cond21 d0 v17 = 1#1), ∀ (hinb : ∀ a, (k0_off42 d0 v17) a + S4096x128.size a ≤ S32768x128.size a), (Rect.unit (s := S32768x128) (k0_off42 d0 v17) S4096x128.size hinb).WholeWords (EltTy.packing .bf16)) ∧
  (∀ (k0_h21 : k0_cond21 d0 v17 = 1#1), ∀ (hinb : ∀ a, (k0_off41 d0 v17) a + S4096x128.size a ≤ S32768x128.size a), (Rect.unit (s := S32768x128) (k0_off41 d0 v17) S4096x128.size hinb).WholeWords (EltTy.packing .bf16)) ∧
  (∀ (k0_h22 : k0_cond22 d0 v17 = 1#1), 8 ∣ (k0_mult43 d0 v17).toNat) ∧
  (∀ (k0_h22 : k0_cond22 d0 v17 = 1#1), 8 ∣ (k0_mult44 d0 v17).toNat)
def k0_chk1_4 (d0 : Dev nD) (v17 : BitVec 32) : Prop :=
  (∀ (k0_h22 : k0_cond22 d0 v17 = 1#1), ∀ a, (k0_off43 d0 v17) a + S4096x128.size a ≤ S32768x128.size a) ∧
  (∀ (k0_h22 : k0_cond22 d0 v17 = 1#1), ∀ a, (k0_off44 d0 v17) a + S4096x128.size a ≤ S32768x128.size a) ∧
  (∀ (k0_h22 : k0_cond22 d0 v17 = 1#1), ∀ (hinb : ∀ a, (k0_off44 d0 v17) a + S4096x128.size a ≤ S32768x128.size a), (Rect.unit (s := S32768x128) (k0_off44 d0 v17) S4096x128.size hinb).WholeWords (EltTy.packing .bf16)) ∧
  (∀ (k0_h22 : k0_cond22 d0 v17 = 1#1), ∀ (hinb : ∀ a, (k0_off43 d0 v17) a + S4096x128.size a ≤ S32768x128.size a), (Rect.unit (s := S32768x128) (k0_off43 d0 v17) S4096x128.size hinb).WholeWords (EltTy.packing .bf16)) ∧
  (∀ (k0_h23 : k0_cond23 d0 v17 = 1#1), 8 ∣ (k0_mult45 d0 v17).toNat) ∧
  (∀ (k0_h23 : k0_cond23 d0 v17 = 1#1), 8 ∣ (k0_mult46 d0 v17).toNat) ∧
  (∀ (k0_h23 : k0_cond23 d0 v17 = 1#1), ∀ a, (k0_off45 d0 v17) a + S4096x128.size a ≤ S32768x128.size a) ∧
  (∀ (k0_h23 : k0_cond23 d0 v17 = 1#1), ∀ a, (k0_off46 d0 v17) a + S4096x128.size a ≤ S32768x128.size a) ∧
  (∀ (k0_h23 : k0_cond23 d0 v17 = 1#1), ∀ (hinb : ∀ a, (k0_off46 d0 v17) a + S4096x128.size a ≤ S32768x128.size a), (Rect.unit (s := S32768x128) (k0_off46 d0 v17) S4096x128.size hinb).WholeWords (EltTy.packing .bf16)) ∧
  (∀ (k0_h23 : k0_cond23 d0 v17 = 1#1), ∀ (hinb : ∀ a, (k0_off45 d0 v17) a + S4096x128.size a ≤ S32768x128.size a), (Rect.unit (s := S32768x128) (k0_off45 d0 v17) S4096x128.size hinb).WholeWords (EltTy.packing .bf16)) ∧
  (∀ (k0_h24 : k0_cond24 d0 v17 = 1#1), 8 ∣ (k0_mult47 d0 v17).toNat) ∧
  (∀ (k0_h24 : k0_cond24 d0 v17 = 1#1), 8 ∣ (k0_mult48 d0 v17).toNat) ∧
  (∀ (k0_h24 : k0_cond24 d0 v17 = 1#1), ∀ a, (k0_off47 d0 v17) a + S4096x128.size a ≤ S32768x128.size a) ∧
  (∀ (k0_h24 : k0_cond24 d0 v17 = 1#1), ∀ a, (k0_off48 d0 v17) a + S4096x128.size a ≤ S32768x128.size a) ∧
  (∀ (k0_h24 : k0_cond24 d0 v17 = 1#1), ∀ (hinb : ∀ a, (k0_off48 d0 v17) a + S4096x128.size a ≤ S32768x128.size a), (Rect.unit (s := S32768x128) (k0_off48 d0 v17) S4096x128.size hinb).WholeWords (EltTy.packing .bf16)) ∧
  (∀ (k0_h24 : k0_cond24 d0 v17 = 1#1), ∀ (hinb : ∀ a, (k0_off47 d0 v17) a + S4096x128.size a ≤ S32768x128.size a), (Rect.unit (s := S32768x128) (k0_off47 d0 v17) S4096x128.size hinb).WholeWords (EltTy.packing .bf16)) ∧
  (∀ (k0_h25 : k0_cond25 d0 v17 = 1#1), 8 ∣ (k0_mult49 d0 v17).toNat) ∧
  (∀ (k0_h25 : k0_cond25 d0 v17 = 1#1), 8 ∣ (k0_mult50 d0 v17).toNat) ∧
  (∀ (k0_h25 : k0_cond25 d0 v17 = 1#1), ∀ a, (k0_off49 d0 v17) a + S1024x128.size a ≤ S32768x128.size a) ∧
  (∀ (k0_h25 : k0_cond25 d0 v17 = 1#1), ∀ a, (k0_off50 d0 v17) a + S1024x128.size a ≤ S32768x128.size a) ∧
  (∀ (k0_h25 : k0_cond25 d0 v17 = 1#1), ∀ (hinb : ∀ a, (k0_off50 d0 v17) a + S1024x128.size a ≤ S32768x128.size a), (Rect.unit (s := S32768x128) (k0_off50 d0 v17) S1024x128.size hinb).WholeWords (EltTy.packing .bf16)) ∧
  (∀ (k0_h25 : k0_cond25 d0 v17 = 1#1), ∀ (hinb : ∀ a, (k0_off49 d0 v17) a + S1024x128.size a ≤ S32768x128.size a), (Rect.unit (s := S32768x128) (k0_off49 d0 v17) S1024x128.size hinb).WholeWords (EltTy.packing .bf16)) ∧
  (∀ (k0_h25 : k0_cond25 d0 v17 = 1#1), 8 ∣ (k0_mult51 d0 v17).toNat) ∧
  (∀ (k0_h25 : k0_cond25 d0 v17 = 1#1), 8 ∣ (k0_mult52 d0 v17).toNat) ∧
  (∀ (k0_h25 : k0_cond25 d0 v17 = 1#1), ∀ a, (k0_off51 d0 v17) a + S1024x128.size a ≤ S32768x128.size a) ∧
  (∀ (k0_h25 : k0_cond25 d0 v17 = 1#1), ∀ (hinb : ∀ a, (k0_off51 d0 v17) a + S1024x128.size a ≤ S32768x128.size a), (Rect.unit (s := S32768x128) (k0_off51 d0 v17) S1024x128.size hinb).WholeWords (EltTy.packing .bf16)) ∧
  (∀ (k0_h26 : k0_cond26 d0 v17 = 1#1), 8 ∣ (k0_mult53 d0 v17).toNat) ∧
  (∀ (k0_h26 : k0_cond26 d0 v17 = 1#1), 8 ∣ (k0_mult54 d0 v17).toNat) ∧
  (∀ (k0_h26 : k0_cond26 d0 v17 = 1#1), ∀ a, (k0_off52 d0 v17) a + S1024x128.size a ≤ S32768x128.size a) ∧
  (∀ (k0_h26 : k0_cond26 d0 v17 = 1#1), ∀ a, (k0_off53 d0 v17) a + S1024x128.size a ≤ S32768x128.size a) ∧
  (∀ (k0_h26 : k0_cond26 d0 v17 = 1#1), ∀ (hinb : ∀ a, (k0_off53 d0 v17) a + S1024x128.size a ≤ S32768x128.size a), (Rect.unit (s := S32768x128) (k0_off53 d0 v17) S1024x128.size hinb).WholeWords (EltTy.packing .bf16)) ∧
  (∀ (k0_h26 : k0_cond26 d0 v17 = 1#1), ∀ (hinb : ∀ a, (k0_off52 d0 v17) a + S1024x128.size a ≤ S32768x128.size a), (Rect.unit (s := S32768x128) (k0_off52 d0 v17) S1024x128.size hinb).WholeWords (EltTy.packing .bf16))
def k0_chk1_5 (d0 : Dev nD) (v17 : BitVec 32) : Prop :=
  (∀ (k0_h26 : k0_cond26 d0 v17 = 1#1), 8 ∣ (k0_mult55 d0 v17).toNat) ∧
  (∀ (k0_h26 : k0_cond26 d0 v17 = 1#1), 8 ∣ (k0_mult56 d0 v17).toNat) ∧
  (∀ (k0_h26 : k0_cond26 d0 v17 = 1#1), ∀ a, (k0_off54 d0 v17) a + S1024x128.size a ≤ S32768x128.size a) ∧
  (∀ (k0_h26 : k0_cond26 d0 v17 = 1#1), ∀ (hinb : ∀ a, (k0_off54 d0 v17) a + S1024x128.size a ≤ S32768x128.size a), (Rect.unit (s := S32768x128) (k0_off54 d0 v17) S1024x128.size hinb).WholeWords (EltTy.packing .bf16)) ∧
  (∀ (k0_h27 : k0_cond27 d0 v17 = 1#1), 8 ∣ (k0_mult57 d0 v17).toNat) ∧
  (∀ (k0_h27 : k0_cond27 d0 v17 = 1#1), 8 ∣ (k0_mult58 d0 v17).toNat) ∧
  (∀ (k0_h27 : k0_cond27 d0 v17 = 1#1), ∀ a, (k0_off55 d0 v17) a + S1024x128.size a ≤ S32768x128.size a) ∧
  (∀ (k0_h27 : k0_cond27 d0 v17 = 1#1), ∀ a, (k0_off56 d0 v17) a + S1024x128.size a ≤ S32768x128.size a) ∧
  (∀ (k0_h27 : k0_cond27 d0 v17 = 1#1), ∀ (hinb : ∀ a, (k0_off56 d0 v17) a + S1024x128.size a ≤ S32768x128.size a), (Rect.unit (s := S32768x128) (k0_off56 d0 v17) S1024x128.size hinb).WholeWords (EltTy.packing .bf16)) ∧
  (∀ (k0_h27 : k0_cond27 d0 v17 = 1#1), ∀ (hinb : ∀ a, (k0_off55 d0 v17) a + S1024x128.size a ≤ S32768x128.size a), (Rect.unit (s := S32768x128) (k0_off55 d0 v17) S1024x128.size hinb).WholeWords (EltTy.packing .bf16)) ∧
  (∀ (k0_h27 : k0_cond27 d0 v17 = 1#1), 8 ∣ (k0_mult59 d0 v17).toNat) ∧
  (∀ (k0_h27 : k0_cond27 d0 v17 = 1#1), 8 ∣ (k0_mult60 d0 v17).toNat) ∧
  (∀ (k0_h27 : k0_cond27 d0 v17 = 1#1), ∀ a, (k0_off57 d0 v17) a + S1024x128.size a ≤ S32768x128.size a) ∧
  (∀ (k0_h27 : k0_cond27 d0 v17 = 1#1), ∀ (hinb : ∀ a, (k0_off57 d0 v17) a + S1024x128.size a ≤ S32768x128.size a), (Rect.unit (s := S32768x128) (k0_off57 d0 v17) S1024x128.size hinb).WholeWords (EltTy.packing .bf16)) ∧
  (∀ (k0_h28 : k0_cond28 d0 v17 = 1#1), 8 ∣ (k0_mult61 d0 v17).toNat) ∧
  (∀ (k0_h28 : k0_cond28 d0 v17 = 1#1), 8 ∣ (k0_mult62 d0 v17).toNat) ∧
  (∀ (k0_h28 : k0_cond28 d0 v17 = 1#1), ∀ a, (k0_off58 d0 v17) a + S1024x128.size a ≤ S32768x128.size a) ∧
  (∀ (k0_h28 : k0_cond28 d0 v17 = 1#1), ∀ a, (k0_off59 d0 v17) a + S1024x128.size a ≤ S32768x128.size a) ∧
  (∀ (k0_h28 : k0_cond28 d0 v17 = 1#1), ∀ (hinb : ∀ a, (k0_off59 d0 v17) a + S1024x128.size a ≤ S32768x128.size a), (Rect.unit (s := S32768x128) (k0_off59 d0 v17) S1024x128.size hinb).WholeWords (EltTy.packing .bf16)) ∧
  (∀ (k0_h28 : k0_cond28 d0 v17 = 1#1), ∀ (hinb : ∀ a, (k0_off58 d0 v17) a + S1024x128.size a ≤ S32768x128.size a), (Rect.unit (s := S32768x128) (k0_off58 d0 v17) S1024x128.size hinb).WholeWords (EltTy.packing .bf16)) ∧
  (∀ (k0_h28 : k0_cond28 d0 v17 = 1#1), 8 ∣ (k0_mult63 d0 v17).toNat) ∧
  (∀ (k0_h28 : k0_cond28 d0 v17 = 1#1), 8 ∣ (k0_mult64 d0 v17).toNat) ∧
  (∀ (k0_h28 : k0_cond28 d0 v17 = 1#1), ∀ a, (k0_off60 d0 v17) a + S1024x128.size a ≤ S32768x128.size a) ∧
  (∀ (k0_h28 : k0_cond28 d0 v17 = 1#1), ∀ (hinb : ∀ a, (k0_off60 d0 v17) a + S1024x128.size a ≤ S32768x128.size a), (Rect.unit (s := S32768x128) (k0_off60 d0 v17) S1024x128.size hinb).WholeWords (EltTy.packing .bf16)) ∧
  (∀ (k0_h29 : k0_cond29 d0 v17 = 1#1), 8 ∣ (k0_mult65 d0 v17).toNat) ∧
  (∀ (k0_h29 : k0_cond29 d0 v17 = 1#1), 8 ∣ (k0_mult66 d0 v17).toNat) ∧
  (∀ (k0_h29 : k0_cond29 d0 v17 = 1#1), ∀ a, (k0_off61 d0 v17) a + S1024x128.size a ≤ S32768x128.size a) ∧
  (∀ (k0_h29 : k0_cond29 d0 v17 = 1#1), ∀ a, (k0_off62 d0 v17) a + S1024x128.size a ≤ S32768x128.size a) ∧
  (∀ (k0_h29 : k0_cond29 d0 v17 = 1#1), ∀ (hinb : ∀ a, (k0_off62 d0 v17) a + S1024x128.size a ≤ S32768x128.size a), (Rect.unit (s := S32768x128) (k0_off62 d0 v17) S1024x128.size hinb).WholeWords (EltTy.packing .bf16)) ∧
  (∀ (k0_h29 : k0_cond29 d0 v17 = 1#1), ∀ (hinb : ∀ a, (k0_off61 d0 v17) a + S1024x128.size a ≤ S32768x128.size a), (Rect.unit (s := S32768x128) (k0_off61 d0 v17) S1024x128.size hinb).WholeWords (EltTy.packing .bf16)) ∧
  (∀ (k0_h29 : k0_cond29 d0 v17 = 1#1), 8 ∣ (k0_mult67 d0 v17).toNat) ∧
  (∀ (k0_h29 : k0_cond29 d0 v17 = 1#1), 8 ∣ (k0_mult68 d0 v17).toNat)
def k0_chk1_6 (d0 : Dev nD) (v17 : BitVec 32) : Prop :=
  (∀ (k0_h29 : k0_cond29 d0 v17 = 1#1), ∀ a, (k0_off63 d0 v17) a + S1024x128.size a ≤ S32768x128.size a) ∧
  (∀ (k0_h29 : k0_cond29 d0 v17 = 1#1), ∀ (hinb : ∀ a, (k0_off63 d0 v17) a + S1024x128.size a ≤ S32768x128.size a), (Rect.unit (s := S32768x128) (k0_off63 d0 v17) S1024x128.size hinb).WholeWords (EltTy.packing .bf16)) ∧
  (∀ (k0_h30 : k0_cond30 d0 v17 = 1#1), 8 ∣ (k0_mult69 d0 v17).toNat) ∧
  (∀ (k0_h30 : k0_cond30 d0 v17 = 1#1), 8 ∣ (k0_mult70 d0 v17).toNat) ∧
  (∀ (k0_h30 : k0_cond30 d0 v17 = 1#1), ∀ a, (k0_off64 d0 v17) a + S1024x128.size a ≤ S32768x128.size a) ∧
  (∀ (k0_h30 : k0_cond30 d0 v17 = 1#1), ∀ a, (k0_off65 d0 v17) a + S1024x128.size a ≤ S32768x128.size a) ∧
  (∀ (k0_h30 : k0_cond30 d0 v17 = 1#1), ∀ (hinb : ∀ a, (k0_off65 d0 v17) a + S1024x128.size a ≤ S32768x128.size a), (Rect.unit (s := S32768x128) (k0_off65 d0 v17) S1024x128.size hinb).WholeWords (EltTy.packing .bf16)) ∧
  (∀ (k0_h30 : k0_cond30 d0 v17 = 1#1), ∀ (hinb : ∀ a, (k0_off64 d0 v17) a + S1024x128.size a ≤ S32768x128.size a), (Rect.unit (s := S32768x128) (k0_off64 d0 v17) S1024x128.size hinb).WholeWords (EltTy.packing .bf16)) ∧
  (∀ (k0_h30 : k0_cond30 d0 v17 = 1#1), 8 ∣ (k0_mult71 d0 v17).toNat) ∧
  (∀ (k0_h30 : k0_cond30 d0 v17 = 1#1), 8 ∣ (k0_mult72 d0 v17).toNat) ∧
  (∀ (k0_h30 : k0_cond30 d0 v17 = 1#1), ∀ a, (k0_off66 d0 v17) a + S1024x128.size a ≤ S32768x128.size a) ∧
  (∀ (k0_h30 : k0_cond30 d0 v17 = 1#1), ∀ (hinb : ∀ a, (k0_off66 d0 v17) a + S1024x128.size a ≤ S32768x128.size a), (Rect.unit (s := S32768x128) (k0_off66 d0 v17) S1024x128.size hinb).WholeWords (EltTy.packing .bf16)) ∧
  (∀ (k0_h31 : k0_cond31 d0 v17 = 1#1), 8 ∣ (k0_mult73 d0 v17).toNat) ∧
  (∀ (k0_h31 : k0_cond31 d0 v17 = 1#1), 8 ∣ (k0_mult74 d0 v17).toNat) ∧
  (∀ (k0_h31 : k0_cond31 d0 v17 = 1#1), ∀ a, (k0_off67 d0 v17) a + S1024x128.size a ≤ S32768x128.size a) ∧
  (∀ (k0_h31 : k0_cond31 d0 v17 = 1#1), ∀ a, (k0_off68 d0 v17) a + S1024x128.size a ≤ S32768x128.size a) ∧
  (∀ (k0_h31 : k0_cond31 d0 v17 = 1#1), ∀ (hinb : ∀ a, (k0_off68 d0 v17) a + S1024x128.size a ≤ S32768x128.size a), (Rect.unit (s := S32768x128) (k0_off68 d0 v17) S1024x128.size hinb).WholeWords (EltTy.packing .bf16)) ∧
  (∀ (k0_h31 : k0_cond31 d0 v17 = 1#1), ∀ (hinb : ∀ a, (k0_off67 d0 v17) a + S1024x128.size a ≤ S32768x128.size a), (Rect.unit (s := S32768x128) (k0_off67 d0 v17) S1024x128.size hinb).WholeWords (EltTy.packing .bf16)) ∧
  (∀ (k0_h31 : k0_cond31 d0 v17 = 1#1), 8 ∣ (k0_mult75 d0 v17).toNat) ∧
  (∀ (k0_h31 : k0_cond31 d0 v17 = 1#1), 8 ∣ (k0_mult76 d0 v17).toNat) ∧
  (∀ (k0_h31 : k0_cond31 d0 v17 = 1#1), ∀ a, (k0_off69 d0 v17) a + S1024x128.size a ≤ S32768x128.size a) ∧
  (∀ (k0_h31 : k0_cond31 d0 v17 = 1#1), ∀ (hinb : ∀ a, (k0_off69 d0 v17) a + S1024x128.size a ≤ S32768x128.size a), (Rect.unit (s := S32768x128) (k0_off69 d0 v17) S1024x128.size hinb).WholeWords (EltTy.packing .bf16)) ∧
  (∀ (k0_h32 : k0_cond32 d0 v17 = 1#1), 8 ∣ (k0_mult77 d0 v17).toNat) ∧
  (∀ (k0_h32 : k0_cond32 d0 v17 = 1#1), 8 ∣ (k0_mult78 d0 v17).toNat) ∧
  (∀ (k0_h32 : k0_cond32 d0 v17 = 1#1), ∀ a, (k0_off70 d0 v17) a + S1024x128.size a ≤ S32768x128.size a) ∧
  (∀ (k0_h32 : k0_cond32 d0 v17 = 1#1), ∀ a, (k0_off71 d0 v17) a + S1024x128.size a ≤ S32768x128.size a) ∧
  (∀ (k0_h32 : k0_cond32 d0 v17 = 1#1), ∀ (hinb : ∀ a, (k0_off71 d0 v17) a + S1024x128.size a ≤ S32768x128.size a), (Rect.unit (s := S32768x128) (k0_off71 d0 v17) S1024x128.size hinb).WholeWords (EltTy.packing .bf16)) ∧
  (∀ (k0_h32 : k0_cond32 d0 v17 = 1#1), ∀ (hinb : ∀ a, (k0_off70 d0 v17) a + S1024x128.size a ≤ S32768x128.size a), (Rect.unit (s := S32768x128) (k0_off70 d0 v17) S1024x128.size hinb).WholeWords (EltTy.packing .bf16)) ∧
  (∀ (k0_h32 : k0_cond32 d0 v17 = 1#1), 8 ∣ (k0_mult79 d0 v17).toNat) ∧
  (∀ (k0_h32 : k0_cond32 d0 v17 = 1#1), 8 ∣ (k0_mult80 d0 v17).toNat) ∧
  (∀ (k0_h32 : k0_cond32 d0 v17 = 1#1), ∀ a, (k0_off72 d0 v17) a + S1024x128.size a ≤ S32768x128.size a) ∧
  (∀ (k0_h32 : k0_cond32 d0 v17 = 1#1), ∀ (hinb : ∀ a, (k0_off72 d0 v17) a + S1024x128.size a ≤ S32768x128.size a), (Rect.unit (s := S32768x128) (k0_off72 d0 v17) S1024x128.size hinb).WholeWords (EltTy.packing .bf16))
def k0_chk1_7 (d0 : Dev nD) (v17 : BitVec 32) : Prop :=
  (∀ (k0_h33 : k0_cond33 d0 v17 = 1#1), 8 ∣ (k0_mult81 d0 v17).toNat) ∧
  (∀ (k0_h33 : k0_cond33 d0 v17 = 1#1), 8 ∣ (k0_mult82 d0 v17).toNat) ∧
  (∀ (k0_h33 : k0_cond33 d0 v17 = 1#1), ∀ a, (k0_off73 d0 v17) a + S1024x128.size a ≤ S32768x128.size a) ∧
  (∀ (k0_h33 : k0_cond33 d0 v17 = 1#1), ∀ a, (k0_off74 d0 v17) a + S1024x128.size a ≤ S32768x128.size a) ∧
  (∀ (k0_h33 : k0_cond33 d0 v17 = 1#1), ∀ (hinb : ∀ a, (k0_off74 d0 v17) a + S1024x128.size a ≤ S32768x128.size a), (Rect.unit (s := S32768x128) (k0_off74 d0 v17) S1024x128.size hinb).WholeWords (EltTy.packing .bf16)) ∧
  (∀ (k0_h33 : k0_cond33 d0 v17 = 1#1), ∀ (hinb : ∀ a, (k0_off73 d0 v17) a + S1024x128.size a ≤ S32768x128.size a), (Rect.unit (s := S32768x128) (k0_off73 d0 v17) S1024x128.size hinb).WholeWords (EltTy.packing .bf16)) ∧
  (∀ (k0_h33 : k0_cond33 d0 v17 = 1#1), 8 ∣ (k0_mult83 d0 v17).toNat) ∧
  (∀ (k0_h33 : k0_cond33 d0 v17 = 1#1), 8 ∣ (k0_mult84 d0 v17).toNat) ∧
  (∀ (k0_h33 : k0_cond33 d0 v17 = 1#1), ∀ a, (k0_off75 d0 v17) a + S1024x128.size a ≤ S32768x128.size a) ∧
  (∀ (k0_h33 : k0_cond33 d0 v17 = 1#1), ∀ (hinb : ∀ a, (k0_off75 d0 v17) a + S1024x128.size a ≤ S32768x128.size a), (Rect.unit (s := S32768x128) (k0_off75 d0 v17) S1024x128.size hinb).WholeWords (EltTy.packing .bf16)) ∧
  (∀ (k0_h34 : k0_cond34 d0 v17 = 1#1), 8 ∣ (k0_mult85 d0 v17).toNat) ∧
  (∀ (k0_h34 : k0_cond34 d0 v17 = 1#1), 8 ∣ (k0_mult86 d0 v17).toNat) ∧
  (∀ (k0_h34 : k0_cond34 d0 v17 = 1#1), ∀ a, (k0_off76 d0 v17) a + S1024x128.size a ≤ S32768x128.size a) ∧
  (∀ (k0_h34 : k0_cond34 d0 v17 = 1#1), ∀ a, (k0_off77 d0 v17) a + S1024x128.size a ≤ S32768x128.size a) ∧
  (∀ (k0_h34 : k0_cond34 d0 v17 = 1#1), ∀ (hinb : ∀ a, (k0_off77 d0 v17) a + S1024x128.size a ≤ S32768x128.size a), (Rect.unit (s := S32768x128) (k0_off77 d0 v17) S1024x128.size hinb).WholeWords (EltTy.packing .bf16)) ∧
  (∀ (k0_h34 : k0_cond34 d0 v17 = 1#1), ∀ (hinb : ∀ a, (k0_off76 d0 v17) a + S1024x128.size a ≤ S32768x128.size a), (Rect.unit (s := S32768x128) (k0_off76 d0 v17) S1024x128.size hinb).WholeWords (EltTy.packing .bf16)) ∧
  (∀ (k0_h34 : k0_cond34 d0 v17 = 1#1), 8 ∣ (k0_mult87 d0 v17).toNat) ∧
  (∀ (k0_h34 : k0_cond34 d0 v17 = 1#1), 8 ∣ (k0_mult88 d0 v17).toNat) ∧
  (∀ (k0_h34 : k0_cond34 d0 v17 = 1#1), ∀ a, (k0_off78 d0 v17) a + S1024x128.size a ≤ S32768x128.size a) ∧
  (∀ (k0_h34 : k0_cond34 d0 v17 = 1#1), ∀ (hinb : ∀ a, (k0_off78 d0 v17) a + S1024x128.size a ≤ S32768x128.size a), (Rect.unit (s := S32768x128) (k0_off78 d0 v17) S1024x128.size hinb).WholeWords (EltTy.packing .bf16)) ∧
  (∀ (k0_h35 : k0_cond35 d0 v17 = 1#1), 8 ∣ (k0_mult89 d0 v17).toNat) ∧
  (∀ (k0_h35 : k0_cond35 d0 v17 = 1#1), 8 ∣ (k0_mult90 d0 v17).toNat) ∧
  (∀ (k0_h35 : k0_cond35 d0 v17 = 1#1), ∀ a, (k0_off79 d0 v17) a + S1024x128.size a ≤ S32768x128.size a) ∧
  (∀ (k0_h35 : k0_cond35 d0 v17 = 1#1), ∀ a, (k0_off80 d0 v17) a + S1024x128.size a ≤ S32768x128.size a) ∧
  (∀ (k0_h35 : k0_cond35 d0 v17 = 1#1), ∀ (hinb : ∀ a, (k0_off80 d0 v17) a + S1024x128.size a ≤ S32768x128.size a), (Rect.unit (s := S32768x128) (k0_off80 d0 v17) S1024x128.size hinb).WholeWords (EltTy.packing .bf16)) ∧
  (∀ (k0_h35 : k0_cond35 d0 v17 = 1#1), ∀ (hinb : ∀ a, (k0_off79 d0 v17) a + S1024x128.size a ≤ S32768x128.size a), (Rect.unit (s := S32768x128) (k0_off79 d0 v17) S1024x128.size hinb).WholeWords (EltTy.packing .bf16)) ∧
  (∀ (k0_h35 : k0_cond35 d0 v17 = 1#1), 8 ∣ (k0_mult91 d0 v17).toNat) ∧
  (∀ (k0_h35 : k0_cond35 d0 v17 = 1#1), 8 ∣ (k0_mult92 d0 v17).toNat) ∧
  (∀ (k0_h35 : k0_cond35 d0 v17 = 1#1), ∀ a, (k0_off81 d0 v17) a + S1024x128.size a ≤ S32768x128.size a) ∧
  (∀ (k0_h35 : k0_cond35 d0 v17 = 1#1), ∀ (hinb : ∀ a, (k0_off81 d0 v17) a + S1024x128.size a ≤ S32768x128.size a), (Rect.unit (s := S32768x128) (k0_off81 d0 v17) S1024x128.size hinb).WholeWords (EltTy.packing .bf16)) ∧
  (∀ (k0_h36 : k0_cond36 d0 v17 = 1#1), 8 ∣ (k0_mult93 d0 v17).toNat) ∧
  (∀ (k0_h36 : k0_cond36 d0 v17 = 1#1), 8 ∣ (k0_mult94 d0 v17).toNat)
def k0_chk1_8 (d0 : Dev nD) (v17 : BitVec 32) : Prop :=
  (∀ (k0_h36 : k0_cond36 d0 v17 = 1#1), ∀ a, (k0_off82 d0 v17) a + S1024x128.size a ≤ S32768x128.size a) ∧
  (∀ (k0_h36 : k0_cond36 d0 v17 = 1#1), ∀ a, (k0_off83 d0 v17) a + S1024x128.size a ≤ S32768x128.size a) ∧
  (∀ (k0_h36 : k0_cond36 d0 v17 = 1#1), ∀ (hinb : ∀ a, (k0_off83 d0 v17) a + S1024x128.size a ≤ S32768x128.size a), (Rect.unit (s := S32768x128) (k0_off83 d0 v17) S1024x128.size hinb).WholeWords (EltTy.packing .bf16)) ∧
  (∀ (k0_h36 : k0_cond36 d0 v17 = 1#1), ∀ (hinb : ∀ a, (k0_off82 d0 v17) a + S1024x128.size a ≤ S32768x128.size a), (Rect.unit (s := S32768x128) (k0_off82 d0 v17) S1024x128.size hinb).WholeWords (EltTy.packing .bf16)) ∧
  (∀ (k0_h36 : k0_cond36 d0 v17 = 1#1), 8 ∣ (k0_mult95 d0 v17).toNat) ∧
  (∀ (k0_h36 : k0_cond36 d0 v17 = 1#1), 8 ∣ (k0_mult96 d0 v17).toNat) ∧
  (∀ (k0_h36 : k0_cond36 d0 v17 = 1#1), ∀ a, (k0_off84 d0 v17) a + S1024x128.size a ≤ S32768x128.size a) ∧
  (∀ (k0_h36 : k0_cond36 d0 v17 = 1#1), ∀ (hinb : ∀ a, (k0_off84 d0 v17) a + S1024x128.size a ≤ S32768x128.size a), (Rect.unit (s := S32768x128) (k0_off84 d0 v17) S1024x128.size hinb).WholeWords (EltTy.packing .bf16)) ∧
  (∀ (k0_h37 : k0_cond37 d0 v17 = 1#1), 8 ∣ (k0_mult97 d0 v17).toNat) ∧
  (∀ (k0_h37 : k0_cond37 d0 v17 = 1#1), 8 ∣ (k0_mult98 d0 v17).toNat) ∧
  (∀ (k0_h37 : k0_cond37 d0 v17 = 1#1), ∀ a, (k0_off85 d0 v17) a + S1024x128.size a ≤ S32768x128.size a) ∧
  (∀ (k0_h37 : k0_cond37 d0 v17 = 1#1), ∀ a, (k0_off86 d0 v17) a + S1024x128.size a ≤ S32768x128.size a) ∧
  (∀ (k0_h37 : k0_cond37 d0 v17 = 1#1), ∀ (hinb : ∀ a, (k0_off86 d0 v17) a + S1024x128.size a ≤ S32768x128.size a), (Rect.unit (s := S32768x128) (k0_off86 d0 v17) S1024x128.size hinb).WholeWords (EltTy.packing .bf16)) ∧
  (∀ (k0_h37 : k0_cond37 d0 v17 = 1#1), ∀ (hinb : ∀ a, (k0_off85 d0 v17) a + S1024x128.size a ≤ S32768x128.size a), (Rect.unit (s := S32768x128) (k0_off85 d0 v17) S1024x128.size hinb).WholeWords (EltTy.packing .bf16)) ∧
  (∀ (k0_h37 : k0_cond37 d0 v17 = 1#1), 8 ∣ (k0_mult99 d0 v17).toNat) ∧
  (∀ (k0_h37 : k0_cond37 d0 v17 = 1#1), 8 ∣ (k0_mult100 d0 v17).toNat) ∧
  (∀ (k0_h37 : k0_cond37 d0 v17 = 1#1), ∀ a, (k0_off87 d0 v17) a + S1024x128.size a ≤ S32768x128.size a) ∧
  (∀ (k0_h37 : k0_cond37 d0 v17 = 1#1), ∀ (hinb : ∀ a, (k0_off87 d0 v17) a + S1024x128.size a ≤ S32768x128.size a), (Rect.unit (s := S32768x128) (k0_off87 d0 v17) S1024x128.size hinb).WholeWords (EltTy.packing .bf16)) ∧
  (∀ (k0_h38 : k0_cond38 d0 v17 = 1#1), 8 ∣ (k0_mult101 d0 v17).toNat) ∧
  (∀ (k0_h38 : k0_cond38 d0 v17 = 1#1), 8 ∣ (k0_mult102 d0 v17).toNat) ∧
  (∀ (k0_h38 : k0_cond38 d0 v17 = 1#1), ∀ a, (k0_off88 d0 v17) a + S1024x128.size a ≤ S32768x128.size a) ∧
  (∀ (k0_h38 : k0_cond38 d0 v17 = 1#1), ∀ a, (k0_off89 d0 v17) a + S1024x128.size a ≤ S32768x128.size a) ∧
  (∀ (k0_h38 : k0_cond38 d0 v17 = 1#1), ∀ (hinb : ∀ a, (k0_off89 d0 v17) a + S1024x128.size a ≤ S32768x128.size a), (Rect.unit (s := S32768x128) (k0_off89 d0 v17) S1024x128.size hinb).WholeWords (EltTy.packing .bf16)) ∧
  (∀ (k0_h38 : k0_cond38 d0 v17 = 1#1), ∀ (hinb : ∀ a, (k0_off88 d0 v17) a + S1024x128.size a ≤ S32768x128.size a), (Rect.unit (s := S32768x128) (k0_off88 d0 v17) S1024x128.size hinb).WholeWords (EltTy.packing .bf16)) ∧
  (∀ (k0_h38 : k0_cond38 d0 v17 = 1#1), 8 ∣ (k0_mult103 d0 v17).toNat) ∧
  (∀ (k0_h38 : k0_cond38 d0 v17 = 1#1), 8 ∣ (k0_mult104 d0 v17).toNat) ∧
  (∀ (k0_h38 : k0_cond38 d0 v17 = 1#1), ∀ a, (k0_off90 d0 v17) a + S1024x128.size a ≤ S32768x128.size a) ∧
  (∀ (k0_h38 : k0_cond38 d0 v17 = 1#1), ∀ (hinb : ∀ a, (k0_off90 d0 v17) a + S1024x128.size a ≤ S32768x128.size a), (Rect.unit (s := S32768x128) (k0_off90 d0 v17) S1024x128.size hinb).WholeWords (EltTy.packing .bf16)) ∧
  (∀ (k0_h39 : k0_cond39 d0 v17 = 1#1), 8 ∣ (k0_mult105 d0 v17).toNat) ∧
  (∀ (k0_h39 : k0_cond39 d0 v17 = 1#1), 8 ∣ (k0_mult106 d0 v17).toNat) ∧
  (∀ (k0_h39 : k0_cond39 d0 v17 = 1#1), ∀ a, (k0_off91 d0 v17) a + S1024x128.size a ≤ S32768x128.size a) ∧
  (∀ (k0_h39 : k0_cond39 d0 v17 = 1#1), ∀ a, (k0_off92 d0 v17) a + S1024x128.size a ≤ S32768x128.size a)
def k0_chk1_9 (d0 : Dev nD) (v17 : BitVec 32) : Prop :=
  (∀ (k0_h39 : k0_cond39 d0 v17 = 1#1), ∀ (hinb : ∀ a, (k0_off92 d0 v17) a + S1024x128.size a ≤ S32768x128.size a), (Rect.unit (s := S32768x128) (k0_off92 d0 v17) S1024x128.size hinb).WholeWords (EltTy.packing .bf16)) ∧
  (∀ (k0_h39 : k0_cond39 d0 v17 = 1#1), ∀ (hinb : ∀ a, (k0_off91 d0 v17) a + S1024x128.size a ≤ S32768x128.size a), (Rect.unit (s := S32768x128) (k0_off91 d0 v17) S1024x128.size hinb).WholeWords (EltTy.packing .bf16)) ∧
  (∀ (k0_h39 : k0_cond39 d0 v17 = 1#1), 8 ∣ (k0_mult107 d0 v17).toNat) ∧
  (∀ (k0_h39 : k0_cond39 d0 v17 = 1#1), 8 ∣ (k0_mult108 d0 v17).toNat) ∧
  (∀ (k0_h39 : k0_cond39 d0 v17 = 1#1), ∀ a, (k0_off93 d0 v17) a + S1024x128.size a ≤ S32768x128.size a) ∧
  (∀ (k0_h39 : k0_cond39 d0 v17 = 1#1), ∀ (hinb : ∀ a, (k0_off93 d0 v17) a + S1024x128.size a ≤ S32768x128.size a), (Rect.unit (s := S32768x128) (k0_off93 d0 v17) S1024x128.size hinb).WholeWords (EltTy.packing .bf16)) ∧
  (∀ (k0_h40 : k0_cond40 d0 v17 = 1#1), 8 ∣ (k0_mult109 d0 v17).toNat) ∧
  (∀ (k0_h40 : k0_cond40 d0 v17 = 1#1), 8 ∣ (k0_mult110 d0 v17).toNat) ∧
  (∀ (k0_h40 : k0_cond40 d0 v17 = 1#1), ∀ a, (k0_off94 d0 v17) a + S1024x128.size a ≤ S32768x128.size a) ∧
  (∀ (k0_h40 : k0_cond40 d0 v17 = 1#1), ∀ a, (k0_off95 d0 v17) a + S1024x128.size a ≤ S32768x128.size a) ∧
  (∀ (k0_h40 : k0_cond40 d0 v17 = 1#1), ∀ (hinb : ∀ a, (k0_off95 d0 v17) a + S1024x128.size a ≤ S32768x128.size a), (Rect.unit (s := S32768x128) (k0_off95 d0 v17) S1024x128.size hinb).WholeWords (EltTy.packing .bf16)) ∧
  (∀ (k0_h40 : k0_cond40 d0 v17 = 1#1), ∀ (hinb : ∀ a, (k0_off94 d0 v17) a + S1024x128.size a ≤ S32768x128.size a), (Rect.unit (s := S32768x128) (k0_off94 d0 v17) S1024x128.size hinb).WholeWords (EltTy.packing .bf16)) ∧
  (∀ (k0_h40 : k0_cond40 d0 v17 = 1#1), 8 ∣ (k0_mult111 d0 v17).toNat) ∧
  (∀ (k0_h40 : k0_cond40 d0 v17 = 1#1), 8 ∣ (k0_mult112 d0 v17).toNat) ∧
  (∀ (k0_h40 : k0_cond40 d0 v17 = 1#1), ∀ a, (k0_off96 d0 v17) a + S1024x128.size a ≤ S32768x128.size a) ∧
  (∀ (k0_h40 : k0_cond40 d0 v17 = 1#1), ∀ (hinb : ∀ a, (k0_off96 d0 v17) a + S1024x128.size a ≤ S32768x128.size a), (Rect.unit (s := S32768x128) (k0_off96 d0 v17) S1024x128.size hinb).WholeWords (EltTy.packing .bf16)) ∧
  (∀ (k0_h41 : k0_cond41 d0 v17 = 1#1), 8 ∣ (k0_mult113 d0 v17).toNat) ∧
  (∀ (k0_h41 : k0_cond41 d0 v17 = 1#1), 8 ∣ (k0_mult114 d0 v17).toNat) ∧
  (∀ (k0_h41 : k0_cond41 d0 v17 = 1#1), ∀ a, (k0_off97 d0 v17) a + S4096x128.size a ≤ S32768x128.size a) ∧
  (∀ (k0_h41 : k0_cond41 d0 v17 = 1#1), ∀ a, (k0_off98 d0 v17) a + S4096x128.size a ≤ S32768x128.size a) ∧
  (∀ (k0_h41 : k0_cond41 d0 v17 = 1#1), ∀ (hinb : ∀ a, (k0_off98 d0 v17) a + S4096x128.size a ≤ S32768x128.size a), (Rect.unit (s := S32768x128) (k0_off98 d0 v17) S4096x128.size hinb).WholeWords (EltTy.packing .bf16)) ∧
  (∀ (k0_h41 : k0_cond41 d0 v17 = 1#1), ∀ (hinb : ∀ a, (k0_off97 d0 v17) a + S4096x128.size a ≤ S32768x128.size a), (Rect.unit (s := S32768x128) (k0_off97 d0 v17) S4096x128.size hinb).WholeWords (EltTy.packing .bf16)) ∧
  (∀ (k0_h42 : k0_cond42 d0 v17 = 1#1), 8 ∣ (k0_mult115 d0 v17).toNat) ∧
  (∀ (k0_h42 : k0_cond42 d0 v17 = 1#1), 8 ∣ (k0_mult116 d0 v17).toNat) ∧
  (∀ (k0_h42 : k0_cond42 d0 v17 = 1#1), ∀ a, (k0_off99 d0 v17) a + S4096x128.size a ≤ S32768x128.size a) ∧
  (∀ (k0_h42 : k0_cond42 d0 v17 = 1#1), ∀ a, (k0_off100 d0 v17) a + S4096x128.size a ≤ S32768x128.size a) ∧
  (∀ (k0_h42 : k0_cond42 d0 v17 = 1#1), ∀ (hinb : ∀ a, (k0_off100 d0 v17) a + S4096x128.size a ≤ S32768x128.size a), (Rect.unit (s := S32768x128) (k0_off100 d0 v17) S4096x128.size hinb).WholeWords (EltTy.packing .bf16)) ∧
  (∀ (k0_h42 : k0_cond42 d0 v17 = 1#1), ∀ (hinb : ∀ a, (k0_off99 d0 v17) a + S4096x128.size a ≤ S32768x128.size a), (Rect.unit (s := S32768x128) (k0_off99 d0 v17) S4096x128.size hinb).WholeWords (EltTy.packing .bf16)) ∧
  (∀ (k0_h43 : k0_cond43 d0 v17 = 1#1), 8 ∣ (k0_mult117 d0 v17).toNat) ∧
  (∀ (k0_h43 : k0_cond43 d0 v17 = 1#1), 8 ∣ (k0_mult118 d0 v17).toNat) ∧
  (∀ (k0_h43 : k0_cond43 d0 v17 = 1#1), ∀ a, (k0_off101 d0 v17) a + S4096x128.size a ≤ S32768x128.size a) ∧
  (∀ (k0_h43 : k0_cond43 d0 v17 = 1#1), ∀ a, (k0_off102 d0 v17) a + S4096x128.size a ≤ S32768x128.size a)
def k0_chk1_10 (d0 : Dev nD) (v17 : BitVec 32) : Prop :=
  (∀ (k0_h43 : k0_cond43 d0 v17 = 1#1), ∀ (hinb : ∀ a, (k0_off102 d0 v17) a + S4096x128.size a ≤ S32768x128.size a), (Rect.unit (s := S32768x128) (k0_off102 d0 v17) S4096x128.size hinb).WholeWords (EltTy.packing .bf16)) ∧
  (∀ (k0_h43 : k0_cond43 d0 v17 = 1#1), ∀ (hinb : ∀ a, (k0_off101 d0 v17) a + S4096x128.size a ≤ S32768x128.size a), (Rect.unit (s := S32768x128) (k0_off101 d0 v17) S4096x128.size hinb).WholeWords (EltTy.packing .bf16)) ∧
  (∀ (k0_h44 : k0_cond44 d0 v17 = 1#1), 8 ∣ (k0_mult119 d0 v17).toNat) ∧
  (∀ (k0_h44 : k0_cond44 d0 v17 = 1#1), 8 ∣ (k0_mult120 d0 v17).toNat) ∧
  (∀ (k0_h44 : k0_cond44 d0 v17 = 1#1), ∀ a, (k0_off103 d0 v17) a + S4096x128.size a ≤ S32768x128.size a) ∧
  (∀ (k0_h44 : k0_cond44 d0 v17 = 1#1), ∀ a, (k0_off104 d0 v17) a + S4096x128.size a ≤ S32768x128.size a) ∧
  (∀ (k0_h44 : k0_cond44 d0 v17 = 1#1), ∀ (hinb : ∀ a, (k0_off104 d0 v17) a + S4096x128.size a ≤ S32768x128.size a), (Rect.unit (s := S32768x128) (k0_off104 d0 v17) S4096x128.size hinb).WholeWords (EltTy.packing .bf16)) ∧
  (∀ (k0_h44 : k0_cond44 d0 v17 = 1#1), ∀ (hinb : ∀ a, (k0_off103 d0 v17) a + S4096x128.size a ≤ S32768x128.size a), (Rect.unit (s := S32768x128) (k0_off103 d0 v17) S4096x128.size hinb).WholeWords (EltTy.packing .bf16)) ∧
  (∀ (k0_h45 : k0_cond45 d0 v17 = 1#1), 8 ∣ (k0_mult121 d0 v17).toNat) ∧
  (∀ (k0_h45 : k0_cond45 d0 v17 = 1#1), 8 ∣ (k0_mult122 d0 v17).toNat) ∧
  (∀ (k0_h45 : k0_cond45 d0 v17 = 1#1), ∀ a, (k0_off105 d0 v17) a + S4096x128.size a ≤ S32768x128.size a) ∧
  (∀ (k0_h45 : k0_cond45 d0 v17 = 1#1), ∀ a, (k0_off106 d0 v17) a + S4096x128.size a ≤ S32768x128.size a) ∧
  (∀ (k0_h45 : k0_cond45 d0 v17 = 1#1), ∀ (hinb : ∀ a, (k0_off106 d0 v17) a + S4096x128.size a ≤ S32768x128.size a), (Rect.unit (s := S32768x128) (k0_off106 d0 v17) S4096x128.size hinb).WholeWords (EltTy.packing .bf16)) ∧
  (∀ (k0_h45 : k0_cond45 d0 v17 = 1#1), ∀ (hinb : ∀ a, (k0_off105 d0 v17) a + S4096x128.size a ≤ S32768x128.size a), (Rect.unit (s := S32768x128) (k0_off105 d0 v17) S4096x128.size hinb).WholeWords (EltTy.packing .bf16)) ∧
  (∀ (k0_h46 : k0_cond46 d0 v17 = 1#1), 8 ∣ (k0_mult123 d0 v17).toNat) ∧
  (∀ (k0_h46 : k0_cond46 d0 v17 = 1#1), 8 ∣ (k0_mult124 d0 v17).toNat) ∧
  (∀ (k0_h46 : k0_cond46 d0 v17 = 1#1), ∀ a, (k0_off107 d0 v17) a + S4096x128.size a ≤ S32768x128.size a) ∧
  (∀ (k0_h46 : k0_cond46 d0 v17 = 1#1), ∀ a, (k0_off108 d0 v17) a + S4096x128.size a ≤ S32768x128.size a) ∧
  (∀ (k0_h46 : k0_cond46 d0 v17 = 1#1), ∀ (hinb : ∀ a, (k0_off108 d0 v17) a + S4096x128.size a ≤ S32768x128.size a), (Rect.unit (s := S32768x128) (k0_off108 d0 v17) S4096x128.size hinb).WholeWords (EltTy.packing .bf16)) ∧
  (∀ (k0_h46 : k0_cond46 d0 v17 = 1#1), ∀ (hinb : ∀ a, (k0_off107 d0 v17) a + S4096x128.size a ≤ S32768x128.size a), (Rect.unit (s := S32768x128) (k0_off107 d0 v17) S4096x128.size hinb).WholeWords (EltTy.packing .bf16)) ∧
  (∀ (k0_h47 : k0_cond47 d0 v17 = 1#1), 8 ∣ (k0_mult125 d0 v17).toNat) ∧
  (∀ (k0_h47 : k0_cond47 d0 v17 = 1#1), 8 ∣ (k0_mult126 d0 v17).toNat) ∧
  (∀ (k0_h47 : k0_cond47 d0 v17 = 1#1), ∀ a, (k0_off109 d0 v17) a + S4096x128.size a ≤ S32768x128.size a) ∧
  (∀ (k0_h47 : k0_cond47 d0 v17 = 1#1), ∀ a, (k0_off110 d0 v17) a + S4096x128.size a ≤ S32768x128.size a) ∧
  (∀ (k0_h47 : k0_cond47 d0 v17 = 1#1), ∀ (hinb : ∀ a, (k0_off110 d0 v17) a + S4096x128.size a ≤ S32768x128.size a), (Rect.unit (s := S32768x128) (k0_off110 d0 v17) S4096x128.size hinb).WholeWords (EltTy.packing .bf16)) ∧
  (∀ (k0_h47 : k0_cond47 d0 v17 = 1#1), ∀ (hinb : ∀ a, (k0_off109 d0 v17) a + S4096x128.size a ≤ S32768x128.size a), (Rect.unit (s := S32768x128) (k0_off109 d0 v17) S4096x128.size hinb).WholeWords (EltTy.packing .bf16)) ∧
  (∀ (k0_h48 : k0_cond48 d0 v17 = 1#1), 8 ∣ (k0_mult127 d0 v17).toNat) ∧
  (∀ (k0_h48 : k0_cond48 d0 v17 = 1#1), 8 ∣ (k0_mult128 d0 v17).toNat) ∧
  (∀ (k0_h48 : k0_cond48 d0 v17 = 1#1), ∀ a, (k0_off111 d0 v17) a + S4096x128.size a ≤ S32768x128.size a) ∧
  (∀ (k0_h48 : k0_cond48 d0 v17 = 1#1), ∀ a, (k0_off112 d0 v17) a + S4096x128.size a ≤ S32768x128.size a) ∧
  (∀ (k0_h48 : k0_cond48 d0 v17 = 1#1), ∀ (hinb : ∀ a, (k0_off112 d0 v17) a + S4096x128.size a ≤ S32768x128.size a), (Rect.unit (s := S32768x128) (k0_off112 d0 v17) S4096x128.size hinb).WholeWords (EltTy.packing .bf16)) ∧
  (∀ (k0_h48 : k0_cond48 d0 v17 = 1#1), ∀ (hinb : ∀ a, (k0_off111 d0 v17) a + S4096x128.size a ≤ S32768x128.size a), (Rect.unit (s := S32768x128) (k0_off111 d0 v17) S4096x128.size hinb).WholeWords (EltTy.packing .bf16))
def k0_chk1_11 (d0 : Dev nD) (v17 : BitVec 32) : Prop :=
  (∀ (k0_h49 : k0_cond49 d0 v17 = 1#1), 8 ∣ (k0_mult130 d0 v17).toNat) ∧
  (∀ (k0_h49 : k0_cond49 d0 v17 = 1#1), ∀ a, (k0_off113 d0 v17) a + S1024x128.size a ≤ S32768x128.size a) ∧
  (∀ (k0_h49 : k0_cond49 d0 v17 = 1#1), ∀ (hinb : ∀ a, (k0_off113 d0 v17) a + S1024x128.size a ≤ S32768x128.size a), (Rect.unit (s := S32768x128) (k0_off113 d0 v17) S1024x128.size hinb).WholeWords (EltTy.packing .bf16)) ∧
  (∀ (k0_h50 : k0_cond50 d0 v17 = 1#1), 8 ∣ (k0_mult132 d0 v17).toNat) ∧
  (∀ (k0_h50 : k0_cond50 d0 v17 = 1#1), ∀ a, (k0_off114 d0 v17) a + S1024x128.size a ≤ S32768x128.size a) ∧
  (∀ (k0_h50 : k0_cond50 d0 v17 = 1#1), ∀ (hinb : ∀ a, (k0_off114 d0 v17) a + S1024x128.size a ≤ S32768x128.size a), (Rect.unit (s := S32768x128) (k0_off114 d0 v17) S1024x128.size hinb).WholeWords (EltTy.packing .bf16)) ∧
  (∀ (k0_h51 : k0_cond51 d0 v17 = 1#1), 8 ∣ (k0_mult134 d0 v17).toNat) ∧
  (∀ (k0_h51 : k0_cond51 d0 v17 = 1#1), ∀ a, (k0_off115 d0 v17) a + S1024x128.size a ≤ S32768x128.size a) ∧
  (∀ (k0_h51 : k0_cond51 d0 v17 = 1#1), ∀ (hinb : ∀ a, (k0_off115 d0 v17) a + S1024x128.size a ≤ S32768x128.size a), (Rect.unit (s := S32768x128) (k0_off115 d0 v17) S1024x128.size hinb).WholeWords (EltTy.packing .bf16)) ∧
  (∀ (k0_h52 : k0_cond52 d0 v17 = 1#1), 8 ∣ (k0_mult136 d0 v17).toNat) ∧
  (∀ (k0_h52 : k0_cond52 d0 v17 = 1#1), ∀ a, (k0_off116 d0 v17) a + S1024x128.size a ≤ S32768x128.size a) ∧
  (∀ (k0_h52 : k0_cond52 d0 v17 = 1#1), ∀ (hinb : ∀ a, (k0_off116 d0 v17) a + S1024x128.size a ≤ S32768x128.size a), (Rect.unit (s := S32768x128) (k0_off116 d0 v17) S1024x128.size hinb).WholeWords (EltTy.packing .bf16)) ∧
  (∀ (k0_h53 : k0_cond53 d0 v17 = 1#1), 8 ∣ (k0_mult138 d0 v17).toNat) ∧
  (∀ (k0_h53 : k0_cond53 d0 v17 = 1#1), ∀ a, (k0_off117 d0 v17) a + S1024x128.size a ≤ S32768x128.size a) ∧
  (∀ (k0_h53 : k0_cond53 d0 v17 = 1#1), ∀ (hinb : ∀ a, (k0_off117 d0 v17) a + S1024x128.size a ≤ S32768x128.size a), (Rect.unit (s := S32768x128) (k0_off117 d0 v17) S1024x128.size hinb).WholeWords (EltTy.packing .bf16)) ∧
  (∀ (k0_h54 : k0_cond54 d0 v17 = 1#1), 8 ∣ (k0_mult140 d0 v17).toNat) ∧
  (∀ (k0_h54 : k0_cond54 d0 v17 = 1#1), ∀ a, (k0_off118 d0 v17) a + S1024x128.size a ≤ S32768x128.size a) ∧
  (∀ (k0_h54 : k0_cond54 d0 v17 = 1#1), ∀ (hinb : ∀ a, (k0_off118 d0 v17) a + S1024x128.size a ≤ S32768x128.size a), (Rect.unit (s := S32768x128) (k0_off118 d0 v17) S1024x128.size hinb).WholeWords (EltTy.packing .bf16)) ∧
  (∀ (k0_h55 : k0_cond55 d0 v17 = 1#1), 8 ∣ (k0_mult142 d0 v17).toNat) ∧
  (∀ (k0_h55 : k0_cond55 d0 v17 = 1#1), ∀ a, (k0_off119 d0 v17) a + S1024x128.size a ≤ S32768x128.size a) ∧
  (∀ (k0_h55 : k0_cond55 d0 v17 = 1#1), ∀ (hinb : ∀ a, (k0_off119 d0 v17) a + S1024x128.size a ≤ S32768x128.size a), (Rect.unit (s := S32768x128) (k0_off119 d0 v17) S1024x128.size hinb).WholeWords (EltTy.packing .bf16)) ∧
  (∀ (k0_h56 : k0_cond56 d0 v17 = 1#1), 8 ∣ (k0_mult144 d0 v17).toNat) ∧
  (∀ (k0_h56 : k0_cond56 d0 v17 = 1#1), ∀ a, (k0_off120 d0 v17) a + S1024x128.size a ≤ S32768x128.size a) ∧
  (∀ (k0_h56 : k0_cond56 d0 v17 = 1#1), ∀ (hinb : ∀ a, (k0_off120 d0 v17) a + S1024x128.size a ≤ S32768x128.size a), (Rect.unit (s := S32768x128) (k0_off120 d0 v17) S1024x128.size hinb).WholeWords (EltTy.packing .bf16)) ∧
  (∀ (k0_h57 : k0_cond57 d0 v17 = 1#1), 8 ∣ (k0_mult146 d0 v17).toNat) ∧
  (∀ (k0_h57 : k0_cond57 d0 v17 = 1#1), ∀ a, (k0_off121 d0 v17) a + S1024x128.size a ≤ S32768x128.size a) ∧
  (∀ (k0_h57 : k0_cond57 d0 v17 = 1#1), ∀ (hinb : ∀ a, (k0_off121 d0 v17) a + S1024x128.size a ≤ S32768x128.size a), (Rect.unit (s := S32768x128) (k0_off121 d0 v17) S1024x128.size hinb).WholeWords (EltTy.packing .bf16)) ∧
  (∀ (k0_h58 : k0_cond58 d0 v17 = 1#1), 8 ∣ (k0_mult148 d0 v17).toNat) ∧
  (∀ (k0_h58 : k0_cond58 d0 v17 = 1#1), ∀ a, (k0_off122 d0 v17) a + S1024x128.size a ≤ S32768x128.size a) ∧
  (∀ (k0_h58 : k0_cond58 d0 v17 = 1#1), ∀ (hinb : ∀ a, (k0_off122 d0 v17) a + S1024x128.size a ≤ S32768x128.size a), (Rect.unit (s := S32768x128) (k0_off122 d0 v17) S1024x128.size hinb).WholeWords (EltTy.packing .bf16)) ∧
  (∀ (k0_h59 : k0_cond59 d0 v17 = 1#1), 8 ∣ (k0_mult150 d0 v17).toNat) ∧
  (∀ (k0_h59 : k0_cond59 d0 v17 = 1#1), ∀ a, (k0_off123 d0 v17) a + S1024x128.size a ≤ S32768x128.size a)
def k0_chk1_12 (d0 : Dev nD) (v17 : BitVec 32) : Prop :=
  (∀ (k0_h59 : k0_cond59 d0 v17 = 1#1), ∀ (hinb : ∀ a, (k0_off123 d0 v17) a + S1024x128.size a ≤ S32768x128.size a), (Rect.unit (s := S32768x128) (k0_off123 d0 v17) S1024x128.size hinb).WholeWords (EltTy.packing .bf16)) ∧
  (∀ (k0_h60 : k0_cond60 d0 v17 = 1#1), 8 ∣ (k0_mult152 d0 v17).toNat) ∧
  (∀ (k0_h60 : k0_cond60 d0 v17 = 1#1), ∀ a, (k0_off124 d0 v17) a + S1024x128.size a ≤ S32768x128.size a) ∧
  (∀ (k0_h60 : k0_cond60 d0 v17 = 1#1), ∀ (hinb : ∀ a, (k0_off124 d0 v17) a + S1024x128.size a ≤ S32768x128.size a), (Rect.unit (s := S32768x128) (k0_off124 d0 v17) S1024x128.size hinb).WholeWords (EltTy.packing .bf16)) ∧
  (∀ (k0_h61 : k0_cond61 d0 v17 = 1#1), 8 ∣ (k0_mult154 d0 v17).toNat) ∧
  (∀ (k0_h61 : k0_cond61 d0 v17 = 1#1), ∀ a, (k0_off125 d0 v17) a + S1024x128.size a ≤ S32768x128.size a) ∧
  (∀ (k0_h61 : k0_cond61 d0 v17 = 1#1), ∀ (hinb : ∀ a, (k0_off125 d0 v17) a + S1024x128.size a ≤ S32768x128.size a), (Rect.unit (s := S32768x128) (k0_off125 d0 v17) S1024x128.size hinb).WholeWords (EltTy.packing .bf16)) ∧
  (∀ (k0_h62 : k0_cond62 d0 v17 = 1#1), 8 ∣ (k0_mult156 d0 v17).toNat) ∧
  (∀ (k0_h62 : k0_cond62 d0 v17 = 1#1), ∀ a, (k0_off126 d0 v17) a + S1024x128.size a ≤ S32768x128.size a) ∧
  (∀ (k0_h62 : k0_cond62 d0 v17 = 1#1), ∀ (hinb : ∀ a, (k0_off126 d0 v17) a + S1024x128.size a ≤ S32768x128.size a), (Rect.unit (s := S32768x128) (k0_off126 d0 v17) S1024x128.size hinb).WholeWords (EltTy.packing .bf16)) ∧
  (∀ (k0_h63 : k0_cond63 d0 v17 = 1#1), 8 ∣ (k0_mult158 d0 v17).toNat) ∧
  (∀ (k0_h63 : k0_cond63 d0 v17 = 1#1), ∀ a, (k0_off127 d0 v17) a + S1024x128.size a ≤ S32768x128.size a) ∧
  (∀ (k0_h63 : k0_cond63 d0 v17 = 1#1), ∀ (hinb : ∀ a, (k0_off127 d0 v17) a + S1024x128.size a ≤ S32768x128.size a), (Rect.unit (s := S32768x128) (k0_off127 d0 v17) S1024x128.size hinb).WholeWords (EltTy.packing .bf16)) ∧
  (∀ (k0_h64 : k0_cond64 d0 v17 = 1#1), 8 ∣ (k0_mult160 d0 v17).toNat) ∧
  (∀ (k0_h64 : k0_cond64 d0 v17 = 1#1), ∀ a, (k0_off128 d0 v17) a + S1024x128.size a ≤ S32768x128.size a) ∧
  (∀ (k0_h64 : k0_cond64 d0 v17 = 1#1), ∀ (hinb : ∀ a, (k0_off128 d0 v17) a + S1024x128.size a ≤ S32768x128.size a), (Rect.unit (s := S32768x128) (k0_off128 d0 v17) S1024x128.size hinb).WholeWords (EltTy.packing .bf16)) ∧
  (∀ (k0_h65 : k0_cond65 d0 v17 = 1#1), 8 ∣ (k0_mult161 d0 v17).toNat) ∧
  (∀ (k0_h65 : k0_cond65 d0 v17 = 1#1), 8 ∣ (k0_mult162 d0 v17).toNat) ∧
  (∀ (k0_h65 : k0_cond65 d0 v17 = 1#1), ∀ a, (k0_off129 d0 v17) a + S1024x128.size a ≤ S32768x128.size a) ∧
  (∀ (k0_h65 : k0_cond65 d0 v17 = 1#1), ∀ a, (k0_off130 d0 v17) a + S1024x128.size a ≤ S32768x128.size a) ∧
  (∀ (k0_h65 : k0_cond65 d0 v17 = 1#1), ∀ (hinb : ∀ a, (k0_off130 d0 v17) a + S1024x128.size a ≤ S32768x128.size a), (Rect.unit (s := S32768x128) (k0_off130 d0 v17) S1024x128.size hinb).WholeWords (EltTy.packing .bf16)) ∧
  (∀ (k0_h65 : k0_cond65 d0 v17 = 1#1), ∀ (hinb : ∀ a, (k0_off129 d0 v17) a + S1024x128.size a ≤ S32768x128.size a), (Rect.unit (s := S32768x128) (k0_off129 d0 v17) S1024x128.size hinb).WholeWords (EltTy.packing .bf16)) ∧
  (∀ (k0_h65 : k0_cond65 d0 v17 = 1#1), 8 ∣ (k0_mult163 d0 v17).toNat) ∧
  (∀ (k0_h65 : k0_cond65 d0 v17 = 1#1), 8 ∣ (k0_mult164 d0 v17).toNat) ∧
  (∀ (k0_h65 : k0_cond65 d0 v17 = 1#1), ∀ a, (k0_off131 d0 v17) a + S1024x128.size a ≤ S32768x128.size a) ∧
  (∀ (k0_h65 : k0_cond65 d0 v17 = 1#1), ∀ (hinb : ∀ a, (k0_off131 d0 v17) a + S1024x128.size a ≤ S32768x128.size a), (Rect.unit (s := S32768x128) (k0_off131 d0 v17) S1024x128.size hinb).WholeWords (EltTy.packing .bf16)) ∧
  (∀ (k0_h66 : k0_cond66 d0 v17 = 1#1), 8 ∣ (k0_mult165 d0 v17).toNat) ∧
  (∀ (k0_h66 : k0_cond66 d0 v17 = 1#1), 8 ∣ (k0_mult166 d0 v17).toNat) ∧
  (∀ (k0_h66 : k0_cond66 d0 v17 = 1#1), ∀ a, (k0_off132 d0 v17) a + S1024x128.size a ≤ S32768x128.size a) ∧
  (∀ (k0_h66 : k0_cond66 d0 v17 = 1#1), ∀ a, (k0_off133 d0 v17) a + S1024x128.size a ≤ S32768x128.size a) ∧
  (∀ (k0_h66 : k0_cond66 d0 v17 = 1#1), ∀ (hinb : ∀ a, (k0_off133 d0 v17) a + S1024x128.size a ≤ S32768x128.size a), (Rect.unit (s := S32768x128) (k0_off133 d0 v17) S1024x128.size hinb).WholeWords (EltTy.packing .bf16)) ∧
  (∀ (k0_h66 : k0_cond66 d0 v17 = 1#1), ∀ (hinb : ∀ a, (k0_off132 d0 v17) a + S1024x128.size a ≤ S32768x128.size a), (Rect.unit (s := S32768x128) (k0_off132 d0 v17) S1024x128.size hinb).WholeWords (EltTy.packing .bf16))
def k0_chk1_13 (d0 : Dev nD) (v17 : BitVec 32) : Prop :=
  (∀ (k0_h66 : k0_cond66 d0 v17 = 1#1), 8 ∣ (k0_mult167 d0 v17).toNat) ∧
  (∀ (k0_h66 : k0_cond66 d0 v17 = 1#1), 8 ∣ (k0_mult168 d0 v17).toNat) ∧
  (∀ (k0_h66 : k0_cond66 d0 v17 = 1#1), ∀ a, (k0_off134 d0 v17) a + S1024x128.size a ≤ S32768x128.size a) ∧
  (∀ (k0_h66 : k0_cond66 d0 v17 = 1#1), ∀ (hinb : ∀ a, (k0_off134 d0 v17) a + S1024x128.size a ≤ S32768x128.size a), (Rect.unit (s := S32768x128) (k0_off134 d0 v17) S1024x128.size hinb).WholeWords (EltTy.packing .bf16)) ∧
  (∀ (k0_h67 : k0_cond67 d0 v17 = 1#1), 8 ∣ (k0_mult169 d0 v17).toNat) ∧
  (∀ (k0_h67 : k0_cond67 d0 v17 = 1#1), 8 ∣ (k0_mult170 d0 v17).toNat) ∧
  (∀ (k0_h67 : k0_cond67 d0 v17 = 1#1), ∀ a, (k0_off135 d0 v17) a + S1024x128.size a ≤ S32768x128.size a) ∧
  (∀ (k0_h67 : k0_cond67 d0 v17 = 1#1), ∀ a, (k0_off136 d0 v17) a + S1024x128.size a ≤ S32768x128.size a) ∧
  (∀ (k0_h67 : k0_cond67 d0 v17 = 1#1), ∀ (hinb : ∀ a, (k0_off136 d0 v17) a + S1024x128.size a ≤ S32768x128.size a), (Rect.unit (s := S32768x128) (k0_off136 d0 v17) S1024x128.size hinb).WholeWords (EltTy.packing .bf16)) ∧
  (∀ (k0_h67 : k0_cond67 d0 v17 = 1#1), ∀ (hinb : ∀ a, (k0_off135 d0 v17) a + S1024x128.size a ≤ S32768x128.size a), (Rect.unit (s := S32768x128) (k0_off135 d0 v17) S1024x128.size hinb).WholeWords (EltTy.packing .bf16)) ∧
  (∀ (k0_h67 : k0_cond67 d0 v17 = 1#1), 8 ∣ (k0_mult171 d0 v17).toNat) ∧
  (∀ (k0_h67 : k0_cond67 d0 v17 = 1#1), 8 ∣ (k0_mult172 d0 v17).toNat) ∧
  (∀ (k0_h67 : k0_cond67 d0 v17 = 1#1), ∀ a, (k0_off137 d0 v17) a + S1024x128.size a ≤ S32768x128.size a) ∧
  (∀ (k0_h67 : k0_cond67 d0 v17 = 1#1), ∀ (hinb : ∀ a, (k0_off137 d0 v17) a + S1024x128.size a ≤ S32768x128.size a), (Rect.unit (s := S32768x128) (k0_off137 d0 v17) S1024x128.size hinb).WholeWords (EltTy.packing .bf16)) ∧
  (∀ (k0_h68 : k0_cond68 d0 v17 = 1#1), 8 ∣ (k0_mult173 d0 v17).toNat) ∧
  (∀ (k0_h68 : k0_cond68 d0 v17 = 1#1), 8 ∣ (k0_mult174 d0 v17).toNat) ∧
  (∀ (k0_h68 : k0_cond68 d0 v17 = 1#1), ∀ a, (k0_off138 d0 v17) a + S1024x128.size a ≤ S32768x128.size a) ∧
  (∀ (k0_h68 : k0_cond68 d0 v17 = 1#1), ∀ a, (k0_off139 d0 v17) a + S1024x128.size a ≤ S32768x128.size a) ∧
  (∀ (k0_h68 : k0_cond68 d0 v17 = 1#1), ∀ (hinb : ∀ a, (k0_off139 d0 v17) a + S1024x128.size a ≤ S32768x128.size a), (Rect.unit (s := S32768x128) (k0_off139 d0 v17) S1024x128.size hinb).WholeWords (EltTy.packing .bf16)) ∧
  (∀ (k0_h68 : k0_cond68 d0 v17 = 1#1), ∀ (hinb : ∀ a, (k0_off138 d0 v17) a + S1024x128.size a ≤ S32768x128.size a), (Rect.unit (s := S32768x128) (k0_off138 d0 v17) S1024x128.size hinb).WholeWords (EltTy.packing .bf16)) ∧
  (∀ (k0_h68 : k0_cond68 d0 v17 = 1#1), 8 ∣ (k0_mult175 d0 v17).toNat) ∧
  (∀ (k0_h68 : k0_cond68 d0 v17 = 1#1), 8 ∣ (k0_mult176 d0 v17).toNat) ∧
  (∀ (k0_h68 : k0_cond68 d0 v17 = 1#1), ∀ a, (k0_off140 d0 v17) a + S1024x128.size a ≤ S32768x128.size a) ∧
  (∀ (k0_h68 : k0_cond68 d0 v17 = 1#1), ∀ (hinb : ∀ a, (k0_off140 d0 v17) a + S1024x128.size a ≤ S32768x128.size a), (Rect.unit (s := S32768x128) (k0_off140 d0 v17) S1024x128.size hinb).WholeWords (EltTy.packing .bf16)) ∧
  (∀ (k0_h69 : k0_cond69 d0 v17 = 1#1), 8 ∣ (k0_mult177 d0 v17).toNat) ∧
  (∀ (k0_h69 : k0_cond69 d0 v17 = 1#1), 8 ∣ (k0_mult178 d0 v17).toNat) ∧
  (∀ (k0_h69 : k0_cond69 d0 v17 = 1#1), ∀ a, (k0_off141 d0 v17) a + S1024x128.size a ≤ S32768x128.size a) ∧
  (∀ (k0_h69 : k0_cond69 d0 v17 = 1#1), ∀ a, (k0_off142 d0 v17) a + S1024x128.size a ≤ S32768x128.size a) ∧
  (∀ (k0_h69 : k0_cond69 d0 v17 = 1#1), ∀ (hinb : ∀ a, (k0_off142 d0 v17) a + S1024x128.size a ≤ S32768x128.size a), (Rect.unit (s := S32768x128) (k0_off142 d0 v17) S1024x128.size hinb).WholeWords (EltTy.packing .bf16)) ∧
  (∀ (k0_h69 : k0_cond69 d0 v17 = 1#1), ∀ (hinb : ∀ a, (k0_off141 d0 v17) a + S1024x128.size a ≤ S32768x128.size a), (Rect.unit (s := S32768x128) (k0_off141 d0 v17) S1024x128.size hinb).WholeWords (EltTy.packing .bf16)) ∧
  (∀ (k0_h69 : k0_cond69 d0 v17 = 1#1), 8 ∣ (k0_mult179 d0 v17).toNat) ∧
  (∀ (k0_h69 : k0_cond69 d0 v17 = 1#1), 8 ∣ (k0_mult180 d0 v17).toNat)
def k0_chk1_14 (d0 : Dev nD) (v17 : BitVec 32) : Prop :=
  (∀ (k0_h69 : k0_cond69 d0 v17 = 1#1), ∀ a, (k0_off143 d0 v17) a + S1024x128.size a ≤ S32768x128.size a) ∧
  (∀ (k0_h69 : k0_cond69 d0 v17 = 1#1), ∀ (hinb : ∀ a, (k0_off143 d0 v17) a + S1024x128.size a ≤ S32768x128.size a), (Rect.unit (s := S32768x128) (k0_off143 d0 v17) S1024x128.size hinb).WholeWords (EltTy.packing .bf16)) ∧
  (∀ (k0_h70 : k0_cond70 d0 v17 = 1#1), 8 ∣ (k0_mult181 d0 v17).toNat) ∧
  (∀ (k0_h70 : k0_cond70 d0 v17 = 1#1), 8 ∣ (k0_mult182 d0 v17).toNat) ∧
  (∀ (k0_h70 : k0_cond70 d0 v17 = 1#1), ∀ a, (k0_off144 d0 v17) a + S1024x128.size a ≤ S32768x128.size a) ∧
  (∀ (k0_h70 : k0_cond70 d0 v17 = 1#1), ∀ a, (k0_off145 d0 v17) a + S1024x128.size a ≤ S32768x128.size a) ∧
  (∀ (k0_h70 : k0_cond70 d0 v17 = 1#1), ∀ (hinb : ∀ a, (k0_off145 d0 v17) a + S1024x128.size a ≤ S32768x128.size a), (Rect.unit (s := S32768x128) (k0_off145 d0 v17) S1024x128.size hinb).WholeWords (EltTy.packing .bf16)) ∧
  (∀ (k0_h70 : k0_cond70 d0 v17 = 1#1), ∀ (hinb : ∀ a, (k0_off144 d0 v17) a + S1024x128.size a ≤ S32768x128.size a), (Rect.unit (s := S32768x128) (k0_off144 d0 v17) S1024x128.size hinb).WholeWords (EltTy.packing .bf16)) ∧
  (∀ (k0_h70 : k0_cond70 d0 v17 = 1#1), 8 ∣ (k0_mult183 d0 v17).toNat) ∧
  (∀ (k0_h70 : k0_cond70 d0 v17 = 1#1), 8 ∣ (k0_mult184 d0 v17).toNat) ∧
  (∀ (k0_h70 : k0_cond70 d0 v17 = 1#1), ∀ a, (k0_off146 d0 v17) a + S1024x128.size a ≤ S32768x128.size a) ∧
  (∀ (k0_h70 : k0_cond70 d0 v17 = 1#1), ∀ (hinb : ∀ a, (k0_off146 d0 v17) a + S1024x128.size a ≤ S32768x128.size a), (Rect.unit (s := S32768x128) (k0_off146 d0 v17) S1024x128.size hinb).WholeWords (EltTy.packing .bf16)) ∧
  (∀ (k0_h71 : k0_cond71 d0 v17 = 1#1), 8 ∣ (k0_mult185 d0 v17).toNat) ∧
  (∀ (k0_h71 : k0_cond71 d0 v17 = 1#1), 8 ∣ (k0_mult186 d0 v17).toNat) ∧
  (∀ (k0_h71 : k0_cond71 d0 v17 = 1#1), ∀ a, (k0_off147 d0 v17) a + S1024x128.size a ≤ S32768x128.size a) ∧
  (∀ (k0_h71 : k0_cond71 d0 v17 = 1#1), ∀ a, (k0_off148 d0 v17) a + S1024x128.size a ≤ S32768x128.size a) ∧
  (∀ (k0_h71 : k0_cond71 d0 v17 = 1#1), ∀ (hinb : ∀ a, (k0_off148 d0 v17) a + S1024x128.size a ≤ S32768x128.size a), (Rect.unit (s := S32768x128) (k0_off148 d0 v17) S1024x128.size hinb).WholeWords (EltTy.packing .bf16)) ∧
  (∀ (k0_h71 : k0_cond71 d0 v17 = 1#1), ∀ (hinb : ∀ a, (k0_off147 d0 v17) a + S1024x128.size a ≤ S32768x128.size a), (Rect.unit (s := S32768x128) (k0_off147 d0 v17) S1024x128.size hinb).WholeWords (EltTy.packing .bf16)) ∧
  (∀ (k0_h71 : k0_cond71 d0 v17 = 1#1), 8 ∣ (k0_mult187 d0 v17).toNat) ∧
  (∀ (k0_h71 : k0_cond71 d0 v17 = 1#1), 8 ∣ (k0_mult188 d0 v17).toNat) ∧
  (∀ (k0_h71 : k0_cond71 d0 v17 = 1#1), ∀ a, (k0_off149 d0 v17) a + S1024x128.size a ≤ S32768x128.size a) ∧
  (∀ (k0_h71 : k0_cond71 d0 v17 = 1#1), ∀ (hinb : ∀ a, (k0_off149 d0 v17) a + S1024x128.size a ≤ S32768x128.size a), (Rect.unit (s := S32768x128) (k0_off149 d0 v17) S1024x128.size hinb).WholeWords (EltTy.packing .bf16)) ∧
  (∀ (k0_h72 : k0_cond72 d0 v17 = 1#1), 8 ∣ (k0_mult189 d0 v17).toNat) ∧
  (∀ (k0_h72 : k0_cond72 d0 v17 = 1#1), 8 ∣ (k0_mult190 d0 v17).toNat) ∧
  (∀ (k0_h72 : k0_cond72 d0 v17 = 1#1), ∀ a, (k0_off150 d0 v17) a + S1024x128.size a ≤ S32768x128.size a) ∧
  (∀ (k0_h72 : k0_cond72 d0 v17 = 1#1), ∀ a, (k0_off151 d0 v17) a + S1024x128.size a ≤ S32768x128.size a) ∧
  (∀ (k0_h72 : k0_cond72 d0 v17 = 1#1), ∀ (hinb : ∀ a, (k0_off151 d0 v17) a + S1024x128.size a ≤ S32768x128.size a), (Rect.unit (s := S32768x128) (k0_off151 d0 v17) S1024x128.size hinb).WholeWords (EltTy.packing .bf16)) ∧
  (∀ (k0_h72 : k0_cond72 d0 v17 = 1#1), ∀ (hinb : ∀ a, (k0_off150 d0 v17) a + S1024x128.size a ≤ S32768x128.size a), (Rect.unit (s := S32768x128) (k0_off150 d0 v17) S1024x128.size hinb).WholeWords (EltTy.packing .bf16)) ∧
  (∀ (k0_h72 : k0_cond72 d0 v17 = 1#1), 8 ∣ (k0_mult191 d0 v17).toNat) ∧
  (∀ (k0_h72 : k0_cond72 d0 v17 = 1#1), 8 ∣ (k0_mult192 d0 v17).toNat) ∧
  (∀ (k0_h72 : k0_cond72 d0 v17 = 1#1), ∀ a, (k0_off152 d0 v17) a + S1024x128.size a ≤ S32768x128.size a) ∧
  (∀ (k0_h72 : k0_cond72 d0 v17 = 1#1), ∀ (hinb : ∀ a, (k0_off152 d0 v17) a + S1024x128.size a ≤ S32768x128.size a), (Rect.unit (s := S32768x128) (k0_off152 d0 v17) S1024x128.size hinb).WholeWords (EltTy.packing .bf16))
def k0_chk1_15 (d0 : Dev nD) (v17 : BitVec 32) : Prop :=
  (∀ (k0_h73 : k0_cond73 d0 v17 = 1#1), 8 ∣ (k0_mult193 d0 v17).toNat) ∧
  (∀ (k0_h73 : k0_cond73 d0 v17 = 1#1), 8 ∣ (k0_mult194 d0 v17).toNat) ∧
  (∀ (k0_h73 : k0_cond73 d0 v17 = 1#1), ∀ a, (k0_off153 d0 v17) a + S1024x128.size a ≤ S32768x128.size a) ∧
  (∀ (k0_h73 : k0_cond73 d0 v17 = 1#1), ∀ a, (k0_off154 d0 v17) a + S1024x128.size a ≤ S32768x128.size a) ∧
  (∀ (k0_h73 : k0_cond73 d0 v17 = 1#1), ∀ (hinb : ∀ a, (k0_off154 d0 v17) a + S1024x128.size a ≤ S32768x128.size a), (Rect.unit (s := S32768x128) (k0_off154 d0 v17) S1024x128.size hinb).WholeWords (EltTy.packing .bf16)) ∧
  (∀ (k0_h73 : k0_cond73 d0 v17 = 1#1), ∀ (hinb : ∀ a, (k0_off153 d0 v17) a + S1024x128.size a ≤ S32768x128.size a), (Rect.unit (s := S32768x128) (k0_off153 d0 v17) S1024x128.size hinb).WholeWords (EltTy.packing .bf16)) ∧
  (∀ (k0_h73 : k0_cond73 d0 v17 = 1#1), 8 ∣ (k0_mult195 d0 v17).toNat) ∧
  (∀ (k0_h73 : k0_cond73 d0 v17 = 1#1), 8 ∣ (k0_mult196 d0 v17).toNat) ∧
  (∀ (k0_h73 : k0_cond73 d0 v17 = 1#1), ∀ a, (k0_off155 d0 v17) a + S1024x128.size a ≤ S32768x128.size a) ∧
  (∀ (k0_h73 : k0_cond73 d0 v17 = 1#1), ∀ (hinb : ∀ a, (k0_off155 d0 v17) a + S1024x128.size a ≤ S32768x128.size a), (Rect.unit (s := S32768x128) (k0_off155 d0 v17) S1024x128.size hinb).WholeWords (EltTy.packing .bf16)) ∧
  (∀ (k0_h74 : k0_cond74 d0 v17 = 1#1), 8 ∣ (k0_mult197 d0 v17).toNat) ∧
  (∀ (k0_h74 : k0_cond74 d0 v17 = 1#1), 8 ∣ (k0_mult198 d0 v17).toNat) ∧
  (∀ (k0_h74 : k0_cond74 d0 v17 = 1#1), ∀ a, (k0_off156 d0 v17) a + S1024x128.size a ≤ S32768x128.size a) ∧
  (∀ (k0_h74 : k0_cond74 d0 v17 = 1#1), ∀ a, (k0_off157 d0 v17) a + S1024x128.size a ≤ S32768x128.size a) ∧
  (∀ (k0_h74 : k0_cond74 d0 v17 = 1#1), ∀ (hinb : ∀ a, (k0_off157 d0 v17) a + S1024x128.size a ≤ S32768x128.size a), (Rect.unit (s := S32768x128) (k0_off157 d0 v17) S1024x128.size hinb).WholeWords (EltTy.packing .bf16)) ∧
  (∀ (k0_h74 : k0_cond74 d0 v17 = 1#1), ∀ (hinb : ∀ a, (k0_off156 d0 v17) a + S1024x128.size a ≤ S32768x128.size a), (Rect.unit (s := S32768x128) (k0_off156 d0 v17) S1024x128.size hinb).WholeWords (EltTy.packing .bf16)) ∧
  (∀ (k0_h74 : k0_cond74 d0 v17 = 1#1), 8 ∣ (k0_mult199 d0 v17).toNat) ∧
  (∀ (k0_h74 : k0_cond74 d0 v17 = 1#1), 8 ∣ (k0_mult200 d0 v17).toNat) ∧
  (∀ (k0_h74 : k0_cond74 d0 v17 = 1#1), ∀ a, (k0_off158 d0 v17) a + S1024x128.size a ≤ S32768x128.size a) ∧
  (∀ (k0_h74 : k0_cond74 d0 v17 = 1#1), ∀ (hinb : ∀ a, (k0_off158 d0 v17) a + S1024x128.size a ≤ S32768x128.size a), (Rect.unit (s := S32768x128) (k0_off158 d0 v17) S1024x128.size hinb).WholeWords (EltTy.packing .bf16)) ∧
  (∀ (k0_h75 : k0_cond75 d0 v17 = 1#1), 8 ∣ (k0_mult201 d0 v17).toNat) ∧
  (∀ (k0_h75 : k0_cond75 d0 v17 = 1#1), 8 ∣ (k0_mult202 d0 v17).toNat) ∧
  (∀ (k0_h75 : k0_cond75 d0 v17 = 1#1), ∀ a, (k0_off159 d0 v17) a + S1024x128.size a ≤ S32768x128.size a) ∧
  (∀ (k0_h75 : k0_cond75 d0 v17 = 1#1), ∀ a, (k0_off160 d0 v17) a + S1024x128.size a ≤ S32768x128.size a) ∧
  (∀ (k0_h75 : k0_cond75 d0 v17 = 1#1), ∀ (hinb : ∀ a, (k0_off160 d0 v17) a + S1024x128.size a ≤ S32768x128.size a), (Rect.unit (s := S32768x128) (k0_off160 d0 v17) S1024x128.size hinb).WholeWords (EltTy.packing .bf16)) ∧
  (∀ (k0_h75 : k0_cond75 d0 v17 = 1#1), ∀ (hinb : ∀ a, (k0_off159 d0 v17) a + S1024x128.size a ≤ S32768x128.size a), (Rect.unit (s := S32768x128) (k0_off159 d0 v17) S1024x128.size hinb).WholeWords (EltTy.packing .bf16)) ∧
  (∀ (k0_h75 : k0_cond75 d0 v17 = 1#1), 8 ∣ (k0_mult203 d0 v17).toNat) ∧
  (∀ (k0_h75 : k0_cond75 d0 v17 = 1#1), 8 ∣ (k0_mult204 d0 v17).toNat) ∧
  (∀ (k0_h75 : k0_cond75 d0 v17 = 1#1), ∀ a, (k0_off161 d0 v17) a + S1024x128.size a ≤ S32768x128.size a) ∧
  (∀ (k0_h75 : k0_cond75 d0 v17 = 1#1), ∀ (hinb : ∀ a, (k0_off161 d0 v17) a + S1024x128.size a ≤ S32768x128.size a), (Rect.unit (s := S32768x128) (k0_off161 d0 v17) S1024x128.size hinb).WholeWords (EltTy.packing .bf16)) ∧
  (∀ (k0_h76 : k0_cond76 d0 v17 = 1#1), 8 ∣ (k0_mult205 d0 v17).toNat) ∧
  (∀ (k0_h76 : k0_cond76 d0 v17 = 1#1), 8 ∣ (k0_mult206 d0 v17).toNat)
def k0_chk1_16 (d0 : Dev nD) (v17 : BitVec 32) : Prop :=
  (∀ (k0_h76 : k0_cond76 d0 v17 = 1#1), ∀ a, (k0_off162 d0 v17) a + S1024x128.size a ≤ S32768x128.size a) ∧
  (∀ (k0_h76 : k0_cond76 d0 v17 = 1#1), ∀ a, (k0_off163 d0 v17) a + S1024x128.size a ≤ S32768x128.size a) ∧
  (∀ (k0_h76 : k0_cond76 d0 v17 = 1#1), ∀ (hinb : ∀ a, (k0_off163 d0 v17) a + S1024x128.size a ≤ S32768x128.size a), (Rect.unit (s := S32768x128) (k0_off163 d0 v17) S1024x128.size hinb).WholeWords (EltTy.packing .bf16)) ∧
  (∀ (k0_h76 : k0_cond76 d0 v17 = 1#1), ∀ (hinb : ∀ a, (k0_off162 d0 v17) a + S1024x128.size a ≤ S32768x128.size a), (Rect.unit (s := S32768x128) (k0_off162 d0 v17) S1024x128.size hinb).WholeWords (EltTy.packing .bf16)) ∧
  (∀ (k0_h76 : k0_cond76 d0 v17 = 1#1), 8 ∣ (k0_mult207 d0 v17).toNat) ∧
  (∀ (k0_h76 : k0_cond76 d0 v17 = 1#1), 8 ∣ (k0_mult208 d0 v17).toNat) ∧
  (∀ (k0_h76 : k0_cond76 d0 v17 = 1#1), ∀ a, (k0_off164 d0 v17) a + S1024x128.size a ≤ S32768x128.size a) ∧
  (∀ (k0_h76 : k0_cond76 d0 v17 = 1#1), ∀ (hinb : ∀ a, (k0_off164 d0 v17) a + S1024x128.size a ≤ S32768x128.size a), (Rect.unit (s := S32768x128) (k0_off164 d0 v17) S1024x128.size hinb).WholeWords (EltTy.packing .bf16)) ∧
  (∀ (k0_h77 : k0_cond77 d0 v17 = 1#1), 8 ∣ (k0_mult209 d0 v17).toNat) ∧
  (∀ (k0_h77 : k0_cond77 d0 v17 = 1#1), 8 ∣ (k0_mult210 d0 v17).toNat) ∧
  (∀ (k0_h77 : k0_cond77 d0 v17 = 1#1), ∀ a, (k0_off165 d0 v17) a + S1024x128.size a ≤ S32768x128.size a) ∧
  (∀ (k0_h77 : k0_cond77 d0 v17 = 1#1), ∀ a, (k0_off166 d0 v17) a + S1024x128.size a ≤ S32768x128.size a) ∧
  (∀ (k0_h77 : k0_cond77 d0 v17 = 1#1), ∀ (hinb : ∀ a, (k0_off166 d0 v17) a + S1024x128.size a ≤ S32768x128.size a), (Rect.unit (s := S32768x128) (k0_off166 d0 v17) S1024x128.size hinb).WholeWords (EltTy.packing .bf16)) ∧
  (∀ (k0_h77 : k0_cond77 d0 v17 = 1#1), ∀ (hinb : ∀ a, (k0_off165 d0 v17) a + S1024x128.size a ≤ S32768x128.size a), (Rect.unit (s := S32768x128) (k0_off165 d0 v17) S1024x128.size hinb).WholeWords (EltTy.packing .bf16)) ∧
  (∀ (k0_h77 : k0_cond77 d0 v17 = 1#1), 8 ∣ (k0_mult211 d0 v17).toNat) ∧
  (∀ (k0_h77 : k0_cond77 d0 v17 = 1#1), 8 ∣ (k0_mult212 d0 v17).toNat) ∧
  (∀ (k0_h77 : k0_cond77 d0 v17 = 1#1), ∀ a, (k0_off167 d0 v17) a + S1024x128.size a ≤ S32768x128.size a) ∧
  (∀ (k0_h77 : k0_cond77 d0 v17 = 1#1), ∀ (hinb : ∀ a, (k0_off167 d0 v17) a + S1024x128.size a ≤ S32768x128.size a), (Rect.unit (s := S32768x128) (k0_off167 d0 v17) S1024x128.size hinb).WholeWords (EltTy.packing .bf16)) ∧
  (∀ (k0_h78 : k0_cond78 d0 v17 = 1#1), 8 ∣ (k0_mult213 d0 v17).toNat) ∧
  (∀ (k0_h78 : k0_cond78 d0 v17 = 1#1), 8 ∣ (k0_mult214 d0 v17).toNat) ∧
  (∀ (k0_h78 : k0_cond78 d0 v17 = 1#1), ∀ a, (k0_off168 d0 v17) a + S1024x128.size a ≤ S32768x128.size a) ∧
  (∀ (k0_h78 : k0_cond78 d0 v17 = 1#1), ∀ a, (k0_off169 d0 v17) a + S1024x128.size a ≤ S32768x128.size a) ∧
  (∀ (k0_h78 : k0_cond78 d0 v17 = 1#1), ∀ (hinb : ∀ a, (k0_off169 d0 v17) a + S1024x128.size a ≤ S32768x128.size a), (Rect.unit (s := S32768x128) (k0_off169 d0 v17) S1024x128.size hinb).WholeWords (EltTy.packing .bf16)) ∧
  (∀ (k0_h78 : k0_cond78 d0 v17 = 1#1), ∀ (hinb : ∀ a, (k0_off168 d0 v17) a + S1024x128.size a ≤ S32768x128.size a), (Rect.unit (s := S32768x128) (k0_off168 d0 v17) S1024x128.size hinb).WholeWords (EltTy.packing .bf16)) ∧
  (∀ (k0_h78 : k0_cond78 d0 v17 = 1#1), 8 ∣ (k0_mult215 d0 v17).toNat) ∧
  (∀ (k0_h78 : k0_cond78 d0 v17 = 1#1), 8 ∣ (k0_mult216 d0 v17).toNat) ∧
  (∀ (k0_h78 : k0_cond78 d0 v17 = 1#1), ∀ a, (k0_off170 d0 v17) a + S1024x128.size a ≤ S32768x128.size a) ∧
  (∀ (k0_h78 : k0_cond78 d0 v17 = 1#1), ∀ (hinb : ∀ a, (k0_off170 d0 v17) a + S1024x128.size a ≤ S32768x128.size a), (Rect.unit (s := S32768x128) (k0_off170 d0 v17) S1024x128.size hinb).WholeWords (EltTy.packing .bf16)) ∧
  (∀ (k0_h79 : k0_cond79 d0 v17 = 1#1), 8 ∣ (k0_mult217 d0 v17).toNat) ∧
  (∀ (k0_h79 : k0_cond79 d0 v17 = 1#1), 8 ∣ (k0_mult218 d0 v17).toNat) ∧
  (∀ (k0_h79 : k0_cond79 d0 v17 = 1#1), ∀ a, (k0_off171 d0 v17) a + S1024x128.size a ≤ S32768x128.size a) ∧
  (∀ (k0_h79 : k0_cond79 d0 v17 = 1#1), ∀ a, (k0_off172 d0 v17) a + S1024x128.size a ≤ S32768x128.size a)
def k0_chk1_17 (d0 : Dev nD) (v17 : BitVec 32) : Prop :=
  (∀ (k0_h79 : k0_cond79 d0 v17 = 1#1), ∀ (hinb : ∀ a, (k0_off172 d0 v17) a + S1024x128.size a ≤ S32768x128.size a), (Rect.unit (s := S32768x128) (k0_off172 d0 v17) S1024x128.size hinb).WholeWords (EltTy.packing .bf16)) ∧
  (∀ (k0_h79 : k0_cond79 d0 v17 = 1#1), ∀ (hinb : ∀ a, (k0_off171 d0 v17) a + S1024x128.size a ≤ S32768x128.size a), (Rect.unit (s := S32768x128) (k0_off171 d0 v17) S1024x128.size hinb).WholeWords (EltTy.packing .bf16)) ∧
  (∀ (k0_h79 : k0_cond79 d0 v17 = 1#1), 8 ∣ (k0_mult219 d0 v17).toNat) ∧
  (∀ (k0_h79 : k0_cond79 d0 v17 = 1#1), 8 ∣ (k0_mult220 d0 v17).toNat) ∧
  (∀ (k0_h79 : k0_cond79 d0 v17 = 1#1), ∀ a, (k0_off173 d0 v17) a + S1024x128.size a ≤ S32768x128.size a) ∧
  (∀ (k0_h79 : k0_cond79 d0 v17 = 1#1), ∀ (hinb : ∀ a, (k0_off173 d0 v17) a + S1024x128.size a ≤ S32768x128.size a), (Rect.unit (s := S32768x128) (k0_off173 d0 v17) S1024x128.size hinb).WholeWords (EltTy.packing .bf16)) ∧
  (∀ (k0_h80 : k0_cond80 d0 v17 = 1#1), 8 ∣ (k0_mult221 d0 v17).toNat) ∧
  (∀ (k0_h80 : k0_cond80 d0 v17 = 1#1), 8 ∣ (k0_mult222 d0 v17).toNat) ∧
  (∀ (k0_h80 : k0_cond80 d0 v17 = 1#1), ∀ a, (k0_off174 d0 v17) a + S1024x128.size a ≤ S32768x128.size a) ∧
  (∀ (k0_h80 : k0_cond80 d0 v17 = 1#1), ∀ a, (k0_off175 d0 v17) a + S1024x128.size a ≤ S32768x128.size a) ∧
  (∀ (k0_h80 : k0_cond80 d0 v17 = 1#1), ∀ (hinb : ∀ a, (k0_off175 d0 v17) a + S1024x128.size a ≤ S32768x128.size a), (Rect.unit (s := S32768x128) (k0_off175 d0 v17) S1024x128.size hinb).WholeWords (EltTy.packing .bf16)) ∧
  (∀ (k0_h80 : k0_cond80 d0 v17 = 1#1), ∀ (hinb : ∀ a, (k0_off174 d0 v17) a + S1024x128.size a ≤ S32768x128.size a), (Rect.unit (s := S32768x128) (k0_off174 d0 v17) S1024x128.size hinb).WholeWords (EltTy.packing .bf16)) ∧
  (∀ (k0_h80 : k0_cond80 d0 v17 = 1#1), 8 ∣ (k0_mult223 d0 v17).toNat) ∧
  (∀ (k0_h80 : k0_cond80 d0 v17 = 1#1), 8 ∣ (k0_mult224 d0 v17).toNat) ∧
  (∀ (k0_h80 : k0_cond80 d0 v17 = 1#1), ∀ a, (k0_off176 d0 v17) a + S1024x128.size a ≤ S32768x128.size a) ∧
  (∀ (k0_h80 : k0_cond80 d0 v17 = 1#1), ∀ (hinb : ∀ a, (k0_off176 d0 v17) a + S1024x128.size a ≤ S32768x128.size a), (Rect.unit (s := S32768x128) (k0_off176 d0 v17) S1024x128.size hinb).WholeWords (EltTy.packing .bf16))
def k0_chk1 (d0 : Dev nD) (v17 : BitVec 32) : Prop :=
  k0_chk1_0 d0 v17 ∧
  k0_chk1_1 d0 v17 ∧
  k0_chk1_2 d0 v17 ∧
  k0_chk1_3 d0 v17 ∧
  k0_chk1_4 d0 v17 ∧
  k0_chk1_5 d0 v17 ∧
  k0_chk1_6 d0 v17 ∧
  k0_chk1_7 d0 v17 ∧
  k0_chk1_8 d0 v17 ∧
  k0_chk1_9 d0 v17 ∧
  k0_chk1_10 d0 v17 ∧
  k0_chk1_11 d0 v17 ∧
  k0_chk1_12 d0 v17 ∧
  k0_chk1_13 d0 v17 ∧
  k0_chk1_14 d0 v17 ∧
  k0_chk1_15 d0 v17 ∧
  k0_chk1_16 d0 v17 ∧
  k0_chk1_17 d0 v17
theorem k0_mult1_dvd : ∀ (d0 : Dev nD) (v17 : BitVec 32) (k0_hw1 : k0_chk1 d0 v17), ∀ (k0_h1 : k0_cond1 d0 v17 = 1#1), 8 ∣ (k0_mult1 d0 v17).toNat := fun d0 v17 k0_hw1 k0_h1 => k0_hw1.1.1 k0_h1
theorem k0_mult2_dvd : ∀ (d0 : Dev nD) (v17 : BitVec 32) (k0_hw1 : k0_chk1 d0 v17), ∀ (k0_h1 : k0_cond1 d0 v17 = 1#1), 8 ∣ (k0_mult2 d0 v17).toNat := fun d0 v17 k0_hw1 k0_h1 => k0_hw1.1.2.1 k0_h1
theorem k0_off1_inb : ∀ (d0 : Dev nD) (v17 : BitVec 32) (k0_hw1 : k0_chk1 d0 v17), ∀ (k0_h1 : k0_cond1 d0 v17 = 1#1), ∀ a, (k0_off1 d0 v17) a + S1024x128.size a ≤ S32768x128.size a := fun d0 v17 k0_hw1 k0_h1 => k0_hw1.1.2.2.1 k0_h1
theorem k0_off2_inb : ∀ (d0 : Dev nD) (v17 : BitVec 32) (k0_hw1 : k0_chk1 d0 v17), ∀ (k0_h1 : k0_cond1 d0 v17 = 1#1), ∀ a, (k0_off2 d0 v17) a + S1024x128.size a ≤ S32768x128.size a := fun d0 v17 k0_hw1 k0_h1 => k0_hw1.1.2.2.2.1 k0_h1
theorem k0_off2_wordsbf16 : ∀ (d0 : Dev nD) (v17 : BitVec 32) (k0_hw1 : k0_chk1 d0 v17), ∀ (k0_h1 : k0_cond1 d0 v17 = 1#1), (Rect.unit (s := S32768x128) (k0_off2 d0 v17) S1024x128.size (k0_off2_inb d0 v17 k0_hw1 k0_h1)).WholeWords (EltTy.packing .bf16) := fun d0 v17 k0_hw1 k0_h1 => k0_hw1.1.2.2.2.2.1 k0_h1 (k0_off2_inb d0 v17 k0_hw1 k0_h1)
theorem k0_off1_wordsbf16 : ∀ (d0 : Dev nD) (v17 : BitVec 32) (k0_hw1 : k0_chk1 d0 v17), ∀ (k0_h1 : k0_cond1 d0 v17 = 1#1), (Rect.unit (s := S32768x128) (k0_off1 d0 v17) S1024x128.size (k0_off1_inb d0 v17 k0_hw1 k0_h1)).WholeWords (EltTy.packing .bf16) := fun d0 v17 k0_hw1 k0_h1 => k0_hw1.1.2.2.2.2.2.1 k0_h1 (k0_off1_inb d0 v17 k0_hw1 k0_h1)
theorem k0_mult3_dvd : ∀ (d0 : Dev nD) (v17 : BitVec 32) (k0_hw1 : k0_chk1 d0 v17), ∀ (k0_h2 : k0_cond2 d0 v17 = 1#1), 8 ∣ (k0_mult3 d0 v17).toNat := fun d0 v17 k0_hw1 k0_h2 => k0_hw1.1.2.2.2.2.2.2.1 k0_h2
theorem k0_mult4_dvd : ∀ (d0 : Dev nD) (v17 : BitVec 32) (k0_hw1 : k0_chk1 d0 v17), ∀ (k0_h2 : k0_cond2 d0 v17 = 1#1), 8 ∣ (k0_mult4 d0 v17).toNat := fun d0 v17 k0_hw1 k0_h2 => k0_hw1.1.2.2.2.2.2.2.2.1 k0_h2
theorem k0_off3_inb : ∀ (d0 : Dev nD) (v17 : BitVec 32) (k0_hw1 : k0_chk1 d0 v17), ∀ (k0_h2 : k0_cond2 d0 v17 = 1#1), ∀ a, (k0_off3 d0 v17) a + S1024x128.size a ≤ S32768x128.size a := fun d0 v17 k0_hw1 k0_h2 => k0_hw1.1.2.2.2.2.2.2.2.2.1 k0_h2
theorem k0_off4_inb : ∀ (d0 : Dev nD) (v17 : BitVec 32) (k0_hw1 : k0_chk1 d0 v17), ∀ (k0_h2 : k0_cond2 d0 v17 = 1#1), ∀ a, (k0_off4 d0 v17) a + S1024x128.size a ≤ S32768x128.size a := fun d0 v17 k0_hw1 k0_h2 => k0_hw1.1.2.2.2.2.2.2.2.2.2.1 k0_h2
theorem k0_off4_wordsbf16 : ∀ (d0 : Dev nD) (v17 : BitVec 32) (k0_hw1 : k0_chk1 d0 v17), ∀ (k0_h2 : k0_cond2 d0 v17 = 1#1), (Rect.unit (s := S32768x128) (k0_off4 d0 v17) S1024x128.size (k0_off4_inb d0 v17 k0_hw1 k0_h2)).WholeWords (EltTy.packing .bf16) := fun d0 v17 k0_hw1 k0_h2 => k0_hw1.1.2.2.2.2.2.2.2.2.2.2.1 k0_h2 (k0_off4_inb d0 v17 k0_hw1 k0_h2)
theorem k0_off3_wordsbf16 : ∀ (d0 : Dev nD) (v17 : BitVec 32) (k0_hw1 : k0_chk1 d0 v17), ∀ (k0_h2 : k0_cond2 d0 v17 = 1#1), (Rect.unit (s := S32768x128) (k0_off3 d0 v17) S1024x128.size (k0_off3_inb d0 v17 k0_hw1 k0_h2)).WholeWords (EltTy.packing .bf16) := fun d0 v17 k0_hw1 k0_h2 => k0_hw1.1.2.2.2.2.2.2.2.2.2.2.2.1 k0_h2 (k0_off3_inb d0 v17 k0_hw1 k0_h2)
theorem k0_mult5_dvd : ∀ (d0 : Dev nD) (v17 : BitVec 32) (k0_hw1 : k0_chk1 d0 v17), ∀ (k0_h3 : k0_cond3 d0 v17 = 1#1), 8 ∣ (k0_mult5 d0 v17).toNat := fun d0 v17 k0_hw1 k0_h3 => k0_hw1.1.2.2.2.2.2.2.2.2.2.2.2.2.1 k0_h3
theorem k0_mult6_dvd : ∀ (d0 : Dev nD) (v17 : BitVec 32) (k0_hw1 : k0_chk1 d0 v17), ∀ (k0_h3 : k0_cond3 d0 v17 = 1#1), 8 ∣ (k0_mult6 d0 v17).toNat := fun d0 v17 k0_hw1 k0_h3 => k0_hw1.1.2.2.2.2.2.2.2.2.2.2.2.2.2.1 k0_h3
theorem k0_off5_inb : ∀ (d0 : Dev nD) (v17 : BitVec 32) (k0_hw1 : k0_chk1 d0 v17), ∀ (k0_h3 : k0_cond3 d0 v17 = 1#1), ∀ a, (k0_off5 d0 v17) a + S1024x128.size a ≤ S32768x128.size a := fun d0 v17 k0_hw1 k0_h3 => k0_hw1.1.2.2.2.2.2.2.2.2.2.2.2.2.2.2.1 k0_h3
theorem k0_off6_inb : ∀ (d0 : Dev nD) (v17 : BitVec 32) (k0_hw1 : k0_chk1 d0 v17), ∀ (k0_h3 : k0_cond3 d0 v17 = 1#1), ∀ a, (k0_off6 d0 v17) a + S1024x128.size a ≤ S32768x128.size a := fun d0 v17 k0_hw1 k0_h3 => k0_hw1.1.2.2.2.2.2.2.2.2.2.2.2.2.2.2.2.1 k0_h3
theorem k0_off6_wordsbf16 : ∀ (d0 : Dev nD) (v17 : BitVec 32) (k0_hw1 : k0_chk1 d0 v17), ∀ (k0_h3 : k0_cond3 d0 v17 = 1#1), (Rect.unit (s := S32768x128) (k0_off6 d0 v17) S1024x128.size (k0_off6_inb d0 v17 k0_hw1 k0_h3)).WholeWords (EltTy.packing .bf16) := fun d0 v17 k0_hw1 k0_h3 => k0_hw1.1.2.2.2.2.2.2.2.2.2.2.2.2.2.2.2.2.1 k0_h3 (k0_off6_inb d0 v17 k0_hw1 k0_h3)
theorem k0_off5_wordsbf16 : ∀ (d0 : Dev nD) (v17 : BitVec 32) (k0_hw1 : k0_chk1 d0 v17), ∀ (k0_h3 : k0_cond3 d0 v17 = 1#1), (Rect.unit (s := S32768x128) (k0_off5 d0 v17) S1024x128.size (k0_off5_inb d0 v17 k0_hw1 k0_h3)).WholeWords (EltTy.packing .bf16) := fun d0 v17 k0_hw1 k0_h3 => k0_hw1.1.2.2.2.2.2.2.2.2.2.2.2.2.2.2.2.2.2.1 k0_h3 (k0_off5_inb d0 v17 k0_hw1 k0_h3)
theorem k0_mult7_dvd : ∀ (d0 : Dev nD) (v17 : BitVec 32) (k0_hw1 : k0_chk1 d0 v17), ∀ (k0_h4 : k0_cond4 d0 v17 = 1#1), 8 ∣ (k0_mult7 d0 v17).toNat := fun d0 v17 k0_hw1 k0_h4 => k0_hw1.1.2.2.2.2.2.2.2.2.2.2.2.2.2.2.2.2.2.2.1 k0_h4
theorem k0_mult8_dvd : ∀ (d0 : Dev nD) (v17 : BitVec 32) (k0_hw1 : k0_chk1 d0 v17), ∀ (k0_h4 : k0_cond4 d0 v17 = 1#1), 8 ∣ (k0_mult8 d0 v17).toNat := fun d0 v17 k0_hw1 k0_h4 => k0_hw1.1.2.2.2.2.2.2.2.2.2.2.2.2.2.2.2.2.2.2.2.1 k0_h4
theorem k0_off7_inb : ∀ (d0 : Dev nD) (v17 : BitVec 32) (k0_hw1 : k0_chk1 d0 v17), ∀ (k0_h4 : k0_cond4 d0 v17 = 1#1), ∀ a, (k0_off7 d0 v17) a + S1024x128.size a ≤ S32768x128.size a := fun d0 v17 k0_hw1 k0_h4 => k0_hw1.1.2.2.2.2.2.2.2.2.2.2.2.2.2.2.2.2.2.2.2.2.1 k0_h4
theorem k0_off8_inb : ∀ (d0 : Dev nD) (v17 : BitVec 32) (k0_hw1 : k0_chk1 d0 v17), ∀ (k0_h4 : k0_cond4 d0 v17 = 1#1), ∀ a, (k0_off8 d0 v17) a + S1024x128.size a ≤ S32768x128.size a := fun d0 v17 k0_hw1 k0_h4 => k0_hw1.1.2.2.2.2.2.2.2.2.2.2.2.2.2.2.2.2.2.2.2.2.2.1 k0_h4
theorem k0_off8_wordsbf16 : ∀ (d0 : Dev nD) (v17 : BitVec 32) (k0_hw1 : k0_chk1 d0 v17), ∀ (k0_h4 : k0_cond4 d0 v17 = 1#1), (Rect.unit (s := S32768x128) (k0_off8 d0 v17) S1024x128.size (k0_off8_inb d0 v17 k0_hw1 k0_h4)).WholeWords (EltTy.packing .bf16) := fun d0 v17 k0_hw1 k0_h4 => k0_hw1.1.2.2.2.2.2.2.2.2.2.2.2.2.2.2.2.2.2.2.2.2.2.2.1 k0_h4 (k0_off8_inb d0 v17 k0_hw1 k0_h4)
theorem k0_off7_wordsbf16 : ∀ (d0 : Dev nD) (v17 : BitVec 32) (k0_hw1 : k0_chk1 d0 v17), ∀ (k0_h4 : k0_cond4 d0 v17 = 1#1), (Rect.unit (s := S32768x128) (k0_off7 d0 v17) S1024x128.size (k0_off7_inb d0 v17 k0_hw1 k0_h4)).WholeWords (EltTy.packing .bf16) := fun d0 v17 k0_hw1 k0_h4 => k0_hw1.1.2.2.2.2.2.2.2.2.2.2.2.2.2.2.2.2.2.2.2.2.2.2.2.1 k0_h4 (k0_off7_inb d0 v17 k0_hw1 k0_h4)
theorem k0_mult9_dvd : ∀ (d0 : Dev nD) (v17 : BitVec 32) (k0_hw1 : k0_chk1 d0 v17), ∀ (k0_h5 : k0_cond5 d0 v17 = 1#1), 8 ∣ (k0_mult9 d0 v17).toNat := fun d0 v17 k0_hw1 k0_h5 => k0_hw1.1.2.2.2.2.2.2.2.2.2.2.2.2.2.2.2.2.2.2.2.2.2.2.2.2.1 k0_h5
theorem k0_mult10_dvd : ∀ (d0 : Dev nD) (v17 : BitVec 32) (k0_hw1 : k0_chk1 d0 v17), ∀ (k0_h5 : k0_cond5 d0 v17 = 1#1), 8 ∣ (k0_mult10 d0 v17).toNat := fun d0 v17 k0_hw1 k0_h5 => k0_hw1.1.2.2.2.2.2.2.2.2.2.2.2.2.2.2.2.2.2.2.2.2.2.2.2.2.2.1 k0_h5
theorem k0_off9_inb : ∀ (d0 : Dev nD) (v17 : BitVec 32) (k0_hw1 : k0_chk1 d0 v17), ∀ (k0_h5 : k0_cond5 d0 v17 = 1#1), ∀ a, (k0_off9 d0 v17) a + S1024x128.size a ≤ S32768x128.size a := fun d0 v17 k0_hw1 k0_h5 => k0_hw1.1.2.2.2.2.2.2.2.2.2.2.2.2.2.2.2.2.2.2.2.2.2.2.2.2.2.2.1 k0_h5
theorem k0_off10_inb : ∀ (d0 : Dev nD) (v17 : BitVec 32) (k0_hw1 : k0_chk1 d0 v17), ∀ (k0_h5 : k0_cond5 d0 v17 = 1#1), ∀ a, (k0_off10 d0 v17) a + S1024x128.size a ≤ S32768x128.size a := fun d0 v17 k0_hw1 k0_h5 => k0_hw1.1.2.2.2.2.2.2.2.2.2.2.2.2.2.2.2.2.2.2.2.2.2.2.2.2.2.2.2.1 k0_h5
theorem k0_off10_wordsbf16 : ∀ (d0 : Dev nD) (v17 : BitVec 32) (k0_hw1 : k0_chk1 d0 v17), ∀ (k0_h5 : k0_cond5 d0 v17 = 1#1), (Rect.unit (s := S32768x128) (k0_off10 d0 v17) S1024x128.size (k0_off10_inb d0 v17 k0_hw1 k0_h5)).WholeWords (EltTy.packing .bf16) := fun d0 v17 k0_hw1 k0_h5 => k0_hw1.1.2.2.2.2.2.2.2.2.2.2.2.2.2.2.2.2.2.2.2.2.2.2.2.2.2.2.2.2.1 k0_h5 (k0_off10_inb d0 v17 k0_hw1 k0_h5)
theorem k0_off9_wordsbf16 : ∀ (d0 : Dev nD) (v17 : BitVec 32) (k0_hw1 : k0_chk1 d0 v17), ∀ (k0_h5 : k0_cond5 d0 v17 = 1#1), (Rect.unit (s := S32768x128) (k0_off9 d0 v17) S1024x128.size (k0_off9_inb d0 v17 k0_hw1 k0_h5)).WholeWords (EltTy.packing .bf16) := fun d0 v17 k0_hw1 k0_h5 => k0_hw1.1.2.2.2.2.2.2.2.2.2.2.2.2.2.2.2.2.2.2.2.2.2.2.2.2.2.2.2.2.2.1 k0_h5 (k0_off9_inb d0 v17 k0_hw1 k0_h5)
theorem k0_mult11_dvd : ∀ (d0 : Dev nD) (v17 : BitVec 32) (k0_hw1 : k0_chk1 d0 v17), ∀ (k0_h6 : k0_cond6 d0 v17 = 1#1), 8 ∣ (k0_mult11 d0 v17).toNat := fun d0 v17 k0_hw1 k0_h6 => k0_hw1.1.2.2.2.2.2.2.2.2.2.2.2.2.2.2.2.2.2.2.2.2.2.2.2.2.2.2.2.2.2.2.1 k0_h6
theorem k0_mult12_dvd : ∀ (d0 : Dev nD) (v17 : BitVec 32) (k0_hw1 : k0_chk1 d0 v17), ∀ (k0_h6 : k0_cond6 d0 v17 = 1#1), 8 ∣ (k0_mult12 d0 v17).toNat := fun d0 v17 k0_hw1 k0_h6 => k0_hw1.1.2.2.2.2.2.2.2.2.2.2.2.2.2.2.2.2.2.2.2.2.2.2.2.2.2.2.2.2.2.2.2 k0_h6
theorem k0_off11_inb : ∀ (d0 : Dev nD) (v17 : BitVec 32) (k0_hw1 : k0_chk1 d0 v17), ∀ (k0_h6 : k0_cond6 d0 v17 = 1#1), ∀ a, (k0_off11 d0 v17) a + S1024x128.size a ≤ S32768x128.size a := fun d0 v17 k0_hw1 k0_h6 => k0_hw1.2.1.1 k0_h6
theorem k0_off12_inb : ∀ (d0 : Dev nD) (v17 : BitVec 32) (k0_hw1 : k0_chk1 d0 v17), ∀ (k0_h6 : k0_cond6 d0 v17 = 1#1), ∀ a, (k0_off12 d0 v17) a + S1024x128.size a ≤ S32768x128.size a := fun d0 v17 k0_hw1 k0_h6 => k0_hw1.2.1.2.1 k0_h6
theorem k0_off12_wordsbf16 : ∀ (d0 : Dev nD) (v17 : BitVec 32) (k0_hw1 : k0_chk1 d0 v17), ∀ (k0_h6 : k0_cond6 d0 v17 = 1#1), (Rect.unit (s := S32768x128) (k0_off12 d0 v17) S1024x128.size (k0_off12_inb d0 v17 k0_hw1 k0_h6)).WholeWords (EltTy.packing .bf16) := fun d0 v17 k0_hw1 k0_h6 => k0_hw1.2.1.2.2.1 k0_h6 (k0_off12_inb d0 v17 k0_hw1 k0_h6)
theorem k0_off11_wordsbf16 : ∀ (d0 : Dev nD) (v17 : BitVec 32) (k0_hw1 : k0_chk1 d0 v17), ∀ (k0_h6 : k0_cond6 d0 v17 = 1#1), (Rect.unit (s := S32768x128) (k0_off11 d0 v17) S1024x128.size (k0_off11_inb d0 v17 k0_hw1 k0_h6)).WholeWords (EltTy.packing .bf16) := fun d0 v17 k0_hw1 k0_h6 => k0_hw1.2.1.2.2.2.1 k0_h6 (k0_off11_inb d0 v17 k0_hw1 k0_h6)
theorem k0_mult13_dvd : ∀ (d0 : Dev nD) (v17 : BitVec 32) (k0_hw1 : k0_chk1 d0 v17), ∀ (k0_h7 : k0_cond7 d0 v17 = 1#1), 8 ∣ (k0_mult13 d0 v17).toNat := fun d0 v17 k0_hw1 k0_h7 => k0_hw1.2.1.2.2.2.2.1 k0_h7
theorem k0_mult14_dvd : ∀ (d0 : Dev nD) (v17 : BitVec 32) (k0_hw1 : k0_chk1 d0 v17), ∀ (k0_h7 : k0_cond7 d0 v17 = 1#1), 8 ∣ (k0_mult14 d0 v17).toNat := fun d0 v17 k0_hw1 k0_h7 => k0_hw1.2.1.2.2.2.2.2.1 k0_h7
theorem k0_off13_inb : ∀ (d0 : Dev nD) (v17 : BitVec 32) (k0_hw1 : k0_chk1 d0 v17), ∀ (k0_h7 : k0_cond7 d0 v17 = 1#1), ∀ a, (k0_off13 d0 v17) a + S1024x128.size a ≤ S32768x128.size a := fun d0 v17 k0_hw1 k0_h7 => k0_hw1.2.1.2.2.2.2.2.2.1 k0_h7
theorem k0_off14_inb : ∀ (d0 : Dev nD) (v17 : BitVec 32) (k0_hw1 : k0_chk1 d0 v17), ∀ (k0_h7 : k0_cond7 d0 v17 = 1#1), ∀ a, (k0_off14 d0 v17) a + S1024x128.size a ≤ S32768x128.size a := fun d0 v17 k0_hw1 k0_h7 => k0_hw1.2.1.2.2.2.2.2.2.2.1 k0_h7
theorem k0_off14_wordsbf16 : ∀ (d0 : Dev nD) (v17 : BitVec 32) (k0_hw1 : k0_chk1 d0 v17), ∀ (k0_h7 : k0_cond7 d0 v17 = 1#1), (Rect.unit (s := S32768x128) (k0_off14 d0 v17) S1024x128.size (k0_off14_inb d0 v17 k0_hw1 k0_h7)).WholeWords (EltTy.packing .bf16) := fun d0 v17 k0_hw1 k0_h7 => k0_hw1.2.1.2.2.2.2.2.2.2.2.1 k0_h7 (k0_off14_inb d0 v17 k0_hw1 k0_h7)
theorem k0_off13_wordsbf16 : ∀ (d0 : Dev nD) (v17 : BitVec 32) (k0_hw1 : k0_chk1 d0 v17), ∀ (k0_h7 : k0_cond7 d0 v17 = 1#1), (Rect.unit (s := S32768x128) (k0_off13 d0 v17) S1024x128.size (k0_off13_inb d0 v17 k0_hw1 k0_h7)).WholeWords (EltTy.packing .bf16) := fun d0 v17 k0_hw1 k0_h7 => k0_hw1.2.1.2.2.2.2.2.2.2.2.2.1 k0_h7 (k0_off13_inb d0 v17 k0_hw1 k0_h7)
theorem k0_mult15_dvd : ∀ (d0 : Dev nD) (v17 : BitVec 32) (k0_hw1 : k0_chk1 d0 v17), ∀ (k0_h8 : k0_cond8 d0 v17 = 1#1), 8 ∣ (k0_mult15 d0 v17).toNat := fun d0 v17 k0_hw1 k0_h8 => k0_hw1.2.1.2.2.2.2.2.2.2.2.2.2.1 k0_h8
theorem k0_mult16_dvd : ∀ (d0 : Dev nD) (v17 : BitVec 32) (k0_hw1 : k0_chk1 d0 v17), ∀ (k0_h8 : k0_cond8 d0 v17 = 1#1), 8 ∣ (k0_mult16 d0 v17).toNat := fun d0 v17 k0_hw1 k0_h8 => k0_hw1.2.1.2.2.2.2.2.2.2.2.2.2.2.1 k0_h8
theorem k0_off15_inb : ∀ (d0 : Dev nD) (v17 : BitVec 32) (k0_hw1 : k0_chk1 d0 v17), ∀ (k0_h8 : k0_cond8 d0 v17 = 1#1), ∀ a, (k0_off15 d0 v17) a + S1024x128.size a ≤ S32768x128.size a := fun d0 v17 k0_hw1 k0_h8 => k0_hw1.2.1.2.2.2.2.2.2.2.2.2.2.2.2.1 k0_h8
theorem k0_off16_inb : ∀ (d0 : Dev nD) (v17 : BitVec 32) (k0_hw1 : k0_chk1 d0 v17), ∀ (k0_h8 : k0_cond8 d0 v17 = 1#1), ∀ a, (k0_off16 d0 v17) a + S1024x128.size a ≤ S32768x128.size a := fun d0 v17 k0_hw1 k0_h8 => k0_hw1.2.1.2.2.2.2.2.2.2.2.2.2.2.2.2.1 k0_h8
theorem k0_off16_wordsbf16 : ∀ (d0 : Dev nD) (v17 : BitVec 32) (k0_hw1 : k0_chk1 d0 v17), ∀ (k0_h8 : k0_cond8 d0 v17 = 1#1), (Rect.unit (s := S32768x128) (k0_off16 d0 v17) S1024x128.size (k0_off16_inb d0 v17 k0_hw1 k0_h8)).WholeWords (EltTy.packing .bf16) := fun d0 v17 k0_hw1 k0_h8 => k0_hw1.2.1.2.2.2.2.2.2.2.2.2.2.2.2.2.2.1 k0_h8 (k0_off16_inb d0 v17 k0_hw1 k0_h8)
theorem k0_off15_wordsbf16 : ∀ (d0 : Dev nD) (v17 : BitVec 32) (k0_hw1 : k0_chk1 d0 v17), ∀ (k0_h8 : k0_cond8 d0 v17 = 1#1), (Rect.unit (s := S32768x128) (k0_off15 d0 v17) S1024x128.size (k0_off15_inb d0 v17 k0_hw1 k0_h8)).WholeWords (EltTy.packing .bf16) := fun d0 v17 k0_hw1 k0_h8 => k0_hw1.2.1.2.2.2.2.2.2.2.2.2.2.2.2.2.2.2.1 k0_h8 (k0_off15_inb d0 v17 k0_hw1 k0_h8)
theorem k0_mult17_dvd : ∀ (d0 : Dev nD) (v17 : BitVec 32) (k0_hw1 : k0_chk1 d0 v17), ∀ (k0_h9 : k0_cond9 d0 v17 = 1#1), 8 ∣ (k0_mult17 d0 v17).toNat := fun d0 v17 k0_hw1 k0_h9 => k0_hw1.2.1.2.2.2.2.2.2.2.2.2.2.2.2.2.2.2.2.1 k0_h9
theorem k0_mult18_dvd : ∀ (d0 : Dev nD) (v17 : BitVec 32) (k0_hw1 : k0_chk1 d0 v17), ∀ (k0_h9 : k0_cond9 d0 v17 = 1#1), 8 ∣ (k0_mult18 d0 v17).toNat := fun d0 v17 k0_hw1 k0_h9 => k0_hw1.2.1.2.2.2.2.2.2.2.2.2.2.2.2.2.2.2.2.2.1 k0_h9
theorem k0_off17_inb : ∀ (d0 : Dev nD) (v17 : BitVec 32) (k0_hw1 : k0_chk1 d0 v17), ∀ (k0_h9 : k0_cond9 d0 v17 = 1#1), ∀ a, (k0_off17 d0 v17) a + S1024x128.size a ≤ S32768x128.size a := fun d0 v17 k0_hw1 k0_h9 => k0_hw1.2.1.2.2.2.2.2.2.2.2.2.2.2.2.2.2.2.2.2.2.1 k0_h9
theorem k0_off18_inb : ∀ (d0 : Dev nD) (v17 : BitVec 32) (k0_hw1 : k0_chk1 d0 v17), ∀ (k0_h9 : k0_cond9 d0 v17 = 1#1), ∀ a, (k0_off18 d0 v17) a + S1024x128.size a ≤ S32768x128.size a := fun d0 v17 k0_hw1 k0_h9 => k0_hw1.2.1.2.2.2.2.2.2.2.2.2.2.2.2.2.2.2.2.2.2.2.1 k0_h9
theorem k0_off18_wordsbf16 : ∀ (d0 : Dev nD) (v17 : BitVec 32) (k0_hw1 : k0_chk1 d0 v17), ∀ (k0_h9 : k0_cond9 d0 v17 = 1#1), (Rect.unit (s := S32768x128) (k0_off18 d0 v17) S1024x128.size (k0_off18_inb d0 v17 k0_hw1 k0_h9)).WholeWords (EltTy.packing .bf16) := fun d0 v17 k0_hw1 k0_h9 => k0_hw1.2.1.2.2.2.2.2.2.2.2.2.2.2.2.2.2.2.2.2.2.2.2.1 k0_h9 (k0_off18_inb d0 v17 k0_hw1 k0_h9)
theorem k0_off17_wordsbf16 : ∀ (d0 : Dev nD) (v17 : BitVec 32) (k0_hw1 : k0_chk1 d0 v17), ∀ (k0_h9 : k0_cond9 d0 v17 = 1#1), (Rect.unit (s := S32768x128) (k0_off17 d0 v17) S1024x128.size (k0_off17_inb d0 v17 k0_hw1 k0_h9)).WholeWords (EltTy.packing .bf16) := fun d0 v17 k0_hw1 k0_h9 => k0_hw1.2.1.2.2.2.2.2.2.2.2.2.2.2.2.2.2.2.2.2.2.2.2.2.1 k0_h9 (k0_off17_inb d0 v17 k0_hw1 k0_h9)
theorem k0_mult19_dvd : ∀ (d0 : Dev nD) (v17 : BitVec 32) (k0_hw1 : k0_chk1 d0 v17), ∀ (k0_h10 : k0_cond10 d0 v17 = 1#1), 8 ∣ (k0_mult19 d0 v17).toNat := fun d0 v17 k0_hw1 k0_h10 => k0_hw1.2.1.2.2.2.2.2.2.2.2.2.2.2.2.2.2.2.2.2.2.2.2.2.2.1 k0_h10
theorem k0_mult20_dvd : ∀ (d0 : Dev nD) (v17 : BitVec 32) (k0_hw1 : k0_chk1 d0 v17), ∀ (k0_h10 : k0_cond10 d0 v17 = 1#1), 8 ∣ (k0_mult20 d0 v17).toNat := fun d0 v17 k0_hw1 k0_h10 => k0_hw1.2.1.2.2.2.2.2.2.2.2.2.2.2.2.2.2.2.2.2.2.2.2.2.2.2.1 k0_h10
theorem k0_off19_inb : ∀ (d0 : Dev nD) (v17 : BitVec 32) (k0_hw1 : k0_chk1 d0 v17), ∀ (k0_h10 : k0_cond10 d0 v17 = 1#1), ∀ a, (k0_off19 d0 v17) a + S1024x128.size a ≤ S32768x128.size a := fun d0 v17 k0_hw1 k0_h10 => k0_hw1.2.1.2.2.2.2.2.2.2.2.2.2.2.2.2.2.2.2.2.2.2.2.2.2.2.2.1 k0_h10
theorem k0_off20_inb : ∀ (d0 : Dev nD) (v17 : BitVec 32) (k0_hw1 : k0_chk1 d0 v17), ∀ (k0_h10 : k0_cond10 d0 v17 = 1#1), ∀ a, (k0_off20 d0 v17) a + S1024x128.size a ≤ S32768x128.size a := fun d0 v17 k0_hw1 k0_h10 => k0_hw1.2.1.2.2.2.2.2.2.2.2.2.2.2.2.2.2.2.2.2.2.2.2.2.2.2.2.2.1 k0_h10
theorem k0_off20_wordsbf16 : ∀ (d0 : Dev nD) (v17 : BitVec 32) (k0_hw1 : k0_chk1 d0 v17), ∀ (k0_h10 : k0_cond10 d0 v17 = 1#1), (Rect.unit (s := S32768x128) (k0_off20 d0 v17) S1024x128.size (k0_off20_inb d0 v17 k0_hw1 k0_h10)).WholeWords (EltTy.packing .bf16) := fun d0 v17 k0_hw1 k0_h10 => k0_hw1.2.1.2.2.2.2.2.2.2.2.2.2.2.2.2.2.2.2.2.2.2.2.2.2.2.2.2.2.1 k0_h10 (k0_off20_inb d0 v17 k0_hw1 k0_h10)
theorem k0_off19_wordsbf16 : ∀ (d0 : Dev nD) (v17 : BitVec 32) (k0_hw1 : k0_chk1 d0 v17), ∀ (k0_h10 : k0_cond10 d0 v17 = 1#1), (Rect.unit (s := S32768x128) (k0_off19 d0 v17) S1024x128.size (k0_off19_inb d0 v17 k0_hw1 k0_h10)).WholeWords (EltTy.packing .bf16) := fun d0 v17 k0_hw1 k0_h10 => k0_hw1.2.1.2.2.2.2.2.2.2.2.2.2.2.2.2.2.2.2.2.2.2.2.2.2.2.2.2.2.2.1 k0_h10 (k0_off19_inb d0 v17 k0_hw1 k0_h10)
theorem k0_mult21_dvd : ∀ (d0 : Dev nD) (v17 : BitVec 32) (k0_hw1 : k0_chk1 d0 v17), ∀ (k0_h11 : k0_cond11 d0 v17 = 1#1), 8 ∣ (k0_mult21 d0 v17).toNat := fun d0 v17 k0_hw1 k0_h11 => k0_hw1.2.1.2.2.2.2.2.2.2.2.2.2.2.2.2.2.2.2.2.2.2.2.2.2.2.2.2.2.2.2.1 k0_h11
theorem k0_mult22_dvd : ∀ (d0 : Dev nD) (v17 : BitVec 32) (k0_hw1 : k0_chk1 d0 v17), ∀ (k0_h11 : k0_cond11 d0 v17 = 1#1), 8 ∣ (k0_mult22 d0 v17).toNat := fun d0 v17 k0_hw1 k0_h11 => k0_hw1.2.1.2.2.2.2.2.2.2.2.2.2.2.2.2.2.2.2.2.2.2.2.2.2.2.2.2.2.2.2.2.1 k0_h11
theorem k0_off21_inb : ∀ (d0 : Dev nD) (v17 : BitVec 32) (k0_hw1 : k0_chk1 d0 v17), ∀ (k0_h11 : k0_cond11 d0 v17 = 1#1), ∀ a, (k0_off21 d0 v17) a + S1024x128.size a ≤ S32768x128.size a := fun d0 v17 k0_hw1 k0_h11 => k0_hw1.2.1.2.2.2.2.2.2.2.2.2.2.2.2.2.2.2.2.2.2.2.2.2.2.2.2.2.2.2.2.2.2.1 k0_h11
theorem k0_off22_inb : ∀ (d0 : Dev nD) (v17 : BitVec 32) (k0_hw1 : k0_chk1 d0 v17), ∀ (k0_h11 : k0_cond11 d0 v17 = 1#1), ∀ a, (k0_off22 d0 v17) a + S1024x128.size a ≤ S32768x128.size a := fun d0 v17 k0_hw1 k0_h11 => k0_hw1.2.1.2.2.2.2.2.2.2.2.2.2.2.2.2.2.2.2.2.2.2.2.2.2.2.2.2.2.2.2.2.2.2 k0_h11
theorem k0_off22_wordsbf16 : ∀ (d0 : Dev nD) (v17 : BitVec 32) (k0_hw1 : k0_chk1 d0 v17), ∀ (k0_h11 : k0_cond11 d0 v17 = 1#1), (Rect.unit (s := S32768x128) (k0_off22 d0 v17) S1024x128.size (k0_off22_inb d0 v17 k0_hw1 k0_h11)).WholeWords (EltTy.packing .bf16) := fun d0 v17 k0_hw1 k0_h11 => k0_hw1.2.2.1.1 k0_h11 (k0_off22_inb d0 v17 k0_hw1 k0_h11)
theorem k0_off21_wordsbf16 : ∀ (d0 : Dev nD) (v17 : BitVec 32) (k0_hw1 : k0_chk1 d0 v17), ∀ (k0_h11 : k0_cond11 d0 v17 = 1#1), (Rect.unit (s := S32768x128) (k0_off21 d0 v17) S1024x128.size (k0_off21_inb d0 v17 k0_hw1 k0_h11)).WholeWords (EltTy.packing .bf16) := fun d0 v17 k0_hw1 k0_h11 => k0_hw1.2.2.1.2.1 k0_h11 (k0_off21_inb d0 v17 k0_hw1 k0_h11)
theorem k0_mult23_dvd : ∀ (d0 : Dev nD) (v17 : BitVec 32) (k0_hw1 : k0_chk1 d0 v17), ∀ (k0_h12 : k0_cond12 d0 v17 = 1#1), 8 ∣ (k0_mult23 d0 v17).toNat := fun d0 v17 k0_hw1 k0_h12 => k0_hw1.2.2.1.2.2.1 k0_h12
theorem k0_mult24_dvd : ∀ (d0 : Dev nD) (v17 : BitVec 32) (k0_hw1 : k0_chk1 d0 v17), ∀ (k0_h12 : k0_cond12 d0 v17 = 1#1), 8 ∣ (k0_mult24 d0 v17).toNat := fun d0 v17 k0_hw1 k0_h12 => k0_hw1.2.2.1.2.2.2.1 k0_h12
theorem k0_off23_inb : ∀ (d0 : Dev nD) (v17 : BitVec 32) (k0_hw1 : k0_chk1 d0 v17), ∀ (k0_h12 : k0_cond12 d0 v17 = 1#1), ∀ a, (k0_off23 d0 v17) a + S1024x128.size a ≤ S32768x128.size a := fun d0 v17 k0_hw1 k0_h12 => k0_hw1.2.2.1.2.2.2.2.1 k0_h12
theorem k0_off24_inb : ∀ (d0 : Dev nD) (v17 : BitVec 32) (k0_hw1 : k0_chk1 d0 v17), ∀ (k0_h12 : k0_cond12 d0 v17 = 1#1), ∀ a, (k0_off24 d0 v17) a + S1024x128.size a ≤ S32768x128.size a := fun d0 v17 k0_hw1 k0_h12 => k0_hw1.2.2.1.2.2.2.2.2.1 k0_h12
theorem k0_off24_wordsbf16 : ∀ (d0 : Dev nD) (v17 : BitVec 32) (k0_hw1 : k0_chk1 d0 v17), ∀ (k0_h12 : k0_cond12 d0 v17 = 1#1), (Rect.unit (s := S32768x128) (k0_off24 d0 v17) S1024x128.size (k0_off24_inb d0 v17 k0_hw1 k0_h12)).WholeWords (EltTy.packing .bf16) := fun d0 v17 k0_hw1 k0_h12 => k0_hw1.2.2.1.2.2.2.2.2.2.1 k0_h12 (k0_off24_inb d0 v17 k0_hw1 k0_h12)
theorem k0_off23_wordsbf16 : ∀ (d0 : Dev nD) (v17 : BitVec 32) (k0_hw1 : k0_chk1 d0 v17), ∀ (k0_h12 : k0_cond12 d0 v17 = 1#1), (Rect.unit (s := S32768x128) (k0_off23 d0 v17) S1024x128.size (k0_off23_inb d0 v17 k0_hw1 k0_h12)).WholeWords (EltTy.packing .bf16) := fun d0 v17 k0_hw1 k0_h12 => k0_hw1.2.2.1.2.2.2.2.2.2.2.1 k0_h12 (k0_off23_inb d0 v17 k0_hw1 k0_h12)
theorem k0_mult25_dvd : ∀ (d0 : Dev nD) (v17 : BitVec 32) (k0_hw1 : k0_chk1 d0 v17), ∀ (k0_h13 : k0_cond13 d0 v17 = 1#1), 8 ∣ (k0_mult25 d0 v17).toNat := fun d0 v17 k0_hw1 k0_h13 => k0_hw1.2.2.1.2.2.2.2.2.2.2.2.1 k0_h13
theorem k0_mult26_dvd : ∀ (d0 : Dev nD) (v17 : BitVec 32) (k0_hw1 : k0_chk1 d0 v17), ∀ (k0_h13 : k0_cond13 d0 v17 = 1#1), 8 ∣ (k0_mult26 d0 v17).toNat := fun d0 v17 k0_hw1 k0_h13 => k0_hw1.2.2.1.2.2.2.2.2.2.2.2.2.1 k0_h13
theorem k0_off25_inb : ∀ (d0 : Dev nD) (v17 : BitVec 32) (k0_hw1 : k0_chk1 d0 v17), ∀ (k0_h13 : k0_cond13 d0 v17 = 1#1), ∀ a, (k0_off25 d0 v17) a + S1024x128.size a ≤ S32768x128.size a := fun d0 v17 k0_hw1 k0_h13 => k0_hw1.2.2.1.2.2.2.2.2.2.2.2.2.2.1 k0_h13
theorem k0_off26_inb : ∀ (d0 : Dev nD) (v17 : BitVec 32) (k0_hw1 : k0_chk1 d0 v17), ∀ (k0_h13 : k0_cond13 d0 v17 = 1#1), ∀ a, (k0_off26 d0 v17) a + S1024x128.size a ≤ S32768x128.size a := fun d0 v17 k0_hw1 k0_h13 => k0_hw1.2.2.1.2.2.2.2.2.2.2.2.2.2.2.1 k0_h13
theorem k0_off26_wordsbf16 : ∀ (d0 : Dev nD) (v17 : BitVec 32) (k0_hw1 : k0_chk1 d0 v17), ∀ (k0_h13 : k0_cond13 d0 v17 = 1#1), (Rect.unit (s := S32768x128) (k0_off26 d0 v17) S1024x128.size (k0_off26_inb d0 v17 k0_hw1 k0_h13)).WholeWords (EltTy.packing .bf16) := fun d0 v17 k0_hw1 k0_h13 => k0_hw1.2.2.1.2.2.2.2.2.2.2.2.2.2.2.2.1 k0_h13 (k0_off26_inb d0 v17 k0_hw1 k0_h13)
theorem k0_off25_wordsbf16 : ∀ (d0 : Dev nD) (v17 : BitVec 32) (k0_hw1 : k0_chk1 d0 v17), ∀ (k0_h13 : k0_cond13 d0 v17 = 1#1), (Rect.unit (s := S32768x128) (k0_off25 d0 v17) S1024x128.size (k0_off25_inb d0 v17 k0_hw1 k0_h13)).WholeWords (EltTy.packing .bf16) := fun d0 v17 k0_hw1 k0_h13 => k0_hw1.2.2.1.2.2.2.2.2.2.2.2.2.2.2.2.2.1 k0_h13 (k0_off25_inb d0 v17 k0_hw1 k0_h13)
theorem k0_mult27_dvd : ∀ (d0 : Dev nD) (v17 : BitVec 32) (k0_hw1 : k0_chk1 d0 v17), ∀ (k0_h14 : k0_cond14 d0 v17 = 1#1), 8 ∣ (k0_mult27 d0 v17).toNat := fun d0 v17 k0_hw1 k0_h14 => k0_hw1.2.2.1.2.2.2.2.2.2.2.2.2.2.2.2.2.2.1 k0_h14
theorem k0_mult28_dvd : ∀ (d0 : Dev nD) (v17 : BitVec 32) (k0_hw1 : k0_chk1 d0 v17), ∀ (k0_h14 : k0_cond14 d0 v17 = 1#1), 8 ∣ (k0_mult28 d0 v17).toNat := fun d0 v17 k0_hw1 k0_h14 => k0_hw1.2.2.1.2.2.2.2.2.2.2.2.2.2.2.2.2.2.2.1 k0_h14
theorem k0_off27_inb : ∀ (d0 : Dev nD) (v17 : BitVec 32) (k0_hw1 : k0_chk1 d0 v17), ∀ (k0_h14 : k0_cond14 d0 v17 = 1#1), ∀ a, (k0_off27 d0 v17) a + S1024x128.size a ≤ S32768x128.size a := fun d0 v17 k0_hw1 k0_h14 => k0_hw1.2.2.1.2.2.2.2.2.2.2.2.2.2.2.2.2.2.2.2.1 k0_h14
theorem k0_off28_inb : ∀ (d0 : Dev nD) (v17 : BitVec 32) (k0_hw1 : k0_chk1 d0 v17), ∀ (k0_h14 : k0_cond14 d0 v17 = 1#1), ∀ a, (k0_off28 d0 v17) a + S1024x128.size a ≤ S32768x128.size a := fun d0 v17 k0_hw1 k0_h14 => k0_hw1.2.2.1.2.2.2.2.2.2.2.2.2.2.2.2.2.2.2.2.2.1 k0_h14
theorem k0_off28_wordsbf16 : ∀ (d0 : Dev nD) (v17 : BitVec 32) (k0_hw1 : k0_chk1 d0 v17), ∀ (k0_h14 : k0_cond14 d0 v17 = 1#1), (Rect.unit (s := S32768x128) (k0_off28 d0 v17) S1024x128.size (k0_off28_inb d0 v17 k0_hw1 k0_h14)).WholeWords (EltTy.packing .bf16) := fun d0 v17 k0_hw1 k0_h14 => k0_hw1.2.2.1.2.2.2.2.2.2.2.2.2.2.2.2.2.2.2.2.2.2.1 k0_h14 (k0_off28_inb d0 v17 k0_hw1 k0_h14)
theorem k0_off27_wordsbf16 : ∀ (d0 : Dev nD) (v17 : BitVec 32) (k0_hw1 : k0_chk1 d0 v17), ∀ (k0_h14 : k0_cond14 d0 v17 = 1#1), (Rect.unit (s := S32768x128) (k0_off27 d0 v17) S1024x128.size (k0_off27_inb d0 v17 k0_hw1 k0_h14)).WholeWords (EltTy.packing .bf16) := fun d0 v17 k0_hw1 k0_h14 => k0_hw1.2.2.1.2.2.2.2.2.2.2.2.2.2.2.2.2.2.2.2.2.2.2.1 k0_h14 (k0_off27_inb d0 v17 k0_hw1 k0_h14)
theorem k0_mult29_dvd : ∀ (d0 : Dev nD) (v17 : BitVec 32) (k0_hw1 : k0_chk1 d0 v17), ∀ (k0_h15 : k0_cond15 d0 v17 = 1#1), 8 ∣ (k0_mult29 d0 v17).toNat := fun d0 v17 k0_hw1 k0_h15 => k0_hw1.2.2.1.2.2.2.2.2.2.2.2.2.2.2.2.2.2.2.2.2.2.2.2.1 k0_h15
theorem k0_mult30_dvd : ∀ (d0 : Dev nD) (v17 : BitVec 32) (k0_hw1 : k0_chk1 d0 v17), ∀ (k0_h15 : k0_cond15 d0 v17 = 1#1), 8 ∣ (k0_mult30 d0 v17).toNat := fun d0 v17 k0_hw1 k0_h15 => k0_hw1.2.2.1.2.2.2.2.2.2.2.2.2.2.2.2.2.2.2.2.2.2.2.2.2.1 k0_h15
theorem k0_off29_inb : ∀ (d0 : Dev nD) (v17 : BitVec 32) (k0_hw1 : k0_chk1 d0 v17), ∀ (k0_h15 : k0_cond15 d0 v17 = 1#1), ∀ a, (k0_off29 d0 v17) a + S1024x128.size a ≤ S32768x128.size a := fun d0 v17 k0_hw1 k0_h15 => k0_hw1.2.2.1.2.2.2.2.2.2.2.2.2.2.2.2.2.2.2.2.2.2.2.2.2.2.1 k0_h15
theorem k0_off30_inb : ∀ (d0 : Dev nD) (v17 : BitVec 32) (k0_hw1 : k0_chk1 d0 v17), ∀ (k0_h15 : k0_cond15 d0 v17 = 1#1), ∀ a, (k0_off30 d0 v17) a + S1024x128.size a ≤ S32768x128.size a := fun d0 v17 k0_hw1 k0_h15 => k0_hw1.2.2.1.2.2.2.2.2.2.2.2.2.2.2.2.2.2.2.2.2.2.2.2.2.2.2.1 k0_h15
theorem k0_off30_wordsbf16 : ∀ (d0 : Dev nD) (v17 : BitVec 32) (k0_hw1 : k0_chk1 d0 v17), ∀ (k0_h15 : k0_cond15 d0 v17 = 1#1), (Rect.unit (s := S32768x128) (k0_off30 d0 v17) S1024x128.size (k0_off30_inb d0 v17 k0_hw1 k0_h15)).WholeWords (EltTy.packing .bf16) := fun d0 v17 k0_hw1 k0_h15 => k0_hw1.2.2.1.2.2.2.2.2.2.2.2.2.2.2.2.2.2.2.2.2.2.2.2.2.2.2.2.1 k0_h15 (k0_off30_inb d0 v17 k0_hw1 k0_h15)
theorem k0_off29_wordsbf16 : ∀ (d0 : Dev nD) (v17 : BitVec 32) (k0_hw1 : k0_chk1 d0 v17), ∀ (k0_h15 : k0_cond15 d0 v17 = 1#1), (Rect.unit (s := S32768x128) (k0_off29 d0 v17) S1024x128.size (k0_off29_inb d0 v17 k0_hw1 k0_h15)).WholeWords (EltTy.packing .bf16) := fun d0 v17 k0_hw1 k0_h15 => k0_hw1.2.2.1.2.2.2.2.2.2.2.2.2.2.2.2.2.2.2.2.2.2.2.2.2.2.2.2.2.1 k0_h15 (k0_off29_inb d0 v17 k0_hw1 k0_h15)
theorem k0_mult31_dvd : ∀ (d0 : Dev nD) (v17 : BitVec 32) (k0_hw1 : k0_chk1 d0 v17), ∀ (k0_h16 : k0_cond16 d0 v17 = 1#1), 8 ∣ (k0_mult31 d0 v17).toNat := fun d0 v17 k0_hw1 k0_h16 => k0_hw1.2.2.1.2.2.2.2.2.2.2.2.2.2.2.2.2.2.2.2.2.2.2.2.2.2.2.2.2.2.1 k0_h16
theorem k0_mult32_dvd : ∀ (d0 : Dev nD) (v17 : BitVec 32) (k0_hw1 : k0_chk1 d0 v17), ∀ (k0_h16 : k0_cond16 d0 v17 = 1#1), 8 ∣ (k0_mult32 d0 v17).toNat := fun d0 v17 k0_hw1 k0_h16 => k0_hw1.2.2.1.2.2.2.2.2.2.2.2.2.2.2.2.2.2.2.2.2.2.2.2.2.2.2.2.2.2.2.1 k0_h16
theorem k0_off31_inb : ∀ (d0 : Dev nD) (v17 : BitVec 32) (k0_hw1 : k0_chk1 d0 v17), ∀ (k0_h16 : k0_cond16 d0 v17 = 1#1), ∀ a, (k0_off31 d0 v17) a + S1024x128.size a ≤ S32768x128.size a := fun d0 v17 k0_hw1 k0_h16 => k0_hw1.2.2.1.2.2.2.2.2.2.2.2.2.2.2.2.2.2.2.2.2.2.2.2.2.2.2.2.2.2.2.2.1 k0_h16
theorem k0_off32_inb : ∀ (d0 : Dev nD) (v17 : BitVec 32) (k0_hw1 : k0_chk1 d0 v17), ∀ (k0_h16 : k0_cond16 d0 v17 = 1#1), ∀ a, (k0_off32 d0 v17) a + S1024x128.size a ≤ S32768x128.size a := fun d0 v17 k0_hw1 k0_h16 => k0_hw1.2.2.1.2.2.2.2.2.2.2.2.2.2.2.2.2.2.2.2.2.2.2.2.2.2.2.2.2.2.2.2.2.1 k0_h16
theorem k0_off32_wordsbf16 : ∀ (d0 : Dev nD) (v17 : BitVec 32) (k0_hw1 : k0_chk1 d0 v17), ∀ (k0_h16 : k0_cond16 d0 v17 = 1#1), (Rect.unit (s := S32768x128) (k0_off32 d0 v17) S1024x128.size (k0_off32_inb d0 v17 k0_hw1 k0_h16)).WholeWords (EltTy.packing .bf16) := fun d0 v17 k0_hw1 k0_h16 => k0_hw1.2.2.1.2.2.2.2.2.2.2.2.2.2.2.2.2.2.2.2.2.2.2.2.2.2.2.2.2.2.2.2.2.2.1 k0_h16 (k0_off32_inb d0 v17 k0_hw1 k0_h16)
theorem k0_off31_wordsbf16 : ∀ (d0 : Dev nD) (v17 : BitVec 32) (k0_hw1 : k0_chk1 d0 v17), ∀ (k0_h16 : k0_cond16 d0 v17 = 1#1), (Rect.unit (s := S32768x128) (k0_off31 d0 v17) S1024x128.size (k0_off31_inb d0 v17 k0_hw1 k0_h16)).WholeWords (EltTy.packing .bf16) := fun d0 v17 k0_hw1 k0_h16 => k0_hw1.2.2.1.2.2.2.2.2.2.2.2.2.2.2.2.2.2.2.2.2.2.2.2.2.2.2.2.2.2.2.2.2.2.2 k0_h16 (k0_off31_inb d0 v17 k0_hw1 k0_h16)
theorem k0_mult33_dvd : ∀ (d0 : Dev nD) (v17 : BitVec 32) (k0_hw1 : k0_chk1 d0 v17), ∀ (k0_h17 : k0_cond17 d0 v17 = 1#1), 8 ∣ (k0_mult33 d0 v17).toNat := fun d0 v17 k0_hw1 k0_h17 => k0_hw1.2.2.2.1.1 k0_h17
theorem k0_mult34_dvd : ∀ (d0 : Dev nD) (v17 : BitVec 32) (k0_hw1 : k0_chk1 d0 v17), ∀ (k0_h17 : k0_cond17 d0 v17 = 1#1), 8 ∣ (k0_mult34 d0 v17).toNat := fun d0 v17 k0_hw1 k0_h17 => k0_hw1.2.2.2.1.2.1 k0_h17
theorem k0_off33_inb : ∀ (d0 : Dev nD) (v17 : BitVec 32) (k0_hw1 : k0_chk1 d0 v17), ∀ (k0_h17 : k0_cond17 d0 v17 = 1#1), ∀ a, (k0_off33 d0 v17) a + S4096x128.size a ≤ S32768x128.size a := fun d0 v17 k0_hw1 k0_h17 => k0_hw1.2.2.2.1.2.2.1 k0_h17
theorem k0_off34_inb : ∀ (d0 : Dev nD) (v17 : BitVec 32) (k0_hw1 : k0_chk1 d0 v17), ∀ (k0_h17 : k0_cond17 d0 v17 = 1#1), ∀ a, (k0_off34 d0 v17) a + S4096x128.size a ≤ S32768x128.size a := fun d0 v17 k0_hw1 k0_h17 => k0_hw1.2.2.2.1.2.2.2.1 k0_h17
theorem k0_off34_wordsbf16 : ∀ (d0 : Dev nD) (v17 : BitVec 32) (k0_hw1 : k0_chk1 d0 v17), ∀ (k0_h17 : k0_cond17 d0 v17 = 1#1), (Rect.unit (s := S32768x128) (k0_off34 d0 v17) S4096x128.size (k0_off34_inb d0 v17 k0_hw1 k0_h17)).WholeWords (EltTy.packing .bf16) := fun d0 v17 k0_hw1 k0_h17 => k0_hw1.2.2.2.1.2.2.2.2.1 k0_h17 (k0_off34_inb d0 v17 k0_hw1 k0_h17)
theorem k0_off33_wordsbf16 : ∀ (d0 : Dev nD) (v17 : BitVec 32) (k0_hw1 : k0_chk1 d0 v17), ∀ (k0_h17 : k0_cond17 d0 v17 = 1#1), (Rect.unit (s := S32768x128) (k0_off33 d0 v17) S4096x128.size (k0_off33_inb d0 v17 k0_hw1 k0_h17)).WholeWords (EltTy.packing .bf16) := fun d0 v17 k0_hw1 k0_h17 => k0_hw1.2.2.2.1.2.2.2.2.2.1 k0_h17 (k0_off33_inb d0 v17 k0_hw1 k0_h17)
theorem k0_mult35_dvd : ∀ (d0 : Dev nD) (v17 : BitVec 32) (k0_hw1 : k0_chk1 d0 v17), ∀ (k0_h18 : k0_cond18 d0 v17 = 1#1), 8 ∣ (k0_mult35 d0 v17).toNat := fun d0 v17 k0_hw1 k0_h18 => k0_hw1.2.2.2.1.2.2.2.2.2.2.1 k0_h18
theorem k0_mult36_dvd : ∀ (d0 : Dev nD) (v17 : BitVec 32) (k0_hw1 : k0_chk1 d0 v17), ∀ (k0_h18 : k0_cond18 d0 v17 = 1#1), 8 ∣ (k0_mult36 d0 v17).toNat := fun d0 v17 k0_hw1 k0_h18 => k0_hw1.2.2.2.1.2.2.2.2.2.2.2.1 k0_h18
theorem k0_off35_inb : ∀ (d0 : Dev nD) (v17 : BitVec 32) (k0_hw1 : k0_chk1 d0 v17), ∀ (k0_h18 : k0_cond18 d0 v17 = 1#1), ∀ a, (k0_off35 d0 v17) a + S4096x128.size a ≤ S32768x128.size a := fun d0 v17 k0_hw1 k0_h18 => k0_hw1.2.2.2.1.2.2.2.2.2.2.2.2.1 k0_h18
theorem k0_off36_inb : ∀ (d0 : Dev nD) (v17 : BitVec 32) (k0_hw1 : k0_chk1 d0 v17), ∀ (k0_h18 : k0_cond18 d0 v17 = 1#1), ∀ a, (k0_off36 d0 v17) a + S4096x128.size a ≤ S32768x128.size a := fun d0 v17 k0_hw1 k0_h18 => k0_hw1.2.2.2.1.2.2.2.2.2.2.2.2.2.1 k0_h18
theorem k0_off36_wordsbf16 : ∀ (d0 : Dev nD) (v17 : BitVec 32) (k0_hw1 : k0_chk1 d0 v17), ∀ (k0_h18 : k0_cond18 d0 v17 = 1#1), (Rect.unit (s := S32768x128) (k0_off36 d0 v17) S4096x128.size (k0_off36_inb d0 v17 k0_hw1 k0_h18)).WholeWords (EltTy.packing .bf16) := fun d0 v17 k0_hw1 k0_h18 => k0_hw1.2.2.2.1.2.2.2.2.2.2.2.2.2.2.1 k0_h18 (k0_off36_inb d0 v17 k0_hw1 k0_h18)
theorem k0_off35_wordsbf16 : ∀ (d0 : Dev nD) (v17 : BitVec 32) (k0_hw1 : k0_chk1 d0 v17), ∀ (k0_h18 : k0_cond18 d0 v17 = 1#1), (Rect.unit (s := S32768x128) (k0_off35 d0 v17) S4096x128.size (k0_off35_inb d0 v17 k0_hw1 k0_h18)).WholeWords (EltTy.packing .bf16) := fun d0 v17 k0_hw1 k0_h18 => k0_hw1.2.2.2.1.2.2.2.2.2.2.2.2.2.2.2.1 k0_h18 (k0_off35_inb d0 v17 k0_hw1 k0_h18)
theorem k0_mult37_dvd : ∀ (d0 : Dev nD) (v17 : BitVec 32) (k0_hw1 : k0_chk1 d0 v17), ∀ (k0_h19 : k0_cond19 d0 v17 = 1#1), 8 ∣ (k0_mult37 d0 v17).toNat := fun d0 v17 k0_hw1 k0_h19 => k0_hw1.2.2.2.1.2.2.2.2.2.2.2.2.2.2.2.2.1 k0_h19
theorem k0_mult38_dvd : ∀ (d0 : Dev nD) (v17 : BitVec 32) (k0_hw1 : k0_chk1 d0 v17), ∀ (k0_h19 : k0_cond19 d0 v17 = 1#1), 8 ∣ (k0_mult38 d0 v17).toNat := fun d0 v17 k0_hw1 k0_h19 => k0_hw1.2.2.2.1.2.2.2.2.2.2.2.2.2.2.2.2.2.1 k0_h19
theorem k0_off37_inb : ∀ (d0 : Dev nD) (v17 : BitVec 32) (k0_hw1 : k0_chk1 d0 v17), ∀ (k0_h19 : k0_cond19 d0 v17 = 1#1), ∀ a, (k0_off37 d0 v17) a + S4096x128.size a ≤ S32768x128.size a := fun d0 v17 k0_hw1 k0_h19 => k0_hw1.2.2.2.1.2.2.2.2.2.2.2.2.2.2.2.2.2.2.1 k0_h19
theorem k0_off38_inb : ∀ (d0 : Dev nD) (v17 : BitVec 32) (k0_hw1 : k0_chk1 d0 v17), ∀ (k0_h19 : k0_cond19 d0 v17 = 1#1), ∀ a, (k0_off38 d0 v17) a + S4096x128.size a ≤ S32768x128.size a := fun d0 v17 k0_hw1 k0_h19 => k0_hw1.2.2.2.1.2.2.2.2.2.2.2.2.2.2.2.2.2.2.2.1 k0_h19
theorem k0_off38_wordsbf16 : ∀ (d0 : Dev nD) (v17 : BitVec 32) (k0_hw1 : k0_chk1 d0 v17), ∀ (k0_h19 : k0_cond19 d0 v17 = 1#1), (Rect.unit (s := S32768x128) (k0_off38 d0 v17) S4096x128.size (k0_off38_inb d0 v17 k0_hw1 k0_h19)).WholeWords (EltTy.packing .bf16) := fun d0 v17 k0_hw1 k0_h19 => k0_hw1.2.2.2.1.2.2.2.2.2.2.2.2.2.2.2.2.2.2.2.2.1 k0_h19 (k0_off38_inb d0 v17 k0_hw1 k0_h19)
theorem k0_off37_wordsbf16 : ∀ (d0 : Dev nD) (v17 : BitVec 32) (k0_hw1 : k0_chk1 d0 v17), ∀ (k0_h19 : k0_cond19 d0 v17 = 1#1), (Rect.unit (s := S32768x128) (k0_off37 d0 v17) S4096x128.size (k0_off37_inb d0 v17 k0_hw1 k0_h19)).WholeWords (EltTy.packing .bf16) := fun d0 v17 k0_hw1 k0_h19 => k0_hw1.2.2.2.1.2.2.2.2.2.2.2.2.2.2.2.2.2.2.2.2.2.1 k0_h19 (k0_off37_inb d0 v17 k0_hw1 k0_h19)
theorem k0_mult39_dvd : ∀ (d0 : Dev nD) (v17 : BitVec 32) (k0_hw1 : k0_chk1 d0 v17), ∀ (k0_h20 : k0_cond20 d0 v17 = 1#1), 8 ∣ (k0_mult39 d0 v17).toNat := fun d0 v17 k0_hw1 k0_h20 => k0_hw1.2.2.2.1.2.2.2.2.2.2.2.2.2.2.2.2.2.2.2.2.2.2.1 k0_h20
theorem k0_mult40_dvd : ∀ (d0 : Dev nD) (v17 : BitVec 32) (k0_hw1 : k0_chk1 d0 v17), ∀ (k0_h20 : k0_cond20 d0 v17 = 1#1), 8 ∣ (k0_mult40 d0 v17).toNat := fun d0 v17 k0_hw1 k0_h20 => k0_hw1.2.2.2.1.2.2.2.2.2.2.2.2.2.2.2.2.2.2.2.2.2.2.2.1 k0_h20
theorem k0_off39_inb : ∀ (d0 : Dev nD) (v17 : BitVec 32) (k0_hw1 : k0_chk1 d0 v17), ∀ (k0_h20 : k0_cond20 d0 v17 = 1#1), ∀ a, (k0_off39 d0 v17) a + S4096x128.size a ≤ S32768x128.size a := fun d0 v17 k0_hw1 k0_h20 => k0_hw1.2.2.2.1.2.2.2.2.2.2.2.2.2.2.2.2.2.2.2.2.2.2.2.2.1 k0_h20
theorem k0_off40_inb : ∀ (d0 : Dev nD) (v17 : BitVec 32) (k0_hw1 : k0_chk1 d0 v17), ∀ (k0_h20 : k0_cond20 d0 v17 = 1#1), ∀ a, (k0_off40 d0 v17) a + S4096x128.size a ≤ S32768x128.size a := fun d0 v17 k0_hw1 k0_h20 => k0_hw1.2.2.2.1.2.2.2.2.2.2.2.2.2.2.2.2.2.2.2.2.2.2.2.2.2.1 k0_h20
theorem k0_off40_wordsbf16 : ∀ (d0 : Dev nD) (v17 : BitVec 32) (k0_hw1 : k0_chk1 d0 v17), ∀ (k0_h20 : k0_cond20 d0 v17 = 1#1), (Rect.unit (s := S32768x128) (k0_off40 d0 v17) S4096x128.size (k0_off40_inb d0 v17 k0_hw1 k0_h20)).WholeWords (EltTy.packing .bf16) := fun d0 v17 k0_hw1 k0_h20 => k0_hw1.2.2.2.1.2.2.2.2.2.2.2.2.2.2.2.2.2.2.2.2.2.2.2.2.2.2.1 k0_h20 (k0_off40_inb d0 v17 k0_hw1 k0_h20)
theorem k0_off39_wordsbf16 : ∀ (d0 : Dev nD) (v17 : BitVec 32) (k0_hw1 : k0_chk1 d0 v17), ∀ (k0_h20 : k0_cond20 d0 v17 = 1#1), (Rect.unit (s := S32768x128) (k0_off39 d0 v17) S4096x128.size (k0_off39_inb d0 v17 k0_hw1 k0_h20)).WholeWords (EltTy.packing .bf16) := fun d0 v17 k0_hw1 k0_h20 => k0_hw1.2.2.2.1.2.2.2.2.2.2.2.2.2.2.2.2.2.2.2.2.2.2.2.2.2.2.2.1 k0_h20 (k0_off39_inb d0 v17 k0_hw1 k0_h20)
theorem k0_mult41_dvd : ∀ (d0 : Dev nD) (v17 : BitVec 32) (k0_hw1 : k0_chk1 d0 v17), ∀ (k0_h21 : k0_cond21 d0 v17 = 1#1), 8 ∣ (k0_mult41 d0 v17).toNat := fun d0 v17 k0_hw1 k0_h21 => k0_hw1.2.2.2.1.2.2.2.2.2.2.2.2.2.2.2.2.2.2.2.2.2.2.2.2.2.2.2.2.1 k0_h21
theorem k0_mult42_dvd : ∀ (d0 : Dev nD) (v17 : BitVec 32) (k0_hw1 : k0_chk1 d0 v17), ∀ (k0_h21 : k0_cond21 d0 v17 = 1#1), 8 ∣ (k0_mult42 d0 v17).toNat := fun d0 v17 k0_hw1 k0_h21 => k0_hw1.2.2.2.1.2.2.2.2.2.2.2.2.2.2.2.2.2.2.2.2.2.2.2.2.2.2.2.2.2.1 k0_h21
theorem k0_off41_inb : ∀ (d0 : Dev nD) (v17 : BitVec 32) (k0_hw1 : k0_chk1 d0 v17), ∀ (k0_h21 : k0_cond21 d0 v17 = 1#1), ∀ a, (k0_off41 d0 v17) a + S4096x128.size a ≤ S32768x128.size a := fun d0 v17 k0_hw1 k0_h21 => k0_hw1.2.2.2.1.2.2.2.2.2.2.2.2.2.2.2.2.2.2.2.2.2.2.2.2.2.2.2.2.2.2.1 k0_h21
theorem k0_off42_inb : ∀ (d0 : Dev nD) (v17 : BitVec 32) (k0_hw1 : k0_chk1 d0 v17), ∀ (k0_h21 : k0_cond21 d0 v17 = 1#1), ∀ a, (k0_off42 d0 v17) a + S4096x128.size a ≤ S32768x128.size a := fun d0 v17 k0_hw1 k0_h21 => k0_hw1.2.2.2.1.2.2.2.2.2.2.2.2.2.2.2.2.2.2.2.2.2.2.2.2.2.2.2.2.2.2.2.1 k0_h21
theorem k0_off42_wordsbf16 : ∀ (d0 : Dev nD) (v17 : BitVec 32) (k0_hw1 : k0_chk1 d0 v17), ∀ (k0_h21 : k0_cond21 d0 v17 = 1#1), (Rect.unit (s := S32768x128) (k0_off42 d0 v17) S4096x128.size (k0_off42_inb d0 v17 k0_hw1 k0_h21)).WholeWords (EltTy.packing .bf16) := fun d0 v17 k0_hw1 k0_h21 => k0_hw1.2.2.2.1.2.2.2.2.2.2.2.2.2.2.2.2.2.2.2.2.2.2.2.2.2.2.2.2.2.2.2.2.1 k0_h21 (k0_off42_inb d0 v17 k0_hw1 k0_h21)
theorem k0_off41_wordsbf16 : ∀ (d0 : Dev nD) (v17 : BitVec 32) (k0_hw1 : k0_chk1 d0 v17), ∀ (k0_h21 : k0_cond21 d0 v17 = 1#1), (Rect.unit (s := S32768x128) (k0_off41 d0 v17) S4096x128.size (k0_off41_inb d0 v17 k0_hw1 k0_h21)).WholeWords (EltTy.packing .bf16) := fun d0 v17 k0_hw1 k0_h21 => k0_hw1.2.2.2.1.2.2.2.2.2.2.2.2.2.2.2.2.2.2.2.2.2.2.2.2.2.2.2.2.2.2.2.2.2.1 k0_h21 (k0_off41_inb d0 v17 k0_hw1 k0_h21)
theorem k0_mult43_dvd : ∀ (d0 : Dev nD) (v17 : BitVec 32) (k0_hw1 : k0_chk1 d0 v17), ∀ (k0_h22 : k0_cond22 d0 v17 = 1#1), 8 ∣ (k0_mult43 d0 v17).toNat := fun d0 v17 k0_hw1 k0_h22 => k0_hw1.2.2.2.1.2.2.2.2.2.2.2.2.2.2.2.2.2.2.2.2.2.2.2.2.2.2.2.2.2.2.2.2.2.2.1 k0_h22
theorem k0_mult44_dvd : ∀ (d0 : Dev nD) (v17 : BitVec 32) (k0_hw1 : k0_chk1 d0 v17), ∀ (k0_h22 : k0_cond22 d0 v17 = 1#1), 8 ∣ (k0_mult44 d0 v17).toNat := fun d0 v17 k0_hw1 k0_h22 => k0_hw1.2.2.2.1.2.2.2.2.2.2.2.2.2.2.2.2.2.2.2.2.2.2.2.2.2.2.2.2.2.2.2.2.2.2.2 k0_h22
theorem k0_off43_inb : ∀ (d0 : Dev nD) (v17 : BitVec 32) (k0_hw1 : k0_chk1 d0 v17), ∀ (k0_h22 : k0_cond22 d0 v17 = 1#1), ∀ a, (k0_off43 d0 v17) a + S4096x128.size a ≤ S32768x128.size a := fun d0 v17 k0_hw1 k0_h22 => k0_hw1.2.2.2.2.1.1 k0_h22
theorem k0_off44_inb : ∀ (d0 : Dev nD) (v17 : BitVec 32) (k0_hw1 : k0_chk1 d0 v17), ∀ (k0_h22 : k0_cond22 d0 v17 = 1#1), ∀ a, (k0_off44 d0 v17) a + S4096x128.size a ≤ S32768x128.size a := fun d0 v17 k0_hw1 k0_h22 => k0_hw1.2.2.2.2.1.2.1 k0_h22
theorem k0_off44_wordsbf16 : ∀ (d0 : Dev nD) (v17 : BitVec 32) (k0_hw1 : k0_chk1 d0 v17), ∀ (k0_h22 : k0_cond22 d0 v17 = 1#1), (Rect.unit (s := S32768x128) (k0_off44 d0 v17) S4096x128.size (k0_off44_inb d0 v17 k0_hw1 k0_h22)).WholeWords (EltTy.packing .bf16) := fun d0 v17 k0_hw1 k0_h22 => k0_hw1.2.2.2.2.1.2.2.1 k0_h22 (k0_off44_inb d0 v17 k0_hw1 k0_h22)
theorem k0_off43_wordsbf16 : ∀ (d0 : Dev nD) (v17 : BitVec 32) (k0_hw1 : k0_chk1 d0 v17), ∀ (k0_h22 : k0_cond22 d0 v17 = 1#1), (Rect.unit (s := S32768x128) (k0_off43 d0 v17) S4096x128.size (k0_off43_inb d0 v17 k0_hw1 k0_h22)).WholeWords (EltTy.packing .bf16) := fun d0 v17 k0_hw1 k0_h22 => k0_hw1.2.2.2.2.1.2.2.2.1 k0_h22 (k0_off43_inb d0 v17 k0_hw1 k0_h22)
theorem k0_mult45_dvd : ∀ (d0 : Dev nD) (v17 : BitVec 32) (k0_hw1 : k0_chk1 d0 v17), ∀ (k0_h23 : k0_cond23 d0 v17 = 1#1), 8 ∣ (k0_mult45 d0 v17).toNat := fun d0 v17 k0_hw1 k0_h23 => k0_hw1.2.2.2.2.1.2.2.2.2.1 k0_h23
theorem k0_mult46_dvd : ∀ (d0 : Dev nD) (v17 : BitVec 32) (k0_hw1 : k0_chk1 d0 v17), ∀ (k0_h23 : k0_cond23 d0 v17 = 1#1), 8 ∣ (k0_mult46 d0 v17).toNat := fun d0 v17 k0_hw1 k0_h23 => k0_hw1.2.2.2.2.1.2.2.2.2.2.1 k0_h23
theorem k0_off45_inb : ∀ (d0 : Dev nD) (v17 : BitVec 32) (k0_hw1 : k0_chk1 d0 v17), ∀ (k0_h23 : k0_cond23 d0 v17 = 1#1), ∀ a, (k0_off45 d0 v17) a + S4096x128.size a ≤ S32768x128.size a := fun d0 v17 k0_hw1 k0_h23 => k0_hw1.2.2.2.2.1.2.2.2.2.2.2.1 k0_h23
theorem k0_off46_inb : ∀ (d0 : Dev nD) (v17 : BitVec 32) (k0_hw1 : k0_chk1 d0 v17), ∀ (k0_h23 : k0_cond23 d0 v17 = 1#1), ∀ a, (k0_off46 d0 v17) a + S4096x128.size a ≤ S32768x128.size a := fun d0 v17 k0_hw1 k0_h23 => k0_hw1.2.2.2.2.1.2.2.2.2.2.2.2.1 k0_h23
theorem k0_off46_wordsbf16 : ∀ (d0 : Dev nD) (v17 : BitVec 32) (k0_hw1 : k0_chk1 d0 v17), ∀ (k0_h23 : k0_cond23 d0 v17 = 1#1), (Rect.unit (s := S32768x128) (k0_off46 d0 v17) S4096x128.size (k0_off46_inb d0 v17 k0_hw1 k0_h23)).WholeWords (EltTy.packing .bf16) := fun d0 v17 k0_hw1 k0_h23 => k0_hw1.2.2.2.2.1.2.2.2.2.2.2.2.2.1 k0_h23 (k0_off46_inb d0 v17 k0_hw1 k0_h23)
theorem k0_off45_wordsbf16 : ∀ (d0 : Dev nD) (v17 : BitVec 32) (k0_hw1 : k0_chk1 d0 v17), ∀ (k0_h23 : k0_cond23 d0 v17 = 1#1), (Rect.unit (s := S32768x128) (k0_off45 d0 v17) S4096x128.size (k0_off45_inb d0 v17 k0_hw1 k0_h23)).WholeWords (EltTy.packing .bf16) := fun d0 v17 k0_hw1 k0_h23 => k0_hw1.2.2.2.2.1.2.2.2.2.2.2.2.2.2.1 k0_h23 (k0_off45_inb d0 v17 k0_hw1 k0_h23)
theorem k0_mult47_dvd : ∀ (d0 : Dev nD) (v17 : BitVec 32) (k0_hw1 : k0_chk1 d0 v17), ∀ (k0_h24 : k0_cond24 d0 v17 = 1#1), 8 ∣ (k0_mult47 d0 v17).toNat := fun d0 v17 k0_hw1 k0_h24 => k0_hw1.2.2.2.2.1.2.2.2.2.2.2.2.2.2.2.1 k0_h24
theorem k0_mult48_dvd : ∀ (d0 : Dev nD) (v17 : BitVec 32) (k0_hw1 : k0_chk1 d0 v17), ∀ (k0_h24 : k0_cond24 d0 v17 = 1#1), 8 ∣ (k0_mult48 d0 v17).toNat := fun d0 v17 k0_hw1 k0_h24 => k0_hw1.2.2.2.2.1.2.2.2.2.2.2.2.2.2.2.2.1 k0_h24
theorem k0_off47_inb : ∀ (d0 : Dev nD) (v17 : BitVec 32) (k0_hw1 : k0_chk1 d0 v17), ∀ (k0_h24 : k0_cond24 d0 v17 = 1#1), ∀ a, (k0_off47 d0 v17) a + S4096x128.size a ≤ S32768x128.size a := fun d0 v17 k0_hw1 k0_h24 => k0_hw1.2.2.2.2.1.2.2.2.2.2.2.2.2.2.2.2.2.1 k0_h24
theorem k0_off48_inb : ∀ (d0 : Dev nD) (v17 : BitVec 32) (k0_hw1 : k0_chk1 d0 v17), ∀ (k0_h24 : k0_cond24 d0 v17 = 1#1), ∀ a, (k0_off48 d0 v17) a + S4096x128.size a ≤ S32768x128.size a := fun d0 v17 k0_hw1 k0_h24 => k0_hw1.2.2.2.2.1.2.2.2.2.2.2.2.2.2.2.2.2.2.1 k0_h24
theorem k0_off48_wordsbf16 : ∀ (d0 : Dev nD) (v17 : BitVec 32) (k0_hw1 : k0_chk1 d0 v17), ∀ (k0_h24 : k0_cond24 d0 v17 = 1#1), (Rect.unit (s := S32768x128) (k0_off48 d0 v17) S4096x128.size (k0_off48_inb d0 v17 k0_hw1 k0_h24)).WholeWords (EltTy.packing .bf16) := fun d0 v17 k0_hw1 k0_h24 => k0_hw1.2.2.2.2.1.2.2.2.2.2.2.2.2.2.2.2.2.2.2.1 k0_h24 (k0_off48_inb d0 v17 k0_hw1 k0_h24)
theorem k0_off47_wordsbf16 : ∀ (d0 : Dev nD) (v17 : BitVec 32) (k0_hw1 : k0_chk1 d0 v17), ∀ (k0_h24 : k0_cond24 d0 v17 = 1#1), (Rect.unit (s := S32768x128) (k0_off47 d0 v17) S4096x128.size (k0_off47_inb d0 v17 k0_hw1 k0_h24)).WholeWords (EltTy.packing .bf16) := fun d0 v17 k0_hw1 k0_h24 => k0_hw1.2.2.2.2.1.2.2.2.2.2.2.2.2.2.2.2.2.2.2.2.1 k0_h24 (k0_off47_inb d0 v17 k0_hw1 k0_h24)
theorem k0_mult49_dvd : ∀ (d0 : Dev nD) (v17 : BitVec 32) (k0_hw1 : k0_chk1 d0 v17), ∀ (k0_h25 : k0_cond25 d0 v17 = 1#1), 8 ∣ (k0_mult49 d0 v17).toNat := fun d0 v17 k0_hw1 k0_h25 => k0_hw1.2.2.2.2.1.2.2.2.2.2.2.2.2.2.2.2.2.2.2.2.2.1 k0_h25
theorem k0_mult50_dvd : ∀ (d0 : Dev nD) (v17 : BitVec 32) (k0_hw1 : k0_chk1 d0 v17), ∀ (k0_h25 : k0_cond25 d0 v17 = 1#1), 8 ∣ (k0_mult50 d0 v17).toNat := fun d0 v17 k0_hw1 k0_h25 => k0_hw1.2.2.2.2.1.2.2.2.2.2.2.2.2.2.2.2.2.2.2.2.2.2.1 k0_h25
theorem k0_off49_inb : ∀ (d0 : Dev nD) (v17 : BitVec 32) (k0_hw1 : k0_chk1 d0 v17), ∀ (k0_h25 : k0_cond25 d0 v17 = 1#1), ∀ a, (k0_off49 d0 v17) a + S1024x128.size a ≤ S32768x128.size a := fun d0 v17 k0_hw1 k0_h25 => k0_hw1.2.2.2.2.1.2.2.2.2.2.2.2.2.2.2.2.2.2.2.2.2.2.2.1 k0_h25
theorem k0_off50_inb : ∀ (d0 : Dev nD) (v17 : BitVec 32) (k0_hw1 : k0_chk1 d0 v17), ∀ (k0_h25 : k0_cond25 d0 v17 = 1#1), ∀ a, (k0_off50 d0 v17) a + S1024x128.size a ≤ S32768x128.size a := fun d0 v17 k0_hw1 k0_h25 => k0_hw1.2.2.2.2.1.2.2.2.2.2.2.2.2.2.2.2.2.2.2.2.2.2.2.2.1 k0_h25
theorem k0_off50_wordsbf16 : ∀ (d0 : Dev nD) (v17 : BitVec 32) (k0_hw1 : k0_chk1 d0 v17), ∀ (k0_h25 : k0_cond25 d0 v17 = 1#1), (Rect.unit (s := S32768x128) (k0_off50 d0 v17) S1024x128.size (k0_off50_inb d0 v17 k0_hw1 k0_h25)).WholeWords (EltTy.packing .bf16) := fun d0 v17 k0_hw1 k0_h25 => k0_hw1.2.2.2.2.1.2.2.2.2.2.2.2.2.2.2.2.2.2.2.2.2.2.2.2.2.1 k0_h25 (k0_off50_inb d0 v17 k0_hw1 k0_h25)
theorem k0_off49_wordsbf16 : ∀ (d0 : Dev nD) (v17 : BitVec 32) (k0_hw1 : k0_chk1 d0 v17), ∀ (k0_h25 : k0_cond25 d0 v17 = 1#1), (Rect.unit (s := S32768x128) (k0_off49 d0 v17) S1024x128.size (k0_off49_inb d0 v17 k0_hw1 k0_h25)).WholeWords (EltTy.packing .bf16) := fun d0 v17 k0_hw1 k0_h25 => k0_hw1.2.2.2.2.1.2.2.2.2.2.2.2.2.2.2.2.2.2.2.2.2.2.2.2.2.2.1 k0_h25 (k0_off49_inb d0 v17 k0_hw1 k0_h25)
theorem k0_mult51_dvd : ∀ (d0 : Dev nD) (v17 : BitVec 32) (k0_hw1 : k0_chk1 d0 v17), ∀ (k0_h25 : k0_cond25 d0 v17 = 1#1), 8 ∣ (k0_mult51 d0 v17).toNat := fun d0 v17 k0_hw1 k0_h25 => k0_hw1.2.2.2.2.1.2.2.2.2.2.2.2.2.2.2.2.2.2.2.2.2.2.2.2.2.2.2.1 k0_h25
theorem k0_mult52_dvd : ∀ (d0 : Dev nD) (v17 : BitVec 32) (k0_hw1 : k0_chk1 d0 v17), ∀ (k0_h25 : k0_cond25 d0 v17 = 1#1), 8 ∣ (k0_mult52 d0 v17).toNat := fun d0 v17 k0_hw1 k0_h25 => k0_hw1.2.2.2.2.1.2.2.2.2.2.2.2.2.2.2.2.2.2.2.2.2.2.2.2.2.2.2.2.1 k0_h25
theorem k0_off51_inb : ∀ (d0 : Dev nD) (v17 : BitVec 32) (k0_hw1 : k0_chk1 d0 v17), ∀ (k0_h25 : k0_cond25 d0 v17 = 1#1), ∀ a, (k0_off51 d0 v17) a + S1024x128.size a ≤ S32768x128.size a := fun d0 v17 k0_hw1 k0_h25 => k0_hw1.2.2.2.2.1.2.2.2.2.2.2.2.2.2.2.2.2.2.2.2.2.2.2.2.2.2.2.2.2.1 k0_h25
theorem k0_off51_wordsbf16 : ∀ (d0 : Dev nD) (v17 : BitVec 32) (k0_hw1 : k0_chk1 d0 v17), ∀ (k0_h25 : k0_cond25 d0 v17 = 1#1), (Rect.unit (s := S32768x128) (k0_off51 d0 v17) S1024x128.size (k0_off51_inb d0 v17 k0_hw1 k0_h25)).WholeWords (EltTy.packing .bf16) := fun d0 v17 k0_hw1 k0_h25 => k0_hw1.2.2.2.2.1.2.2.2.2.2.2.2.2.2.2.2.2.2.2.2.2.2.2.2.2.2.2.2.2.2.1 k0_h25 (k0_off51_inb d0 v17 k0_hw1 k0_h25)
theorem k0_mult53_dvd : ∀ (d0 : Dev nD) (v17 : BitVec 32) (k0_hw1 : k0_chk1 d0 v17), ∀ (k0_h26 : k0_cond26 d0 v17 = 1#1), 8 ∣ (k0_mult53 d0 v17).toNat := fun d0 v17 k0_hw1 k0_h26 => k0_hw1.2.2.2.2.1.2.2.2.2.2.2.2.2.2.2.2.2.2.2.2.2.2.2.2.2.2.2.2.2.2.2.1 k0_h26
theorem k0_mult54_dvd : ∀ (d0 : Dev nD) (v17 : BitVec 32) (k0_hw1 : k0_chk1 d0 v17), ∀ (k0_h26 : k0_cond26 d0 v17 = 1#1), 8 ∣ (k0_mult54 d0 v17).toNat := fun d0 v17 k0_hw1 k0_h26 => k0_hw1.2.2.2.2.1.2.2.2.2.2.2.2.2.2.2.2.2.2.2.2.2.2.2.2.2.2.2.2.2.2.2.2.1 k0_h26
theorem k0_off52_inb : ∀ (d0 : Dev nD) (v17 : BitVec 32) (k0_hw1 : k0_chk1 d0 v17), ∀ (k0_h26 : k0_cond26 d0 v17 = 1#1), ∀ a, (k0_off52 d0 v17) a + S1024x128.size a ≤ S32768x128.size a := fun d0 v17 k0_hw1 k0_h26 => k0_hw1.2.2.2.2.1.2.2.2.2.2.2.2.2.2.2.2.2.2.2.2.2.2.2.2.2.2.2.2.2.2.2.2.2.1 k0_h26
theorem k0_off53_inb : ∀ (d0 : Dev nD) (v17 : BitVec 32) (k0_hw1 : k0_chk1 d0 v17), ∀ (k0_h26 : k0_cond26 d0 v17 = 1#1), ∀ a, (k0_off53 d0 v17) a + S1024x128.size a ≤ S32768x128.size a := fun d0 v17 k0_hw1 k0_h26 => k0_hw1.2.2.2.2.1.2.2.2.2.2.2.2.2.2.2.2.2.2.2.2.2.2.2.2.2.2.2.2.2.2.2.2.2.2.1 k0_h26
theorem k0_off53_wordsbf16 : ∀ (d0 : Dev nD) (v17 : BitVec 32) (k0_hw1 : k0_chk1 d0 v17), ∀ (k0_h26 : k0_cond26 d0 v17 = 1#1), (Rect.unit (s := S32768x128) (k0_off53 d0 v17) S1024x128.size (k0_off53_inb d0 v17 k0_hw1 k0_h26)).WholeWords (EltTy.packing .bf16) := fun d0 v17 k0_hw1 k0_h26 => k0_hw1.2.2.2.2.1.2.2.2.2.2.2.2.2.2.2.2.2.2.2.2.2.2.2.2.2.2.2.2.2.2.2.2.2.2.2.1 k0_h26 (k0_off53_inb d0 v17 k0_hw1 k0_h26)
theorem k0_off52_wordsbf16 : ∀ (d0 : Dev nD) (v17 : BitVec 32) (k0_hw1 : k0_chk1 d0 v17), ∀ (k0_h26 : k0_cond26 d0 v17 = 1#1), (Rect.unit (s := S32768x128) (k0_off52 d0 v17) S1024x128.size (k0_off52_inb d0 v17 k0_hw1 k0_h26)).WholeWords (EltTy.packing .bf16) := fun d0 v17 k0_hw1 k0_h26 => k0_hw1.2.2.2.2.1.2.2.2.2.2.2.2.2.2.2.2.2.2.2.2.2.2.2.2.2.2.2.2.2.2.2.2.2.2.2.2 k0_h26 (k0_off52_inb d0 v17 k0_hw1 k0_h26)
theorem k0_mult55_dvd : ∀ (d0 : Dev nD) (v17 : BitVec 32) (k0_hw1 : k0_chk1 d0 v17), ∀ (k0_h26 : k0_cond26 d0 v17 = 1#1), 8 ∣ (k0_mult55 d0 v17).toNat := fun d0 v17 k0_hw1 k0_h26 => k0_hw1.2.2.2.2.2.1.1 k0_h26
theorem k0_mult56_dvd : ∀ (d0 : Dev nD) (v17 : BitVec 32) (k0_hw1 : k0_chk1 d0 v17), ∀ (k0_h26 : k0_cond26 d0 v17 = 1#1), 8 ∣ (k0_mult56 d0 v17).toNat := fun d0 v17 k0_hw1 k0_h26 => k0_hw1.2.2.2.2.2.1.2.1 k0_h26
theorem k0_off54_inb : ∀ (d0 : Dev nD) (v17 : BitVec 32) (k0_hw1 : k0_chk1 d0 v17), ∀ (k0_h26 : k0_cond26 d0 v17 = 1#1), ∀ a, (k0_off54 d0 v17) a + S1024x128.size a ≤ S32768x128.size a := fun d0 v17 k0_hw1 k0_h26 => k0_hw1.2.2.2.2.2.1.2.2.1 k0_h26
theorem k0_off54_wordsbf16 : ∀ (d0 : Dev nD) (v17 : BitVec 32) (k0_hw1 : k0_chk1 d0 v17), ∀ (k0_h26 : k0_cond26 d0 v17 = 1#1), (Rect.unit (s := S32768x128) (k0_off54 d0 v17) S1024x128.size (k0_off54_inb d0 v17 k0_hw1 k0_h26)).WholeWords (EltTy.packing .bf16) := fun d0 v17 k0_hw1 k0_h26 => k0_hw1.2.2.2.2.2.1.2.2.2.1 k0_h26 (k0_off54_inb d0 v17 k0_hw1 k0_h26)
theorem k0_mult57_dvd : ∀ (d0 : Dev nD) (v17 : BitVec 32) (k0_hw1 : k0_chk1 d0 v17), ∀ (k0_h27 : k0_cond27 d0 v17 = 1#1), 8 ∣ (k0_mult57 d0 v17).toNat := fun d0 v17 k0_hw1 k0_h27 => k0_hw1.2.2.2.2.2.1.2.2.2.2.1 k0_h27
theorem k0_mult58_dvd : ∀ (d0 : Dev nD) (v17 : BitVec 32) (k0_hw1 : k0_chk1 d0 v17), ∀ (k0_h27 : k0_cond27 d0 v17 = 1#1), 8 ∣ (k0_mult58 d0 v17).toNat := fun d0 v17 k0_hw1 k0_h27 => k0_hw1.2.2.2.2.2.1.2.2.2.2.2.1 k0_h27
theorem k0_off55_inb : ∀ (d0 : Dev nD) (v17 : BitVec 32) (k0_hw1 : k0_chk1 d0 v17), ∀ (k0_h27 : k0_cond27 d0 v17 = 1#1), ∀ a, (k0_off55 d0 v17) a + S1024x128.size a ≤ S32768x128.size a := fun d0 v17 k0_hw1 k0_h27 => k0_hw1.2.2.2.2.2.1.2.2.2.2.2.2.1 k0_h27
theorem k0_off56_inb : ∀ (d0 : Dev nD) (v17 : BitVec 32) (k0_hw1 : k0_chk1 d0 v17), ∀ (k0_h27 : k0_cond27 d0 v17 = 1#1), ∀ a, (k0_off56 d0 v17) a + S1024x128.size a ≤ S32768x128.size a := fun d0 v17 k0_hw1 k0_h27 => k0_hw1.2.2.2.2.2.1.2.2.2.2.2.2.2.1 k0_h27
theorem k0_off56_wordsbf16 : ∀ (d0 : Dev nD) (v17 : BitVec 32) (k0_hw1 : k0_chk1 d0 v17), ∀ (k0_h27 : k0_cond27 d0 v17 = 1#1), (Rect.unit (s := S32768x128) (k0_off56 d0 v17) S1024x128.size (k0_off56_inb d0 v17 k0_hw1 k0_h27)).WholeWords (EltTy.packing .bf16) := fun d0 v17 k0_hw1 k0_h27 => k0_hw1.2.2.2.2.2.1.2.2.2.2.2.2.2.2.1 k0_h27 (k0_off56_inb d0 v17 k0_hw1 k0_h27)
theorem k0_off55_wordsbf16 : ∀ (d0 : Dev nD) (v17 : BitVec 32) (k0_hw1 : k0_chk1 d0 v17), ∀ (k0_h27 : k0_cond27 d0 v17 = 1#1), (Rect.unit (s := S32768x128) (k0_off55 d0 v17) S1024x128.size (k0_off55_inb d0 v17 k0_hw1 k0_h27)).WholeWords (EltTy.packing .bf16) := fun d0 v17 k0_hw1 k0_h27 => k0_hw1.2.2.2.2.2.1.2.2.2.2.2.2.2.2.2.1 k0_h27 (k0_off55_inb d0 v17 k0_hw1 k0_h27)
theorem k0_mult59_dvd : ∀ (d0 : Dev nD) (v17 : BitVec 32) (k0_hw1 : k0_chk1 d0 v17), ∀ (k0_h27 : k0_cond27 d0 v17 = 1#1), 8 ∣ (k0_mult59 d0 v17).toNat := fun d0 v17 k0_hw1 k0_h27 => k0_hw1.2.2.2.2.2.1.2.2.2.2.2.2.2.2.2.2.1 k0_h27
theorem k0_mult60_dvd : ∀ (d0 : Dev nD) (v17 : BitVec 32) (k0_hw1 : k0_chk1 d0 v17), ∀ (k0_h27 : k0_cond27 d0 v17 = 1#1), 8 ∣ (k0_mult60 d0 v17).toNat := fun d0 v17 k0_hw1 k0_h27 => k0_hw1.2.2.2.2.2.1.2.2.2.2.2.2.2.2.2.2.2.1 k0_h27
theorem k0_off57_inb : ∀ (d0 : Dev nD) (v17 : BitVec 32) (k0_hw1 : k0_chk1 d0 v17), ∀ (k0_h27 : k0_cond27 d0 v17 = 1#1), ∀ a, (k0_off57 d0 v17) a + S1024x128.size a ≤ S32768x128.size a := fun d0 v17 k0_hw1 k0_h27 => k0_hw1.2.2.2.2.2.1.2.2.2.2.2.2.2.2.2.2.2.2.1 k0_h27
theorem k0_off57_wordsbf16 : ∀ (d0 : Dev nD) (v17 : BitVec 32) (k0_hw1 : k0_chk1 d0 v17), ∀ (k0_h27 : k0_cond27 d0 v17 = 1#1), (Rect.unit (s := S32768x128) (k0_off57 d0 v17) S1024x128.size (k0_off57_inb d0 v17 k0_hw1 k0_h27)).WholeWords (EltTy.packing .bf16) := fun d0 v17 k0_hw1 k0_h27 => k0_hw1.2.2.2.2.2.1.2.2.2.2.2.2.2.2.2.2.2.2.2.1 k0_h27 (k0_off57_inb d0 v17 k0_hw1 k0_h27)
theorem k0_mult61_dvd : ∀ (d0 : Dev nD) (v17 : BitVec 32) (k0_hw1 : k0_chk1 d0 v17), ∀ (k0_h28 : k0_cond28 d0 v17 = 1#1), 8 ∣ (k0_mult61 d0 v17).toNat := fun d0 v17 k0_hw1 k0_h28 => k0_hw1.2.2.2.2.2.1.2.2.2.2.2.2.2.2.2.2.2.2.2.2.1 k0_h28
theorem k0_mult62_dvd : ∀ (d0 : Dev nD) (v17 : BitVec 32) (k0_hw1 : k0_chk1 d0 v17), ∀ (k0_h28 : k0_cond28 d0 v17 = 1#1), 8 ∣ (k0_mult62 d0 v17).toNat := fun d0 v17 k0_hw1 k0_h28 => k0_hw1.2.2.2.2.2.1.2.2.2.2.2.2.2.2.2.2.2.2.2.2.2.1 k0_h28
theorem k0_off58_inb : ∀ (d0 : Dev nD) (v17 : BitVec 32) (k0_hw1 : k0_chk1 d0 v17), ∀ (k0_h28 : k0_cond28 d0 v17 = 1#1), ∀ a, (k0_off58 d0 v17) a + S1024x128.size a ≤ S32768x128.size a := fun d0 v17 k0_hw1 k0_h28 => k0_hw1.2.2.2.2.2.1.2.2.2.2.2.2.2.2.2.2.2.2.2.2.2.2.1 k0_h28
theorem k0_off59_inb : ∀ (d0 : Dev nD) (v17 : BitVec 32) (k0_hw1 : k0_chk1 d0 v17), ∀ (k0_h28 : k0_cond28 d0 v17 = 1#1), ∀ a, (k0_off59 d0 v17) a + S1024x128.size a ≤ S32768x128.size a := fun d0 v17 k0_hw1 k0_h28 => k0_hw1.2.2.2.2.2.1.2.2.2.2.2.2.2.2.2.2.2.2.2.2.2.2.2.1 k0_h28
theorem k0_off59_wordsbf16 : ∀ (d0 : Dev nD) (v17 : BitVec 32) (k0_hw1 : k0_chk1 d0 v17), ∀ (k0_h28 : k0_cond28 d0 v17 = 1#1), (Rect.unit (s := S32768x128) (k0_off59 d0 v17) S1024x128.size (k0_off59_inb d0 v17 k0_hw1 k0_h28)).WholeWords (EltTy.packing .bf16) := fun d0 v17 k0_hw1 k0_h28 => k0_hw1.2.2.2.2.2.1.2.2.2.2.2.2.2.2.2.2.2.2.2.2.2.2.2.2.1 k0_h28 (k0_off59_inb d0 v17 k0_hw1 k0_h28)
theorem k0_off58_wordsbf16 : ∀ (d0 : Dev nD) (v17 : BitVec 32) (k0_hw1 : k0_chk1 d0 v17), ∀ (k0_h28 : k0_cond28 d0 v17 = 1#1), (Rect.unit (s := S32768x128) (k0_off58 d0 v17) S1024x128.size (k0_off58_inb d0 v17 k0_hw1 k0_h28)).WholeWords (EltTy.packing .bf16) := fun d0 v17 k0_hw1 k0_h28 => k0_hw1.2.2.2.2.2.1.2.2.2.2.2.2.2.2.2.2.2.2.2.2.2.2.2.2.2.1 k0_h28 (k0_off58_inb d0 v17 k0_hw1 k0_h28)
theorem k0_mult63_dvd : ∀ (d0 : Dev nD) (v17 : BitVec 32) (k0_hw1 : k0_chk1 d0 v17), ∀ (k0_h28 : k0_cond28 d0 v17 = 1#1), 8 ∣ (k0_mult63 d0 v17).toNat := fun d0 v17 k0_hw1 k0_h28 => k0_hw1.2.2.2.2.2.1.2.2.2.2.2.2.2.2.2.2.2.2.2.2.2.2.2.2.2.2.1 k0_h28
theorem k0_mult64_dvd : ∀ (d0 : Dev nD) (v17 : BitVec 32) (k0_hw1 : k0_chk1 d0 v17), ∀ (k0_h28 : k0_cond28 d0 v17 = 1#1), 8 ∣ (k0_mult64 d0 v17).toNat := fun d0 v17 k0_hw1 k0_h28 => k0_hw1.2.2.2.2.2.1.2.2.2.2.2.2.2.2.2.2.2.2.2.2.2.2.2.2.2.2.2.1 k0_h28
theorem k0_off60_inb : ∀ (d0 : Dev nD) (v17 : BitVec 32) (k0_hw1 : k0_chk1 d0 v17), ∀ (k0_h28 : k0_cond28 d0 v17 = 1#1), ∀ a, (k0_off60 d0 v17) a + S1024x128.size a ≤ S32768x128.size a := fun d0 v17 k0_hw1 k0_h28 => k0_hw1.2.2.2.2.2.1.2.2.2.2.2.2.2.2.2.2.2.2.2.2.2.2.2.2.2.2.2.2.1 k0_h28
theorem k0_off60_wordsbf16 : ∀ (d0 : Dev nD) (v17 : BitVec 32) (k0_hw1 : k0_chk1 d0 v17), ∀ (k0_h28 : k0_cond28 d0 v17 = 1#1), (Rect.unit (s := S32768x128) (k0_off60 d0 v17) S1024x128.size (k0_off60_inb d0 v17 k0_hw1 k0_h28)).WholeWords (EltTy.packing .bf16) := fun d0 v17 k0_hw1 k0_h28 => k0_hw1.2.2.2.2.2.1.2.2.2.2.2.2.2.2.2.2.2.2.2.2.2.2.2.2.2.2.2.2.2.1 k0_h28 (k0_off60_inb d0 v17 k0_hw1 k0_h28)
theorem k0_mult65_dvd : ∀ (d0 : Dev nD) (v17 : BitVec 32) (k0_hw1 : k0_chk1 d0 v17), ∀ (k0_h29 : k0_cond29 d0 v17 = 1#1), 8 ∣ (k0_mult65 d0 v17).toNat := fun d0 v17 k0_hw1 k0_h29 => k0_hw1.2.2.2.2.2.1.2.2.2.2.2.2.2.2.2.2.2.2.2.2.2.2.2.2.2.2.2.2.2.2.1 k0_h29
theorem k0_mult66_dvd : ∀ (d0 : Dev nD) (v17 : BitVec 32) (k0_hw1 : k0_chk1 d0 v17), ∀ (k0_h29 : k0_cond29 d0 v17 = 1#1), 8 ∣ (k0_mult66 d0 v17).toNat := fun d0 v17 k0_hw1 k0_h29 => k0_hw1.2.2.2.2.2.1.2.2.2.2.2.2.2.2.2.2.2.2.2.2.2.2.2.2.2.2.2.2.2.2.2.1 k0_h29
theorem k0_off61_inb : ∀ (d0 : Dev nD) (v17 : BitVec 32) (k0_hw1 : k0_chk1 d0 v17), ∀ (k0_h29 : k0_cond29 d0 v17 = 1#1), ∀ a, (k0_off61 d0 v17) a + S1024x128.size a ≤ S32768x128.size a := fun d0 v17 k0_hw1 k0_h29 => k0_hw1.2.2.2.2.2.1.2.2.2.2.2.2.2.2.2.2.2.2.2.2.2.2.2.2.2.2.2.2.2.2.2.2.1 k0_h29
theorem k0_off62_inb : ∀ (d0 : Dev nD) (v17 : BitVec 32) (k0_hw1 : k0_chk1 d0 v17), ∀ (k0_h29 : k0_cond29 d0 v17 = 1#1), ∀ a, (k0_off62 d0 v17) a + S1024x128.size a ≤ S32768x128.size a := fun d0 v17 k0_hw1 k0_h29 => k0_hw1.2.2.2.2.2.1.2.2.2.2.2.2.2.2.2.2.2.2.2.2.2.2.2.2.2.2.2.2.2.2.2.2.2.1 k0_h29
theorem k0_off62_wordsbf16 : ∀ (d0 : Dev nD) (v17 : BitVec 32) (k0_hw1 : k0_chk1 d0 v17), ∀ (k0_h29 : k0_cond29 d0 v17 = 1#1), (Rect.unit (s := S32768x128) (k0_off62 d0 v17) S1024x128.size (k0_off62_inb d0 v17 k0_hw1 k0_h29)).WholeWords (EltTy.packing .bf16) := fun d0 v17 k0_hw1 k0_h29 => k0_hw1.2.2.2.2.2.1.2.2.2.2.2.2.2.2.2.2.2.2.2.2.2.2.2.2.2.2.2.2.2.2.2.2.2.2.1 k0_h29 (k0_off62_inb d0 v17 k0_hw1 k0_h29)
theorem k0_off61_wordsbf16 : ∀ (d0 : Dev nD) (v17 : BitVec 32) (k0_hw1 : k0_chk1 d0 v17), ∀ (k0_h29 : k0_cond29 d0 v17 = 1#1), (Rect.unit (s := S32768x128) (k0_off61 d0 v17) S1024x128.size (k0_off61_inb d0 v17 k0_hw1 k0_h29)).WholeWords (EltTy.packing .bf16) := fun d0 v17 k0_hw1 k0_h29 => k0_hw1.2.2.2.2.2.1.2.2.2.2.2.2.2.2.2.2.2.2.2.2.2.2.2.2.2.2.2.2.2.2.2.2.2.2.2.1 k0_h29 (k0_off61_inb d0 v17 k0_hw1 k0_h29)
theorem k0_mult67_dvd : ∀ (d0 : Dev nD) (v17 : BitVec 32) (k0_hw1 : k0_chk1 d0 v17), ∀ (k0_h29 : k0_cond29 d0 v17 = 1#1), 8 ∣ (k0_mult67 d0 v17).toNat := fun d0 v17 k0_hw1 k0_h29 => k0_hw1.2.2.2.2.2.1.2.2.2.2.2.2.2.2.2.2.2.2.2.2.2.2.2.2.2.2.2.2.2.2.2.2.2.2.2.2.1 k0_h29
theorem k0_mult68_dvd : ∀ (d0 : Dev nD) (v17 : BitVec 32) (k0_hw1 : k0_chk1 d0 v17), ∀ (k0_h29 : k0_cond29 d0 v17 = 1#1), 8 ∣ (k0_mult68 d0 v17).toNat := fun d0 v17 k0_hw1 k0_h29 => k0_hw1.2.2.2.2.2.1.2.2.2.2.2.2.2.2.2.2.2.2.2.2.2.2.2.2.2.2.2.2.2.2.2.2.2.2.2.2.2 k0_h29
theorem k0_off63_inb : ∀ (d0 : Dev nD) (v17 : BitVec 32) (k0_hw1 : k0_chk1 d0 v17), ∀ (k0_h29 : k0_cond29 d0 v17 = 1#1), ∀ a, (k0_off63 d0 v17) a + S1024x128.size a ≤ S32768x128.size a := fun d0 v17 k0_hw1 k0_h29 => k0_hw1.2.2.2.2.2.2.1.1 k0_h29
theorem k0_off63_wordsbf16 : ∀ (d0 : Dev nD) (v17 : BitVec 32) (k0_hw1 : k0_chk1 d0 v17), ∀ (k0_h29 : k0_cond29 d0 v17 = 1#1), (Rect.unit (s := S32768x128) (k0_off63 d0 v17) S1024x128.size (k0_off63_inb d0 v17 k0_hw1 k0_h29)).WholeWords (EltTy.packing .bf16) := fun d0 v17 k0_hw1 k0_h29 => k0_hw1.2.2.2.2.2.2.1.2.1 k0_h29 (k0_off63_inb d0 v17 k0_hw1 k0_h29)
theorem k0_mult69_dvd : ∀ (d0 : Dev nD) (v17 : BitVec 32) (k0_hw1 : k0_chk1 d0 v17), ∀ (k0_h30 : k0_cond30 d0 v17 = 1#1), 8 ∣ (k0_mult69 d0 v17).toNat := fun d0 v17 k0_hw1 k0_h30 => k0_hw1.2.2.2.2.2.2.1.2.2.1 k0_h30
theorem k0_mult70_dvd : ∀ (d0 : Dev nD) (v17 : BitVec 32) (k0_hw1 : k0_chk1 d0 v17), ∀ (k0_h30 : k0_cond30 d0 v17 = 1#1), 8 ∣ (k0_mult70 d0 v17).toNat := fun d0 v17 k0_hw1 k0_h30 => k0_hw1.2.2.2.2.2.2.1.2.2.2.1 k0_h30
theorem k0_off64_inb : ∀ (d0 : Dev nD) (v17 : BitVec 32) (k0_hw1 : k0_chk1 d0 v17), ∀ (k0_h30 : k0_cond30 d0 v17 = 1#1), ∀ a, (k0_off64 d0 v17) a + S1024x128.size a ≤ S32768x128.size a := fun d0 v17 k0_hw1 k0_h30 => k0_hw1.2.2.2.2.2.2.1.2.2.2.2.1 k0_h30
theorem k0_off65_inb : ∀ (d0 : Dev nD) (v17 : BitVec 32) (k0_hw1 : k0_chk1 d0 v17), ∀ (k0_h30 : k0_cond30 d0 v17 = 1#1), ∀ a, (k0_off65 d0 v17) a + S1024x128.size a ≤ S32768x128.size a := fun d0 v17 k0_hw1 k0_h30 => k0_hw1.2.2.2.2.2.2.1.2.2.2.2.2.1 k0_h30
theorem k0_off65_wordsbf16 : ∀ (d0 : Dev nD) (v17 : BitVec 32) (k0_hw1 : k0_chk1 d0 v17), ∀ (k0_h30 : k0_cond30 d0 v17 = 1#1), (Rect.unit (s := S32768x128) (k0_off65 d0 v17) S1024x128.size (k0_off65_inb d0 v17 k0_hw1 k0_h30)).WholeWords (EltTy.packing .bf16) := fun d0 v17 k0_hw1 k0_h30 => k0_hw1.2.2.2.2.2.2.1.2.2.2.2.2.2.1 k0_h30 (k0_off65_inb d0 v17 k0_hw1 k0_h30)
theorem k0_off64_wordsbf16 : ∀ (d0 : Dev nD) (v17 : BitVec 32) (k0_hw1 : k0_chk1 d0 v17), ∀ (k0_h30 : k0_cond30 d0 v17 = 1#1), (Rect.unit (s := S32768x128) (k0_off64 d0 v17) S1024x128.size (k0_off64_inb d0 v17 k0_hw1 k0_h30)).WholeWords (EltTy.packing .bf16) := fun d0 v17 k0_hw1 k0_h30 => k0_hw1.2.2.2.2.2.2.1.2.2.2.2.2.2.2.1 k0_h30 (k0_off64_inb d0 v17 k0_hw1 k0_h30)
theorem k0_mult71_dvd : ∀ (d0 : Dev nD) (v17 : BitVec 32) (k0_hw1 : k0_chk1 d0 v17), ∀ (k0_h30 : k0_cond30 d0 v17 = 1#1), 8 ∣ (k0_mult71 d0 v17).toNat := fun d0 v17 k0_hw1 k0_h30 => k0_hw1.2.2.2.2.2.2.1.2.2.2.2.2.2.2.2.1 k0_h30
theorem k0_mult72_dvd : ∀ (d0 : Dev nD) (v17 : BitVec 32) (k0_hw1 : k0_chk1 d0 v17), ∀ (k0_h30 : k0_cond30 d0 v17 = 1#1), 8 ∣ (k0_mult72 d0 v17).toNat := fun d0 v17 k0_hw1 k0_h30 => k0_hw1.2.2.2.2.2.2.1.2.2.2.2.2.2.2.2.2.1 k0_h30
theorem k0_off66_inb : ∀ (d0 : Dev nD) (v17 : BitVec 32) (k0_hw1 : k0_chk1 d0 v17), ∀ (k0_h30 : k0_cond30 d0 v17 = 1#1), ∀ a, (k0_off66 d0 v17) a + S1024x128.size a ≤ S32768x128.size a := fun d0 v17 k0_hw1 k0_h30 => k0_hw1.2.2.2.2.2.2.1.2.2.2.2.2.2.2.2.2.2.1 k0_h30
theorem k0_off66_wordsbf16 : ∀ (d0 : Dev nD) (v17 : BitVec 32) (k0_hw1 : k0_chk1 d0 v17), ∀ (k0_h30 : k0_cond30 d0 v17 = 1#1), (Rect.unit (s := S32768x128) (k0_off66 d0 v17) S1024x128.size (k0_off66_inb d0 v17 k0_hw1 k0_h30)).WholeWords (EltTy.packing .bf16) := fun d0 v17 k0_hw1 k0_h30 => k0_hw1.2.2.2.2.2.2.1.2.2.2.2.2.2.2.2.2.2.2.1 k0_h30 (k0_off66_inb d0 v17 k0_hw1 k0_h30)
theorem k0_mult73_dvd : ∀ (d0 : Dev nD) (v17 : BitVec 32) (k0_hw1 : k0_chk1 d0 v17), ∀ (k0_h31 : k0_cond31 d0 v17 = 1#1), 8 ∣ (k0_mult73 d0 v17).toNat := fun d0 v17 k0_hw1 k0_h31 => k0_hw1.2.2.2.2.2.2.1.2.2.2.2.2.2.2.2.2.2.2.2.1 k0_h31
theorem k0_mult74_dvd : ∀ (d0 : Dev nD) (v17 : BitVec 32) (k0_hw1 : k0_chk1 d0 v17), ∀ (k0_h31 : k0_cond31 d0 v17 = 1#1), 8 ∣ (k0_mult74 d0 v17).toNat := fun d0 v17 k0_hw1 k0_h31 => k0_hw1.2.2.2.2.2.2.1.2.2.2.2.2.2.2.2.2.2.2.2.2.1 k0_h31
theorem k0_off67_inb : ∀ (d0 : Dev nD) (v17 : BitVec 32) (k0_hw1 : k0_chk1 d0 v17), ∀ (k0_h31 : k0_cond31 d0 v17 = 1#1), ∀ a, (k0_off67 d0 v17) a + S1024x128.size a ≤ S32768x128.size a := fun d0 v17 k0_hw1 k0_h31 => k0_hw1.2.2.2.2.2.2.1.2.2.2.2.2.2.2.2.2.2.2.2.2.2.1 k0_h31
theorem k0_off68_inb : ∀ (d0 : Dev nD) (v17 : BitVec 32) (k0_hw1 : k0_chk1 d0 v17), ∀ (k0_h31 : k0_cond31 d0 v17 = 1#1), ∀ a, (k0_off68 d0 v17) a + S1024x128.size a ≤ S32768x128.size a := fun d0 v17 k0_hw1 k0_h31 => k0_hw1.2.2.2.2.2.2.1.2.2.2.2.2.2.2.2.2.2.2.2.2.2.2.1 k0_h31
theorem k0_off68_wordsbf16 : ∀ (d0 : Dev nD) (v17 : BitVec 32) (k0_hw1 : k0_chk1 d0 v17), ∀ (k0_h31 : k0_cond31 d0 v17 = 1#1), (Rect.unit (s := S32768x128) (k0_off68 d0 v17) S1024x128.size (k0_off68_inb d0 v17 k0_hw1 k0_h31)).WholeWords (EltTy.packing .bf16) := fun d0 v17 k0_hw1 k0_h31 => k0_hw1.2.2.2.2.2.2.1.2.2.2.2.2.2.2.2.2.2.2.2.2.2.2.2.1 k0_h31 (k0_off68_inb d0 v17 k0_hw1 k0_h31)
theorem k0_off67_wordsbf16 : ∀ (d0 : Dev nD) (v17 : BitVec 32) (k0_hw1 : k0_chk1 d0 v17), ∀ (k0_h31 : k0_cond31 d0 v17 = 1#1), (Rect.unit (s := S32768x128) (k0_off67 d0 v17) S1024x128.size (k0_off67_inb d0 v17 k0_hw1 k0_h31)).WholeWords (EltTy.packing .bf16) := fun d0 v17 k0_hw1 k0_h31 => k0_hw1.2.2.2.2.2.2.1.2.2.2.2.2.2.2.2.2.2.2.2.2.2.2.2.2.1 k0_h31 (k0_off67_inb d0 v17 k0_hw1 k0_h31)
theorem k0_mult75_dvd : ∀ (d0 : Dev nD) (v17 : BitVec 32) (k0_hw1 : k0_chk1 d0 v17), ∀ (k0_h31 : k0_cond31 d0 v17 = 1#1), 8 ∣ (k0_mult75 d0 v17).toNat := fun d0 v17 k0_hw1 k0_h31 => k0_hw1.2.2.2.2.2.2.1.2.2.2.2.2.2.2.2.2.2.2.2.2.2.2.2.2.2.1 k0_h31
theorem k0_mult76_dvd : ∀ (d0 : Dev nD) (v17 : BitVec 32) (k0_hw1 : k0_chk1 d0 v17), ∀ (k0_h31 : k0_cond31 d0 v17 = 1#1), 8 ∣ (k0_mult76 d0 v17).toNat := fun d0 v17 k0_hw1 k0_h31 => k0_hw1.2.2.2.2.2.2.1.2.2.2.2.2.2.2.2.2.2.2.2.2.2.2.2.2.2.2.1 k0_h31
theorem k0_off69_inb : ∀ (d0 : Dev nD) (v17 : BitVec 32) (k0_hw1 : k0_chk1 d0 v17), ∀ (k0_h31 : k0_cond31 d0 v17 = 1#1), ∀ a, (k0_off69 d0 v17) a + S1024x128.size a ≤ S32768x128.size a := fun d0 v17 k0_hw1 k0_h31 => k0_hw1.2.2.2.2.2.2.1.2.2.2.2.2.2.2.2.2.2.2.2.2.2.2.2.2.2.2.2.1 k0_h31
theorem k0_off69_wordsbf16 : ∀ (d0 : Dev nD) (v17 : BitVec 32) (k0_hw1 : k0_chk1 d0 v17), ∀ (k0_h31 : k0_cond31 d0 v17 = 1#1), (Rect.unit (s := S32768x128) (k0_off69 d0 v17) S1024x128.size (k0_off69_inb d0 v17 k0_hw1 k0_h31)).WholeWords (EltTy.packing .bf16) := fun d0 v17 k0_hw1 k0_h31 => k0_hw1.2.2.2.2.2.2.1.2.2.2.2.2.2.2.2.2.2.2.2.2.2.2.2.2.2.2.2.2.1 k0_h31 (k0_off69_inb d0 v17 k0_hw1 k0_h31)
theorem k0_mult77_dvd : ∀ (d0 : Dev nD) (v17 : BitVec 32) (k0_hw1 : k0_chk1 d0 v17), ∀ (k0_h32 : k0_cond32 d0 v17 = 1#1), 8 ∣ (k0_mult77 d0 v17).toNat := fun d0 v17 k0_hw1 k0_h32 => k0_hw1.2.2.2.2.2.2.1.2.2.2.2.2.2.2.2.2.2.2.2.2.2.2.2.2.2.2.2.2.2.1 k0_h32
theorem k0_mult78_dvd : ∀ (d0 : Dev nD) (v17 : BitVec 32) (k0_hw1 : k0_chk1 d0 v17), ∀ (k0_h32 : k0_cond32 d0 v17 = 1#1), 8 ∣ (k0_mult78 d0 v17).toNat := fun d0 v17 k0_hw1 k0_h32 => k0_hw1.2.2.2.2.2.2.1.2.2.2.2.2.2.2.2.2.2.2.2.2.2.2.2.2.2.2.2.2.2.2.1 k0_h32
theorem k0_off70_inb : ∀ (d0 : Dev nD) (v17 : BitVec 32) (k0_hw1 : k0_chk1 d0 v17), ∀ (k0_h32 : k0_cond32 d0 v17 = 1#1), ∀ a, (k0_off70 d0 v17) a + S1024x128.size a ≤ S32768x128.size a := fun d0 v17 k0_hw1 k0_h32 => k0_hw1.2.2.2.2.2.2.1.2.2.2.2.2.2.2.2.2.2.2.2.2.2.2.2.2.2.2.2.2.2.2.2.1 k0_h32
theorem k0_off71_inb : ∀ (d0 : Dev nD) (v17 : BitVec 32) (k0_hw1 : k0_chk1 d0 v17), ∀ (k0_h32 : k0_cond32 d0 v17 = 1#1), ∀ a, (k0_off71 d0 v17) a + S1024x128.size a ≤ S32768x128.size a := fun d0 v17 k0_hw1 k0_h32 => k0_hw1.2.2.2.2.2.2.1.2.2.2.2.2.2.2.2.2.2.2.2.2.2.2.2.2.2.2.2.2.2.2.2.2.1 k0_h32
theorem k0_off71_wordsbf16 : ∀ (d0 : Dev nD) (v17 : BitVec 32) (k0_hw1 : k0_chk1 d0 v17), ∀ (k0_h32 : k0_cond32 d0 v17 = 1#1), (Rect.unit (s := S32768x128) (k0_off71 d0 v17) S1024x128.size (k0_off71_inb d0 v17 k0_hw1 k0_h32)).WholeWords (EltTy.packing .bf16) := fun d0 v17 k0_hw1 k0_h32 => k0_hw1.2.2.2.2.2.2.1.2.2.2.2.2.2.2.2.2.2.2.2.2.2.2.2.2.2.2.2.2.2.2.2.2.2.1 k0_h32 (k0_off71_inb d0 v17 k0_hw1 k0_h32)
theorem k0_off70_wordsbf16 : ∀ (d0 : Dev nD) (v17 : BitVec 32) (k0_hw1 : k0_chk1 d0 v17), ∀ (k0_h32 : k0_cond32 d0 v17 = 1#1), (Rect.unit (s := S32768x128) (k0_off70 d0 v17) S1024x128.size (k0_off70_inb d0 v17 k0_hw1 k0_h32)).WholeWords (EltTy.packing .bf16) := fun d0 v17 k0_hw1 k0_h32 => k0_hw1.2.2.2.2.2.2.1.2.2.2.2.2.2.2.2.2.2.2.2.2.2.2.2.2.2.2.2.2.2.2.2.2.2.2.1 k0_h32 (k0_off70_inb d0 v17 k0_hw1 k0_h32)
theorem k0_mult79_dvd : ∀ (d0 : Dev nD) (v17 : BitVec 32) (k0_hw1 : k0_chk1 d0 v17), ∀ (k0_h32 : k0_cond32 d0 v17 = 1#1), 8 ∣ (k0_mult79 d0 v17).toNat := fun d0 v17 k0_hw1 k0_h32 => k0_hw1.2.2.2.2.2.2.1.2.2.2.2.2.2.2.2.2.2.2.2.2.2.2.2.2.2.2.2.2.2.2.2.2.2.2.2.1 k0_h32
theorem k0_mult80_dvd : ∀ (d0 : Dev nD) (v17 : BitVec 32) (k0_hw1 : k0_chk1 d0 v17), ∀ (k0_h32 : k0_cond32 d0 v17 = 1#1), 8 ∣ (k0_mult80 d0 v17).toNat := fun d0 v17 k0_hw1 k0_h32 => k0_hw1.2.2.2.2.2.2.1.2.2.2.2.2.2.2.2.2.2.2.2.2.2.2.2.2.2.2.2.2.2.2.2.2.2.2.2.2.1 k0_h32
theorem k0_off72_inb : ∀ (d0 : Dev nD) (v17 : BitVec 32) (k0_hw1 : k0_chk1 d0 v17), ∀ (k0_h32 : k0_cond32 d0 v17 = 1#1), ∀ a, (k0_off72 d0 v17) a + S1024x128.size a ≤ S32768x128.size a := fun d0 v17 k0_hw1 k0_h32 => k0_hw1.2.2.2.2.2.2.1.2.2.2.2.2.2.2.2.2.2.2.2.2.2.2.2.2.2.2.2.2.2.2.2.2.2.2.2.2.2.1 k0_h32
theorem k0_off72_wordsbf16 : ∀ (d0 : Dev nD) (v17 : BitVec 32) (k0_hw1 : k0_chk1 d0 v17), ∀ (k0_h32 : k0_cond32 d0 v17 = 1#1), (Rect.unit (s := S32768x128) (k0_off72 d0 v17) S1024x128.size (k0_off72_inb d0 v17 k0_hw1 k0_h32)).WholeWords (EltTy.packing .bf16) := fun d0 v17 k0_hw1 k0_h32 => k0_hw1.2.2.2.2.2.2.1.2.2.2.2.2.2.2.2.2.2.2.2.2.2.2.2.2.2.2.2.2.2.2.2.2.2.2.2.2.2.2 k0_h32 (k0_off72_inb d0 v17 k0_hw1 k0_h32)
theorem k0_mult81_dvd : ∀ (d0 : Dev nD) (v17 : BitVec 32) (k0_hw1 : k0_chk1 d0 v17), ∀ (k0_h33 : k0_cond33 d0 v17 = 1#1), 8 ∣ (k0_mult81 d0 v17).toNat := fun d0 v17 k0_hw1 k0_h33 => k0_hw1.2.2.2.2.2.2.2.1.1 k0_h33
theorem k0_mult82_dvd : ∀ (d0 : Dev nD) (v17 : BitVec 32) (k0_hw1 : k0_chk1 d0 v17), ∀ (k0_h33 : k0_cond33 d0 v17 = 1#1), 8 ∣ (k0_mult82 d0 v17).toNat := fun d0 v17 k0_hw1 k0_h33 => k0_hw1.2.2.2.2.2.2.2.1.2.1 k0_h33
theorem k0_off73_inb : ∀ (d0 : Dev nD) (v17 : BitVec 32) (k0_hw1 : k0_chk1 d0 v17), ∀ (k0_h33 : k0_cond33 d0 v17 = 1#1), ∀ a, (k0_off73 d0 v17) a + S1024x128.size a ≤ S32768x128.size a := fun d0 v17 k0_hw1 k0_h33 => k0_hw1.2.2.2.2.2.2.2.1.2.2.1 k0_h33
theorem k0_off74_inb : ∀ (d0 : Dev nD) (v17 : BitVec 32) (k0_hw1 : k0_chk1 d0 v17), ∀ (k0_h33 : k0_cond33 d0 v17 = 1#1), ∀ a, (k0_off74 d0 v17) a + S1024x128.size a ≤ S32768x128.size a := fun d0 v17 k0_hw1 k0_h33 => k0_hw1.2.2.2.2.2.2.2.1.2.2.2.1 k0_h33
theorem k0_off74_wordsbf16 : ∀ (d0 : Dev nD) (v17 : BitVec 32) (k0_hw1 : k0_chk1 d0 v17), ∀ (k0_h33 : k0_cond33 d0 v17 = 1#1), (Rect.unit (s := S32768x128) (k0_off74 d0 v17) S1024x128.size (k0_off74_inb d0 v17 k0_hw1 k0_h33)).WholeWords (EltTy.packing .bf16) := fun d0 v17 k0_hw1 k0_h33 => k0_hw1.2.2.2.2.2.2.2.1.2.2.2.2.1 k0_h33 (k0_off74_inb d0 v17 k0_hw1 k0_h33)
theorem k0_off73_wordsbf16 : ∀ (d0 : Dev nD) (v17 : BitVec 32) (k0_hw1 : k0_chk1 d0 v17), ∀ (k0_h33 : k0_cond33 d0 v17 = 1#1), (Rect.unit (s := S32768x128) (k0_off73 d0 v17) S1024x128.size (k0_off73_inb d0 v17 k0_hw1 k0_h33)).WholeWords (EltTy.packing .bf16) := fun d0 v17 k0_hw1 k0_h33 => k0_hw1.2.2.2.2.2.2.2.1.2.2.2.2.2.1 k0_h33 (k0_off73_inb d0 v17 k0_hw1 k0_h33)
theorem k0_mult83_dvd : ∀ (d0 : Dev nD) (v17 : BitVec 32) (k0_hw1 : k0_chk1 d0 v17), ∀ (k0_h33 : k0_cond33 d0 v17 = 1#1), 8 ∣ (k0_mult83 d0 v17).toNat := fun d0 v17 k0_hw1 k0_h33 => k0_hw1.2.2.2.2.2.2.2.1.2.2.2.2.2.2.1 k0_h33
theorem k0_mult84_dvd : ∀ (d0 : Dev nD) (v17 : BitVec 32) (k0_hw1 : k0_chk1 d0 v17), ∀ (k0_h33 : k0_cond33 d0 v17 = 1#1), 8 ∣ (k0_mult84 d0 v17).toNat := fun d0 v17 k0_hw1 k0_h33 => k0_hw1.2.2.2.2.2.2.2.1.2.2.2.2.2.2.2.1 k0_h33
theorem k0_off75_inb : ∀ (d0 : Dev nD) (v17 : BitVec 32) (k0_hw1 : k0_chk1 d0 v17), ∀ (k0_h33 : k0_cond33 d0 v17 = 1#1), ∀ a, (k0_off75 d0 v17) a + S1024x128.size a ≤ S32768x128.size a := fun d0 v17 k0_hw1 k0_h33 => k0_hw1.2.2.2.2.2.2.2.1.2.2.2.2.2.2.2.2.1 k0_h33
theorem k0_off75_wordsbf16 : ∀ (d0 : Dev nD) (v17 : BitVec 32) (k0_hw1 : k0_chk1 d0 v17), ∀ (k0_h33 : k0_cond33 d0 v17 = 1#1), (Rect.unit (s := S32768x128) (k0_off75 d0 v17) S1024x128.size (k0_off75_inb d0 v17 k0_hw1 k0_h33)).WholeWords (EltTy.packing .bf16) := fun d0 v17 k0_hw1 k0_h33 => k0_hw1.2.2.2.2.2.2.2.1.2.2.2.2.2.2.2.2.2.1 k0_h33 (k0_off75_inb d0 v17 k0_hw1 k0_h33)
theorem k0_mult85_dvd : ∀ (d0 : Dev nD) (v17 : BitVec 32) (k0_hw1 : k0_chk1 d0 v17), ∀ (k0_h34 : k0_cond34 d0 v17 = 1#1), 8 ∣ (k0_mult85 d0 v17).toNat := fun d0 v17 k0_hw1 k0_h34 => k0_hw1.2.2.2.2.2.2.2.1.2.2.2.2.2.2.2.2.2.2.1 k0_h34
theorem k0_mult86_dvd : ∀ (d0 : Dev nD) (v17 : BitVec 32) (k0_hw1 : k0_chk1 d0 v17), ∀ (k0_h34 : k0_cond34 d0 v17 = 1#1), 8 ∣ (k0_mult86 d0 v17).toNat := fun d0 v17 k0_hw1 k0_h34 => k0_hw1.2.2.2.2.2.2.2.1.2.2.2.2.2.2.2.2.2.2.2.1 k0_h34
theorem k0_off76_inb : ∀ (d0 : Dev nD) (v17 : BitVec 32) (k0_hw1 : k0_chk1 d0 v17), ∀ (k0_h34 : k0_cond34 d0 v17 = 1#1), ∀ a, (k0_off76 d0 v17) a + S1024x128.size a ≤ S32768x128.size a := fun d0 v17 k0_hw1 k0_h34 => k0_hw1.2.2.2.2.2.2.2.1.2.2.2.2.2.2.2.2.2.2.2.2.1 k0_h34
theorem k0_off77_inb : ∀ (d0 : Dev nD) (v17 : BitVec 32) (k0_hw1 : k0_chk1 d0 v17), ∀ (k0_h34 : k0_cond34 d0 v17 = 1#1), ∀ a, (k0_off77 d0 v17) a + S1024x128.size a ≤ S32768x128.size a := fun d0 v17 k0_hw1 k0_h34 => k0_hw1.2.2.2.2.2.2.2.1.2.2.2.2.2.2.2.2.2.2.2.2.2.1 k0_h34
theorem k0_off77_wordsbf16 : ∀ (d0 : Dev nD) (v17 : BitVec 32) (k0_hw1 : k0_chk1 d0 v17), ∀ (k0_h34 : k0_cond34 d0 v17 = 1#1), (Rect.unit (s := S32768x128) (k0_off77 d0 v17) S1024x128.size (k0_off77_inb d0 v17 k0_hw1 k0_h34)).WholeWords (EltTy.packing .bf16) := fun d0 v17 k0_hw1 k0_h34 => k0_hw1.2.2.2.2.2.2.2.1.2.2.2.2.2.2.2.2.2.2.2.2.2.2.1 k0_h34 (k0_off77_inb d0 v17 k0_hw1 k0_h34)
theorem k0_off76_wordsbf16 : ∀ (d0 : Dev nD) (v17 : BitVec 32) (k0_hw1 : k0_chk1 d0 v17), ∀ (k0_h34 : k0_cond34 d0 v17 = 1#1), (Rect.unit (s := S32768x128) (k0_off76 d0 v17) S1024x128.size (k0_off76_inb d0 v17 k0_hw1 k0_h34)).WholeWords (EltTy.packing .bf16) := fun d0 v17 k0_hw1 k0_h34 => k0_hw1.2.2.2.2.2.2.2.1.2.2.2.2.2.2.2.2.2.2.2.2.2.2.2.1 k0_h34 (k0_off76_inb d0 v17 k0_hw1 k0_h34)
theorem k0_mult87_dvd : ∀ (d0 : Dev nD) (v17 : BitVec 32) (k0_hw1 : k0_chk1 d0 v17), ∀ (k0_h34 : k0_cond34 d0 v17 = 1#1), 8 ∣ (k0_mult87 d0 v17).toNat := fun d0 v17 k0_hw1 k0_h34 => k0_hw1.2.2.2.2.2.2.2.1.2.2.2.2.2.2.2.2.2.2.2.2.2.2.2.2.1 k0_h34
theorem k0_mult88_dvd : ∀ (d0 : Dev nD) (v17 : BitVec 32) (k0_hw1 : k0_chk1 d0 v17), ∀ (k0_h34 : k0_cond34 d0 v17 = 1#1), 8 ∣ (k0_mult88 d0 v17).toNat := fun d0 v17 k0_hw1 k0_h34 => k0_hw1.2.2.2.2.2.2.2.1.2.2.2.2.2.2.2.2.2.2.2.2.2.2.2.2.2.1 k0_h34
theorem k0_off78_inb : ∀ (d0 : Dev nD) (v17 : BitVec 32) (k0_hw1 : k0_chk1 d0 v17), ∀ (k0_h34 : k0_cond34 d0 v17 = 1#1), ∀ a, (k0_off78 d0 v17) a + S1024x128.size a ≤ S32768x128.size a := fun d0 v17 k0_hw1 k0_h34 => k0_hw1.2.2.2.2.2.2.2.1.2.2.2.2.2.2.2.2.2.2.2.2.2.2.2.2.2.2.1 k0_h34
theorem k0_off78_wordsbf16 : ∀ (d0 : Dev nD) (v17 : BitVec 32) (k0_hw1 : k0_chk1 d0 v17), ∀ (k0_h34 : k0_cond34 d0 v17 = 1#1), (Rect.unit (s := S32768x128) (k0_off78 d0 v17) S1024x128.size (k0_off78_inb d0 v17 k0_hw1 k0_h34)).WholeWords (EltTy.packing .bf16) := fun d0 v17 k0_hw1 k0_h34 => k0_hw1.2.2.2.2.2.2.2.1.2.2.2.2.2.2.2.2.2.2.2.2.2.2.2.2.2.2.2.1 k0_h34 (k0_off78_inb d0 v17 k0_hw1 k0_h34)
theorem k0_mult89_dvd : ∀ (d0 : Dev nD) (v17 : BitVec 32) (k0_hw1 : k0_chk1 d0 v17), ∀ (k0_h35 : k0_cond35 d0 v17 = 1#1), 8 ∣ (k0_mult89 d0 v17).toNat := fun d0 v17 k0_hw1 k0_h35 => k0_hw1.2.2.2.2.2.2.2.1.2.2.2.2.2.2.2.2.2.2.2.2.2.2.2.2.2.2.2.2.1 k0_h35
theorem k0_mult90_dvd : ∀ (d0 : Dev nD) (v17 : BitVec 32) (k0_hw1 : k0_chk1 d0 v17), ∀ (k0_h35 : k0_cond35 d0 v17 = 1#1), 8 ∣ (k0_mult90 d0 v17).toNat := fun d0 v17 k0_hw1 k0_h35 => k0_hw1.2.2.2.2.2.2.2.1.2.2.2.2.2.2.2.2.2.2.2.2.2.2.2.2.2.2.2.2.2.1 k0_h35
theorem k0_off79_inb : ∀ (d0 : Dev nD) (v17 : BitVec 32) (k0_hw1 : k0_chk1 d0 v17), ∀ (k0_h35 : k0_cond35 d0 v17 = 1#1), ∀ a, (k0_off79 d0 v17) a + S1024x128.size a ≤ S32768x128.size a := fun d0 v17 k0_hw1 k0_h35 => k0_hw1.2.2.2.2.2.2.2.1.2.2.2.2.2.2.2.2.2.2.2.2.2.2.2.2.2.2.2.2.2.2.1 k0_h35
theorem k0_off80_inb : ∀ (d0 : Dev nD) (v17 : BitVec 32) (k0_hw1 : k0_chk1 d0 v17), ∀ (k0_h35 : k0_cond35 d0 v17 = 1#1), ∀ a, (k0_off80 d0 v17) a + S1024x128.size a ≤ S32768x128.size a := fun d0 v17 k0_hw1 k0_h35 => k0_hw1.2.2.2.2.2.2.2.1.2.2.2.2.2.2.2.2.2.2.2.2.2.2.2.2.2.2.2.2.2.2.2.1 k0_h35
theorem k0_off80_wordsbf16 : ∀ (d0 : Dev nD) (v17 : BitVec 32) (k0_hw1 : k0_chk1 d0 v17), ∀ (k0_h35 : k0_cond35 d0 v17 = 1#1), (Rect.unit (s := S32768x128) (k0_off80 d0 v17) S1024x128.size (k0_off80_inb d0 v17 k0_hw1 k0_h35)).WholeWords (EltTy.packing .bf16) := fun d0 v17 k0_hw1 k0_h35 => k0_hw1.2.2.2.2.2.2.2.1.2.2.2.2.2.2.2.2.2.2.2.2.2.2.2.2.2.2.2.2.2.2.2.2.1 k0_h35 (k0_off80_inb d0 v17 k0_hw1 k0_h35)
theorem k0_off79_wordsbf16 : ∀ (d0 : Dev nD) (v17 : BitVec 32) (k0_hw1 : k0_chk1 d0 v17), ∀ (k0_h35 : k0_cond35 d0 v17 = 1#1), (Rect.unit (s := S32768x128) (k0_off79 d0 v17) S1024x128.size (k0_off79_inb d0 v17 k0_hw1 k0_h35)).WholeWords (EltTy.packing .bf16) := fun d0 v17 k0_hw1 k0_h35 => k0_hw1.2.2.2.2.2.2.2.1.2.2.2.2.2.2.2.2.2.2.2.2.2.2.2.2.2.2.2.2.2.2.2.2.2.1 k0_h35 (k0_off79_inb d0 v17 k0_hw1 k0_h35)
theorem k0_mult91_dvd : ∀ (d0 : Dev nD) (v17 : BitVec 32) (k0_hw1 : k0_chk1 d0 v17), ∀ (k0_h35 : k0_cond35 d0 v17 = 1#1), 8 ∣ (k0_mult91 d0 v17).toNat := fun d0 v17 k0_hw1 k0_h35 => k0_hw1.2.2.2.2.2.2.2.1.2.2.2.2.2.2.2.2.2.2.2.2.2.2.2.2.2.2.2.2.2.2.2.2.2.2.1 k0_h35
theorem k0_mult92_dvd : ∀ (d0 : Dev nD) (v17 : BitVec 32) (k0_hw1 : k0_chk1 d0 v17), ∀ (k0_h35 : k0_cond35 d0 v17 = 1#1), 8 ∣ (k0_mult92 d0 v17).toNat := fun d0 v17 k0_hw1 k0_h35 => k0_hw1.2.2.2.2.2.2.2.1.2.2.2.2.2.2.2.2.2.2.2.2.2.2.2.2.2.2.2.2.2.2.2.2.2.2.2.1 k0_h35
theorem k0_off81_inb : ∀ (d0 : Dev nD) (v17 : BitVec 32) (k0_hw1 : k0_chk1 d0 v17), ∀ (k0_h35 : k0_cond35 d0 v17 = 1#1), ∀ a, (k0_off81 d0 v17) a + S1024x128.size a ≤ S32768x128.size a := fun d0 v17 k0_hw1 k0_h35 => k0_hw1.2.2.2.2.2.2.2.1.2.2.2.2.2.2.2.2.2.2.2.2.2.2.2.2.2.2.2.2.2.2.2.2.2.2.2.2.1 k0_h35
theorem k0_off81_wordsbf16 : ∀ (d0 : Dev nD) (v17 : BitVec 32) (k0_hw1 : k0_chk1 d0 v17), ∀ (k0_h35 : k0_cond35 d0 v17 = 1#1), (Rect.unit (s := S32768x128) (k0_off81 d0 v17) S1024x128.size (k0_off81_inb d0 v17 k0_hw1 k0_h35)).WholeWords (EltTy.packing .bf16) := fun d0 v17 k0_hw1 k0_h35 => k0_hw1.2.2.2.2.2.2.2.1.2.2.2.2.2.2.2.2.2.2.2.2.2.2.2.2.2.2.2.2.2.2.2.2.2.2.2.2.2.1 k0_h35 (k0_off81_inb d0 v17 k0_hw1 k0_h35)
theorem k0_mult93_dvd : ∀ (d0 : Dev nD) (v17 : BitVec 32) (k0_hw1 : k0_chk1 d0 v17), ∀ (k0_h36 : k0_cond36 d0 v17 = 1#1), 8 ∣ (k0_mult93 d0 v17).toNat := fun d0 v17 k0_hw1 k0_h36 => k0_hw1.2.2.2.2.2.2.2.1.2.2.2.2.2.2.2.2.2.2.2.2.2.2.2.2.2.2.2.2.2.2.2.2.2.2.2.2.2.2.1 k0_h36
theorem k0_mult94_dvd : ∀ (d0 : Dev nD) (v17 : BitVec 32) (k0_hw1 : k0_chk1 d0 v17), ∀ (k0_h36 : k0_cond36 d0 v17 = 1#1), 8 ∣ (k0_mult94 d0 v17).toNat := fun d0 v17 k0_hw1 k0_h36 => k0_hw1.2.2.2.2.2.2.2.1.2.2.2.2.2.2.2.2.2.2.2.2.2.2.2.2.2.2.2.2.2.2.2.2.2.2.2.2.2.2.2 k0_h36
theorem k0_off82_inb : ∀ (d0 : Dev nD) (v17 : BitVec 32) (k0_hw1 : k0_chk1 d0 v17), ∀ (k0_h36 : k0_cond36 d0 v17 = 1#1), ∀ a, (k0_off82 d0 v17) a + S1024x128.size a ≤ S32768x128.size a := fun d0 v17 k0_hw1 k0_h36 => k0_hw1.2.2.2.2.2.2.2.2.1.1 k0_h36
theorem k0_off83_inb : ∀ (d0 : Dev nD) (v17 : BitVec 32) (k0_hw1 : k0_chk1 d0 v17), ∀ (k0_h36 : k0_cond36 d0 v17 = 1#1), ∀ a, (k0_off83 d0 v17) a + S1024x128.size a ≤ S32768x128.size a := fun d0 v17 k0_hw1 k0_h36 => k0_hw1.2.2.2.2.2.2.2.2.1.2.1 k0_h36
theorem k0_off83_wordsbf16 : ∀ (d0 : Dev nD) (v17 : BitVec 32) (k0_hw1 : k0_chk1 d0 v17), ∀ (k0_h36 : k0_cond36 d0 v17 = 1#1), (Rect.unit (s := S32768x128) (k0_off83 d0 v17) S1024x128.size (k0_off83_inb d0 v17 k0_hw1 k0_h36)).WholeWords (EltTy.packing .bf16) := fun d0 v17 k0_hw1 k0_h36 => k0_hw1.2.2.2.2.2.2.2.2.1.2.2.1 k0_h36 (k0_off83_inb d0 v17 k0_hw1 k0_h36)
theorem k0_off82_wordsbf16 : ∀ (d0 : Dev nD) (v17 : BitVec 32) (k0_hw1 : k0_chk1 d0 v17), ∀ (k0_h36 : k0_cond36 d0 v17 = 1#1), (Rect.unit (s := S32768x128) (k0_off82 d0 v17) S1024x128.size (k0_off82_inb d0 v17 k0_hw1 k0_h36)).WholeWords (EltTy.packing .bf16) := fun d0 v17 k0_hw1 k0_h36 => k0_hw1.2.2.2.2.2.2.2.2.1.2.2.2.1 k0_h36 (k0_off82_inb d0 v17 k0_hw1 k0_h36)
theorem k0_mult95_dvd : ∀ (d0 : Dev nD) (v17 : BitVec 32) (k0_hw1 : k0_chk1 d0 v17), ∀ (k0_h36 : k0_cond36 d0 v17 = 1#1), 8 ∣ (k0_mult95 d0 v17).toNat := fun d0 v17 k0_hw1 k0_h36 => k0_hw1.2.2.2.2.2.2.2.2.1.2.2.2.2.1 k0_h36
theorem k0_mult96_dvd : ∀ (d0 : Dev nD) (v17 : BitVec 32) (k0_hw1 : k0_chk1 d0 v17), ∀ (k0_h36 : k0_cond36 d0 v17 = 1#1), 8 ∣ (k0_mult96 d0 v17).toNat := fun d0 v17 k0_hw1 k0_h36 => k0_hw1.2.2.2.2.2.2.2.2.1.2.2.2.2.2.1 k0_h36
theorem k0_off84_inb : ∀ (d0 : Dev nD) (v17 : BitVec 32) (k0_hw1 : k0_chk1 d0 v17), ∀ (k0_h36 : k0_cond36 d0 v17 = 1#1), ∀ a, (k0_off84 d0 v17) a + S1024x128.size a ≤ S32768x128.size a := fun d0 v17 k0_hw1 k0_h36 => k0_hw1.2.2.2.2.2.2.2.2.1.2.2.2.2.2.2.1 k0_h36
theorem k0_off84_wordsbf16 : ∀ (d0 : Dev nD) (v17 : BitVec 32) (k0_hw1 : k0_chk1 d0 v17), ∀ (k0_h36 : k0_cond36 d0 v17 = 1#1), (Rect.unit (s := S32768x128) (k0_off84 d0 v17) S1024x128.size (k0_off84_inb d0 v17 k0_hw1 k0_h36)).WholeWords (EltTy.packing .bf16) := fun d0 v17 k0_hw1 k0_h36 => k0_hw1.2.2.2.2.2.2.2.2.1.2.2.2.2.2.2.2.1 k0_h36 (k0_off84_inb d0 v17 k0_hw1 k0_h36)
theorem k0_mult97_dvd : ∀ (d0 : Dev nD) (v17 : BitVec 32) (k0_hw1 : k0_chk1 d0 v17), ∀ (k0_h37 : k0_cond37 d0 v17 = 1#1), 8 ∣ (k0_mult97 d0 v17).toNat := fun d0 v17 k0_hw1 k0_h37 => k0_hw1.2.2.2.2.2.2.2.2.1.2.2.2.2.2.2.2.2.1 k0_h37
theorem k0_mult98_dvd : ∀ (d0 : Dev nD) (v17 : BitVec 32) (k0_hw1 : k0_chk1 d0 v17), ∀ (k0_h37 : k0_cond37 d0 v17 = 1#1), 8 ∣ (k0_mult98 d0 v17).toNat := fun d0 v17 k0_hw1 k0_h37 => k0_hw1.2.2.2.2.2.2.2.2.1.2.2.2.2.2.2.2.2.2.1 k0_h37
theorem k0_off85_inb : ∀ (d0 : Dev nD) (v17 : BitVec 32) (k0_hw1 : k0_chk1 d0 v17), ∀ (k0_h37 : k0_cond37 d0 v17 = 1#1), ∀ a, (k0_off85 d0 v17) a + S1024x128.size a ≤ S32768x128.size a := fun d0 v17 k0_hw1 k0_h37 => k0_hw1.2.2.2.2.2.2.2.2.1.2.2.2.2.2.2.2.2.2.2.1 k0_h37
theorem k0_off86_inb : ∀ (d0 : Dev nD) (v17 : BitVec 32) (k0_hw1 : k0_chk1 d0 v17), ∀ (k0_h37 : k0_cond37 d0 v17 = 1#1), ∀ a, (k0_off86 d0 v17) a + S1024x128.size a ≤ S32768x128.size a := fun d0 v17 k0_hw1 k0_h37 => k0_hw1.2.2.2.2.2.2.2.2.1.2.2.2.2.2.2.2.2.2.2.2.1 k0_h37
theorem k0_off86_wordsbf16 : ∀ (d0 : Dev nD) (v17 : BitVec 32) (k0_hw1 : k0_chk1 d0 v17), ∀ (k0_h37 : k0_cond37 d0 v17 = 1#1), (Rect.unit (s := S32768x128) (k0_off86 d0 v17) S1024x128.size (k0_off86_inb d0 v17 k0_hw1 k0_h37)).WholeWords (EltTy.packing .bf16) := fun d0 v17 k0_hw1 k0_h37 => k0_hw1.2.2.2.2.2.2.2.2.1.2.2.2.2.2.2.2.2.2.2.2.2.1 k0_h37 (k0_off86_inb d0 v17 k0_hw1 k0_h37)
theorem k0_off85_wordsbf16 : ∀ (d0 : Dev nD) (v17 : BitVec 32) (k0_hw1 : k0_chk1 d0 v17), ∀ (k0_h37 : k0_cond37 d0 v17 = 1#1), (Rect.unit (s := S32768x128) (k0_off85 d0 v17) S1024x128.size (k0_off85_inb d0 v17 k0_hw1 k0_h37)).WholeWords (EltTy.packing .bf16) := fun d0 v17 k0_hw1 k0_h37 => k0_hw1.2.2.2.2.2.2.2.2.1.2.2.2.2.2.2.2.2.2.2.2.2.2.1 k0_h37 (k0_off85_inb d0 v17 k0_hw1 k0_h37)
theorem k0_mult99_dvd : ∀ (d0 : Dev nD) (v17 : BitVec 32) (k0_hw1 : k0_chk1 d0 v17), ∀ (k0_h37 : k0_cond37 d0 v17 = 1#1), 8 ∣ (k0_mult99 d0 v17).toNat := fun d0 v17 k0_hw1 k0_h37 => k0_hw1.2.2.2.2.2.2.2.2.1.2.2.2.2.2.2.2.2.2.2.2.2.2.2.1 k0_h37
theorem k0_mult100_dvd : ∀ (d0 : Dev nD) (v17 : BitVec 32) (k0_hw1 : k0_chk1 d0 v17), ∀ (k0_h37 : k0_cond37 d0 v17 = 1#1), 8 ∣ (k0_mult100 d0 v17).toNat := fun d0 v17 k0_hw1 k0_h37 => k0_hw1.2.2.2.2.2.2.2.2.1.2.2.2.2.2.2.2.2.2.2.2.2.2.2.2.1 k0_h37
theorem k0_off87_inb : ∀ (d0 : Dev nD) (v17 : BitVec 32) (k0_hw1 : k0_chk1 d0 v17), ∀ (k0_h37 : k0_cond37 d0 v17 = 1#1), ∀ a, (k0_off87 d0 v17) a + S1024x128.size a ≤ S32768x128.size a := fun d0 v17 k0_hw1 k0_h37 => k0_hw1.2.2.2.2.2.2.2.2.1.2.2.2.2.2.2.2.2.2.2.2.2.2.2.2.2.1 k0_h37
theorem k0_off87_wordsbf16 : ∀ (d0 : Dev nD) (v17 : BitVec 32) (k0_hw1 : k0_chk1 d0 v17), ∀ (k0_h37 : k0_cond37 d0 v17 = 1#1), (Rect.unit (s := S32768x128) (k0_off87 d0 v17) S1024x128.size (k0_off87_inb d0 v17 k0_hw1 k0_h37)).WholeWords (EltTy.packing .bf16) := fun d0 v17 k0_hw1 k0_h37 => k0_hw1.2.2.2.2.2.2.2.2.1.2.2.2.2.2.2.2.2.2.2.2.2.2.2.2.2.2.1 k0_h37 (k0_off87_inb d0 v17 k0_hw1 k0_h37)
theorem k0_mult101_dvd : ∀ (d0 : Dev nD) (v17 : BitVec 32) (k0_hw1 : k0_chk1 d0 v17), ∀ (k0_h38 : k0_cond38 d0 v17 = 1#1), 8 ∣ (k0_mult101 d0 v17).toNat := fun d0 v17 k0_hw1 k0_h38 => k0_hw1.2.2.2.2.2.2.2.2.1.2.2.2.2.2.2.2.2.2.2.2.2.2.2.2.2.2.2.1 k0_h38
theorem k0_mult102_dvd : ∀ (d0 : Dev nD) (v17 : BitVec 32) (k0_hw1 : k0_chk1 d0 v17), ∀ (k0_h38 : k0_cond38 d0 v17 = 1#1), 8 ∣ (k0_mult102 d0 v17).toNat := fun d0 v17 k0_hw1 k0_h38 => k0_hw1.2.2.2.2.2.2.2.2.1.2.2.2.2.2.2.2.2.2.2.2.2.2.2.2.2.2.2.2.1 k0_h38
theorem k0_off88_inb : ∀ (d0 : Dev nD) (v17 : BitVec 32) (k0_hw1 : k0_chk1 d0 v17), ∀ (k0_h38 : k0_cond38 d0 v17 = 1#1), ∀ a, (k0_off88 d0 v17) a + S1024x128.size a ≤ S32768x128.size a := fun d0 v17 k0_hw1 k0_h38 => k0_hw1.2.2.2.2.2.2.2.2.1.2.2.2.2.2.2.2.2.2.2.2.2.2.2.2.2.2.2.2.2.1 k0_h38
theorem k0_off89_inb : ∀ (d0 : Dev nD) (v17 : BitVec 32) (k0_hw1 : k0_chk1 d0 v17), ∀ (k0_h38 : k0_cond38 d0 v17 = 1#1), ∀ a, (k0_off89 d0 v17) a + S1024x128.size a ≤ S32768x128.size a := fun d0 v17 k0_hw1 k0_h38 => k0_hw1.2.2.2.2.2.2.2.2.1.2.2.2.2.2.2.2.2.2.2.2.2.2.2.2.2.2.2.2.2.2.1 k0_h38
theorem k0_off89_wordsbf16 : ∀ (d0 : Dev nD) (v17 : BitVec 32) (k0_hw1 : k0_chk1 d0 v17), ∀ (k0_h38 : k0_cond38 d0 v17 = 1#1), (Rect.unit (s := S32768x128) (k0_off89 d0 v17) S1024x128.size (k0_off89_inb d0 v17 k0_hw1 k0_h38)).WholeWords (EltTy.packing .bf16) := fun d0 v17 k0_hw1 k0_h38 => k0_hw1.2.2.2.2.2.2.2.2.1.2.2.2.2.2.2.2.2.2.2.2.2.2.2.2.2.2.2.2.2.2.2.1 k0_h38 (k0_off89_inb d0 v17 k0_hw1 k0_h38)
theorem k0_off88_wordsbf16 : ∀ (d0 : Dev nD) (v17 : BitVec 32) (k0_hw1 : k0_chk1 d0 v17), ∀ (k0_h38 : k0_cond38 d0 v17 = 1#1), (Rect.unit (s := S32768x128) (k0_off88 d0 v17) S1024x128.size (k0_off88_inb d0 v17 k0_hw1 k0_h38)).WholeWords (EltTy.packing .bf16) := fun d0 v17 k0_hw1 k0_h38 => k0_hw1.2.2.2.2.2.2.2.2.1.2.2.2.2.2.2.2.2.2.2.2.2.2.2.2.2.2.2.2.2.2.2.2.1 k0_h38 (k0_off88_inb d0 v17 k0_hw1 k0_h38)
theorem k0_mult103_dvd : ∀ (d0 : Dev nD) (v17 : BitVec 32) (k0_hw1 : k0_chk1 d0 v17), ∀ (k0_h38 : k0_cond38 d0 v17 = 1#1), 8 ∣ (k0_mult103 d0 v17).toNat := fun d0 v17 k0_hw1 k0_h38 => k0_hw1.2.2.2.2.2.2.2.2.1.2.2.2.2.2.2.2.2.2.2.2.2.2.2.2.2.2.2.2.2.2.2.2.2.1 k0_h38
theorem k0_mult104_dvd : ∀ (d0 : Dev nD) (v17 : BitVec 32) (k0_hw1 : k0_chk1 d0 v17), ∀ (k0_h38 : k0_cond38 d0 v17 = 1#1), 8 ∣ (k0_mult104 d0 v17).toNat := fun d0 v17 k0_hw1 k0_h38 => k0_hw1.2.2.2.2.2.2.2.2.1.2.2.2.2.2.2.2.2.2.2.2.2.2.2.2.2.2.2.2.2.2.2.2.2.2.1 k0_h38
theorem k0_off90_inb : ∀ (d0 : Dev nD) (v17 : BitVec 32) (k0_hw1 : k0_chk1 d0 v17), ∀ (k0_h38 : k0_cond38 d0 v17 = 1#1), ∀ a, (k0_off90 d0 v17) a + S1024x128.size a ≤ S32768x128.size a := fun d0 v17 k0_hw1 k0_h38 => k0_hw1.2.2.2.2.2.2.2.2.1.2.2.2.2.2.2.2.2.2.2.2.2.2.2.2.2.2.2.2.2.2.2.2.2.2.2.1 k0_h38
theorem k0_off90_wordsbf16 : ∀ (d0 : Dev nD) (v17 : BitVec 32) (k0_hw1 : k0_chk1 d0 v17), ∀ (k0_h38 : k0_cond38 d0 v17 = 1#1), (Rect.unit (s := S32768x128) (k0_off90 d0 v17) S1024x128.size (k0_off90_inb d0 v17 k0_hw1 k0_h38)).WholeWords (EltTy.packing .bf16) := fun d0 v17 k0_hw1 k0_h38 => k0_hw1.2.2.2.2.2.2.2.2.1.2.2.2.2.2.2.2.2.2.2.2.2.2.2.2.2.2.2.2.2.2.2.2.2.2.2.2.1 k0_h38 (k0_off90_inb d0 v17 k0_hw1 k0_h38)
theorem k0_mult105_dvd : ∀ (d0 : Dev nD) (v17 : BitVec 32) (k0_hw1 : k0_chk1 d0 v17), ∀ (k0_h39 : k0_cond39 d0 v17 = 1#1), 8 ∣ (k0_mult105 d0 v17).toNat := fun d0 v17 k0_hw1 k0_h39 => k0_hw1.2.2.2.2.2.2.2.2.1.2.2.2.2.2.2.2.2.2.2.2.2.2.2.2.2.2.2.2.2.2.2.2.2.2.2.2.2.1 k0_h39
theorem k0_mult106_dvd : ∀ (d0 : Dev nD) (v17 : BitVec 32) (k0_hw1 : k0_chk1 d0 v17), ∀ (k0_h39 : k0_cond39 d0 v17 = 1#1), 8 ∣ (k0_mult106 d0 v17).toNat := fun d0 v17 k0_hw1 k0_h39 => k0_hw1.2.2.2.2.2.2.2.2.1.2.2.2.2.2.2.2.2.2.2.2.2.2.2.2.2.2.2.2.2.2.2.2.2.2.2.2.2.2.1 k0_h39
theorem k0_off91_inb : ∀ (d0 : Dev nD) (v17 : BitVec 32) (k0_hw1 : k0_chk1 d0 v17), ∀ (k0_h39 : k0_cond39 d0 v17 = 1#1), ∀ a, (k0_off91 d0 v17) a + S1024x128.size a ≤ S32768x128.size a := fun d0 v17 k0_hw1 k0_h39 => k0_hw1.2.2.2.2.2.2.2.2.1.2.2.2.2.2.2.2.2.2.2.2.2.2.2.2.2.2.2.2.2.2.2.2.2.2.2.2.2.2.2.1 k0_h39
theorem k0_off92_inb : ∀ (d0 : Dev nD) (v17 : BitVec 32) (k0_hw1 : k0_chk1 d0 v17), ∀ (k0_h39 : k0_cond39 d0 v17 = 1#1), ∀ a, (k0_off92 d0 v17) a + S1024x128.size a ≤ S32768x128.size a := fun d0 v17 k0_hw1 k0_h39 => k0_hw1.2.2.2.2.2.2.2.2.1.2.2.2.2.2.2.2.2.2.2.2.2.2.2.2.2.2.2.2.2.2.2.2.2.2.2.2.2.2.2.2 k0_h39
theorem k0_off92_wordsbf16 : ∀ (d0 : Dev nD) (v17 : BitVec 32) (k0_hw1 : k0_chk1 d0 v17), ∀ (k0_h39 : k0_cond39 d0 v17 = 1#1), (Rect.unit (s := S32768x128) (k0_off92 d0 v17) S1024x128.size (k0_off92_inb d0 v17 k0_hw1 k0_h39)).WholeWords (EltTy.packing .bf16) := fun d0 v17 k0_hw1 k0_h39 => k0_hw1.2.2.2.2.2.2.2.2.2.1.1 k0_h39 (k0_off92_inb d0 v17 k0_hw1 k0_h39)
theorem k0_off91_wordsbf16 : ∀ (d0 : Dev nD) (v17 : BitVec 32) (k0_hw1 : k0_chk1 d0 v17), ∀ (k0_h39 : k0_cond39 d0 v17 = 1#1), (Rect.unit (s := S32768x128) (k0_off91 d0 v17) S1024x128.size (k0_off91_inb d0 v17 k0_hw1 k0_h39)).WholeWords (EltTy.packing .bf16) := fun d0 v17 k0_hw1 k0_h39 => k0_hw1.2.2.2.2.2.2.2.2.2.1.2.1 k0_h39 (k0_off91_inb d0 v17 k0_hw1 k0_h39)
theorem k0_mult107_dvd : ∀ (d0 : Dev nD) (v17 : BitVec 32) (k0_hw1 : k0_chk1 d0 v17), ∀ (k0_h39 : k0_cond39 d0 v17 = 1#1), 8 ∣ (k0_mult107 d0 v17).toNat := fun d0 v17 k0_hw1 k0_h39 => k0_hw1.2.2.2.2.2.2.2.2.2.1.2.2.1 k0_h39
theorem k0_mult108_dvd : ∀ (d0 : Dev nD) (v17 : BitVec 32) (k0_hw1 : k0_chk1 d0 v17), ∀ (k0_h39 : k0_cond39 d0 v17 = 1#1), 8 ∣ (k0_mult108 d0 v17).toNat := fun d0 v17 k0_hw1 k0_h39 => k0_hw1.2.2.2.2.2.2.2.2.2.1.2.2.2.1 k0_h39
theorem k0_off93_inb : ∀ (d0 : Dev nD) (v17 : BitVec 32) (k0_hw1 : k0_chk1 d0 v17), ∀ (k0_h39 : k0_cond39 d0 v17 = 1#1), ∀ a, (k0_off93 d0 v17) a + S1024x128.size a ≤ S32768x128.size a := fun d0 v17 k0_hw1 k0_h39 => k0_hw1.2.2.2.2.2.2.2.2.2.1.2.2.2.2.1 k0_h39
theorem k0_off93_wordsbf16 : ∀ (d0 : Dev nD) (v17 : BitVec 32) (k0_hw1 : k0_chk1 d0 v17), ∀ (k0_h39 : k0_cond39 d0 v17 = 1#1), (Rect.unit (s := S32768x128) (k0_off93 d0 v17) S1024x128.size (k0_off93_inb d0 v17 k0_hw1 k0_h39)).WholeWords (EltTy.packing .bf16) := fun d0 v17 k0_hw1 k0_h39 => k0_hw1.2.2.2.2.2.2.2.2.2.1.2.2.2.2.2.1 k0_h39 (k0_off93_inb d0 v17 k0_hw1 k0_h39)
theorem k0_mult109_dvd : ∀ (d0 : Dev nD) (v17 : BitVec 32) (k0_hw1 : k0_chk1 d0 v17), ∀ (k0_h40 : k0_cond40 d0 v17 = 1#1), 8 ∣ (k0_mult109 d0 v17).toNat := fun d0 v17 k0_hw1 k0_h40 => k0_hw1.2.2.2.2.2.2.2.2.2.1.2.2.2.2.2.2.1 k0_h40
theorem k0_mult110_dvd : ∀ (d0 : Dev nD) (v17 : BitVec 32) (k0_hw1 : k0_chk1 d0 v17), ∀ (k0_h40 : k0_cond40 d0 v17 = 1#1), 8 ∣ (k0_mult110 d0 v17).toNat := fun d0 v17 k0_hw1 k0_h40 => k0_hw1.2.2.2.2.2.2.2.2.2.1.2.2.2.2.2.2.2.1 k0_h40
theorem k0_off94_inb : ∀ (d0 : Dev nD) (v17 : BitVec 32) (k0_hw1 : k0_chk1 d0 v17), ∀ (k0_h40 : k0_cond40 d0 v17 = 1#1), ∀ a, (k0_off94 d0 v17) a + S1024x128.size a ≤ S32768x128.size a := fun d0 v17 k0_hw1 k0_h40 => k0_hw1.2.2.2.2.2.2.2.2.2.1.2.2.2.2.2.2.2.2.1 k0_h40
theorem k0_off95_inb : ∀ (d0 : Dev nD) (v17 : BitVec 32) (k0_hw1 : k0_chk1 d0 v17), ∀ (k0_h40 : k0_cond40 d0 v17 = 1#1), ∀ a, (k0_off95 d0 v17) a + S1024x128.size a ≤ S32768x128.size a := fun d0 v17 k0_hw1 k0_h40 => k0_hw1.2.2.2.2.2.2.2.2.2.1.2.2.2.2.2.2.2.2.2.1 k0_h40
theorem k0_off95_wordsbf16 : ∀ (d0 : Dev nD) (v17 : BitVec 32) (k0_hw1 : k0_chk1 d0 v17), ∀ (k0_h40 : k0_cond40 d0 v17 = 1#1), (Rect.unit (s := S32768x128) (k0_off95 d0 v17) S1024x128.size (k0_off95_inb d0 v17 k0_hw1 k0_h40)).WholeWords (EltTy.packing .bf16) := fun d0 v17 k0_hw1 k0_h40 => k0_hw1.2.2.2.2.2.2.2.2.2.1.2.2.2.2.2.2.2.2.2.2.1 k0_h40 (k0_off95_inb d0 v17 k0_hw1 k0_h40)
theorem k0_off94_wordsbf16 : ∀ (d0 : Dev nD) (v17 : BitVec 32) (k0_hw1 : k0_chk1 d0 v17), ∀ (k0_h40 : k0_cond40 d0 v17 = 1#1), (Rect.unit (s := S32768x128) (k0_off94 d0 v17) S1024x128.size (k0_off94_inb d0 v17 k0_hw1 k0_h40)).WholeWords (EltTy.packing .bf16) := fun d0 v17 k0_hw1 k0_h40 => k0_hw1.2.2.2.2.2.2.2.2.2.1.2.2.2.2.2.2.2.2.2.2.2.1 k0_h40 (k0_off94_inb d0 v17 k0_hw1 k0_h40)
theorem k0_mult111_dvd : ∀ (d0 : Dev nD) (v17 : BitVec 32) (k0_hw1 : k0_chk1 d0 v17), ∀ (k0_h40 : k0_cond40 d0 v17 = 1#1), 8 ∣ (k0_mult111 d0 v17).toNat := fun d0 v17 k0_hw1 k0_h40 => k0_hw1.2.2.2.2.2.2.2.2.2.1.2.2.2.2.2.2.2.2.2.2.2.2.1 k0_h40
theorem k0_mult112_dvd : ∀ (d0 : Dev nD) (v17 : BitVec 32) (k0_hw1 : k0_chk1 d0 v17), ∀ (k0_h40 : k0_cond40 d0 v17 = 1#1), 8 ∣ (k0_mult112 d0 v17).toNat := fun d0 v17 k0_hw1 k0_h40 => k0_hw1.2.2.2.2.2.2.2.2.2.1.2.2.2.2.2.2.2.2.2.2.2.2.2.1 k0_h40
theorem k0_off96_inb : ∀ (d0 : Dev nD) (v17 : BitVec 32) (k0_hw1 : k0_chk1 d0 v17), ∀ (k0_h40 : k0_cond40 d0 v17 = 1#1), ∀ a, (k0_off96 d0 v17) a + S1024x128.size a ≤ S32768x128.size a := fun d0 v17 k0_hw1 k0_h40 => k0_hw1.2.2.2.2.2.2.2.2.2.1.2.2.2.2.2.2.2.2.2.2.2.2.2.2.1 k0_h40
theorem k0_off96_wordsbf16 : ∀ (d0 : Dev nD) (v17 : BitVec 32) (k0_hw1 : k0_chk1 d0 v17), ∀ (k0_h40 : k0_cond40 d0 v17 = 1#1), (Rect.unit (s := S32768x128) (k0_off96 d0 v17) S1024x128.size (k0_off96_inb d0 v17 k0_hw1 k0_h40)).WholeWords (EltTy.packing .bf16) := fun d0 v17 k0_hw1 k0_h40 => k0_hw1.2.2.2.2.2.2.2.2.2.1.2.2.2.2.2.2.2.2.2.2.2.2.2.2.2.1 k0_h40 (k0_off96_inb d0 v17 k0_hw1 k0_h40)
theorem k0_mult113_dvd : ∀ (d0 : Dev nD) (v17 : BitVec 32) (k0_hw1 : k0_chk1 d0 v17), ∀ (k0_h41 : k0_cond41 d0 v17 = 1#1), 8 ∣ (k0_mult113 d0 v17).toNat := fun d0 v17 k0_hw1 k0_h41 => k0_hw1.2.2.2.2.2.2.2.2.2.1.2.2.2.2.2.2.2.2.2.2.2.2.2.2.2.2.1 k0_h41
theorem k0_mult114_dvd : ∀ (d0 : Dev nD) (v17 : BitVec 32) (k0_hw1 : k0_chk1 d0 v17), ∀ (k0_h41 : k0_cond41 d0 v17 = 1#1), 8 ∣ (k0_mult114 d0 v17).toNat := fun d0 v17 k0_hw1 k0_h41 => k0_hw1.2.2.2.2.2.2.2.2.2.1.2.2.2.2.2.2.2.2.2.2.2.2.2.2.2.2.2.1 k0_h41
theorem k0_off97_inb : ∀ (d0 : Dev nD) (v17 : BitVec 32) (k0_hw1 : k0_chk1 d0 v17), ∀ (k0_h41 : k0_cond41 d0 v17 = 1#1), ∀ a, (k0_off97 d0 v17) a + S4096x128.size a ≤ S32768x128.size a := fun d0 v17 k0_hw1 k0_h41 => k0_hw1.2.2.2.2.2.2.2.2.2.1.2.2.2.2.2.2.2.2.2.2.2.2.2.2.2.2.2.2.1 k0_h41
theorem k0_off98_inb : ∀ (d0 : Dev nD) (v17 : BitVec 32) (k0_hw1 : k0_chk1 d0 v17), ∀ (k0_h41 : k0_cond41 d0 v17 = 1#1), ∀ a, (k0_off98 d0 v17) a + S4096x128.size a ≤ S32768x128.size a := fun d0 v17 k0_hw1 k0_h41 => k0_hw1.2.2.2.2.2.2.2.2.2.1.2.2.2.2.2.2.2.2.2.2.2.2.2.2.2.2.2.2.2.1 k0_h41
theorem k0_off98_wordsbf16 : ∀ (d0 : Dev nD) (v17 : BitVec 32) (k0_hw1 : k0_chk1 d0 v17), ∀ (k0_h41 : k0_cond41 d0 v17 = 1#1), (Rect.unit (s := S32768x128) (k0_off98 d0 v17) S4096x128.size (k0_off98_inb d0 v17 k0_hw1 k0_h41)).WholeWords (EltTy.packing .bf16) := fun d0 v17 k0_hw1 k0_h41 => k0_hw1.2.2.2.2.2.2.2.2.2.1.2.2.2.2.2.2.2.2.2.2.2.2.2.2.2.2.2.2.2.2.1 k0_h41 (k0_off98_inb d0 v17 k0_hw1 k0_h41)
theorem k0_off97_wordsbf16 : ∀ (d0 : Dev nD) (v17 : BitVec 32) (k0_hw1 : k0_chk1 d0 v17), ∀ (k0_h41 : k0_cond41 d0 v17 = 1#1), (Rect.unit (s := S32768x128) (k0_off97 d0 v17) S4096x128.size (k0_off97_inb d0 v17 k0_hw1 k0_h41)).WholeWords (EltTy.packing .bf16) := fun d0 v17 k0_hw1 k0_h41 => k0_hw1.2.2.2.2.2.2.2.2.2.1.2.2.2.2.2.2.2.2.2.2.2.2.2.2.2.2.2.2.2.2.2.1 k0_h41 (k0_off97_inb d0 v17 k0_hw1 k0_h41)
theorem k0_mult115_dvd : ∀ (d0 : Dev nD) (v17 : BitVec 32) (k0_hw1 : k0_chk1 d0 v17), ∀ (k0_h42 : k0_cond42 d0 v17 = 1#1), 8 ∣ (k0_mult115 d0 v17).toNat := fun d0 v17 k0_hw1 k0_h42 => k0_hw1.2.2.2.2.2.2.2.2.2.1.2.2.2.2.2.2.2.2.2.2.2.2.2.2.2.2.2.2.2.2.2.2.1 k0_h42
theorem k0_mult116_dvd : ∀ (d0 : Dev nD) (v17 : BitVec 32) (k0_hw1 : k0_chk1 d0 v17), ∀ (k0_h42 : k0_cond42 d0 v17 = 1#1), 8 ∣ (k0_mult116 d0 v17).toNat := fun d0 v17 k0_hw1 k0_h42 => k0_hw1.2.2.2.2.2.2.2.2.2.1.2.2.2.2.2.2.2.2.2.2.2.2.2.2.2.2.2.2.2.2.2.2.2.1 k0_h42
theorem k0_off99_inb : ∀ (d0 : Dev nD) (v17 : BitVec 32) (k0_hw1 : k0_chk1 d0 v17), ∀ (k0_h42 : k0_cond42 d0 v17 = 1#1), ∀ a, (k0_off99 d0 v17) a + S4096x128.size a ≤ S32768x128.size a := fun d0 v17 k0_hw1 k0_h42 => k0_hw1.2.2.2.2.2.2.2.2.2.1.2.2.2.2.2.2.2.2.2.2.2.2.2.2.2.2.2.2.2.2.2.2.2.2.1 k0_h42
theorem k0_off100_inb : ∀ (d0 : Dev nD) (v17 : BitVec 32) (k0_hw1 : k0_chk1 d0 v17), ∀ (k0_h42 : k0_cond42 d0 v17 = 1#1), ∀ a, (k0_off100 d0 v17) a + S4096x128.size a ≤ S32768x128.size a := fun d0 v17 k0_hw1 k0_h42 => k0_hw1.2.2.2.2.2.2.2.2.2.1.2.2.2.2.2.2.2.2.2.2.2.2.2.2.2.2.2.2.2.2.2.2.2.2.2.1 k0_h42
theorem k0_off100_wordsbf16 : ∀ (d0 : Dev nD) (v17 : BitVec 32) (k0_hw1 : k0_chk1 d0 v17), ∀ (k0_h42 : k0_cond42 d0 v17 = 1#1), (Rect.unit (s := S32768x128) (k0_off100 d0 v17) S4096x128.size (k0_off100_inb d0 v17 k0_hw1 k0_h42)).WholeWords (EltTy.packing .bf16) := fun d0 v17 k0_hw1 k0_h42 => k0_hw1.2.2.2.2.2.2.2.2.2.1.2.2.2.2.2.2.2.2.2.2.2.2.2.2.2.2.2.2.2.2.2.2.2.2.2.2.1 k0_h42 (k0_off100_inb d0 v17 k0_hw1 k0_h42)
theorem k0_off99_wordsbf16 : ∀ (d0 : Dev nD) (v17 : BitVec 32) (k0_hw1 : k0_chk1 d0 v17), ∀ (k0_h42 : k0_cond42 d0 v17 = 1#1), (Rect.unit (s := S32768x128) (k0_off99 d0 v17) S4096x128.size (k0_off99_inb d0 v17 k0_hw1 k0_h42)).WholeWords (EltTy.packing .bf16) := fun d0 v17 k0_hw1 k0_h42 => k0_hw1.2.2.2.2.2.2.2.2.2.1.2.2.2.2.2.2.2.2.2.2.2.2.2.2.2.2.2.2.2.2.2.2.2.2.2.2.2.1 k0_h42 (k0_off99_inb d0 v17 k0_hw1 k0_h42)
theorem k0_mult117_dvd : ∀ (d0 : Dev nD) (v17 : BitVec 32) (k0_hw1 : k0_chk1 d0 v17), ∀ (k0_h43 : k0_cond43 d0 v17 = 1#1), 8 ∣ (k0_mult117 d0 v17).toNat := fun d0 v17 k0_hw1 k0_h43 => k0_hw1.2.2.2.2.2.2.2.2.2.1.2.2.2.2.2.2.2.2.2.2.2.2.2.2.2.2.2.2.2.2.2.2.2.2.2.2.2.2.1 k0_h43
theorem k0_mult118_dvd : ∀ (d0 : Dev nD) (v17 : BitVec 32) (k0_hw1 : k0_chk1 d0 v17), ∀ (k0_h43 : k0_cond43 d0 v17 = 1#1), 8 ∣ (k0_mult118 d0 v17).toNat := fun d0 v17 k0_hw1 k0_h43 => k0_hw1.2.2.2.2.2.2.2.2.2.1.2.2.2.2.2.2.2.2.2.2.2.2.2.2.2.2.2.2.2.2.2.2.2.2.2.2.2.2.2.1 k0_h43
theorem k0_off101_inb : ∀ (d0 : Dev nD) (v17 : BitVec 32) (k0_hw1 : k0_chk1 d0 v17), ∀ (k0_h43 : k0_cond43 d0 v17 = 1#1), ∀ a, (k0_off101 d0 v17) a + S4096x128.size a ≤ S32768x128.size a := fun d0 v17 k0_hw1 k0_h43 => k0_hw1.2.2.2.2.2.2.2.2.2.1.2.2.2.2.2.2.2.2.2.2.2.2.2.2.2.2.2.2.2.2.2.2.2.2.2.2.2.2.2.2.1 k0_h43
theorem k0_off102_inb : ∀ (d0 : Dev nD) (v17 : BitVec 32) (k0_hw1 : k0_chk1 d0 v17), ∀ (k0_h43 : k0_cond43 d0 v17 = 1#1), ∀ a, (k0_off102 d0 v17) a + S4096x128.size a ≤ S32768x128.size a := fun d0 v17 k0_hw1 k0_h43 => k0_hw1.2.2.2.2.2.2.2.2.2.1.2.2.2.2.2.2.2.2.2.2.2.2.2.2.2.2.2.2.2.2.2.2.2.2.2.2.2.2.2.2.2 k0_h43
theorem k0_off102_wordsbf16 : ∀ (d0 : Dev nD) (v17 : BitVec 32) (k0_hw1 : k0_chk1 d0 v17), ∀ (k0_h43 : k0_cond43 d0 v17 = 1#1), (Rect.unit (s := S32768x128) (k0_off102 d0 v17) S4096x128.size (k0_off102_inb d0 v17 k0_hw1 k0_h43)).WholeWords (EltTy.packing .bf16) := fun d0 v17 k0_hw1 k0_h43 => k0_hw1.2.2.2.2.2.2.2.2.2.2.1.1 k0_h43 (k0_off102_inb d0 v17 k0_hw1 k0_h43)
theorem k0_off101_wordsbf16 : ∀ (d0 : Dev nD) (v17 : BitVec 32) (k0_hw1 : k0_chk1 d0 v17), ∀ (k0_h43 : k0_cond43 d0 v17 = 1#1), (Rect.unit (s := S32768x128) (k0_off101 d0 v17) S4096x128.size (k0_off101_inb d0 v17 k0_hw1 k0_h43)).WholeWords (EltTy.packing .bf16) := fun d0 v17 k0_hw1 k0_h43 => k0_hw1.2.2.2.2.2.2.2.2.2.2.1.2.1 k0_h43 (k0_off101_inb d0 v17 k0_hw1 k0_h43)
theorem k0_mult119_dvd : ∀ (d0 : Dev nD) (v17 : BitVec 32) (k0_hw1 : k0_chk1 d0 v17), ∀ (k0_h44 : k0_cond44 d0 v17 = 1#1), 8 ∣ (k0_mult119 d0 v17).toNat := fun d0 v17 k0_hw1 k0_h44 => k0_hw1.2.2.2.2.2.2.2.2.2.2.1.2.2.1 k0_h44
theorem k0_mult120_dvd : ∀ (d0 : Dev nD) (v17 : BitVec 32) (k0_hw1 : k0_chk1 d0 v17), ∀ (k0_h44 : k0_cond44 d0 v17 = 1#1), 8 ∣ (k0_mult120 d0 v17).toNat := fun d0 v17 k0_hw1 k0_h44 => k0_hw1.2.2.2.2.2.2.2.2.2.2.1.2.2.2.1 k0_h44
theorem k0_off103_inb : ∀ (d0 : Dev nD) (v17 : BitVec 32) (k0_hw1 : k0_chk1 d0 v17), ∀ (k0_h44 : k0_cond44 d0 v17 = 1#1), ∀ a, (k0_off103 d0 v17) a + S4096x128.size a ≤ S32768x128.size a := fun d0 v17 k0_hw1 k0_h44 => k0_hw1.2.2.2.2.2.2.2.2.2.2.1.2.2.2.2.1 k0_h44
theorem k0_off104_inb : ∀ (d0 : Dev nD) (v17 : BitVec 32) (k0_hw1 : k0_chk1 d0 v17), ∀ (k0_h44 : k0_cond44 d0 v17 = 1#1), ∀ a, (k0_off104 d0 v17) a + S4096x128.size a ≤ S32768x128.size a := fun d0 v17 k0_hw1 k0_h44 => k0_hw1.2.2.2.2.2.2.2.2.2.2.1.2.2.2.2.2.1 k0_h44
theorem k0_off104_wordsbf16 : ∀ (d0 : Dev nD) (v17 : BitVec 32) (k0_hw1 : k0_chk1 d0 v17), ∀ (k0_h44 : k0_cond44 d0 v17 = 1#1), (Rect.unit (s := S32768x128) (k0_off104 d0 v17) S4096x128.size (k0_off104_inb d0 v17 k0_hw1 k0_h44)).WholeWords (EltTy.packing .bf16) := fun d0 v17 k0_hw1 k0_h44 => k0_hw1.2.2.2.2.2.2.2.2.2.2.1.2.2.2.2.2.2.1 k0_h44 (k0_off104_inb d0 v17 k0_hw1 k0_h44)
theorem k0_off103_wordsbf16 : ∀ (d0 : Dev nD) (v17 : BitVec 32) (k0_hw1 : k0_chk1 d0 v17), ∀ (k0_h44 : k0_cond44 d0 v17 = 1#1), (Rect.unit (s := S32768x128) (k0_off103 d0 v17) S4096x128.size (k0_off103_inb d0 v17 k0_hw1 k0_h44)).WholeWords (EltTy.packing .bf16) := fun d0 v17 k0_hw1 k0_h44 => k0_hw1.2.2.2.2.2.2.2.2.2.2.1.2.2.2.2.2.2.2.1 k0_h44 (k0_off103_inb d0 v17 k0_hw1 k0_h44)
theorem k0_mult121_dvd : ∀ (d0 : Dev nD) (v17 : BitVec 32) (k0_hw1 : k0_chk1 d0 v17), ∀ (k0_h45 : k0_cond45 d0 v17 = 1#1), 8 ∣ (k0_mult121 d0 v17).toNat := fun d0 v17 k0_hw1 k0_h45 => k0_hw1.2.2.2.2.2.2.2.2.2.2.1.2.2.2.2.2.2.2.2.1 k0_h45
theorem k0_mult122_dvd : ∀ (d0 : Dev nD) (v17 : BitVec 32) (k0_hw1 : k0_chk1 d0 v17), ∀ (k0_h45 : k0_cond45 d0 v17 = 1#1), 8 ∣ (k0_mult122 d0 v17).toNat := fun d0 v17 k0_hw1 k0_h45 => k0_hw1.2.2.2.2.2.2.2.2.2.2.1.2.2.2.2.2.2.2.2.2.1 k0_h45
theorem k0_off105_inb : ∀ (d0 : Dev nD) (v17 : BitVec 32) (k0_hw1 : k0_chk1 d0 v17), ∀ (k0_h45 : k0_cond45 d0 v17 = 1#1), ∀ a, (k0_off105 d0 v17) a + S4096x128.size a ≤ S32768x128.size a := fun d0 v17 k0_hw1 k0_h45 => k0_hw1.2.2.2.2.2.2.2.2.2.2.1.2.2.2.2.2.2.2.2.2.2.1 k0_h45
theorem k0_off106_inb : ∀ (d0 : Dev nD) (v17 : BitVec 32) (k0_hw1 : k0_chk1 d0 v17), ∀ (k0_h45 : k0_cond45 d0 v17 = 1#1), ∀ a, (k0_off106 d0 v17) a + S4096x128.size a ≤ S32768x128.size a := fun d0 v17 k0_hw1 k0_h45 => k0_hw1.2.2.2.2.2.2.2.2.2.2.1.2.2.2.2.2.2.2.2.2.2.2.1 k0_h45
theorem k0_off106_wordsbf16 : ∀ (d0 : Dev nD) (v17 : BitVec 32) (k0_hw1 : k0_chk1 d0 v17), ∀ (k0_h45 : k0_cond45 d0 v17 = 1#1), (Rect.unit (s := S32768x128) (k0_off106 d0 v17) S4096x128.size (k0_off106_inb d0 v17 k0_hw1 k0_h45)).WholeWords (EltTy.packing .bf16) := fun d0 v17 k0_hw1 k0_h45 => k0_hw1.2.2.2.2.2.2.2.2.2.2.1.2.2.2.2.2.2.2.2.2.2.2.2.1 k0_h45 (k0_off106_inb d0 v17 k0_hw1 k0_h45)
theorem k0_off105_wordsbf16 : ∀ (d0 : Dev nD) (v17 : BitVec 32) (k0_hw1 : k0_chk1 d0 v17), ∀ (k0_h45 : k0_cond45 d0 v17 = 1#1), (Rect.unit (s := S32768x128) (k0_off105 d0 v17) S4096x128.size (k0_off105_inb d0 v17 k0_hw1 k0_h45)).WholeWords (EltTy.packing .bf16) := fun d0 v17 k0_hw1 k0_h45 => k0_hw1.2.2.2.2.2.2.2.2.2.2.1.2.2.2.2.2.2.2.2.2.2.2.2.2.1 k0_h45 (k0_off105_inb d0 v17 k0_hw1 k0_h45)
theorem k0_mult123_dvd : ∀ (d0 : Dev nD) (v17 : BitVec 32) (k0_hw1 : k0_chk1 d0 v17), ∀ (k0_h46 : k0_cond46 d0 v17 = 1#1), 8 ∣ (k0_mult123 d0 v17).toNat := fun d0 v17 k0_hw1 k0_h46 => k0_hw1.2.2.2.2.2.2.2.2.2.2.1.2.2.2.2.2.2.2.2.2.2.2.2.2.2.1 k0_h46
theorem k0_mult124_dvd : ∀ (d0 : Dev nD) (v17 : BitVec 32) (k0_hw1 : k0_chk1 d0 v17), ∀ (k0_h46 : k0_cond46 d0 v17 = 1#1), 8 ∣ (k0_mult124 d0 v17).toNat := fun d0 v17 k0_hw1 k0_h46 => k0_hw1.2.2.2.2.2.2.2.2.2.2.1.2.2.2.2.2.2.2.2.2.2.2.2.2.2.2.1 k0_h46
theorem k0_off107_inb : ∀ (d0 : Dev nD) (v17 : BitVec 32) (k0_hw1 : k0_chk1 d0 v17), ∀ (k0_h46 : k0_cond46 d0 v17 = 1#1), ∀ a, (k0_off107 d0 v17) a + S4096x128.size a ≤ S32768x128.size a := fun d0 v17 k0_hw1 k0_h46 => k0_hw1.2.2.2.2.2.2.2.2.2.2.1.2.2.2.2.2.2.2.2.2.2.2.2.2.2.2.2.1 k0_h46
theorem k0_off108_inb : ∀ (d0 : Dev nD) (v17 : BitVec 32) (k0_hw1 : k0_chk1 d0 v17), ∀ (k0_h46 : k0_cond46 d0 v17 = 1#1), ∀ a, (k0_off108 d0 v17) a + S4096x128.size a ≤ S32768x128.size a := fun d0 v17 k0_hw1 k0_h46 => k0_hw1.2.2.2.2.2.2.2.2.2.2.1.2.2.2.2.2.2.2.2.2.2.2.2.2.2.2.2.2.1 k0_h46
theorem k0_off108_wordsbf16 : ∀ (d0 : Dev nD) (v17 : BitVec 32) (k0_hw1 : k0_chk1 d0 v17), ∀ (k0_h46 : k0_cond46 d0 v17 = 1#1), (Rect.unit (s := S32768x128) (k0_off108 d0 v17) S4096x128.size (k0_off108_inb d0 v17 k0_hw1 k0_h46)).WholeWords (EltTy.packing .bf16) := fun d0 v17 k0_hw1 k0_h46 => k0_hw1.2.2.2.2.2.2.2.2.2.2.1.2.2.2.2.2.2.2.2.2.2.2.2.2.2.2.2.2.2.1 k0_h46 (k0_off108_inb d0 v17 k0_hw1 k0_h46)
theorem k0_off107_wordsbf16 : ∀ (d0 : Dev nD) (v17 : BitVec 32) (k0_hw1 : k0_chk1 d0 v17), ∀ (k0_h46 : k0_cond46 d0 v17 = 1#1), (Rect.unit (s := S32768x128) (k0_off107 d0 v17) S4096x128.size (k0_off107_inb d0 v17 k0_hw1 k0_h46)).WholeWords (EltTy.packing .bf16) := fun d0 v17 k0_hw1 k0_h46 => k0_hw1.2.2.2.2.2.2.2.2.2.2.1.2.2.2.2.2.2.2.2.2.2.2.2.2.2.2.2.2.2.2.1 k0_h46 (k0_off107_inb d0 v17 k0_hw1 k0_h46)
theorem k0_mult125_dvd : ∀ (d0 : Dev nD) (v17 : BitVec 32) (k0_hw1 : k0_chk1 d0 v17), ∀ (k0_h47 : k0_cond47 d0 v17 = 1#1), 8 ∣ (k0_mult125 d0 v17).toNat := fun d0 v17 k0_hw1 k0_h47 => k0_hw1.2.2.2.2.2.2.2.2.2.2.1.2.2.2.2.2.2.2.2.2.2.2.2.2.2.2.2.2.2.2.2.1 k0_h47
theorem k0_mult126_dvd : ∀ (d0 : Dev nD) (v17 : BitVec 32) (k0_hw1 : k0_chk1 d0 v17), ∀ (k0_h47 : k0_cond47 d0 v17 = 1#1), 8 ∣ (k0_mult126 d0 v17).toNat := fun d0 v17 k0_hw1 k0_h47 => k0_hw1.2.2.2.2.2.2.2.2.2.2.1.2.2.2.2.2.2.2.2.2.2.2.2.2.2.2.2.2.2.2.2.2.1 k0_h47
theorem k0_off109_inb : ∀ (d0 : Dev nD) (v17 : BitVec 32) (k0_hw1 : k0_chk1 d0 v17), ∀ (k0_h47 : k0_cond47 d0 v17 = 1#1), ∀ a, (k0_off109 d0 v17) a + S4096x128.size a ≤ S32768x128.size a := fun d0 v17 k0_hw1 k0_h47 => k0_hw1.2.2.2.2.2.2.2.2.2.2.1.2.2.2.2.2.2.2.2.2.2.2.2.2.2.2.2.2.2.2.2.2.2.1 k0_h47
theorem k0_off110_inb : ∀ (d0 : Dev nD) (v17 : BitVec 32) (k0_hw1 : k0_chk1 d0 v17), ∀ (k0_h47 : k0_cond47 d0 v17 = 1#1), ∀ a, (k0_off110 d0 v17) a + S4096x128.size a ≤ S32768x128.size a := fun d0 v17 k0_hw1 k0_h47 => k0_hw1.2.2.2.2.2.2.2.2.2.2.1.2.2.2.2.2.2.2.2.2.2.2.2.2.2.2.2.2.2.2.2.2.2.2.1 k0_h47
theorem k0_off110_wordsbf16 : ∀ (d0 : Dev nD) (v17 : BitVec 32) (k0_hw1 : k0_chk1 d0 v17), ∀ (k0_h47 : k0_cond47 d0 v17 = 1#1), (Rect.unit (s := S32768x128) (k0_off110 d0 v17) S4096x128.size (k0_off110_inb d0 v17 k0_hw1 k0_h47)).WholeWords (EltTy.packing .bf16) := fun d0 v17 k0_hw1 k0_h47 => k0_hw1.2.2.2.2.2.2.2.2.2.2.1.2.2.2.2.2.2.2.2.2.2.2.2.2.2.2.2.2.2.2.2.2.2.2.2.1 k0_h47 (k0_off110_inb d0 v17 k0_hw1 k0_h47)
theorem k0_off109_wordsbf16 : ∀ (d0 : Dev nD) (v17 : BitVec 32) (k0_hw1 : k0_chk1 d0 v17), ∀ (k0_h47 : k0_cond47 d0 v17 = 1#1), (Rect.unit (s := S32768x128) (k0_off109 d0 v17) S4096x128.size (k0_off109_inb d0 v17 k0_hw1 k0_h47)).WholeWords (EltTy.packing .bf16) := fun d0 v17 k0_hw1 k0_h47 => k0_hw1.2.2.2.2.2.2.2.2.2.2.1.2.2.2.2.2.2.2.2.2.2.2.2.2.2.2.2.2.2.2.2.2.2.2.2.2.1 k0_h47 (k0_off109_inb d0 v17 k0_hw1 k0_h47)
theorem k0_mult127_dvd : ∀ (d0 : Dev nD) (v17 : BitVec 32) (k0_hw1 : k0_chk1 d0 v17), ∀ (k0_h48 : k0_cond48 d0 v17 = 1#1), 8 ∣ (k0_mult127 d0 v17).toNat := fun d0 v17 k0_hw1 k0_h48 => k0_hw1.2.2.2.2.2.2.2.2.2.2.1.2.2.2.2.2.2.2.2.2.2.2.2.2.2.2.2.2.2.2.2.2.2.2.2.2.2.1 k0_h48
theorem k0_mult128_dvd : ∀ (d0 : Dev nD) (v17 : BitVec 32) (k0_hw1 : k0_chk1 d0 v17), ∀ (k0_h48 : k0_cond48 d0 v17 = 1#1), 8 ∣ (k0_mult128 d0 v17).toNat := fun d0 v17 k0_hw1 k0_h48 => k0_hw1.2.2.2.2.2.2.2.2.2.2.1.2.2.2.2.2.2.2.2.2.2.2.2.2.2.2.2.2.2.2.2.2.2.2.2.2.2.2.1 k0_h48
theorem k0_off111_inb : ∀ (d0 : Dev nD) (v17 : BitVec 32) (k0_hw1 : k0_chk1 d0 v17), ∀ (k0_h48 : k0_cond48 d0 v17 = 1#1), ∀ a, (k0_off111 d0 v17) a + S4096x128.size a ≤ S32768x128.size a := fun d0 v17 k0_hw1 k0_h48 => k0_hw1.2.2.2.2.2.2.2.2.2.2.1.2.2.2.2.2.2.2.2.2.2.2.2.2.2.2.2.2.2.2.2.2.2.2.2.2.2.2.2.1 k0_h48
theorem k0_off112_inb : ∀ (d0 : Dev nD) (v17 : BitVec 32) (k0_hw1 : k0_chk1 d0 v17), ∀ (k0_h48 : k0_cond48 d0 v17 = 1#1), ∀ a, (k0_off112 d0 v17) a + S4096x128.size a ≤ S32768x128.size a := fun d0 v17 k0_hw1 k0_h48 => k0_hw1.2.2.2.2.2.2.2.2.2.2.1.2.2.2.2.2.2.2.2.2.2.2.2.2.2.2.2.2.2.2.2.2.2.2.2.2.2.2.2.2.1 k0_h48
theorem k0_off112_wordsbf16 : ∀ (d0 : Dev nD) (v17 : BitVec 32) (k0_hw1 : k0_chk1 d0 v17), ∀ (k0_h48 : k0_cond48 d0 v17 = 1#1), (Rect.unit (s := S32768x128) (k0_off112 d0 v17) S4096x128.size (k0_off112_inb d0 v17 k0_hw1 k0_h48)).WholeWords (EltTy.packing .bf16) := fun d0 v17 k0_hw1 k0_h48 => k0_hw1.2.2.2.2.2.2.2.2.2.2.1.2.2.2.2.2.2.2.2.2.2.2.2.2.2.2.2.2.2.2.2.2.2.2.2.2.2.2.2.2.2.1 k0_h48 (k0_off112_inb d0 v17 k0_hw1 k0_h48)
theorem k0_off111_wordsbf16 : ∀ (d0 : Dev nD) (v17 : BitVec 32) (k0_hw1 : k0_chk1 d0 v17), ∀ (k0_h48 : k0_cond48 d0 v17 = 1#1), (Rect.unit (s := S32768x128) (k0_off111 d0 v17) S4096x128.size (k0_off111_inb d0 v17 k0_hw1 k0_h48)).WholeWords (EltTy.packing .bf16) := fun d0 v17 k0_hw1 k0_h48 => k0_hw1.2.2.2.2.2.2.2.2.2.2.1.2.2.2.2.2.2.2.2.2.2.2.2.2.2.2.2.2.2.2.2.2.2.2.2.2.2.2.2.2.2.2 k0_h48 (k0_off111_inb d0 v17 k0_hw1 k0_h48)
theorem k0_mult130_dvd : ∀ (d0 : Dev nD) (v17 : BitVec 32) (k0_hw1 : k0_chk1 d0 v17), ∀ (k0_h49 : k0_cond49 d0 v17 = 1#1), 8 ∣ (k0_mult130 d0 v17).toNat := fun d0 v17 k0_hw1 k0_h49 => k0_hw1.2.2.2.2.2.2.2.2.2.2.2.1.1 k0_h49
theorem k0_off113_inb : ∀ (d0 : Dev nD) (v17 : BitVec 32) (k0_hw1 : k0_chk1 d0 v17), ∀ (k0_h49 : k0_cond49 d0 v17 = 1#1), ∀ a, (k0_off113 d0 v17) a + S1024x128.size a ≤ S32768x128.size a := fun d0 v17 k0_hw1 k0_h49 => k0_hw1.2.2.2.2.2.2.2.2.2.2.2.1.2.1 k0_h49
theorem k0_off113_wordsbf16 : ∀ (d0 : Dev nD) (v17 : BitVec 32) (k0_hw1 : k0_chk1 d0 v17), ∀ (k0_h49 : k0_cond49 d0 v17 = 1#1), (Rect.unit (s := S32768x128) (k0_off113 d0 v17) S1024x128.size (k0_off113_inb d0 v17 k0_hw1 k0_h49)).WholeWords (EltTy.packing .bf16) := fun d0 v17 k0_hw1 k0_h49 => k0_hw1.2.2.2.2.2.2.2.2.2.2.2.1.2.2.1 k0_h49 (k0_off113_inb d0 v17 k0_hw1 k0_h49)
theorem k0_mult132_dvd : ∀ (d0 : Dev nD) (v17 : BitVec 32) (k0_hw1 : k0_chk1 d0 v17), ∀ (k0_h50 : k0_cond50 d0 v17 = 1#1), 8 ∣ (k0_mult132 d0 v17).toNat := fun d0 v17 k0_hw1 k0_h50 => k0_hw1.2.2.2.2.2.2.2.2.2.2.2.1.2.2.2.1 k0_h50
theorem k0_off114_inb : ∀ (d0 : Dev nD) (v17 : BitVec 32) (k0_hw1 : k0_chk1 d0 v17), ∀ (k0_h50 : k0_cond50 d0 v17 = 1#1), ∀ a, (k0_off114 d0 v17) a + S1024x128.size a ≤ S32768x128.size a := fun d0 v17 k0_hw1 k0_h50 => k0_hw1.2.2.2.2.2.2.2.2.2.2.2.1.2.2.2.2.1 k0_h50
theorem k0_off114_wordsbf16 : ∀ (d0 : Dev nD) (v17 : BitVec 32) (k0_hw1 : k0_chk1 d0 v17), ∀ (k0_h50 : k0_cond50 d0 v17 = 1#1), (Rect.unit (s := S32768x128) (k0_off114 d0 v17) S1024x128.size (k0_off114_inb d0 v17 k0_hw1 k0_h50)).WholeWords (EltTy.packing .bf16) := fun d0 v17 k0_hw1 k0_h50 => k0_hw1.2.2.2.2.2.2.2.2.2.2.2.1.2.2.2.2.2.1 k0_h50 (k0_off114_inb d0 v17 k0_hw1 k0_h50)
theorem k0_mult134_dvd : ∀ (d0 : Dev nD) (v17 : BitVec 32) (k0_hw1 : k0_chk1 d0 v17), ∀ (k0_h51 : k0_cond51 d0 v17 = 1#1), 8 ∣ (k0_mult134 d0 v17).toNat := fun d0 v17 k0_hw1 k0_h51 => k0_hw1.2.2.2.2.2.2.2.2.2.2.2.1.2.2.2.2.2.2.1 k0_h51
theorem k0_off115_inb : ∀ (d0 : Dev nD) (v17 : BitVec 32) (k0_hw1 : k0_chk1 d0 v17), ∀ (k0_h51 : k0_cond51 d0 v17 = 1#1), ∀ a, (k0_off115 d0 v17) a + S1024x128.size a ≤ S32768x128.size a := fun d0 v17 k0_hw1 k0_h51 => k0_hw1.2.2.2.2.2.2.2.2.2.2.2.1.2.2.2.2.2.2.2.1 k0_h51
theorem k0_off115_wordsbf16 : ∀ (d0 : Dev nD) (v17 : BitVec 32) (k0_hw1 : k0_chk1 d0 v17), ∀ (k0_h51 : k0_cond51 d0 v17 = 1#1), (Rect.unit (s := S32768x128) (k0_off115 d0 v17) S1024x128.size (k0_off115_inb d0 v17 k0_hw1 k0_h51)).WholeWords (EltTy.packing .bf16) := fun d0 v17 k0_hw1 k0_h51 => k0_hw1.2.2.2.2.2.2.2.2.2.2.2.1.2.2.2.2.2.2.2.2.1 k0_h51 (k0_off115_inb d0 v17 k0_hw1 k0_h51)
theorem k0_mult136_dvd : ∀ (d0 : Dev nD) (v17 : BitVec 32) (k0_hw1 : k0_chk1 d0 v17), ∀ (k0_h52 : k0_cond52 d0 v17 = 1#1), 8 ∣ (k0_mult136 d0 v17).toNat := fun d0 v17 k0_hw1 k0_h52 => k0_hw1.2.2.2.2.2.2.2.2.2.2.2.1.2.2.2.2.2.2.2.2.2.1 k0_h52
theorem k0_off116_inb : ∀ (d0 : Dev nD) (v17 : BitVec 32) (k0_hw1 : k0_chk1 d0 v17), ∀ (k0_h52 : k0_cond52 d0 v17 = 1#1), ∀ a, (k0_off116 d0 v17) a + S1024x128.size a ≤ S32768x128.size a := fun d0 v17 k0_hw1 k0_h52 => k0_hw1.2.2.2.2.2.2.2.2.2.2.2.1.2.2.2.2.2.2.2.2.2.2.1 k0_h52
theorem k0_off116_wordsbf16 : ∀ (d0 : Dev nD) (v17 : BitVec 32) (k0_hw1 : k0_chk1 d0 v17), ∀ (k0_h52 : k0_cond52 d0 v17 = 1#1), (Rect.unit (s := S32768x128) (k0_off116 d0 v17) S1024x128.size (k0_off116_inb d0 v17 k0_hw1 k0_h52)).WholeWords (EltTy.packing .bf16) := fun d0 v17 k0_hw1 k0_h52 => k0_hw1.2.2.2.2.2.2.2.2.2.2.2.1.2.2.2.2.2.2.2.2.2.2.2.1 k0_h52 (k0_off116_inb d0 v17 k0_hw1 k0_h52)
theorem k0_mult138_dvd : ∀ (d0 : Dev nD) (v17 : BitVec 32) (k0_hw1 : k0_chk1 d0 v17), ∀ (k0_h53 : k0_cond53 d0 v17 = 1#1), 8 ∣ (k0_mult138 d0 v17).toNat := fun d0 v17 k0_hw1 k0_h53 => k0_hw1.2.2.2.2.2.2.2.2.2.2.2.1.2.2.2.2.2.2.2.2.2.2.2.2.1 k0_h53
theorem k0_off117_inb : ∀ (d0 : Dev nD) (v17 : BitVec 32) (k0_hw1 : k0_chk1 d0 v17), ∀ (k0_h53 : k0_cond53 d0 v17 = 1#1), ∀ a, (k0_off117 d0 v17) a + S1024x128.size a ≤ S32768x128.size a := fun d0 v17 k0_hw1 k0_h53 => k0_hw1.2.2.2.2.2.2.2.2.2.2.2.1.2.2.2.2.2.2.2.2.2.2.2.2.2.1 k0_h53
theorem k0_off117_wordsbf16 : ∀ (d0 : Dev nD) (v17 : BitVec 32) (k0_hw1 : k0_chk1 d0 v17), ∀ (k0_h53 : k0_cond53 d0 v17 = 1#1), (Rect.unit (s := S32768x128) (k0_off117 d0 v17) S1024x128.size (k0_off117_inb d0 v17 k0_hw1 k0_h53)).WholeWords (EltTy.packing .bf16) := fun d0 v17 k0_hw1 k0_h53 => k0_hw1.2.2.2.2.2.2.2.2.2.2.2.1.2.2.2.2.2.2.2.2.2.2.2.2.2.2.1 k0_h53 (k0_off117_inb d0 v17 k0_hw1 k0_h53)
theorem k0_mult140_dvd : ∀ (d0 : Dev nD) (v17 : BitVec 32) (k0_hw1 : k0_chk1 d0 v17), ∀ (k0_h54 : k0_cond54 d0 v17 = 1#1), 8 ∣ (k0_mult140 d0 v17).toNat := fun d0 v17 k0_hw1 k0_h54 => k0_hw1.2.2.2.2.2.2.2.2.2.2.2.1.2.2.2.2.2.2.2.2.2.2.2.2.2.2.2.1 k0_h54
theorem k0_off118_inb : ∀ (d0 : Dev nD) (v17 : BitVec 32) (k0_hw1 : k0_chk1 d0 v17), ∀ (k0_h54 : k0_cond54 d0 v17 = 1#1), ∀ a, (k0_off118 d0 v17) a + S1024x128.size a ≤ S32768x128.size a := fun d0 v17 k0_hw1 k0_h54 => k0_hw1.2.2.2.2.2.2.2.2.2.2.2.1.2.2.2.2.2.2.2.2.2.2.2.2.2.2.2.2.1 k0_h54
theorem k0_off118_wordsbf16 : ∀ (d0 : Dev nD) (v17 : BitVec 32) (k0_hw1 : k0_chk1 d0 v17), ∀ (k0_h54 : k0_cond54 d0 v17 = 1#1), (Rect.unit (s := S32768x128) (k0_off118 d0 v17) S1024x128.size (k0_off118_inb d0 v17 k0_hw1 k0_h54)).WholeWords (EltTy.packing .bf16) := fun d0 v17 k0_hw1 k0_h54 => k0_hw1.2.2.2.2.2.2.2.2.2.2.2.1.2.2.2.2.2.2.2.2.2.2.2.2.2.2.2.2.2.1 k0_h54 (k0_off118_inb d0 v17 k0_hw1 k0_h54)
theorem k0_mult142_dvd : ∀ (d0 : Dev nD) (v17 : BitVec 32) (k0_hw1 : k0_chk1 d0 v17), ∀ (k0_h55 : k0_cond55 d0 v17 = 1#1), 8 ∣ (k0_mult142 d0 v17).toNat := fun d0 v17 k0_hw1 k0_h55 => k0_hw1.2.2.2.2.2.2.2.2.2.2.2.1.2.2.2.2.2.2.2.2.2.2.2.2.2.2.2.2.2.2.1 k0_h55
theorem k0_off119_inb : ∀ (d0 : Dev nD) (v17 : BitVec 32) (k0_hw1 : k0_chk1 d0 v17), ∀ (k0_h55 : k0_cond55 d0 v17 = 1#1), ∀ a, (k0_off119 d0 v17) a + S1024x128.size a ≤ S32768x128.size a := fun d0 v17 k0_hw1 k0_h55 => k0_hw1.2.2.2.2.2.2.2.2.2.2.2.1.2.2.2.2.2.2.2.2.2.2.2.2.2.2.2.2.2.2.2.1 k0_h55
theorem k0_off119_wordsbf16 : ∀ (d0 : Dev nD) (v17 : BitVec 32) (k0_hw1 : k0_chk1 d0 v17), ∀ (k0_h55 : k0_cond55 d0 v17 = 1#1), (Rect.unit (s := S32768x128) (k0_off119 d0 v17) S1024x128.size (k0_off119_inb d0 v17 k0_hw1 k0_h55)).WholeWords (EltTy.packing .bf16) := fun d0 v17 k0_hw1 k0_h55 => k0_hw1.2.2.2.2.2.2.2.2.2.2.2.1.2.2.2.2.2.2.2.2.2.2.2.2.2.2.2.2.2.2.2.2.1 k0_h55 (k0_off119_inb d0 v17 k0_hw1 k0_h55)
theorem k0_mult144_dvd : ∀ (d0 : Dev nD) (v17 : BitVec 32) (k0_hw1 : k0_chk1 d0 v17), ∀ (k0_h56 : k0_cond56 d0 v17 = 1#1), 8 ∣ (k0_mult144 d0 v17).toNat := fun d0 v17 k0_hw1 k0_h56 => k0_hw1.2.2.2.2.2.2.2.2.2.2.2.1.2.2.2.2.2.2.2.2.2.2.2.2.2.2.2.2.2.2.2.2.2.1 k0_h56
theorem k0_off120_inb : ∀ (d0 : Dev nD) (v17 : BitVec 32) (k0_hw1 : k0_chk1 d0 v17), ∀ (k0_h56 : k0_cond56 d0 v17 = 1#1), ∀ a, (k0_off120 d0 v17) a + S1024x128.size a ≤ S32768x128.size a := fun d0 v17 k0_hw1 k0_h56 => k0_hw1.2.2.2.2.2.2.2.2.2.2.2.1.2.2.2.2.2.2.2.2.2.2.2.2.2.2.2.2.2.2.2.2.2.2.1 k0_h56
theorem k0_off120_wordsbf16 : ∀ (d0 : Dev nD) (v17 : BitVec 32) (k0_hw1 : k0_chk1 d0 v17), ∀ (k0_h56 : k0_cond56 d0 v17 = 1#1), (Rect.unit (s := S32768x128) (k0_off120 d0 v17) S1024x128.size (k0_off120_inb d0 v17 k0_hw1 k0_h56)).WholeWords (EltTy.packing .bf16) := fun d0 v17 k0_hw1 k0_h56 => k0_hw1.2.2.2.2.2.2.2.2.2.2.2.1.2.2.2.2.2.2.2.2.2.2.2.2.2.2.2.2.2.2.2.2.2.2.2.1 k0_h56 (k0_off120_inb d0 v17 k0_hw1 k0_h56)
theorem k0_mult146_dvd : ∀ (d0 : Dev nD) (v17 : BitVec 32) (k0_hw1 : k0_chk1 d0 v17), ∀ (k0_h57 : k0_cond57 d0 v17 = 1#1), 8 ∣ (k0_mult146 d0 v17).toNat := fun d0 v17 k0_hw1 k0_h57 => k0_hw1.2.2.2.2.2.2.2.2.2.2.2.1.2.2.2.2.2.2.2.2.2.2.2.2.2.2.2.2.2.2.2.2.2.2.2.2.1 k0_h57
theorem k0_off121_inb : ∀ (d0 : Dev nD) (v17 : BitVec 32) (k0_hw1 : k0_chk1 d0 v17), ∀ (k0_h57 : k0_cond57 d0 v17 = 1#1), ∀ a, (k0_off121 d0 v17) a + S1024x128.size a ≤ S32768x128.size a := fun d0 v17 k0_hw1 k0_h57 => k0_hw1.2.2.2.2.2.2.2.2.2.2.2.1.2.2.2.2.2.2.2.2.2.2.2.2.2.2.2.2.2.2.2.2.2.2.2.2.2.1 k0_h57
theorem k0_off121_wordsbf16 : ∀ (d0 : Dev nD) (v17 : BitVec 32) (k0_hw1 : k0_chk1 d0 v17), ∀ (k0_h57 : k0_cond57 d0 v17 = 1#1), (Rect.unit (s := S32768x128) (k0_off121 d0 v17) S1024x128.size (k0_off121_inb d0 v17 k0_hw1 k0_h57)).WholeWords (EltTy.packing .bf16) := fun d0 v17 k0_hw1 k0_h57 => k0_hw1.2.2.2.2.2.2.2.2.2.2.2.1.2.2.2.2.2.2.2.2.2.2.2.2.2.2.2.2.2.2.2.2.2.2.2.2.2.2.1 k0_h57 (k0_off121_inb d0 v17 k0_hw1 k0_h57)
theorem k0_mult148_dvd : ∀ (d0 : Dev nD) (v17 : BitVec 32) (k0_hw1 : k0_chk1 d0 v17), ∀ (k0_h58 : k0_cond58 d0 v17 = 1#1), 8 ∣ (k0_mult148 d0 v17).toNat := fun d0 v17 k0_hw1 k0_h58 => k0_hw1.2.2.2.2.2.2.2.2.2.2.2.1.2.2.2.2.2.2.2.2.2.2.2.2.2.2.2.2.2.2.2.2.2.2.2.2.2.2.2.1 k0_h58
theorem k0_off122_inb : ∀ (d0 : Dev nD) (v17 : BitVec 32) (k0_hw1 : k0_chk1 d0 v17), ∀ (k0_h58 : k0_cond58 d0 v17 = 1#1), ∀ a, (k0_off122 d0 v17) a + S1024x128.size a ≤ S32768x128.size a := fun d0 v17 k0_hw1 k0_h58 => k0_hw1.2.2.2.2.2.2.2.2.2.2.2.1.2.2.2.2.2.2.2.2.2.2.2.2.2.2.2.2.2.2.2.2.2.2.2.2.2.2.2.2.1 k0_h58
theorem k0_off122_wordsbf16 : ∀ (d0 : Dev nD) (v17 : BitVec 32) (k0_hw1 : k0_chk1 d0 v17), ∀ (k0_h58 : k0_cond58 d0 v17 = 1#1), (Rect.unit (s := S32768x128) (k0_off122 d0 v17) S1024x128.size (k0_off122_inb d0 v17 k0_hw1 k0_h58)).WholeWords (EltTy.packing .bf16) := fun d0 v17 k0_hw1 k0_h58 => k0_hw1.2.2.2.2.2.2.2.2.2.2.2.1.2.2.2.2.2.2.2.2.2.2.2.2.2.2.2.2.2.2.2.2.2.2.2.2.2.2.2.2.2.1 k0_h58 (k0_off122_inb d0 v17 k0_hw1 k0_h58)
theorem k0_mult150_dvd : ∀ (d0 : Dev nD) (v17 : BitVec 32) (k0_hw1 : k0_chk1 d0 v17), ∀ (k0_h59 : k0_cond59 d0 v17 = 1#1), 8 ∣ (k0_mult150 d0 v17).toNat := fun d0 v17 k0_hw1 k0_h59 => k0_hw1.2.2.2.2.2.2.2.2.2.2.2.1.2.2.2.2.2.2.2.2.2.2.2.2.2.2.2.2.2.2.2.2.2.2.2.2.2.2.2.2.2.2.1 k0_h59
theorem k0_off123_inb : ∀ (d0 : Dev nD) (v17 : BitVec 32) (k0_hw1 : k0_chk1 d0 v17), ∀ (k0_h59 : k0_cond59 d0 v17 = 1#1), ∀ a, (k0_off123 d0 v17) a + S1024x128.size a ≤ S32768x128.size a := fun d0 v17 k0_hw1 k0_h59 => k0_hw1.2.2.2.2.2.2.2.2.2.2.2.1.2.2.2.2.2.2.2.2.2.2.2.2.2.2.2.2.2.2.2.2.2.2.2.2.2.2.2.2.2.2.2 k0_h59
theorem k0_off123_wordsbf16 : ∀ (d0 : Dev nD) (v17 : BitVec 32) (k0_hw1 : k0_chk1 d0 v17), ∀ (k0_h59 : k0_cond59 d0 v17 = 1#1), (Rect.unit (s := S32768x128) (k0_off123 d0 v17) S1024x128.size (k0_off123_inb d0 v17 k0_hw1 k0_h59)).WholeWords (EltTy.packing .bf16) := fun d0 v17 k0_hw1 k0_h59 => k0_hw1.2.2.2.2.2.2.2.2.2.2.2.2.1.1 k0_h59 (k0_off123_inb d0 v17 k0_hw1 k0_h59)
theorem k0_mult152_dvd : ∀ (d0 : Dev nD) (v17 : BitVec 32) (k0_hw1 : k0_chk1 d0 v17), ∀ (k0_h60 : k0_cond60 d0 v17 = 1#1), 8 ∣ (k0_mult152 d0 v17).toNat := fun d0 v17 k0_hw1 k0_h60 => k0_hw1.2.2.2.2.2.2.2.2.2.2.2.2.1.2.1 k0_h60
theorem k0_off124_inb : ∀ (d0 : Dev nD) (v17 : BitVec 32) (k0_hw1 : k0_chk1 d0 v17), ∀ (k0_h60 : k0_cond60 d0 v17 = 1#1), ∀ a, (k0_off124 d0 v17) a + S1024x128.size a ≤ S32768x128.size a := fun d0 v17 k0_hw1 k0_h60 => k0_hw1.2.2.2.2.2.2.2.2.2.2.2.2.1.2.2.1 k0_h60
theorem k0_off124_wordsbf16 : ∀ (d0 : Dev nD) (v17 : BitVec 32) (k0_hw1 : k0_chk1 d0 v17), ∀ (k0_h60 : k0_cond60 d0 v17 = 1#1), (Rect.unit (s := S32768x128) (k0_off124 d0 v17) S1024x128.size (k0_off124_inb d0 v17 k0_hw1 k0_h60)).WholeWords (EltTy.packing .bf16) := fun d0 v17 k0_hw1 k0_h60 => k0_hw1.2.2.2.2.2.2.2.2.2.2.2.2.1.2.2.2.1 k0_h60 (k0_off124_inb d0 v17 k0_hw1 k0_h60)
theorem k0_mult154_dvd : ∀ (d0 : Dev nD) (v17 : BitVec 32) (k0_hw1 : k0_chk1 d0 v17), ∀ (k0_h61 : k0_cond61 d0 v17 = 1#1), 8 ∣ (k0_mult154 d0 v17).toNat := fun d0 v17 k0_hw1 k0_h61 => k0_hw1.2.2.2.2.2.2.2.2.2.2.2.2.1.2.2.2.2.1 k0_h61
theorem k0_off125_inb : ∀ (d0 : Dev nD) (v17 : BitVec 32) (k0_hw1 : k0_chk1 d0 v17), ∀ (k0_h61 : k0_cond61 d0 v17 = 1#1), ∀ a, (k0_off125 d0 v17) a + S1024x128.size a ≤ S32768x128.size a := fun d0 v17 k0_hw1 k0_h61 => k0_hw1.2.2.2.2.2.2.2.2.2.2.2.2.1.2.2.2.2.2.1 k0_h61
theorem k0_off125_wordsbf16 : ∀ (d0 : Dev nD) (v17 : BitVec 32) (k0_hw1 : k0_chk1 d0 v17), ∀ (k0_h61 : k0_cond61 d0 v17 = 1#1), (Rect.unit (s := S32768x128) (k0_off125 d0 v17) S1024x128.size (k0_off125_inb d0 v17 k0_hw1 k0_h61)).WholeWords (EltTy.packing .bf16) := fun d0 v17 k0_hw1 k0_h61 => k0_hw1.2.2.2.2.2.2.2.2.2.2.2.2.1.2.2.2.2.2.2.1 k0_h61 (k0_off125_inb d0 v17 k0_hw1 k0_h61)
theorem k0_mult156_dvd : ∀ (d0 : Dev nD) (v17 : BitVec 32) (k0_hw1 : k0_chk1 d0 v17), ∀ (k0_h62 : k0_cond62 d0 v17 = 1#1), 8 ∣ (k0_mult156 d0 v17).toNat := fun d0 v17 k0_hw1 k0_h62 => k0_hw1.2.2.2.2.2.2.2.2.2.2.2.2.1.2.2.2.2.2.2.2.1 k0_h62
theorem k0_off126_inb : ∀ (d0 : Dev nD) (v17 : BitVec 32) (k0_hw1 : k0_chk1 d0 v17), ∀ (k0_h62 : k0_cond62 d0 v17 = 1#1), ∀ a, (k0_off126 d0 v17) a + S1024x128.size a ≤ S32768x128.size a := fun d0 v17 k0_hw1 k0_h62 => k0_hw1.2.2.2.2.2.2.2.2.2.2.2.2.1.2.2.2.2.2.2.2.2.1 k0_h62
theorem k0_off126_wordsbf16 : ∀ (d0 : Dev nD) (v17 : BitVec 32) (k0_hw1 : k0_chk1 d0 v17), ∀ (k0_h62 : k0_cond62 d0 v17 = 1#1), (Rect.unit (s := S32768x128) (k0_off126 d0 v17) S1024x128.size (k0_off126_inb d0 v17 k0_hw1 k0_h62)).WholeWords (EltTy.packing .bf16) := fun d0 v17 k0_hw1 k0_h62 => k0_hw1.2.2.2.2.2.2.2.2.2.2.2.2.1.2.2.2.2.2.2.2.2.2.1 k0_h62 (k0_off126_inb d0 v17 k0_hw1 k0_h62)
theorem k0_mult158_dvd : ∀ (d0 : Dev nD) (v17 : BitVec 32) (k0_hw1 : k0_chk1 d0 v17), ∀ (k0_h63 : k0_cond63 d0 v17 = 1#1), 8 ∣ (k0_mult158 d0 v17).toNat := fun d0 v17 k0_hw1 k0_h63 => k0_hw1.2.2.2.2.2.2.2.2.2.2.2.2.1.2.2.2.2.2.2.2.2.2.2.1 k0_h63
theorem k0_off127_inb : ∀ (d0 : Dev nD) (v17 : BitVec 32) (k0_hw1 : k0_chk1 d0 v17), ∀ (k0_h63 : k0_cond63 d0 v17 = 1#1), ∀ a, (k0_off127 d0 v17) a + S1024x128.size a ≤ S32768x128.size a := fun d0 v17 k0_hw1 k0_h63 => k0_hw1.2.2.2.2.2.2.2.2.2.2.2.2.1.2.2.2.2.2.2.2.2.2.2.2.1 k0_h63
theorem k0_off127_wordsbf16 : ∀ (d0 : Dev nD) (v17 : BitVec 32) (k0_hw1 : k0_chk1 d0 v17), ∀ (k0_h63 : k0_cond63 d0 v17 = 1#1), (Rect.unit (s := S32768x128) (k0_off127 d0 v17) S1024x128.size (k0_off127_inb d0 v17 k0_hw1 k0_h63)).WholeWords (EltTy.packing .bf16) := fun d0 v17 k0_hw1 k0_h63 => k0_hw1.2.2.2.2.2.2.2.2.2.2.2.2.1.2.2.2.2.2.2.2.2.2.2.2.2.1 k0_h63 (k0_off127_inb d0 v17 k0_hw1 k0_h63)
theorem k0_mult160_dvd : ∀ (d0 : Dev nD) (v17 : BitVec 32) (k0_hw1 : k0_chk1 d0 v17), ∀ (k0_h64 : k0_cond64 d0 v17 = 1#1), 8 ∣ (k0_mult160 d0 v17).toNat := fun d0 v17 k0_hw1 k0_h64 => k0_hw1.2.2.2.2.2.2.2.2.2.2.2.2.1.2.2.2.2.2.2.2.2.2.2.2.2.2.1 k0_h64
theorem k0_off128_inb : ∀ (d0 : Dev nD) (v17 : BitVec 32) (k0_hw1 : k0_chk1 d0 v17), ∀ (k0_h64 : k0_cond64 d0 v17 = 1#1), ∀ a, (k0_off128 d0 v17) a + S1024x128.size a ≤ S32768x128.size a := fun d0 v17 k0_hw1 k0_h64 => k0_hw1.2.2.2.2.2.2.2.2.2.2.2.2.1.2.2.2.2.2.2.2.2.2.2.2.2.2.2.1 k0_h64
theorem k0_off128_wordsbf16 : ∀ (d0 : Dev nD) (v17 : BitVec 32) (k0_hw1 : k0_chk1 d0 v17), ∀ (k0_h64 : k0_cond64 d0 v17 = 1#1), (Rect.unit (s := S32768x128) (k0_off128 d0 v17) S1024x128.size (k0_off128_inb d0 v17 k0_hw1 k0_h64)).WholeWords (EltTy.packing .bf16) := fun d0 v17 k0_hw1 k0_h64 => k0_hw1.2.2.2.2.2.2.2.2.2.2.2.2.1.2.2.2.2.2.2.2.2.2.2.2.2.2.2.2.1 k0_h64 (k0_off128_inb d0 v17 k0_hw1 k0_h64)
theorem k0_mult161_dvd : ∀ (d0 : Dev nD) (v17 : BitVec 32) (k0_hw1 : k0_chk1 d0 v17), ∀ (k0_h65 : k0_cond65 d0 v17 = 1#1), 8 ∣ (k0_mult161 d0 v17).toNat := fun d0 v17 k0_hw1 k0_h65 => k0_hw1.2.2.2.2.2.2.2.2.2.2.2.2.1.2.2.2.2.2.2.2.2.2.2.2.2.2.2.2.2.1 k0_h65
theorem k0_mult162_dvd : ∀ (d0 : Dev nD) (v17 : BitVec 32) (k0_hw1 : k0_chk1 d0 v17), ∀ (k0_h65 : k0_cond65 d0 v17 = 1#1), 8 ∣ (k0_mult162 d0 v17).toNat := fun d0 v17 k0_hw1 k0_h65 => k0_hw1.2.2.2.2.2.2.2.2.2.2.2.2.1.2.2.2.2.2.2.2.2.2.2.2.2.2.2.2.2.2.1 k0_h65
theorem k0_off129_inb : ∀ (d0 : Dev nD) (v17 : BitVec 32) (k0_hw1 : k0_chk1 d0 v17), ∀ (k0_h65 : k0_cond65 d0 v17 = 1#1), ∀ a, (k0_off129 d0 v17) a + S1024x128.size a ≤ S32768x128.size a := fun d0 v17 k0_hw1 k0_h65 => k0_hw1.2.2.2.2.2.2.2.2.2.2.2.2.1.2.2.2.2.2.2.2.2.2.2.2.2.2.2.2.2.2.2.1 k0_h65
theorem k0_off130_inb : ∀ (d0 : Dev nD) (v17 : BitVec 32) (k0_hw1 : k0_chk1 d0 v17), ∀ (k0_h65 : k0_cond65 d0 v17 = 1#1), ∀ a, (k0_off130 d0 v17) a + S1024x128.size a ≤ S32768x128.size a := fun d0 v17 k0_hw1 k0_h65 => k0_hw1.2.2.2.2.2.2.2.2.2.2.2.2.1.2.2.2.2.2.2.2.2.2.2.2.2.2.2.2.2.2.2.2.1 k0_h65
theorem k0_off130_wordsbf16 : ∀ (d0 : Dev nD) (v17 : BitVec 32) (k0_hw1 : k0_chk1 d0 v17), ∀ (k0_h65 : k0_cond65 d0 v17 = 1#1), (Rect.unit (s := S32768x128) (k0_off130 d0 v17) S1024x128.size (k0_off130_inb d0 v17 k0_hw1 k0_h65)).WholeWords (EltTy.packing .bf16) := fun d0 v17 k0_hw1 k0_h65 => k0_hw1.2.2.2.2.2.2.2.2.2.2.2.2.1.2.2.2.2.2.2.2.2.2.2.2.2.2.2.2.2.2.2.2.2.1 k0_h65 (k0_off130_inb d0 v17 k0_hw1 k0_h65)
theorem k0_off129_wordsbf16 : ∀ (d0 : Dev nD) (v17 : BitVec 32) (k0_hw1 : k0_chk1 d0 v17), ∀ (k0_h65 : k0_cond65 d0 v17 = 1#1), (Rect.unit (s := S32768x128) (k0_off129 d0 v17) S1024x128.size (k0_off129_inb d0 v17 k0_hw1 k0_h65)).WholeWords (EltTy.packing .bf16) := fun d0 v17 k0_hw1 k0_h65 => k0_hw1.2.2.2.2.2.2.2.2.2.2.2.2.1.2.2.2.2.2.2.2.2.2.2.2.2.2.2.2.2.2.2.2.2.2.1 k0_h65 (k0_off129_inb d0 v17 k0_hw1 k0_h65)
theorem k0_mult163_dvd : ∀ (d0 : Dev nD) (v17 : BitVec 32) (k0_hw1 : k0_chk1 d0 v17), ∀ (k0_h65 : k0_cond65 d0 v17 = 1#1), 8 ∣ (k0_mult163 d0 v17).toNat := fun d0 v17 k0_hw1 k0_h65 => k0_hw1.2.2.2.2.2.2.2.2.2.2.2.2.1.2.2.2.2.2.2.2.2.2.2.2.2.2.2.2.2.2.2.2.2.2.2.1 k0_h65
theorem k0_mult164_dvd : ∀ (d0 : Dev nD) (v17 : BitVec 32) (k0_hw1 : k0_chk1 d0 v17), ∀ (k0_h65 : k0_cond65 d0 v17 = 1#1), 8 ∣ (k0_mult164 d0 v17).toNat := fun d0 v17 k0_hw1 k0_h65 => k0_hw1.2.2.2.2.2.2.2.2.2.2.2.2.1.2.2.2.2.2.2.2.2.2.2.2.2.2.2.2.2.2.2.2.2.2.2.2.1 k0_h65
theorem k0_off131_inb : ∀ (d0 : Dev nD) (v17 : BitVec 32) (k0_hw1 : k0_chk1 d0 v17), ∀ (k0_h65 : k0_cond65 d0 v17 = 1#1), ∀ a, (k0_off131 d0 v17) a + S1024x128.size a ≤ S32768x128.size a := fun d0 v17 k0_hw1 k0_h65 => k0_hw1.2.2.2.2.2.2.2.2.2.2.2.2.1.2.2.2.2.2.2.2.2.2.2.2.2.2.2.2.2.2.2.2.2.2.2.2.2.1 k0_h65
theorem k0_off131_wordsbf16 : ∀ (d0 : Dev nD) (v17 : BitVec 32) (k0_hw1 : k0_chk1 d0 v17), ∀ (k0_h65 : k0_cond65 d0 v17 = 1#1), (Rect.unit (s := S32768x128) (k0_off131 d0 v17) S1024x128.size (k0_off131_inb d0 v17 k0_hw1 k0_h65)).WholeWords (EltTy.packing .bf16) := fun d0 v17 k0_hw1 k0_h65 => k0_hw1.2.2.2.2.2.2.2.2.2.2.2.2.1.2.2.2.2.2.2.2.2.2.2.2.2.2.2.2.2.2.2.2.2.2.2.2.2.2.1 k0_h65 (k0_off131_inb d0 v17 k0_hw1 k0_h65)
theorem k0_mult165_dvd : ∀ (d0 : Dev nD) (v17 : BitVec 32) (k0_hw1 : k0_chk1 d0 v17), ∀ (k0_h66 : k0_cond66 d0 v17 = 1#1), 8 ∣ (k0_mult165 d0 v17).toNat := fun d0 v17 k0_hw1 k0_h66 => k0_hw1.2.2.2.2.2.2.2.2.2.2.2.2.1.2.2.2.2.2.2.2.2.2.2.2.2.2.2.2.2.2.2.2.2.2.2.2.2.2.2.1 k0_h66
theorem k0_mult166_dvd : ∀ (d0 : Dev nD) (v17 : BitVec 32) (k0_hw1 : k0_chk1 d0 v17), ∀ (k0_h66 : k0_cond66 d0 v17 = 1#1), 8 ∣ (k0_mult166 d0 v17).toNat := fun d0 v17 k0_hw1 k0_h66 => k0_hw1.2.2.2.2.2.2.2.2.2.2.2.2.1.2.2.2.2.2.2.2.2.2.2.2.2.2.2.2.2.2.2.2.2.2.2.2.2.2.2.2.1 k0_h66
theorem k0_off132_inb : ∀ (d0 : Dev nD) (v17 : BitVec 32) (k0_hw1 : k0_chk1 d0 v17), ∀ (k0_h66 : k0_cond66 d0 v17 = 1#1), ∀ a, (k0_off132 d0 v17) a + S1024x128.size a ≤ S32768x128.size a := fun d0 v17 k0_hw1 k0_h66 => k0_hw1.2.2.2.2.2.2.2.2.2.2.2.2.1.2.2.2.2.2.2.2.2.2.2.2.2.2.2.2.2.2.2.2.2.2.2.2.2.2.2.2.2.1 k0_h66
theorem k0_off133_inb : ∀ (d0 : Dev nD) (v17 : BitVec 32) (k0_hw1 : k0_chk1 d0 v17), ∀ (k0_h66 : k0_cond66 d0 v17 = 1#1), ∀ a, (k0_off133 d0 v17) a + S1024x128.size a ≤ S32768x128.size a := fun d0 v17 k0_hw1 k0_h66 => k0_hw1.2.2.2.2.2.2.2.2.2.2.2.2.1.2.2.2.2.2.2.2.2.2.2.2.2.2.2.2.2.2.2.2.2.2.2.2.2.2.2.2.2.2.1 k0_h66
theorem k0_off133_wordsbf16 : ∀ (d0 : Dev nD) (v17 : BitVec 32) (k0_hw1 : k0_chk1 d0 v17), ∀ (k0_h66 : k0_cond66 d0 v17 = 1#1), (Rect.unit (s := S32768x128) (k0_off133 d0 v17) S1024x128.size (k0_off133_inb d0 v17 k0_hw1 k0_h66)).WholeWords (EltTy.packing .bf16) := fun d0 v17 k0_hw1 k0_h66 => k0_hw1.2.2.2.2.2.2.2.2.2.2.2.2.1.2.2.2.2.2.2.2.2.2.2.2.2.2.2.2.2.2.2.2.2.2.2.2.2.2.2.2.2.2.2.1 k0_h66 (k0_off133_inb d0 v17 k0_hw1 k0_h66)
theorem k0_off132_wordsbf16 : ∀ (d0 : Dev nD) (v17 : BitVec 32) (k0_hw1 : k0_chk1 d0 v17), ∀ (k0_h66 : k0_cond66 d0 v17 = 1#1), (Rect.unit (s := S32768x128) (k0_off132 d0 v17) S1024x128.size (k0_off132_inb d0 v17 k0_hw1 k0_h66)).WholeWords (EltTy.packing .bf16) := fun d0 v17 k0_hw1 k0_h66 => k0_hw1.2.2.2.2.2.2.2.2.2.2.2.2.1.2.2.2.2.2.2.2.2.2.2.2.2.2.2.2.2.2.2.2.2.2.2.2.2.2.2.2.2.2.2.2 k0_h66 (k0_off132_inb d0 v17 k0_hw1 k0_h66)
theorem k0_mult167_dvd : ∀ (d0 : Dev nD) (v17 : BitVec 32) (k0_hw1 : k0_chk1 d0 v17), ∀ (k0_h66 : k0_cond66 d0 v17 = 1#1), 8 ∣ (k0_mult167 d0 v17).toNat := fun d0 v17 k0_hw1 k0_h66 => k0_hw1.2.2.2.2.2.2.2.2.2.2.2.2.2.1.1 k0_h66
theorem k0_mult168_dvd : ∀ (d0 : Dev nD) (v17 : BitVec 32) (k0_hw1 : k0_chk1 d0 v17), ∀ (k0_h66 : k0_cond66 d0 v17 = 1#1), 8 ∣ (k0_mult168 d0 v17).toNat := fun d0 v17 k0_hw1 k0_h66 => k0_hw1.2.2.2.2.2.2.2.2.2.2.2.2.2.1.2.1 k0_h66
theorem k0_off134_inb : ∀ (d0 : Dev nD) (v17 : BitVec 32) (k0_hw1 : k0_chk1 d0 v17), ∀ (k0_h66 : k0_cond66 d0 v17 = 1#1), ∀ a, (k0_off134 d0 v17) a + S1024x128.size a ≤ S32768x128.size a := fun d0 v17 k0_hw1 k0_h66 => k0_hw1.2.2.2.2.2.2.2.2.2.2.2.2.2.1.2.2.1 k0_h66
theorem k0_off134_wordsbf16 : ∀ (d0 : Dev nD) (v17 : BitVec 32) (k0_hw1 : k0_chk1 d0 v17), ∀ (k0_h66 : k0_cond66 d0 v17 = 1#1), (Rect.unit (s := S32768x128) (k0_off134 d0 v17) S1024x128.size (k0_off134_inb d0 v17 k0_hw1 k0_h66)).WholeWords (EltTy.packing .bf16) := fun d0 v17 k0_hw1 k0_h66 => k0_hw1.2.2.2.2.2.2.2.2.2.2.2.2.2.1.2.2.2.1 k0_h66 (k0_off134_inb d0 v17 k0_hw1 k0_h66)
theorem k0_mult169_dvd : ∀ (d0 : Dev nD) (v17 : BitVec 32) (k0_hw1 : k0_chk1 d0 v17), ∀ (k0_h67 : k0_cond67 d0 v17 = 1#1), 8 ∣ (k0_mult169 d0 v17).toNat := fun d0 v17 k0_hw1 k0_h67 => k0_hw1.2.2.2.2.2.2.2.2.2.2.2.2.2.1.2.2.2.2.1 k0_h67
theorem k0_mult170_dvd : ∀ (d0 : Dev nD) (v17 : BitVec 32) (k0_hw1 : k0_chk1 d0 v17), ∀ (k0_h67 : k0_cond67 d0 v17 = 1#1), 8 ∣ (k0_mult170 d0 v17).toNat := fun d0 v17 k0_hw1 k0_h67 => k0_hw1.2.2.2.2.2.2.2.2.2.2.2.2.2.1.2.2.2.2.2.1 k0_h67
theorem k0_off135_inb : ∀ (d0 : Dev nD) (v17 : BitVec 32) (k0_hw1 : k0_chk1 d0 v17), ∀ (k0_h67 : k0_cond67 d0 v17 = 1#1), ∀ a, (k0_off135 d0 v17) a + S1024x128.size a ≤ S32768x128.size a := fun d0 v17 k0_hw1 k0_h67 => k0_hw1.2.2.2.2.2.2.2.2.2.2.2.2.2.1.2.2.2.2.2.2.1 k0_h67
theorem k0_off136_inb : ∀ (d0 : Dev nD) (v17 : BitVec 32) (k0_hw1 : k0_chk1 d0 v17), ∀ (k0_h67 : k0_cond67 d0 v17 = 1#1), ∀ a, (k0_off136 d0 v17) a + S1024x128.size a ≤ S32768x128.size a := fun d0 v17 k0_hw1 k0_h67 => k0_hw1.2.2.2.2.2.2.2.2.2.2.2.2.2.1.2.2.2.2.2.2.2.1 k0_h67
theorem k0_off136_wordsbf16 : ∀ (d0 : Dev nD) (v17 : BitVec 32) (k0_hw1 : k0_chk1 d0 v17), ∀ (k0_h67 : k0_cond67 d0 v17 = 1#1), (Rect.unit (s := S32768x128) (k0_off136 d0 v17) S1024x128.size (k0_off136_inb d0 v17 k0_hw1 k0_h67)).WholeWords (EltTy.packing .bf16) := fun d0 v17 k0_hw1 k0_h67 => k0_hw1.2.2.2.2.2.2.2.2.2.2.2.2.2.1.2.2.2.2.2.2.2.2.1 k0_h67 (k0_off136_inb d0 v17 k0_hw1 k0_h67)
theorem k0_off135_wordsbf16 : ∀ (d0 : Dev nD) (v17 : BitVec 32) (k0_hw1 : k0_chk1 d0 v17), ∀ (k0_h67 : k0_cond67 d0 v17 = 1#1), (Rect.unit (s := S32768x128) (k0_off135 d0 v17) S1024x128.size (k0_off135_inb d0 v17 k0_hw1 k0_h67)).WholeWords (EltTy.packing .bf16) := fun d0 v17 k0_hw1 k0_h67 => k0_hw1.2.2.2.2.2.2.2.2.2.2.2.2.2.1.2.2.2.2.2.2.2.2.2.1 k0_h67 (k0_off135_inb d0 v17 k0_hw1 k0_h67)
theorem k0_mult171_dvd : ∀ (d0 : Dev nD) (v17 : BitVec 32) (k0_hw1 : k0_chk1 d0 v17), ∀ (k0_h67 : k0_cond67 d0 v17 = 1#1), 8 ∣ (k0_mult171 d0 v17).toNat := fun d0 v17 k0_hw1 k0_h67 => k0_hw1.2.2.2.2.2.2.2.2.2.2.2.2.2.1.2.2.2.2.2.2.2.2.2.2.1 k0_h67
theorem k0_mult172_dvd : ∀ (d0 : Dev nD) (v17 : BitVec 32) (k0_hw1 : k0_chk1 d0 v17), ∀ (k0_h67 : k0_cond67 d0 v17 = 1#1), 8 ∣ (k0_mult172 d0 v17).toNat := fun d0 v17 k0_hw1 k0_h67 => k0_hw1.2.2.2.2.2.2.2.2.2.2.2.2.2.1.2.2.2.2.2.2.2.2.2.2.2.1 k0_h67
theorem k0_off137_inb : ∀ (d0 : Dev nD) (v17 : BitVec 32) (k0_hw1 : k0_chk1 d0 v17), ∀ (k0_h67 : k0_cond67 d0 v17 = 1#1), ∀ a, (k0_off137 d0 v17) a + S1024x128.size a ≤ S32768x128.size a := fun d0 v17 k0_hw1 k0_h67 => k0_hw1.2.2.2.2.2.2.2.2.2.2.2.2.2.1.2.2.2.2.2.2.2.2.2.2.2.2.1 k0_h67
theorem k0_off137_wordsbf16 : ∀ (d0 : Dev nD) (v17 : BitVec 32) (k0_hw1 : k0_chk1 d0 v17), ∀ (k0_h67 : k0_cond67 d0 v17 = 1#1), (Rect.unit (s := S32768x128) (k0_off137 d0 v17) S1024x128.size (k0_off137_inb d0 v17 k0_hw1 k0_h67)).WholeWords (EltTy.packing .bf16) := fun d0 v17 k0_hw1 k0_h67 => k0_hw1.2.2.2.2.2.2.2.2.2.2.2.2.2.1.2.2.2.2.2.2.2.2.2.2.2.2.2.1 k0_h67 (k0_off137_inb d0 v17 k0_hw1 k0_h67)
theorem k0_mult173_dvd : ∀ (d0 : Dev nD) (v17 : BitVec 32) (k0_hw1 : k0_chk1 d0 v17), ∀ (k0_h68 : k0_cond68 d0 v17 = 1#1), 8 ∣ (k0_mult173 d0 v17).toNat := fun d0 v17 k0_hw1 k0_h68 => k0_hw1.2.2.2.2.2.2.2.2.2.2.2.2.2.1.2.2.2.2.2.2.2.2.2.2.2.2.2.2.1 k0_h68
theorem k0_mult174_dvd : ∀ (d0 : Dev nD) (v17 : BitVec 32) (k0_hw1 : k0_chk1 d0 v17), ∀ (k0_h68 : k0_cond68 d0 v17 = 1#1), 8 ∣ (k0_mult174 d0 v17).toNat := fun d0 v17 k0_hw1 k0_h68 => k0_hw1.2.2.2.2.2.2.2.2.2.2.2.2.2.1.2.2.2.2.2.2.2.2.2.2.2.2.2.2.2.1 k0_h68
theorem k0_off138_inb : ∀ (d0 : Dev nD) (v17 : BitVec 32) (k0_hw1 : k0_chk1 d0 v17), ∀ (k0_h68 : k0_cond68 d0 v17 = 1#1), ∀ a, (k0_off138 d0 v17) a + S1024x128.size a ≤ S32768x128.size a := fun d0 v17 k0_hw1 k0_h68 => k0_hw1.2.2.2.2.2.2.2.2.2.2.2.2.2.1.2.2.2.2.2.2.2.2.2.2.2.2.2.2.2.2.1 k0_h68
theorem k0_off139_inb : ∀ (d0 : Dev nD) (v17 : BitVec 32) (k0_hw1 : k0_chk1 d0 v17), ∀ (k0_h68 : k0_cond68 d0 v17 = 1#1), ∀ a, (k0_off139 d0 v17) a + S1024x128.size a ≤ S32768x128.size a := fun d0 v17 k0_hw1 k0_h68 => k0_hw1.2.2.2.2.2.2.2.2.2.2.2.2.2.1.2.2.2.2.2.2.2.2.2.2.2.2.2.2.2.2.2.1 k0_h68
theorem k0_off139_wordsbf16 : ∀ (d0 : Dev nD) (v17 : BitVec 32) (k0_hw1 : k0_chk1 d0 v17), ∀ (k0_h68 : k0_cond68 d0 v17 = 1#1), (Rect.unit (s := S32768x128) (k0_off139 d0 v17) S1024x128.size (k0_off139_inb d0 v17 k0_hw1 k0_h68)).WholeWords (EltTy.packing .bf16) := fun d0 v17 k0_hw1 k0_h68 => k0_hw1.2.2.2.2.2.2.2.2.2.2.2.2.2.1.2.2.2.2.2.2.2.2.2.2.2.2.2.2.2.2.2.2.1 k0_h68 (k0_off139_inb d0 v17 k0_hw1 k0_h68)
theorem k0_off138_wordsbf16 : ∀ (d0 : Dev nD) (v17 : BitVec 32) (k0_hw1 : k0_chk1 d0 v17), ∀ (k0_h68 : k0_cond68 d0 v17 = 1#1), (Rect.unit (s := S32768x128) (k0_off138 d0 v17) S1024x128.size (k0_off138_inb d0 v17 k0_hw1 k0_h68)).WholeWords (EltTy.packing .bf16) := fun d0 v17 k0_hw1 k0_h68 => k0_hw1.2.2.2.2.2.2.2.2.2.2.2.2.2.1.2.2.2.2.2.2.2.2.2.2.2.2.2.2.2.2.2.2.2.1 k0_h68 (k0_off138_inb d0 v17 k0_hw1 k0_h68)
theorem k0_mult175_dvd : ∀ (d0 : Dev nD) (v17 : BitVec 32) (k0_hw1 : k0_chk1 d0 v17), ∀ (k0_h68 : k0_cond68 d0 v17 = 1#1), 8 ∣ (k0_mult175 d0 v17).toNat := fun d0 v17 k0_hw1 k0_h68 => k0_hw1.2.2.2.2.2.2.2.2.2.2.2.2.2.1.2.2.2.2.2.2.2.2.2.2.2.2.2.2.2.2.2.2.2.2.1 k0_h68
theorem k0_mult176_dvd : ∀ (d0 : Dev nD) (v17 : BitVec 32) (k0_hw1 : k0_chk1 d0 v17), ∀ (k0_h68 : k0_cond68 d0 v17 = 1#1), 8 ∣ (k0_mult176 d0 v17).toNat := fun d0 v17 k0_hw1 k0_h68 => k0_hw1.2.2.2.2.2.2.2.2.2.2.2.2.2.1.2.2.2.2.2.2.2.2.2.2.2.2.2.2.2.2.2.2.2.2.2.1 k0_h68
theorem k0_off140_inb : ∀ (d0 : Dev nD) (v17 : BitVec 32) (k0_hw1 : k0_chk1 d0 v17), ∀ (k0_h68 : k0_cond68 d0 v17 = 1#1), ∀ a, (k0_off140 d0 v17) a + S1024x128.size a ≤ S32768x128.size a := fun d0 v17 k0_hw1 k0_h68 => k0_hw1.2.2.2.2.2.2.2.2.2.2.2.2.2.1.2.2.2.2.2.2.2.2.2.2.2.2.2.2.2.2.2.2.2.2.2.2.1 k0_h68
theorem k0_off140_wordsbf16 : ∀ (d0 : Dev nD) (v17 : BitVec 32) (k0_hw1 : k0_chk1 d0 v17), ∀ (k0_h68 : k0_cond68 d0 v17 = 1#1), (Rect.unit (s := S32768x128) (k0_off140 d0 v17) S1024x128.size (k0_off140_inb d0 v17 k0_hw1 k0_h68)).WholeWords (EltTy.packing .bf16) := fun d0 v17 k0_hw1 k0_h68 => k0_hw1.2.2.2.2.2.2.2.2.2.2.2.2.2.1.2.2.2.2.2.2.2.2.2.2.2.2.2.2.2.2.2.2.2.2.2.2.2.1 k0_h68 (k0_off140_inb d0 v17 k0_hw1 k0_h68)
theorem k0_mult177_dvd : ∀ (d0 : Dev nD) (v17 : BitVec 32) (k0_hw1 : k0_chk1 d0 v17), ∀ (k0_h69 : k0_cond69 d0 v17 = 1#1), 8 ∣ (k0_mult177 d0 v17).toNat := fun d0 v17 k0_hw1 k0_h69 => k0_hw1.2.2.2.2.2.2.2.2.2.2.2.2.2.1.2.2.2.2.2.2.2.2.2.2.2.2.2.2.2.2.2.2.2.2.2.2.2.2.1 k0_h69
theorem k0_mult178_dvd : ∀ (d0 : Dev nD) (v17 : BitVec 32) (k0_hw1 : k0_chk1 d0 v17), ∀ (k0_h69 : k0_cond69 d0 v17 = 1#1), 8 ∣ (k0_mult178 d0 v17).toNat := fun d0 v17 k0_hw1 k0_h69 => k0_hw1.2.2.2.2.2.2.2.2.2.2.2.2.2.1.2.2.2.2.2.2.2.2.2.2.2.2.2.2.2.2.2.2.2.2.2.2.2.2.2.1 k0_h69
theorem k0_off141_inb : ∀ (d0 : Dev nD) (v17 : BitVec 32) (k0_hw1 : k0_chk1 d0 v17), ∀ (k0_h69 : k0_cond69 d0 v17 = 1#1), ∀ a, (k0_off141 d0 v17) a + S1024x128.size a ≤ S32768x128.size a := fun d0 v17 k0_hw1 k0_h69 => k0_hw1.2.2.2.2.2.2.2.2.2.2.2.2.2.1.2.2.2.2.2.2.2.2.2.2.2.2.2.2.2.2.2.2.2.2.2.2.2.2.2.2.1 k0_h69
theorem k0_off142_inb : ∀ (d0 : Dev nD) (v17 : BitVec 32) (k0_hw1 : k0_chk1 d0 v17), ∀ (k0_h69 : k0_cond69 d0 v17 = 1#1), ∀ a, (k0_off142 d0 v17) a + S1024x128.size a ≤ S32768x128.size a := fun d0 v17 k0_hw1 k0_h69 => k0_hw1.2.2.2.2.2.2.2.2.2.2.2.2.2.1.2.2.2.2.2.2.2.2.2.2.2.2.2.2.2.2.2.2.2.2.2.2.2.2.2.2.2.1 k0_h69
theorem k0_off142_wordsbf16 : ∀ (d0 : Dev nD) (v17 : BitVec 32) (k0_hw1 : k0_chk1 d0 v17), ∀ (k0_h69 : k0_cond69 d0 v17 = 1#1), (Rect.unit (s := S32768x128) (k0_off142 d0 v17) S1024x128.size (k0_off142_inb d0 v17 k0_hw1 k0_h69)).WholeWords (EltTy.packing .bf16) := fun d0 v17 k0_hw1 k0_h69 => k0_hw1.2.2.2.2.2.2.2.2.2.2.2.2.2.1.2.2.2.2.2.2.2.2.2.2.2.2.2.2.2.2.2.2.2.2.2.2.2.2.2.2.2.2.1 k0_h69 (k0_off142_inb d0 v17 k0_hw1 k0_h69)
theorem k0_off141_wordsbf16 : ∀ (d0 : Dev nD) (v17 : BitVec 32) (k0_hw1 : k0_chk1 d0 v17), ∀ (k0_h69 : k0_cond69 d0 v17 = 1#1), (Rect.unit (s := S32768x128) (k0_off141 d0 v17) S1024x128.size (k0_off141_inb d0 v17 k0_hw1 k0_h69)).WholeWords (EltTy.packing .bf16) := fun d0 v17 k0_hw1 k0_h69 => k0_hw1.2.2.2.2.2.2.2.2.2.2.2.2.2.1.2.2.2.2.2.2.2.2.2.2.2.2.2.2.2.2.2.2.2.2.2.2.2.2.2.2.2.2.2.1 k0_h69 (k0_off141_inb d0 v17 k0_hw1 k0_h69)
theorem k0_mult179_dvd : ∀ (d0 : Dev nD) (v17 : BitVec 32) (k0_hw1 : k0_chk1 d0 v17), ∀ (k0_h69 : k0_cond69 d0 v17 = 1#1), 8 ∣ (k0_mult179 d0 v17).toNat := fun d0 v17 k0_hw1 k0_h69 => k0_hw1.2.2.2.2.2.2.2.2.2.2.2.2.2.1.2.2.2.2.2.2.2.2.2.2.2.2.2.2.2.2.2.2.2.2.2.2.2.2.2.2.2.2.2.2.1 k0_h69
theorem k0_mult180_dvd : ∀ (d0 : Dev nD) (v17 : BitVec 32) (k0_hw1 : k0_chk1 d0 v17), ∀ (k0_h69 : k0_cond69 d0 v17 = 1#1), 8 ∣ (k0_mult180 d0 v17).toNat := fun d0 v17 k0_hw1 k0_h69 => k0_hw1.2.2.2.2.2.2.2.2.2.2.2.2.2.1.2.2.2.2.2.2.2.2.2.2.2.2.2.2.2.2.2.2.2.2.2.2.2.2.2.2.2.2.2.2.2 k0_h69
theorem k0_off143_inb : ∀ (d0 : Dev nD) (v17 : BitVec 32) (k0_hw1 : k0_chk1 d0 v17), ∀ (k0_h69 : k0_cond69 d0 v17 = 1#1), ∀ a, (k0_off143 d0 v17) a + S1024x128.size a ≤ S32768x128.size a := fun d0 v17 k0_hw1 k0_h69 => k0_hw1.2.2.2.2.2.2.2.2.2.2.2.2.2.2.1.1 k0_h69
theorem k0_off143_wordsbf16 : ∀ (d0 : Dev nD) (v17 : BitVec 32) (k0_hw1 : k0_chk1 d0 v17), ∀ (k0_h69 : k0_cond69 d0 v17 = 1#1), (Rect.unit (s := S32768x128) (k0_off143 d0 v17) S1024x128.size (k0_off143_inb d0 v17 k0_hw1 k0_h69)).WholeWords (EltTy.packing .bf16) := fun d0 v17 k0_hw1 k0_h69 => k0_hw1.2.2.2.2.2.2.2.2.2.2.2.2.2.2.1.2.1 k0_h69 (k0_off143_inb d0 v17 k0_hw1 k0_h69)
theorem k0_mult181_dvd : ∀ (d0 : Dev nD) (v17 : BitVec 32) (k0_hw1 : k0_chk1 d0 v17), ∀ (k0_h70 : k0_cond70 d0 v17 = 1#1), 8 ∣ (k0_mult181 d0 v17).toNat := fun d0 v17 k0_hw1 k0_h70 => k0_hw1.2.2.2.2.2.2.2.2.2.2.2.2.2.2.1.2.2.1 k0_h70
theorem k0_mult182_dvd : ∀ (d0 : Dev nD) (v17 : BitVec 32) (k0_hw1 : k0_chk1 d0 v17), ∀ (k0_h70 : k0_cond70 d0 v17 = 1#1), 8 ∣ (k0_mult182 d0 v17).toNat := fun d0 v17 k0_hw1 k0_h70 => k0_hw1.2.2.2.2.2.2.2.2.2.2.2.2.2.2.1.2.2.2.1 k0_h70
theorem k0_off144_inb : ∀ (d0 : Dev nD) (v17 : BitVec 32) (k0_hw1 : k0_chk1 d0 v17), ∀ (k0_h70 : k0_cond70 d0 v17 = 1#1), ∀ a, (k0_off144 d0 v17) a + S1024x128.size a ≤ S32768x128.size a := fun d0 v17 k0_hw1 k0_h70 => k0_hw1.2.2.2.2.2.2.2.2.2.2.2.2.2.2.1.2.2.2.2.1 k0_h70
theorem k0_off145_inb : ∀ (d0 : Dev nD) (v17 : BitVec 32) (k0_hw1 : k0_chk1 d0 v17), ∀ (k0_h70 : k0_cond70 d0 v17 = 1#1), ∀ a, (k0_off145 d0 v17) a + S1024x128.size a ≤ S32768x128.size a := fun d0 v17 k0_hw1 k0_h70 => k0_hw1.2.2.2.2.2.2.2.2.2.2.2.2.2.2.1.2.2.2.2.2.1 k0_h70
theorem k0_off145_wordsbf16 : ∀ (d0 : Dev nD) (v17 : BitVec 32) (k0_hw1 : k0_chk1 d0 v17), ∀ (k0_h70 : k0_cond70 d0 v17 = 1#1), (Rect.unit (s := S32768x128) (k0_off145 d0 v17) S1024x128.size (k0_off145_inb d0 v17 k0_hw1 k0_h70)).WholeWords (EltTy.packing .bf16) := fun d0 v17 k0_hw1 k0_h70 => k0_hw1.2.2.2.2.2.2.2.2.2.2.2.2.2.2.1.2.2.2.2.2.2.1 k0_h70 (k0_off145_inb d0 v17 k0_hw1 k0_h70)
theorem k0_off144_wordsbf16 : ∀ (d0 : Dev nD) (v17 : BitVec 32) (k0_hw1 : k0_chk1 d0 v17), ∀ (k0_h70 : k0_cond70 d0 v17 = 1#1), (Rect.unit (s := S32768x128) (k0_off144 d0 v17) S1024x128.size (k0_off144_inb d0 v17 k0_hw1 k0_h70)).WholeWords (EltTy.packing .bf16) := fun d0 v17 k0_hw1 k0_h70 => k0_hw1.2.2.2.2.2.2.2.2.2.2.2.2.2.2.1.2.2.2.2.2.2.2.1 k0_h70 (k0_off144_inb d0 v17 k0_hw1 k0_h70)
theorem k0_mult183_dvd : ∀ (d0 : Dev nD) (v17 : BitVec 32) (k0_hw1 : k0_chk1 d0 v17), ∀ (k0_h70 : k0_cond70 d0 v17 = 1#1), 8 ∣ (k0_mult183 d0 v17).toNat := fun d0 v17 k0_hw1 k0_h70 => k0_hw1.2.2.2.2.2.2.2.2.2.2.2.2.2.2.1.2.2.2.2.2.2.2.2.1 k0_h70
theorem k0_mult184_dvd : ∀ (d0 : Dev nD) (v17 : BitVec 32) (k0_hw1 : k0_chk1 d0 v17), ∀ (k0_h70 : k0_cond70 d0 v17 = 1#1), 8 ∣ (k0_mult184 d0 v17).toNat := fun d0 v17 k0_hw1 k0_h70 => k0_hw1.2.2.2.2.2.2.2.2.2.2.2.2.2.2.1.2.2.2.2.2.2.2.2.2.1 k0_h70
theorem k0_off146_inb : ∀ (d0 : Dev nD) (v17 : BitVec 32) (k0_hw1 : k0_chk1 d0 v17), ∀ (k0_h70 : k0_cond70 d0 v17 = 1#1), ∀ a, (k0_off146 d0 v17) a + S1024x128.size a ≤ S32768x128.size a := fun d0 v17 k0_hw1 k0_h70 => k0_hw1.2.2.2.2.2.2.2.2.2.2.2.2.2.2.1.2.2.2.2.2.2.2.2.2.2.1 k0_h70
theorem k0_off146_wordsbf16 : ∀ (d0 : Dev nD) (v17 : BitVec 32) (k0_hw1 : k0_chk1 d0 v17), ∀ (k0_h70 : k0_cond70 d0 v17 = 1#1), (Rect.unit (s := S32768x128) (k0_off146 d0 v17) S1024x128.size (k0_off146_inb d0 v17 k0_hw1 k0_h70)).WholeWords (EltTy.packing .bf16) := fun d0 v17 k0_hw1 k0_h70 => k0_hw1.2.2.2.2.2.2.2.2.2.2.2.2.2.2.1.2.2.2.2.2.2.2.2.2.2.2.1 k0_h70 (k0_off146_inb d0 v17 k0_hw1 k0_h70)
theorem k0_mult185_dvd : ∀ (d0 : Dev nD) (v17 : BitVec 32) (k0_hw1 : k0_chk1 d0 v17), ∀ (k0_h71 : k0_cond71 d0 v17 = 1#1), 8 ∣ (k0_mult185 d0 v17).toNat := fun d0 v17 k0_hw1 k0_h71 => k0_hw1.2.2.2.2.2.2.2.2.2.2.2.2.2.2.1.2.2.2.2.2.2.2.2.2.2.2.2.1 k0_h71
theorem k0_mult186_dvd : ∀ (d0 : Dev nD) (v17 : BitVec 32) (k0_hw1 : k0_chk1 d0 v17), ∀ (k0_h71 : k0_cond71 d0 v17 = 1#1), 8 ∣ (k0_mult186 d0 v17).toNat := fun d0 v17 k0_hw1 k0_h71 => k0_hw1.2.2.2.2.2.2.2.2.2.2.2.2.2.2.1.2.2.2.2.2.2.2.2.2.2.2.2.2.1 k0_h71
theorem k0_off147_inb : ∀ (d0 : Dev nD) (v17 : BitVec 32) (k0_hw1 : k0_chk1 d0 v17), ∀ (k0_h71 : k0_cond71 d0 v17 = 1#1), ∀ a, (k0_off147 d0 v17) a + S1024x128.size a ≤ S32768x128.size a := fun d0 v17 k0_hw1 k0_h71 => k0_hw1.2.2.2.2.2.2.2.2.2.2.2.2.2.2.1.2.2.2.2.2.2.2.2.2.2.2.2.2.2.1 k0_h71
theorem k0_off148_inb : ∀ (d0 : Dev nD) (v17 : BitVec 32) (k0_hw1 : k0_chk1 d0 v17), ∀ (k0_h71 : k0_cond71 d0 v17 = 1#1), ∀ a, (k0_off148 d0 v17) a + S1024x128.size a ≤ S32768x128.size a := fun d0 v17 k0_hw1 k0_h71 => k0_hw1.2.2.2.2.2.2.2.2.2.2.2.2.2.2.1.2.2.2.2.2.2.2.2.2.2.2.2.2.2.2.1 k0_h71
theorem k0_off148_wordsbf16 : ∀ (d0 : Dev nD) (v17 : BitVec 32) (k0_hw1 : k0_chk1 d0 v17), ∀ (k0_h71 : k0_cond71 d0 v17 = 1#1), (Rect.unit (s := S32768x128) (k0_off148 d0 v17) S1024x128.size (k0_off148_inb d0 v17 k0_hw1 k0_h71)).WholeWords (EltTy.packing .bf16) := fun d0 v17 k0_hw1 k0_h71 => k0_hw1.2.2.2.2.2.2.2.2.2.2.2.2.2.2.1.2.2.2.2.2.2.2.2.2.2.2.2.2.2.2.2.1 k0_h71 (k0_off148_inb d0 v17 k0_hw1 k0_h71)
theorem k0_off147_wordsbf16 : ∀ (d0 : Dev nD) (v17 : BitVec 32) (k0_hw1 : k0_chk1 d0 v17), ∀ (k0_h71 : k0_cond71 d0 v17 = 1#1), (Rect.unit (s := S32768x128) (k0_off147 d0 v17) S1024x128.size (k0_off147_inb d0 v17 k0_hw1 k0_h71)).WholeWords (EltTy.packing .bf16) := fun d0 v17 k0_hw1 k0_h71 => k0_hw1.2.2.2.2.2.2.2.2.2.2.2.2.2.2.1.2.2.2.2.2.2.2.2.2.2.2.2.2.2.2.2.2.1 k0_h71 (k0_off147_inb d0 v17 k0_hw1 k0_h71)
theorem k0_mult187_dvd : ∀ (d0 : Dev nD) (v17 : BitVec 32) (k0_hw1 : k0_chk1 d0 v17), ∀ (k0_h71 : k0_cond71 d0 v17 = 1#1), 8 ∣ (k0_mult187 d0 v17).toNat := fun d0 v17 k0_hw1 k0_h71 => k0_hw1.2.2.2.2.2.2.2.2.2.2.2.2.2.2.1.2.2.2.2.2.2.2.2.2.2.2.2.2.2.2.2.2.2.1 k0_h71
theorem k0_mult188_dvd : ∀ (d0 : Dev nD) (v17 : BitVec 32) (k0_hw1 : k0_chk1 d0 v17), ∀ (k0_h71 : k0_cond71 d0 v17 = 1#1), 8 ∣ (k0_mult188 d0 v17).toNat := fun d0 v17 k0_hw1 k0_h71 => k0_hw1.2.2.2.2.2.2.2.2.2.2.2.2.2.2.1.2.2.2.2.2.2.2.2.2.2.2.2.2.2.2.2.2.2.2.1 k0_h71
theorem k0_off149_inb : ∀ (d0 : Dev nD) (v17 : BitVec 32) (k0_hw1 : k0_chk1 d0 v17), ∀ (k0_h71 : k0_cond71 d0 v17 = 1#1), ∀ a, (k0_off149 d0 v17) a + S1024x128.size a ≤ S32768x128.size a := fun d0 v17 k0_hw1 k0_h71 => k0_hw1.2.2.2.2.2.2.2.2.2.2.2.2.2.2.1.2.2.2.2.2.2.2.2.2.2.2.2.2.2.2.2.2.2.2.2.1 k0_h71
theorem k0_off149_wordsbf16 : ∀ (d0 : Dev nD) (v17 : BitVec 32) (k0_hw1 : k0_chk1 d0 v17), ∀ (k0_h71 : k0_cond71 d0 v17 = 1#1), (Rect.unit (s := S32768x128) (k0_off149 d0 v17) S1024x128.size (k0_off149_inb d0 v17 k0_hw1 k0_h71)).WholeWords (EltTy.packing .bf16) := fun d0 v17 k0_hw1 k0_h71 => k0_hw1.2.2.2.2.2.2.2.2.2.2.2.2.2.2.1.2.2.2.2.2.2.2.2.2.2.2.2.2.2.2.2.2.2.2.2.2.1 k0_h71 (k0_off149_inb d0 v17 k0_hw1 k0_h71)
theorem k0_mult189_dvd : ∀ (d0 : Dev nD) (v17 : BitVec 32) (k0_hw1 : k0_chk1 d0 v17), ∀ (k0_h72 : k0_cond72 d0 v17 = 1#1), 8 ∣ (k0_mult189 d0 v17).toNat := fun d0 v17 k0_hw1 k0_h72 => k0_hw1.2.2.2.2.2.2.2.2.2.2.2.2.2.2.1.2.2.2.2.2.2.2.2.2.2.2.2.2.2.2.2.2.2.2.2.2.2.1 k0_h72
theorem k0_mult190_dvd : ∀ (d0 : Dev nD) (v17 : BitVec 32) (k0_hw1 : k0_chk1 d0 v17), ∀ (k0_h72 : k0_cond72 d0 v17 = 1#1), 8 ∣ (k0_mult190 d0 v17).toNat := fun d0 v17 k0_hw1 k0_h72 => k0_hw1.2.2.2.2.2.2.2.2.2.2.2.2.2.2.1.2.2.2.2.2.2.2.2.2.2.2.2.2.2.2.2.2.2.2.2.2.2.2.1 k0_h72
theorem k0_off150_inb : ∀ (d0 : Dev nD) (v17 : BitVec 32) (k0_hw1 : k0_chk1 d0 v17), ∀ (k0_h72 : k0_cond72 d0 v17 = 1#1), ∀ a, (k0_off150 d0 v17) a + S1024x128.size a ≤ S32768x128.size a := fun d0 v17 k0_hw1 k0_h72 => k0_hw1.2.2.2.2.2.2.2.2.2.2.2.2.2.2.1.2.2.2.2.2.2.2.2.2.2.2.2.2.2.2.2.2.2.2.2.2.2.2.2.1 k0_h72
theorem k0_off151_inb : ∀ (d0 : Dev nD) (v17 : BitVec 32) (k0_hw1 : k0_chk1 d0 v17), ∀ (k0_h72 : k0_cond72 d0 v17 = 1#1), ∀ a, (k0_off151 d0 v17) a + S1024x128.size a ≤ S32768x128.size a := fun d0 v17 k0_hw1 k0_h72 => k0_hw1.2.2.2.2.2.2.2.2.2.2.2.2.2.2.1.2.2.2.2.2.2.2.2.2.2.2.2.2.2.2.2.2.2.2.2.2.2.2.2.2.1 k0_h72
theorem k0_off151_wordsbf16 : ∀ (d0 : Dev nD) (v17 : BitVec 32) (k0_hw1 : k0_chk1 d0 v17), ∀ (k0_h72 : k0_cond72 d0 v17 = 1#1), (Rect.unit (s := S32768x128) (k0_off151 d0 v17) S1024x128.size (k0_off151_inb d0 v17 k0_hw1 k0_h72)).WholeWords (EltTy.packing .bf16) := fun d0 v17 k0_hw1 k0_h72 => k0_hw1.2.2.2.2.2.2.2.2.2.2.2.2.2.2.1.2.2.2.2.2.2.2.2.2.2.2.2.2.2.2.2.2.2.2.2.2.2.2.2.2.2.1 k0_h72 (k0_off151_inb d0 v17 k0_hw1 k0_h72)
theorem k0_off150_wordsbf16 : ∀ (d0 : Dev nD) (v17 : BitVec 32) (k0_hw1 : k0_chk1 d0 v17), ∀ (k0_h72 : k0_cond72 d0 v17 = 1#1), (Rect.unit (s := S32768x128) (k0_off150 d0 v17) S1024x128.size (k0_off150_inb d0 v17 k0_hw1 k0_h72)).WholeWords (EltTy.packing .bf16) := fun d0 v17 k0_hw1 k0_h72 => k0_hw1.2.2.2.2.2.2.2.2.2.2.2.2.2.2.1.2.2.2.2.2.2.2.2.2.2.2.2.2.2.2.2.2.2.2.2.2.2.2.2.2.2.2.1 k0_h72 (k0_off150_inb d0 v17 k0_hw1 k0_h72)
theorem k0_mult191_dvd : ∀ (d0 : Dev nD) (v17 : BitVec 32) (k0_hw1 : k0_chk1 d0 v17), ∀ (k0_h72 : k0_cond72 d0 v17 = 1#1), 8 ∣ (k0_mult191 d0 v17).toNat := fun d0 v17 k0_hw1 k0_h72 => k0_hw1.2.2.2.2.2.2.2.2.2.2.2.2.2.2.1.2.2.2.2.2.2.2.2.2.2.2.2.2.2.2.2.2.2.2.2.2.2.2.2.2.2.2.2.1 k0_h72
theorem k0_mult192_dvd : ∀ (d0 : Dev nD) (v17 : BitVec 32) (k0_hw1 : k0_chk1 d0 v17), ∀ (k0_h72 : k0_cond72 d0 v17 = 1#1), 8 ∣ (k0_mult192 d0 v17).toNat := fun d0 v17 k0_hw1 k0_h72 => k0_hw1.2.2.2.2.2.2.2.2.2.2.2.2.2.2.1.2.2.2.2.2.2.2.2.2.2.2.2.2.2.2.2.2.2.2.2.2.2.2.2.2.2.2.2.2.1 k0_h72
theorem k0_off152_inb : ∀ (d0 : Dev nD) (v17 : BitVec 32) (k0_hw1 : k0_chk1 d0 v17), ∀ (k0_h72 : k0_cond72 d0 v17 = 1#1), ∀ a, (k0_off152 d0 v17) a + S1024x128.size a ≤ S32768x128.size a := fun d0 v17 k0_hw1 k0_h72 => k0_hw1.2.2.2.2.2.2.2.2.2.2.2.2.2.2.1.2.2.2.2.2.2.2.2.2.2.2.2.2.2.2.2.2.2.2.2.2.2.2.2.2.2.2.2.2.2.1 k0_h72
theorem k0_off152_wordsbf16 : ∀ (d0 : Dev nD) (v17 : BitVec 32) (k0_hw1 : k0_chk1 d0 v17), ∀ (k0_h72 : k0_cond72 d0 v17 = 1#1), (Rect.unit (s := S32768x128) (k0_off152 d0 v17) S1024x128.size (k0_off152_inb d0 v17 k0_hw1 k0_h72)).WholeWords (EltTy.packing .bf16) := fun d0 v17 k0_hw1 k0_h72 => k0_hw1.2.2.2.2.2.2.2.2.2.2.2.2.2.2.1.2.2.2.2.2.2.2.2.2.2.2.2.2.2.2.2.2.2.2.2.2.2.2.2.2.2.2.2.2.2.2 k0_h72 (k0_off152_inb d0 v17 k0_hw1 k0_h72)
theorem k0_mult193_dvd : ∀ (d0 : Dev nD) (v17 : BitVec 32) (k0_hw1 : k0_chk1 d0 v17), ∀ (k0_h73 : k0_cond73 d0 v17 = 1#1), 8 ∣ (k0_mult193 d0 v17).toNat := fun d0 v17 k0_hw1 k0_h73 => k0_hw1.2.2.2.2.2.2.2.2.2.2.2.2.2.2.2.1.1 k0_h73
theorem k0_mult194_dvd : ∀ (d0 : Dev nD) (v17 : BitVec 32) (k0_hw1 : k0_chk1 d0 v17), ∀ (k0_h73 : k0_cond73 d0 v17 = 1#1), 8 ∣ (k0_mult194 d0 v17).toNat := fun d0 v17 k0_hw1 k0_h73 => k0_hw1.2.2.2.2.2.2.2.2.2.2.2.2.2.2.2.1.2.1 k0_h73
theorem k0_off153_inb : ∀ (d0 : Dev nD) (v17 : BitVec 32) (k0_hw1 : k0_chk1 d0 v17), ∀ (k0_h73 : k0_cond73 d0 v17 = 1#1), ∀ a, (k0_off153 d0 v17) a + S1024x128.size a ≤ S32768x128.size a := fun d0 v17 k0_hw1 k0_h73 => k0_hw1.2.2.2.2.2.2.2.2.2.2.2.2.2.2.2.1.2.2.1 k0_h73
theorem k0_off154_inb : ∀ (d0 : Dev nD) (v17 : BitVec 32) (k0_hw1 : k0_chk1 d0 v17), ∀ (k0_h73 : k0_cond73 d0 v17 = 1#1), ∀ a, (k0_off154 d0 v17) a + S1024x128.size a ≤ S32768x128.size a := fun d0 v17 k0_hw1 k0_h73 => k0_hw1.2.2.2.2.2.2.2.2.2.2.2.2.2.2.2.1.2.2.2.1 k0_h73
theorem k0_off154_wordsbf16 : ∀ (d0 : Dev nD) (v17 : BitVec 32) (k0_hw1 : k0_chk1 d0 v17), ∀ (k0_h73 : k0_cond73 d0 v17 = 1#1), (Rect.unit (s := S32768x128) (k0_off154 d0 v17) S1024x128.size (k0_off154_inb d0 v17 k0_hw1 k0_h73)).WholeWords (EltTy.packing .bf16) := fun d0 v17 k0_hw1 k0_h73 => k0_hw1.2.2.2.2.2.2.2.2.2.2.2.2.2.2.2.1.2.2.2.2.1 k0_h73 (k0_off154_inb d0 v17 k0_hw1 k0_h73)
theorem k0_off153_wordsbf16 : ∀ (d0 : Dev nD) (v17 : BitVec 32) (k0_hw1 : k0_chk1 d0 v17), ∀ (k0_h73 : k0_cond73 d0 v17 = 1#1), (Rect.unit (s := S32768x128) (k0_off153 d0 v17) S1024x128.size (k0_off153_inb d0 v17 k0_hw1 k0_h73)).WholeWords (EltTy.packing .bf16) := fun d0 v17 k0_hw1 k0_h73 => k0_hw1.2.2.2.2.2.2.2.2.2.2.2.2.2.2.2.1.2.2.2.2.2.1 k0_h73 (k0_off153_inb d0 v17 k0_hw1 k0_h73)
theorem k0_mult195_dvd : ∀ (d0 : Dev nD) (v17 : BitVec 32) (k0_hw1 : k0_chk1 d0 v17), ∀ (k0_h73 : k0_cond73 d0 v17 = 1#1), 8 ∣ (k0_mult195 d0 v17).toNat := fun d0 v17 k0_hw1 k0_h73 => k0_hw1.2.2.2.2.2.2.2.2.2.2.2.2.2.2.2.1.2.2.2.2.2.2.1 k0_h73
theorem k0_mult196_dvd : ∀ (d0 : Dev nD) (v17 : BitVec 32) (k0_hw1 : k0_chk1 d0 v17), ∀ (k0_h73 : k0_cond73 d0 v17 = 1#1), 8 ∣ (k0_mult196 d0 v17).toNat := fun d0 v17 k0_hw1 k0_h73 => k0_hw1.2.2.2.2.2.2.2.2.2.2.2.2.2.2.2.1.2.2.2.2.2.2.2.1 k0_h73
theorem k0_off155_inb : ∀ (d0 : Dev nD) (v17 : BitVec 32) (k0_hw1 : k0_chk1 d0 v17), ∀ (k0_h73 : k0_cond73 d0 v17 = 1#1), ∀ a, (k0_off155 d0 v17) a + S1024x128.size a ≤ S32768x128.size a := fun d0 v17 k0_hw1 k0_h73 => k0_hw1.2.2.2.2.2.2.2.2.2.2.2.2.2.2.2.1.2.2.2.2.2.2.2.2.1 k0_h73
theorem k0_off155_wordsbf16 : ∀ (d0 : Dev nD) (v17 : BitVec 32) (k0_hw1 : k0_chk1 d0 v17), ∀ (k0_h73 : k0_cond73 d0 v17 = 1#1), (Rect.unit (s := S32768x128) (k0_off155 d0 v17) S1024x128.size (k0_off155_inb d0 v17 k0_hw1 k0_h73)).WholeWords (EltTy.packing .bf16) := fun d0 v17 k0_hw1 k0_h73 => k0_hw1.2.2.2.2.2.2.2.2.2.2.2.2.2.2.2.1.2.2.2.2.2.2.2.2.2.1 k0_h73 (k0_off155_inb d0 v17 k0_hw1 k0_h73)
theorem k0_mult197_dvd : ∀ (d0 : Dev nD) (v17 : BitVec 32) (k0_hw1 : k0_chk1 d0 v17), ∀ (k0_h74 : k0_cond74 d0 v17 = 1#1), 8 ∣ (k0_mult197 d0 v17).toNat := fun d0 v17 k0_hw1 k0_h74 => k0_hw1.2.2.2.2.2.2.2.2.2.2.2.2.2.2.2.1.2.2.2.2.2.2.2.2.2.2.1 k0_h74
theorem k0_mult198_dvd : ∀ (d0 : Dev nD) (v17 : BitVec 32) (k0_hw1 : k0_chk1 d0 v17), ∀ (k0_h74 : k0_cond74 d0 v17 = 1#1), 8 ∣ (k0_mult198 d0 v17).toNat := fun d0 v17 k0_hw1 k0_h74 => k0_hw1.2.2.2.2.2.2.2.2.2.2.2.2.2.2.2.1.2.2.2.2.2.2.2.2.2.2.2.1 k0_h74
theorem k0_off156_inb : ∀ (d0 : Dev nD) (v17 : BitVec 32) (k0_hw1 : k0_chk1 d0 v17), ∀ (k0_h74 : k0_cond74 d0 v17 = 1#1), ∀ a, (k0_off156 d0 v17) a + S1024x128.size a ≤ S32768x128.size a := fun d0 v17 k0_hw1 k0_h74 => k0_hw1.2.2.2.2.2.2.2.2.2.2.2.2.2.2.2.1.2.2.2.2.2.2.2.2.2.2.2.2.1 k0_h74
theorem k0_off157_inb : ∀ (d0 : Dev nD) (v17 : BitVec 32) (k0_hw1 : k0_chk1 d0 v17), ∀ (k0_h74 : k0_cond74 d0 v17 = 1#1), ∀ a, (k0_off157 d0 v17) a + S1024x128.size a ≤ S32768x128.size a := fun d0 v17 k0_hw1 k0_h74 => k0_hw1.2.2.2.2.2.2.2.2.2.2.2.2.2.2.2.1.2.2.2.2.2.2.2.2.2.2.2.2.2.1 k0_h74
theorem k0_off157_wordsbf16 : ∀ (d0 : Dev nD) (v17 : BitVec 32) (k0_hw1 : k0_chk1 d0 v17), ∀ (k0_h74 : k0_cond74 d0 v17 = 1#1), (Rect.unit (s := S32768x128) (k0_off157 d0 v17) S1024x128.size (k0_off157_inb d0 v17 k0_hw1 k0_h74)).WholeWords (EltTy.packing .bf16) := fun d0 v17 k0_hw1 k0_h74 => k0_hw1.2.2.2.2.2.2.2.2.2.2.2.2.2.2.2.1.2.2.2.2.2.2.2.2.2.2.2.2.2.2.1 k0_h74 (k0_off157_inb d0 v17 k0_hw1 k0_h74)
theorem k0_off156_wordsbf16 : ∀ (d0 : Dev nD) (v17 : BitVec 32) (k0_hw1 : k0_chk1 d0 v17), ∀ (k0_h74 : k0_cond74 d0 v17 = 1#1), (Rect.unit (s := S32768x128) (k0_off156 d0 v17) S1024x128.size (k0_off156_inb d0 v17 k0_hw1 k0_h74)).WholeWords (EltTy.packing .bf16) := fun d0 v17 k0_hw1 k0_h74 => k0_hw1.2.2.2.2.2.2.2.2.2.2.2.2.2.2.2.1.2.2.2.2.2.2.2.2.2.2.2.2.2.2.2.1 k0_h74 (k0_off156_inb d0 v17 k0_hw1 k0_h74)
theorem k0_mult199_dvd : ∀ (d0 : Dev nD) (v17 : BitVec 32) (k0_hw1 : k0_chk1 d0 v17), ∀ (k0_h74 : k0_cond74 d0 v17 = 1#1), 8 ∣ (k0_mult199 d0 v17).toNat := fun d0 v17 k0_hw1 k0_h74 => k0_hw1.2.2.2.2.2.2.2.2.2.2.2.2.2.2.2.1.2.2.2.2.2.2.2.2.2.2.2.2.2.2.2.2.1 k0_h74
theorem k0_mult200_dvd : ∀ (d0 : Dev nD) (v17 : BitVec 32) (k0_hw1 : k0_chk1 d0 v17), ∀ (k0_h74 : k0_cond74 d0 v17 = 1#1), 8 ∣ (k0_mult200 d0 v17).toNat := fun d0 v17 k0_hw1 k0_h74 => k0_hw1.2.2.2.2.2.2.2.2.2.2.2.2.2.2.2.1.2.2.2.2.2.2.2.2.2.2.2.2.2.2.2.2.2.1 k0_h74
theorem k0_off158_inb : ∀ (d0 : Dev nD) (v17 : BitVec 32) (k0_hw1 : k0_chk1 d0 v17), ∀ (k0_h74 : k0_cond74 d0 v17 = 1#1), ∀ a, (k0_off158 d0 v17) a + S1024x128.size a ≤ S32768x128.size a := fun d0 v17 k0_hw1 k0_h74 => k0_hw1.2.2.2.2.2.2.2.2.2.2.2.2.2.2.2.1.2.2.2.2.2.2.2.2.2.2.2.2.2.2.2.2.2.2.1 k0_h74
theorem k0_off158_wordsbf16 : ∀ (d0 : Dev nD) (v17 : BitVec 32) (k0_hw1 : k0_chk1 d0 v17), ∀ (k0_h74 : k0_cond74 d0 v17 = 1#1), (Rect.unit (s := S32768x128) (k0_off158 d0 v17) S1024x128.size (k0_off158_inb d0 v17 k0_hw1 k0_h74)).WholeWords (EltTy.packing .bf16) := fun d0 v17 k0_hw1 k0_h74 => k0_hw1.2.2.2.2.2.2.2.2.2.2.2.2.2.2.2.1.2.2.2.2.2.2.2.2.2.2.2.2.2.2.2.2.2.2.2.1 k0_h74 (k0_off158_inb d0 v17 k0_hw1 k0_h74)
theorem k0_mult201_dvd : ∀ (d0 : Dev nD) (v17 : BitVec 32) (k0_hw1 : k0_chk1 d0 v17), ∀ (k0_h75 : k0_cond75 d0 v17 = 1#1), 8 ∣ (k0_mult201 d0 v17).toNat := fun d0 v17 k0_hw1 k0_h75 => k0_hw1.2.2.2.2.2.2.2.2.2.2.2.2.2.2.2.1.2.2.2.2.2.2.2.2.2.2.2.2.2.2.2.2.2.2.2.2.1 k0_h75
theorem k0_mult202_dvd : ∀ (d0 : Dev nD) (v17 : BitVec 32) (k0_hw1 : k0_chk1 d0 v17), ∀ (k0_h75 : k0_cond75 d0 v17 = 1#1), 8 ∣ (k0_mult202 d0 v17).toNat := fun d0 v17 k0_hw1 k0_h75 => k0_hw1.2.2.2.2.2.2.2.2.2.2.2.2.2.2.2.1.2.2.2.2.2.2.2.2.2.2.2.2.2.2.2.2.2.2.2.2.2.1 k0_h75
theorem k0_off159_inb : ∀ (d0 : Dev nD) (v17 : BitVec 32) (k0_hw1 : k0_chk1 d0 v17), ∀ (k0_h75 : k0_cond75 d0 v17 = 1#1), ∀ a, (k0_off159 d0 v17) a + S1024x128.size a ≤ S32768x128.size a := fun d0 v17 k0_hw1 k0_h75 => k0_hw1.2.2.2.2.2.2.2.2.2.2.2.2.2.2.2.1.2.2.2.2.2.2.2.2.2.2.2.2.2.2.2.2.2.2.2.2.2.2.1 k0_h75
theorem k0_off160_inb : ∀ (d0 : Dev nD) (v17 : BitVec 32) (k0_hw1 : k0_chk1 d0 v17), ∀ (k0_h75 : k0_cond75 d0 v17 = 1#1), ∀ a, (k0_off160 d0 v17) a + S1024x128.size a ≤ S32768x128.size a := fun d0 v17 k0_hw1 k0_h75 => k0_hw1.2.2.2.2.2.2.2.2.2.2.2.2.2.2.2.1.2.2.2.2.2.2.2.2.2.2.2.2.2.2.2.2.2.2.2.2.2.2.2.1 k0_h75
theorem k0_off160_wordsbf16 : ∀ (d0 : Dev nD) (v17 : BitVec 32) (k0_hw1 : k0_chk1 d0 v17), ∀ (k0_h75 : k0_cond75 d0 v17 = 1#1), (Rect.unit (s := S32768x128) (k0_off160 d0 v17) S1024x128.size (k0_off160_inb d0 v17 k0_hw1 k0_h75)).WholeWords (EltTy.packing .bf16) := fun d0 v17 k0_hw1 k0_h75 => k0_hw1.2.2.2.2.2.2.2.2.2.2.2.2.2.2.2.1.2.2.2.2.2.2.2.2.2.2.2.2.2.2.2.2.2.2.2.2.2.2.2.2.1 k0_h75 (k0_off160_inb d0 v17 k0_hw1 k0_h75)
theorem k0_off159_wordsbf16 : ∀ (d0 : Dev nD) (v17 : BitVec 32) (k0_hw1 : k0_chk1 d0 v17), ∀ (k0_h75 : k0_cond75 d0 v17 = 1#1), (Rect.unit (s := S32768x128) (k0_off159 d0 v17) S1024x128.size (k0_off159_inb d0 v17 k0_hw1 k0_h75)).WholeWords (EltTy.packing .bf16) := fun d0 v17 k0_hw1 k0_h75 => k0_hw1.2.2.2.2.2.2.2.2.2.2.2.2.2.2.2.1.2.2.2.2.2.2.2.2.2.2.2.2.2.2.2.2.2.2.2.2.2.2.2.2.2.1 k0_h75 (k0_off159_inb d0 v17 k0_hw1 k0_h75)
theorem k0_mult203_dvd : ∀ (d0 : Dev nD) (v17 : BitVec 32) (k0_hw1 : k0_chk1 d0 v17), ∀ (k0_h75 : k0_cond75 d0 v17 = 1#1), 8 ∣ (k0_mult203 d0 v17).toNat := fun d0 v17 k0_hw1 k0_h75 => k0_hw1.2.2.2.2.2.2.2.2.2.2.2.2.2.2.2.1.2.2.2.2.2.2.2.2.2.2.2.2.2.2.2.2.2.2.2.2.2.2.2.2.2.2.1 k0_h75
theorem k0_mult204_dvd : ∀ (d0 : Dev nD) (v17 : BitVec 32) (k0_hw1 : k0_chk1 d0 v17), ∀ (k0_h75 : k0_cond75 d0 v17 = 1#1), 8 ∣ (k0_mult204 d0 v17).toNat := fun d0 v17 k0_hw1 k0_h75 => k0_hw1.2.2.2.2.2.2.2.2.2.2.2.2.2.2.2.1.2.2.2.2.2.2.2.2.2.2.2.2.2.2.2.2.2.2.2.2.2.2.2.2.2.2.2.1 k0_h75
theorem k0_off161_inb : ∀ (d0 : Dev nD) (v17 : BitVec 32) (k0_hw1 : k0_chk1 d0 v17), ∀ (k0_h75 : k0_cond75 d0 v17 = 1#1), ∀ a, (k0_off161 d0 v17) a + S1024x128.size a ≤ S32768x128.size a := fun d0 v17 k0_hw1 k0_h75 => k0_hw1.2.2.2.2.2.2.2.2.2.2.2.2.2.2.2.1.2.2.2.2.2.2.2.2.2.2.2.2.2.2.2.2.2.2.2.2.2.2.2.2.2.2.2.2.1 k0_h75
theorem k0_off161_wordsbf16 : ∀ (d0 : Dev nD) (v17 : BitVec 32) (k0_hw1 : k0_chk1 d0 v17), ∀ (k0_h75 : k0_cond75 d0 v17 = 1#1), (Rect.unit (s := S32768x128) (k0_off161 d0 v17) S1024x128.size (k0_off161_inb d0 v17 k0_hw1 k0_h75)).WholeWords (EltTy.packing .bf16) := fun d0 v17 k0_hw1 k0_h75 => k0_hw1.2.2.2.2.2.2.2.2.2.2.2.2.2.2.2.1.2.2.2.2.2.2.2.2.2.2.2.2.2.2.2.2.2.2.2.2.2.2.2.2.2.2.2.2.2.1 k0_h75 (k0_off161_inb d0 v17 k0_hw1 k0_h75)
theorem k0_mult205_dvd : ∀ (d0 : Dev nD) (v17 : BitVec 32) (k0_hw1 : k0_chk1 d0 v17), ∀ (k0_h76 : k0_cond76 d0 v17 = 1#1), 8 ∣ (k0_mult205 d0 v17).toNat := fun d0 v17 k0_hw1 k0_h76 => k0_hw1.2.2.2.2.2.2.2.2.2.2.2.2.2.2.2.1.2.2.2.2.2.2.2.2.2.2.2.2.2.2.2.2.2.2.2.2.2.2.2.2.2.2.2.2.2.2.1 k0_h76
theorem k0_mult206_dvd : ∀ (d0 : Dev nD) (v17 : BitVec 32) (k0_hw1 : k0_chk1 d0 v17), ∀ (k0_h76 : k0_cond76 d0 v17 = 1#1), 8 ∣ (k0_mult206 d0 v17).toNat := fun d0 v17 k0_hw1 k0_h76 => k0_hw1.2.2.2.2.2.2.2.2.2.2.2.2.2.2.2.1.2.2.2.2.2.2.2.2.2.2.2.2.2.2.2.2.2.2.2.2.2.2.2.2.2.2.2.2.2.2.2 k0_h76
theorem k0_off162_inb : ∀ (d0 : Dev nD) (v17 : BitVec 32) (k0_hw1 : k0_chk1 d0 v17), ∀ (k0_h76 : k0_cond76 d0 v17 = 1#1), ∀ a, (k0_off162 d0 v17) a + S1024x128.size a ≤ S32768x128.size a := fun d0 v17 k0_hw1 k0_h76 => k0_hw1.2.2.2.2.2.2.2.2.2.2.2.2.2.2.2.2.1.1 k0_h76
theorem k0_off163_inb : ∀ (d0 : Dev nD) (v17 : BitVec 32) (k0_hw1 : k0_chk1 d0 v17), ∀ (k0_h76 : k0_cond76 d0 v17 = 1#1), ∀ a, (k0_off163 d0 v17) a + S1024x128.size a ≤ S32768x128.size a := fun d0 v17 k0_hw1 k0_h76 => k0_hw1.2.2.2.2.2.2.2.2.2.2.2.2.2.2.2.2.1.2.1 k0_h76
theorem k0_off163_wordsbf16 : ∀ (d0 : Dev nD) (v17 : BitVec 32) (k0_hw1 : k0_chk1 d0 v17), ∀ (k0_h76 : k0_cond76 d0 v17 = 1#1), (Rect.unit (s := S32768x128) (k0_off163 d0 v17) S1024x128.size (k0_off163_inb d0 v17 k0_hw1 k0_h76)).WholeWords (EltTy.packing .bf16) := fun d0 v17 k0_hw1 k0_h76 => k0_hw1.2.2.2.2.2.2.2.2.2.2.2.2.2.2.2.2.1.2.2.1 k0_h76 (k0_off163_inb d0 v17 k0_hw1 k0_h76)
theorem k0_off162_wordsbf16 : ∀ (d0 : Dev nD) (v17 : BitVec 32) (k0_hw1 : k0_chk1 d0 v17), ∀ (k0_h76 : k0_cond76 d0 v17 = 1#1), (Rect.unit (s := S32768x128) (k0_off162 d0 v17) S1024x128.size (k0_off162_inb d0 v17 k0_hw1 k0_h76)).WholeWords (EltTy.packing .bf16) := fun d0 v17 k0_hw1 k0_h76 => k0_hw1.2.2.2.2.2.2.2.2.2.2.2.2.2.2.2.2.1.2.2.2.1 k0_h76 (k0_off162_inb d0 v17 k0_hw1 k0_h76)
theorem k0_mult207_dvd : ∀ (d0 : Dev nD) (v17 : BitVec 32) (k0_hw1 : k0_chk1 d0 v17), ∀ (k0_h76 : k0_cond76 d0 v17 = 1#1), 8 ∣ (k0_mult207 d0 v17).toNat := fun d0 v17 k0_hw1 k0_h76 => k0_hw1.2.2.2.2.2.2.2.2.2.2.2.2.2.2.2.2.1.2.2.2.2.1 k0_h76
theorem k0_mult208_dvd : ∀ (d0 : Dev nD) (v17 : BitVec 32) (k0_hw1 : k0_chk1 d0 v17), ∀ (k0_h76 : k0_cond76 d0 v17 = 1#1), 8 ∣ (k0_mult208 d0 v17).toNat := fun d0 v17 k0_hw1 k0_h76 => k0_hw1.2.2.2.2.2.2.2.2.2.2.2.2.2.2.2.2.1.2.2.2.2.2.1 k0_h76
theorem k0_off164_inb : ∀ (d0 : Dev nD) (v17 : BitVec 32) (k0_hw1 : k0_chk1 d0 v17), ∀ (k0_h76 : k0_cond76 d0 v17 = 1#1), ∀ a, (k0_off164 d0 v17) a + S1024x128.size a ≤ S32768x128.size a := fun d0 v17 k0_hw1 k0_h76 => k0_hw1.2.2.2.2.2.2.2.2.2.2.2.2.2.2.2.2.1.2.2.2.2.2.2.1 k0_h76
theorem k0_off164_wordsbf16 : ∀ (d0 : Dev nD) (v17 : BitVec 32) (k0_hw1 : k0_chk1 d0 v17), ∀ (k0_h76 : k0_cond76 d0 v17 = 1#1), (Rect.unit (s := S32768x128) (k0_off164 d0 v17) S1024x128.size (k0_off164_inb d0 v17 k0_hw1 k0_h76)).WholeWords (EltTy.packing .bf16) := fun d0 v17 k0_hw1 k0_h76 => k0_hw1.2.2.2.2.2.2.2.2.2.2.2.2.2.2.2.2.1.2.2.2.2.2.2.2.1 k0_h76 (k0_off164_inb d0 v17 k0_hw1 k0_h76)
theorem k0_mult209_dvd : ∀ (d0 : Dev nD) (v17 : BitVec 32) (k0_hw1 : k0_chk1 d0 v17), ∀ (k0_h77 : k0_cond77 d0 v17 = 1#1), 8 ∣ (k0_mult209 d0 v17).toNat := fun d0 v17 k0_hw1 k0_h77 => k0_hw1.2.2.2.2.2.2.2.2.2.2.2.2.2.2.2.2.1.2.2.2.2.2.2.2.2.1 k0_h77
theorem k0_mult210_dvd : ∀ (d0 : Dev nD) (v17 : BitVec 32) (k0_hw1 : k0_chk1 d0 v17), ∀ (k0_h77 : k0_cond77 d0 v17 = 1#1), 8 ∣ (k0_mult210 d0 v17).toNat := fun d0 v17 k0_hw1 k0_h77 => k0_hw1.2.2.2.2.2.2.2.2.2.2.2.2.2.2.2.2.1.2.2.2.2.2.2.2.2.2.1 k0_h77
theorem k0_off165_inb : ∀ (d0 : Dev nD) (v17 : BitVec 32) (k0_hw1 : k0_chk1 d0 v17), ∀ (k0_h77 : k0_cond77 d0 v17 = 1#1), ∀ a, (k0_off165 d0 v17) a + S1024x128.size a ≤ S32768x128.size a := fun d0 v17 k0_hw1 k0_h77 => k0_hw1.2.2.2.2.2.2.2.2.2.2.2.2.2.2.2.2.1.2.2.2.2.2.2.2.2.2.2.1 k0_h77
theorem k0_off166_inb : ∀ (d0 : Dev nD) (v17 : BitVec 32) (k0_hw1 : k0_chk1 d0 v17), ∀ (k0_h77 : k0_cond77 d0 v17 = 1#1), ∀ a, (k0_off166 d0 v17) a + S1024x128.size a ≤ S32768x128.size a := fun d0 v17 k0_hw1 k0_h77 => k0_hw1.2.2.2.2.2.2.2.2.2.2.2.2.2.2.2.2.1.2.2.2.2.2.2.2.2.2.2.2.1 k0_h77
theorem k0_off166_wordsbf16 : ∀ (d0 : Dev nD) (v17 : BitVec 32) (k0_hw1 : k0_chk1 d0 v17), ∀ (k0_h77 : k0_cond77 d0 v17 = 1#1), (Rect.unit (s := S32768x128) (k0_off166 d0 v17) S1024x128.size (k0_off166_inb d0 v17 k0_hw1 k0_h77)).WholeWords (EltTy.packing .bf16) := fun d0 v17 k0_hw1 k0_h77 => k0_hw1.2.2.2.2.2.2.2.2.2.2.2.2.2.2.2.2.1.2.2.2.2.2.2.2.2.2.2.2.2.1 k0_h77 (k0_off166_inb d0 v17 k0_hw1 k0_h77)
theorem k0_off165_wordsbf16 : ∀ (d0 : Dev nD) (v17 : BitVec 32) (k0_hw1 : k0_chk1 d0 v17), ∀ (k0_h77 : k0_cond77 d0 v17 = 1#1), (Rect.unit (s := S32768x128) (k0_off165 d0 v17) S1024x128.size (k0_off165_inb d0 v17 k0_hw1 k0_h77)).WholeWords (EltTy.packing .bf16) := fun d0 v17 k0_hw1 k0_h77 => k0_hw1.2.2.2.2.2.2.2.2.2.2.2.2.2.2.2.2.1.2.2.2.2.2.2.2.2.2.2.2.2.2.1 k0_h77 (k0_off165_inb d0 v17 k0_hw1 k0_h77)
theorem k0_mult211_dvd : ∀ (d0 : Dev nD) (v17 : BitVec 32) (k0_hw1 : k0_chk1 d0 v17), ∀ (k0_h77 : k0_cond77 d0 v17 = 1#1), 8 ∣ (k0_mult211 d0 v17).toNat := fun d0 v17 k0_hw1 k0_h77 => k0_hw1.2.2.2.2.2.2.2.2.2.2.2.2.2.2.2.2.1.2.2.2.2.2.2.2.2.2.2.2.2.2.2.1 k0_h77
theorem k0_mult212_dvd : ∀ (d0 : Dev nD) (v17 : BitVec 32) (k0_hw1 : k0_chk1 d0 v17), ∀ (k0_h77 : k0_cond77 d0 v17 = 1#1), 8 ∣ (k0_mult212 d0 v17).toNat := fun d0 v17 k0_hw1 k0_h77 => k0_hw1.2.2.2.2.2.2.2.2.2.2.2.2.2.2.2.2.1.2.2.2.2.2.2.2.2.2.2.2.2.2.2.2.1 k0_h77
theorem k0_off167_inb : ∀ (d0 : Dev nD) (v17 : BitVec 32) (k0_hw1 : k0_chk1 d0 v17), ∀ (k0_h77 : k0_cond77 d0 v17 = 1#1), ∀ a, (k0_off167 d0 v17) a + S1024x128.size a ≤ S32768x128.size a := fun d0 v17 k0_hw1 k0_h77 => k0_hw1.2.2.2.2.2.2.2.2.2.2.2.2.2.2.2.2.1.2.2.2.2.2.2.2.2.2.2.2.2.2.2.2.2.1 k0_h77
theorem k0_off167_wordsbf16 : ∀ (d0 : Dev nD) (v17 : BitVec 32) (k0_hw1 : k0_chk1 d0 v17), ∀ (k0_h77 : k0_cond77 d0 v17 = 1#1), (Rect.unit (s := S32768x128) (k0_off167 d0 v17) S1024x128.size (k0_off167_inb d0 v17 k0_hw1 k0_h77)).WholeWords (EltTy.packing .bf16) := fun d0 v17 k0_hw1 k0_h77 => k0_hw1.2.2.2.2.2.2.2.2.2.2.2.2.2.2.2.2.1.2.2.2.2.2.2.2.2.2.2.2.2.2.2.2.2.2.1 k0_h77 (k0_off167_inb d0 v17 k0_hw1 k0_h77)
theorem k0_mult213_dvd : ∀ (d0 : Dev nD) (v17 : BitVec 32) (k0_hw1 : k0_chk1 d0 v17), ∀ (k0_h78 : k0_cond78 d0 v17 = 1#1), 8 ∣ (k0_mult213 d0 v17).toNat := fun d0 v17 k0_hw1 k0_h78 => k0_hw1.2.2.2.2.2.2.2.2.2.2.2.2.2.2.2.2.1.2.2.2.2.2.2.2.2.2.2.2.2.2.2.2.2.2.2.1 k0_h78
theorem k0_mult214_dvd : ∀ (d0 : Dev nD) (v17 : BitVec 32) (k0_hw1 : k0_chk1 d0 v17), ∀ (k0_h78 : k0_cond78 d0 v17 = 1#1), 8 ∣ (k0_mult214 d0 v17).toNat := fun d0 v17 k0_hw1 k0_h78 => k0_hw1.2.2.2.2.2.2.2.2.2.2.2.2.2.2.2.2.1.2.2.2.2.2.2.2.2.2.2.2.2.2.2.2.2.2.2.2.1 k0_h78
theorem k0_off168_inb : ∀ (d0 : Dev nD) (v17 : BitVec 32) (k0_hw1 : k0_chk1 d0 v17), ∀ (k0_h78 : k0_cond78 d0 v17 = 1#1), ∀ a, (k0_off168 d0 v17) a + S1024x128.size a ≤ S32768x128.size a := fun d0 v17 k0_hw1 k0_h78 => k0_hw1.2.2.2.2.2.2.2.2.2.2.2.2.2.2.2.2.1.2.2.2.2.2.2.2.2.2.2.2.2.2.2.2.2.2.2.2.2.1 k0_h78
theorem k0_off169_inb : ∀ (d0 : Dev nD) (v17 : BitVec 32) (k0_hw1 : k0_chk1 d0 v17), ∀ (k0_h78 : k0_cond78 d0 v17 = 1#1), ∀ a, (k0_off169 d0 v17) a + S1024x128.size a ≤ S32768x128.size a := fun d0 v17 k0_hw1 k0_h78 => k0_hw1.2.2.2.2.2.2.2.2.2.2.2.2.2.2.2.2.1.2.2.2.2.2.2.2.2.2.2.2.2.2.2.2.2.2.2.2.2.2.1 k0_h78
theorem k0_off169_wordsbf16 : ∀ (d0 : Dev nD) (v17 : BitVec 32) (k0_hw1 : k0_chk1 d0 v17), ∀ (k0_h78 : k0_cond78 d0 v17 = 1#1), (Rect.unit (s := S32768x128) (k0_off169 d0 v17) S1024x128.size (k0_off169_inb d0 v17 k0_hw1 k0_h78)).WholeWords (EltTy.packing .bf16) := fun d0 v17 k0_hw1 k0_h78 => k0_hw1.2.2.2.2.2.2.2.2.2.2.2.2.2.2.2.2.1.2.2.2.2.2.2.2.2.2.2.2.2.2.2.2.2.2.2.2.2.2.2.1 k0_h78 (k0_off169_inb d0 v17 k0_hw1 k0_h78)
theorem k0_off168_wordsbf16 : ∀ (d0 : Dev nD) (v17 : BitVec 32) (k0_hw1 : k0_chk1 d0 v17), ∀ (k0_h78 : k0_cond78 d0 v17 = 1#1), (Rect.unit (s := S32768x128) (k0_off168 d0 v17) S1024x128.size (k0_off168_inb d0 v17 k0_hw1 k0_h78)).WholeWords (EltTy.packing .bf16) := fun d0 v17 k0_hw1 k0_h78 => k0_hw1.2.2.2.2.2.2.2.2.2.2.2.2.2.2.2.2.1.2.2.2.2.2.2.2.2.2.2.2.2.2.2.2.2.2.2.2.2.2.2.2.1 k0_h78 (k0_off168_inb d0 v17 k0_hw1 k0_h78)
theorem k0_mult215_dvd : ∀ (d0 : Dev nD) (v17 : BitVec 32) (k0_hw1 : k0_chk1 d0 v17), ∀ (k0_h78 : k0_cond78 d0 v17 = 1#1), 8 ∣ (k0_mult215 d0 v17).toNat := fun d0 v17 k0_hw1 k0_h78 => k0_hw1.2.2.2.2.2.2.2.2.2.2.2.2.2.2.2.2.1.2.2.2.2.2.2.2.2.2.2.2.2.2.2.2.2.2.2.2.2.2.2.2.2.1 k0_h78
theorem k0_mult216_dvd : ∀ (d0 : Dev nD) (v17 : BitVec 32) (k0_hw1 : k0_chk1 d0 v17), ∀ (k0_h78 : k0_cond78 d0 v17 = 1#1), 8 ∣ (k0_mult216 d0 v17).toNat := fun d0 v17 k0_hw1 k0_h78 => k0_hw1.2.2.2.2.2.2.2.2.2.2.2.2.2.2.2.2.1.2.2.2.2.2.2.2.2.2.2.2.2.2.2.2.2.2.2.2.2.2.2.2.2.2.1 k0_h78
theorem k0_off170_inb : ∀ (d0 : Dev nD) (v17 : BitVec 32) (k0_hw1 : k0_chk1 d0 v17), ∀ (k0_h78 : k0_cond78 d0 v17 = 1#1), ∀ a, (k0_off170 d0 v17) a + S1024x128.size a ≤ S32768x128.size a := fun d0 v17 k0_hw1 k0_h78 => k0_hw1.2.2.2.2.2.2.2.2.2.2.2.2.2.2.2.2.1.2.2.2.2.2.2.2.2.2.2.2.2.2.2.2.2.2.2.2.2.2.2.2.2.2.2.1 k0_h78
theorem k0_off170_wordsbf16 : ∀ (d0 : Dev nD) (v17 : BitVec 32) (k0_hw1 : k0_chk1 d0 v17), ∀ (k0_h78 : k0_cond78 d0 v17 = 1#1), (Rect.unit (s := S32768x128) (k0_off170 d0 v17) S1024x128.size (k0_off170_inb d0 v17 k0_hw1 k0_h78)).WholeWords (EltTy.packing .bf16) := fun d0 v17 k0_hw1 k0_h78 => k0_hw1.2.2.2.2.2.2.2.2.2.2.2.2.2.2.2.2.1.2.2.2.2.2.2.2.2.2.2.2.2.2.2.2.2.2.2.2.2.2.2.2.2.2.2.2.1 k0_h78 (k0_off170_inb d0 v17 k0_hw1 k0_h78)
theorem k0_mult217_dvd : ∀ (d0 : Dev nD) (v17 : BitVec 32) (k0_hw1 : k0_chk1 d0 v17), ∀ (k0_h79 : k0_cond79 d0 v17 = 1#1), 8 ∣ (k0_mult217 d0 v17).toNat := fun d0 v17 k0_hw1 k0_h79 => k0_hw1.2.2.2.2.2.2.2.2.2.2.2.2.2.2.2.2.1.2.2.2.2.2.2.2.2.2.2.2.2.2.2.2.2.2.2.2.2.2.2.2.2.2.2.2.2.1 k0_h79
theorem k0_mult218_dvd : ∀ (d0 : Dev nD) (v17 : BitVec 32) (k0_hw1 : k0_chk1 d0 v17), ∀ (k0_h79 : k0_cond79 d0 v17 = 1#1), 8 ∣ (k0_mult218 d0 v17).toNat := fun d0 v17 k0_hw1 k0_h79 => k0_hw1.2.2.2.2.2.2.2.2.2.2.2.2.2.2.2.2.1.2.2.2.2.2.2.2.2.2.2.2.2.2.2.2.2.2.2.2.2.2.2.2.2.2.2.2.2.2.1 k0_h79
theorem k0_off171_inb : ∀ (d0 : Dev nD) (v17 : BitVec 32) (k0_hw1 : k0_chk1 d0 v17), ∀ (k0_h79 : k0_cond79 d0 v17 = 1#1), ∀ a, (k0_off171 d0 v17) a + S1024x128.size a ≤ S32768x128.size a := fun d0 v17 k0_hw1 k0_h79 => k0_hw1.2.2.2.2.2.2.2.2.2.2.2.2.2.2.2.2.1.2.2.2.2.2.2.2.2.2.2.2.2.2.2.2.2.2.2.2.2.2.2.2.2.2.2.2.2.2.2.1 k0_h79
theorem k0_off172_inb : ∀ (d0 : Dev nD) (v17 : BitVec 32) (k0_hw1 : k0_chk1 d0 v17), ∀ (k0_h79 : k0_cond79 d0 v17 = 1#1), ∀ a, (k0_off172 d0 v17) a + S1024x128.size a ≤ S32768x128.size a := fun d0 v17 k0_hw1 k0_h79 => k0_hw1.2.2.2.2.2.2.2.2.2.2.2.2.2.2.2.2.1.2.2.2.2.2.2.2.2.2.2.2.2.2.2.2.2.2.2.2.2.2.2.2.2.2.2.2.2.2.2.2 k0_h79
theorem k0_off172_wordsbf16 : ∀ (d0 : Dev nD) (v17 : BitVec 32) (k0_hw1 : k0_chk1 d0 v17), ∀ (k0_h79 : k0_cond79 d0 v17 = 1#1), (Rect.unit (s := S32768x128) (k0_off172 d0 v17) S1024x128.size (k0_off172_inb d0 v17 k0_hw1 k0_h79)).WholeWords (EltTy.packing .bf16) := fun d0 v17 k0_hw1 k0_h79 => k0_hw1.2.2.2.2.2.2.2.2.2.2.2.2.2.2.2.2.2.1 k0_h79 (k0_off172_inb d0 v17 k0_hw1 k0_h79)
theorem k0_off171_wordsbf16 : ∀ (d0 : Dev nD) (v17 : BitVec 32) (k0_hw1 : k0_chk1 d0 v17), ∀ (k0_h79 : k0_cond79 d0 v17 = 1#1), (Rect.unit (s := S32768x128) (k0_off171 d0 v17) S1024x128.size (k0_off171_inb d0 v17 k0_hw1 k0_h79)).WholeWords (EltTy.packing .bf16) := fun d0 v17 k0_hw1 k0_h79 => k0_hw1.2.2.2.2.2.2.2.2.2.2.2.2.2.2.2.2.2.2.1 k0_h79 (k0_off171_inb d0 v17 k0_hw1 k0_h79)
theorem k0_mult219_dvd : ∀ (d0 : Dev nD) (v17 : BitVec 32) (k0_hw1 : k0_chk1 d0 v17), ∀ (k0_h79 : k0_cond79 d0 v17 = 1#1), 8 ∣ (k0_mult219 d0 v17).toNat := fun d0 v17 k0_hw1 k0_h79 => k0_hw1.2.2.2.2.2.2.2.2.2.2.2.2.2.2.2.2.2.2.2.1 k0_h79
theorem k0_mult220_dvd : ∀ (d0 : Dev nD) (v17 : BitVec 32) (k0_hw1 : k0_chk1 d0 v17), ∀ (k0_h79 : k0_cond79 d0 v17 = 1#1), 8 ∣ (k0_mult220 d0 v17).toNat := fun d0 v17 k0_hw1 k0_h79 => k0_hw1.2.2.2.2.2.2.2.2.2.2.2.2.2.2.2.2.2.2.2.2.1 k0_h79
theorem k0_off173_inb : ∀ (d0 : Dev nD) (v17 : BitVec 32) (k0_hw1 : k0_chk1 d0 v17), ∀ (k0_h79 : k0_cond79 d0 v17 = 1#1), ∀ a, (k0_off173 d0 v17) a + S1024x128.size a ≤ S32768x128.size a := fun d0 v17 k0_hw1 k0_h79 => k0_hw1.2.2.2.2.2.2.2.2.2.2.2.2.2.2.2.2.2.2.2.2.2.1 k0_h79
theorem k0_off173_wordsbf16 : ∀ (d0 : Dev nD) (v17 : BitVec 32) (k0_hw1 : k0_chk1 d0 v17), ∀ (k0_h79 : k0_cond79 d0 v17 = 1#1), (Rect.unit (s := S32768x128) (k0_off173 d0 v17) S1024x128.size (k0_off173_inb d0 v17 k0_hw1 k0_h79)).WholeWords (EltTy.packing .bf16) := fun d0 v17 k0_hw1 k0_h79 => k0_hw1.2.2.2.2.2.2.2.2.2.2.2.2.2.2.2.2.2.2.2.2.2.2.1 k0_h79 (k0_off173_inb d0 v17 k0_hw1 k0_h79)
theorem k0_mult221_dvd : ∀ (d0 : Dev nD) (v17 : BitVec 32) (k0_hw1 : k0_chk1 d0 v17), ∀ (k0_h80 : k0_cond80 d0 v17 = 1#1), 8 ∣ (k0_mult221 d0 v17).toNat := fun d0 v17 k0_hw1 k0_h80 => k0_hw1.2.2.2.2.2.2.2.2.2.2.2.2.2.2.2.2.2.2.2.2.2.2.2.1 k0_h80
theorem k0_mult222_dvd : ∀ (d0 : Dev nD) (v17 : BitVec 32) (k0_hw1 : k0_chk1 d0 v17), ∀ (k0_h80 : k0_cond80 d0 v17 = 1#1), 8 ∣ (k0_mult222 d0 v17).toNat := fun d0 v17 k0_hw1 k0_h80 => k0_hw1.2.2.2.2.2.2.2.2.2.2.2.2.2.2.2.2.2.2.2.2.2.2.2.2.1 k0_h80
theorem k0_off174_inb : ∀ (d0 : Dev nD) (v17 : BitVec 32) (k0_hw1 : k0_chk1 d0 v17), ∀ (k0_h80 : k0_cond80 d0 v17 = 1#1), ∀ a, (k0_off174 d0 v17) a + S1024x128.size a ≤ S32768x128.size a := fun d0 v17 k0_hw1 k0_h80 => k0_hw1.2.2.2.2.2.2.2.2.2.2.2.2.2.2.2.2.2.2.2.2.2.2.2.2.2.1 k0_h80
theorem k0_off175_inb : ∀ (d0 : Dev nD) (v17 : BitVec 32) (k0_hw1 : k0_chk1 d0 v17), ∀ (k0_h80 : k0_cond80 d0 v17 = 1#1), ∀ a, (k0_off175 d0 v17) a + S1024x128.size a ≤ S32768x128.size a := fun d0 v17 k0_hw1 k0_h80 => k0_hw1.2.2.2.2.2.2.2.2.2.2.2.2.2.2.2.2.2.2.2.2.2.2.2.2.2.2.1 k0_h80
theorem k0_off175_wordsbf16 : ∀ (d0 : Dev nD) (v17 : BitVec 32) (k0_hw1 : k0_chk1 d0 v17), ∀ (k0_h80 : k0_cond80 d0 v17 = 1#1), (Rect.unit (s := S32768x128) (k0_off175 d0 v17) S1024x128.size (k0_off175_inb d0 v17 k0_hw1 k0_h80)).WholeWords (EltTy.packing .bf16) := fun d0 v17 k0_hw1 k0_h80 => k0_hw1.2.2.2.2.2.2.2.2.2.2.2.2.2.2.2.2.2.2.2.2.2.2.2.2.2.2.2.1 k0_h80 (k0_off175_inb d0 v17 k0_hw1 k0_h80)
theorem k0_off174_wordsbf16 : ∀ (d0 : Dev nD) (v17 : BitVec 32) (k0_hw1 : k0_chk1 d0 v17), ∀ (k0_h80 : k0_cond80 d0 v17 = 1#1), (Rect.unit (s := S32768x128) (k0_off174 d0 v17) S1024x128.size (k0_off174_inb d0 v17 k0_hw1 k0_h80)).WholeWords (EltTy.packing .bf16) := fun d0 v17 k0_hw1 k0_h80 => k0_hw1.2.2.2.2.2.2.2.2.2.2.2.2.2.2.2.2.2.2.2.2.2.2.2.2.2.2.2.2.1 k0_h80 (k0_off174_inb d0 v17 k0_hw1 k0_h80)
theorem k0_mult223_dvd : ∀ (d0 : Dev nD) (v17 : BitVec 32) (k0_hw1 : k0_chk1 d0 v17), ∀ (k0_h80 : k0_cond80 d0 v17 = 1#1), 8 ∣ (k0_mult223 d0 v17).toNat := fun d0 v17 k0_hw1 k0_h80 => k0_hw1.2.2.2.2.2.2.2.2.2.2.2.2.2.2.2.2.2.2.2.2.2.2.2.2.2.2.2.2.2.1 k0_h80
theorem k0_mult224_dvd : ∀ (d0 : Dev nD) (v17 : BitVec 32) (k0_hw1 : k0_chk1 d0 v17), ∀ (k0_h80 : k0_cond80 d0 v17 = 1#1), 8 ∣ (k0_mult224 d0 v17).toNat := fun d0 v17 k0_hw1 k0_h80 => k0_hw1.2.2.2.2.2.2.2.2.2.2.2.2.2.2.2.2.2.2.2.2.2.2.2.2.2.2.2.2.2.2.1 k0_h80
theorem k0_off176_inb : ∀ (d0 : Dev nD) (v17 : BitVec 32) (k0_hw1 : k0_chk1 d0 v17), ∀ (k0_h80 : k0_cond80 d0 v17 = 1#1), ∀ a, (k0_off176 d0 v17) a + S1024x128.size a ≤ S32768x128.size a := fun d0 v17 k0_hw1 k0_h80 => k0_hw1.2.2.2.2.2.2.2.2.2.2.2.2.2.2.2.2.2.2.2.2.2.2.2.2.2.2.2.2.2.2.2.1 k0_h80
theorem k0_off176_wordsbf16 : ∀ (d0 : Dev nD) (v17 : BitVec 32) (k0_hw1 : k0_chk1 d0 v17), ∀ (k0_h80 : k0_cond80 d0 v17 = 1#1), (Rect.unit (s := S32768x128) (k0_off176 d0 v17) S1024x128.size (k0_off176_inb d0 v17 k0_hw1 k0_h80)).WholeWords (EltTy.packing .bf16) := fun d0 v17 k0_hw1 k0_h80 => k0_hw1.2.2.2.2.2.2.2.2.2.2.2.2.2.2.2.2.2.2.2.2.2.2.2.2.2.2.2.2.2.2.2.2 k0_h80 (k0_off176_inb d0 v17 k0_hw1 k0_h80)

abbrev stage0_0 : Fin 1 → Memref sig .tc .vmem S32768x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Offsets.lean ====
module

public import proofs.«01_k».proof.Proof.Gen.KernelIdeal.Skeleton

/-! # Where the kernel's transfers go when half of the rows are kept

Four devices in a 2 × 2 mesh: device `c` has `x = c / 2` and `y = c % 2`.  The kernel reads one word, the
number of rows that device `c` sorts to the front, and computes every condition, offset and side
condition from it.  At the word 2048 each of them is a closed expression of the device; this module
states them, one evaluation over the four devices per group. -/

@[expose] public section

namespace Cert.Proof

open Idealize.ShloMosaic Idealize.SL.Sem Cert.KernelIdeal Cert.KernelIdeal.Gen

/-- The device in the same row of the mesh with the other `y`. -/
def ypeer (c : Dev nD) : Dev nD := ⟨c.val / 2 * 2 + (1 - c.val % 2), by have := c.isLt; simp only [nD] at *; omega⟩
/-- The device in the same column of the mesh with the other `x`. -/
def xpeer (c : Dev nD) : Dev nD := ⟨(1 - c.val / 2) * 2 + c.val % 2, by have := c.isLt; simp only [nD] at *; omega⟩

theorem ypeer_ypeer : ∀ c, ypeer (ypeer c) = c := by decide
theorem xpeer_xpeer : ∀ c, xpeer (xpeer c) = c := by decide
theorem ypeer_xpeer : ∀ c, ypeer (xpeer c) = xpeer (ypeer c) := by decide

/-- The first row of the half that device `c` receives; the other half it keeps. -/
def recvRow (c : Dev nD) : Nat := 16384 * (1 - c.val % 2)
/-- The first row of the half that device `c` keeps. -/
def keepRow (c : Dev nD) : Nat := 16384 * (c.val % 2)
/-- Chunk `k` of what device `c` receives from its `y` neighbour and passes on to its `x` neighbour.  The same
    rows of its sorted input are chunk `k` of what it sends. -/
def inRow (c : Dev nD) (k : Nat) : Nat := recvRow c + 8192 * (c.val / 2) + 1024 * k
/-- Chunk `k` of what device `c` copies locally. -/
def ownRow (c : Dev nD) (k : Nat) : Nat := keepRow c + 4096 * k

theorem inRow_le : ∀ (c : Dev nD) (k : Fin 8), inRow c k + 1024 ≤ 32768 := by decide
theorem ownRow_le : ∀ (c : Dev nD) (k : Fin 4), ownRow c k + 4096 ≤ 32768 := by decide

/-- The two entry signals go to the two neighbours. -/
theorem signal_dev : ∀ c : Dev nD,
    (⟨k0_dev1 c, k0_dev1_lt c⟩ : Dev nD) = ypeer c ∧
    (⟨k0_dev2 c, k0_dev2_lt c⟩ : Dev nD) = xpeer c := by decide +kernel

/-- The transfers of sorted rows go to the `y` neighbour. -/
theorem send_dev : ∀ c : Dev nD,
    (⟨k0_dev3 c, k0_dev3_lt c⟩ : Dev nD) = ypeer c ∧
    (⟨k0_dev4 c, k0_dev4_lt c⟩ : Dev nD) = ypeer c ∧
    (⟨k0_dev5 c, k0_dev5_lt c⟩ : Dev nD) = ypeer c ∧
    (⟨k0_dev6 c, k0_dev6_lt c⟩ : Dev nD) = ypeer c ∧
    (⟨k0_dev7 c, k0_dev7_lt c⟩ : Dev nD) = ypeer c ∧
    (⟨k0_dev8 c, k0_dev8_lt c⟩ : Dev nD) = ypeer c ∧
    (⟨k0_dev9 c, k0_dev9_lt c⟩ : Dev nD) = ypeer c ∧
    (⟨k0_dev10 c, k0_dev10_lt c⟩ : Dev nD) = ypeer c := by decide +kernel

/-- The forwarded chunks go to the `x` neighbour. -/
theorem fwd_dev : ∀ c : Dev nD,
    (⟨k0_dev19 c, k0_dev19_lt c⟩ : Dev nD) = xpeer c ∧
    (⟨k0_dev20 c, k0_dev20_lt c⟩ : Dev nD) = xpeer c ∧
    (⟨k0_dev21 c, k0_dev21_lt c⟩ : Dev nD) = xpeer c ∧
    (⟨k0_dev22 c, k0_dev22_lt c⟩ : Dev nD) = xpeer c ∧
    (⟨k0_dev23 c, k0_dev23_lt c⟩ : Dev nD) = xpeer c ∧
    (⟨k0_dev24 c, k0_dev24_lt c⟩ : Dev nD) = xpeer c ∧
    (⟨k0_dev25 c, k0_dev25_lt c⟩ : Dev nD) = xpeer c ∧
    (⟨k0_dev26 c, k0_dev26_lt c⟩ : Dev nD) = xpeer c := by decide +kernel

/-- The sends that happen. -/
theorem send_on : ∀ c : Dev nD,
    k0_cond1 c 2048#32 = 1#1 ∧
    k0_cond2 c 2048#32 = 1#1 ∧
    k0_cond3 c 2048#32 = 1#1 ∧
    k0_cond4 c 2048#32 = 1#1 ∧
    k0_cond5 c 2048#32 = 1#1 ∧
    k0_cond6 c 2048#32 = 1#1 ∧
    k0_cond7 c 2048#32 = 1#1 ∧
    k0_cond8 c 2048#32 = 1#1 := by decide +kernel

/-- The sends that do not happen. -/
theorem send_off : ∀ c : Dev nD,
    ¬ k0_cond9 c 2048#32 = 1#1 ∧
    ¬ k0_cond10 c 2048#32 = 1#1 ∧
    ¬ k0_cond11 c 2048#32 = 1#1 ∧
    ¬ k0_cond12 c 2048#32 = 1#1 ∧
    ¬ k0_cond13 c 2048#32 = 1#1 ∧
    ¬ k0_cond14 c 2048#32 = 1#1 ∧
    ¬ k0_cond15 c 2048#32 = 1#1 ∧
    ¬ k0_cond16 c 2048#32 = 1#1 := by decide +kernel

/-- The local copies that happen. -/
theorem keep_on : ∀ c : Dev nD,
    k0_cond17 c 2048#32 = 1#1 ∧
    k0_cond18 c 2048#32 = 1#1 ∧
    k0_cond19 c 2048#32 = 1#1 ∧
    k0_cond20 c 2048#32 = 1#1 := by decide +kernel

/-- The local copies that do not happen. -/
theorem keep_off : ∀ c : Dev nD,
    ¬ k0_cond21 c 2048#32 = 1#1 ∧
    ¬ k0_cond22 c 2048#32 = 1#1 ∧
    ¬ k0_cond23 c 2048#32 = 1#1 ∧
    ¬ k0_cond24 c 2048#32 = 1#1 := by decide +kernel

/-- The waits for a received chunk, each with its forwarding, that happen. -/
theorem fwd_on : ∀ c : Dev nD,
    k0_cond25 c 2048#32 = 1#1 ∧
    k0_cond26 c 2048#32 = 1#1 ∧
    k0_cond27 c 2048#32 = 1#1 ∧
    k0_cond28 c 2048#32 = 1#1 ∧
    k0_cond29 c 2048#32 = 1#1 ∧
    k0_cond30 c 2048#32 = 1#1 ∧
    k0_cond31 c 2048#32 = 1#1 ∧
    k0_cond32 c 2048#32 = 1#1 := by decide +kernel

/-- The waits for a received chunk, each with its forwarding, that do not happen. -/
theorem fwd_off : ∀ c : Dev nD,
    ¬ k0_cond33 c 2048#32 = 1#1 ∧
    ¬ k0_cond34 c 2048#32 = 1#1 ∧
    ¬ k0_cond35 c 2048#32 = 1#1 ∧
    ¬ k0_cond36 c 2048#32 = 1#1 ∧
    ¬ k0_cond37 c 2048#32 = 1#1 ∧
    ¬ k0_cond38 c 2048#32 = 1#1 ∧
    ¬ k0_cond39 c 2048#32 = 1#1 ∧
    ¬ k0_cond40 c 2048#32 = 1#1 := by decide +kernel

/-- The waits for a local copy that happen. -/
theorem keepWait_on : ∀ c : Dev nD,
    k0_cond41 c 2048#32 = 1#1 ∧
    k0_cond42 c 2048#32 = 1#1 ∧
    k0_cond43 c 2048#32 = 1#1 ∧
    k0_cond44 c 2048#32 = 1#1 := by decide +kernel

/-- The waits for a local copy that do not happen. -/
theorem keepWait_off : ∀ c : Dev nD,
    ¬ k0_cond45 c 2048#32 = 1#1 ∧
    ¬ k0_cond46 c 2048#32 = 1#1 ∧
    ¬ k0_cond47 c 2048#32 = 1#1 ∧
    ¬ k0_cond48 c 2048#32 = 1#1 := by decide +kernel

/-- The waits for a forwarded chunk that happen. -/
theorem fwdWait_on : ∀ c : Dev nD,
    k0_cond49 c 2048#32 = 1#1 ∧
    k0_cond50 c 2048#32 = 1#1 ∧
    k0_cond51 c 2048#32 = 1#1 ∧
    k0_cond52 c 2048#32 = 1#1 ∧
    k0_cond53 c 2048#32 = 1#1 ∧
    k0_cond54 c 2048#32 = 1#1 ∧
    k0_cond55 c 2048#32 = 1#1 ∧
    k0_cond56 c 2048#32 = 1#1 := by decide +kernel

/-- The waits for a forwarded chunk that do not happen. -/
theorem fwdWait_off : ∀ c : Dev nD,
    ¬ k0_cond57 c 2048#32 = 1#1 ∧
    ¬ k0_cond58 c 2048#32 = 1#1 ∧
    ¬ k0_cond59 c 2048#32 = 1#1 ∧
    ¬ k0_cond60 c 2048#32 = 1#1 ∧
    ¬ k0_cond61 c 2048#32 = 1#1 ∧
    ¬ k0_cond62 c 2048#32 = 1#1 ∧
    ¬ k0_cond63 c 2048#32 = 1#1 ∧
    ¬ k0_cond64 c 2048#32 = 1#1 := by decide +kernel

/-- The waits for the sent and forwarded chunks to have left that happen. -/
theorem end_on : ∀ c : Dev nD,
    k0_cond65 c 2048#32 = 1#1 ∧
    k0_cond66 c 2048#32 = 1#1 ∧
    k0_cond67 c 2048#32 = 1#1 ∧
    k0_cond68 c 2048#32 = 1#1 ∧
    k0_cond69 c 2048#32 = 1#1 ∧
    k0_cond70 c 2048#32 = 1#1 ∧
    k0_cond71 c 2048#32 = 1#1 ∧
    k0_cond72 c 2048#32 = 1#1 := by decide +kernel

/-- The waits for the sent and forwarded chunks to have left that do not happen. -/
theorem end_off : ∀ c : Dev nD,
    ¬ k0_cond73 c 2048#32 = 1#1 ∧
    ¬ k0_cond74 c 2048#32 = 1#1 ∧
    ¬ k0_cond75 c 2048#32 = 1#1 ∧
    ¬ k0_cond76 c 2048#32 = 1#1 ∧
    ¬ k0_cond77 c 2048#32 = 1#1 ∧
    ¬ k0_cond78 c 2048#32 = 1#1 ∧
    ¬ k0_cond79 c 2048#32 = 1#1 ∧
    ¬ k0_cond80 c 2048#32 = 1#1 := by decide +kernel

/-- The rows sent, on the receiver and on the sender. -/
theorem send_offs : ∀ c : Dev nD,
    (k0_off1 c 2048#32 = ![inRow (ypeer c) 0, 0] ∧ k0_off2 c 2048#32 = ![inRow c 0, 0]) ∧
    (k0_off3 c 2048#32 = ![inRow (ypeer c) 1, 0] ∧ k0_off4 c 2048#32 = ![inRow c 1, 0]) ∧
    (k0_off5 c 2048#32 = ![inRow (ypeer c) 2, 0] ∧ k0_off6 c 2048#32 = ![inRow c 2, 0]) ∧
    (k0_off7 c 2048#32 = ![inRow (ypeer c) 3, 0] ∧ k0_off8 c 2048#32 = ![inRow c 3, 0]) ∧
    (k0_off9 c 2048#32 = ![inRow (ypeer c) 4, 0] ∧ k0_off10 c 2048#32 = ![inRow c 4, 0]) ∧
    (k0_off11 c 2048#32 = ![inRow (ypeer c) 5, 0] ∧ k0_off12 c 2048#32 = ![inRow c 5, 0]) ∧
    (k0_off13 c 2048#32 = ![inRow (ypeer c) 6, 0] ∧ k0_off14 c 2048#32 = ![inRow c 6, 0]) ∧
    (k0_off15 c 2048#32 = ![inRow (ypeer c) 7, 0] ∧ k0_off16 c 2048#32 = ![inRow c 7, 0]) := by decide +kernel

/-- The rows copied locally, in the result and in the sorted input. -/
theorem keep_offs : ∀ c : Dev nD,
    (k0_off33 c 2048#32 = ![ownRow c 0, 0] ∧ k0_off34 c 2048#32 = ![ownRow c 0, 0]) ∧
    (k0_off35 c 2048#32 = ![ownRow c 1, 0] ∧ k0_off36 c 2048#32 = ![ownRow c 1, 0]) ∧
    (k0_off37 c 2048#32 = ![ownRow c 2, 0] ∧ k0_off38 c 2048#32 = ![ownRow c 2, 0]) ∧
    (k0_off39 c 2048#32 = ![ownRow c 3, 0] ∧ k0_off40 c 2048#32 = ![ownRow c 3, 0]) := by decide +kernel

/-- The rows forwarded. -/
theorem fwd_offs : ∀ c : Dev nD,
    k0_off51 c 2048#32 = ![inRow c 0, 0] ∧
    k0_off54 c 2048#32 = ![inRow c 1, 0] ∧
    k0_off57 c 2048#32 = ![inRow c 2, 0] ∧
    k0_off60 c 2048#32 = ![inRow c 3, 0] ∧
    k0_off63 c 2048#32 = ![inRow c 4, 0] ∧
    k0_off66 c 2048#32 = ![inRow c 5, 0] ∧
    k0_off69 c 2048#32 = ![inRow c 6, 0] ∧
    k0_off72 c 2048#32 = ![inRow c 7, 0] := by decide +kernel

/-- The side conditions the kernel states of the word it read all hold at 2048. -/
theorem chk_holds : ∀ c : Dev nD, k0_chk1 c 2048#32 := by
  have h : ∀ c : Dev nD, k0_chk1_0 c 2048#32 ∧
      k0_chk1_1 c 2048#32 ∧
      k0_chk1_2 c 2048#32 ∧
      k0_chk1_3 c 2048#32 ∧
      k0_chk1_4 c 2048#32 ∧
      k0_chk1_5 c 2048#32 ∧
      k0_chk1_6 c 2048#32 ∧
      k0_chk1_7 c 2048#32 ∧
      k0_chk1_8 c 2048#32 ∧
      k0_chk1_9 c 2048#32 ∧
      k0_chk1_10 c 2048#32 ∧
      k0_chk1_11 c 2048#32 ∧
      k0_chk1_12 c 2048#32 ∧
      k0_chk1_13 c 2048#32 ∧
      k0_chk1_14 c 2048#32 ∧
      k0_chk1_15 c 2048#32 ∧
      k0_chk1_16 c 2048#32 ∧
      k0_chk1_17 c 2048#32 := by decide +kernel
  exact h

end Cert.Proof

end
-- ==== Proof.Rows.lean ====
module

public import proofs.«01_k».proof.Proof.Offsets
public import Idealize.ShloMosaic.Lib.Pipeline.Kit
public import Idealize.ShloMosaic.Lib.ViewIndex
public import Idealize.ShloMosaic.Lib.Tactic

/-! # Runs of rows, and what every device holds in the end

Both buffers the kernel transfers between are 32768 rows of 128 lanes.  A transfer reads a run of whole rows of
one and writes a run of whole rows of the other.  Here: the set of elements of a run, that the printed
slices are such runs, how a whole buffer falls into the runs the kernel uses, and the final contents
`final X c` of device `c`'s result, as a function of the sorted inputs `X` of all devices.  Every transfer
carries rows of `final X` to rows of `final X`, so the protocol can name contents by it throughout. -/

@[expose] public section

noncomputable section

namespace Cert.Proof

open Idealize.ShloMosaic Idealize.SL Idealize.SL.Sem Cert.KernelIdeal Cert.KernelIdeal.Gen
open Idealize.ShloMosaic.TcCoe

variable {F : FTy → Type} [FloatOps F]

/-- An element's position in the two buffers. -/
abbrev RIdx : Type := S32768x128.Idx
/-- The contents of such a buffer. -/
abbrev Rows (F : FTy → Type) : Type := RIdx → Elt F .bf16

/-- The elements of the `n` rows from row `a`. -/
def rowSet (a n : Nat) : Finset RIdx := Finset.univ.filter fun i => a ≤ (i 0).val ∧ (i 0).val < a + n

theorem mem_rowSet {a n : Nat} {i : RIdx} : i ∈ rowSet a n ↔ a ≤ (i 0).val ∧ (i 0).val < a + n := by
  simp [rowSet]

theorem rowSet_disjoint {a n b k : Nat} (h : a + n ≤ b ∨ b + k ≤ a) : Disjoint (rowSet a n) (rowSet b k) :=
  Finset.disjoint_left.mpr fun i hi hj => by rw [mem_rowSet] at hi hj; omega

/-- A printed slice of whole rows covers exactly those rows. -/
theorem slice_set {n : Nat} (b : Ref sig .tc) (hb : b.ty.shape = S32768x128) (a : Nat)
    (h : ∀ x, (![a, 0] : Fin 2 → Nat) x + (![n, 128] : Fin 2 → Nat) x ≤ S32768x128.size x) :
    (Rect.unit (s := S32768x128) ![a, 0] ![n, 128] h).set = rowSet a n := by
  ext i
  rw [LoadRect.mem_set, mem_rowSet]
  have hi : (i 1).val < 128 := (i 1).isLt
  constructor
  · intro H
    obtain ⟨j, hj, e⟩ := H 0
    simp only [Rect.unit, Matrix.cons_val_zero] at hj e
    omega
  · intro H x
    match x with
    | ⟨0, _⟩ => exact ⟨(i 0).val - a, by simp [Rect.unit]; omega, by simp [Rect.unit]; omega⟩
    | ⟨1, _⟩ => exact ⟨(i 1).val, by simp [Rect.unit]; omega, by simp [Rect.unit]⟩

/-! ## The final contents -/

/-- The device whose sorted rows end at row `r` of device `c`'s result. -/
def srcDev (c : Dev nD) (r : Nat) : Dev nD :=
  if r / 16384 = c.val % 2 then c else if r % 16384 / 8192 = c.val / 2 then ypeer c else ypeer (xpeer c)

/-- The row of that device's sorted input: the same row in the kept half, the row half a buffer away in the other. -/
def srcRow (c : Dev nD) (r : Nat) : Nat := if r / 16384 = c.val % 2 then r else (r + 16384) % 32768

theorem srcRow_lt (c : Dev nD) {r : Nat} (h : r < 32768) : srcRow c r < 32768 := by unfold srcRow; split <;> omega

/-- The element at row `r` and the lane of `i`. -/
def atRow (i : RIdx) (r : Nat) (h : r < 32768) : RIdx := fun | ⟨0, _⟩ => (⟨r, h⟩ : Fin 32768) | ⟨1, _⟩ => i 1

theorem row_lt (i : RIdx) : (i 0).val < 32768 := (i 0).isLt

/-- Device `c`'s result in the end. -/
def final (X : Dev nD → Rows F) (c : Dev nD) : Rows F :=
  fun i => X (srcDev c (i 0).val) (atRow i (srcRow c (i 0).val) (srcRow_lt c (row_lt i)))

theorem dev_cases (c : Dev nD) : c = 0 ∨ c = 1 ∨ c = 2 ∨ c = 3 := by revert c; decide

theorem ridx_ext {i j : RIdx} (h0 : (i 0).val = (j 0).val) (h1 : (i 1).val = (j 1).val) : i = j :=
  funext fun x => by
    match x with
    | ⟨0, _⟩ => exact Fin.ext h0
    | ⟨1, _⟩ => exact Fin.ext h1

theorem final_eq (X : Dev nD → Rows F) (c : Dev nD) (i j : RIdx) {d : Dev nD} {r : Nat} (hd : srcDev c (i 0).val = d) (hr : srcRow c (i 0).val = r)
    (h0 : (j 0).val = r) (h1 : (i 1).val = (j 1).val) : final X c i = X d j := by
  unfold final
  rw [hd]
  exact congrArg (X d) (ridx_ext (hr.trans h0.symm) h1)

/-- In a kept row the result is the device's own sorted row. -/
theorem final_keep (X : Dev nD → Rows F) (c : Dev nD) {i : RIdx} (h : (i 0).val / 16384 = c.val % 2) : final X c i = X c i :=
  final_eq X c i i (if_pos h) (if_pos h) rfl rfl

theorem ypeer_mod : ∀ c : Dev nD, (ypeer c).val % 2 = 1 - c.val % 2 ∧ (ypeer c).val / 2 = c.val / 2 := by decide
theorem xpeer_mod : ∀ c : Dev nD, (xpeer c).val % 2 = c.val % 2 ∧ (xpeer c).val / 2 = 1 - c.val / 2 := by decide

/-- A received chunk lies in the received half, and in the quarter of the receiver's `x`. -/
theorem inRow_at (c : Dev nD) (k j : Nat) (hk : k < 8) (hj : j < 1024) :
    (inRow c k + j) / 16384 = 1 - c.val % 2 ∧ (inRow c k + j) % 16384 / 8192 = c.val / 2 := by
  have hc : c.val < 4 := c.isLt
  unfold inRow recvRow
  omega

/-- A kept run lies in the kept half. -/
theorem own_half (c : Dev nD) (k j : Nat) (hk : k < 4) (hj : j < 4096) : (ownRow c k + j) / 16384 = c.val % 2 := by
  unfold ownRow keepRow
  omega

theorem src_send (c : Dev nD) (k j : Nat) (hk : k < 8) (hj : j < 1024) :
    srcDev (ypeer c) (inRow (ypeer c) k + j) = c ∧ srcRow (ypeer c) (inRow (ypeer c) k + j) = inRow c k + j := by
  have h := inRow_at (ypeer c) k j hk hj
  have hy := ypeer_mod c
  unfold srcDev srcRow
  rw [h.1, h.2, if_neg (by omega), if_pos rfl, ypeer_ypeer, if_neg (by omega)]
  refine ⟨rfl, ?_⟩
  unfold inRow recvRow
  rw [hy.1, hy.2]
  have hc : c.val < 4 := c.isLt
  omega

theorem src_fwd (c : Dev nD) (k j : Nat) (hk : k < 8) (hj : j < 1024) :
    srcDev (xpeer c) (inRow c k + j) = srcDev c (inRow c k + j) ∧ srcRow (xpeer c) (inRow c k + j) = srcRow c (inRow c k + j) := by
  have h := inRow_at c k j hk hj
  have hx := xpeer_mod c
  have hc : c.val < 4 := c.isLt
  unfold srcDev srcRow
  rw [h.1, h.2, hx.1, hx.2, if_neg (by omega), if_neg (by omega), if_neg (by omega), if_pos rfl, if_neg (by omega), xpeer_xpeer]
  exact ⟨rfl, rfl⟩

/-- A chunk sent: row `j` of the chunk on the sender is row `j` of the receiver's final contents. -/
theorem final_send (X : Dev nD → Rows F) (c : Dev nD) (k : Nat) (hk : k < 8) (i i' : RIdx) (j : Nat) (hj : j < 1024)
    (hi : (i 0).val = inRow (ypeer c) k + j) (hi' : (i' 0).val = inRow c k + j) (h1 : (i 1).val = (i' 1).val) :
    X c i' = final X (ypeer c) i := by
  refine (final_eq X (ypeer c) i i' (r := inRow c k + j) ?_ ?_ hi' h1).symm
  · rw [hi]; exact (src_send c k j hk hj).1
  · rw [hi]; exact (src_send c k j hk hj).2

/-- A chunk forwarded: the two devices of a column end with the same rows there. -/
theorem final_fwd (X : Dev nD → Rows F) (c : Dev nD) (k : Nat) (hk : k < 8) (i : RIdx) (j : Nat) (hj : j < 1024)
    (hi : (i 0).val = inRow c k + j) : final X c i = final X (xpeer c) i := by
  refine (final_eq X (xpeer c) i (atRow i (srcRow c (i 0).val) (srcRow_lt c (row_lt i))) (d := srcDev c (i 0).val) (r := srcRow c (i 0).val)
    ?_ ?_ rfl rfl).symm
  · rw [hi]; exact (src_fwd c k j hk hj).1
  · rw [hi]; exact (src_fwd c k j hk hj).2

/-! ## A whole buffer in runs -/

/-- The four runs of the half a device keeps. -/
def ownRows (c : Dev nD) : Finset RIdx := (Finset.range 4).biUnion fun k => rowSet (ownRow c k) 4096
/-- The eight runs of its quarter of the half it receives, or, at its `x` neighbour's name, of the other quarter. -/
def inRows (c : Dev nD) : Finset RIdx := (Finset.range 8).biUnion fun k => rowSet (inRow c k) 1024

theorem mem_ownRows {c : Dev nD} {i : RIdx} : i ∈ ownRows c ↔ (i 0).val / 16384 = c.val % 2 := by
  unfold ownRows
  have hi := row_lt i
  have hc : c.val < 4 := c.isLt
  constructor
  · intro h
    obtain ⟨k, hk, h⟩ := Finset.mem_biUnion.mp h
    rw [mem_rowSet, ownRow, keepRow] at h; rw [Finset.mem_range] at hk
    omega
  · intro h
    refine Finset.mem_biUnion.mpr ⟨(i 0).val % 16384 / 4096, Finset.mem_range.mpr (by omega), ?_⟩
    rw [mem_rowSet, ownRow, keepRow]; omega

theorem mem_inRows {c : Dev nD} {i : RIdx} : i ∈ inRows c ↔ (i 0).val / 16384 = 1 - c.val % 2 ∧ (i 0).val % 16384 / 8192 = c.val / 2 := by
  unfold inRows
  have hi := row_lt i
  have hc : c.val < 4 := c.isLt
  constructor
  · intro h
    obtain ⟨k, hk, h⟩ := Finset.mem_biUnion.mp h
    rw [mem_rowSet, inRow, recvRow] at h; rw [Finset.mem_range] at hk
    omega
  · intro h
    refine Finset.mem_biUnion.mpr ⟨(i 0).val % 8192 / 1024, Finset.mem_range.mpr (by omega), ?_⟩
    rw [mem_rowSet, inRow, recvRow]; omega

theorem rows_cover (c : Dev nD) : (Finset.univ : Finset RIdx) = ownRows c ∪ (inRows c ∪ inRows (xpeer c)) := by
  ext i
  have hi := row_lt i
  have hc : c.val < 4 := c.isLt
  have hx := xpeer_mod c
  rw [Finset.mem_union, Finset.mem_union, mem_ownRows, mem_inRows, mem_inRows, hx.1, hx.2]
  simp only [Finset.mem_univ, true_iff]
  omega

theorem rows_disjoint (c : Dev nD) : Disjoint (ownRows c) (inRows c ∪ inRows (xpeer c)) :=
  Finset.disjoint_left.mpr fun i h h' => by
    have hx := xpeer_mod c
    rw [Finset.mem_union, mem_inRows, mem_inRows, hx.1] at h'
    rw [mem_ownRows] at h
    omega

theorem inRows_disjoint (c : Dev nD) : Disjoint (inRows c) (inRows (xpeer c)) :=
  Finset.disjoint_left.mpr fun i h h' => by
    have hx := xpeer_mod c
    have hc : c.val < 4 := c.isLt
    rw [mem_inRows] at h h'
    rw [hx.2] at h'
    omega

theorem own_apart (c : Dev nD) (k : Nat) (_ : k ∈ Finset.range 4) (k' : Nat) (_ : k' ∈ Finset.range 4) (h : k ≠ k') :
    Disjoint (rowSet (ownRow c k) 4096) (rowSet (ownRow c k') 4096) :=
  rowSet_disjoint (by unfold ownRow; omega)

theorem in_apart (c : Dev nD) (k : Nat) (_ : k ∈ Finset.range 8) (k' : Nat) (_ : k' ∈ Finset.range 8) (h : k ≠ k') :
    Disjoint (rowSet (inRow c k) 1024) (rowSet (inRow c k') 1024) :=
  rowSet_disjoint (by unfold inRow; omega)

end Cert.Proof

end

end
-- ==== Proof.Schedule.lean ====
module

public import proofs.«01_k».proof.Proof.Rows
public import proofs.«01_k».proof.Proof.Gen.KernelIdeal.Launch
public import Idealize.ShloMosaic.Lib.Pipeline.Launch
public import Idealize.SL.BI.BigOpNat

/-! # The protocol's schedule

The semaphores of device `c` and what each one's units stand for, all in one round:

* the barrier, two units: one from each neighbour.  The unit from the `y` neighbour brings the eight runs of rows of
  that neighbour's result that `c` writes, the unit from the `x` neighbour the eight runs of that one's;
* `sent k`, the `k`th chunk has left: its source rows come back;
* `got k`, the `k`th chunk has come from the `y` neighbour: eight runs of the result at their final contents;
* `passed k`, the forwarded chunk has left: its source rows, which are result rows, come back;
* `mirrored k`, the `k`th chunk has come from the `x` neighbour: its run of the result at its final contents;
* `kept k`, the `k`th local copy is complete: result rows at their final contents and the source rows.

Levels, the order in which a device may wait while it still owes units: the barrier below `got`, `got` below
`mirrored`.  The others are filled by the device's own transfers, and are waited for when it owes nothing. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds, and the exchange's with duties named by the neighbour. -/
abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## Cells and locations -/

abbrev xM : Memref sig .tc .vmem S32768x128 .bf16 := Memref.whole cc0_stg0_0
abbrev outM : Memref sig .tc .vmem S32768x128 .bf16 := Memref.whole cc0_stg2_0

abbrev barS : SemLoc sig := .reg barrier0
/-- DMA semaphore number `n`. -/
abbrev dsem (n : Nat) : DmaSem sig := Fin.ofNat 75 n

def barC (c : Dev nD) : GSem nD τ sig := ((c : Thread nD τ), barS)
def dmaC (c : Dev nD) (n : Nat) : GSem nD τ sig := ((c : Thread nD τ), .dma (dsem n))
abbrev sentC (c : Dev nD) (k : Nat) : GSem nD τ sig := dmaC c (3 + k)
abbrev gotC (c : Dev nD) (k : Nat) : GSem nD τ sig := dmaC c (19 + k)
abbrev passedC (c : Dev nD) (k : Nat) : GSem nD τ sig := dmaC c (35 + k)
abbrev mirroredC (c : Dev nD) (k : Nat) : GSem nD τ sig := dmaC c (51 + k)
abbrev keptC (c : Dev nD) (k : Nat) : GSem nD τ sig := dmaC c (67 + k)

/-- The DMA semaphores the exchange uses: eight of each family of sixteen, four of the local copies' eight. -/
def Used (n : Nat) : Prop := (3 ≤ n ∧ n < 67 ∧ (n - 3) % 16 < 8) ∨ (67 ≤ n ∧ n < 71)
instance (n : Nat) : Decidable (Used n) := by unfold Used; infer_instance

/-- The units of a chunk of 1024 rows and of a local copy of 4096. -/
def N1 : ℕ := (cc0_stg2_0 : Ref sig .tc).dmaCredit S1024x128 .bf16
def N4 : ℕ := (cc0_stg2_0 : Ref sig .tc).dmaCredit S4096x128 .bf16

theorem N1_pos : 0 < N1 := View.dmaCredit_pos (View.slice (View.whole cc0_stg2_0) (Rect.unit (s := S32768x128) ![0, 0] S1024x128.size (by decide))) (by decide)
theorem N4_pos : 0 < N4 := View.dmaCredit_pos (View.slice (View.whole cc0_stg2_0) (Rect.unit (s := S32768x128) ![0, 0] S4096x128.size (by decide))) (by decide)

/-- Rows `[a, a + n)` of device `c`'s result, at contents `f`. -/
def outPts (c : Dev nD) (a n : Nat) (f : Rows F) : sProp 𝕄 := ((c : Thread nD τ).loc cc0_stg2_0) ↦[rowSet a n]{fullShare} f
/-- Rows `[a, a + n)` of device `c`'s sorted input. -/
def xPts (c : Dev nD) (a n : Nat) (f : Rows F) : sProp 𝕄 := ((c : Thread nD τ).loc cc0_stg0_0) ↦[rowSet a n]{fullShare} f

instance outPts_storable (c : Dev nD) (a n : Nat) (f : Rows F) : BI.Storable (upEmb : UEmb _ 𝕄) (outPts c a n f) := by
  unfold outPts; infer_instance
instance xPts_storable (c : Dev nD) (a n : Nat) (f : Rows F) : BI.Storable (upEmb : UEmb _ 𝕄) (xPts c a n f) := by
  unfold xPts; infer_instance

variable (X : Dev nD → Rows F)

theorem pointsTo_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  have hu : (ℓ ↦[I ∪ J]{q} f : sProp 𝕄) ⊣⊢ iprop((ℓ ↦[I]{q} f) ∗ ℓ ↦[J]{q} f) := pointsTo_union h
  BI.equiv_iff.mp ⟨hu.1, hu.2⟩

/-- A whole result buffer in the kernel's runs. -/
theorem out_split (c : Dev nD) (f : Rows F) :
    (((c : Thread nD τ).loc cc0_stg2_0) ↦{fullShare} f : sProp 𝕄)
      = iprop((bigSep (Finset.range 4) fun k => outPts c (ownRow c k) 4096 f)
          ∗ (bigSep (Finset.range 8) fun k => outPts c (inRow c k) 1024 f)
          ∗ (bigSep (Finset.range 8) fun k => outPts c (inRow (xpeer c) k) 1024 f)) := by
  unfold outPts
  rw [← pointsTo_biUnion _ _ (own_apart c), ← pointsTo_biUnion _ _ (in_apart c), ← pointsTo_biUnion _ _ (in_apart (xpeer c))]
  rw [show (Finset.univ : Finset (Idx ((c : Thread nD τ).loc cc0_stg2_0))) = _ from rows_cover c]
  rw [pointsTo_union_eq (rows_disjoint c), pointsTo_union_eq (inRows_disjoint c)]
  rfl

/-- A whole sorted input in the kernel's runs. -/
theorem x_split (c : Dev nD) (f : Rows F) :
    (((c : Thread nD τ).loc cc0_stg0_0) ↦{fullShare} f : sProp 𝕄)
      = iprop((bigSep (Finset.range 4) fun k => xPts c (ownRow c k) 4096 f)
          ∗ (bigSep (Finset.range 8) fun k => xPts c (inRow c k) 1024 f)
          ∗ (bigSep (Finset.range 8) fun k => xPts c (inRow (xpeer c) k) 1024 f)) := by
  unfold xPts
  rw [← pointsTo_biUnion _ _ (own_apart c), ← pointsTo_biUnion _ _ (in_apart c), ← pointsTo_biUnion _ _ (in_apart (xpeer c))]
  rw [show (Finset.univ : Finset (Idx ((c : Thread nD τ).loc cc0_stg0_0))) = _ from rows_cover c]
  rw [pointsTo_union_eq (rows_disjoint c), pointsTo_union_eq (inRows_disjoint c)]
  rfl

/-! ## The schedule -/

/-- What device `n` lets another write: chunk rows at whatever they hold, and that the cell counting them is open. -/
def room (n : Dev nD) (a : Nat) (g : GSem nD τ sig) : sProp 𝕄 := iprop((∃ f : Rows F, outPts n a 1024 f) ∗ reached EX g 0)

/-- The room device `n` gives its `y` neighbour, and its `x` neighbour. -/
def roomY (n : Dev nD) : sProp 𝕄 := bigSep (Finset.range 8) fun k => room (F := F) n (inRow n k) (gotC n k)
def roomX (n : Dev nD) : sProp 𝕄 := bigSep (Finset.range 8) fun k => room (F := F) n (inRow (xpeer n) k) (mirroredC n k)

instance room_storable (n : Dev nD) (a : Nat) (g : GSem nD τ sig) : BI.Storable (upEmb : UEmb _ 𝕄) (room (F := F) n a g) := by
  unfold room; infer_instance
instance roomY_storable (n : Dev nD) : BI.Storable (upEmb : UEmb _ 𝕄) (roomY (F := F) n) := by unfold roomY; infer_instance
instance roomX_storable (n : Dev nD) : BI.Storable (upEmb : UEmb _ 𝕄) (roomX (F := F) n) := by unfold roomX; infer_instance

/-- What a full DMA cell number `n` of device `c` hands its owner. -/
def dmaPay (c : Dev nD) (n : Nat) : sProp 𝕄 :=
  if n < 19 then xPts c (inRow c (n - 3)) 1024 (X c)
  else if n < 35 then outPts c (inRow c (n - 19)) 1024 (final X c)
  else if n < 51 then outPts c (inRow c (n - 35)) 1024 (final X c)
  else if n < 67 then outPts c (inRow (xpeer c) (n - 51)) 1024 (final X c)
  else iprop(outPts c (ownRow c (n - 67)) 4096 (final X c) ∗ xPts c (ownRow c (n - 67)) 4096 (X c))

instance dmaPay_storable (c : Dev nD) (n : Nat) : BI.Storable (upEmb : UEmb _ 𝕄) (dmaPay X c n) := by
  unfold dmaPay; (repeat' split) <;> infer_instance

/-- One round.  Of the barrier's two duties `false` is the `y` neighbour's and `true` the `x` neighbour's. -/
def sched : Rounds.Schedule (GSem nD τ sig) Bool 𝕄 where
  duties g r := if r = 0 ∧ g.1.2 = .tc then (match g.2 with | .reg s => if s = barrier0 then Finset.univ else ∅ | .dma q => if Used q.val then {false} else ∅) else ∅
  unitless _ := False
  amount g _ _ := match g.2 with | .reg _ => 1 | .dma q => if q.val < 67 then N1 else N4
  payload g _ d := match g.2 with
    | .reg _ => if d then roomX (xpeer g.1.1) else roomY (ypeer g.1.1)
    | .dma q => dmaPay X g.1.1 q.val
  amount_pos g _ _ _ := by
    rcases g.2 with s | q
    · exact Nat.one_pos
    · show 0 < if q.val < 67 then N1 else N4
      split
      · exact N1_pos
      · exact N4_pos

instance sched_storable (g : GSem nD τ sig) (r : ℕ) (d : Bool) : BI.Storable (upEmb : UEmb _ 𝕄) ((sched X).payload g r d) := by
  show BI.Storable upEmb (match g.2 with
    | .reg _ => if d then roomX (xpeer g.1.1) else roomY (ypeer g.1.1)
    | .dma q => dmaPay X g.1.1 q.val)
  rcases g.2 with s | q
  · show BI.Storable upEmb (if d then roomX (xpeer g.1.1) else roomY (ypeer g.1.1))
    split <;> infer_instance
  · exact dmaPay_storable X _ _

section Sched
variable (c : Dev nD) (n : Nat)

theorem dsem_val (h : n < 75) : (dsem n).val = n := Nat.mod_eq_of_lt h

theorem Used.lt {n : Nat} (h : Used n) : n < 75 := by unfold Used at h; omega

theorem duties_bar : (sched X).duties (barC c) 0 = Finset.univ := by
  show (if ((0 : ℕ) = 0 ∧ (Proc.tc : Proc τ) = .tc) then (if barrier0 = barrier0 then Finset.univ else ∅) else ∅) = _
  rw [if_pos ⟨rfl, rfl⟩, if_pos rfl]
theorem duties_dma (h : Used n) : (sched X).duties (dmaC c n) 0 = {false} := by
  show (if ((0 : ℕ) = 0 ∧ (Proc.tc : Proc τ) = .tc) then (if Used (dsem n).val then {false} else ∅) else ∅) = _
  rw [if_pos ⟨rfl, rfl⟩, dsem_val n h.lt, if_pos h]
theorem duties_later (g : GSem nD τ sig) : ∀ r, 1 ≤ r → (sched X).duties g r = ∅ :=
  fun r hr => if_neg fun h => by omega

theorem amount_bar (d : Bool) : (sched X).amount (barC c) 0 d = 1 := rfl
theorem amount_chunk (h : n < 67) (d : Bool) : (sched X).amount (dmaC c n) 0 d = N1 := by
  show (if (dsem n).val < 67 then N1 else N4) = _
  rw [dsem_val n (by omega), if_pos h]
theorem amount_kept (h : Used n) (h' : 67 ≤ n) (d : Bool) : (sched X).amount (dmaC c n) 0 d = N4 := by
  show (if (dsem n).val < 67 then N1 else N4) = _
  rw [dsem_val n h.lt, if_neg (by omega)]

theorem expect_bar : (sched X).expect (barC c) 0 = 2 := by
  unfold Schedule.expect Schedule.amountOf
  rw [duties_bar, Finset.sum_congr rfl fun d _ => amount_bar X c d, Finset.sum_const, Finset.card_univ, Fintype.card_bool, smul_eq_mul]
theorem expect_chunk (h : Used n) (h' : n < 67) : (sched X).expect (dmaC c n) 0 = N1 := by
  unfold Schedule.expect Schedule.amountOf; rw [duties_dma X c n h, Finset.sum_singleton, amount_chunk X c n h']
theorem expect_kept (h : Used n) (h' : 67 ≤ n) : (sched X).expect (dmaC c n) 0 = N4 := by
  unfold Schedule.expect Schedule.amountOf; rw [duties_dma X c n h, Finset.sum_singleton, amount_kept X c n h h']

theorem payload_bar_false : (sched X).payload (barC c) 0 false = roomY (ypeer c) := rfl
theorem payload_bar_true : (sched X).payload (barC c) 0 true = roomX (xpeer c) := rfl
theorem payload_dma (h : Used n) (d : Bool) : (sched X).payload (dmaC c n) 0 d = dmaPay X c n := by
  show dmaPay X c (dsem n).val = _
  rw [dsem_val n h.lt]

theorem rest_bar : bigSep ((sched X).duties (barC c) 0 \ ∅) (fun d => (sched X).payload (barC c) 0 d) = iprop(roomY (ypeer c) ∗ roomX (xpeer c)) := by
  rw [Finset.sdiff_empty, duties_bar, bigSep_univ_eq_bigSepL [false, true] (by decide) (by decide), bigSepL_cons_cons, bigSepL_singleton,
    payload_bar_false, payload_bar_true]
  rfl
theorem rest_dma (h : Used n) : bigSep ((sched X).duties (dmaC c n) 0 \ ∅) (fun d => (sched X).payload (dmaC c n) 0 d) = dmaPay X c n := by
  rw [Finset.sdiff_empty, duties_dma X c n h, bigSep_singleton, payload_dma X c n h]

end Sched

section Kinds
variable (c : Dev nD) (k : Nat)

theorem used_sent (h : k < 8) : Used (3 + k) := Or.inl (by omega)
theorem used_got (h : k < 8) : Used (19 + k) := Or.inl (by omega)
theorem used_passed (h : k < 8) : Used (35 + k) := Or.inl (by omega)
theorem used_mirrored (h : k < 8) : Used (51 + k) := Or.inl (by omega)
theorem used_kept (h : k < 4) : Used (67 + k) := Or.inr (by omega)

theorem pay_sent (h : k < 8) : dmaPay X c (3 + k) = xPts c (inRow c k) 1024 (X c) := by
  unfold dmaPay; rw [if_pos (by omega), Nat.add_sub_cancel_left]
theorem pay_got (h : k < 8) : dmaPay X c (19 + k) = outPts c (inRow c k) 1024 (final X c) := by
  unfold dmaPay; rw [if_neg (by omega), if_pos (by omega), Nat.add_sub_cancel_left]
theorem pay_passed (h : k < 8) : dmaPay X c (35 + k) = outPts c (inRow c k) 1024 (final X c) := by
  unfold dmaPay; rw [if_neg (by omega), if_neg (by omega), if_pos (by omega), Nat.add_sub_cancel_left]
theorem pay_mirrored (h : k < 8) : dmaPay X c (51 + k) = outPts c (inRow (xpeer c) k) 1024 (final X c) := by
  unfold dmaPay; rw [if_neg (by omega), if_neg (by omega), if_neg (by omega), if_pos (by omega), Nat.add_sub_cancel_left]
theorem pay_kept : dmaPay X c (67 + k) = iprop(outPts c (ownRow c k) 4096 (final X c) ∗ xPts c (ownRow c k) 4096 (X c)) := by
  unfold dmaPay; rw [if_neg (by omega), if_neg (by omega), if_neg (by omega), if_neg (by omega), Nat.add_sub_cancel_left]

end Kinds

/-! ## What each device owes, and the levels -/

/-- The units of chunks `8 - n, …, 7` into device `d`'s cells `first + k`. -/
def owedTo (d : Dev nD) (first : Nat) : Nat → CellTallies nD τ sig Unit
  | 0 => 0
  | n + 1 => owedTo d first n + tallyAt (dmaC d (first + (7 - n))) () N1

/-- What device `c` owes with `n` chunks to send and `j` to forward. -/
def owed (c : Dev nD) (n j : Nat) : CellTallies nD τ sig Unit := owedTo (xpeer c) 51 j + owedTo (ypeer c) 19 n
/-- What it owes at launch: also the two barrier units. -/
def owed₀ (c : Dev nD) : CellTallies nD τ sig Unit := owed c 8 8 + tallyAt (barC (xpeer c)) () 1 + tallyAt (barC (ypeer c)) () 1

theorem owedTo_at (d : Dev nD) (first k : Nat) (hk : k < 8) :
    owedTo d first (8 - k) = owedTo d first (8 - (k + 1)) + tallyAt (dmaC d (first + k)) () N1 := by
  have e : owedTo d first ((7 - k) + 1) = owedTo d first (7 - k) + tallyAt (dmaC d (first + (7 - (7 - k)))) () N1 := rfl
  rwa [show (7 - k) + 1 = 8 - k by omega, show 7 - (7 - k) = k by omega, show 7 - k = 8 - (k + 1) by omega] at e
theorem owed_send (c : Dev nD) (k : Nat) (hk : k < 8) (j : Nat) : owed c (8 - k) j = owed c (8 - (k + 1)) j + tallyAt (gotC (ypeer c) k) () N1 := by
  unfold owed; rw [owedTo_at _ _ k hk, add_assoc]
theorem owed_forward (c : Dev nD) (k : Nat) (hk : k < 8) : owed c 0 (8 - k) = owed c 0 (8 - (k + 1)) + tallyAt (mirroredC (xpeer c) k) () N1 := by
  unfold owed; rw [owedTo_at _ _ k hk]; exact add_right_comm _ _ _
theorem owed_nothing (c : Dev nD) : owed c 0 0 = 0 := add_zero _

def L (g : GSem nD τ sig) : Finset Unit := if g.1.2 = .tc then {()} else ∅
def lv (g : GSem nD τ sig) (_ : Unit) : ℕ := match g.2 with | .reg _ => 1 | .dma q => if 19 ≤ q.val ∧ q.val < 35 then 2 else if 51 ≤ q.val ∧ q.val < 67 then 3 else 0
theorem L_of_ne (g : GSem nD τ sig) (h : g.1.2 ≠ .tc) : L g = ∅ := if_neg h
theorem L_tc (c : Dev nD) (sm : SemLoc sig) : L ((c : Thread nD τ), sm) = {()} := if_pos rfl

theorem owedTo_pos {d : Dev nD} {first : Nat} : ∀ {n : Nat} {g : GSem nD τ sig} {u : Unit}, 0 < owedTo d first n g u → ∃ k < 8, g = dmaC d (first + k)
  | 0, g, u, h => absurd h (Nat.lt_irrefl 0)
  | n + 1, g, u, h => by
    rw [owedTo, Pi.add_apply, Finsupp.add_apply, tallyAt_apply] at h
    by_cases hg : g = dmaC d (first + (7 - n)) ∧ u = ()
    · exact ⟨7 - n, by omega, hg.1⟩
    · rw [if_neg hg] at h
      exact owedTo_pos (by simpa using h)

theorem owed_pos {c : Dev nD} {n j : Nat} {g : GSem nD τ sig} {u : Unit} (h : 0 < owed c n j g u) :
    (∃ k < 8, g = mirroredC (xpeer c) k) ∨ ∃ k < 8, g = gotC (ypeer c) k := by
  unfold owed at h
  rw [Pi.add_apply, Finsupp.add_apply] at h
  rcases Nat.eq_zero_or_pos (owedTo (xpeer c) 51 j g u) with h0 | h0
  · rw [h0, Nat.zero_add] at h; exact .inr (owedTo_pos h)
  · exact .inl (owedTo_pos h0)

theorem owed_pos' {c : Dev nD} {j : Nat} {g : GSem nD τ sig} {u : Unit} (h : 0 < owed c 0 j g u) : ∃ k < 8, g = mirroredC (xpeer c) k := by
  unfold owed at h
  rw [Pi.add_apply, Finsupp.add_apply] at h
  exact owedTo_pos (by simpa [owedTo] using h)

theorem owed₀_pos {c : Dev nD} {g : GSem nD τ sig} {u : Unit} (h : 0 < owed₀ c g u) :
    g = barC (ypeer c) ∨ g = barC (xpeer c) ∨ (∃ k < 8, g = mirroredC (xpeer c) k) ∨ ∃ k < 8, g = gotC (ypeer c) k := by
  unfold owed₀ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.1 h'.1), add_zero, add_zero] at h
  exact hn.2.2 (owed_pos h)

theorem lv_got (c : Dev nD) (k : Nat) (hk : k < 8) (u : Unit) : lv (gotC c k) u = 2 := by
  show (if 19 ≤ (dsem (19 + k)).val ∧ (dsem (19 + k)).val < 35 then 2 else _) = 2
  rw [dsem_val _ (by omega), if_pos (by omega)]
theorem lv_mirrored (c : Dev nD) (k : Nat) (hk : k < 8) (u : Unit) : lv (mirroredC c k) u = 3 := by
  show (if 19 ≤ (dsem (51 + k)).val ∧ (dsem (51 + k)).val < 35 then 2 else if 51 ≤ (dsem (51 + k)).val ∧ (dsem (51 + k)).val < 67 then 3 else 0) = 3
  rw [dsem_val _ (by omega), if_neg (by omega), if_pos (by omega)]
theorem lv_bar (c : Dev nD) (u : Unit) : lv (barC c) u = 1 := rfl
theorem L_dma (c : Dev nD) (n : Nat) : L (dmaC c n) = {()} := L_tc c _
theorem L_bar (c : Dev nD) : L (barC c) = {()} := L_tc c _

/-- A device may wait for the barrier while it owes chunks only. -/
theorem mayWait_bar (c : Dev nD) : (levAts L lv : sProp 𝕄) ⊢ MayWait (c : Thread nD τ) barS () (owed c 8 8) :=
  MayOwe.of_cut (L := L) (lev := lv) 1 (fun p hp => by rw [Finset.mem_singleton.mp hp, L_tc]; exact Finset.mem_singleton_self _)
    (fun g u hg => by rcases owed_pos hg with ⟨k, hk, rfl⟩ | ⟨k, hk, rfl⟩ <;> rw [L_dma] <;> exact Finset.mem_singleton_self _)
    (fun p hp => by rw [Finset.mem_singleton.mp hp]; exact le_rfl)
    (fun g u hg => by
      rcases owed_pos hg with ⟨k, hk, rfl⟩ | ⟨k, hk, rfl⟩
      · rw [lv_mirrored _ _ hk]; decide
      · rw [lv_got _ _ hk]; decide)

/-- It may wait for a chunk from its `y` neighbour while it owes forwarded chunks only. -/
theorem mayWait_got (c : Dev nD) (k : Nat) (hk : k < 8) (j : Nat) :
    (levAts L lv : sProp 𝕄) ⊢ MayWait (c : Thread nD τ) (.dma (dsem (19 + k))) () (owed c 0 j) :=
  MayOwe.of_cut (L := L) (lev := lv) 2 (fun p hp => by rw [Finset.mem_singleton.mp hp, L_tc]; exact Finset.mem_singleton_self _)
    (fun g u hg => by obtain ⟨k', hk', rfl⟩ := owed_pos' hg; rw [L_dma]; exact Finset.mem_singleton_self _)
    (fun p hp => by rw [Finset.mem_singleton.mp hp]; exact (lv_got c k hk ()).le)
    (fun g u hg => by obtain ⟨k', hk', rfl⟩ := owed_pos' hg; rw [lv_mirrored _ _ hk']; decide)

/-- The pipeline's own waits come before everything. -/
theorem mayWait_stage (c : Dev nD) (q : DmaSem sig) (hq : q.val < 3) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases owed₀_pos hg with rfl | rfl | ⟨k, hk, rfl⟩ | ⟨k, hk, rfl⟩ <;> first | rw [L_dma] | rw [L_bar]
        all_goals exact Finset.mem_singleton_self _)
      (fun p hp => by
        rw [Finset.mem_singleton.mp hp]
        show (if 19 ≤ q.val ∧ q.val < 35 then 2 else if 51 ≤ q.val ∧ q.val < 67 then 3 else 0) ≤ 0
        rw [if_neg (by omega), if_neg (by omega)])
      (fun g u hg => by
        rcases owed₀_pos hg with rfl | rfl | ⟨k, hk, rfl⟩ | ⟨k, hk, rfl⟩
        · rw [lv_bar]; decide
        · rw [lv_bar]; decide
        · rw [lv_mirrored _ _ hk]; decide
        · rw [lv_got _ _ hk]; decide)
  · rw [MayWait_zero]; iintro -; iempintro

end Cert.Proof

end

end
-- ==== Proof.Steps.lean ====
module

public import proofs.«01_k».proof.Proof.Schedule

/-! # The exchange's steps, one lemma each

The kernel repeats five kinds of step: send a chunk, copy rows of its own, forward a chunk that has come, wait for a
copy, wait for a transfer to be over.  Each kind has a family of resources indexed by the chunk; a `phase` holds the
resources of the chunks still to do and the results of those done.  A step lemma moves its phase one chunk on. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Rows F)

/-! ## Phases -/

/-- `n` repetitions of a step of which `k` are done: `T` is what a repetition takes, `D` what it leaves. -/
def phase (n : Nat) (T D : Nat → sProp 𝕄) (k : Nat) : sProp 𝕄 :=
  iprop(bigSep (Finset.Ico k n) T ∗ bigSep (Finset.range k) D)

theorem phase_start (n : Nat) (T D : Nat → sProp 𝕄) : bigSep (Finset.range n) T ⊢ phase n T D 0 := by
  unfold phase
  rw [Finset.range_zero, bigSep_empty, Finset.range_eq_Ico]
  iintro H
  isplitl [H]; · iexact H
  iempintro
theorem phase_end (n : Nat) (T D : Nat → sProp 𝕄) : phase n T D n ⊢ bigSep (Finset.range n) D := by
  unfold phase
  iintro ⟨-, H⟩; iexact H
theorem phase_take (n : Nat) (T D : Nat → sProp 𝕄) {k : Nat} (h : k < n) :
    phase n T D k ⊢ iprop(T k ∗ (D k -∗ phase n T D (k + 1))) := by
  unfold phase
  rw [bigSep_Ico_succ_bot h, bigSep_range_succ]
  iintro ⟨⟨Ht, Hr⟩, Hd⟩
  isplitl [Ht]; · iexact Ht
  iintro Hk
  isplitl [Hr]; · iexact Hr
  isplitl [Hk]; · iexact Hk
  iexact Hd

/-! ## What every device knows -/

/-- The numbers of the DMA semaphores the exchange uses. -/
def dmaNum (j : Fin 36) : Nat := if j.val < 32 then 3 + 16 * (j.val / 8) + j.val % 8 else 35 + j.val
theorem dmaNum_used (j : Fin 36) : Used (dmaNum j) := by
  unfold Used dmaNum; split <;> omega
theorem dmaNum_surj {n : Nat} (h : Used n) : ∃ j, dmaNum j = n := by
  unfold Used at h
  by_cases h' : n < 67
  · refine ⟨⟨8 * ((n - 3) / 16) + (n - 3) % 16, by omega⟩, ?_⟩
    unfold dmaNum; rw [if_pos (by show 8 * ((n - 3) / 16) + (n - 3) % 16 < 32; omega)]
    show 3 + 16 * ((8 * ((n - 3) / 16) + (n - 3) % 16) / 8) + (8 * ((n - 3) / 16) + (n - 3) % 16) % 8 = n
    omega
  · refine ⟨⟨n - 35, by omega⟩, ?_⟩
    unfold dmaNum; rw [if_neg (by show ¬ n - 35 < 32; omega)]
    show 35 + (n - 35) = n
    omega
theorem dmaNum_inj : Function.Injective dmaNum := fun i j h => by
  have hi := i.isLt; have hj := j.isLt
  unfold dmaNum at h
  apply Fin.ext
  split at h <;> split at h <;> omega

theorem barC_inj : Function.Injective barC := fun _ _ h => congrArg (fun g : GSem nD τ sig => g.1.1) h
theorem dmaC_inj {c c' : Dev nD} {n n' : Nat} (hn : n < 75) (hn' : n' < 75) (h : dmaC c n = dmaC c' n') : c = c' ∧ n = n' := by
  have h1 : c = c' := congrArg (fun g : GSem nD τ sig => g.1.1) h
  have h2 : (dsem n).val = (dsem n').val :=
    congrArg (fun g : GSem nD τ sig => match g.2 with | .dma q => q.val | .reg _ => 0) h
  rw [dsem_val n hn, dsem_val n' hn'] at h2
  exact ⟨h1, h2⟩

def barCells : Finset (GSem nD τ sig) := Finset.univ.map ⟨barC, barC_inj⟩
def dmaEmb : Dev nD × Fin 36 ↪ GSem nD τ sig :=
  ⟨fun p => dmaC p.1 (dmaNum p.2), fun p q h => by
    obtain ⟨h1, h2⟩ := dmaC_inj (dmaNum_used p.2).lt (dmaNum_used q.2).lt h
    exact Prod.ext h1 (dmaNum_inj h2)⟩
def dmaCells : Finset (GSem nD τ sig) := Finset.univ.map dmaEmb

theorem bar_mem (c : Dev nD) : barC c ∈ barCells := Finset.mem_map_of_mem _ (Finset.mem_univ c)
theorem dma_mem (c : Dev nD) {n : Nat} (h : Used n) : dmaC c n ∈ dmaCells := by
  obtain ⟨j, rfl⟩ := dmaNum_surj h
  exact Finset.mem_map_of_mem dmaEmb (Finset.mem_univ (c, j))

variable (κ : GSem nD τ sig → ℕ)

/-- Every cell's invariant, at the names `κ`; that every barrier is open; the levels. -/
def recs : sProp 𝕄 :=
  iprop(bigSep (barCells ∪ dmaCells) (fun g => cellInv EX (sched X) (κ g) g) ∗ bigSep barCells (fun g => reached EX g 0) ∗ levAts L lv)

instance recs_persistent : BI.Persistent (recs X κ) := by unfold recs; infer_instance

theorem inv_of {g : GSem nD τ sig} (hg : g ∈ barCells ∪ dmaCells) :
    (bigSep (barCells ∪ dmaCells) fun g => (cellInv EX (sched X) (κ g) g : sProp 𝕄)) ⊢ cellInv EX (sched X) (κ g) g := bigSep_elim hg
theorem reached_of (c : Dev nD) : (bigSep barCells fun g => (reached EX g 0 : sProp 𝕄)) ⊢ reached EX (barC c) 0 := bigSep_elim (bar_mem c)

theorem recs_bar (c : Dev nD) : recs X κ ⊢ cellInv EX (sched X) (κ (barC c)) (barC c) := by
  unfold recs
  iintro ⟨H, -⟩
  iapply (inv_of X κ (Finset.mem_union_left _ (bar_mem c))); iexact H
theorem recs_dma (c : Dev nD) {n : Nat} (h : Used n) : recs X κ ⊢ cellInv EX (sched X) (κ (dmaC c n)) (dmaC c n) := by
  unfold recs
  iintro ⟨H, -⟩
  iapply (inv_of X κ (Finset.mem_union_right _ (dma_mem c h))); iexact H
theorem recs_reached (c : Dev nD) : recs X κ ⊢ reached EX (barC c) 0 := by
  unfold recs
  iintro ⟨-, H, -⟩
  iapply (reached_of (F := F) c); iexact H
theorem recs_lev : recs X κ ⊢ levAts L lv := by
  unfold recs
  iintro ⟨-, -, H⟩; iexact H

/-- What device `c` owes, whatever it has waited for. -/
def ow (c : Dev nD) (O : CellTallies nD τ sig Unit) : sProp 𝕄 := iprop(∃ W, owes (c : Thread nD τ) O W)

/-! ## What a transfer lands -/

/-- A slice of the result, and of the sorted input. -/
abbrev outSl {n : Nat} (o : Fin 2 → Nat) (h : ∀ x, o x + (![n, 128] : Fin 2 → Nat) x ≤ S32768x128.size x) : Memref sig .tc .vmem ⟨2, ![n, 128]⟩ .bf16 :=
  outM.slice (Rect.unit (s := S32768x128) o ![n, 128] h) (fun _ => rfl)
abbrev xSl {n : Nat} (o : Fin 2 → Nat) (h : ∀ x, o x + (![n, 128] : Fin 2 → Nat) x ≤ S32768x128.size x) : Memref sig .tc .vmem ⟨2, ![n, 128]⟩ .bf16 :=
  xM.slice (Rect.unit (s := S32768x128) o ![n, 128] h) (fun _ => rfl)

variable {n a : Nat} {h : ∀ x, (![a, 0] : Fin 2 → Nat) x + (![n, 128] : Fin 2 → Nat) x ≤ S32768x128.size x}

theorem outSl_set : (outSl ![a, 0] h).view.set = rowSet a n :=
  (View.set_slice_whole _ _).trans (slice_set cc0_stg2_0 rfl a h)
theorem xSl_set : (xSl ![a, 0] h).view.set = rowSet a n :=
  (View.set_slice_whole _ _).trans (slice_set cc0_stg0_0 rfl a h)

/-- Row `a + j` of a slice at row `a`. -/
theorem slice_emb (x : Shape.Idx ⟨2, ![n, 128]⟩) :
    (((Rect.unit (s := S32768x128) ![a, 0] ![n, 128] h).emb x) 0).val = a + (x 0).val ∧ (((Rect.unit (s := S32768x128) ![a, 0] ![n, 128] h).emb x) 1).val = (x 1).val := by
  rw [Rect.emb_apply, Rect.emb_apply]
  exact ⟨by simp [Rect.unit], by simp [Rect.unit]⟩

/-- The rows landed at a slice of the result are at contents `t` when the values landed are `t`'s. -/
theorem land {c : Dev nD} (f t : Rows F) (r : Shape.Idx ⟨2, ![n, 128]⟩ → Elt F .bf16)
    (ht : ∀ (x : Shape.Idx ⟨2, ![n, 128]⟩) (i : RIdx), (i 0).val = a + (x 0).val → (i 1).val = (x 1).val → r x = t i) :
    ((outSl ![a, 0] h).view.loc (c : Thread nD τ) ↦[(outSl ![a, 0] h).view.set]{fullShare}
        ((outSl ![a, 0] h).view.write (Elt F) f r Finset.univ) : sProp 𝕄)
      = outPts c a n t := by
  unfold outPts
  rw [outSl_set]
  refine pointsTo_congr fun i hi => ?_
  rw [mem_rowSet] at hi
  have h1 : (i 1).val < 128 := (i 1).isLt
  let x : Shape.Idx ⟨2, ![n, 128]⟩ := fun k => match k with
    | ⟨0, _⟩ => ⟨(i 0).val - a, by show _ < n; omega⟩
    | ⟨1, _⟩ => ⟨(i 1).val, h1⟩
  have hx : (outSl ![a, 0] h).view.emb x = i := by
    refine ridx_ext ?_ ?_
    · exact ((slice_emb (h := h) x).1).trans (by show a + ((i 0).val - a) = _; omega)
    · exact (slice_emb (h := h) x).2
  have e : (outSl ![a, 0] h).view.write (Elt F) f r Finset.univ ((outSl ![a, 0] h).view.emb x) = r x :=
    View.write_emb_of_mem _ _ (Finset.mem_univ x)
  rw [hx] at e
  refine e.trans (ht x i ?_ rfl)
  show (i 0).val = a + ((i 0).val - a)
  omega

variable {b : Nat} {h' : ∀ x, (![b, 0] : Fin 2 → Nat) x + (![n, 128] : Fin 2 → Nat) x ≤ S32768x128.size x}

theorem land_x {c : Dev nD} (f t g : Rows F)
    (ht : ∀ (i i' : RIdx) (j : Nat), j < n → (i 0).val = a + j → (i' 0).val = b + j → (i 1).val = (i' 1).val → g i' = t i) :
    ((outSl ![a, 0] h).view.loc (c : Thread nD τ) ↦[(outSl ![a, 0] h).view.set]{fullShare}
        ((outSl ![a, 0] h).view.write (Elt F) f ((xSl ![b, 0] h').view.read (Elt F) g) Finset.univ) : sProp 𝕄)
      = outPts c a n t :=
  land f t _ fun x i h0 h1 => ht i _ (x 0).val (x 0).isLt h0 (slice_emb (h := h') x).1 (h1.trans ((slice_emb (h := h') x).2).symm)

theorem land_out {c : Dev nD} (f t g : Rows F)
    (ht : ∀ (i i' : RIdx) (j : Nat), j < n → (i 0).val = a + j → (i' 0).val = b + j → (i 1).val = (i' 1).val → g i' = t i) :
    ((outSl ![a, 0] h).view.loc (c : Thread nD τ) ↦[(outSl ![a, 0] h).view.set]{fullShare}
        ((outSl ![a, 0] h).view.write (Elt F) f ((outSl ![b, 0] h').view.read (Elt F) g) Finset.univ) : sProp 𝕄)
      = outPts c a n t :=
  land f t _ fun x i h0 h1 => ht i _ (x 0).val (x 0).isLt h0 (slice_emb (h := h') x).1 (h1.trans ((slice_emb (h := h') x).2).symm)

theorem out_at (c : Dev nD) (f : Rows F) : ((outSl ![a, 0] h).view.loc (c : Thread nD τ) ↦[(outSl ![a, 0] h).view.set]{fullShare} f : sProp 𝕄) = outPts c a n f := by
  unfold outPts; rw [outSl_set]
theorem x_at (c : Dev nD) (f : Rows F) : ((xSl ![a, 0] h).view.loc (c : Thread nD τ) ↦[(xSl ![a, 0] h).view.set]{fullShare} f : sProp 𝕄) = xPts c a n f := by
  unfold xPts; rw [xSl_set]

theorem out_amount {o : Fin 2 → Nat} {h : ∀ x, o x + (![1024, 128] : Fin 2 → Nat) x ≤ S32768x128.size x} (q : DmaSem sig) :
    (outSl o h).view.amount (.dma q) = N1 := rfl
theorem out_amount4 {o : Fin 2 → Nat} {h : ∀ x, o x + (![4096, 128] : Fin 2 → Nat) x ≤ S32768x128.size x} (q : DmaSem sig) :
    (outSl o h).view.amount (.dma q) = N4 := rfl

/-! ## The families -/

section Families
variable (c : Dev nD)

def sendT (k : Nat) : sProp 𝕄 :=
  iprop(xPts c (inRow c k) 1024 (X c) ∗ room (F := F) (ypeer c) (inRow (ypeer c) k) (gotC (ypeer c) k)
    ∗ dutyTok EX (sentC c k) 0 false ∗ dutyTok EX (gotC (ypeer c) k) 0 false ∗ reached EX (sentC c k) 0)
def sendD (k : Nat) : sProp 𝕄 := cred (tallyAt (sentC c k) () N1)

def keepT (k : Nat) : sProp 𝕄 :=
  iprop(xPts c (ownRow c k) 4096 (X c) ∗ (∃ f : Rows F, outPts c (ownRow c k) 4096 f) ∗ dutyTok EX (keptC c k) 0 false ∗ reached EX (keptC c k) 0)
def keepD (k : Nat) : sProp 𝕄 := cred (tallyAt (keptC c k) () N4)

def fwdT (k : Nat) : sProp 𝕄 :=
  iprop(cred (tallyAt (gotC c k) () N1) ∗ atPos EX (gotC c k) 0 ∅ 0 ∗ room (F := F) (xpeer c) (inRow c k) (mirroredC (xpeer c) k)
    ∗ dutyTok EX (passedC c k) 0 false ∗ dutyTok EX (mirroredC (xpeer c) k) 0 false ∗ reached EX (passedC c k) 0)
def fwdD (k : Nat) : sProp 𝕄 := iprop(atPos EX (gotC c k) 1 ∅ 0 ∗ cred (tallyAt (passedC c k) () N1))

def keepWaitT (k : Nat) : sProp 𝕄 := iprop(cred (tallyAt (keptC c k) () N4) ∗ atPos EX (keptC c k) 0 ∅ 0)
def keepWaitD (k : Nat) : sProp 𝕄 :=
  iprop(atPos EX (keptC c k) 1 ∅ 0 ∗ outPts c (ownRow c k) 4096 (final X c) ∗ xPts c (ownRow c k) 4096 (X c))

def fwdWaitT (k : Nat) : sProp 𝕄 := iprop(cred (tallyAt (mirroredC c k) () N1) ∗ atPos EX (mirroredC c k) 0 ∅ 0)
def fwdWaitD (k : Nat) : sProp 𝕄 := iprop(atPos EX (mirroredC c k) 1 ∅ 0 ∗ outPts c (inRow (xpeer c) k) 1024 (final X c))

def endT (k : Nat) : sProp 𝕄 :=
  iprop((cred (tallyAt (sentC c k) () N1) ∗ atPos EX (sentC c k) 0 ∅ 0) ∗ cred (tallyAt (passedC c k) () N1) ∗ atPos EX (passedC c k) 0 ∅ 0)
def endD (k : Nat) : sProp 𝕄 :=
  iprop((atPos EX (sentC c k) 1 ∅ 0 ∗ xPts c (inRow c k) 1024 (X c)) ∗ atPos EX (passedC c k) 1 ∅ 0 ∗ outPts c (inRow c k) 1024 (final X c))

end Families

/-! ## The steps -/

section Steps
variable (c : Dev nD) {α : Type} {Q : α → sProp (MT nD τ sig Unit (Elt F) ℕ UU ℕ)} {K : PUnit → Prog (TpuEff nD τ sig (Elt F) Λ₀ .tc) α}

/-- Send chunk `k` to the `y` neighbour. -/
theorem send_step {m : Dev nD} (hm : m = ypeer c) (k : Nat) (hk : k < 8) {o o' : Fin 2 → Nat} (ho : o = ![inRow (ypeer c) k, 0]) (ho' : o' = ![inRow c k, 0])
    {sS sem : DmaSem sig} (hsS : sS = dsem (3 + k)) (hsem : sem = dsem (19 + k))
    {h : ∀ x, o x + (![1024, 128] : Fin 2 → Nat) x ≤ S32768x128.size x} {h' : ∀ x, o' x + (![1024, 128] : Fin 2 → Nat) x ≤ S32768x128.size x}
    {hsc : (outSl o h).view.ref.isScScratch = false} {hsrc : (xSl o' h').view.WordExact} {hdst : (outSl o h).view.WordExact}
    {ht : DmaTarget.Typed .vmem (.dma sem) (.remote (Dev.tc m : Thread nD τ) (outSl o h) (.dma sS) hsc)} :
    iprop(recs X κ ∗ phase 8 (sendT X c) (sendD c) k ∗ ow c (owed c (8 - k) 8))
      ⊢ iprop((phase 8 (sendT X c) (sendD c) (k + 1) ∗ ow c (owed c (8 - (k + 1)) 8) -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (xSl o' h') (.remote (Dev.tc m : Thread nD τ) (outSl o h) (.dma sS) hsc) (.dma sem) hsrc hdst ht) K) Q) := by
  subst hm ho ho' hsS hsem
  unfold ow
  iintro ⟨#HR, HP, ⟨%W, HO⟩⟩ HK
  ihave HP' := (phase_take 8 _ _ hk) $$ HP
  icases HP' with ⟨HT, HD⟩
  unfold sendT room
  icases HT with ⟨Hx, ⟨⟨%f, Hout⟩, Hrg⟩, Hts, Htg, Hrs⟩
  iapply (Rounds.wp_send_pointsTo 𝒱₀ EX (sched X) (c : Thread nD τ) none (κ₁ := κ (sentC c k)) (κ₂ := κ (gotC (ypeer c) k))
    (r₁ := 0) (r₂ := 0) (d₁ := false) (d₂ := false) (fs := X c) (fd := f) (q := fullShare) (src := xSl ![inRow c k, 0] h') (dst := outSl ![inRow (ypeer c) k, 0] h) (hsrc := hsrc) (hdst := hdst) (hsem := ht) (k := K) (Q := Q) (Es := Set.univ) (hsc := hsc) (c' := (ypeer c : Thread nD τ))
    (by rw [show (((c : Thread nD τ), SemLoc.dma (dsem (3 + k))) : GSem nD τ sig) = dmaC c (3 + k) from rfl, duties_dma X c _ (used_sent k hk)]; exact Finset.mem_singleton_self _)
    (by rw [show (((ypeer c : Thread nD τ), SemLoc.dma (dsem (19 + k))) : GSem nD τ sig) = dmaC (ypeer c) (19 + k) from rfl, duties_dma X (ypeer c) _ (used_got k hk)]; exact Finset.mem_singleton_self _)
    () () N1 (out_amount _) (amount_chunk X c (3 + k) (by omega) false) (amount_chunk X (ypeer c) (19 + k) (by omega) false) (owed c (8 - (k + 1)) 8) (owed_send c k hk 8) (W := W)
    ((Entails.of_eq (x_at c (X c))).trans (Entails.of_eq ((payload_dma X c _ (used_sent k hk) false).trans (pay_sent X c k hk)).symm))
    ((Entails.of_eq (land_x f (final X (ypeer c)) (X c) (fun i i' j hj hi hi' h1 => final_send X c k hk i i' j hj hi hi' h1))).trans
      (Entails.of_eq ((payload_dma X (ypeer c) _ (used_got k hk) false).trans (pay_got X (ypeer c) k hk)).symm)))
    $$ [Hx Hout HO Hts Htg Hrs Hrg]
  · isplitr; · iapply (recs_dma X κ c (used_sent k hk)); iexact HR
    isplitr; · iapply (recs_dma X κ (ypeer c) (used_got k hk)); iexact HR
    isplitl [Hx]; · rw [x_at]; iexact Hx
    isplitl [Hout]; · rw [out_at]; iexact Hout
    isplitl [HO]; · iexact HO
    isplitl [Hts]; · iexact Hts
    isplitl [Hrs]; · iexact Hrs
    isplitl [Htg]; · iexact Htg
    iexact Hrg
  iintro ⟨HC, HO⟩
  iapply HK
  isplitl [HC HD]
  · iapply HD
    unfold sendD
    iexact HC
  iexists W; iexact HO

/-- Copy rows of its own, run `k` of four. -/
theorem keep_step (k : Nat) (hk : k < 4) {o o' : Fin 2 → Nat} (ho : o = ![ownRow c k, 0]) (ho' : o' = ![ownRow c k, 0])
    {sem : DmaSem sig} (hsem : sem = dsem (67 + k))
    {h : ∀ x, o x + (![4096, 128] : Fin 2 → Nat) x ≤ S32768x128.size x} {h' : ∀ x, o' x + (![4096, 128] : Fin 2 → Nat) x ≤ S32768x128.size x}
    {hsrc : (xSl o' h').view.WordExact} {hdst : (outSl o h).view.WordExact}
    {ht : DmaTarget.Typed .vmem (.dma sem) (DmaTarget.here (nD := nD) (p := (Proc.tc : Proc τ)) (outSl o h))} :
    iprop(recs X κ ∗ phase 4 (keepT X c) (keepD c) k)
      ⊢ iprop((phase 4 (keepT X c) (keepD c) (k + 1) -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (xSl o' h') (.here (outSl o h)) (.dma sem) hsrc hdst ht) K) Q) := by
  subst ho ho' hsem
  iintro ⟨#HR, HP⟩ HK
  ihave HP' := (phase_take 4 _ _ hk) $$ HP
  icases HP' with ⟨HT, HD⟩
  unfold keepT
  icases HT with ⟨Hx, ⟨%f, Hout⟩, Htk, Hrk⟩
  iapply (Rounds.wp_copy_pointsTo 𝒱₀ EX (sched X) (c : Thread nD τ) none (κ := κ (keptC c k)) (r := 0) (d := false) (fs := X c) (fd := f) (q := fullShare) (src := xSl ![ownRow c k, 0] h') (dst := outSl ![ownRow c k, 0] h) (hsrc := hsrc) (hdst := hdst) (hsem := ht) (k := K) (Q := Q) (Es := Set.univ)
    (by rw [show (((c : Thread nD τ), SemLoc.dma (dsem (67 + k))) : GSem nD τ sig) = dmaC c (67 + k) from rfl, duties_dma X c _ (used_kept k hk)]; exact Finset.mem_singleton_self _)
    () N4 (out_amount4 _) (amount_kept X c (67 + k) (used_kept k hk) (by omega) false)
    ((BIClass.sep_mono
        (Entails.of_eq (land_x f (final X c) (X c) (fun i i' j hj hi hi' h1 => by
          rw [show i' = i from ridx_ext (hi'.trans hi.symm) h1.symm]
          refine (final_keep X c ?_).symm
          rw [hi]; exact own_half c k j hk hj)))
        (Entails.of_eq (x_at c (X c)))).trans
      (Entails.of_eq ((payload_dma X c _ (used_kept k hk) false).trans (pay_kept X c k)).symm)))
    $$ [Hx Hout Htk Hrk]
  · isplitr; · iapply (recs_dma X κ c (used_kept k hk)); iexact HR
    isplitl [Hx]; · rw [x_at]; iexact Hx
    isplitl [Hout]; · rw [out_at]; iexact Hout
    isplitl [Htk]; · iexact Htk
    iexact Hrk
  iintro HC
  iapply HK
  iapply HD
  unfold keepD
  iexact HC

/-- Forward chunk `k`, which has come, to the `x` neighbour. -/
theorem forward_step {m : Dev nD} (hm : m = xpeer c) (k : Nat) (hk : k < 8) {o o' : Fin 2 → Nat} (ho : o = ![inRow c k, 0]) (ho' : o' = ![inRow c k, 0])
    {sS sem : DmaSem sig} (hsS : sS = dsem (35 + k)) (hsem : sem = dsem (51 + k))
    {h : ∀ x, o x + (![1024, 128] : Fin 2 → Nat) x ≤ S32768x128.size x} {h' : ∀ x, o' x + (![1024, 128] : Fin 2 → Nat) x ≤ S32768x128.size x}
    {hsc : (outSl o h).view.ref.isScScratch = false} {hsrc : (outSl o' h').view.WordExact} {hdst : (outSl o h).view.WordExact}
    {ht : DmaTarget.Typed .vmem (.dma sem) (.remote (Dev.tc m : Thread nD τ) (outSl o h) (.dma sS) hsc)} :
    iprop(recs X κ ∗ outPts c (inRow c k) 1024 (final X c) ∗ room (F := F) (xpeer c) (inRow c k) (mirroredC (xpeer c) k)
        ∗ dutyTok EX (passedC c k) 0 false ∗ dutyTok EX (mirroredC (xpeer c) k) 0 false ∗ reached EX (passedC c k) 0 ∗ ow c (owed c 0 (8 - k)))
      ⊢ iprop((cred (tallyAt (passedC c k) () N1) ∗ ow c (owed c 0 (8 - (k + 1))) -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (outSl o' h') (.remote (Dev.tc m : Thread nD τ) (outSl o h) (.dma sS) hsc) (.dma sem) hsrc hdst ht) K) Q) := by
  subst hm ho ho' hsS hsem
  unfold ow room
  iintro ⟨#HR, Hx, ⟨⟨%f, Hout⟩, Hrg⟩, Hts, Htg, Hrs, ⟨%W, HO⟩⟩ HK
  iapply (Rounds.wp_send_pointsTo 𝒱₀ EX (sched X) (c : Thread nD τ) none (κ₁ := κ (passedC c k)) (κ₂ := κ (mirroredC (xpeer c) k))
    (r₁ := 0) (r₂ := 0) (d₁ := false) (d₂ := false) (fs := final X c) (fd := f) (q := fullShare) (src := outSl ![inRow c k, 0] h') (dst := outSl ![inRow c k, 0] h) (hsrc := hsrc) (hdst := hdst) (hsem := ht) (k := K) (Q := Q) (Es := Set.univ) (hsc := hsc) (c' := (xpeer c : Thread nD τ))
    (by rw [show (((c : Thread nD τ), SemLoc.dma (dsem (35 + k))) : GSem nD τ sig) = dmaC c (35 + k) from rfl, duties_dma X c _ (used_passed k hk)]; exact Finset.mem_singleton_self _)
    (by rw [show (((xpeer c : Thread nD τ), SemLoc.dma (dsem (51 + k))) : GSem nD τ sig) = dmaC (xpeer c) (51 + k) from rfl, duties_dma X (xpeer c) _ (used_mirrored k hk)]; exact Finset.mem_singleton_self _)
    () () N1 (out_amount _) (amount_chunk X c (35 + k) (by omega) false) (amount_chunk X (xpeer c) (51 + k) (by omega) false) (owed c 0 (8 - (k + 1))) (owed_forward c k hk) (W := W)
    ((Entails.of_eq (out_at c (final X c))).trans (Entails.of_eq ((payload_dma X c _ (used_passed k hk) false).trans (pay_passed X c k hk)).symm))
    ((Entails.of_eq (land_out f (final X (xpeer c)) (final X c) (fun i i' j hj hi hi' h1 => by
        rw [show i' = i from ridx_ext (hi'.trans hi.symm) h1.symm]
        exact final_fwd X c k hk i j hj hi))).trans (by
      have e := (payload_dma X (xpeer c) _ (used_mirrored k hk) false).trans (pay_mirrored X (xpeer c) k hk)
      rw [xpeer_xpeer] at e
      exact (Entails.of_eq e.symm))))
    $$ [Hx Hout HO Hts Htg Hrs Hrg]
  · isplitr; · iapply (recs_dma X κ c (used_passed k hk)); iexact HR
    isplitr; · iapply (recs_dma X κ (xpeer c) (used_mirrored k hk)); iexact HR
    isplitl [Hx]; · rw [out_at]; iexact Hx
    isplitl [Hout]; · rw [out_at]; iexact Hout
    isplitl [HO]; · iexact HO
    isplitl [Hts]; · iexact Hts
    isplitl [Hrs]; · iexact Hrs
    isplitl [Htg]; · iexact Htg
    iexact Hrg
  iintro ⟨HC, HO⟩
  iapply HK
  isplitl [HC]; · iexact HC
  iexists W; iexact HO

/-- Wait for a DMA semaphore's whole round: its payload comes. -/
theorem wait_dma {n : Nat} (hu : Used n) (O : CellTallies nD τ sig Unit) (hW : recs X κ ⊢ MayWait (c : Thread nD τ) (.dma (dsem n)) () O)
    {sem : DmaSem sig} (hsem : sem = dsem n) {sp sp' : Space} {s s' : Shape} {e e' : EltTy} {src : Memref sig (.tc : Kind) sp' s' e'} {dst : Memref sig (.tc : Kind) sp s e}
    {hsrc : src.view.WordExact} {hdst : dst.view.WordExact} (N : Nat) (hN : dst.view.dmaCredit = N) (hx : (sched X).expect (dmaC c n) 0 = N) :
    iprop(recs X κ ∗ cred (tallyAt (dmaC c n) () N) ∗ atPos EX (dmaC c n) 0 ∅ 0 ∗ ow c O)
      ⊢ iprop((ow c O ∗ atPos EX (dmaC c n) 1 ∅ 0 ∗ dmaPay X c n -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 sem src dst hsrc hdst) K) Q) := by
  subst hsem hN
  unfold ow
  iintro ⟨#HR, HC, HA, ⟨%W, HO⟩⟩ HK
  iapply (Rounds.wp_wait_rest_token 𝒱₀ EX (sched X) (c : Thread nD τ) none (κ := κ (dmaC c n))
      (wpE_waitDma2_eq (src := src) (dst := dst) 𝒱₀ (c : Thread nD τ) none Set.univ) (Set.mem_univ _) () (O := O) (W := W) (R := 0) (m := 0) (T := ∅)
      ((Nat.zero_add _).trans hx.symm)) $$ [HC HO HA]
  · isplitr; · iapply (recs_dma X κ c hu); iexact HR
    isplitl [HC]; · iexact HC
    isplitl [HO]; · iexact HO
    isplitr; · iapply hW; iexact HR
    iexact HA
  iintro ⟨HO, HA, -, Hpay⟩
  iapply HK
  isplitl [HO]; · iexists _; iexact HO
  isplitl [HA]; · iexact HA
  have hr := rest_dma X c n hu
  unfold dmaC at hr
  ihave Hp := (Entails.of_eq hr) $$ Hpay
  iexact Hp

theorem mayWait_free (g : SemLoc sig) : recs X κ ⊢ (MayWait (c : Thread nD τ) g () 0 : sProp 𝕄) := by
  rw [MayWait_zero]; iintro -; iempintro

variable {sem : DmaSem sig} {sp sp' : Space} {s s' : Shape} {e e' : EltTy} {src : Memref sig (.tc : Kind) sp' s' e'} {dst : Memref sig (.tc : Kind) sp s e}
  {hsrc : src.view.WordExact} {hdst : dst.view.WordExact}

/-- Wait for chunk `k` from the `y` neighbour and forward it. -/
theorem fwd_step {m : Dev nD} (hm : m = xpeer c) (k : Nat) (hk : k < 8) {o o' : Fin 2 → Nat} (ho : o = ![inRow c k, 0]) (ho' : o' = ![inRow c k, 0])
    (hs : sem = dsem (19 + k)) (hN : dst.view.dmaCredit = N1)
    {sS sem' : DmaSem sig} (hsS : sS = dsem (35 + k)) (hsem : sem' = dsem (51 + k))
    {h : ∀ x, o x + (![1024, 128] : Fin 2 → Nat) x ≤ S32768x128.size x} {h' : ∀ x, o' x + (![1024, 128] : Fin 2 → Nat) x ≤ S32768x128.size x}
    {hsc : (outSl o h).view.ref.isScScratch = false} {hsrc' : (outSl o' h').view.WordExact} {hdst' : (outSl o h).view.WordExact}
    {ht : DmaTarget.Typed .vmem (.dma sem') (.remote (Dev.tc m : Thread nD τ) (outSl o h) (.dma sS) hsc)} :
    iprop(recs X κ ∗ phase 8 (fwdT c) (fwdD c) k ∗ ow c (owed c 0 (8 - k)))
      ⊢ iprop((phase 8 (fwdT c) (fwdD c) (k + 1) ∗ ow c (owed c 0 (8 - (k + 1))) -∗ wp frame (wpE (defs₀ (F := F)) 𝒱₀ (c : Thread nD τ) none) Set.univ (K ⟨⟩) Q)
          -∗ wp frame (wpE (defs₀ (F := F)) 𝒱₀ (c : Thread nD τ) none) Set.univ
              (.op (.waitDma2 sem src dst hsrc hdst) fun _ => .op (.enqueueDma (outSl o' h') (.remote (Dev.tc m : Thread nD τ) (outSl o h) (.dma sS) hsc) (.dma sem') hsrc' hdst' ht) K) Q) := by
  iintro ⟨#HR, HP, HO⟩ HK
  ihave HP' := (phase_take 8 _ _ hk) $$ HP
  icases HP' with ⟨HT, HD⟩
  unfold fwdT
  icases HT with ⟨HC, HA, Hroom, Htp, Htm, Hrp⟩
  iapply (wait_dma X κ c (used_got k hk) (owed c 0 (8 - k)) ((recs_lev X κ).trans (mayWait_got c k hk _)) hs N1 hN (expect_chunk X c _ (used_got k hk) (by omega))) $$ [HC HA HO]
  · isplitr; · iexact HR
    isplitl [HC]; · iexact HC
    isplitl [HA]; · iexact HA
    iexact HO
  iintro ⟨HO, HA, Hpay⟩
  ihave Hpay := (Entails.of_eq (pay_got X c k hk)) $$ Hpay
  iapply (forward_step X κ c hm k hk ho ho' hsS hsem) $$ [HO Hpay Hroom Htp Htm Hrp]
  · isplitr; · iexact HR
    isplitl [Hpay]; · iexact Hpay
    isplitl [Hroom]; · iexact Hroom
    isplitl [Htp]; · iexact Htp
    isplitl [Htm]; · iexact Htm
    isplitl [Hrp]; · iexact Hrp
    iexact HO
  iintro ⟨HC, HO⟩
  iapply HK
  isplitr [HO]
  · iapply HD
    unfold fwdD
    isplitl [HA] <;> iassumption
  iexact HO

/-- Wait for the local copy `k`. -/
theorem keepWait_step (k : Nat) (hk : k < 4) (hs : sem = dsem (67 + k)) (hN : dst.view.dmaCredit = N4) :
    iprop(recs X κ ∗ phase 4 (keepWaitT c) (keepWaitD X c) k ∗ ow c 0)
      ⊢ iprop((phase 4 (keepWaitT c) (keepWaitD X c) (k + 1) ∗ ow c 0 -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 sem src dst hsrc hdst) K) Q) := by
  iintro ⟨#HR, HP, HO⟩ HK
  ihave HP' := (phase_take 4 _ _ hk) $$ HP
  icases HP' with ⟨HT, HD⟩
  unfold keepWaitT
  icases HT with ⟨HC, HA⟩
  iapply (wait_dma X κ c (used_kept k hk) 0 (mayWait_free X κ c _) hs N4 hN (expect_kept X c _ (used_kept k hk) (by omega))) $$ [HC HA HO]
  · isplitr; · iexact HR
    isplitl [HC]; · iexact HC
    isplitl [HA]; · iexact HA
    iexact HO
  iintro ⟨HO, HA, Hpay⟩
  ihave Hpay := (Entails.of_eq (pay_kept X c k)) $$ Hpay
  icases Hpay with ⟨Hout, Hx⟩
  iapply HK
  isplitr [HO]
  · iapply HD
    unfold keepWaitD
    isplitl [HA]; · iexact HA
    isplitl [Hout] <;> iassumption
  iexact HO

/-- Wait for the chunk `k` that the `x` neighbour forwards. -/
theorem fwdWait_step (k : Nat) (hk : k < 8) (hs : sem = dsem (51 + k)) (hN : dst.view.dmaCredit = N1) :
    iprop(recs X κ ∗ phase 8 (fwdWaitT c) (fwdWaitD X c) k ∗ ow c 0)
      ⊢ iprop((phase 8 (fwdWaitT c) (fwdWaitD X c) (k + 1) ∗ ow c 0 -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 sem src dst hsrc hdst) K) Q) := by
  iintro ⟨#HR, HP, HO⟩ HK
  ihave HP' := (phase_take 8 _ _ hk) $$ HP
  icases HP' with ⟨HT, HD⟩
  unfold fwdWaitT
  icases HT with ⟨HC, HA⟩
  iapply (wait_dma X κ c (used_mirrored k hk) 0 (mayWait_free X κ c _) hs N1 hN (expect_chunk X c _ (used_mirrored k hk) (by omega))) $$ [HC HA HO]
  · isplitr; · iexact HR
    isplitl [HC]; · iexact HC
    isplitl [HA]; · iexact HA
    iexact HO
  iintro ⟨HO, HA, Hpay⟩
  ihave Hpay := (Entails.of_eq (pay_mirrored X c k hk)) $$ Hpay
  iapply HK
  isplitr [HO]
  · iapply HD
    unfold fwdWaitD
    isplitl [HA] <;> iassumption
  iexact HO

/-- Wait until chunk `k` has left, and then until its forwarding has. -/
theorem end_step (k : Nat) (hk : k < 8) (hs : sem = dsem (3 + k)) (hN : dst.view.dmaCredit = N1)
    {sem₂ : DmaSem sig} {sp₂ sp₂' : Space} {s₂ s₂' : Shape} {e₂ e₂' : EltTy} {src₂ : Memref sig (.tc : Kind) sp₂' s₂' e₂'} {dst₂ : Memref sig (.tc : Kind) sp₂ s₂ e₂}
    {hsrc₂ : src₂.view.WordExact} {hdst₂ : dst₂.view.WordExact} (hs₂ : sem₂ = dsem (35 + k)) (hN₂ : dst₂.view.dmaCredit = N1) :
    iprop(recs X κ ∗ phase 8 (endT c) (endD X c) k ∗ ow c 0)
      ⊢ iprop((phase 8 (endT c) (endD X c) (k + 1) ∗ ow c 0 -∗ wp frame (wpE (defs₀ (F := F)) 𝒱₀ (c : Thread nD τ) none) Set.univ (K ⟨⟩) Q)
          -∗ wp frame (wpE (defs₀ (F := F)) 𝒱₀ (c : Thread nD τ) none) Set.univ
              (.op (.waitDma2 sem src dst hsrc hdst) fun _ => .op (.waitDma2 sem₂ src₂ dst₂ hsrc₂ hdst₂) K) Q) := by
  iintro ⟨#HR, HP, HO⟩ HK
  ihave HP' := (phase_take 8 _ _ hk) $$ HP
  icases HP' with ⟨HT, HD⟩
  unfold endT
  icases HT with ⟨⟨HC, HA⟩, HC₂, HA₂⟩
  iapply (wait_dma X κ c (used_sent k hk) 0 (mayWait_free X κ c _) hs N1 hN (expect_chunk X c _ (used_sent k hk) (by omega))) $$ [HC HA HO]
  · isplitr; · iexact HR
    isplitl [HC]; · iexact HC
    isplitl [HA]; · iexact HA
    iexact HO
  iintro ⟨HO, HA, Hpay⟩
  ihave Hpay := (Entails.of_eq (pay_sent X c k hk)) $$ Hpay
  iapply (wait_dma X κ c (used_passed k hk) 0 (mayWait_free X κ c _) hs₂ N1 hN₂ (expect_chunk X c _ (used_passed k hk) (by omega))) $$ [HC₂ HA₂ HO]
  · isplitr; · iexact HR
    isplitl [HC₂]; · iexact HC₂
    isplitl [HA₂]; · iexact HA₂
    iexact HO
  iintro ⟨HO, HA₂, Hpay₂⟩
  ihave Hpay₂ := (Entails.of_eq (pay_passed X c k hk)) $$ Hpay₂
  iapply HK
  isplitr [HO]
  · iapply HD
    unfold endD
    isplitl [HA Hpay]; · isplitl [HA] <;> iassumption
    isplitl [HA₂] <;> iassumption
  iexact HO

end Steps

end Cert.Proof

end

end
-- ==== Proof.Bundles.lean ====
module

public import proofs.«01_k».proof.Proof.Steps
public import Idealize.ShloMosaic.Lib.Rounds.Family

/-! # From what a device holds to its phases, and back

The families of the steps, put together from the runs of the two buffers, the rights and the tokens a device holds, and
taken apart again: nothing here runs. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Rows F) (κ : GSem nD τ sig → ℕ)

/-! ## The semaphores in their five families -/

/-- `Φ` of every DMA semaphore number the exchange uses. -/
def each (Φ : Nat → sProp (MT nD τ sig Unit (Elt F) ℕ UU ℕ)) : sProp 𝕄 :=
  iprop((bigSep (Finset.range 8) fun k => Φ (3 + k)) ∗ (bigSep (Finset.range 8) fun k => Φ (19 + k))
    ∗ (bigSep (Finset.range 8) fun k => Φ (35 + k)) ∗ (bigSep (Finset.range 8) fun k => Φ (51 + k))
    ∗ (bigSep (Finset.range 4) fun k => Φ (67 + k)))

def run8 (a : Nat) : Finset Nat := (Finset.range 8).map (addLeftEmbedding a)
def run4 (a : Nat) : Finset Nat := (Finset.range 4).map (addLeftEmbedding a)

theorem runs_all : (Finset.univ : Finset (Fin 36)).map ⟨dmaNum, dmaNum_inj⟩ = run8 3 ∪ (run8 19 ∪ (run8 35 ∪ (run8 51 ∪ run4 67))) := by decide

theorem each_univ (Φ : Nat → sProp (MT nD τ sig Unit (Elt F) ℕ UU ℕ)) : (bigSep Finset.univ fun j : Fin 36 => Φ (dmaNum j)) = each Φ := by
  have h := bigSep_map (s := (Finset.univ : Finset (Fin 36))) ⟨dmaNum, dmaNum_inj⟩ (Φ := Φ)
  rw [runs_all, bigSep_union (by decide), bigSep_union (by decide), bigSep_union (by decide), bigSep_union (by decide)] at h
  unfold run8 run4 at h
  rw [bigSep_map, bigSep_map, bigSep_map, bigSep_map, bigSep_map] at h
  exact h.symm

theorem each_sep (Φ Ψ : Nat → sProp (MT nD τ sig Unit (Elt F) ℕ UU ℕ)) : each (fun n => iprop(Φ n ∗ Ψ n)) ⊢ iprop(each Φ ∗ each Ψ) := by
  rw [← each_univ, ← each_univ, ← each_univ, bigSep_sep']

/-- The exchange's scoped semaphores, by their place. -/
def osem (j : Fin 36) : SemLoc sig := .dma (dsem (dmaNum j))

theorem open_cells (c : Dev nD) :
    iprop(recs X κ ∗ (bigSep Finset.univ fun j : Fin 36 => openTok EX ((c : Thread nD τ), osem j)) ∗ bigSep Finset.univ fun j : Fin 36 => semVal ((c : Thread nD τ), osem j) 0)
      ⊢ |={Set.univ}=> iprop(each (fun n => (atPos EX (dmaC c n) 0 ∅ 0 : sProp 𝕄)) ∗ each (fun n => (reached EX (dmaC c n) 0 : sProp 𝕄))) := by
  have h := Rounds.cells_open EX (sched X) (Finset.univ : Finset (Fin 36)) (fun j => dmaC c (dmaNum j)) (fun j => κ (dmaC c (dmaNum j))) (Es := Set.univ) (fun _ _ => Set.mem_univ _)
  have hi : iprop(recs X κ ∗ bigSep Finset.univ fun j : Fin 36 => openTok EX ((c : Thread nD τ), osem j))
      ⊢ bigSep Finset.univ fun j : Fin 36 => iprop(cellInv EX (sched X) (κ (dmaC c (dmaNum j))) (dmaC c (dmaNum j)) ∗ openTok EX (dmaC c (dmaNum j))) :=
    bigSep_with_persistent (R := recs X κ) fun j _ => by
      iintro ⟨HR, Ht⟩
      isplitl [HR]; · iapply (recs_dma X κ c (dmaNum_used j)); iexact HR
      iexact Ht
  iintro ⟨HR, Ht, Hs⟩
  imod h $$ [HR Ht Hs] with H
  · isplitl [HR Ht]
    · iapply hi
      isplitl [HR] <;> iassumption
    iexact Hs
  imodintro
  iapply (each_sep (fun n => (atPos EX (dmaC c n) 0 ∅ 0 : sProp 𝕄)) (fun n => (reached EX (dmaC c n) 0 : sProp 𝕄)))
  iapply (Entails.of_eq (each_univ (fun n => (iprop(atPos EX (dmaC c n) 0 ∅ 0 ∗ reached EX (dmaC c n) 0) : sProp 𝕄)))) $$ H

theorem close_cells (c : Dev nD) :
    iprop(recs X κ ∗ each (fun n => (atPos EX (dmaC c n) 1 ∅ 0 : sProp 𝕄))) ⊢ |={Set.univ}=> (bigSep Finset.univ fun j : Fin 36 => semVal ((c : Thread nD τ), osem j) 0 : sProp 𝕄) := by
  have h := Rounds.cells_close EX (sched X) (Finset.univ : Finset (Fin 36)) (fun j => dmaC c (dmaNum j)) (fun j => κ (dmaC c (dmaNum j))) (Es := Set.univ) (fun _ _ => Set.mem_univ _)
    (fun _ _ h => h) (fun _ => 1) (fun j _ => duties_later X (dmaC c (dmaNum j)))
  have hi : iprop(recs X κ ∗ bigSep Finset.univ fun j : Fin 36 => atPos EX (dmaC c (dmaNum j)) 1 ∅ 0)
      ⊢ bigSep Finset.univ fun j : Fin 36 => iprop(cellInv EX (sched X) (κ (dmaC c (dmaNum j))) (dmaC c (dmaNum j)) ∗ atPos EX (dmaC c (dmaNum j)) 1 ∅ 0) :=
    bigSep_with_persistent (R := recs X κ) fun j _ => by
      iintro ⟨HR, Ht⟩
      isplitl [HR]; · iapply (recs_dma X κ c (dmaNum_used j)); iexact HR
      iexact Ht
  rw [← each_univ]
  exact hi.trans h

/-! ## The rooms given -/

theorem give_y (c : Dev nD) (f : Rows F) :
    iprop((bigSep (Finset.range 8) fun k => outPts c (inRow c k) 1024 f) ∗ bigSep (Finset.range 8) fun k => reached EX (dmaC c (19 + k)) 0) ⊢ roomY (F := F) c := by
  have h (k : Nat) : iprop(outPts c (inRow c k) 1024 f ∗ reached EX (dmaC c (19 + k)) 0) ⊢ room (F := F) c (inRow c k) (dmaC c (19 + k)) := by
    unfold room
    iintro ⟨H, HR⟩
    isplitl [H]; · iexists f; iexact H
    iexact HR
  unfold roomY
  rw [← bigSep_sep']
  exact bigSep_mono fun k _ => h k
theorem give_x (c : Dev nD) (f : Rows F) :
    iprop((bigSep (Finset.range 8) fun k => outPts c (inRow (xpeer c) k) 1024 f) ∗ bigSep (Finset.range 8) fun k => reached EX (dmaC c (51 + k)) 0) ⊢ roomX (F := F) c := by
  have h (k : Nat) : iprop(outPts c (inRow (xpeer c) k) 1024 f ∗ reached EX (dmaC c (51 + k)) 0) ⊢ room (F := F) c (inRow (xpeer c) k) (dmaC c (51 + k)) := by
    unfold room
    iintro ⟨H, HR⟩
    isplitl [H]; · iexists f; iexact H
    iexact HR
  unfold roomX
  rw [← bigSep_sep']
  exact bigSep_mono fun k _ => h k

/-! ## Into the phases -/

theorem send_start (c : Dev nD) :
    iprop((bigSep (Finset.range 8) fun k => xPts c (inRow c k) 1024 (X c)) ∗ roomY (F := F) (ypeer c)
        ∗ (bigSep (Finset.range 8) fun k => dutyTok EX (sentC c k) 0 false) ∗ (bigSep (Finset.range 8) fun k => dutyTok EX (gotC (ypeer c) k) 0 false)
        ∗ bigSep (Finset.range 8) fun k => reached EX (dmaC c (3 + k)) 0)
      ⊢ phase 8 (sendT X c) (sendD c) 0 := by
  refine BI.Entails.trans ?_ (phase_start _ _ _)
  unfold roomY sendT
  rw [bigSep_sep', bigSep_sep', bigSep_sep', bigSep_sep']
  exact BI.Entails.refl _

theorem keep_start (c : Dev nD) (f : Rows F) :
    iprop((bigSep (Finset.range 4) fun k => xPts c (ownRow c k) 4096 (X c)) ∗ (bigSep (Finset.range 4) fun k => outPts c (ownRow c k) 4096 f)
        ∗ (bigSep (Finset.range 4) fun k => dutyTok EX (keptC c k) 0 false) ∗ bigSep (Finset.range 4) fun k => reached EX (dmaC c (67 + k)) 0)
      ⊢ phase 4 (keepT X c) (keepD c) 0 := by
  have h (k : Nat) : iprop(xPts c (ownRow c k) 4096 (X c) ∗ outPts c (ownRow c k) 4096 f ∗ dutyTok EX (keptC c k) 0 false ∗ reached EX (dmaC c (67 + k)) 0) ⊢ keepT X c k := by
    unfold keepT
    iintro ⟨Hx, Ho, Ht, Hr⟩
    isplitl [Hx]; · iexact Hx
    isplitl [Ho]; · iexists f; iexact Ho
    isplitl [Ht]; · iexact Ht
    iexact Hr
  refine BI.Entails.trans ?_ (phase_start _ _ _)
  rw [← bigSep_sep', ← bigSep_sep', ← bigSep_sep']
  exact bigSep_mono fun k _ => h k

theorem fwd_start (c : Dev nD) :
    iprop((bigSep (Finset.range 8) fun k => cred (tallyAt (gotC c k) () N1)) ∗ (bigSep (Finset.range 8) fun k => atPos EX (dmaC c (19 + k)) 0 ∅ 0)
        ∗ roomX (F := F) (xpeer c) ∗ (bigSep (Finset.range 8) fun k => dutyTok EX (passedC c k) 0 false)
        ∗ (bigSep (Finset.range 8) fun k => dutyTok EX (mirroredC (xpeer c) k) 0 false) ∗ bigSep (Finset.range 8) fun k => reached EX (dmaC c (35 + k)) 0)
      ⊢ phase 8 (fwdT (F := F) c) (fwdD c) 0 := by
  refine BI.Entails.trans ?_ (phase_start _ _ _)
  unfold roomX fwdT
  rw [xpeer_xpeer, bigSep_sep', bigSep_sep', bigSep_sep', bigSep_sep', bigSep_sep']
  exact BI.Entails.refl _

theorem keepWait_start (c : Dev nD) :
    iprop(phase 4 (keepT X c) (keepD c) 4 ∗ bigSep (Finset.range 4) fun k => atPos EX (dmaC c (67 + k)) 0 ∅ 0)
      ⊢ phase 4 (keepWaitT c) (keepWaitD X c) 0 := by
  refine BI.Entails.trans ?_ (phase_start _ _ _)
  have h : bigSep (Finset.range 4) (keepWaitT (F := F) c) = iprop(bigSep (Finset.range 4) (keepD c) ∗ bigSep (Finset.range 4) fun k => atPos EX (dmaC c (67 + k)) 0 ∅ 0) := by
    unfold keepWaitT keepD; rw [bigSep_sep']
  rw [h]
  exact BIClass.sep_mono (phase_end _ _ _) (BI.Entails.refl _)

theorem fwdWait_start (c : Dev nD) :
    iprop((bigSep (Finset.range 8) fun k => cred (tallyAt (mirroredC c k) () N1)) ∗ bigSep (Finset.range 8) fun k => atPos EX (dmaC c (51 + k)) 0 ∅ 0)
      ⊢ phase 8 (fwdWaitT c) (fwdWaitD X c) 0 := by
  refine BI.Entails.trans ?_ (phase_start _ _ _)
  unfold fwdWaitT
  rw [bigSep_sep']
  exact BI.Entails.refl _

theorem end_start (c : Dev nD) :
    iprop(phase 8 (sendT X c) (sendD c) 8 ∗ (bigSep (Finset.range 8) fun k => atPos EX (dmaC c (3 + k)) 0 ∅ 0)
        ∗ phase 8 (fwdT (F := F) c) (fwdD c) 8 ∗ bigSep (Finset.range 8) fun k => atPos EX (dmaC c (35 + k)) 0 ∅ 0)
      ⊢ iprop(phase 8 (endT c) (endD X c) 0 ∗ bigSep (Finset.range 8) fun k => atPos EX (dmaC c (19 + k)) 1 ∅ 0) := by
  have h1 : bigSep (Finset.range 8) (endT (F := F) c)
      = iprop((bigSep (Finset.range 8) (sendD c) ∗ bigSep (Finset.range 8) fun k => atPos EX (dmaC c (3 + k)) 0 ∅ 0)
          ∗ (bigSep (Finset.range 8) fun k => cred (tallyAt (passedC c k) () N1)) ∗ bigSep (Finset.range 8) fun k => atPos EX (dmaC c (35 + k)) 0 ∅ 0) := by
    unfold endT sendD; rw [bigSep_sep', bigSep_sep', bigSep_sep']
  have h2 : bigSep (Finset.range 8) (fwdD (F := F) c)
      = iprop((bigSep (Finset.range 8) fun k => atPos EX (dmaC c (19 + k)) 1 ∅ 0) ∗ bigSep (Finset.range 8) fun k => cred (tallyAt (passedC c k) () N1)) := by
    unfold fwdD; rw [bigSep_sep']
  iintro ⟨Hs, Hsa, Hf, Hfa⟩
  ihave Hs := (phase_end 8 (sendT X c) (sendD c)) $$ Hs
  ihave Hf := (phase_end 8 (fwdT (F := F) c) (fwdD c)) $$ Hf
  ihave Hf' := (Entails.of_eq h2) $$ Hf
  icases Hf' with ⟨Hg, Hp⟩
  isplitr [Hg]
  · iapply (phase_start 8 (endT (F := F) c) (endD X c))
    iapply (Entails.of_eq h1.symm)
    isplitl [Hs Hsa]; · isplitl [Hs] <;> iassumption
    isplitl [Hp] <;> iassumption
  iexact Hg

/-! ## Out of the phases -/

theorem all_done (c : Dev nD) :
    iprop(phase 4 (keepWaitT c) (keepWaitD X c) 4 ∗ phase 8 (fwdWaitT c) (fwdWaitD X c) 8 ∗ phase 8 (endT c) (endD X c) 8
        ∗ (bigSep (Finset.range 8) fun k => atPos EX (dmaC c (19 + k)) 1 ∅ 0) ∗ bigSep (Finset.range 8) fun k => xPts c (inRow (xpeer c) k) 1024 (X c))
      ⊢ iprop(each (fun n => (atPos EX (dmaC c n) 1 ∅ 0 : sProp 𝕄)) ∗ (((c : Thread nD τ).loc cc0_stg0_0) ↦{fullShare} X c)
          ∗ (((c : Thread nD τ).loc cc0_stg2_0) ↦{fullShare} final X c)) := by
  have h1 : bigSep (Finset.range 4) (keepWaitD X c)
      = iprop((bigSep (Finset.range 4) fun k => atPos EX (dmaC c (67 + k)) 1 ∅ 0) ∗ (bigSep (Finset.range 4) fun k => outPts c (ownRow c k) 4096 (final X c))
          ∗ bigSep (Finset.range 4) fun k => xPts c (ownRow c k) 4096 (X c)) := by
    unfold keepWaitD; rw [bigSep_sep', bigSep_sep']
  have h2 : bigSep (Finset.range 8) (fwdWaitD X c)
      = iprop((bigSep (Finset.range 8) fun k => atPos EX (dmaC c (51 + k)) 1 ∅ 0) ∗ bigSep (Finset.range 8) fun k => outPts c (inRow (xpeer c) k) 1024 (final X c)) := by
    unfold fwdWaitD; rw [bigSep_sep']
  have h3 : bigSep (Finset.range 8) (endD X c)
      = iprop(((bigSep (Finset.range 8) fun k => atPos EX (dmaC c (3 + k)) 1 ∅ 0) ∗ bigSep (Finset.range 8) fun k => xPts c (inRow c k) 1024 (X c))
          ∗ (bigSep (Finset.range 8) fun k => atPos EX (dmaC c (35 + k)) 1 ∅ 0) ∗ bigSep (Finset.range 8) fun k => outPts c (inRow c k) 1024 (final X c)) := by
    unfold endD; rw [bigSep_sep', bigSep_sep', bigSep_sep']
  rw [out_split, x_split]
  unfold each
  iintro ⟨Hk, Hw, He, Hg, Hxx⟩
  ihave Hk := (phase_end 4 (keepWaitT (F := F) c) (keepWaitD X c)) $$ Hk
  ihave Hk := (Entails.of_eq h1) $$ Hk
  icases Hk with ⟨Ak, Ok, Xk⟩
  ihave Hw := (phase_end 8 (fwdWaitT (F := F) c) (fwdWaitD X c)) $$ Hw
  ihave Hw := (Entails.of_eq h2) $$ Hw
  icases Hw with ⟨Aw, Ow⟩
  ihave He := (phase_end 8 (endT (F := F) c) (endD X c)) $$ He
  ihave He := (Entails.of_eq h3) $$ He
  icases He with ⟨⟨As, Xs⟩, Ap, Op⟩
  isplitl [As Hg Ap Aw Ak]
  · isplitl [As]; · iexact As
    isplitl [Hg]; · iexact Hg
    isplitl [Ap]; · iexact Ap
    isplitl [Aw]; · iexact Aw
    iexact Ak
  isplitl [Xk Xs Hxx]
  · isplitl [Xk]; · iexact Xk
    isplitl [Xs]; · iexact Xs
    iexact Hxx
  isplitl [Ok]; · iexact Ok
  isplitl [Op]; · iexact Op
  iexact Ow

end Cert.Proof

end

end
-- ==== Proof.Ghost.lean ====
module

public import proofs.«01_k».proof.Proof.Bundles
public import Idealize.ShloMosaic.Lib.Pipeline.Regions

/-! # What the launch deals

The credit each device has from the launch, the token of every duty and who is handed it, and the cells made. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Rows F)

/-! ## What the launch credits -/

theorem bar_ne_dma (c d : Dev nD) (n : Nat) : barC c ≠ dmaC d n := fun h => by
  have := congrArg (fun g : GSem nD τ sig => match g.2 with | .dma _ => true | .reg _ => false) h
  exact Bool.false_ne_true this

theorem owedTo_amount (d c : Dev nD) (first n : Nat) (hf : first + 8 ≤ 75) (hn : n < 75) : ∀ j ≤ 8,
    owedTo d first j (dmaC c n) () = if c = d ∧ first + (8 - j) ≤ n ∧ n < first + 8 then N1 else 0
  | 0, _ => by rw [if_neg (by omega)]; rfl
  | j + 1, hj => by
    rw [owedTo, Pi.add_apply, Finsupp.add_apply, owedTo_amount d c first n hf hn j (by omega), tallyAt_apply]
    have e : (if dmaC c n = dmaC d (first + (7 - j)) ∧ () = () then N1 else 0) = if c = d ∧ n = first + (7 - j) then N1 else 0 :=
      if_congr ⟨fun h => dmaC_inj hn (by omega) h.1, fun h => ⟨by rw [h.1, h.2], rfl⟩⟩ rfl rfl
    rw [e]
    by_cases hc : c = d
    · subst hc
      simp only [true_and]
      by_cases h1 : n = first + (7 - j)
      · rw [if_neg (by omega), if_pos h1, if_pos (by omega), Nat.zero_add]
      · rw [if_neg h1, Nat.add_zero]; exact if_congr (by omega) rfl rfl
    · rw [if_neg (fun h' => hc h'.1), if_neg (fun h' => hc h'.1), if_neg (fun h' => hc h'.1)]

theorem owedTo_bar (d c : Dev nD) (first j : Nat) : owedTo d first j (barC c) () = 0 := by
  by_contra h
  obtain ⟨k, _, hk⟩ := owedTo_pos (Nat.pos_of_ne_zero h)
  exact bar_ne_dma _ _ _ hk

theorem eq_xpeer {c d : Dev nD} : c = xpeer d ↔ d = xpeer c := ⟨fun h => by rw [h, xpeer_xpeer], fun h => by rw [h, xpeer_xpeer]⟩
theorem eq_ypeer {c d : Dev nD} : c = ypeer d ↔ d = ypeer c := ⟨fun h => by rw [h, ypeer_ypeer], fun h => by rw [h, ypeer_ypeer]⟩

theorem owed_got (d c : Dev nD) (k : Nat) (hk : k < 8) : owed₀ d (gotC c k) () = if d = ypeer c then N1 else 0 := by
  unfold owed₀ owed
  rw [Pi.add_apply, Finsupp.add_apply, Pi.add_apply, Finsupp.add_apply, Pi.add_apply, Finsupp.add_apply,
    tallyAt_ne_cell (bar_ne_dma _ _ _).symm, tallyAt_ne_cell (bar_ne_dma _ _ _).symm,
    owedTo_amount _ _ _ _ (by omega) (by omega) 8 le_rfl, owedTo_amount _ _ _ _ (by omega) (by omega) 8 le_rfl, if_neg (by omega)]
  simp only [Finsupp.zero_apply, Nat.zero_add, Nat.add_zero]
  exact if_congr (by rw [eq_ypeer]; exact ⟨fun h => h.1, fun h => ⟨h, by omega, by omega⟩⟩) rfl rfl

theorem owed_mirrored (d c : Dev nD) (k : Nat) (hk : k < 8) : owed₀ d (mirroredC c k) () = if d = xpeer c then N1 else 0 := by
  unfold owed₀ owed
  rw [Pi.add_apply, Finsupp.add_apply, Pi.add_apply, Finsupp.add_apply, Pi.add_apply, Finsupp.add_apply,
    tallyAt_ne_cell (bar_ne_dma _ _ _).symm, tallyAt_ne_cell (bar_ne_dma _ _ _).symm,
    owedTo_amount _ _ _ _ (by omega) (by omega) 8 le_rfl, owedTo_amount (ypeer d) _ _ _ (by omega) (by omega) 8 le_rfl,
    if_neg (by omega : ¬ (c = ypeer d ∧ 19 + (8 - 8) ≤ 51 + k ∧ 51 + k < 19 + 8))]
  simp only [Finsupp.zero_apply, Nat.zero_add, Nat.add_zero]
  exact if_congr (by rw [eq_xpeer]; exact ⟨fun h => h.1, fun h => ⟨h, by omega, by omega⟩⟩) rfl rfl

theorem owed_bar (d c : Dev nD) : owed₀ d (barC c) () = (if d = xpeer c then 1 else 0) + if d = ypeer c then 1 else 0 := by
  unfold owed₀ owed
  rw [Pi.add_apply, Finsupp.add_apply, Pi.add_apply, Finsupp.add_apply, Pi.add_apply, Finsupp.add_apply,
    owedTo_bar, owedTo_bar, tallyAt_apply, tallyAt_apply, Nat.zero_add]
  refine congrArg₂ _ (if_congr ?_ rfl rfl) (if_congr ?_ rfl rfl)
  · rw [eq_xpeer (c := d)]; exact ⟨fun h => barC_inj h.1, fun h => ⟨congrArg barC h, rfl⟩⟩
  · rw [eq_ypeer (c := d)]; exact ⟨fun h => barC_inj h.1, fun h => ⟨congrArg barC h, rfl⟩⟩

theorem launch_bar (c : Dev nD) :
    tallyOn (barC c) (launchCredit (Pipeline.owing owed₀) 0 (barC c)) = (tallyAt (barC c) () 2 : CellTallies nD τ sig Unit) := by
  unfold tallyAt; refine congrArg _ (Finsupp.ext fun u => ?_); cases u
  unfold barC
  rw [Pipeline.launchCredit_owing, Finsupp.single_eq_same]
  refine (Finset.sum_congr rfl fun d _ => owed_bar d c).trans ?_
  rw [Finset.sum_add_distrib,
    Finset.sum_ite_eq' Finset.univ (xpeer c) fun _ => 1, Finset.sum_ite_eq' Finset.univ (ypeer c) fun _ => 1,
    if_pos (Finset.mem_univ _), if_pos (Finset.mem_univ _)]

theorem launch_got (c : Dev nD) (k : Nat) (hk : k < 8) :
    tallyOn (gotC c k) (launchCredit (Pipeline.owing owed₀) 0 (gotC c k)) = (tallyAt (gotC c k) () N1 : CellTallies nD τ sig Unit) := by
  unfold tallyAt; refine congrArg _ (Finsupp.ext fun u => ?_); cases u
  unfold gotC dmaC
  rw [Pipeline.launchCredit_owing, Finsupp.single_eq_same]
  refine (Finset.sum_congr rfl fun d _ => owed_got d c k hk).trans ?_
  rw [Finset.sum_ite_eq' Finset.univ (ypeer c) fun _ => N1, if_pos (Finset.mem_univ _)]

theorem launch_mirrored (c : Dev nD) (k : Nat) (hk : k < 8) :
    tallyOn (mirroredC c k) (launchCredit (Pipeline.owing owed₀) 0 (mirroredC c k)) = (tallyAt (mirroredC c k) () N1 : CellTallies nD τ sig Unit) := by
  unfold tallyAt; refine congrArg _ (Finsupp.ext fun u => ?_); cases u
  unfold mirroredC dmaC
  rw [Pipeline.launchCredit_owing, Finsupp.single_eq_same]
  refine (Finset.sum_congr rfl fun d _ => owed_mirrored d c k hk).trans ?_
  rw [Finset.sum_ite_eq' Finset.univ (xpeer c) fun _ => N1, if_pos (Finset.mem_univ _)]

theorem osem_inj : Function.Injective osem := fun i j h =>
  dmaNum_inj (dmaC_inj (dmaNum_used i).lt (dmaNum_used j).lt (congrArg (Prod.mk ((0 : Dev nD) : Thread nD τ)) h : dmaC 0 (dmaNum i) = dmaC 0 (dmaNum j))).2

/-- The credit the launch gives a device: two barrier units, and the bytes of the chunks to come. -/
def credits (c : Dev nD) : sProp 𝕄 :=
  iprop(cred (tallyAt (barC c) () 2) ∗ (bigSep (Finset.range 8) fun k => cred (tallyAt (gotC c k) () N1)) ∗ bigSep (Finset.range 8) fun k => cred (tallyAt (mirroredC c k) () N1))

theorem credits_intro (c : Dev nD) : (Pipeline.launchCred owed₀ c : sProp 𝕄) ⊢ credits c := by
  have hs : (Finset.univ : Finset (Fin 36)).map ⟨osem, osem_inj⟩ ⊆ Finset.univ.erase barS := fun s hs => by
    obtain ⟨j, -, rfl⟩ := Finset.mem_map.mp hs
    exact Finset.mem_erase.mpr ⟨fun h => bar_ne_dma c c (dmaNum j) (congrArg (Prod.mk (c : Thread nD τ)) h).symm, Finset.mem_univ _⟩
  have he := each_univ (F := F) fun n => cred (tallyOn (dmaC c n) (launchCredit (Pipeline.owing owed₀) 0 (dmaC c n)))
  have hb : (cred (tallyOn ((c : Thread nD τ), barS) (launchCredit (Pipeline.owing owed₀) 0 ((c : Thread nD τ), barS))) : sProp 𝕄) ⊢ cred (tallyAt (barC c) () 2) :=
    Entails.of_eq (congrArg cred (launch_bar c))
  have hd : (bigSep (Finset.univ.erase barS) fun s => (cred (tallyOn ((c : Thread nD τ), s) (launchCredit (Pipeline.owing owed₀) 0 ((c : Thread nD τ), s))) : sProp 𝕄))
      ⊢ iprop((bigSep (Finset.range 8) fun k => cred (tallyAt (gotC c k) () N1)) ∗ bigSep (Finset.range 8) fun k => cred (tallyAt (mirroredC c k) () N1)) := by
    refine (bigSep_subset hs).trans ?_
    rw [bigSep_map]
    refine (Entails.of_eq he).trans ?_
    unfold each
    rw [bigSep_congr (s := Finset.range 8) (Φ := fun k => (cred (tallyOn (dmaC c (19 + k)) (launchCredit (Pipeline.owing owed₀) 0 (dmaC c (19 + k)))) : sProp 𝕄))
        fun k hk => congrArg cred (launch_got c k (Finset.mem_range.mp hk)),
      bigSep_congr (s := Finset.range 8) (Φ := fun k => (cred (tallyOn (dmaC c (51 + k)) (launchCredit (Pipeline.owing owed₀) 0 (dmaC c (51 + k)))) : sProp 𝕄))
        fun k hk => congrArg cred (launch_mirrored c k (Finset.mem_range.mp hk))]
    iintro ⟨-, H1, -, H2, -⟩
    isplitl [H1] <;> iassumption
  unfold Pipeline.launchCred credits
  rw [bigSep_univ_at _ barS]
  exact BIClass.sep_mono hb hd

/-! ## The tokens -/

/-- The barrier's duties. -/
def barToks : Finset (GSem nD τ sig × ℕ × Bool) :=
  Finset.univ.map ⟨fun p : Dev nD × Bool => (barC p.1, 0, p.2), fun p q h =>
    Prod.ext (barC_inj (congrArg Prod.fst h)) (congrArg (fun t : GSem nD τ sig × ℕ × Bool => t.2.2) h)⟩
/-- The copies' duties. -/
def dmaToks : Finset (GSem nD τ sig × ℕ × Bool) :=
  Finset.univ.map ⟨fun p : Dev nD × Fin 36 => (dmaEmb p, 0, false), fun p q h => dmaEmb.injective (congrArg Prod.fst h)⟩
def allToks : Finset (GSem nD τ sig × ℕ × Bool) := barToks ∪ dmaToks

theorem toks_disjoint : Disjoint barToks dmaToks := by
  rw [Finset.disjoint_left]
  rintro t h₁ h₂
  obtain ⟨p, -, rfl⟩ := Finset.mem_map.mp h₁
  obtain ⟨q, -, h⟩ := Finset.mem_map.mp h₂
  exact bar_ne_dma _ _ _ (congrArg Prod.fst h).symm

theorem disjoint_cells : Disjoint barCells dmaCells := by
  rw [Finset.disjoint_left]
  rintro g h₁ h₂
  obtain ⟨c, -, rfl⟩ := Finset.mem_map.mp h₁
  obtain ⟨q, -, h⟩ := Finset.mem_map.mp h₂
  exact bar_ne_dma _ _ _ h.symm

/-- The tokens of a device's own cells. -/
def ownToks (c : Dev nD) : sProp 𝕄 :=
  iprop((dutyTok EX (barC c) 0 false ∗ dutyTok EX (barC c) 0 true) ∗ each (fun n => dutyTok EX (dmaC c n) 0 false))

/-- The tokens a device pays with. -/
def payToks (c : Dev nD) : sProp 𝕄 :=
  iprop(dutyTok EX (barC (ypeer c)) 0 false ∗ dutyTok EX (barC (xpeer c)) 0 true
      ∗ (bigSep (Finset.range 8) fun k => dutyTok EX (sentC c k) 0 false) ∗ (bigSep (Finset.range 8) fun k => dutyTok EX (gotC (ypeer c) k) 0 false)
      ∗ (bigSep (Finset.range 8) fun k => dutyTok EX (passedC c k) 0 false) ∗ (bigSep (Finset.range 8) fun k => dutyTok EX (mirroredC (xpeer c) k) 0 false)
      ∗ bigSep (Finset.range 4) fun k => dutyTok EX (keptC c k) 0 false)

theorem bigSep_bool (Φ : Bool → sProp (MT nD τ sig Unit (Elt F) ℕ UU ℕ)) : bigSep Finset.univ Φ = iprop(Φ false ∗ Φ true) :=
  bigSep_univ_eq_bigSepL [false, true] (by decide) (by decide) Φ

theorem toks_eq : bigSep allToks (fun x => (dutyTok EX x.1 x.2.1 x.2.2 : sProp 𝕄)) = bigSep Finset.univ fun c : Dev nD => ownToks c := by
  unfold allToks
  rw [bigSep_union toks_disjoint]
  unfold barToks dmaToks ownToks
  rw [bigSep_map, bigSep_map, bigSep_univ_prod, bigSep_univ_prod, bigSep_sep']
  refine congrArg₂ _ (bigSep_congr fun c _ => ?_) (bigSep_congr fun c _ => ?_)
  · rw [bigSep_bool]; rfl
  · exact each_univ (F := F) fun n => dutyTok EX (dmaC c n) 0 false

/-- Trading along `x`, and along `y`. -/
def alongX : Dev nD ≃ Dev nD := ⟨xpeer, xpeer, xpeer_xpeer, xpeer_xpeer⟩
def alongY : Dev nD ≃ Dev nD := ⟨ypeer, ypeer, ypeer_ypeer, ypeer_ypeer⟩

theorem toks_around : (bigSep Finset.univ fun c : Dev nD => (ownToks c : sProp 𝕄)) ⊢ bigSep Finset.univ fun c : Dev nD => payToks c := by
  unfold ownToks payToks each
  rw [bigSep_sep', bigSep_sep', bigSep_sep', bigSep_sep', bigSep_sep', bigSep_sep', bigSep_sep', bigSep_sep', bigSep_sep', bigSep_sep', bigSep_sep', bigSep_sep',
    bigSep_univ_equiv alongY (fun c : Dev nD => (dutyTok EX (barC c) 0 false : sProp 𝕄)),
    bigSep_univ_equiv alongX (fun c : Dev nD => (dutyTok EX (barC c) 0 true : sProp 𝕄)),
    bigSep_univ_equiv alongY (fun c : Dev nD => (bigSep (Finset.range 8) fun k => (dutyTok EX (dmaC c (19 + k)) 0 false : sProp 𝕄))),
    bigSep_univ_equiv alongX (fun c : Dev nD => (bigSep (Finset.range 8) fun k => (dutyTok EX (dmaC c (51 + k)) 0 false : sProp 𝕄)))]
  iintro ⟨⟨H1, H2⟩, H3, H4, H5, H6, H7⟩
  isplitl [H1]; · iexact H1
  isplitl [H2]; · iexact H2
  isplitl [H3]; · iexact H3
  isplitl [H4]; · iexact H4
  isplitl [H5]; · iexact H5
  isplitl [H6]; · iexact H6
  iexact H7

/-! ## The ghost state a device starts with -/

/-- What is the device's alone: its place at the barrier, the rights to open its copies' cells, the tokens it pays with. -/
def alone (c : Dev nD) : sProp 𝕄 :=
  iprop(atPos EX (barC c) 0 ∅ 0 ∗ (bigSep Finset.univ fun j : Fin 36 => openTok EX ((c : Thread nD τ), osem j)) ∗ payToks c)

theorem two_families {Φ Ψ : Dev nD → sProp (MT nD τ sig Unit (Elt F) ℕ UU ℕ)} :
    iprop(bigSep Finset.univ Φ ∗ bigSep Finset.univ Ψ) ⊢ bigSep Finset.univ fun c => iprop(Φ c ∗ Ψ c) := Entails.of_eq (bigSep_sep' ..).symm

theorem fund :
    iprop((bigSep Finset.univ fun c : Dev nD => semVal (barC c) 0) ∗ BI.own (EX (launchOf barCells dmaCells allToks)) ∗ levAts L lv)
      ⊢ (|={Set.univ}=> iprop(∃ κ, recs X κ ∗ bigSep Finset.univ fun c : Dev nD => alone c) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) ⟨barC, barC_inj⟩ (Φ := fun g : GSem nD τ sig => (semVal g 0 : sProp 𝕄))).symm
  have hat : bigSep barCells (fun g => (atPos EX g 0 ∅ 0 : sProp 𝕄)) ⊢ bigSep Finset.univ (fun c : Dev nD => (atPos EX (barC c) 0 ∅ 0 : sProp 𝕄)) :=
    Entails.of_eq (bigSep_map (s := Finset.univ) ⟨barC, barC_inj⟩ (Φ := fun g : GSem nD τ sig => (atPos EX g 0 ∅ 0 : sProp 𝕄)))
  have hopen : bigSep dmaCells (fun g => (openTok EX g : sProp 𝕄))
      ⊢ bigSep Finset.univ (fun c : Dev nD => bigSep Finset.univ fun j : Fin 36 => (openTok EX ((c : Thread nD τ), osem j) : sProp 𝕄)) :=
    Entails.of_eq (by unfold dmaCells; rw [bigSep_map, bigSep_univ_prod]; rfl)
  iintro ⟨Hv, Hu, #HL⟩
  imod (Rounds.fund_launch EX (sched X) disjoint_cells (fun g _ h => h) allToks) $$ [Hv Hu] with ⟨%κ, -, #Hinv, #Hr, Hat, Hopen, Htok⟩
  · isplitl [Hv]
    · iapply hv $$ Hv
    · iexact Hu
  imodintro
  iexists κ
  isplitr
  · unfold recs
    isplitr; · iexact Hinv
    isplitr; · iexact Hr
    iexact HL
  unfold alone
  iapply two_families; isplitl [Hat]; · iapply hat $$ Hat
  iapply two_families; isplitl [Hopen]; · iapply hopen $$ Hopen
  iapply (toks_around (F := F))
  iapply (Entails.of_eq (toks_eq (F := F))) $$ Htok

end Cert.Proof

end

end
-- ==== Proof.Parts.lean ====
module

public import proofs.«01_k».proof.Proof.Steps

/-! # The kernel's conditional parts, run

Each part of the body at the word 2048: of its conditional transfers those that run move their phase on, the others
are skipped. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Rows F) (κ : GSem nD τ sig → ℕ)

/-- From `P` and what every device knows, the program runs and leaves `R`. -/
def Runs (c : Dev nD) (P : sProp (MT nD τ sig Unit (Elt F) ℕ UU ℕ)) (e : Prog (TpuEff nD τ sig (Elt F) Λ₀ .tc) PUnit)
    (R : sProp (MT nD τ sig Unit (Elt F) ℕ UU ℕ)) : Prop :=
  ∀ Kt : PUnit → sProp (MT nD τ sig Unit (Elt F) ℕ UU ℕ),
    iprop(recs X κ ∗ P) ⊢ iprop((R -∗ Kt ⟨⟩) -∗ wp frame (wpE (defs₀ (F := F)) 𝒱₀ (c : Thread nD τ) none) Set.univ e Kt)

abbrev a0 : Memref sig .tc .vmem S32768x128 .bf16 := Memref.whole cc0_stg0_0
abbrev a1 : Memref sig .tc .smem S1 .i32 := Memref.whole cc0_stg1_0
abbrev a2 : Memref sig .tc .vmem S32768x128 .bf16 := Memref.whole cc0_stg2_0

theorem part20_runs (c : Dev nD) (hw : k0_chk1 c 2048#32) (v2 v6 v23 v26 v45 v47 v69 : BitVec 32) :
    Runs X κ c iprop(phase 8 (sendT X c) (sendD c) 0 ∗ ow c (owed c 8 8))
      (k0_part20 (F := F) a0 (Memref.isWhole_whole _) a1 (Memref.isWhole_whole _) a2 (Memref.isWhole_whole _) cc0_scratch0 cc0_scratch1 cc0_scratch2 cc0_scratch3 cc0_scratch4
        c v2 v6 2048#32 hw v23 v26 v45 v47 v69)
      iprop(phase 8 (sendT X c) (sendD c) 8 ∗ ow c (owed c 0 8)) := by
  intro Kt
  obtain ⟨h1, h2, h3, h4, h5, h6, h7, h8⟩ := send_on c
  obtain ⟨h9, h10, -, -, -, -, -, -⟩ := send_off c
  obtain ⟨d0, d1, d2, d3, d4, d5, d6, d7⟩ := send_dev c
  obtain ⟨o0, o1, o2, o3, o4, o5, o6, o7⟩ := send_offs c
  simp only [k0_part20_eq_skeleton]
  unfold k0_part20_skel
  simp only [dif_pos h1, dif_pos h2, dif_pos h3, dif_pos h4, dif_pos h5, dif_pos h6, dif_pos h7, dif_pos h8, dif_neg h9, dif_neg h10, Prog.lift, Prog.bind_op, Prog.bind_ret, Prog.pure_eq_ret]
  iintro ⟨#HR, HP_send, HO⟩ HK
  iapply (send_step X κ c d0 0 (by decide) o0.1 o0.2 rfl rfl) $$ [HP_send HO]
  · isplitr; · iexact HR
    isplitl [HP_send]; · iexact HP_send
    iexact HO
  iintro ⟨HP_send, HO⟩
  iapply (send_step X κ c d1 1 (by decide) o1.1 o1.2 rfl rfl) $$ [HP_send HO]
  · isplitr; · iexact HR
    isplitl [HP_send]; · iexact HP_send
    iexact HO
  iintro ⟨HP_send, HO⟩
  iapply (send_step X κ c d2 2 (by decide) o2.1 o2.2 rfl rfl) $$ [HP_send HO]
  · isplitr; · iexact HR
    isplitl [HP_send]; · iexact HP_send
    iexact HO
  iintro ⟨HP_send, HO⟩
  iapply (send_step X κ c d3 3 (by decide) o3.1 o3.2 rfl rfl) $$ [HP_send HO]
  · isplitr; · iexact HR
    isplitl [HP_send]; · iexact HP_send
    iexact HO
  iintro ⟨HP_send, HO⟩
  iapply (send_step X κ c d4 4 (by decide) o4.1 o4.2 rfl rfl) $$ [HP_send HO]
  · isplitr; · iexact HR
    isplitl [HP_send]; · iexact HP_send
    iexact HO
  iintro ⟨HP_send, HO⟩
  iapply (send_step X κ c d5 5 (by decide) o5.1 o5.2 rfl rfl) $$ [HP_send HO]
  · isplitr; · iexact HR
    isplitl [HP_send]; · iexact HP_send
    iexact HO
  iintro ⟨HP_send, HO⟩
  iapply (send_step X κ c d6 6 (by decide) o6.1 o6.2 rfl rfl) $$ [HP_send HO]
  · isplitr; · iexact HR
    isplitl [HP_send]; · iexact HP_send
    iexact HO
  iintro ⟨HP_send, HO⟩
  iapply (send_step X κ c d7 7 (by decide) o7.1 o7.2 rfl rfl) $$ [HP_send HO]
  · isplitr; · iexact HR
    isplitl [HP_send]; · iexact HP_send
    iexact HO
  iintro ⟨HP_send, HO⟩
  rw [wp_ret]
  imodintro
  iapply HK
  isplitl [HP_send]; · iexact HP_send
  iexact HO

theorem part21_runs (c : Dev nD) (hw : k0_chk1 c 2048#32) (v2 v6 v20 v22 v23 v24 v26 v45 v47 v69 v107 : BitVec 32) :
    Runs X κ c iprop(phase 4 (keepT X c) (keepD c) 0)
      (k0_part21 (F := F) a0 (Memref.isWhole_whole _) a1 (Memref.isWhole_whole _) a2 (Memref.isWhole_whole _) cc0_scratch0 cc0_scratch1 cc0_scratch2 cc0_scratch3 cc0_scratch4
        c v2 v6 2048#32 hw v20 v22 v23 v24 v26 v45 v47 v69 v107)
      iprop(phase 4 (keepT X c) (keepD c) 4) := by
  intro Kt
  obtain ⟨-, -, h11, h12, h13, h14, h15, h16⟩ := send_off c
  obtain ⟨h17, h18, h19, h20⟩ := keep_on c
  obtain ⟨o0, o1, o2, o3⟩ := keep_offs c
  simp only [k0_part21_eq_skeleton]
  unfold k0_part21_skel
  simp only [dif_neg h11, dif_neg h12, dif_neg h13, dif_neg h14, dif_neg h15, dif_neg h16, dif_pos h17, dif_pos h18, dif_pos h19, dif_pos h20, Prog.lift, Prog.bind_op, Prog.bind_ret, Prog.pure_eq_ret]
  iintro ⟨#HR, HP_keep⟩ HK
  iapply (keep_step X κ c 0 (by decide) o0.1 o0.2 rfl) $$ [HP_keep]
  · isplitr; · iexact HR
    iexact HP_keep
  iintro HP_keep
  iapply (keep_step X κ c 1 (by decide) o1.1 o1.2 rfl) $$ [HP_keep]
  · isplitr; · iexact HR
    iexact HP_keep
  iintro HP_keep
  iapply (keep_step X κ c 2 (by decide) o2.1 o2.2 rfl) $$ [HP_keep]
  · isplitr; · iexact HR
    iexact HP_keep
  iintro HP_keep
  iapply (keep_step X κ c 3 (by decide) o3.1 o3.2 rfl) $$ [HP_keep]
  · isplitr; · iexact HR
    iexact HP_keep
  iintro HP_keep
  rw [wp_ret]
  imodintro
  iapply HK
  iexact HP_keep

theorem part22_runs (c : Dev nD) (hw : k0_chk1 c 2048#32) (v2 v5 v6 v7 v20 v22 v23 v24 v25 v26 v45 v47 v69 v107 : BitVec 32) :
    Runs X κ c iprop(phase 8 (fwdT c) (fwdD c) 0 ∗ ow c (owed c 0 8))
      (k0_part22 (F := F) a0 (Memref.isWhole_whole _) a1 (Memref.isWhole_whole _) a2 (Memref.isWhole_whole _) cc0_scratch0 cc0_scratch1 cc0_scratch2 cc0_scratch3 cc0_scratch4
        c v2 v5 v6 v7 2048#32 hw v20 v22 v23 v24 v25 v26 v45 v47 v69 v107)
      iprop(phase 8 (fwdT c) (fwdD c) 6 ∗ ow c (owed c 0 2)) := by
  intro Kt
  obtain ⟨h21, h22, h23, h24⟩ := keep_off c
  obtain ⟨h25, h26, h27, h28, h29, h30, -, -⟩ := fwd_on c
  obtain ⟨d0, d1, d2, d3, d4, d5, -, -⟩ := fwd_dev c
  obtain ⟨o0, o1, o2, o3, o4, o5, -, -⟩ := fwd_offs c
  simp only [k0_part22_eq_skeleton]
  unfold k0_part22_skel
  simp only [dif_neg h21, dif_neg h22, dif_neg h23, dif_neg h24, dif_pos h25, dif_pos h26, dif_pos h27, dif_pos h28, dif_pos h29, dif_pos h30, k0_part1_eq_skeleton, k0_part2_eq_skeleton, k0_part3_eq_skeleton, k0_part4_eq_skeleton, k0_part5_eq_skeleton, k0_part6_eq_skeleton, Prog.lift, Prog.bind_op, Prog.bind_ret, Prog.pure_eq_ret]
  unfold k0_part1_skel k0_part2_skel k0_part3_skel k0_part4_skel k0_part5_skel k0_part6_skel
  simp only [Prog.lift, Prog.bind_op, Prog.bind_ret, Prog.pure_eq_ret]
  iintro ⟨#HR, HP_fwd, HO⟩ HK
  iapply (fwd_step X κ c d0 0 (by decide) o0 o0 rfl rfl rfl rfl) $$ [HP_fwd HO]
  · isplitr; · iexact HR
    isplitl [HP_fwd]; · iexact HP_fwd
    iexact HO
  iintro ⟨HP_fwd, HO⟩
  iapply (fwd_step X κ c d1 1 (by decide) o1 o1 rfl rfl rfl rfl) $$ [HP_fwd HO]
  · isplitr; · iexact HR
    isplitl [HP_fwd]; · iexact HP_fwd
    iexact HO
  iintro ⟨HP_fwd, HO⟩
  iapply (fwd_step X κ c d2 2 (by decide) o2 o2 rfl rfl rfl rfl) $$ [HP_fwd HO]
  · isplitr; · iexact HR
    isplitl [HP_fwd]; · iexact HP_fwd
    iexact HO
  iintro ⟨HP_fwd, HO⟩
  iapply (fwd_step X κ c d3 3 (by decide) o3 o3 rfl rfl rfl rfl) $$ [HP_fwd HO]
  · isplitr; · iexact HR
    isplitl [HP_fwd]; · iexact HP_fwd
    iexact HO
  iintro ⟨HP_fwd, HO⟩
  iapply (fwd_step X κ c d4 4 (by decide) o4 o4 rfl rfl rfl rfl) $$ [HP_fwd HO]
  · isplitr; · iexact HR
    isplitl [HP_fwd]; · iexact HP_fwd
    iexact HO
  iintro ⟨HP_fwd, HO⟩
  iapply (fwd_step X κ c d5 5 (by decide) o5 o5 rfl rfl rfl rfl) $$ [HP_fwd HO]
  · isplitr; · iexact HR
    isplitl [HP_fwd]; · iexact HP_fwd
    iexact HO
  iintro ⟨HP_fwd, HO⟩
  rw [wp_ret]
  imodintro
  iapply HK
  isplitl [HP_fwd]; · iexact HP_fwd
  iexact HO

theorem part23_runs (c : Dev nD) (hw : k0_chk1 c 2048#32) (v2 v5 v6 v7 v23 v25 v26 v45 v47 v69 v107 : BitVec 32) :
    Runs X κ c iprop(phase 8 (fwdT c) (fwdD c) 6 ∗ ow c (owed c 0 2))
      (k0_part23 (F := F) a0 (Memref.isWhole_whole _) a1 (Memref.isWhole_whole _) a2 (Memref.isWhole_whole _) cc0_scratch0 cc0_scratch1 cc0_scratch2 cc0_scratch3 cc0_scratch4
        c v2 v5 v6 v7 2048#32 hw v23 v25 v26 v45 v47 v69 v107)
      iprop(phase 8 (fwdT c) (fwdD c) 8 ∗ ow c (owed c 0 0)) := by
  intro Kt
  obtain ⟨-, -, -, -, -, -, h31, h32⟩ := fwd_on c
  obtain ⟨h33, h34, h35, h36, h37, h38, h39, h40⟩ := fwd_off c
  obtain ⟨-, -, -, -, -, -, d6, d7⟩ := fwd_dev c
  obtain ⟨-, -, -, -, -, -, o6, o7⟩ := fwd_offs c
  simp only [k0_part23_eq_skeleton]
  unfold k0_part23_skel
  simp only [dif_pos h31, dif_pos h32, dif_neg h33, dif_neg h34, dif_neg h35, dif_neg h36, dif_neg h37, dif_neg h38, dif_neg h39, dif_neg h40, k0_part7_eq_skeleton, k0_part8_eq_skeleton, Prog.lift, Prog.bind_op, Prog.bind_ret, Prog.pure_eq_ret]
  unfold k0_part7_skel k0_part8_skel
  simp only [Prog.lift, Prog.bind_op, Prog.bind_ret, Prog.pure_eq_ret]
  iintro ⟨#HR, HP_fwd, HO⟩ HK
  iapply (fwd_step X κ c d6 6 (by decide) o6 o6 rfl rfl rfl rfl) $$ [HP_fwd HO]
  · isplitr; · iexact HR
    isplitl [HP_fwd]; · iexact HP_fwd
    iexact HO
  iintro ⟨HP_fwd, HO⟩
  iapply (fwd_step X κ c d7 7 (by decide) o7 o7 rfl rfl rfl rfl) $$ [HP_fwd HO]
  · isplitr; · iexact HR
    isplitl [HP_fwd]; · iexact HP_fwd
    iexact HO
  iintro ⟨HP_fwd, HO⟩
  rw [wp_ret]
  imodintro
  iapply HK
  isplitl [HP_fwd]; · iexact HP_fwd
  iexact HO

theorem part24_runs (c : Dev nD) (hw : k0_chk1 c 2048#32) (v5 v7 v20 v22 v24 v25 v48 v50 v88 v107 : BitVec 32) :
    Runs X κ c iprop(phase 4 (keepWaitT c) (keepWaitD X c) 0 ∗ phase 8 (fwdWaitT c) (fwdWaitD X c) 0 ∗ ow c (0))
      (k0_part24 (F := F) a0 (Memref.isWhole_whole _) a1 (Memref.isWhole_whole _) a2 (Memref.isWhole_whole _) cc0_scratch0 cc0_scratch1 cc0_scratch2 cc0_scratch3 cc0_scratch4
        c v5 v7 2048#32 hw v20 v22 v24 v25 v48 v50 v88 v107)
      iprop(phase 4 (keepWaitT c) (keepWaitD X c) 4 ∗ phase 8 (fwdWaitT c) (fwdWaitD X c) 2 ∗ ow c (0)) := by
  intro Kt
  obtain ⟨h41, h42, h43, h44⟩ := keepWait_on c
  obtain ⟨h45, h46, h47, h48⟩ := keepWait_off c
  obtain ⟨h49, h50, -, -, -, -, -, -⟩ := fwdWait_on c
  simp only [k0_part24_eq_skeleton]
  unfold k0_part24_skel
  simp only [dif_pos h41, dif_pos h42, dif_pos h43, dif_pos h44, dif_neg h45, dif_neg h46, dif_neg h47, dif_neg h48, dif_pos h49, dif_pos h50, Prog.lift, Prog.bind_op, Prog.bind_ret, Prog.pure_eq_ret]
  iintro ⟨#HR, HP_keepWait, HP_fwdWait, HO⟩ HK
  iapply (keepWait_step X κ c 0 (by decide) rfl rfl) $$ [HP_keepWait HO]
  · isplitr; · iexact HR
    isplitl [HP_keepWait]; · iexact HP_keepWait
    iexact HO
  iintro ⟨HP_keepWait, HO⟩
  iapply (keepWait_step X κ c 1 (by decide) rfl rfl) $$ [HP_keepWait HO]
  · isplitr; · iexact HR
    isplitl [HP_keepWait]; · iexact HP_keepWait
    iexact HO
  iintro ⟨HP_keepWait, HO⟩
  iapply (keepWait_step X κ c 2 (by decide) rfl rfl) $$ [HP_keepWait HO]
  · isplitr; · iexact HR
    isplitl [HP_keepWait]; · iexact HP_keepWait
    iexact HO
  iintro ⟨HP_keepWait, HO⟩
  iapply (keepWait_step X κ c 3 (by decide) rfl rfl) $$ [HP_keepWait HO]
  · isplitr; · iexact HR
    isplitl [HP_keepWait]; · iexact HP_keepWait
    iexact HO
  iintro ⟨HP_keepWait, HO⟩
  iapply (fwdWait_step X κ c 0 (by decide) rfl rfl) $$ [HP_fwdWait HO]
  · isplitr; · iexact HR
    isplitl [HP_fwdWait]; · iexact HP_fwdWait
    iexact HO
  iintro ⟨HP_fwdWait, HO⟩
  iapply (fwdWait_step X κ c 1 (by decide) rfl rfl) $$ [HP_fwdWait HO]
  · isplitr; · iexact HR
    isplitl [HP_fwdWait]; · iexact HP_fwdWait
    iexact HO
  iintro ⟨HP_fwdWait, HO⟩
  rw [wp_ret]
  imodintro
  iapply HK
  isplitl [HP_keepWait]; · iexact HP_keepWait
  isplitl [HP_fwdWait]; · iexact HP_fwdWait
  iexact HO

theorem part25_runs (c : Dev nD) (hw : k0_chk1 c 2048#32) (v5 v7 v25 v48 v50 v88 : BitVec 32) :
    Runs X κ c iprop(phase 8 (fwdWaitT c) (fwdWaitD X c) 2 ∗ ow c (0))
      (k0_part25 (F := F) a0 (Memref.isWhole_whole _) a1 (Memref.isWhole_whole _) a2 (Memref.isWhole_whole _) cc0_scratch0 cc0_scratch1 cc0_scratch2 cc0_scratch3 cc0_scratch4
        c v5 v7 2048#32 hw v25 v48 v50 v88)
      iprop(phase 8 (fwdWaitT c) (fwdWaitD X c) 8 ∗ ow c (0)) := by
  intro Kt
  obtain ⟨-, -, h51, h52, h53, h54, h55, h56⟩ := fwdWait_on c
  obtain ⟨h57, h58, h59, h60, -, -, -, -⟩ := fwdWait_off c
  simp only [k0_part25_eq_skeleton]
  unfold k0_part25_skel
  simp only [dif_pos h51, dif_pos h52, dif_pos h53, dif_pos h54, dif_pos h55, dif_pos h56, dif_neg h57, dif_neg h58, dif_neg h59, dif_neg h60, Prog.lift, Prog.bind_op, Prog.bind_ret, Prog.pure_eq_ret]
  iintro ⟨#HR, HP_fwdWait, HO⟩ HK
  iapply (fwdWait_step X κ c 2 (by decide) rfl rfl) $$ [HP_fwdWait HO]
  · isplitr; · iexact HR
    isplitl [HP_fwdWait]; · iexact HP_fwdWait
    iexact HO
  iintro ⟨HP_fwdWait, HO⟩
  iapply (fwdWait_step X κ c 3 (by decide) rfl rfl) $$ [HP_fwdWait HO]
  · isplitr; · iexact HR
    isplitl [HP_fwdWait]; · iexact HP_fwdWait
    iexact HO
  iintro ⟨HP_fwdWait, HO⟩
  iapply (fwdWait_step X κ c 4 (by decide) rfl rfl) $$ [HP_fwdWait HO]
  · isplitr; · iexact HR
    isplitl [HP_fwdWait]; · iexact HP_fwdWait
    iexact HO
  iintro ⟨HP_fwdWait, HO⟩
  iapply (fwdWait_step X κ c 5 (by decide) rfl rfl) $$ [HP_fwdWait HO]
  · isplitr; · iexact HR
    isplitl [HP_fwdWait]; · iexact HP_fwdWait
    iexact HO
  iintro ⟨HP_fwdWait, HO⟩
  iapply (fwdWait_step X κ c 6 (by decide) rfl rfl) $$ [HP_fwdWait HO]
  · isplitr; · iexact HR
    isplitl [HP_fwdWait]; · iexact HP_fwdWait
    iexact HO
  iintro ⟨HP_fwdWait, HO⟩
  iapply (fwdWait_step X κ c 7 (by decide) rfl rfl) $$ [HP_fwdWait HO]
  · isplitr; · iexact HR
    isplitl [HP_fwdWait]; · iexact HP_fwdWait
    iexact HO
  iintro ⟨HP_fwdWait, HO⟩
  rw [wp_ret]
  imodintro
  iapply HK
  isplitl [HP_fwdWait]; · iexact HP_fwdWait
  iexact HO

theorem part26_runs (c : Dev nD) (hw : k0_chk1 c 2048#32) (v5 v7 v23 v25 v26 v45 v47 v48 v50 v69 v88 : BitVec 32) :
    Runs X κ c iprop(phase 8 (endT c) (endD X c) 0 ∗ ow c (0))
      (k0_part26 (F := F) a0 (Memref.isWhole_whole _) a1 (Memref.isWhole_whole _) a2 (Memref.isWhole_whole _) cc0_scratch0 cc0_scratch1 cc0_scratch2 cc0_scratch3 cc0_scratch4
        c v5 v7 2048#32 hw v23 v25 v26 v45 v47 v48 v50 v69 v88)
      iprop(phase 8 (endT c) (endD X c) 6 ∗ ow c (0)) := by
  intro Kt
  obtain ⟨-, -, -, -, h61, h62, h63, h64⟩ := fwdWait_off c
  obtain ⟨h65, h66, h67, h68, h69, h70, -, -⟩ := end_on c
  simp only [k0_part26_eq_skeleton]
  unfold k0_part26_skel
  simp only [dif_neg h61, dif_neg h62, dif_neg h63, dif_neg h64, dif_pos h65, dif_pos h66, dif_pos h67, dif_pos h68, dif_pos h69, dif_pos h70, Prog.lift, Prog.bind_op, Prog.bind_ret, Prog.pure_eq_ret]
  iintro ⟨#HR, HP_end, HO⟩ HK
  iapply (end_step X κ c 0 (by decide) rfl rfl rfl rfl) $$ [HP_end HO]
  · isplitr; · iexact HR
    isplitl [HP_end]; · iexact HP_end
    iexact HO
  iintro ⟨HP_end, HO⟩
  iapply (end_step X κ c 1 (by decide) rfl rfl rfl rfl) $$ [HP_end HO]
  · isplitr; · iexact HR
    isplitl [HP_end]; · iexact HP_end
    iexact HO
  iintro ⟨HP_end, HO⟩
  iapply (end_step X κ c 2 (by decide) rfl rfl rfl rfl) $$ [HP_end HO]
  · isplitr; · iexact HR
    isplitl [HP_end]; · iexact HP_end
    iexact HO
  iintro ⟨HP_end, HO⟩
  iapply (end_step X κ c 3 (by decide) rfl rfl rfl rfl) $$ [HP_end HO]
  · isplitr; · iexact HR
    isplitl [HP_end]; · iexact HP_end
    iexact HO
  iintro ⟨HP_end, HO⟩
  iapply (end_step X κ c 4 (by decide) rfl rfl rfl rfl) $$ [HP_end HO]
  · isplitr; · iexact HR
    isplitl [HP_end]; · iexact HP_end
    iexact HO
  iintro ⟨HP_end, HO⟩
  iapply (end_step X κ c 5 (by decide) rfl rfl rfl rfl) $$ [HP_end HO]
  · isplitr; · iexact HR
    isplitl [HP_end]; · iexact HP_end
    iexact HO
  iintro ⟨HP_end, HO⟩
  rw [wp_ret]
  imodintro
  iapply HK
  isplitl [HP_end]; · iexact HP_end
  iexact HO

end Cert.Proof

end

end
-- ==== Proof.Body.lean ====
module

public import proofs.«01_k».proof.Proof.Parts
public import proofs.«01_k».proof.Proof.Bundles

/-! # The kernel's body, run

From what device `c` holds when the call begins — its sorted input, the word 2048, its result at anything, the tokens
of the units it gives, the rights to its own semaphores — to the result at its final contents and every semaphore back
at zero. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Rows F) (κ : GSem nD τ sig → ℕ)

/-- The staged word: how many of the rows are for place 0. -/
def cnt (c : Dev nD) : sProp 𝕄 := ((c : Thread nD τ).loc cc0_stg1_0) ↦{fullShare} (fun _ => 2048#32 : Buf (Elt F) ((c : Thread nD τ).loc cc0_stg1_0))

theorem cnt_read (x) : (a1.access (Rect.unit (s := S1) ![0] S1.size inb_S1_S1_0)).read (Elt F) (fun _ => 2048#32 : Buf (Elt F) (((0 : Dev nD) : Thread nD τ).loc cc0_stg1_0)) x = 2048#32 := rfl

/-! ## The barrier and the word -/

def beginIn (c : Dev nD) : sProp 𝕄 :=
  iprop(atPos EX (barC c) 0 ∅ 0 ∗ cred (tallyAt (barC c) () 2) ∗ dutyTok EX (barC (ypeer c)) 0 false ∗ dutyTok EX (barC (xpeer c)) 0 true
    ∗ roomY (F := F) c ∗ roomX (F := F) c ∗ ow c (owed₀ c) ∗ cnt c)
def beginOut (c : Dev nD) : sProp 𝕄 :=
  iprop(atPos EX (barC c) 1 ∅ 0 ∗ roomY (F := F) (ypeer c) ∗ roomX (F := F) (xpeer c) ∗ ow c (owed c 8 8) ∗ cnt c)

theorem begin_runs (c : Dev nD) (Fr : sProp (MT nD τ sig Unit (Elt F) ℕ UU ℕ)) (Kt : _ → sProp (MT nD τ sig Unit (Elt F) ℕ UU ℕ))
    (h : ∀ (v2 v5 v6 v7 : BitVec 32) (hw : k0_chk1 c 2048#32) (v20 v21 v22 v23 v24 v25 v26 c2 v27 c0 : BitVec 32),
      iprop(beginOut c ∗ Fr) ⊢ Kt ⟨c, v2, v5, v6, v7, 2048#32, hw, v20, v21, v22, v23, v24, v25, v26, c2, v27, c0⟩) :
    iprop(recs X κ ∗ beginIn c ∗ Fr)
      ⊢ wp frame (wpE (defs₀ (F := F)) 𝒱₀ (c : Thread nD τ) none) Set.univ
          (k0_part17 (F := F) a0 (Memref.isWhole_whole _) a1 (Memref.isWhole_whole _) a2 (Memref.isWhole_whole _) cc0_scratch0 cc0_scratch1 cc0_scratch2 cc0_scratch3 cc0_scratch4) Kt := by
  simp only [k0_part17_eq_skeleton]; unfold k0_part17_skel
  simp only [semSignalWord, semWaitWord, smemLoad, smemLoadElt, Prog.lift, Prog.bind_op, Prog.bind_ret, Prog.pure_eq_ret, wp_deviceId]
  unfold beginIn cnt
  iintro ⟨#HR, ⟨HA, HC, Hty, Htx, HY, HX, HO, Hc⟩, HF⟩
  unfold ow
  icases HO with ⟨%W, HO⟩
  have hd1 : (⟨k0_dev1 c, k0_dev1_lt c⟩ : Dev nD) = ypeer c := (signal_dev c).1
  have hd2 : (⟨k0_dev2 c, k0_dev2_lt c⟩ : Dev nD) = xpeer c := (signal_dev c).2
  have hY : (sched X).payload (barC (ypeer c)) 0 false = roomY (F := F) c := (payload_bar_false X (ypeer c)).trans (by rw [ypeer_ypeer])
  unfold barC at hY
  have hX : (sched X).payload (barC (xpeer c)) 0 true = roomX (F := F) c := (payload_bar_true X (xpeer c)).trans (by rw [xpeer_xpeer])
  unfold barC at hX
  simp only [hd1, hd2]
  iapply (Rounds.wp_signal 𝒱₀ EX (sched X) (c : Thread nD τ) none (dst := (ypeer c : Thread nD τ)) (κ := κ (barC (ypeer c))) (r := 0) (d := false)
      (by rw [show (((ypeer c : Thread nD τ), SemLoc.reg barrier0) : GSem nD τ sig) = barC (ypeer c) from rfl, duties_bar]; exact Finset.mem_univ _)
      ((amount_bar X (ypeer c) false).trans (by decide)) () (owed c 8 8 + tallyAt (barC (xpeer c)) () 1) rfl)
    $$ [HO Hty HY]
  · isplitr; · iapply (recs_bar X κ (ypeer c)); iexact HR
    isplitl [HO]; · iexact HO
    isplitl [Hty]; · iexact Hty
    isplitl [HY]
    · iapply (Entails.of_eq hY.symm); iexact HY
    iapply (recs_reached X κ (ypeer c)); iexact HR
  iintro HO
  iapply (Rounds.wp_signal 𝒱₀ EX (sched X) (c : Thread nD τ) none (dst := (xpeer c : Thread nD τ)) (κ := κ (barC (xpeer c))) (r := 0) (d := true)
      (by rw [show (((xpeer c : Thread nD τ), SemLoc.reg barrier0) : GSem nD τ sig) = barC (xpeer c) from rfl, duties_bar]; exact Finset.mem_univ _)
      ((amount_bar X (xpeer c) true).trans (by decide)) () (owed c 8 8) rfl)
    $$ [HO Htx HX]
  · isplitr; · iapply (recs_bar X κ (xpeer c)); iexact HR
    isplitl [HO]; · iexact HO
    isplitl [Htx]; · iexact Htx
    isplitl [HX]
    · iapply (Entails.of_eq hX.symm); iexact HX
    iapply (recs_reached X κ (xpeer c)); iexact HR
  iintro HO
  iapply (Rounds.wp_wait_rest_token 𝒱₀ EX (sched X) (c : Thread nD τ) none (κ := κ (barC c))
      (wpE_semWait_eq 𝒱₀ (c : Thread nD τ) none Set.univ) (Set.mem_univ _) () (O := owed c 8 8) (W := W) (R := 0) (m := 0) (T := ∅)
      ((show 0 + (2#32 : BitVec 32).toInt.toNat = 2 by decide).trans (expect_bar X c).symm)) $$ [HC HO HA]
  · isplitr; · iapply (recs_bar X κ c); iexact HR
    isplitl [HC]; · iexact HC
    isplitl [HO]; · iexact HO
    isplitr; · iapply ((recs_lev X κ).trans (mayWait_bar c)); iexact HR
    iexact HA
  iintro ⟨HO, HA, -, Hpay⟩
  have hr := rest_bar X c
  unfold barC at hr
  ihave Hp := (Entails.of_eq hr) $$ Hpay
  icases Hp with ⟨HY, HX⟩
  iapply (wp_load_rect 𝒱₀ (c : Thread nD τ) none Set.univ (m := a1) (r := Rect.unit (s := S1) ![0] S1.size inb_S1_S1_0) (S := Finset.univ) (q := fullShare) (f := (fun _ => 2048#32 : Buf (Elt F) ((c : Thread nD τ).loc cc0_stg1_0))) (Finset.subset_univ _)) $$ Hc; iintro Hc
  rw [cnt_read]
  simp only [wp_assume_of _ _ _ _ (d := k0_chk1.dec _ _) (chk_holds c)]
  rw [wp_ret]; imodintro
  iapply (h _ _ _ _ (chk_holds c) _ _ _ _ _ _ _ _ _ _)
  unfold beginOut cnt ow
  isplitr [HF]
  · isplitl [HA]; · iexact HA
    isplitl [HY]; · iexact HY
    isplitl [HX]; · iexact HX
    isplitl [HO]; · iexists _; iexact HO
    iexact Hc
  iexact HF

/-! ## The words the conditions no longer need -/

theorem part18_pure (v2 v21 c2 v27 c0 : BitVec 32) :
    ∃ r, k0_part18 (F := F) a0 (Memref.isWhole_whole _) a1 (Memref.isWhole_whole _) a2 (Memref.isWhole_whole _) cc0_scratch0 cc0_scratch1 cc0_scratch2 cc0_scratch3 cc0_scratch4 v2 v21 c2 v27 c0 = .ret r := ⟨_, rfl⟩
theorem part19_pure (v20 v50 v69 c128 : BitVec 32) :
    ∃ r, k0_part19 (F := F) a0 (Memref.isWhole_whole _) a1 (Memref.isWhole_whole _) a2 (Memref.isWhole_whole _) cc0_scratch0 cc0_scratch1 cc0_scratch2 cc0_scratch3 cc0_scratch4 v20 v50 v69 c128 = .ret r := ⟨_, rfl⟩

theorem Runs.run {c : Dev nD} {P R : sProp (MT nD τ sig Unit (Elt F) ℕ UU ℕ)} {e : Prog (TpuEff nD τ sig (Elt F) Λ₀ .tc) PUnit} (h : Runs X κ c P e R)
    (Kt : PUnit → sProp (MT nD τ sig Unit (Elt F) ℕ UU ℕ)) :
    iprop(recs X κ ∗ P) ⊢ iprop((R -∗ Kt ⟨⟩) -∗ wp frame (wpE (defs₀ (F := F)) 𝒱₀ (c : Thread nD τ) none) Set.univ e Kt) := h Kt

/-! ## The whole -/

/-- What device `c` holds when the call begins. -/
def bodyIn (c : Dev nD) (f : Rows F) : sProp 𝕄 :=
  iprop((atPos EX (barC c) 0 ∅ 0 ∗ cred (tallyAt (barC c) () 2)
      ∗ (bigSep (Finset.range 8) fun k => cred (tallyAt (gotC c k) () N1)) ∗ bigSep (Finset.range 8) fun k => cred (tallyAt (mirroredC c k) () N1))
    ∗ (dutyTok EX (barC (ypeer c)) 0 false ∗ dutyTok EX (barC (xpeer c)) 0 true
      ∗ (bigSep (Finset.range 8) fun k => dutyTok EX (sentC c k) 0 false) ∗ (bigSep (Finset.range 8) fun k => dutyTok EX (gotC (ypeer c) k) 0 false)
      ∗ (bigSep (Finset.range 8) fun k => dutyTok EX (passedC c k) 0 false) ∗ (bigSep (Finset.range 8) fun k => dutyTok EX (mirroredC (xpeer c) k) 0 false)
      ∗ bigSep (Finset.range 4) fun k => dutyTok EX (keptC c k) 0 false)
    ∗ (each (fun n => (atPos EX (dmaC c n) 0 ∅ 0 : sProp 𝕄)) ∗ each (fun n => (reached EX (dmaC c n) 0 : sProp 𝕄)))
    ∗ ow c (owed₀ c) ∗ (((c : Thread nD τ).loc cc0_stg0_0) ↦{fullShare} X c) ∗ cnt c ∗ (((c : Thread nD τ).loc cc0_stg2_0) ↦{fullShare} f))

/-- What it holds when the call is over. -/
def bodyOut (c : Dev nD) : sProp 𝕄 :=
  iprop(semVal (barC c) 0 ∗ (bigSep Finset.univ fun j : Fin 36 => semVal ((c : Thread nD τ), osem j) 0)
    ∗ ow c 0 ∗ (((c : Thread nD τ).loc cc0_stg0_0) ↦{fullShare} X c) ∗ cnt c ∗ (((c : Thread nD τ).loc cc0_stg2_0) ↦{fullShare} final X c))

/-- What the prelude leaves aside. -/
def aside (c : Dev nD) (f : Rows F) : sProp 𝕄 :=
  iprop(((bigSep (Finset.range 8) fun k => cred (tallyAt (gotC c k) () N1)) ∗ bigSep (Finset.range 8) fun k => cred (tallyAt (mirroredC c k) () N1))
    ∗ ((bigSep (Finset.range 8) fun k => dutyTok EX (sentC c k) 0 false) ∗ (bigSep (Finset.range 8) fun k => dutyTok EX (gotC (ypeer c) k) 0 false)
      ∗ (bigSep (Finset.range 8) fun k => dutyTok EX (passedC c k) 0 false) ∗ (bigSep (Finset.range 8) fun k => dutyTok EX (mirroredC (xpeer c) k) 0 false)
      ∗ bigSep (Finset.range 4) fun k => dutyTok EX (keptC c k) 0 false)
    ∗ each (fun n => (atPos EX (dmaC c n) 0 ∅ 0 : sProp 𝕄))
    ∗ ((bigSep (Finset.range 8) fun k => reached EX (dmaC c (3 + k)) 0) ∗ (bigSep (Finset.range 8) fun k => reached EX (dmaC c (35 + k)) 0)
      ∗ bigSep (Finset.range 4) fun k => reached EX (dmaC c (67 + k)) 0)
    ∗ ((bigSep (Finset.range 4) fun k => xPts c (ownRow c k) 4096 (X c)) ∗ (bigSep (Finset.range 8) fun k => xPts c (inRow c k) 1024 (X c))
      ∗ bigSep (Finset.range 8) fun k => xPts c (inRow (xpeer c) k) 1024 (X c))
    ∗ bigSep (Finset.range 4) fun k => outPts c (ownRow c k) 4096 f)

theorem split_in (c : Dev nD) (f : Rows F) : bodyIn X c f ⊢ iprop(beginIn c ∗ aside X c f) := by
  unfold bodyIn beginIn aside
  rw [x_split, out_split]
  iintro ⟨⟨HA, HC, HCg, HCm⟩, ⟨Hty, Htx, Hts, Htg, Htp, Htm, Htk⟩, ⟨HE, HRe⟩, HO, ⟨Xk, Xs, Xx⟩, Hc, ⟨Ok, Oi, Ox⟩⟩
  unfold each
  icases HRe with ⟨Rs, Rg, Rp, Rm, Rk⟩
  isplitl [HA HC Hty Htx Oi Rg Ox Rm HO Hc]
  · isplitl [HA]; · iexact HA
    isplitl [HC]; · iexact HC
    isplitl [Hty]; · iexact Hty
    isplitl [Htx]; · iexact Htx
    isplitl [Oi Rg]
    · iapply (give_y c f)
      isplitl [Oi] <;> iassumption
    isplitl [Ox Rm]
    · iapply (give_x c f)
      isplitl [Ox] <;> iassumption
    isplitl [HO]; · iexact HO
    iexact Hc
  isplitl [HCg HCm]; · isplitl [HCg] <;> iassumption
  isplitl [Hts Htg Htp Htm Htk]
  · isplitl [Hts]; · iexact Hts
    isplitl [Htg]; · iexact Htg
    isplitl [Htp]; · iexact Htp
    isplitl [Htm]; · iexact Htm
    iexact Htk
  isplitl [HE]; · iexact HE
  isplitl [Rs Rp Rk]
  · isplitl [Rs]; · iexact Rs
    isplitl [Rp] <;> iassumption
  isplitl [Xk Xs Xx]
  · isplitl [Xk]; · iexact Xk
    isplitl [Xs] <;> iassumption
  iexact Ok

/-- What the parts start from. -/
def ready (c : Dev nD) : sProp 𝕄 :=
  iprop(phase 8 (sendT X c) (sendD c) 0 ∗ phase 4 (keepT X c) (keepD c) 0 ∗ phase 8 (fwdT c) (fwdD c) 0 ∗ phase 8 (fwdWaitT c) (fwdWaitD X c) 0
    ∗ (bigSep (Finset.range 8) fun k => atPos EX (dmaC c (3 + k)) 0 ∅ 0) ∗ (bigSep (Finset.range 8) fun k => atPos EX (dmaC c (35 + k)) 0 ∅ 0)
    ∗ (bigSep (Finset.range 4) fun k => atPos EX (dmaC c (67 + k)) 0 ∅ 0)
    ∗ (bigSep (Finset.range 8) fun k => xPts c (inRow (xpeer c) k) 1024 (X c)) ∗ ow c (owed c 8 8) ∗ atPos EX (barC c) 1 ∅ 0 ∗ cnt c)

theorem ready_of (c : Dev nD) (f : Rows F) : iprop(beginOut c ∗ aside X c f) ⊢ ready X c := by
  unfold beginOut aside ready each
  iintro ⟨⟨HA, HY, HX, HO, Hc⟩, ⟨HCg, HCm⟩, ⟨Hts, Htg, Htp, Htm, Htk⟩, ⟨As, Ag, Ap, Am, Ak⟩, ⟨Rs, Rp, Rk⟩, ⟨Xk, Xs, Xx⟩, Ok⟩
  isplitl [Xs HY Hts Htg Rs]
  · iapply (send_start X c)
    isplitl [Xs]; · iexact Xs
    isplitl [HY]; · iexact HY
    isplitl [Hts]; · iexact Hts
    isplitl [Htg]; · iexact Htg
    iexact Rs
  isplitl [Xk Ok Htk Rk]
  · iapply (keep_start X c f)
    isplitl [Xk]; · iexact Xk
    isplitl [Ok]; · iexact Ok
    isplitl [Htk]; · iexact Htk
    iexact Rk
  isplitl [HCg Ag HX Htp Htm Rp]
  · iapply (fwd_start c)
    isplitl [HCg]; · iexact HCg
    isplitl [Ag]; · iexact Ag
    isplitl [HX]; · iexact HX
    isplitl [Htp]; · iexact Htp
    isplitl [Htm]; · iexact Htm
    iexact Rp
  isplitl [HCm Am]
  · iapply (fwdWait_start X c)
    isplitl [HCm] <;> iassumption
  isplitl [As]; · iexact As
  isplitl [Ap]; · iexact Ap
  isplitl [Ak]; · iexact Ak
  isplitl [Xx]; · iexact Xx
  isplitl [HO]; · iexact HO
  isplitl [HA]; · iexact HA
  iexact Hc

theorem body_runs (c : Dev nD) (f : Rows F) :
    Runs X κ c (bodyIn X c f) (cc0_body (F := F) a0 (Memref.isWhole_whole _) a1 (Memref.isWhole_whole _) a2 (Memref.isWhole_whole _) cc0_scratch0 cc0_scratch1 cc0_scratch2 cc0_scratch3 cc0_scratch4) (bodyOut X c) := by
  intro Kt
  have key : iprop(recs X κ ∗ beginIn c ∗ iprop((recs X κ ∗ aside X c f) ∗ (bodyOut X c -∗ Kt ⟨⟩)))
      ⊢ wp frame (wpE (defs₀ (F := F)) 𝒱₀ (c : Thread nD τ) none) Set.univ (cc0_body (F := F) a0 (Memref.isWhole_whole _) a1 (Memref.isWhole_whole _) a2 (Memref.isWhole_whole _) cc0_scratch0 cc0_scratch1 cc0_scratch2 cc0_scratch3 cc0_scratch4) Kt := by
    simp only [cc0_body_eq_skeleton]
    unfold cc0_body_skel
    rw [wp_bind]
    simp only [k0_part27_eq_skeleton]
    unfold k0_part27_skel
    rw [wp_bind]
    refine begin_runs X κ c _ _ fun v2 v5 v6 v7 hw v20 v21 v22 v23 v24 v25 v26 c2 v27 c0 => ?_
    obtain ⟨⟨v45, v47, v48, v50, v69, c128⟩, h18⟩ := part18_pure (F := F) v2 v21 c2 v27 c0
    obtain ⟨⟨v88, v107⟩, h19⟩ := part19_pure (F := F) v20 v50 v69 c128
    obtain ⟨-, -, -, -, -, -, h71, h72⟩ := end_on c
    obtain ⟨h73, h74, h75, h76, h77, h78, h79, h80⟩ := end_off c
    simp only [h18, h19, dif_pos h71, dif_pos h72, dif_neg h73, dif_neg h74, dif_neg h75, dif_neg h76, dif_neg h77, dif_neg h78, dif_neg h79, dif_neg h80, Prog.lift, Prog.bind_op, Prog.bind_ret, Prog.pure_eq_ret]
    iintro ⟨HB, ⟨#HR, HF⟩, HK⟩
    ihave Hr := (ready_of X c f) $$ [HB HF]
    · isplitl [HB] <;> iassumption
    unfold ready
    icases Hr with ⟨Ps, Pk, Pf, Pw, As, Ap, Ak, Xx, HO, HA, Hc⟩
    rw [wp_bind]
    iapply (Runs.run X κ (part20_runs X κ c hw _ _ _ _ _ _ _) _) $$ [Ps HO]
    · isplitr; · iexact HR
      isplitl [Ps]; · iexact Ps
      iexact HO
    iintro ⟨Ps, HO⟩
    rw [wp_bind]
    iapply (Runs.run X κ (part21_runs X κ c hw _ _ _ _ _ _ _ _ _ _ _) _) $$ [Pk]
    · isplitr; · iexact HR
      iexact Pk
    iintro Pk
    rw [wp_bind]
    iapply (Runs.run X κ (part22_runs X κ c hw _ _ _ _ _ _ _ _ _ _ _ _ _ _) _) $$ [Pf HO]
    · isplitr; · iexact HR
      isplitl [Pf]; · iexact Pf
      iexact HO
    iintro ⟨Pf, HO⟩
    rw [wp_bind]
    iapply (Runs.run X κ (part23_runs X κ c hw _ _ _ _ _ _ _ _ _ _ _) _) $$ [Pf HO]
    · isplitr; · iexact HR
      isplitl [Pf]; · iexact Pf
      iexact HO
    iintro ⟨Pf, HO⟩
    ihave HO := (Entails.of_eq (congrArg (ow (F := F) c) (owed_nothing c))) $$ HO
    ihave Pk := (keepWait_start X c) $$ [Pk Ak]
    · isplitl [Pk] <;> iassumption
    rw [wp_bind]
    iapply (Runs.run X κ (part24_runs X κ c hw _ _ _ _ _ _ _ _ _ _) _) $$ [Pk Pw HO]
    · isplitr; · iexact HR
      isplitl [Pk]; · iexact Pk
      isplitl [Pw]; · iexact Pw
      iexact HO
    iintro ⟨Pk, Pw, HO⟩
    rw [wp_bind]
    iapply (Runs.run X κ (part25_runs X κ c hw _ _ _ _ _ _) _) $$ [Pw HO]
    · isplitr; · iexact HR
      isplitl [Pw]; · iexact Pw
      iexact HO
    iintro ⟨Pw, HO⟩
    ihave He := (end_start X c) $$ [Ps As Pf Ap]
    · isplitl [Ps]; · iexact Ps
      isplitl [As]; · iexact As
      isplitl [Pf] <;> iassumption
    icases He with ⟨Pe, Ag⟩
    rw [wp_bind]
    iapply (Runs.run X κ (part26_runs X κ c hw _ _ _ _ _ _ _ _ _ _ _) _) $$ [Pe HO]
    · isplitr; · iexact HR
      isplitl [Pe]; · iexact Pe
      iexact HO
    iintro ⟨Pe, HO⟩
    iapply (end_step X κ c 6 (by decide) rfl rfl rfl rfl) $$ [Pe HO]
    · isplitr; · iexact HR
      isplitl [Pe]; · iexact Pe
      iexact HO
    iintro ⟨Pe, HO⟩
    iapply (end_step X κ c 7 (by decide) rfl rfl rfl rfl) $$ [Pe HO]
    · isplitr; · iexact HR
      isplitl [Pe]; · iexact Pe
      iexact HO
    iintro ⟨Pe, HO⟩
    rw [wp_ret]
    imodintro
    rw [dif_neg h80, wp_ret]
    ihave Hd := (all_done X c) $$ [Pk Pw Pe Ag Xx]
    · isplitl [Pk]; · iexact Pk
      isplitl [Pw]; · iexact Pw
      isplitl [Pe]; · iexact Pe
      isplitl [Ag] <;> iassumption
    icases Hd with ⟨HE, Hx, Ho⟩
    imod (close_cells X κ c) $$ [HE] with Hz
    · isplitr; · iexact HR
      iexact HE
    imod (Rounds.cell_close EX (sched X) (Set.mem_univ (κ (barC c))) (fun h => h) (R := 1) (duties_later X (barC c))) $$ [HA] with Hb
    · isplitr; · iapply (recs_bar X κ c); iexact HR
      iexact HA
    imodintro
    iapply HK
    unfold bodyOut
    isplitl [Hb]; · iexact Hb
    isplitl [Hz]; · iexact Hz
    isplitl [HO]; · iexact HO
    isplitl [Hx]; · iexact Hx
    isplitl [Hc]; · iexact Hc
    iexact Ho
  iintro ⟨#HR, H⟩ HK
  ihave H' := (split_in X c f) $$ H
  icases H' with ⟨HB, HF⟩
  iapply key
  isplitr; · iexact HR
  isplitl [HB]; · iexact HB
  isplitr [HK]
  · isplitr; · iexact HR
    iexact HF
  iexact HK

end Cert.Proof

end

end
-- ==== Proof.Region.lean ====
module

public import proofs.«01_k».proof.Proof.Ghost
public import proofs.«01_k».proof.Proof.Body
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.ValueKit

/-! # The call

What the kernel is handed and what it gives back, as the data of its one-point pipeline: the body meets them. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

/- `W c`: what the buffers of device `c` hold when the call is entered. -/
variable (W : Dev nD → Valuation τ sig (Elt F))

/-! ## The buffers' contents -/

/-- The rows a device hands its kernel. -/
def Xs (c : Dev nD) : Rows F := W c (Proc.devRef .tc main_v15)

/-- The buffers after the call: the result holds the exchanged rows. -/
def V2 (c : Dev nD) : Valuation τ sig (Elt F) := Function.update (W c) (Proc.devRef .tc main_v21) (final (Xs W) c)

theorem V2_out (c : Dev nD) : V2 W c (Proc.devRef .tc main_v21) = final (Xs W) c := Function.update_self ..
theorem V2_of_ne (c : Dev nD) (b : DevRef τ sig) (h : b ≠ Proc.devRef .tc main_v21) : V2 W c b = W c b := Function.update_of_ne h ..

/-! ## What enters the call and leaves it -/

def Tk (c : Dev nD) : sProp 𝕄 := iprop(∃ κ, recs (Xs W) κ ∗ alone c ∗ credits c)
def Xk (c : Dev nD) : sProp 𝕄 :=
  iprop(∃ κ, recs (Xs W) κ ∗ (atPos EX (barC c) 0 ∅ 0 ∗ credits c) ∗ payToks c
    ∗ each (fun n => (atPos EX (dmaC c n) 0 ∅ 0 : sProp 𝕄)) ∗ each (fun n => (reached EX (dmaC c n) 0 : sProp 𝕄)))
def Yk (c : Dev nD) : sProp 𝕄 := semVal (barC c) 0

theorem opens (c : Dev nD) : iprop(Tk W c ∗ Pipeline.ownSems0 osem c ∗ levAts L lv) ⊢ (|={Set.univ}=> Xk W c : sProp 𝕄) := by
  unfold Tk Xk alone Pipeline.ownSems0
  iintro ⟨⟨%κ, #HR, ⟨Hat, Hopen, Htok⟩, Hcr⟩, Hs, -⟩
  imod (open_cells (Xs W) κ c) $$ [Hopen Hs] with He
  · isplitr; · iexact HR
    isplitl [Hopen] <;> iassumption
  imodintro
  iexists κ
  isplitr; · iexact HR
  isplitl [Hat Hcr]; · isplitl [Hat] <;> iassumption
  isplitl [Htok]; · iexact Htok
  iexact He

/-- The call's data: its arrays as the host left them, the result's at the exchanged rows. -/
def dat (c : Dev nD) : Dat τ (Elt F) Unit ℕ UU ℕ cfg0 c where
  A w := W c (Proc.devRef .tc (Pipeline.arrRef spec0 w))
  after w := match w with
    | 0 => fun _ => Xs W c
    | 1 => fun _ _ => 2048#32
    | 2 => fun _ => final (Xs W) c
    | ⟨_ + 3, h⟩ => absurd h (Nat.not_lt.2 (Nat.le_add_left _ _))
  Φ t := if t.val = 0 then iprop(Xk W c ∗ ∃ r, prngReg c r) else iprop((Yk c ∗ Pipeline.ownSems0 osem c) ∗ ∃ r, prngReg c r)
  q _ := fullShare
  owed t := if t.val = 0 then owed₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat W

theorem owed_eq (c : Dev nD) (t : Fin (cfg0.N + 1)) : (dat W c).owed t = if t.val = 0 then owed₀ c else 0 := rfl
theorem Φ_eq (c : Dev nD) (t : Fin (cfg0.N + 1)) :
    (dat W c).Φ t = if t.val = 0 then iprop(Xk W c ∗ ∃ r, prngReg c r) else iprop((Yk c ∗ Pipeline.ownSems0 osem c) ∗ ∃ r, prngReg c r) := rfl
theorem owed_first (c : Dev nD) : (dat W c).owed t0_0.castSucc = owed₀ c := by rw [owed_eq]; exact if_pos (show (t0_0.castSucc : Fin (cfg0.N + 1)).val = 0 from rfl)
theorem owed_last (c : Dev nD) : (dat W c).owed t0_0.succ = 0 := by rw [owed_eq, if_neg (by rw [Fin.val_succ]; exact Nat.succ_ne_zero _)]
theorem Φ_first (c : Dev nD) : (dat W c).Φ t0_0.castSucc = iprop(Xk W c ∗ ∃ r, prngReg c r) := by rw [Φ_eq]; exact if_pos (show (t0_0.castSucc : Fin (cfg0.N + 1)).val = 0 from rfl)
theorem Φ_last (c : Dev nD) : (dat W c).Φ t0_0.succ = iprop((Yk c ∗ Pipeline.ownSems0 osem c) ∗ ∃ r, prngReg c r) := by
  rw [Φ_eq, if_neg (by rw [Fin.val_succ]; exact Nat.succ_ne_zero _)]

theorem owes_intro (c : Dev nD) (t : Fin (cfg0.N + 1)) (O : CellTallies nD τ sig Unit) (h : (dat W c).owed t = O) :
    ow c O ⊢ (dat W c).owesAt () t := by
  unfold ow Dat.owesAt Pipeline.owesWithin Dat.bound; rw [h]
  iintro ⟨%Wt, HO⟩; iexists Wt
  isplitr; · ipureintro; exact fun _ _ => Or.inl trivial
  iexact HO
theorem owes_elim (c : Dev nD) (t : Fin (cfg0.N + 1)) (O : CellTallies nD τ sig Unit) (h : (dat W c).owed t = O) :
    (dat W c).owesAt () t ⊢ ow c O := by
  unfold ow Dat.owesAt Pipeline.owesWithin; rw [h]
  iintro ⟨%Wt, -, HO⟩; iexists Wt; iexact HO

theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

theorem rows_emb (x) : ((cfg0.win 0).blk t0_0).view.emb x = x := by
  have e0 : win0_0.index t0_0 0 = 0 := by decide +kernel
  have e1 : win0_0.index t0_0 1 = 0 := by decide +kernel
  blk_ext

theorem before_rows (c : Dev nD) (d) : (dat W c).before (0 : Fin 3) t0_0 d = Xs W c := by
  unfold Dat.before; rw [if_pos (fetch0_0 t0_0)]
  funext x
  exact congrArg (Xs W c) (rows_emb x)

/-- After the point the result array is what the body left. -/
theorem arr_out (c : Dev nD) : (dat W c).arrAt (2 : Fin 3) cfg0.N = final (Xs W) c := by
  refine (dat W c).arrAt_eq_of_after_last 2 t0_0 (by decide +kernel) _ fun j => ?_
  rfl

/-- The word a device hands its kernel. -/
def Cs (c : Dev nD) : Buf (Elt F) ((c : Thread nD τ).loc main_v20) := W c (Proc.devRef .tc main_v20)

theorem count_emb (x) : ((cfg0.win 1).blk t0_0).view.emb x = x := by
  have e0 : win0_1.index t0_0 0 = 0 := by decide +kernel
  blk_ext

variable (hc : ∀ c : Dev nD, W c (Proc.devRef .tc main_v20) = fun _ => 2048#32)
include hc

theorem before_count (c : Dev nD) (d) : (dat W c).before (1 : Fin 3) t0_0 d = fun _ => 2048#32 := by
  unfold Dat.before; rw [if_pos (fetch0_1 t0_0)]
  funext x
  have h : Cs W c = fun _ => 2048#32 := hc c
  exact (congrArg (Cs W c) (count_emb x)).trans (congrFun h x)

def stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

set_option maxRecDepth 16384 in
theorem body_obligation (c : Dev nD) : BodyObligation (dat W c) (defs₀ (F := F)) 𝒱₀ () Set.univ := fun t => by
  obtain rfl := fin_N0 t
  rw [bigSep_W0, bigSep_W0, Φ_first, Φ_last]
  simp only [owns_whole]
  show iprop((Xk W c ∗ ∃ r, prngReg c r) ∗ (dat W c).owesAt () t0_0.castSucc
      ∗ (∃ d, stg c cc0_stg0_0 ((dat W c).before (0 : Fin 3) t0_0 d)) ∗ (∃ d, stg c cc0_stg1_0 ((dat W c).before (1 : Fin 3) t0_0 d))
      ∗ ∃ d, stg c cc0_stg2_0 ((dat W c).before (2 : Fin 3) t0_0 d))
    ⊢ wp frame (wpE (defs₀ (F := F)) 𝒱₀ c none) Set.univ
      (cc0_body a0 (Memref.isWhole_whole _) a1 (Memref.isWhole_whole _) a2 (Memref.isWhole_whole _) cc0_scratch0 cc0_scratch1 cc0_scratch2 cc0_scratch3 cc0_scratch4)
      (fun _ => iprop(((Yk c ∗ Pipeline.ownSems0 osem c) ∗ ∃ r, prngReg c r) ∗ (dat W c).owesAt () t0_0.succ
        ∗ stg c cc0_stg0_0 (Xs W c) ∗ stg c cc0_stg1_0 (fun _ => 2048#32) ∗ stg c cc0_stg2_0 (final (Xs W) c)))
  unfold Xk stg
  iintro ⟨⟨⟨%κ, HR, ⟨Hat, Hcr⟩, Htok, He⟩, Hp⟩, HO, ⟨%d0, %f0, %h0, H0⟩, ⟨%d1, %f1, %h1, H1⟩, ⟨%d2, %f2, -, H2⟩⟩
  have e0 : f0 = Xs W c := h0.trans (before_rows W c d0)
  have e1 : f1 = fun _ => 2048#32 := h1.trans (before_count W hc c d1)
  subst e0 e1
  ihave HO' := (owes_elim W c _ _ (owed_first W c)) $$ HO
  iapply (Runs.run (Xs W) κ (body_runs (Xs W) κ c f2) _) $$ [HR Hat Hcr Htok He HO' H0 H1 H2]
  · isplitl [HR]; · iexact HR
    unfold bodyIn credits payToks cnt
    isplitl [Hat Hcr]; · isplitl [Hat] <;> iassumption
    isplitl [Htok]; · iexact Htok
    isplitl [He]; · iexact He
    isplitl [HO']; · iexact HO'
    isplitl [H0]; · iexact H0
    isplitl [H1]; · iexact H1
    iexact H2
  unfold bodyOut Yk Pipeline.ownSems0 cnt
  iintro ⟨Hb, Hs, HO, H0, H1, H2⟩
  isplitl [Hb Hs Hp]
  · isplitl [Hb Hs]; · isplitl [Hb] <;> iassumption
    iexact Hp
  isplitl [HO]; · iapply (owes_intro W c _ _ (owed_last W c)); iexact HO
  isplitl [H0]; · iexists _; isplitr; · ipureintro; rfl
                  iexact H0
  isplitl [H1]; · iexists _; isplitr; · ipureintro; rfl
                  iexact H1
  iexists _; isplitr; · ipureintro; rfl
  iexact H2

end Cert.Proof

end

end
-- ==== Proof.Launch.lean ====
module

public import proofs.«01_k».proof.Proof.Region
public import proofs.«01_k».proof.Proof.Gen.KernelIdeal.Frame

/-! # The launch

The whole program on the four devices: the host lines, the call, the last reshape. What every device's buffers hold at
the end is named, and every semaphore is zero again. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)
variable (W : Dev nD → Valuation τ sig (Elt F))

abbrev bufs : Finset (DevRef τ sig) := Pipeline.ucRefs τ sig

/-! ## The call as a segment -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem arr_sub : Pipeline.arrRefs (τ := τ) spec0 ⊆ bufs := Pipeline.arrRefs_sub_ucRefs spec0 winFacts0.arr_unscoped

theorem out_arr : Proc.devRef .tc main_v21 ∈ Pipeline.arrRefs (τ := τ) spec0 := by decide

/-- The held buffers no window of the call is on. -/
abbrev rest : Finset (DevRef τ sig) := bufs \ Pipeline.arrRefs (τ := τ) spec0

theorem share_full (c : Dev nD) (w : Fin cfg0.W) : (dat W c).share w = fullShare := by unfold Dat.share; split <;> rfl

theorem levels_dma (c : Dev nD) (q : DmaSem sig) (hq : q.val < 3) : lv ((c : Thread nD τ), .dma q) () = 0 := by
  show (if 19 ≤ q.val ∧ q.val < 35 then 2 else if 51 ≤ q.val ∧ q.val < 67 then 3 else 0) = 0
  rw [if_neg (by omega), if_neg (by omega)]

theorem cut (c : Dev nD) (t : Fin (cfg0.N + 1)) (g : GSem nD τ sig) (i : Unit) (h : 0 < (dat W c).owed t g i) : i ∈ L g ∧ (0 : ℕ) < lv g i := by
  rw [owed_eq] at h
  split at h
  · rcases owed₀_pos h with rfl | rfl | ⟨k, hk, rfl⟩ | ⟨k, hk, rfl⟩
    · exact ⟨by unfold barC; rw [L_tc]; exact Finset.mem_singleton_self _, by rw [lv_bar]; decide⟩
    · exact ⟨by unfold barC; rw [L_tc]; exact Finset.mem_singleton_self _, by rw [lv_bar]; decide⟩
    · exact ⟨by unfold mirroredC dmaC; rw [L_tc]; exact Finset.mem_singleton_self _, by rw [lv_mirrored _ _ hk]; decide⟩
    · exact ⟨by unfold gotC dmaC; rw [L_tc]; exact Finset.mem_singleton_self _, by rw [lv_got _ _ hk]; decide⟩
  · exact absurd h (Nat.lt_irrefl 0)

theorem stage_small : ∀ (w : Fin cfg0.W) (s : Fin ((cfg0.win w).nbuf)), ((cfg0.win w).sem s).val < 3 := by decide

theorem osem_own : Pipeline.OwnSemFacts spec0 osem := by decide

theorem W'_rest (c : Dev nD) (b : DevRef τ sig) (hb : b ∈ rest \ ∅) : V2 W c b = W c b :=
  V2_of_ne W c b fun h => (Finset.mem_sdiff.mp (Finset.mem_sdiff.mp hb).1).2 (h ▸ out_arr)

theorem arr_in (c : Dev nD) (w : Fin cfg0.W) : (dat W c).arrAt w 0 = W c (Proc.devRef .tc (Pipeline.arrRef spec0 w)) := rfl

theorem arr_end (c : Dev nD) : ∀ w : Fin cfg0.W, (dat W c).arrAt w cfg0.N = V2 W c (Proc.devRef .tc (Pipeline.arrRef spec0 w))
  | 0 => ((dat W c).arrAt_in (0 : Fin 3) rfl _).trans (V2_of_ne W c (Proc.devRef .tc main_v15) (by decide)).symm
  | 1 => ((dat W c).arrAt_in (1 : Fin 3) rfl _).trans (V2_of_ne W c (Proc.devRef .tc main_v20) (by decide)).symm
  | 2 => (arr_out W c).trans (V2_out W c).symm
  | ⟨_ + 3, h⟩ => absurd h (Nat.not_lt.2 (Nat.le_add_left _ _))

theorem held_none (c : Dev nD) (V : Valuation τ sig (Elt F)) : (StableHlo.held (c.tc : Thread nD τ) ∅ V : sProp 𝕄) = BI.emp := by
  unfold StableHlo.held; exact BI.bigSep_empty

theorem rest_none (c : Dev nD) : (Pipeline.scopedRest (Ix := Unit) (Name := ℕ) (U := UU) (Lvl := ℕ) (Val := Elt F)
    (Pipeline.pin (pcfgs (F := F)) adm 0).spec c : sProp 𝕄) = BI.emp := scopedRest0_eq c

theorem Φ_zero (c : Dev nD) : (pdats W 0 c).Φ 0 = iprop(Xk W c ∗ ∃ r, prngReg c r) := by
  show (dat W c).Φ 0 = _
  rw [Φ_eq]; exact if_pos (show (0 : Fin (cfg0.N + 1)).val = 0 from rfl)
theorem Φ_end (c : Dev nD) : (pdats W 0 c).Φ (Fin.last _) = iprop((Yk c ∗ Pipeline.ownSems0 osem c) ∗ ∃ r, prngReg c r) := by
  show (dat W c).Φ (Fin.last _) = _
  rw [Φ_eq, if_neg]; rw [Fin.val_last, show cfg0.N = 1 from N_0]; decide
theorem owed_zero (c : Dev nD) : (pdats W 0 c).owed 0 = 0 + owed₀ c := by
  rw [zero_add]
  show (dat W c).owed 0 = _
  rw [owed_eq]; exact if_pos (show (0 : Fin (cfg0.N + 1)).val = 0 from rfl)
theorem owed_end (c : Dev nD) : (pdats W 0 c).owed (Fin.last _) = 0 := by
  show (dat W c).owed (Fin.last _) = _
  rw [owed_eq, if_neg]; rw [Fin.val_last, show cfg0.N = 1 from N_0]; decide

theorem enters (c : Dev nD) : iprop(Pipeline.scopedRest (Pipeline.pin (pcfgs (F := F)) adm 0).spec c ∗ (∃ r, prngReg c r)
      ∗ StableHlo.held (c.tc : Thread nD τ) ∅ (W c) ∗ Xk W c) ⊢ (pdats W 0 c).Φ 0 := by
  rw [Φ_zero]
  iintro ⟨-, Hp, -, HX⟩
  isplitl [HX] <;> iassumption

theorem leaves (c : Dev nD) : (pdats W 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 W c) ∗ Pipeline.ownSems0 osem c ∗ Yk c) := by
  rw [Φ_end, held_none, rest_none]
  iintro ⟨⟨HY, Hs⟩, Hp⟩
  isplitr; · iempintro
  isplitl [Hp]; · iexact Hp
  isplitr; · iempintro
  isplitl [Hs] <;> iassumption

variable (hc : ∀ c : Dev nD, W c (Proc.devRef .tc main_v20) = fun _ => 2048#32)

local notation "ℍ" => Pipeline.HostSeg (Name := ℕ) (U := UU) (pcfgs (F := F)) defs₀ 𝒱₀ L lv
local notation "ℝ𝕊" => Pipeline.RegionSeg (pcfgs (F := F)) adm (pdats W) () defs₀ 𝒱₀ L lv

set_option backward.isDefEq.respectTransparency.types false in
def call : ℝ𝕊 0 :=
  Pipeline.RegionSeg.ofTalk (pcfgs (F := F)) adm (pdats W) () defs₀ 𝒱₀ L lv 0 osem osem_own
    ∅ rest (Finset.empty_subset _) kit rfl (fun c => (body_obligation W hc c).loose)
    (fun _ => 0) owed₀ (owed_zero W) (owed_end W) (fun _ => rfl) (share_full W)
    W (V2 W) (W'_rest W)
    (Tk W) Yk (Xk W) Yk (opens W) (enters W) (leaves W)
    (fun c => by iintro H; imodintro; iexact H)
    (fun _ => 0)
    ⟨fun c w s => by rw [L_tc]; exact Finset.mem_singleton_self _, fun c w s => le_of_eq (levels_dma c _ (stage_small w s)), fun c t g i h => cut W c t g i h⟩
    (fun _ => iprop(emp))
    (arr_in W) (arr_end W)

/-! ## The segments -/

/-- What rides beside the buffers up to the call, and after it. -/
def R (c : Dev nD) : sProp 𝕄 := iprop(Tk W c ∗ (∃ r, prngReg c r) ∗ ow c (owed₀ c))
def R' (c : Dev nD) : sProp 𝕄 := iprop(Yk c ∗ ow c 0)

theorem call_pre (c : Dev nD) : iprop(StableHlo.held (c : Thread nD τ) bufs (W c) ∗ R W c) ⊢ (call W hc).pre c := by
  show _ ⊢ iprop(StableHlo.held (c.tc : Thread nD τ) (Pipeline.arrRefs (τ := τ) spec0) (W c) ∗ (∃ r, prngReg c r)
    ∗ (StableHlo.held (c.tc : Thread nD τ) rest (W c) ∗ emp) ∗ Tk W c ∗ ∃ Wd, owes (c : Thread nD τ) (0 + owed₀ c) Wd)
  rw [StableHlo.held_sub_split (c.tc : Thread nD τ) arr_sub (W c), zero_add]
  unfold R ow
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem call_post (c : Dev nD) : (call W hc).post c ⊢ iprop(StableHlo.held (c : Thread nD τ) bufs (V2 W c) ∗ R' c) := by
  show iprop(StableHlo.held (c.tc : Thread nD τ) (Pipeline.arrRefs (τ := τ) spec0) (V2 W c) ∗ (∃ r, prngReg c r)
    ∗ (StableHlo.held (c.tc : Thread nD τ) rest (V2 W c) ∗ emp) ∗ Yk c ∗ ∃ Wd, owes (c : Thread nD τ) (0 : CellTallies nD τ sig Unit) Wd) ⊢ _
  rw [StableHlo.held_sub_split (c.tc : Thread nD τ) arr_sub (V2 W c)]
  unfold R' ow
  iintro ⟨Ha, -, ⟨Hr, -⟩, Hb, HO⟩
  isplitl [Ha Hr]; · isplitl [Ha] <;> iassumption
  isplitl [Hb]; · iexact Hb
  iexact HO

theorem in_bufs {ops : List (HloOp τ sig (Elt F))} (h : ops.Forall fun op => op.bufs ⊆ StableHlo.tcRefs τ sig) : ∀ op ∈ ops, op.bufs ⊆ bufs :=
  fun op ho => Pipeline.sub_ucRefs op (List.forall_iff_forall_mem.mp h op ho)
theorem no_fresh {ops : List (HloOp τ sig (Elt F))} (h : ops.Forall fun op => op.fresh = ∅) : ∀ op ∈ ops, op.fresh = ∅ :=
  fun op ho => List.forall_iff_forall_mem.mp h op ho

def U0 (c : Dev nD) : Valuation τ sig (Elt F) := fun b => m (c, b)
def U1 (c : Dev nD) : Valuation τ sig (Elt F) := StableHlo.after hostOps0 (U0 m c)
def U2 (c : Dev nD) : Valuation τ sig (Elt F) := StableHlo.after hostOps0_1 (U1 m c)
def U3 (c : Dev nD) : Valuation τ sig (Elt F) := StableHlo.after hostOps0_2 (U2 m c)

def seg0 : ℍ := Pipeline.HostSeg.ofOps _ _ _ _ _ bufs hostOps0 (in_bufs hostOps0_sub) (no_fresh hostOps0_fresh) (U0 m) (R W)
def seg1 : ℍ := Pipeline.HostSeg.ofOps _ _ _ _ _ bufs hostOps0_1 (in_bufs hostOps0_1_sub) (no_fresh hostOps0_1_fresh) (U1 m) (R W)
def seg2 : ℍ := Pipeline.HostSeg.ofOps _ _ _ _ _ bufs hostOps0_2 (in_bufs hostOps0_2_sub) (no_fresh hostOps0_2_fresh) (U2 m) (R W)
def seg4 : ℍ := Pipeline.HostSeg.ofOps _ _ _ _ _ bufs hostOps1 (in_bufs hostOps1_sub) (no_fresh hostOps1_fresh) (V2 W) R'

def segs : List (Pipeline.Seg (pcfgs (F := F)) adm (pdats W) () defs₀ 𝒱₀ L lv) :=
  [.host (seg0 m W), .host (seg1 m W), .host (seg2 m W), .region (call W hc), .host (seg4 W)]

theorem main_eq (c : Dev nD) : main (F := F) c = Pipeline.Seg.run (segs m W hc) := (main_chain c).trans rfl

/-! ## The launch -/

theorem cells_apart : Function.Injective (Pipeline.cellOf (nD := nD) (τ := τ) (Pipeline.pin (pcfgs (F := F)) adm)) := cellOf_inj

def u₀ : UU :=
  (initOf (Pipeline.cells (Pipeline.pin (pcfgs (F := F)) adm) cells_apart) (Pipeline.launchToks (Pipeline.pin (pcfgs (F := F)) adm) cells_apart),
    launchOf barCells dmaCells allToks)

/-- A resource kept on one device until it is dealt. -/
def onDev (c₀ : Dev nD) (P : sProp (MT nD τ sig Unit (Elt F) ℕ UU ℕ)) (c : Dev nD) : sProp 𝕄 := if c = c₀ then P else iprop(emp)
theorem bigSep_onDev (c₀ : Dev nD) (P : sProp (MT nD τ sig Unit (Elt F) ℕ UU ℕ)) : bigSep Finset.univ (onDev c₀ P) = P := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev 0 (BI.own (EX (launchOf barCells dmaCells allToks)))

theorem sems_eq (c : Dev nD) : (unscopedSems0 c : sProp 𝕄) = semVal (barC c) 0 := by
  unfold unscopedSems0
  rw [show (Finset.univ.filter fun sm : SemLoc sig => ¬ sm.isScoped .tc) = {barS} from by decide, BI.bigSep_singleton]
  rfl

/-- What of a device's launch holdings is no ghost state. -/
def bundle (c : Dev nD) : sProp 𝕄 :=
  iprop(StableHlo.held (c : Thread nD τ) bufs (U0 m c) ∗ credits c ∗ ow c (owed₀ c) ∗ ∃ r, prngReg c r)

theorem start_intro (κ : GSem nD τ sig → ℕ) (c : Dev nD) :
    iprop(recs (Xs W) κ ∗ (alone c ∗ bundle m c)) ⊢ iprop(StableHlo.held (c : Thread nD τ) bufs (U0 m c) ∗ R W c) := by
  unfold bundle R Tk
  iintro ⟨HR, Ha, Hh, Hc, HO, Hp⟩
  isplitl [Hh]; · iexact Hh
  isplitl [HR Ha Hc]
  · iexists κ
    isplitl [HR]; · iexact HR
    isplitl [Ha] <;> iassumption
  isplitl [Hp] <;> iassumption

theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c)) ∗ levAts L lv)
      ⊢ (|={Set.univ}=> bigSep Finset.univ fun c : Dev nD => iprop(StableHlo.held (c : Thread nD τ) bufs (U0 m c) ∗ R W c) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ G c)
      ⊢ (iprop(bundle m c ∗ (semVal (barC c) 0 ∗ G c)) : sProp 𝕄) := by
    rw [show unscopedBufs c (fun b => m ((c : Thread nD τ).loc b)) = StableHlo.held (c : Thread nD τ) bufs (U0 m c) from Pipeline.unscopedBufs_held c (U0 m c),
      sems_eq]
    unfold bundle ow
    iintro ⟨Hh, Hus, HO, Hcr, Hp, HG⟩
    isplitl [Hh HO Hcr Hp]
    · isplitl [Hh]; · iexact Hh
      isplitl [Hcr]; · iapply (credits_intro (F := F) c); iexact Hcr
      isplitl [HO]; · iexists ∅; iexact HO
      iexists (ρ c); iexact Hp
    isplitl [Hus] <;> iassumption
  have hsplit : (bigSep Finset.univ fun c : Dev nD => iprop(bundle m c ∗ (semVal (barC c) 0 ∗ G c)))
      = (iprop(bigSep Finset.univ (bundle m) ∗ ((bigSep Finset.univ fun c : Dev nD => semVal (barC c) 0) ∗ bigSep Finset.univ G)) : sProp 𝕄) := by
    rw [bigSep_sep', bigSep_sep']
  have hall : (bigSep Finset.univ fun c : Dev nD => iprop(unscopedBufs c (fun b => m ((c : Thread nD τ).loc b)) ∗ unscopedSems0 c
        ∗ owes (c : Thread nD τ) (owed₀ c) ∅ ∗ Pipeline.launchCred owed₀ c ∗ prngReg c (ρ c) ∗ G c))
      ⊢ (iprop(bigSep Finset.univ (bundle m) ∗ ((bigSep Finset.univ fun c : Dev nD => semVal (barC c) 0) ∗ bigSep Finset.univ G)) : sProp 𝕄) :=
    (bigSep_mono fun c _ => hcore c).trans (Entails.of_eq hsplit)
  have hG : bigSep Finset.univ (G (F := F)) ⊢ BI.own (EX (launchOf barCells dmaCells allToks)) :=
    Entails.of_eq (bigSep_onDev (F := F) 0 (BI.own (EX (launchOf barCells dmaCells allToks))))
  iintro ⟨H, HL⟩
  ihave H' := hall $$ H
  icases H' with ⟨HB, Hv, HG⟩
  ihave Hu := hG $$ HG
  imod (fund (Xs W)) $$ [Hv Hu HL] with ⟨%κ, HR, Ha⟩
  · isplitl [Hv]; · iexact Hv
    isplitl [Hu] <;> iassumption
  imodintro
  iapply (bigSep_with_persistent (R := recs (Xs W) κ) (Φ := fun c => iprop(alone c ∗ bundle m c)) fun c _ => start_intro m W κ c)
  isplitl [HR]; · iexact HR
  iapply two_families
  isplitl [Ha] <;> iassumption

/-! ## The run -/

/-- What a device's buffers hold at the end. -/
def Vend (c : Dev nD) : Valuation τ sig (Elt F) := StableHlo.after hostOps1 (V2 W c)

theorem bar_only : ∀ sm : SemLoc sig, sm.isScoped .tc = false → sm = barS := by decide

include hc in
theorem run_of (hW : ∀ c, W c = U3 m c) : θ_run defs (onTc (τ := τ) (main (F := F))) ⟨m, fun _ => 0, ρ⟩
    (fun r => (∀ c : Dev nD, ∀ b ∈ bufs, r.2.mem (c, b) = Vend W c b) ∧ r.2.sem = fun _ => 0) :=
  Pipeline.θ_run_regions_kit_sems (pcfgs (F := F)) adm (pdats W) () cells_apart EP defs₀ 𝒱₀ L lv m ρ main (segs m W hc)
    (fun c Q => by rw [main_eq m W hc c])
    (by simp only [segs, Pipeline.Seg.pipes_host, Pipeline.Seg.pipes_region, Pipeline.Seg.pipes_nil]; decide)
    (O₀ := owed₀) (hL := L_of_ne) (G := G (F := F)) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) bufs (U0 m c) ∗ R W c))
    (Tₙ := fun c => iprop(StableHlo.held (c : Thread nD τ) bufs (Vend W c) ∗ Yk c))
    (hch := by
      refine ⟨fun c => .rfl, fun c => .rfl, fun c => .rfl, fun c => ?_, fun c => call_post W hc c, fun c => ?_⟩
      · refine BI.Entails.trans ?_ (call_pre W hc c)
        show iprop(StableHlo.held (c : Thread nD τ) bufs (U3 m c) ∗ R W c) ⊢ _
        rw [← hW c]
      · show iprop(StableHlo.held (c : Thread nD τ) bufs (Vend W c) ∗ R' c) ⊢ _
        unfold R' ow
        iintro ⟨Hh, Hb, HO⟩
        isplitr [HO]
        · isplitl [Hh] <;> iassumption
        · iexact HO)
    (hinit := init m ρ W)
    (QY := fun c s => (∀ b ∈ bufs, s.mem (c, b) = Vend W c b) ∧ s.sem (barC c) = 0)
    (hfin := fun c s' => by
      unfold StableHlo.held Yk
      iintro ⟨⟨Hh, Hb⟩, HSI⟩
      ihave Hp := (pointsTo_read_all bufs (fun b => (((c : Thread nD τ)).1, b)) (Vend W c) s') $$ [Hh HSI]
      · isplitl [Hh] <;> iassumption
      icases Hp with ⟨%hb, HSI⟩
      icombine HSI Hb gives %hs
      imodintro
      isplitr; · ipureintro; exact ⟨hb, by simpa using hs⟩
      iexact HSI)
    (hQ := fun s h hs => ⟨fun c => (h c).1, sem_eq_zero hs fun c sm hsm => by
        obtain rfl := bar_only sm hsm
        exact (h c).2⟩)

end Cert.Proof

end

end
-- ==== Proof.Sorting.lean ====
module

public import Idealize.ShloMosaic.Lib.SortPrefix

/-! # The order of a stable sort of small keys

`ord d` lists the positions `0 … n-1` by `d`, equal entries by position: the stable sort of `d`.  It is the one list of
the positions along which the number `8192·d + position` increases (`ord_eq`).  Where exactly half of 4096 entries, all 0
or 1, are 0, the first half of the list is those (`ord_zero`).  And the list of 8192 positions, cut in two blocks of
4096 that are each half zeros, is put together from the two blocks' own lists (`ord_two`): that is the all-to-all. -/

@[expose] public section

namespace Cert.Proof

open Idealize.ShloMosaic

variable {n : Nat}

/-- The entry at a position and the position, as one number. -/
def key (d : Fin n → Nat) (k : Fin n) : Nat := 8192 * d k + k.val

/-- The positions in stable order of `d`. -/
def ord (d : Fin n → Nat) : Fin n → Fin n := sortedFrom fun k k' => decide (key d k < key d k')

theorem key_inj (hn : n ≤ 8192) (d : Fin n → Nat) : Function.Injective (key d) := fun a b h => by
  have ha := a.isLt
  have hb := b.isLt
  unfold key at h
  exact Fin.ext (by omega)

theorem key_total (hn : n ≤ 8192) (d : Fin n → Nat) : StrictTotalBefore fun k k' : Fin n => decide (key d k < key d k') where
  irrefl a := by simp
  trans a b c hab hbc := by
    simp only [decide_eq_true_eq] at hab hbc ⊢
    omega
  total a b hne := by
    simp only [decide_eq_true_eq]
    have : key d a ≠ key d b := fun h => hne (key_inj hn d h)
    omega

/-- The keys increase along the list. -/
theorem ord_lt (hn : n ≤ 8192) (d : Fin n → Nat) {i j : Fin n} (h : i < j) : key d (ord d i) < key d (ord d j) := by
  have hB := key_total hn d
  have h1 := sortedFrom_noInversion (fun k k' : Fin n => decide (key d k < key d k')) _
    (fun a b e => hB.asymm a b e) (fun a b e => e) (fun a b c => hB.negTrans a b c) i j h
  have h2 : key d (ord d i) ≠ key d (ord d j) := fun e => h.ne (sortedFrom_injective _ (key_inj hn d e))
  have h3 : ¬ key d (ord d j) < key d (ord d i) := of_decide_eq_false h1
  omega

theorem ord_bij (d : Fin n → Nat) : Function.Bijective (ord d) := ⟨sortedFrom_injective _, sortedFrom_surjective _⟩

/-- A list of positions along which the keys increase is the sorted one. -/
theorem ord_eq (hn : n ≤ 8192) (d : Fin n → Nat) (σ : Fin n → Fin n) (hσ : ∀ i j, i < j → key d (σ i) < key d (σ j)) : ord d = σ := by
  have hinj : Function.Injective σ := fun i j e => by
    rcases lt_trichotomy i j with h | h | h
    · have := hσ i j h; rw [e] at this; omega
    · exact h
    · have := hσ j i h; rw [e] at this; omega
  have hsur : Function.Surjective σ := Finite.injective_iff_surjective.mp hinj
  funext i
  have h := (key_total hn d).sortedFrom_eq_of_prefix (le_refl n) σ hinj
    (fun i j hij => by have := hσ i j hij; simp only [decide_eq_false_iff_not]; omega)
    (fun i p hp => by obtain ⟨j, hj⟩ := hsur p; exact absurd hj (hp j)) i
  exact h

/-- A stable sort by the entries alone lists the positions in the same order: positions are inserted from the last to
    the first, so only earlier ones are ever compared with later ones. -/
theorem stableSort_of_sorted {ι : Type} [LinearOrder ι] (R R' : ι → ι → Bool) (h : ∀ a b, a < b → R b a = R' b a) :
    ∀ l : List ι, l.Pairwise (· < ·) → stableSort R l = stableSort R' l
  | [], _ => rfl
  | a :: l, hl => by
    rw [List.pairwise_cons] at hl
    unfold stableSort
    rw [stableSort_of_sorted R R' h l hl.2]
    exact insertBefore_congr R R' a _ fun b hb => h a b (hl.1 b ((perm_stableSort R' l).mem_iff.mp hb))

theorem ord_of_entries (hn : n ≤ 8192) (d : Fin n → Nat) : sortedFrom (fun k k' : Fin n => decide (d k < d k')) = ord d := by
  have e : sortPositions n (fun k k' : Fin n => decide (d k < d k')) = sortPositions n fun k k' => decide (key d k < key d k') :=
    stableSort_of_sorted _ _ (fun a b hab => by
      have ha := a.isLt
      have hb := b.isLt
      have hab' : a.val < b.val := hab
      unfold key
      exact decide_eq_decide.mpr (by omega)) _ (List.pairwise_lt_finRange n)
  funext k
  unfold ord sortedFrom
  rw [List.get_of_eq e]
  rfl

/-- Entries 0 or 1, `h` of them 0: the first `h` of the list are the zeros. -/
theorem ord_zero (hn : n ≤ 8192) (d : Fin n → Nat) (hd : ∀ k, d k = 0 ∨ d k = 1) (h : Nat) (hc : (Finset.univ.filter fun k => d k = 0).card = h)
    (i : Fin n) : d (ord d i) = 0 ↔ i.val < h := by
  classical
  have hmono : ∀ i j : Fin n, i < j → d (ord d i) ≤ d (ord d j) := fun i j hij => by
    have h1 := ord_lt hn d hij
    have h2 := (ord d i).isLt
    have h3 := (ord d j).isLt
    unfold key at h1
    omega
  have hcard : (Finset.univ.filter fun i => d (ord d i) = 0).card = h := by
    rw [← hc]
    refine Finset.card_bij (fun i _ => ord d i) (fun i hi => by simpa using hi) (fun i _ j _ e => (ord_bij d).1 e) fun k hk => ?_
    obtain ⟨i, rfl⟩ := (ord_bij d).2 k
    exact ⟨i, by simpa using hk, rfl⟩
  constructor
  · intro hi
    have hsub : Finset.univ.filter (fun j : Fin n => j ≤ i) ⊆ Finset.univ.filter fun i => d (ord d i) = 0 := fun j hj => by
      simp only [Finset.mem_filter, Finset.mem_univ, true_and] at hj ⊢
      rcases hj.lt_or_eq with hlt | rfl
      · have := hmono j i hlt; omega
      · exact hi
    have h1 := Finset.card_le_card hsub
    rw [hcard, show (Finset.univ.filter fun j : Fin n => j ≤ i) = Finset.Iic i by ext; simp, Fin.card_Iic] at h1
    omega
  · intro hi
    by_contra hne
    have hsub : (Finset.univ.filter fun i => d (ord d i) = 0) ⊆ Finset.univ.filter (fun j : Fin n => j < i) := fun j hj => by
      simp only [Finset.mem_filter, Finset.mem_univ, true_and] at hj ⊢
      by_contra hle
      rcases (not_lt.mp hle).lt_or_eq with hlt | rfl
      · have := hmono i j hlt; omega
      · exact hne hj
    have h1 := Finset.card_le_card hsub
    rw [hcard, show (Finset.univ.filter fun j : Fin n => j < i) = Finset.Iio i by ext; simp, Fin.card_Iio] at h1
    omega

/-! ## Two blocks -/

/-- Position `k` of block `y` among all the positions. -/
def inBlock (y : Nat) (k : Fin 4096) (hy : y < 2) : Fin 8192 := ⟨4096 * y + k.val, by have := k.isLt; omega⟩

/-- Where the entry at place `i` of the sorted whole stands: in which block, and at which place of the block's own list. -/
def partBlock (i : Nat) : Nat := if i % 4096 < 2048 then 0 else 1
def partPlace (i : Nat) : Nat := if i < 4096 then i % 2048 else 2048 + i % 2048

theorem partBlock_lt (i : Nat) : partBlock i < 2 := by unfold partBlock; split <;> omega
theorem partPlace_lt (i : Nat) : partPlace i < 4096 := by unfold partPlace; split <;> omega

theorem ord_two (D : Fin 8192 → Nat) (d : Nat → Fin 4096 → Nat) (hD : ∀ y (hy : y < 2) k, D (inBlock y k hy) = d y k)
    (hd : ∀ y, y < 2 → ∀ k, d y k = 0 ∨ d y k = 1) (hc : ∀ y, y < 2 → (Finset.univ.filter fun k => d y k = 0).card = 2048) (i : Fin 8192) :
    ord D i = inBlock (partBlock i.val) (ord (d (partBlock i.val)) ⟨partPlace i.val, partPlace_lt _⟩) (partBlock_lt _) := by
  have hkey : ∀ y (hy : y < 2) k, key D (inBlock y k hy) = key (d y) k + 4096 * y := fun y hy k => by
    unfold key
    rw [hD]
    show 8192 * d y k + (4096 * y + k.val) = _
    omega
  refine congrFun (ord_eq (le_refl _) D (fun i => inBlock (partBlock i.val) (ord (d (partBlock i.val)) ⟨partPlace i.val, partPlace_lt _⟩) (partBlock_lt _)) ?_) i
  intro a b hab
  have hab' : a.val < b.val := hab
  have ha := a.isLt
  have hb := b.isLt
  rw [hkey, hkey]
  by_cases hsame : partBlock a.val = partBlock b.val
  · rw [hsame]
    refine Nat.add_lt_add_right (ord_lt (by omega) _ ?_) _
    show partPlace a.val < partPlace b.val
    unfold partBlock at hsame
    unfold partPlace
    split_ifs at hsame ⊢ <;> omega
  · have za := ord_zero (by omega) (d (partBlock a.val)) (hd _ (partBlock_lt _)) 2048 (hc _ (partBlock_lt _)) ⟨partPlace a.val, partPlace_lt _⟩
    have zb := ord_zero (by omega) (d (partBlock b.val)) (hd _ (partBlock_lt _)) 2048 (hc _ (partBlock_lt _)) ⟨partPlace b.val, partPlace_lt _⟩
    have oa := hd _ (partBlock_lt a.val) (ord (d (partBlock a.val)) ⟨partPlace a.val, partPlace_lt _⟩)
    have ob := hd _ (partBlock_lt b.val) (ord (d (partBlock b.val)) ⟨partPlace b.val, partPlace_lt _⟩)
    have la := (ord (d (partBlock a.val)) ⟨partPlace a.val, partPlace_lt _⟩).isLt
    have lb := (ord (d (partBlock b.val)) ⟨partPlace b.val, partPlace_lt _⟩).isLt
    have ta := partBlock_lt a.val
    have tb := partBlock_lt b.val
    have pa : partPlace a.val < 2048 ↔ a.val < 4096 := by unfold partPlace; split <;> omega
    have pb : partPlace b.val < 2048 ↔ b.val < 4096 := by unfold partPlace; split <;> omega
    rw [show (⟨partPlace a.val, partPlace_lt _⟩ : Fin 4096).val = partPlace a.val from rfl, pa] at za
    rw [show (⟨partPlace b.val, partPlace_lt _⟩ : Fin 4096).val = partPlace b.val from rfl, pb] at zb
    have hblk : (a.val < 4096 ∧ b.val < 4096 ∨ 4096 ≤ a.val ∧ 4096 ≤ b.val) → partBlock a.val < partBlock b.val := by
      intro hcase
      unfold partBlock at hsame ⊢
      split_ifs at hsame ⊢ <;> omega
    unfold key
    by_cases ca : a.val < 4096 <;> by_cases cb : b.val < 4096
    · have := hblk (Or.inl ⟨ca, cb⟩); have := za.mpr ca; have := zb.mpr cb; omega
    · have := za.mpr ca; have := mt zb.mp cb; omega
    · omega
    · have := hblk (Or.inr ⟨not_lt.mp ca, not_lt.mp cb⟩); have := mt za.mp ca; have := mt zb.mp cb; omega

end Cert.Proof

end
-- ==== Proof.Words.lean ====
module

public import proofs.«01_k».proof.Proof.Sorting
public import Idealize.ShloMosaic.Lib.IndicatorCount
public import Idealize.ShloMosaic.Lib.ReduceAll
public import Idealize.ShloMosaic.Lib.StableHlo.Predicate

/-! # The host operations read at an index

The rows a gather takes, jnp's wrap of a negative index, the packed sort key `(dest << 13) | position` and its low
bits, the count of zeros, and the two halves of the precondition, each as a fact about numbers. -/

@[expose] public section

noncomputable section

namespace Cert.Proof

open Idealize.ShloMosaic Idealize.ShloMosaic.StableHlo.Predicate

/-- A vector of `n` entries; a rectangle. -/
abbrev V1 (n : Nat) : Shape := ⟨1, ![n]⟩
abbrev V2d (n m : Nat) : Shape := ⟨2, ![n, m]⟩

/-- Position `(p, q)` of a rectangle. -/
def at2 {n m : Nat} (p : Fin n) (q : Fin m) : (V2d n m).Idx := fun a => match a with
  | ⟨0, _⟩ => p
  | ⟨1, _⟩ => q

theorem at2_eta {n m : Nat} (i : (V2d n m).Idx) : i = at2 (i 0) (i 1) := funext fun a => by
  match a with
  | ⟨0, _⟩ => rfl
  | ⟨1, _⟩ => rfl

/-! ## Rows gathered -/

/-- The dimension numbers of `x[idx]` for a rectangle `x` and a list `idx` of its rows. -/
abbrev rowDims (N C B : Nat) (wf : GatherDims.WF (V2d N C) (V2d B 1) (V2d B C) [1] [0] [] [0] [] 1 ![1, C]) :
    GatherDims (V2d N C) (V2d B 1) (V2d B C) where
  offsetDims := [1]
  collapsedSliceDims := [0]
  operandBatchingDims := []
  startIndicesBatchingDims := []
  startIndexMap := [0]
  indexVectorDim := 1
  sliceSizes := ![1, C]
  wf := wf

/-- Row `p` of the gather is the row of `x` the list names at `p`. -/
theorem gather_row {α : Type} {N C B : Nat} (wf : GatherDims.WF (V2d N C) (V2d B 1) (V2d B C) [1] [0] [] [0] [] 1 ![1, C])
    (x : (V2d N C).Idx → α) (idx : IVec (V2d B 1) 32) (p : Fin B) (q : Fin C) (r : Fin N) (hr : (idx (at2 p 0)).toInt = r.val) :
    Host.gather (rowDims N C B wf) x idx (at2 p q) = x (at2 r q) := by
  unfold Host.gather
  refine congrArg x (funext fun a => Fin.ext ?_)
  show (rowDims N C B wf).start (at2 p q) idx a + (rowDims N C B wf).batchCoord (at2 p q) a + (rowDims N C B wf).offCoord (at2 p q) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C B wf).startIndexMap from List.mem_singleton.mpr rfl)]
    have hsi : (rowDims N C B wf).siIdx (at2 p q) ⟨List.idxOf (0 : Fin 2) (rowDims N C B wf).startIndexMap,
        List.idxOf_lt_length_iff.2 (List.mem_singleton.mpr rfl)⟩ = at2 p 0 := by
      funext b
      refine Fin.ext ?_
      match b with
      | ⟨0, _⟩ => rfl
      | ⟨1, _⟩ => rfl
    have h1 := r.isLt
    show min (idx _).toInt.toNat (N - 1) = r.val
    rw [hsi, hr, Int.toNat_natCast]
    omega
  · have h0 : (rowDims N C B wf).start (at2 p q) idx (1 : Fin 2) = 0 := by
      unfold GatherDims.start
      exact dif_neg (fun h => absurd (show (1 : Fin 2) = 0 from List.mem_singleton.mp h) (by decide))
    show (rowDims N C B wf).start (at2 p q) idx (1 : Fin 2) + (rowDims N C B wf).offCoord (at2 p q) (1 : Fin 2) = q.val
    rw [h0, Nat.zero_add]
    unfold GatherDims.offCoord
    rw [dif_pos ((GatherDims.mem_sKept _ _).mpr ⟨fun h => absurd (show (1 : Fin 2) = 0 from List.mem_singleton.mp h) (by decide), List.not_mem_nil⟩)]
    rfl

/-! ## Words -/

theorem bit_of_not_one {b : BitVec 1} (h : b ≠ 1#1) : b = 0#1 := (BitVec.eq_zero_or_eq_one b).resolve_right h

/-- The wrap of a negative index leaves an index that is none. -/
theorem wrap_small (v c : BitVec 32) (hv : v.toNat < 2 ^ 31) : Scalar.select (IntOp.cmpi .slt v 0#32) (IntOp.addi v c) v = v := by
  have h : IntOp.cmpi .slt v 0#32 = 0#1 := bit_of_not_one fun e => by
    have := (slt_iff_toNat hv (by decide)).mp e
    simp at this
  rw [h]
  rfl

/-- The packed key as a number. -/
theorem packed (w : BitVec 32) (hw : w = 0#32 ∨ w = 1#32) (k : Nat) (hk : k < 8192) :
    (IntOp.ori (IntOp.shli .host w 13#32) (BitVec.ofNat 32 k)).toNat = 8192 * w.toNat + k := by
  have hs : IntOp.shli .host w 13#32 = w <<< 13#32 := if_pos (by decide)
  have hkm : k % 4294967296 = k := Nat.mod_eq_of_lt (by omega)
  rw [hs]
  unfold IntOp.ori
  rw [BitVec.toNat_or, BitVec.toNat_ofNat, show (2 : Nat) ^ 32 = 4294967296 from rfl, hkm]
  rcases hw with rfl | rfl
  · simp
  · have := Nat.two_pow_add_eq_or_of_lt (i := 13) (b := k) (by omega) 1
    simpa using this.symm

/-- Its low thirteen bits are the position. -/
theorem unpacked (v : BitVec 32) (a k : Nat) (hk : k < 8192) (hv : v.toNat = 8192 * a + k) : IntOp.andi v 8191#32 = BitVec.ofNat 32 k := by
  apply BitVec.eq_of_toNat_eq
  unfold IntOp.andi
  rw [BitVec.toNat_and, hv, BitVec.toNat_ofNat, BitVec.toNat_ofNat]
  have := Nat.and_two_pow_sub_one_eq_mod (8192 * a + k) 13
  rw [show 8191 % 2 ^ 32 = 2 ^ 13 - 1 from rfl, this]
  omega

/-! ## Lists of positions -/

/-- A vector's entries as numbers. -/
def nums {n : Nat} (d : IVec (V1 n) 32) (k : Fin n) : Nat := (d (Shape.Idx.ofFin k)).toNat

/-- The vector's entries are 0 or 1. -/
def Binary {n : Nat} (d : IVec (V1 n) 32) : Prop := ∀ i, d i = 0#32 ∨ d i = 1#32

theorem Binary.nums {n : Nat} {d : IVec (V1 n) 32} (h : Binary d) (k : Fin n) : nums d k = 0 ∨ nums d k = 1 := by
  unfold Cert.Proof.nums
  rcases h (Shape.Idx.ofFin k) with e | e <;> rw [e]
  · exact Or.inl rfl
  · exact Or.inr rfl

/-- The sorted keys' low bits are the positions in stable order. -/
theorem order_of_keys {n : Nat} (hn : n ≤ 8192) (d keys : IVec (V1 n) 32) (hd : Binary d)
    (hkeys : ∀ i, keys i = IntOp.ori (IntOp.shli .host (d i) 13#32) (BitVec.ofNat 32 (i 0).val)) (cmp : BitVec 32 → BitVec 32 → BitVec 1)
    (hcmp : ∀ a b, cmp a b = IntOp.cmpi .slt a b) (i : (V1 n).Idx) :
    IntOp.andi (Host.sort (V1 n) 0 cmp keys i) 8191#32 = BitVec.ofNat 32 (ord (nums d) (i 0)).val := by
  have hk (k : Fin n) : (keys (Shape.Idx.ofFin k)).toNat = key (nums d) k := by
    have := k.isLt
    rw [hkeys, packed _ (hd _) _ (by rw [Shape.Idx.ofFin_zero]; omega), Shape.Idx.ofFin_zero]
    rfl
  have hlt (k : Fin n) : key (nums d) k < 2 ^ 31 := by
    have := k.isLt
    have := hd.nums k
    unfold key
    omega
  rw [Host.sort_rank1]
  have hrel : (fun k k' : Fin n => cmp (keys (Shape.Idx.ofFin k)) (keys (Shape.Idx.ofFin k')) == 1#1)
      = fun k k' => decide (key (nums d) k < key (nums d) k') := by
    funext k k'
    rw [hcmp]
    have h := slt_iff_toNat (a := keys (Shape.Idx.ofFin k)) (b := keys (Shape.Idx.ofFin k')) (by rw [hk]; exact hlt k) (by rw [hk]; exact hlt k')
    rw [hk, hk] at h
    by_cases e : key (nums d) k < key (nums d) k'
    · rw [h.mpr e, decide_eq_true e]; rfl
    · rw [bit_of_not_one (mt h.mp e), decide_eq_false e]; rfl
  rw [hrel]
  show IntOp.andi (keys (Shape.Idx.ofFin (ord (nums d) (i 0)))) 8191#32 = _
  have hpos := (ord (nums d) (i 0)).isLt
  exact unpacked _ (nums d (ord (nums d) (i 0))) _ (by omega) (by rw [hk]; rfl)

/-- The reference's order: the positions carried through the stable sort of the entries. -/
theorem order_of_pairs {n : Nat} (hn : n ≤ 8192) (d : IVec (V1 n) 32) (hd : Binary d) (cmp : BitVec 32 × BitVec 32 → BitVec 32 × BitVec 32 → BitVec 1)
    (hcmp : ∀ a b, cmp a b = IntOp.cmpi .slt a.1 b.1) (i : (V1 n).Idx) :
    (Host.sort2 (V1 n) 0 cmp d (iotaInDim (V1 n) 32 0)).2 i = BitVec.ofNat 32 (ord (nums d) (i 0)).val := by
  have hlt (k : Fin n) : (d (Shape.Idx.ofFin k)).toNat < 2 ^ 31 := by
    rcases hd (Shape.Idx.ofFin k) with e | e <;> rw [e] <;> decide
  have hrel : (fun k k' : Fin n => cmp (d (Shape.Idx.ofFin k), iotaInDim (V1 n) 32 0 (Shape.Idx.ofFin k))
        (d (Shape.Idx.ofFin k'), iotaInDim (V1 n) 32 0 (Shape.Idx.ofFin k')) == 1#1) = fun k k' => decide (nums d k < nums d k') := by
    funext k k'
    rw [hcmp]
    have h := slt_iff_toNat (hlt k) (hlt k')
    by_cases e : nums d k < nums d k'
    · rw [h.mpr e, decide_eq_true e]; rfl
    · rw [bit_of_not_one (mt h.mp e), decide_eq_false e]; rfl
  unfold Host.sort2
  rw [dif_pos (show 0 < (V1 n).rank from Nat.one_pos)]
  have main : ∀ (g : Fin n → (V1 n).Idx) (p : Fin n), g = Shape.Idx.ofFin →
      iotaInDim (V1 n) 32 0 (g (sortedFrom (fun k k' => cmp (d (g k), iotaInDim (V1 n) 32 0 (g k))
        (d (g k'), iotaInDim (V1 n) 32 0 (g k')) == 1#1) p)) = BitVec.ofNat 32 (ord (nums d) p).val := by
    rintro g p rfl
    rw [hrel, ord_of_entries hn]
    rfl
  exact main (fun k => i.along (0 : Fin 1) k) (i 0) (funext fun k => Shape.Idx.along_rank1 i k)

/-! ## Counts -/

/-- The number of zeros, as a program counts them. -/
theorem count_zeros {n : Nat} (d : IVec (V1 n) 32) {u : Shape} (h : (V1 n).ReducesTo [0] ⟨0, ![]⟩) (hu : 0 < u.numel) (hw : 1 < 32) (j : (⟨0, ![]⟩ : Shape).Idx) :
    Host.reduce IntOp.addi (fun i => (IntOp.cmpi .eq (d i) 0#32).setWidth 32) (fun _ : u.Idx => 0#32) h hu j
      = BitVec.ofNat 32 (Finset.univ.filter fun k : Fin n => nums d k = 0).card := by
  have hss : Subsingleton (⟨0, ![]⟩ : Shape).Idx := ⟨fun a b => funext fun x => x.elim0⟩
  rw [Host.reduce_eq_fold, IndicatorCount.fold_addi_setWidth_eq_card, Finset.filter_filter]
  refine congrArg (BitVec.ofNat 32) ?_
  refine Finset.card_bij (fun i _ => i 0) (fun i hi => ?_) (fun i _ i' _ e => ?_) fun k hk => ?_
  · simp only [Finset.mem_filter, Finset.mem_univ, true_and] at hi
    refine Finset.mem_filter.mpr ⟨Finset.mem_univ _, ?_⟩
    have e : d i = 0#32 := cmpi_eq_iff.mp hi.2
    exact congrArg BitVec.toNat ((congrArg d (Shape.Idx.eq_ofFin i).symm).trans e)
  · rw [Shape.Idx.eq_ofFin i, Shape.Idx.eq_ofFin i']
    exact congrArg Shape.Idx.ofFin e
  · refine ⟨Shape.Idx.ofFin k, ?_, Shape.Idx.ofFin_zero k⟩
    simp only [Finset.mem_filter, Finset.mem_univ, true_and] at hk ⊢
    exact ⟨Subsingleton.elim _ _, cmpi_eq_iff.mpr (BitVec.eq_of_toNat_eq hk)⟩

theorem two_of_ori {a b : BitVec 1} (h : IntOp.ori a b = 1#1) : a = 1#1 ∨ b = 1#1 := by
  revert a b; decide

theorem two_of_andi {a b : BitVec 1} (h : IntOp.andi a b = 1#1) : a = 1#1 ∧ b = 1#1 := by
  revert a b; decide

/-- Twice a small count equal to `4096`: the count is `2048`. -/
theorem half_of (c : Nat) (hc : c ≤ 4096) (h : IntOp.muli 2#32 (BitVec.ofNat 32 c) = 4096#32) : c = 2048 := by
  have e := congrArg BitVec.toNat h
  unfold IntOp.muli at e
  rw [BitVec.toNat_mul, BitVec.toNat_ofNat, BitVec.toNat_ofNat, BitVec.toNat_ofNat] at e
  omega

end Cert.Proof

end

end
-- ==== Proof.HostReads.lean ====
module

public import proofs.«01_k».proof.Proof.Launch
public import proofs.«01_k».proof.Proof.Words
public import Idealize.ShloMosaic.Lib.StableHlo.Run

/-! # What the host operations leave

Each stretch of host operations read at the buffers used later, over any contents it starts from. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Valuation τ sig (Elt F))

/-- The packed keys. -/
theorem keys_read : StableHlo.after hostOps0 X (Proc.devRef .tc main_v4)
    = ori (Host.shli (X (Proc.devRef .tc main_arg1) : IVec S4096 32) (broadcastInDim S4096 ![] bcast_S_S4096 (constantI S_ 32 13#32))) (iotaInDim S4096 32 0) := by
  simp only [hostOps0]
  after_results <;> rfl

/-- The keys sorted. -/
theorem sorted_read : StableHlo.after hostOps0_1 X (Proc.devRef .tc main_v5)
    = Host.sort S4096 0 comparator_i32_d0 (X (Proc.devRef .tc main_v4) : IVec S4096 32) := by
  simp only [hostOps0_1, StableHlo.TRef.unary, StableHlo.TRef.toBuf, StableHlo.TRef.ofBuf, cast_eq]
  after_results <;> rfl

/-- The sorted keys' low bits, and jnp's wrap of a negative index. -/
def low (s : IVec S4096 32) : IVec S4096 32 := andi s (broadcastInDim S4096 ![] bcast_S_S4096 (constantI S_ 32 8191#32))
def wrapped (v : IVec S4096 32) : IVec S4096 32 :=
  select (cmpi .slt v (broadcastInDim S4096 ![] bcast_S_S4096 (constantI S_ 32 0#32))) (addi v (broadcastInDim S4096 ![] bcast_S_S4096 (constantI S_ 32 4096#32))) v

/-- The sorted rows, before they are cut into runs of 128 lanes. -/
def gathered (x : FVec F S4096x1024 .bf16) (s : IVec S4096 32) : FVec F S4096x1024 .bf16 :=
  Host.gather gather_S4096x1024_S4096x1_S4096x1024_1_0_n_n_0_1_11024 x (broadcastInDim S4096x1 ![0] bcast_S4096_S4096x1_0 (wrapped (low s)))

theorem rows_read : StableHlo.after hostOps0_2 X (Proc.devRef .tc main_v15)
    = shapeCast S32768x128 (gathered (X (Proc.devRef .tc main_arg0) : FVec F S4096x1024 .bf16) (X (Proc.devRef .tc main_v5) : IVec S4096 32)) shapeCasts_S4096x1024_S32768x128 := by
  simp only [hostOps0_2]
  after_results <;> rfl

/-- The count of zeros. -/
def zeros (d : IVec S4096 32) : IVec S_ 32 :=
  Host.reduce IntOp.addi (extui 32 (cmpi .eq d (broadcastInDim S4096 ![] bcast_S_S4096 (constantI S_ 32 0#32))) natLt_1_32) (constantI S_ 32 0#32)
    reducesTo_S4096_S_d0 h_S_

theorem count_read : StableHlo.after hostOps0_2 X (Proc.devRef .tc main_v20)
    = shapeCast S1 (zeros (X (Proc.devRef .tc main_arg1) : IVec S4096 32)) shapeCasts_S_S1 := by
  simp only [hostOps0_2]
  after_results <;> rfl

/-- The result. -/
theorem out_read : StableHlo.after hostOps1 X (Proc.devRef .tc main_v22)
    = shapeCast S4096x1024 (X (Proc.devRef .tc main_v21) : FVec F S32768x128 .bf16) shapeCasts_S32768x128_S4096x1024 := by
  simp only [hostOps1]
  after_results <;> rfl

/-! ## Buffers a stretch leaves alone -/

theorem kept0 {r : Ref sig .tc} (h : r ∉ [main_v1, main_c, main_v2, main_v3, main_v4]) :
    StableHlo.after hostOps0 X (Proc.devRef .tc r) = X (Proc.devRef .tc r) :=
  StableHlo.after_of_writes_sub hostOps0 X (StableHlo.forall_writes_sub_of_map rfl) h

theorem kept1 {r : Ref sig .tc} (h : r ∉ [main_v5]) : StableHlo.after hostOps0_1 X (Proc.devRef .tc r) = X (Proc.devRef .tc r) :=
  StableHlo.after_of_writes_sub hostOps0_1 X (StableHlo.forall_writes_sub_of_map rfl) h

theorem kept2 {r : Ref sig .tc} (h : r ∉ [main_c_0, main_v6, main_v7, main_c_1, main_v8, main_v9, main_c_2, main_v10, main_v11, main_v12, main_v13,
      main_v14, main_v15, main_c_3, main_v16, main_v17, main_v18, main_c_4, main_v19, main_v20]) :
    StableHlo.after hostOps0_2 X (Proc.devRef .tc r) = X (Proc.devRef .tc r) :=
  StableHlo.after_of_writes_sub hostOps0_2 X (StableHlo.forall_writes_sub_of_map rfl) h

theorem kept3 {r : Ref sig .tc} (h : r ∉ [main_v22]) : StableHlo.after hostOps1 X (Proc.devRef .tc r) = X (Proc.devRef .tc r) :=
  StableHlo.after_of_writes_sub hostOps1 X (StableHlo.forall_writes_sub_of_map rfl) h

end Cert.Proof

end

end
-- ==== Proof.Values.lean ====
module

public import proofs.«01_k».proof.Proof.HostReads
public import proofs.«01_k».proof.Proof.Gen.Pre_balanced_Kernel

/-! # The kernel's rows, count and result as functions of the arguments

The precondition makes every device's `dest` block binary with 2048 zeros.  Then the kernel's call starts with
the count 2048 and with the device's rows in stable order, and the result is the exchanged rows. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.StableHlo.Predicate

/-- A device's block is binary with exactly half of its entries zero. -/
structure Half (d : IVec (V1 4096) 32) : Prop where
  bin : Binary d
  card : (Finset.univ.filter fun k : Fin 4096 => nums d k = 0).card = 2048

theorem zeros_eq (d : IVec (V1 4096) 32) (j : S_.Idx) : zeros d j = BitVec.ofNat 32 (Finset.univ.filter fun k : Fin 4096 => nums d k = 0).card :=
  count_zeros d reducesTo_S4096_S_d0 h_S_ natLt_1_32 j

theorem half_of_pre (x : FVec F S4096x1024 .bf16) (d : IVec (V1 4096) 32) (h : Cert.Pre_balanced_Kernel.fn (F := F) x d = fun _ => 1#1) : Half d := by
  have hs : Subsingleton S_.Idx := ⟨fun a b => funext fun i => i.elim0⟩
  have h0 := congrFun h (fun i => i.elim0)
  obtain ⟨ha, hc⟩ := two_of_andi h0
  constructor
  · intro i
    have hi := Host.reduce_andi_all (t := S_) _ _ _ _ _ ha i
    rcases two_of_ori hi with e | e
    · exact Or.inl (cmpi_eq_iff.mp e)
    · exact Or.inr (cmpi_eq_iff.mp e)
  · refine half_of _ ((Finset.card_le_univ _).trans (by rw [Fintype.card_fin])) ?_
    have e := cmpi_eq_iff.mp hc
    rw [← zeros_eq d (fun i => i.elim0)]
    exact e

variable (m : (ℓ : Loc nD τ sig) → Buf (Elt F) ℓ)

/-- A device's arguments. -/
def xOf (c : Dev nD) : FVec F S4096x1024 .bf16 := m (c, Proc.devRef .tc main_arg0)
def dOf (c : Dev nD) : IVec (V1 4096) 32 := m (c, Proc.devRef .tc main_arg1)

theorem u3_arg0 (c : Dev nD) : U3 m c (Proc.devRef .tc main_arg0) = xOf m c :=
  (kept2 _ (by decide)).trans ((kept1 _ (by decide)).trans (kept0 _ (by decide)))
theorem u3_arg1 (c : Dev nD) : U3 m c (Proc.devRef .tc main_arg1) = dOf m c :=
  (kept2 _ (by decide)).trans ((kept1 _ (by decide)).trans (kept0 _ (by decide)))

theorem u2_arg0 (c : Dev nD) : U2 m c (Proc.devRef .tc main_arg0) = xOf m c := (kept1 _ (by decide)).trans (kept0 _ (by decide))
theorem u2_arg1 (c : Dev nD) : U2 m c (Proc.devRef .tc main_arg1) = dOf m c := (kept1 _ (by decide)).trans (kept0 _ (by decide))

/-- The packed keys of a block. -/
def keysOf (d : IVec (V1 4096) 32) : IVec (V1 4096) 32 :=
  ori (Host.shli (d : IVec S4096 32) (broadcastInDim S4096 ![] bcast_S_S4096 (constantI S_ 32 13#32))) (iotaInDim S4096 32 0)

theorem u2_sorted (c : Dev nD) : U2 m c (Proc.devRef .tc main_v5) = Host.sort S4096 0 comparator_i32_d0 (keysOf (dOf m c)) :=
  (sorted_read _).trans (congrArg (fun k : IVec S4096 32 => Host.sort S4096 0 comparator_i32_d0 k) (keys_read (U0 m c)))

/-- The positions the gather names are the stable order. -/
theorem low_at (d : IVec (V1 4096) 32) (hd : Binary d) (i : (V1 4096).Idx) :
    low (Host.sort S4096 0 comparator_i32_d0 (keysOf d)) i = BitVec.ofNat 32 (ord (nums d) (i 0)).val :=
  order_of_keys (by decide) d (keysOf d) hd (fun _ => rfl) comparator_i32_d0 (fun _ _ => rfl) i

/-- A number below 8192 as a word. -/
theorem small_word (k : Nat) (h : k < 8192) : (BitVec.ofNat 32 k).toNat = k := by
  rw [BitVec.toNat_ofNat]; omega
theorem small_int (k : Nat) (h : k < 8192) : (BitVec.ofNat 32 k).toInt = (k : Int) := by
  rw [BitVec.toInt_eq_toNat_of_lt (by rw [small_word k h]; omega), small_word k h]

theorem wrapped_at (v : IVec S4096 32) (i : S4096.Idx) (k : Nat) (hk : k < 8192) (h : v i = BitVec.ofNat 32 k) : wrapped v i = BitVec.ofNat 32 k := by
  have e : wrapped v i = Scalar.select (IntOp.cmpi .slt (v i) 0#32) (IntOp.addi (v i) 4096#32) (v i) := rfl
  rw [e, h]
  exact wrap_small _ _ (by rw [small_word k hk]; omega)

/-- Row `p` of the sorted rows is the row of the argument that comes `p`-th. -/
theorem gathered_at (x : FVec F S4096x1024 .bf16) (d : IVec (V1 4096) 32) (hd : Binary d) (p : Fin 4096) (q : Fin 1024) :
    gathered x (Host.sort S4096 0 comparator_i32_d0 (keysOf d)) (at2 p q) = x (at2 (ord (nums d) p) q) := by
  refine gather_row (N := 4096) (C := 1024) (B := 4096) gather_S4096x1024_S4096x1_S4096x1024_1_0_n_n_0_1_11024_wf x _ p q (ord (nums d) p) ?_
  have hp := (ord (nums d) p).isLt
  rw [show broadcastInDim S4096x1 ![0] bcast_S4096_S4096x1_0 (wrapped (low (Host.sort S4096 0 comparator_i32_d0 (keysOf d)))) (at2 p 0)
      = wrapped (low (Host.sort S4096 0 comparator_i32_d0 (keysOf d))) (Shape.Idx.ofFin p) from ?_,
    wrapped_at _ _ _ (by omega) (low_at d hd (Shape.Idx.ofFin p)), small_int _ (by rw [Shape.Idx.ofFin_zero]; omega), Shape.Idx.ofFin_zero]
  unfold broadcastInDim
  refine congrArg _ (funext fun a => ?_)
  match a with
  | ⟨0, _⟩ => rfl

/-- The rows a device's call starts with. -/
theorem rows_at (c : Dev nD) (hd : Binary (dOf m c)) (p : Fin 4096) (q : Fin 1024) (i : RIdx) (h : (i 0).val * 128 + (i 1).val = p.val * 1024 + q.val) :
    (U3 m c (Proc.devRef .tc main_v15) : Rows F) i = xOf m c (at2 (ord (nums (dOf m c)) p) q) := by
  have e : U3 m c (Proc.devRef .tc main_v15)
      = shapeCast S32768x128 (gathered (xOf m c) (Host.sort S4096 0 comparator_i32_d0 (keysOf (dOf m c)))) shapeCasts_S4096x1024_S32768x128 := by
    rw [← u2_sorted m c, ← u2_arg0 m c]
    exact rows_read (U2 m c)
  rw [e, shapeCast_apply _ _ i (at2 p q) (by rw [Shape.rowMajor_val_two, Shape.rowMajor_val_two]; exact h.symm)]
  exact gathered_at _ _ hd p q

/-- The count its call starts with. -/
theorem count_at (c : Dev nD) (hd : Half (dOf m c)) : U3 m c (Proc.devRef .tc main_v20) = fun _ => 2048#32 := by
  have e : U3 m c (Proc.devRef .tc main_v20) = shapeCast S1 (zeros (dOf m c)) shapeCasts_S_S1 := by
    rw [← u2_arg1 m c]
    exact count_read (U2 m c)
  rw [e]
  funext j
  show zeros (dOf m c) _ = 2048#32
  rw [zeros_eq, hd.card]

end Cert.Proof

end

end
-- ==== Proof.Blocks.lean ====
module

public import proofs.«01_k».proof.Proof.Values
public import Idealize.ShloMosaic.Lib.Layout

/-! # The kernel's result is its block of the sorted array

Where every device's arguments are its blocks of two whole arrays, row `r` of device `c`'s result is row
`4096 * (c % 2) + r` of the whole array in the whole stable order. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The run -/

/-- A device's result. -/
def outOf (c : Dev nD) : FVec F S4096x1024 .bf16 :=
  shapeCast S4096x1024 (final (Xs (U3 m)) c) shapeCasts_S32768x128_S4096x1024

/-- Every run ends, with the arguments untouched, the results as named, and every counter zero. -/
theorem run_main (h : ∀ c, Half (dOf m c)) : θ_run defs (onTc (τ := τ) (main (F := F))) ⟨m, fun _ => 0, ρ⟩
    (fun r => (∀ c : Dev nD, r.2.mem (c, Proc.devRef .tc main_v22) = outOf m c ∧ r.2.mem (c, Proc.devRef .tc main_arg0) = m (c, Proc.devRef .tc main_arg0)
      ∧ r.2.mem (c, Proc.devRef .tc main_arg1) = m (c, Proc.devRef .tc main_arg1)) ∧ r.2.sem = fun _ => 0) := by
  refine (θ_run defs _ _).mono (fun r hr => ⟨fun c => ⟨?_, ?_, ?_⟩, hr.2⟩) (run_of m ρ (U3 m) (fun c => count_at m c (h c)) (fun _ => rfl))
  · rw [hr.1 c _ (Pipeline.devRef_mem_ucRefs (by decide))]
    exact (out_read _).trans (congrArg (fun k : FVec F S32768x128 .bf16 => shapeCast S4096x1024 k shapeCasts_S32768x128_S4096x1024) (V2_out (U3 m) c))
  · rw [hr.1 c _ (Pipeline.devRef_mem_ucRefs (by decide))]
    exact (kept3 _ (by decide)).trans ((V2_of_ne (U3 m) c _ (StableHlo.devRef_ne_of_ne (by decide))).trans (u3_arg0 m c))
  · rw [hr.1 c _ (Pipeline.devRef_mem_ucRefs (by decide))]
    exact (kept3 _ (by decide)).trans ((V2_of_ne (U3 m) c _ (StableHlo.devRef_ne_of_ne (by decide))).trans (u3_arg1 m c))

/-! ## The whole arrays' blocks -/

theorem y_lt (c : Dev nD) : c.val % 2 < 2 := Nat.mod_lt _ (by decide)

theorem mesh_y : ∀ c : Dev nD, ((Layout.meshBlock [2, 2] ![[1], []] c) 0).val = c.val % 2 := by decide
theorem mesh_one : ∀ c : Dev nD, ((Layout.meshBlock [2, 2] ![[1]] c) 0).val = c.val % 2 := by decide
theorem mesh_whole : ∀ c : Dev nD, ((Layout.meshBlock [2, 2] ![[1], []] c) 1).val = 0 := by decide

/-- Device `c`'s block of a whole array of rows, and of a whole list. -/
abbrev blockX {α : Type} (c : Dev nD) (X : (V2d 8192 1024).Idx → α) : (V2d 4096 1024).Idx → α :=
  Layout.blockN ⟨2, ![4096, 1024]⟩ ⟨2, ![8192, 1024]⟩ (Layout.meshBlock [2, 2] ![[1], []] c) X
abbrev blockD {α : Type} (c : Dev nD) (D : (V1 8192).Idx → α) : (V1 4096).Idx → α :=
  Layout.blockN ⟨1, ![4096]⟩ ⟨1, ![8192]⟩ (Layout.meshBlock [2, 2] ![[1]] c) D

/-- Row `p` of a device's block. -/
theorem block_at {α : Type} (X : (V2d 8192 1024).Idx → α) (c : Dev nD) (p : Fin 4096) (q : Fin 1024) :
    blockX c X (at2 p q) = X (at2 (inBlock (c.val % 2) p (y_lt c)) q) := by
  unfold blockX
  rw [Layout.blockN_apply]
  refine congrArg X (funext fun a => Fin.ext ?_)
  rw [Layout.TilesN.idx_val]
  match a with
  | ⟨0, _⟩ =>
    show ((Layout.meshBlock [2, 2] ![[1], []] c) 0).val * 4096 + p.val = 4096 * (c.val % 2) + p.val
    rw [mesh_y]; omega
  | ⟨1, _⟩ =>
    show ((Layout.meshBlock [2, 2] ![[1], []] c) 1).val * 1024 + q.val = q.val
    rw [mesh_whole]; omega

theorem entry_at {α : Type} (D : (V1 8192).Idx → α) (c : Dev nD) (k : Fin 4096) :
    blockD c D (Shape.Idx.ofFin k)
      = D (Shape.Idx.ofFin (inBlock (c.val % 2) k (y_lt c))) := by
  unfold blockD
  rw [Layout.blockN_apply]
  refine congrArg D (funext fun a => Fin.ext ?_)
  rw [Layout.TilesN.idx_val]
  match a with
  | ⟨0, _⟩ =>
    show ((Layout.meshBlock [2, 2] ![[1]] c) 0).val * 4096 + k.val = 4096 * (c.val % 2) + k.val
    rw [mesh_one]; omega

/-! ## Where a result row comes from -/

/-- The result row `r` of device `c`, as a row of the whole result. -/
theorem src_block : ∀ (c : Dev nD) (r : Nat), r < 32768 → (srcDev c r).val % 2 = r / 16384 := fun c r hr => by
  have h1 := ypeer_mod c
  have h2 := ypeer_mod (xpeer c)
  have h3 := xpeer_mod c
  have hc : c.val < 4 := c.isLt
  unfold srcDev
  split
  · omega
  · split <;> omega

variable {m}
variable {X : FVec F (V2d 8192 1024) .bf16} {D : IVec (V1 8192) 32}

/-- The whole `dest` cut into the two blocks. -/
def cutD (D : IVec (V1 8192) 32) (y : Nat) (k : Fin 4096) : Nat := if hy : y < 2 then nums D (inBlock y k hy) else 0

theorem nums_block (hD : ∀ c, dOf m c = blockD c D) (c : Dev nD) :
    nums (dOf m c) = cutD D (c.val % 2) := funext fun k => by
  unfold cutD nums
  rw [dif_pos (y_lt c), hD c, entry_at]

/-- Device `y` has block `y`. -/
def rep (y : Nat) (hy : y < 2) : Dev nD := ⟨y, by show y < 4; omega⟩

variable (h : ∀ c, Half (dOf m c)) (hD : ∀ c, dOf m c = blockD c D)
include h hD

theorem cut_eq (y : Nat) (hy : y < 2) : cutD D y = nums (dOf m (rep y hy)) := by
  rw [nums_block hD]
  exact congrArg (cutD D) (Nat.mod_eq_of_lt hy).symm

/-- The whole order by the blocks' orders. -/
theorem whole_order (i : Fin 8192) :
    ord (nums D) i = inBlock (partBlock i.val) (ord (cutD D (partBlock i.val)) ⟨partPlace i.val, partPlace_lt _⟩) (partBlock_lt _) :=
  ord_two (nums D) (cutD D) (fun y hy k => by unfold cutD; rw [dif_pos hy])
    (fun y hy k => by rw [cut_eq h hD y hy]; exact (h _).bin.nums k) (fun y hy => by rw [cut_eq h hD y hy]; exact (h _).card) i

/-- The whole `dest` is binary. -/
theorem whole_binary : Binary D := fun i => by
  have key : ∀ y (hy : y < 2) k, D (Shape.Idx.ofFin (inBlock y k hy)) = 0#32 ∨ D (Shape.Idx.ofFin (inBlock y k hy)) = 1#32 := fun y hy k => by
    have e := (h (rep y hy)).bin (Shape.Idx.ofFin k)
    rw [hD, entry_at] at e
    have hm : inBlock ((rep y hy).val % 2) k (y_lt _) = inBlock y k hy := by
      unfold inBlock rep
      exact Fin.ext (by show 4096 * (y % 2) + k.val = _; rw [Nat.mod_eq_of_lt hy])
    rw [hm] at e
    exact e
  have hi : (i 0).val < 8192 := (i 0).isLt
  have e : i = Shape.Idx.ofFin (inBlock ((i 0).val / 4096) ⟨(i 0).val % 4096, Nat.mod_lt _ (by decide)⟩ (by omega)) := by
    refine (Shape.Idx.eq_ofFin i).trans (congrArg Shape.Idx.ofFin (Fin.ext ?_))
    show (i 0).val = 4096 * ((i 0).val / 4096) + (i 0).val % 4096
    omega
  rw [e]
  exact key _ _ _

/-- Row `r` of the result is the row of the whole array that comes at the block's place `r` in the whole order. -/
theorem result_at (hX : ∀ c, xOf m c = blockX c X)
    (c : Dev nD) (r : Fin 4096) (q : Fin 1024) :
    outOf m c (at2 r q) = X (at2 (ord (nums D) (inBlock (c.val % 2) r (y_lt c))) q) := by
  have hr := r.isLt
  have hq := q.isLt
  have hc : c.val < 4 := c.isLt
  have hR : 8 * r.val + q.val / 128 < 32768 := by omega
  let i : RIdx := fun | ⟨0, _⟩ => (⟨8 * r.val + q.val / 128, hR⟩ : Fin 32768) | ⟨1, _⟩ => (⟨q.val % 128, Nat.mod_lt _ (by decide)⟩ : Fin 128)
  have e1 : outOf m c (at2 r q) = final (Xs (U3 m)) c i := by
    refine shapeCast_apply _ _ (at2 r q) i ?_
    rw [Shape.rowMajor_val_two, Shape.rowMajor_val_two]
    show (8 * r.val + q.val / 128) * 128 + q.val % 128 = r.val * 1024 + q.val
    omega
  rw [e1]
  unfold final
  have hsrc : srcRow c (8 * r.val + q.val / 128) = 8 * partPlace (4096 * (c.val % 2) + r.val) + q.val / 128 := by
    unfold srcRow partPlace
    split <;> split <;> omega
  have hblk : (srcDev c (8 * r.val + q.val / 128)).val % 2 = partBlock (4096 * (c.val % 2) + r.val) := by
    rw [src_block _ _ hR]
    unfold partBlock
    split <;> omega
  show Xs (U3 m) (srcDev c (8 * r.val + q.val / 128)) _ = _
  unfold Xs
  rw [rows_at m (srcDev c (8 * r.val + q.val / 128)) (h _).bin ⟨partPlace (4096 * (c.val % 2) + r.val), partPlace_lt _⟩ q _ (by
    show srcRow c (8 * r.val + q.val / 128) * 128 + q.val % 128 = partPlace (4096 * (c.val % 2) + r.val) * 1024 + q.val
    rw [hsrc]; omega), hX, block_at, nums_block hD, whole_order h hD]
  refine congrArg X (congrArg (fun p => at2 p q) (Fin.ext ?_))
  show 4096 * ((srcDev c (8 * r.val + q.val / 128)).val % 2) + (ord (cutD D ((srcDev c (8 * r.val + q.val / 128)).val % 2)) _).val = _
  rw [hblk]
  rfl

end Cert.Proof

end

end
-- ==== Proof.SortedRows.lean ====
module

public import proofs.«01_k».proof.Proof.Blocks

/-! # The reference's result read at a row

The reference sorts the positions by `dest`, wraps negative ones, of which there are none, and takes the rows they
name.  Its result's row `p` is the row of the argument that comes `p`-th in the stable order, and so every
device's result in the kernel is its block of the reference's result. -/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A list laid as a column. -/
theorem column_at {α : Type} {n : Nat} (hb : (V1 n).BroadcastsInDim (V2d n 1) ![0]) (v : (V1 n).Idx → α) (p : Fin n) (h1 : n ≠ 1) :
    broadcastInDim (V2d n 1) ![0] hb v (at2 p 0) = v (Shape.Idx.ofFin p) := by
  unfold broadcastInDim
  refine congrArg v (funext fun a => ?_)
  match a with
  | ⟨0, _⟩ => exact dif_neg h1

/-- The rows of `x` in the order the reference computes from `D`. -/
def sortedRows (cmp : BitVec 32 × BitVec 32 → BitVec 32 × BitVec 32 → BitVec 1)
    (wf : GatherDims.WF (V2d 8192 1024) (V2d 8192 1) (V2d 8192 1024) [1] [0] [] [0] [] 1 ![1, 1024])
    (hz : (⟨0, ![]⟩ : Shape).BroadcastsInDim (V1 8192) ![]) (hb : (V1 8192).BroadcastsInDim (V2d 8192 1) ![0])
    (x : FVec F (V2d 8192 1024) .bf16) (D : IVec (V1 8192) 32) : FVec F (V2d 8192 1024) .bf16 :=
  Host.gather (rowDims 8192 1024 8192 wf) x (broadcastInDim (V2d 8192 1) ![0] hb
    (select (cmpi .slt ((Host.sort2 (V1 8192) 0 cmp D (iotaInDim (V1 8192) 32 0)).2) (broadcastInDim (V1 8192) ![] hz (constantI ⟨0, ![]⟩ 32 0#32)))
      (addi ((Host.sort2 (V1 8192) 0 cmp D (iotaInDim (V1 8192) 32 0)).2) (broadcastInDim (V1 8192) ![] hz (constantI ⟨0, ![]⟩ 32 8192#32)))
      ((Host.sort2 (V1 8192) 0 cmp D (iotaInDim (V1 8192) 32 0)).2)))

variable (cmp : BitVec 32 × BitVec 32 → BitVec 32 × BitVec 32 → BitVec 1) (hcmp : ∀ a b, cmp a b = IntOp.cmpi .slt a.1 b.1)
  (wf : GatherDims.WF (V2d 8192 1024) (V2d 8192 1) (V2d 8192 1024) [1] [0] [] [0] [] 1 ![1, 1024])
  (hz : (⟨0, ![]⟩ : Shape).BroadcastsInDim (V1 8192) ![]) (hb : (V1 8192).BroadcastsInDim (V2d 8192 1) ![0])

include hcmp

theorem sortedRows_at (x : FVec F (V2d 8192 1024) .bf16) (D : IVec (V1 8192) 32) (hD : Binary D) (p : Fin 8192) (q : Fin 1024) :
    sortedRows cmp wf hz hb x D (at2 p q) = x (at2 (ord (nums D) p) q) := by
  refine gather_row (N := 8192) (C := 1024) (B := 8192) wf x _ p q (ord (nums D) p) ?_
  have hp := (ord (nums D) p).isLt
  have ho : ∀ j : (V1 8192).Idx, Scalar.select (IntOp.cmpi .slt ((Host.sort2 (V1 8192) 0 cmp D (iotaInDim (V1 8192) 32 0)).2 j) 0#32)
      (IntOp.addi ((Host.sort2 (V1 8192) 0 cmp D (iotaInDim (V1 8192) 32 0)).2 j) 8192#32) ((Host.sort2 (V1 8192) 0 cmp D (iotaInDim (V1 8192) 32 0)).2 j)
      = BitVec.ofNat 32 (ord (nums D) (j 0)).val := fun j => by
    rw [order_of_pairs (le_refl _) D hD cmp hcmp j]
    have hj : (ord (nums D) (j 0)).val < 8192 := (ord (nums D) (j 0)).isLt
    exact wrap_small _ _ (by rw [small_word _ hj]; omega)
  rw [column_at hb _ p (by decide), ← small_int _ hp]
  refine congrArg BitVec.toInt ?_
  have e := ho (Shape.Idx.ofFin p)
  rw [Shape.Idx.ofFin_zero] at e
  exact e

/-- A device's result is its block of the reference's result. -/
theorem result_is_block {m : (ℓ : Loc nD τ sig) → Buf (Elt F) ℓ} {X : FVec F (V2d 8192 1024) .bf16} {D : IVec (V1 8192) 32}
    (h : ∀ c, Half (dOf m c)) (hX : ∀ c, xOf m c = blockX c X) (hD : ∀ c, dOf m c = blockD c D) (c : Dev nD) :
    outOf m c = blockX c (sortedRows cmp wf hz hb X D) := by
  funext i
  rw [at2_eta i]
  exact (result_at h hD hX c (i 0) (i 1)).trans
    ((block_at _ c (i 0) (i 1)).trans (sortedRows_at cmp hcmp wf hz hb X D (whole_binary h hD) _ _)).symm

end Cert.Proof

end

end
-- ==== Proof.SameParts.lean ====
module

public import proofs.«01_k».proof.Defs
public import proofs.«01_k».proof.Proof.Gen.Kernel.Launch
public import proofs.«01_k».proof.Proof.Gen.Kernel
public import proofs.«01_k».proof.Proof.Gen.KernelIdeal

/-! # The parts of the kernel's body are the same in both programs

The kernel and its idealization are printed as two programs, in two namespaces, with the same text.  Each part of the
body unfolds to the same steps in both. -/

@[expose] public section

noncomputable section

namespace Cert.Proof

open Idealize.ShloMosaic Idealize.ShloMosaic.TcCoe Idealize.SL.Sem
open Cert.Kernel.Gen Cert.KernelIdeal.Gen

set_option maxHeartbeats 8000000

/-- Part 17 is the same text in both. -/
theorem same17 : ∀ arg0 harg0 arg1 harg1 arg2 harg2 arg3 arg4 arg5 arg6 arg7,
    Cert.Kernel.k0_part17 (F := Bits) arg0 harg0 arg1 harg1 arg2 harg2 arg3 arg4 arg5 arg6 arg7
      = Cert.KernelIdeal.k0_part17 (F := Bits) arg0 harg0 arg1 harg1 arg2 harg2 arg3 arg4 arg5 arg6 arg7 := by
  intros
  rfl

/-- Part 18 is the same text in both. -/
theorem same18 : ∀ arg0 harg0 arg1 harg1 arg2 harg2 arg3 arg4 arg5 arg6 arg7 v2 v21 c2_i32_19 v27 c0_i32_20,
    Cert.Kernel.k0_part18 (F := Bits) arg0 harg0 arg1 harg1 arg2 harg2 arg3 arg4 arg5 arg6 arg7 v2 v21 c2_i32_19 v27 c0_i32_20
      = Cert.KernelIdeal.k0_part18 (F := Bits) arg0 harg0 arg1 harg1 arg2 harg2 arg3 arg4 arg5 arg6 arg7 v2 v21 c2_i32_19 v27 c0_i32_20 := by
  intros
  rfl

/-- Part 19 is the same text in both. -/
theorem same19 : ∀ arg0 harg0 arg1 harg1 arg2 harg2 arg3 arg4 arg5 arg6 arg7 v20 v50 v69 c128_i32_37,
    Cert.Kernel.k0_part19 (F := Bits) arg0 harg0 arg1 harg1 arg2 harg2 arg3 arg4 arg5 arg6 arg7 v20 v50 v69 c128_i32_37
      = Cert.KernelIdeal.k0_part19 (F := Bits) arg0 harg0 arg1 harg1 arg2 harg2 arg3 arg4 arg5 arg6 arg7 v20 v50 v69 c128_i32_37 := by
  intros
  rfl

/-- Part 20 is the same text in both. -/
theorem same20 : ∀ arg0 harg0 arg1 harg1 arg2 harg2 arg3 arg4 arg5 arg6 arg7 d0 v2 v6 v17 k0_hw1 v23 v26 v45 v47 v69,
    Cert.Kernel.k0_part20 (F := Bits) arg0 harg0 arg1 harg1 arg2 harg2 arg3 arg4 arg5 arg6 arg7 d0 v2 v6 v17 k0_hw1 v23 v26 v45 v47 v69
      = Cert.KernelIdeal.k0_part20 (F := Bits) arg0 harg0 arg1 harg1 arg2 harg2 arg3 arg4 arg5 arg6 arg7 d0 v2 v6 v17 k0_hw1 v23 v26 v45 v47 v69 := by
  intros
  rfl

/-- Part 21 is the same text in both. -/
theorem same21 : ∀ arg0 harg0 arg1 harg1 arg2 harg2 arg3 arg4 arg5 arg6 arg7 d0 v2 v6 v17 k0_hw1 v20 v22 v23 v24 v26 v45 v47 v69 v107,
    Cert.Kernel.k0_part21 (F := Bits) arg0 harg0 arg1 harg1 arg2 harg2 arg3 arg4 arg5 arg6 arg7 d0 v2 v6 v17 k0_hw1 v20 v22 v23 v24 v26 v45 v47 v69 v107
      = Cert.KernelIdeal.k0_part21 (F := Bits) arg0 harg0 arg1 harg1 arg2 harg2 arg3 arg4 arg5 arg6 arg7 d0 v2 v6 v17 k0_hw1 v20 v22 v23 v24 v26 v45 v47 v69 v107 := by
  intros
  rfl

/-- Part 22 is the same text in both. -/
theorem same22 : ∀ arg0 harg0 arg1 harg1 arg2 harg2 arg3 arg4 arg5 arg6 arg7 d0 v2 v5 v6 v7 v17 k0_hw1 v20 v22 v23 v24 v25 v26 v45 v47 v69 v107,
    Cert.Kernel.k0_part22 (F := Bits) arg0 harg0 arg1 harg1 arg2 harg2 arg3 arg4 arg5 arg6 arg7 d0 v2 v5 v6 v7 v17 k0_hw1 v20 v22 v23 v24 v25 v26 v45 v47 v69 v107
      = Cert.KernelIdeal.k0_part22 (F := Bits) arg0 harg0 arg1 harg1 arg2 harg2 arg3 arg4 arg5 arg6 arg7 d0 v2 v5 v6 v7 v17 k0_hw1 v20 v22 v23 v24 v25 v26 v45 v47 v69 v107 := by
  intros
  rfl

/-- Part 23 is the same text in both. -/
theorem same23 : ∀ arg0 harg0 arg1 harg1 arg2 harg2 arg3 arg4 arg5 arg6 arg7 d0 v2 v5 v6 v7 v17 k0_hw1 v23 v25 v26 v45 v47 v69 v107,
    Cert.Kernel.k0_part23 (F := Bits) arg0 harg0 arg1 harg1 arg2 harg2 arg3 arg4 arg5 arg6 arg7 d0 v2 v5 v6 v7 v17 k0_hw1 v23 v25 v26 v45 v47 v69 v107
      = Cert.KernelIdeal.k0_part23 (F := Bits) arg0 harg0 arg1 harg1 arg2 harg2 arg3 arg4 arg5 arg6 arg7 d0 v2 v5 v6 v7 v17 k0_hw1 v23 v25 v26 v45 v47 v69 v107 := by
  intros
  rfl

/-- Part 24 is the same text in both. -/
theorem same24 : ∀ arg0 harg0 arg1 harg1 arg2 harg2 arg3 arg4 arg5 arg6 arg7 d0 v5 v7 v17 k0_hw1 v20 v22 v24 v25 v48 v50 v88 v107,
    Cert.Kernel.k0_part24 (F := Bits) arg0 harg0 arg1 harg1 arg2 harg2 arg3 arg4 arg5 arg6 arg7 d0 v5 v7 v17 k0_hw1 v20 v22 v24 v25 v48 v50 v88 v107
      = Cert.KernelIdeal.k0_part24 (F := Bits) arg0 harg0 arg1 harg1 arg2 harg2 arg3 arg4 arg5 arg6 arg7 d0 v5 v7 v17 k0_hw1 v20 v22 v24 v25 v48 v50 v88 v107 := by
  intros
  rfl

/-- Part 25 is the same text in both. -/
theorem same25 : ∀ arg0 harg0 arg1 harg1 arg2 harg2 arg3 arg4 arg5 arg6 arg7 d0 v5 v7 v17 k0_hw1 v25 v48 v50 v88,
    Cert.Kernel.k0_part25 (F := Bits) arg0 harg0 arg1 harg1 arg2 harg2 arg3 arg4 arg5 arg6 arg7 d0 v5 v7 v17 k0_hw1 v25 v48 v50 v88
      = Cert.KernelIdeal.k0_part25 (F := Bits) arg0 harg0 arg1 harg1 arg2 harg2 arg3 arg4 arg5 arg6 arg7 d0 v5 v7 v17 k0_hw1 v25 v48 v50 v88 := by
  intros
  rfl

/-- Part 26 is the same text in both. -/
theorem same26 : ∀ arg0 harg0 arg1 harg1 arg2 harg2 arg3 arg4 arg5 arg6 arg7 d0 v5 v7 v17 k0_hw1 v23 v25 v26 v45 v47 v48 v50 v69 v88,
    Cert.Kernel.k0_part26 (F := Bits) arg0 harg0 arg1 harg1 arg2 harg2 arg3 arg4 arg5 arg6 arg7 d0 v5 v7 v17 k0_hw1 v23 v25 v26 v45 v47 v48 v50 v69 v88
      = Cert.KernelIdeal.k0_part26 (F := Bits) arg0 harg0 arg1 harg1 arg2 harg2 arg3 arg4 arg5 arg6 arg7 d0 v5 v7 v17 k0_hw1 v23 v25 v26 v45 v47 v48 v50 v69 v88 := by
  intros
  rfl

end Cert.Proof

end

end
-- ==== Proof.SameCore.lean ====
module

public import proofs.«01_k».proof.Defs
public import proofs.«01_k».proof.Proof.Gen.Kernel.Launch
public import proofs.«01_k».proof.Proof.Gen.Kernel
public import proofs.«01_k».proof.Proof.Gen.KernelIdeal
public import proofs.«01_k».proof.Proof.SameParts

/-! # The long part of the kernel's body is the same in both programs

The part that runs the ten others, one after the other, and then waits for the last copies. -/

@[expose] public section

noncomputable section

namespace Cert.Proof

open Idealize.ShloMosaic Idealize.ShloMosaic.TcCoe Idealize.SL.Sem
open Cert.Kernel.Gen Cert.KernelIdeal.Gen

set_option maxHeartbeats 8000000

universe u v in
/-- Two programs that begin alike and go on alike are alike. -/
theorem bind_eq {M : Type u → Type v} [Bind M] {X Y : Type u} {A A' : M X} {f f' : X → M Y} (hA : A = A') (hf : ∀ x, f x = f' x) :
    A >>= f = A' >>= f' := by
  rw [hA, funext hf]

/-- Part 27 is the same text in both: its parts one by one, then what follows them. -/
theorem same27 : ∀ arg0 harg0 arg1 harg1 arg2 harg2 arg3 arg4 arg5 arg6 arg7,
    Cert.Kernel.k0_part27 (F := Bits) arg0 harg0 arg1 harg1 arg2 harg2 arg3 arg4 arg5 arg6 arg7
      = Cert.KernelIdeal.k0_part27 (F := Bits) arg0 harg0 arg1 harg1 arg2 harg2 arg3 arg4 arg5 arg6 arg7 := by
  intro arg0 harg0 arg1 harg1 arg2 harg2 arg3 arg4 arg5 arg6 arg7
  unfold Cert.Kernel.k0_part27 Cert.KernelIdeal.k0_part27
  refine bind_eq (same17 ..) fun x => ?_
  obtain ⟨d0, v2, v5, v6, v7, v17, k0_hw1, v20, v21, v22, v23, v24, v25, v26, c2_i32_19, v27, c0_i32_20⟩ := x
  refine bind_eq (same18 ..) fun x => ?_
  obtain ⟨v45, v47, v48, v50, v69, c128_i32_37⟩ := x
  refine bind_eq (same19 ..) fun x => ?_
  obtain ⟨v88, v107⟩ := x
  refine bind_eq (same20 ..) fun x => ?_
  refine bind_eq (same21 ..) fun x => ?_
  refine bind_eq (same22 ..) fun x => ?_
  refine bind_eq (same23 ..) fun x => ?_
  refine bind_eq (same24 ..) fun x => ?_
  refine bind_eq (same25 ..) fun x => ?_
  refine bind_eq (same26 ..) fun x => ?_
  -- What is returned names, in its type, the check of the program it comes from: the types and the pairings are set equal
  -- here, and then replaced by variables, so that the rest is compared without looking into them.
  have hY : (Σ' (d0 : Dev Cert.Kernel.nD) (v17 : Elt Bits .i32) (_ : Cert.Kernel.k0_chk1 d0 v17), Σ' (_ : BitVec 32) (_ : BitVec 32) (_ : BitVec 32) (_ : BitVec 32) (_ : BitVec 32) (_ : BitVec 32), BitVec 32) = (Σ' (d0 : Dev Cert.KernelIdeal.nD) (v17 : Elt Bits .i32) (_ : Cert.KernelIdeal.k0_chk1 d0 v17), Σ' (_ : BitVec 32) (_ : BitVec 32) (_ : BitVec 32) (_ : BitVec 32) (_ : BitVec 32) (_ : BitVec 32), BitVec 32) := rfl
  have hA : (Σ' (v17 : Elt Bits .i32) (_ : Cert.Kernel.k0_chk1 d0 v17), Σ' (_ : BitVec 32) (_ : BitVec 32) (_ : BitVec 32) (_ : BitVec 32) (_ : BitVec 32) (_ : BitVec 32), BitVec 32) = (Σ' (v17 : Elt Bits .i32) (_ : Cert.KernelIdeal.k0_chk1 d0 v17), Σ' (_ : BitVec 32) (_ : BitVec 32) (_ : BitVec 32) (_ : BitVec 32) (_ : BitVec 32) (_ : BitVec 32), BitVec 32) := rfl
  have hB : (Σ' (_ : Cert.Kernel.k0_chk1 d0 v17), Σ' (_ : BitVec 32) (_ : BitVec 32) (_ : BitVec 32) (_ : BitVec 32) (_ : BitVec 32) (_ : BitVec 32), BitVec 32) = (Σ' (_ : Cert.KernelIdeal.k0_chk1 d0 v17), Σ' (_ : BitVec 32) (_ : BitVec 32) (_ : BitVec 32) (_ : BitVec 32) (_ : BitVec 32) (_ : BitVec 32), BitVec 32) := rfl
  have h1 : HEq (@PSigma.mk (Dev Cert.Kernel.nD) (fun d0 => (Σ' (v17 : Elt Bits .i32) (_ : Cert.Kernel.k0_chk1 d0 v17), Σ' (_ : BitVec 32) (_ : BitVec 32) (_ : BitVec 32) (_ : BitVec 32) (_ : BitVec 32) (_ : BitVec 32), BitVec 32)) d0) (@PSigma.mk (Dev Cert.KernelIdeal.nD) (fun d0 => (Σ' (v17 : Elt Bits .i32) (_ : Cert.KernelIdeal.k0_chk1 d0 v17), Σ' (_ : BitVec 32) (_ : BitVec 32) (_ : BitVec 32) (_ : BitVec 32) (_ : BitVec 32) (_ : BitVec 32), BitVec 32)) d0) := HEq.rfl
  have h2 : HEq (@PSigma.mk (Elt Bits .i32) (fun v17 => (Σ' (_ : Cert.Kernel.k0_chk1 d0 v17), Σ' (_ : BitVec 32) (_ : BitVec 32) (_ : BitVec 32) (_ : BitVec 32) (_ : BitVec 32) (_ : BitVec 32), BitVec 32)) v17) (@PSigma.mk (Elt Bits .i32) (fun v17 => (Σ' (_ : Cert.KernelIdeal.k0_chk1 d0 v17), Σ' (_ : BitVec 32) (_ : BitVec 32) (_ : BitVec 32) (_ : BitVec 32) (_ : BitVec 32) (_ : BitVec 32), BitVec 32)) v17) := HEq.rfl
  have h3 : HEq (@PSigma.mk (Cert.Kernel.k0_chk1 d0 v17) (fun _ => Σ' (_ : BitVec 32) (_ : BitVec 32) (_ : BitVec 32) (_ : BitVec 32) (_ : BitVec 32) (_ : BitVec 32), BitVec 32) k0_hw1) (@PSigma.mk (Cert.KernelIdeal.k0_chk1 d0 v17) (fun _ => Σ' (_ : BitVec 32) (_ : BitVec 32) (_ : BitVec 32) (_ : BitVec 32) (_ : BitVec 32) (_ : BitVec 32), BitVec 32) k0_hw1) := HEq.rfl
  refine eq_of_heq ?_
  change @HEq (Prog (TpuEff Cert.Kernel.nD Cert.Kernel.τ Cert.Kernel.sig (Elt Bits) Cert.Kernel.Λ₀ .tc) (Σ' (d0 : Dev Cert.Kernel.nD) (v17 : Elt Bits .i32) (_ : Cert.Kernel.k0_chk1 d0 v17), Σ' (_ : BitVec 32) (_ : BitVec 32) (_ : BitVec 32) (_ : BitVec 32) (_ : BitVec 32) (_ : BitVec 32), BitVec 32)) _ (Prog (TpuEff Cert.KernelIdeal.nD Cert.KernelIdeal.τ Cert.KernelIdeal.sig (Elt Bits) Cert.KernelIdeal.Λ₀ .tc) (Σ' (d0 : Dev Cert.KernelIdeal.nD) (v17 : Elt Bits .i32) (_ : Cert.KernelIdeal.k0_chk1 d0 v17), Σ' (_ : BitVec 32) (_ : BitVec 32) (_ : BitVec 32) (_ : BitVec 32) (_ : BitVec 32) (_ : BitVec 32), BitVec 32)) _
  revert hY hA hB h1 h2 h3
  generalize (@PSigma.mk (Dev Cert.Kernel.nD) (fun d0 => (Σ' (v17 : Elt Bits .i32) (_ : Cert.Kernel.k0_chk1 d0 v17), Σ' (_ : BitVec 32) (_ : BitVec 32) (_ : BitVec 32) (_ : BitVec 32) (_ : BitVec 32) (_ : BitVec 32), BitVec 32)) d0) = a1
  generalize (@PSigma.mk (Elt Bits .i32) (fun v17 => (Σ' (_ : Cert.Kernel.k0_chk1 d0 v17), Σ' (_ : BitVec 32) (_ : BitVec 32) (_ : BitVec 32) (_ : BitVec 32) (_ : BitVec 32) (_ : BitVec 32), BitVec 32)) v17) = a2
  generalize (@PSigma.mk (Cert.Kernel.k0_chk1 d0 v17) (fun _ => Σ' (_ : BitVec 32) (_ : BitVec 32) (_ : BitVec 32) (_ : BitVec 32) (_ : BitVec 32) (_ : BitVec 32), BitVec 32) k0_hw1) = a3
  generalize (@PSigma.mk (Dev Cert.KernelIdeal.nD) (fun d0 => (Σ' (v17 : Elt Bits .i32) (_ : Cert.KernelIdeal.k0_chk1 d0 v17), Σ' (_ : BitVec 32) (_ : BitVec 32) (_ : BitVec 32) (_ : BitVec 32) (_ : BitVec 32) (_ : BitVec 32), BitVec 32)) d0) = b1
  generalize (@PSigma.mk (Elt Bits .i32) (fun v17 => (Σ' (_ : Cert.KernelIdeal.k0_chk1 d0 v17), Σ' (_ : BitVec 32) (_ : BitVec 32) (_ : BitVec 32) (_ : BitVec 32) (_ : BitVec 32) (_ : BitVec 32), BitVec 32)) v17) = b2
  generalize (@PSigma.mk (Cert.KernelIdeal.k0_chk1 d0 v17) (fun _ => Σ' (_ : BitVec 32) (_ : BitVec 32) (_ : BitVec 32) (_ : BitVec 32) (_ : BitVec 32) (_ : BitVec 32), BitVec 32) k0_hw1) = b3
  revert a1 a2 a3 b1 b2 b3
  generalize (Σ' (d0 : Dev Cert.Kernel.nD) (v17 : Elt Bits .i32) (_ : Cert.Kernel.k0_chk1 d0 v17), Σ' (_ : BitVec 32) (_ : BitVec 32) (_ : BitVec 32) (_ : BitVec 32) (_ : BitVec 32) (_ : BitVec 32), BitVec 32) = Y
  generalize (Σ' (d0 : Dev Cert.KernelIdeal.nD) (v17 : Elt Bits .i32) (_ : Cert.KernelIdeal.k0_chk1 d0 v17), Σ' (_ : BitVec 32) (_ : BitVec 32) (_ : BitVec 32) (_ : BitVec 32) (_ : BitVec 32) (_ : BitVec 32), BitVec 32) = Y'
  generalize (Σ' (v17 : Elt Bits .i32) (_ : Cert.Kernel.k0_chk1 d0 v17), Σ' (_ : BitVec 32) (_ : BitVec 32) (_ : BitVec 32) (_ : BitVec 32) (_ : BitVec 32) (_ : BitVec 32), BitVec 32) = A
  generalize (Σ' (v17 : Elt Bits .i32) (_ : Cert.KernelIdeal.k0_chk1 d0 v17), Σ' (_ : BitVec 32) (_ : BitVec 32) (_ : BitVec 32) (_ : BitVec 32) (_ : BitVec 32) (_ : BitVec 32), BitVec 32) = A'
  generalize (Σ' (_ : Cert.Kernel.k0_chk1 d0 v17), Σ' (_ : BitVec 32) (_ : BitVec 32) (_ : BitVec 32) (_ : BitVec 32) (_ : BitVec 32) (_ : BitVec 32), BitVec 32) = B
  generalize (Σ' (_ : Cert.KernelIdeal.k0_chk1 d0 v17), Σ' (_ : BitVec 32) (_ : BitVec 32) (_ : BitVec 32) (_ : BitVec 32) (_ : BitVec 32) (_ : BitVec 32), BitVec 32) = B'
  intro a1 a2 a3 b1 b2 b3 hY hA hB h1 h2 h3
  subst hY hA hB
  obtain rfl := eq_of_heq h1
  obtain rfl := eq_of_heq h2
  obtain rfl := eq_of_heq h3
  exact HEq.rfl

end Cert.Proof

end

end
-- ==== Proof.Same.lean ====
module

public import proofs.«01_k».proof.Defs
public import proofs.«01_k».proof.Proof.Gen.Kernel.Launch
public import proofs.«01_k».proof.Proof.Gen.Kernel
public import proofs.«01_k».proof.Proof.Gen.KernelIdeal
public import proofs.«01_k».proof.Proof.SameCore
public import proofs.«01_k».proof.Proof.Blocks

/-! # The kernel and its idealization are one program

The two have the same text, so the run written for the idealization, over any float values, is the kernel's own run when
the values are words. -/

@[expose] public section

noncomputable section

namespace Cert.Proof

open Idealize.ShloMosaic Idealize.ShloMosaic.TcCoe Idealize.SL.Sem
open Cert.Kernel.Gen Cert.KernelIdeal.Gen

set_option maxHeartbeats 8000000

/-- Part 27, as a function, is the same in both. -/
theorem same_part27 : Cert.Kernel.k0_part27 (F := Bits) = Cert.KernelIdeal.k0_part27 (F := Bits) := by
  funext arg0 harg0 arg1 harg1 arg2 harg2 arg3 arg4 arg5 arg6 arg7
  exact same27 arg0 harg0 arg1 harg1 arg2 harg2 arg3 arg4 arg5 arg6 arg7

/-- The body is the same in both. -/
theorem same_body : Cert.Kernel.cc0_body (F := Bits) = Cert.KernelIdeal.cc0_body (F := Bits) := by
  unfold Cert.Kernel.cc0_body Cert.KernelIdeal.cc0_body
  rw [same_part27]
  rfl

/-- The launched kernels are the same in both. -/
theorem same_defs₀ : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) =>
    show Cert.Kernel.cc0_body (F := Bits) _ _ _ _ _ _ _ _ _ _ _ = Cert.KernelIdeal.cc0_body (F := Bits) _ _ _ _ _ _ _ _ _ _ _
    rw [same_body]

/-- The called programs are the same in both. -/
theorem same_defs : Cert.Kernel.defs (F := Bits) = Cert.KernelIdeal.defs (F := Bits) := by
  unfold Cert.Kernel.defs Cert.KernelIdeal.defs
  rw [same_defs₀]
  rfl

/-- The host programs are the same in both. -/
theorem same_main : Cert.Kernel.main (F := Bits) = Cert.KernelIdeal.main (F := Bits) := rfl

/-- The kernel's own run, over words: the run written for its idealization. -/
theorem run_kernel (m : (ℓ : Loc Cert.Kernel.nD Cert.Kernel.τ Cert.Kernel.sig) → Buf (Elt Bits) ℓ) (ρ : Dev Cert.Kernel.nD → PrngReg) (h : ∀ c, Half (dOf (F := Bits) m c)) :
    θ_run Cert.Kernel.defs (onTc (τ := Cert.Kernel.τ) (Cert.Kernel.main (F := Bits))) ⟨m, fun _ => 0, ρ⟩ (fun r =>
      (∀ c : Dev Cert.Kernel.nD, r.2.mem (c, Proc.devRef .tc Cert.Kernel.main_v22) = outOf (F := Bits) m c
        ∧ r.2.mem (c, Proc.devRef .tc Cert.Kernel.main_arg0) = m (c, Proc.devRef .tc Cert.Kernel.main_arg0)
        ∧ r.2.mem (c, Proc.devRef .tc Cert.Kernel.main_arg1) = m (c, Proc.devRef .tc Cert.Kernel.main_arg1))
      ∧ r.2.sem = fun _ => 0) := by
  rw [same_defs, same_main]
  exact run_main (F := Bits) m ρ h

end Cert.Proof

end

end
-- ==== Proof.lean ====
module

public import proofs.«01_k».proof.Defs
public import proofs.«01_k».proof.Proof.SortedRows
public import proofs.«01_k».proof.Proof.Same
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_balanced_Kernel
public import proofs.«01_k».proof.Proof.Gen.Pre_balanced_ReferenceIdeal

@[expose] public section

noncomputable section

namespace Cert.Proof

open Idealize.ShloMosaic Idealize.ShloMosaic.TcCoe Idealize.SL.Sem

/-! ## The programs end with their arguments untouched and every counter at zero -/

theorem frame_kernel : Cert.quiescent_Kernel := fun m ρ hp =>
  (θ_run Cert.Kernel.defs _ _).mono (fun _ h => ⟨fun c => (h.1 c).2, h.2⟩)
    (run_kernel m ρ fun c => half_of_pre _ _ (hp c))

theorem frame_ideal : Cert.quiescent_KernelIdeal := fun m ρ hp =>
  (θ_run Cert.KernelIdeal.defs _ _).mono (fun _ h => ⟨fun c => (h.1 c).2, h.2⟩)
    (run_main (F := Ideal) m ρ fun c => half_of_pre _ _ (hp c))

theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_ideal_pre : Cert.quiescent_ReferenceIdeal_pre_balanced_ReferenceIdeal := fun m ρ _ => frame_reference_ideal m ρ trivial

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

theorem value_ideal : Cert.algebraic_KernelIdeal_ReferenceIdeal := by
  intro m g m' g' hp hb
  have hh : ∀ c, Half (dOf (F := Ideal) m c) := fun c => half_of_pre _ _ (hp c)
  refine ⟨sortedRows (F := Ideal) Cert.ReferenceIdeal.comparator_i32_i32_d0
      Cert.ReferenceIdeal.Gen.gather_S8192x1024_S8192x1_S8192x1024_1_0_n_n_0_1_11024_wf
      Cert.ReferenceIdeal.Gen.bcast_S_S8192 Cert.ReferenceIdeal.Gen.bcast_S8192_S8192x1_0
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c => ⟨(h.1 c).1.trans
      (result_is_block _ (fun _ _ => rfl) _ _ _ hh (fun c => (hb c).1) (fun c => (hb c).2) c), (h.1 c).2⟩) (run_main (F := Ideal) m g hh)
  · exact (θ_run Cert.ReferenceIdeal.defs _ _).mono (fun _ h => h 0) (Cert.ReferenceIdeal.Value.run (F := Ideal) m' g')

theorem value_bits : Cert.bitexact_Kernel_Reference := by
  intro m g m' g' hp hb
  have hh : ∀ c, Half (dOf (F := Bits) m c) := fun c => half_of_pre _ _ (hp c)
  refine ⟨sortedRows (F := Bits) Cert.Reference.comparator_i32_i32_d0
      Cert.Reference.Gen.gather_S8192x1024_S8192x1_S8192x1024_1_0_n_n_0_1_11024_wf
      Cert.Reference.Gen.bcast_S_S8192 Cert.Reference.Gen.bcast_S8192_S8192x1_0
      (m' (((0 : Dev Cert.Reference.nD).tc : Thread Cert.Reference.nD Cert.Reference.τ).loc Cert.Reference.main_arg0))
      (m' (((0 : Dev Cert.Reference.nD).tc : Thread Cert.Reference.nD Cert.Reference.τ).loc Cert.Reference.main_arg1)), ?_, ?_⟩
  · exact (θ_run Cert.Kernel.defs _ _).mono (fun _ h c => ⟨(h.1 c).1.trans
      (result_is_block _ (fun _ _ => rfl) _ _ _ hh (fun c => (hb c).1) (fun c => (hb c).2) c), (h.1 c).2⟩) (run_kernel m g hh)
  · exact (θ_run Cert.Reference.defs _ _).mono (fun _ h => h 0) (Cert.Reference.Value.run (F := Bits) m' g')

theorem claim : Cert.Claim := ⟨Cert.Kernel.Gen.facts, Cert.KernelIdeal.Gen.facts, Cert.ReferenceIdeal.Gen.facts, Cert.Reference.Gen.facts,
  Cert.Pre_balanced_Kernel.Gen.facts, Cert.Pre_balanced_ReferenceIdeal.Gen.facts,
  frame_kernel, frame_ideal, frame_reference_ideal, frame_reference_ideal_pre, frame_reference, trivial, value_ideal, value_bits⟩

end Cert.Proof

end
